-- ==== Defs.lean ====
def Pre_Ssd (m : (ℓ : Loc Cert.Ssd.nD Cert.Ssd.τ Cert.Ssd.sig) → Buf (Elt Bits) ℓ) : Prop :=
  True

def Pre_SsdIdeal (m : (ℓ : Loc Cert.SsdIdeal.nD Cert.SsdIdeal.τ Cert.SsdIdeal.sig) → Buf (Elt Ideal) ℓ) : Prop :=
  True

def Pre_SsdIdeal_finite_steps [hPre_finite_steps : Cert.Pre_finite_steps.Facts] (m : (ℓ : Loc Cert.SsdIdeal.nD Cert.SsdIdeal.τ Cert.SsdIdeal.sig) → Buf (Elt Ideal) ℓ) : Prop :=
  ∀ c : Dev Cert.SsdIdeal.nD,
    (Cert.Pre_finite_steps.fn (F := Ideal) (m ((c.tc : Thread Cert.SsdIdeal.nD Cert.SsdIdeal.τ).loc Cert.SsdIdeal.main_arg0)) (m ((c.tc : Thread Cert.SsdIdeal.nD Cert.SsdIdeal.τ).loc Cert.SsdIdeal.main_arg1)) (m ((c.tc : Thread Cert.SsdIdeal.nD Cert.SsdIdeal.τ).loc Cert.SsdIdeal.main_arg2)) (m ((c.tc : Thread Cert.SsdIdeal.nD Cert.SsdIdeal.τ).loc Cert.SsdIdeal.main_arg3)) (m ((c.tc : Thread Cert.SsdIdeal.nD Cert.SsdIdeal.τ).loc Cert.SsdIdeal.main_arg4))) = (fun _ => 1#1)

def Pre_SsdReferenceIdeal (m : (ℓ : Loc Cert.SsdReferenceIdeal.nD Cert.SsdReferenceIdeal.τ Cert.SsdReferenceIdeal.sig) → Buf (Elt Ideal) ℓ) : Prop :=
  True

def Pre_SsdReferenceIdeal_finite_steps [hPre_finite_steps : Cert.Pre_finite_steps.Facts] (m : (ℓ : Loc Cert.SsdReferenceIdeal.nD Cert.SsdReferenceIdeal.τ Cert.SsdReferenceIdeal.sig) → Buf (Elt Ideal) ℓ) : Prop :=
  ∀ c : Dev Cert.SsdReferenceIdeal.nD,
    (Cert.Pre_finite_steps.fn (F := Ideal) (m ((c.tc : Thread Cert.SsdReferenceIdeal.nD Cert.SsdReferenceIdeal.τ).loc Cert.SsdReferenceIdeal.main_arg0)) (m ((c.tc : Thread Cert.SsdReferenceIdeal.nD Cert.SsdReferenceIdeal.τ).loc Cert.SsdReferenceIdeal.main_arg1)) (m ((c.tc : Thread Cert.SsdReferenceIdeal.nD Cert.SsdReferenceIdeal.τ).loc Cert.SsdReferenceIdeal.main_arg2)) (m ((c.tc : Thread Cert.SsdReferenceIdeal.nD Cert.SsdReferenceIdeal.τ).loc Cert.SsdReferenceIdeal.main_arg3)) (m ((c.tc : Thread Cert.SsdReferenceIdeal.nD Cert.SsdReferenceIdeal.τ).loc Cert.SsdReferenceIdeal.main_arg4))) = (fun _ => 1#1)

def Pre_Dact (m : (ℓ : Loc Cert.Dact.nD Cert.Dact.τ Cert.Dact.sig) → Buf (Elt Bits) ℓ) : Prop :=
  True

def Pre_DactIdeal (m : (ℓ : Loc Cert.DactIdeal.nD Cert.DactIdeal.τ Cert.DactIdeal.sig) → Buf (Elt Ideal) ℓ) : Prop :=
  True

def Pre_DactReferenceIdeal (m : (ℓ : Loc Cert.DactReferenceIdeal.nD Cert.DactReferenceIdeal.τ Cert.DactReferenceIdeal.sig) → Buf (Elt Ideal) ℓ) : Prop :=
  True

def Pre_DwFf1 (m : (ℓ : Loc Cert.DwFf1.nD Cert.DwFf1.τ Cert.DwFf1.sig) → Buf (Elt Bits) ℓ) : Prop :=
  True

def Pre_DwFf1Ideal (m : (ℓ : Loc Cert.DwFf1Ideal.nD Cert.DwFf1Ideal.τ Cert.DwFf1Ideal.sig) → Buf (Elt Ideal) ℓ) : Prop :=
  True

def Pre_DwFf1ReferenceIdeal (m : (ℓ : Loc Cert.DwFf1ReferenceIdeal.nD Cert.DwFf1ReferenceIdeal.τ Cert.DwFf1ReferenceIdeal.sig) → Buf (Elt Ideal) ℓ) : Prop :=
  True

def Pre_DwFf2 (m : (ℓ : Loc Cert.DwFf2.nD Cert.DwFf2.τ Cert.DwFf2.sig) → Buf (Elt Bits) ℓ) : Prop :=
  True

def Pre_DwFf2Ideal (m : (ℓ : Loc Cert.DwFf2Ideal.nD Cert.DwFf2Ideal.τ Cert.DwFf2Ideal.sig) → Buf (Elt Ideal) ℓ) : Prop :=
  True

def Pre_DwFf2ReferenceIdeal (m : (ℓ : Loc Cert.DwFf2ReferenceIdeal.nD Cert.DwFf2ReferenceIdeal.τ Cert.DwFf2ReferenceIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInReferenceIdeal (m : (ℓ : Loc Cert.DwInReferenceIdeal.nD Cert.DwInReferenceIdeal.τ Cert.DwInReferenceIdeal.sig) → Buf (Elt Ideal) ℓ) : Prop :=
  True

def Pre_DwO (m : (ℓ : Loc Cert.DwO.nD Cert.DwO.τ Cert.DwO.sig) → Buf (Elt Bits) ℓ) : Prop :=
  True

def Pre_DwOIdeal (m : (ℓ : Loc Cert.DwOIdeal.nD Cert.DwOIdeal.τ Cert.DwOIdeal.sig) → Buf (Elt Ideal) ℓ) : Prop :=
  True

def Pre_DwOReferenceIdeal (m : (ℓ : Loc Cert.DwOReferenceIdeal.nD Cert.DwOReferenceIdeal.τ Cert.DwOReferenceIdeal.sig) → Buf (Elt Ideal) ℓ) : Prop :=
  True

def Pre_DwSsdOut (m : (ℓ : Loc Cert.DwSsdOut.nD Cert.DwSsdOut.τ Cert.DwSsdOut.sig) → Buf (Elt Bits) ℓ) : Prop :=
  True

def Pre_DwSsdOutIdeal (m : (ℓ : Loc Cert.DwSsdOutIdeal.nD Cert.DwSsdOutIdeal.τ Cert.DwSsdOutIdeal.sig) → Buf (Elt Ideal) ℓ) : Prop :=
  True

def Pre_DwSsdOutReferenceIdeal (m : (ℓ : Loc Cert.DwSsdOutReferenceIdeal.nD Cert.DwSsdOutReferenceIdeal.τ Cert.DwSsdOutReferenceIdeal.sig) → Buf (Elt Ideal) ℓ) : Prop :=
  True

def Pre_Dyn (m : (ℓ : Loc Cert.Dyn.nD Cert.Dyn.τ Cert.Dyn.sig) → Buf (Elt Bits) ℓ) : Prop :=
  True

def Pre_DynIdeal (m : (ℓ : Loc Cert.DynIdeal.nD Cert.DynIdeal.τ Cert.DynIdeal.sig) → Buf (Elt Ideal) ℓ) : Prop :=
  True

def Pre_DynReferenceIdeal (m : (ℓ : Loc Cert.DynReferenceIdeal.nD Cert.DynReferenceIdeal.τ Cert.DynReferenceIdeal.sig) → Buf (Elt Ideal) ℓ) : Prop :=
  True

def Pre_Dmerged (m : (ℓ : Loc Cert.Dmerged.nD Cert.Dmerged.τ Cert.Dmerged.sig) → Buf (Elt Bits) ℓ) : Prop :=
  True

def Pre_DmergedIdeal (m : (ℓ : Loc Cert.DmergedIdeal.nD Cert.DmergedIdeal.τ Cert.DmergedIdeal.sig) → Buf (Elt Ideal) ℓ) : Prop :=
  True

def Pre_DmergedReferenceIdeal (m : (ℓ : Loc Cert.DmergedReferenceIdeal.nD Cert.DmergedReferenceIdeal.τ Cert.DmergedReferenceIdeal.sig) → Buf (Elt Ideal) ℓ) : Prop :=
  True

def Pre_Du (m : (ℓ : Loc Cert.Du.nD Cert.Du.τ Cert.Du.sig) → Buf (Elt Bits) ℓ) : Prop :=
  True

def Pre_DuIdeal (m : (ℓ : Loc Cert.DuIdeal.nD Cert.DuIdeal.τ Cert.DuIdeal.sig) → Buf (Elt Ideal) ℓ) : Prop :=
  True

def Pre_DuReferenceIdeal (m : (ℓ : Loc Cert.DuReferenceIdeal.nD Cert.DuReferenceIdeal.τ Cert.DuReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_Ff1 (m : (ℓ : Loc Cert.Ff1.nD Cert.Ff1.τ Cert.Ff1.sig) → Buf (Elt Bits) ℓ) : Prop :=
  True

def Pre_Ff1Ideal (m : (ℓ : Loc Cert.Ff1Ideal.nD Cert.Ff1Ideal.τ Cert.Ff1Ideal.sig) → Buf (Elt Ideal) ℓ) : Prop :=
  True

def Pre_Ff1ReferenceIdeal (m : (ℓ : Loc Cert.Ff1ReferenceIdeal.nD Cert.Ff1ReferenceIdeal.τ Cert.Ff1ReferenceIdeal.sig) → Buf (Elt Ideal) ℓ) : Prop :=
  True

def Pre_Ff2 (m : (ℓ : Loc Cert.Ff2.nD Cert.Ff2.τ Cert.Ff2.sig) → Buf (Elt Bits) ℓ) : Prop :=
  True

def Pre_Ff2Ideal (m : (ℓ : Loc Cert.Ff2Ideal.nD Cert.Ff2Ideal.τ Cert.Ff2Ideal.sig) → Buf (Elt Ideal) ℓ) : Prop :=
  True

def Pre_Ff2ReferenceIdeal (m : (ℓ : Loc Cert.Ff2ReferenceIdeal.nD Cert.Ff2ReferenceIdeal.τ Cert.Ff2ReferenceIdeal.sig) → Buf (Elt Ideal) ℓ) : Prop :=
  True

def Pre_SsdOut (m : (ℓ : Loc Cert.SsdOut.nD Cert.SsdOut.τ Cert.SsdOut.sig) → Buf (Elt Bits) ℓ) : Prop :=
  True

def Pre_SsdOutIdeal (m : (ℓ : Loc Cert.SsdOutIdeal.nD Cert.SsdOutIdeal.τ Cert.SsdOutIdeal.sig) → Buf (Elt Ideal) ℓ) : Prop :=
  True

def Pre_SsdOutReferenceIdeal (m : (ℓ : Loc Cert.SsdOutReferenceIdeal.nD Cert.SsdOutReferenceIdeal.τ Cert.SsdOutReferenceIdeal.sig) → Buf (Elt Ideal) ℓ) : Prop :=
  True

def Pre_O (m : (ℓ : Loc Cert.O.nD Cert.O.τ Cert.O.sig) → Buf (Elt Bits) ℓ) : Prop :=
  True

def Pre_OIdeal (m : (ℓ : Loc Cert.OIdeal.nD Cert.OIdeal.τ Cert.OIdeal.sig) → Buf (Elt Ideal) ℓ) : Prop :=
  True

def Pre_OReferenceIdeal (m : (ℓ : Loc Cert.OReferenceIdeal.nD Cert.OReferenceIdeal.τ Cert.OReferenceIdeal.sig) → Buf (Elt Ideal) ℓ) : Prop :=
  True

def Pre_Ff2Norm (m : (ℓ : Loc Cert.Ff2Norm.nD Cert.Ff2Norm.τ Cert.Ff2Norm.sig) → Buf (Elt Bits) ℓ) : Prop :=
  True

def Pre_Ff2NormIdeal (m : (ℓ : Loc Cert.Ff2NormIdeal.nD Cert.Ff2NormIdeal.τ Cert.Ff2NormIdeal.sig) → Buf (Elt Ideal) ℓ) : Prop :=
  True

def Pre_Ff2NormReferenceIdeal (m : (ℓ : Loc Cert.Ff2NormReferenceIdeal.nD Cert.Ff2NormReferenceIdeal.τ Cert.Ff2NormReferenceIdeal.sig) → Buf (Elt Ideal) ℓ) : Prop :=
  True

def Pre_DwPoolUp (m : (ℓ : Loc Cert.DwPoolUp.nD Cert.DwPoolUp.τ Cert.DwPoolUp.sig) → Buf (Elt Bits) ℓ) : Prop :=
  True

def Pre_DwPoolUpIdeal (m : (ℓ : Loc Cert.DwPoolUpIdeal.nD Cert.DwPoolUpIdeal.τ Cert.DwPoolUpIdeal.sig) → Buf (Elt Ideal) ℓ) : Prop :=
  True

def Pre_DwPoolUpReferenceIdeal (m : (ℓ : Loc Cert.DwPoolUpReferenceIdeal.nD Cert.DwPoolUpReferenceIdeal.τ Cert.DwPoolUpReferenceIdeal.sig) → Buf (Elt Ideal) ℓ) : Prop :=
  True

def Pre_DactB (m : (ℓ : Loc Cert.DactB.nD Cert.DactB.τ Cert.DactB.sig) → Buf (Elt Bits) ℓ) : Prop :=
  True

def Pre_DactBIdeal (m : (ℓ : Loc Cert.DactBIdeal.nD Cert.DactBIdeal.τ Cert.DactBIdeal.sig) → Buf (Elt Ideal) ℓ) : Prop :=
  True

def Pre_DactBReferenceIdeal (m : (ℓ : Loc Cert.DactBReferenceIdeal.nD Cert.DactBReferenceIdeal.τ Cert.DactBReferenceIdeal.sig) → Buf (Elt Ideal) ℓ) : Prop :=
  True

def Pre_DwFf2L (m : (ℓ : Loc Cert.DwFf2L.nD Cert.DwFf2L.τ Cert.DwFf2L.sig) → Buf (Elt Bits) ℓ) : Prop :=
  True

def Pre_DwFf2LIdeal (m : (ℓ : Loc Cert.DwFf2LIdeal.nD Cert.DwFf2LIdeal.τ Cert.DwFf2LIdeal.sig) → Buf (Elt Ideal) ℓ) : Prop :=
  True

def Pre_DwFf2LReferenceIdeal (m : (ℓ : Loc Cert.DwFf2LReferenceIdeal.nD Cert.DwFf2LReferenceIdeal.τ Cert.DwFf2LReferenceIdeal.sig) → Buf (Elt Ideal) ℓ) : Prop :=
  True

def quiescent_Ssd [hSsd : Cert.Ssd.Facts] : Prop :=
  ∀ (m : (ℓ : Loc Cert.Ssd.nD Cert.Ssd.τ Cert.Ssd.sig) → Buf (Elt Bits) ℓ) (g : Dev Cert.Ssd.nD → PrngReg), Pre_Ssd m →
    θ_run (Cert.Ssd.defs (F := Bits)) (onTc (τ := Cert.Ssd.τ) (Cert.Ssd.main (F := Bits))) ⟨m, fun _ => 0, g⟩ (fun r => (∀ c : Dev Cert.Ssd.nD,
      r.2.mem ((c.tc : Thread Cert.Ssd.nD Cert.Ssd.τ).loc Cert.Ssd.main_arg0) = m ((c.tc : Thread Cert.Ssd.nD Cert.Ssd.τ).loc Cert.Ssd.main_arg0)
      ∧ r.2.mem ((c.tc : Thread Cert.Ssd.nD Cert.Ssd.τ).loc Cert.Ssd.main_arg1) = m ((c.tc : Thread Cert.Ssd.nD Cert.Ssd.τ).loc Cert.Ssd.main_arg1)
      ∧ r.2.mem ((c.tc : Thread Cert.Ssd.nD Cert.Ssd.τ).loc Cert.Ssd.main_arg2) = m ((c.tc : Thread Cert.Ssd.nD Cert.Ssd.τ).loc Cert.Ssd.main_arg2)
      ∧ r.2.mem ((c.tc : Thread Cert.Ssd.nD Cert.Ssd.τ).loc Cert.Ssd.main_arg3) = m ((c.tc : Thread Cert.Ssd.nD Cert.Ssd.τ).loc Cert.Ssd.main_arg3)
      ∧ r.2.mem ((c.tc : Thread Cert.Ssd.nD Cert.Ssd.τ).loc Cert.Ssd.main_arg4) = m ((c.tc : Thread Cert.Ssd.nD Cert.Ssd.τ).loc Cert.Ssd.main_arg4))
      ∧ r.2.sem = fun _ => 0)

def quiescent_SsdIdeal [hSsdIdeal : Cert.SsdIdeal.Facts] : Prop :=
  ∀ (m : (ℓ : Loc Cert.SsdIdeal.nD Cert.SsdIdeal.τ Cert.SsdIdeal.sig) → Buf (Elt Ideal) ℓ) (g : Dev Cert.SsdIdeal.nD → PrngReg), Pre_SsdIdeal m →
    θ_run (Cert.SsdIdeal.defs (F := Ideal)) (onTc (τ := Cert.SsdIdeal.τ) (Cert.SsdIdeal.main (F := Ideal))) ⟨m, fun _ => 0, g⟩ (fun r => (∀ c : Dev Cert.SsdIdeal.nD,
      r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
      ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
      ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
      ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
      ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4))
      ∧ r.2.sem = fun _ => 0)

def quiescent_SsdIdeal_pre_finite_steps [hSsdIdeal : Cert.SsdIdeal.Facts] [hPre_finite_steps : Cert.Pre_finite_steps.Facts] : Prop :=
  ∀ (m : (ℓ : Loc Cert.SsdIdeal.nD Cert.SsdIdeal.τ Cert.SsdIdeal.sig) → Buf (Elt Ideal) ℓ) (g : Dev Cert.SsdIdeal.nD → PrngReg), Pre_SsdIdeal_finite_steps m →
    θ_run (Cert.SsdIdeal.defs (F := Ideal)) (onTc (τ := Cert.SsdIdeal.τ) (Cert.SsdIdeal.main (F := Ideal))) ⟨m, fun _ => 0, g⟩ (fun r => (∀ c : Dev Cert.SsdIdeal.nD,
      r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
      ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
      ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
      ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
      ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4))
      ∧ r.2.sem = fun _ => 0)

def quiescent_SsdReferenceIdeal [hSsdReferenceIdeal : Cert.SsdReferenceIdeal.Facts] : Prop :=
  ∀ (m : (ℓ : Loc Cert.SsdReferenceIdeal.nD Cert.SsdReferenceIdeal.τ Cert.SsdReferenceIdeal.sig) → Buf (Elt Ideal) ℓ) (g : Dev Cert.SsdReferenceIdeal.nD → PrngReg), Pre_SsdReferenceIdeal m →
    θ_run (Cert.SsdReferenceIdeal.defs (F := Ideal)) (onTc (τ := Cert.SsdReferenceIdeal.τ) (Cert.SsdReferenceIdeal.main (F := Ideal))) ⟨m, fun _ => 0, g⟩ (fun r => (∀ c : Dev Cert.SsdReferenceIdeal.nD,
      r.2.mem ((c.tc : Thread Cert.SsdReferenceIdeal.nD Cert.SsdReferenceIdeal.τ).loc Cert.SsdReferenceIdeal.main_arg0) = m ((c.tc : Thread Cert.SsdReferenceIdeal.nD Cert.SsdReferenceIdeal.τ).loc Cert.SsdReferenceIdeal.main_arg0)
      ∧ r.2.mem ((c.tc : Thread Cert.SsdReferenceIdeal.nD Cert.SsdReferenceIdeal.τ).loc Cert.SsdReferenceIdeal.main_arg1) = m ((c.tc : Thread Cert.SsdReferenceIdeal.nD Cert.SsdReferenceIdeal.τ).loc Cert.SsdReferenceIdeal.main_arg1)
      ∧ r.2.mem ((c.tc : Thread Cert.SsdReferenceIdeal.nD Cert.SsdReferenceIdeal.τ).loc Cert.SsdReferenceIdeal.main_arg2) = m ((c.tc : Thread Cert.SsdReferenceIdeal.nD Cert.SsdReferenceIdeal.τ).loc Cert.SsdReferenceIdeal.main_arg2)
      ∧ r.2.mem ((c.tc : Thread Cert.SsdReferenceIdeal.nD Cert.SsdReferenceIdeal.τ).loc Cert.SsdReferenceIdeal.main_arg3) = m ((c.tc : Thread Cert.SsdReferenceIdeal.nD Cert.SsdReferenceIdeal.τ).loc Cert.SsdReferenceIdeal.main_arg3)
      ∧ r.2.mem ((c.tc : Thread Cert.SsdReferenceIdeal.nD Cert.SsdReferenceIdeal.τ).loc Cert.SsdReferenceIdeal.main_arg4) = m ((c.tc : Thread Cert.SsdReferenceIdeal.nD Cert.SsdReferenceIdeal.τ).loc Cert.SsdReferenceIdeal.main_arg4))
      ∧ r.2.sem = fun _ => 0)

def quiescent_SsdReferenceIdeal_pre_finite_steps [hSsdReferenceIdeal : Cert.SsdReferenceIdeal.Facts] [hPre_finite_steps : Cert.Pre_finite_steps.Facts] : Prop :=
  ∀ (m : (ℓ : Loc Cert.SsdReferenceIdeal.nD Cert.SsdReferenceIdeal.τ Cert.SsdReferenceIdeal.sig) → Buf (Elt Ideal) ℓ) (g : Dev Cert.SsdReferenceIdeal.nD → PrngReg), Pre_SsdReferenceIdeal_finite_steps m →
    θ_run (Cert.SsdReferenceIdeal.defs (F := Ideal)) (onTc (τ := Cert.SsdReferenceIdeal.τ) (Cert.SsdReferenceIdeal.main (F := Ideal))) ⟨m, fun _ => 0, g⟩ (fun r => (∀ c : Dev Cert.SsdReferenceIdeal.nD,
      r.2.mem ((c.tc : Thread Cert.SsdReferenceIdeal.nD Cert.SsdReferenceIdeal.τ).loc Cert.SsdReferenceIdeal.main_arg0) = m ((c.tc : Thread Cert.SsdReferenceIdeal.nD Cert.SsdReferenceIdeal.τ).loc Cert.SsdReferenceIdeal.main_arg0)
      ∧ r.2.mem ((c.tc : Thread Cert.SsdReferenceIdeal.nD Cert.SsdReferenceIdeal.τ).loc Cert.SsdReferenceIdeal.main_arg1) = m ((c.tc : Thread Cert.SsdReferenceIdeal.nD Cert.SsdReferenceIdeal.τ).loc Cert.SsdReferenceIdeal.main_arg1)
      ∧ r.2.mem ((c.tc : Thread Cert.SsdReferenceIdeal.nD Cert.SsdReferenceIdeal.τ).loc Cert.SsdReferenceIdeal.main_arg2) = m ((c.tc : Thread Cert.SsdReferenceIdeal.nD Cert.SsdReferenceIdeal.τ).loc Cert.SsdReferenceIdeal.main_arg2)
      ∧ r.2.mem ((c.tc : Thread Cert.SsdReferenceIdeal.nD Cert.SsdReferenceIdeal.τ).loc Cert.SsdReferenceIdeal.main_arg3) = m ((c.tc : Thread Cert.SsdReferenceIdeal.nD Cert.SsdReferenceIdeal.τ).loc Cert.SsdReferenceIdeal.main_arg3)
      ∧ r.2.mem ((c.tc : Thread Cert.SsdReferenceIdeal.nD Cert.SsdReferenceIdeal.τ).loc Cert.SsdReferenceIdeal.main_arg4) = m ((c.tc : Thread Cert.SsdReferenceIdeal.nD Cert.SsdReferenceIdeal.τ).loc Cert.SsdReferenceIdeal.main_arg4))
      ∧ r.2.sem = fun _ => 0)

def quiescent_Dact [hDact : Cert.Dact.Facts] : Prop :=
  ∀ (m : (ℓ : Loc Cert.Dact.nD Cert.Dact.τ Cert.Dact.sig) → Buf (Elt Bits) ℓ) (g : Dev Cert.Dact.nD → PrngReg), Pre_Dact m →
    θ_run (Cert.Dact.defs (F := Bits)) (onTc (τ := Cert.Dact.τ) (Cert.Dact.main (F := Bits))) ⟨m, fun _ => 0, g⟩ (fun r => (∀ c : Dev Cert.Dact.nD,
      r.2.mem ((c.tc : Thread Cert.Dact.nD Cert.Dact.τ).loc Cert.Dact.main_arg0) = m ((c.tc : Thread Cert.Dact.nD Cert.Dact.τ).loc Cert.Dact.main_arg0)
      ∧ r.2.mem ((c.tc : Thread Cert.Dact.nD Cert.Dact.τ).loc Cert.Dact.main_arg1) = m ((c.tc : Thread Cert.Dact.nD Cert.Dact.τ).loc Cert.Dact.main_arg1)
      ∧ r.2.mem ((c.tc : Thread Cert.Dact.nD Cert.Dact.τ).loc Cert.Dact.main_arg2) = m ((c.tc : Thread Cert.Dact.nD Cert.Dact.τ).loc Cert.Dact.main_arg2))
      ∧ r.2.sem = fun _ => 0)

def quiescent_DactIdeal [hDactIdeal : Cert.DactIdeal.Facts] : Prop :=
  ∀ (m : (ℓ : Loc Cert.DactIdeal.nD Cert.DactIdeal.τ Cert.DactIdeal.sig) → Buf (Elt Ideal) ℓ) (g : Dev Cert.DactIdeal.nD → PrngReg), Pre_DactIdeal m →
    θ_run (Cert.DactIdeal.defs (F := Ideal)) (onTc (τ := Cert.DactIdeal.τ) (Cert.DactIdeal.main (F := Ideal))) ⟨m, fun _ => 0, g⟩ (fun r => (∀ c : Dev Cert.DactIdeal.nD,
      r.2.mem ((c.tc : Thread Cert.DactIdeal.nD Cert.DactIdeal.τ).loc Cert.DactIdeal.main_arg0) = m ((c.tc : Thread Cert.DactIdeal.nD Cert.DactIdeal.τ).loc Cert.DactIdeal.main_arg0)
      ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
      ∧ r.2.mem ((c.tc : Thread Cert.DactIdeal.nD Cert.DactIdeal.τ).loc Cert.DactIdeal.main_arg2) = m ((c.tc : Thread Cert.DactIdeal.nD Cert.DactIdeal.τ).loc Cert.DactIdeal.main_arg2))
      ∧ r.2.sem = fun _ => 0)

def quiescent_DactReferenceIdeal [hDactReferenceIdeal : Cert.DactReferenceIdeal.Facts] : Prop :=
  ∀ (m : (ℓ : Loc Cert.DactReferenceIdeal.nD Cert.DactReferenceIdeal.τ Cert.DactReferenceIdeal.sig) → Buf (Elt Ideal) ℓ) (g : Dev Cert.DactReferenceIdeal.nD → PrngReg), Pre_DactReferenceIdeal m →
    θ_run (Cert.DactReferenceIdeal.defs (F := Ideal)) (onTc (τ := Cert.DactReferenceIdeal.τ) (Cert.DactReferenceIdeal.main (F := Ideal))) ⟨m, fun _ => 0, g⟩ (fun r => (∀ c : Dev Cert.DactReferenceIdeal.nD,
      r.2.mem ((c.tc : Thread Cert.DactReferenceIdeal.nD Cert.DactReferenceIdeal.τ).loc Cert.DactReferenceIdeal.main_arg0) = m ((c.tc : Thread Cert.DactReferenceIdeal.nD Cert.DactReferenceIdeal.τ).loc Cert.DactReferenceIdeal.main_arg0)
      ∧ r.2.mem ((c.tc : Thread Cert.DactReferenceIdeal.nD Cert.DactReferenceIdeal.τ).loc Cert.DactReferenceIdeal.main_arg1) = m ((c.tc : Thread Cert.DactReferenceIdeal.nD Cert.DactReferenceIdeal.τ).loc Cert.DactReferenceIdeal.main_arg1)
      ∧ r.2.mem ((c.tc : Thread Cert.DactReferenceIdeal.nD Cert.DactReferenceIdeal.τ).loc Cert.DactReferenceIdeal.main_arg2) = m ((c.tc : Thread Cert.DactReferenceIdeal.nD Cert.DactReferenceIdeal.τ).loc Cert.DactReferenceIdeal.main_arg2))
      ∧ r.2.sem = fun _ => 0)

def quiescent_DwFf1 [hDwFf1 : Cert.DwFf1.Facts] : Prop :=
  ∀ (m : (ℓ : Loc Cert.DwFf1.nD Cert.DwFf1.τ Cert.DwFf1.sig) → Buf (Elt Bits) ℓ) (g : Dev Cert.DwFf1.nD → PrngReg), Pre_DwFf1 m →
    θ_run (Cert.DwFf1.defs (F := Bits)) (onTc (τ := Cert.DwFf1.τ) (Cert.DwFf1.main (F := Bits))) ⟨m, fun _ => 0, g⟩ (fun r => (∀ c : Dev Cert.DwFf1.nD,
      r.2.mem ((c.tc : Thread Cert.DwFf1.nD Cert.DwFf1.τ).loc Cert.DwFf1.main_arg0) = m ((c.tc : Thread Cert.DwFf1.nD Cert.DwFf1.τ).loc Cert.DwFf1.main_arg0)
      ∧ r.2.mem ((c.tc : Thread Cert.DwFf1.nD Cert.DwFf1.τ).loc Cert.DwFf1.main_arg1) = m ((c.tc : Thread Cert.DwFf1.nD Cert.DwFf1.τ).loc Cert.DwFf1.main_arg1))
      ∧ r.2.sem = fun _ => 0)

def quiescent_DwFf1Ideal [hDwFf1Ideal : Cert.DwFf1Ideal.Facts] : Prop :=
  ∀ (m : (ℓ : Loc Cert.DwFf1Ideal.nD Cert.DwFf1Ideal.τ Cert.DwFf1Ideal.sig) → Buf (Elt Ideal) ℓ) (g : Dev Cert.DwFf1Ideal.nD → PrngReg), Pre_DwFf1Ideal m →
    θ_run (Cert.DwFf1Ideal.defs (F := Ideal)) (onTc (τ := Cert.DwFf1Ideal.τ) (Cert.DwFf1Ideal.main (F := Ideal))) ⟨m, fun _ => 0, g⟩ (fun r => (∀ c : Dev Cert.DwFf1Ideal.nD,
      r.2.mem ((c.tc : Thread Cert.DwFf1Ideal.nD Cert.DwFf1Ideal.τ).loc Cert.DwFf1Ideal.main_arg0) = m ((c.tc : Thread Cert.DwFf1Ideal.nD Cert.DwFf1Ideal.τ).loc Cert.DwFf1Ideal.main_arg0)
      ∧ r.2.mem ((c.tc : Thread Cert.DwFf1Ideal.nD Cert.DwFf1Ideal.τ).loc Cert.DwFf1Ideal.main_arg1) = m ((c.tc : Thread Cert.DwFf1Ideal.nD Cert.DwFf1Ideal.τ).loc Cert.DwFf1Ideal.main_arg1))
      ∧ r.2.sem = fun _ => 0)

def quiescent_DwFf1ReferenceIdeal [hDwFf1ReferenceIdeal : Cert.DwFf1ReferenceIdeal.Facts] : Prop :=
  ∀ (m : (ℓ : Loc Cert.DwFf1ReferenceIdeal.nD Cert.DwFf1ReferenceIdeal.τ Cert.DwFf1ReferenceIdeal.sig) → Buf (Elt Ideal) ℓ) (g : Dev Cert.DwFf1ReferenceIdeal.nD → PrngReg), Pre_DwFf1ReferenceIdeal m →
    θ_run (Cert.DwFf1ReferenceIdeal.defs (F := Ideal)) (onTc (τ := Cert.DwFf1ReferenceIdeal.τ) (Cert.DwFf1ReferenceIdeal.main (F := Ideal))) ⟨m, fun _ => 0, g⟩ (fun r => (∀ c : Dev Cert.DwFf1ReferenceIdeal.nD,
      r.2.mem ((c.tc : Thread Cert.DwFf1ReferenceIdeal.nD Cert.DwFf1ReferenceIdeal.τ).loc Cert.DwFf1ReferenceIdeal.main_arg0) = m ((c.tc : Thread Cert.DwFf1ReferenceIdeal.nD Cert.DwFf1ReferenceIdeal.τ).loc Cert.DwFf1ReferenceIdeal.main_arg0)
      ∧ r.2.mem ((c.tc : Thread Cert.DwFf1ReferenceIdeal.nD Cert.DwFf1ReferenceIdeal.τ).loc Cert.DwFf1ReferenceIdeal.main_arg1) = m ((c.tc : Thread Cert.DwFf1ReferenceIdeal.nD Cert.DwFf1ReferenceIdeal.τ).loc Cert.DwFf1ReferenceIdeal.main_arg1))
      ∧ r.2.sem = fun _ => 0)

def quiescent_DwFf2 [hDwFf2 : Cert.DwFf2.Facts] : Prop :=
  ∀ (m : (ℓ : Loc Cert.DwFf2.nD Cert.DwFf2.τ Cert.DwFf2.sig) → Buf (Elt Bits) ℓ) (g : Dev Cert.DwFf2.nD → PrngReg), Pre_DwFf2 m →
    θ_run (Cert.DwFf2.defs (F := Bits)) (onTc (τ := Cert.DwFf2.τ) (Cert.DwFf2.main (F := Bits))) ⟨m, fun _ => 0, g⟩ (fun r => (∀ c : Dev Cert.DwFf2.nD,
      r.2.mem ((c.tc : Thread Cert.DwFf2.nD Cert.DwFf2.τ).loc Cert.DwFf2.main_arg0) = m ((c.tc : Thread Cert.DwFf2.nD Cert.DwFf2.τ).loc Cert.DwFf2.main_arg0)
      ∧ r.2.mem ((c.tc : Thread Cert.DwFf2.nD Cert.DwFf2.τ).loc Cert.DwFf2.main_arg1) = m ((c.tc : Thread Cert.DwFf2.nD Cert.DwFf2.τ).loc Cert.DwFf2.main_arg1))
      ∧ r.2.sem = fun _ => 0)

def quiescent_DwFf2Ideal [hDwFf2Ideal : Cert.DwFf2Ideal.Facts] : Prop :=
  ∀ (m : (ℓ : Loc Cert.DwFf2Ideal.nD Cert.DwFf2Ideal.τ Cert.DwFf2Ideal.sig) → Buf (Elt Ideal) ℓ) (g : Dev Cert.DwFf2Ideal.nD → PrngReg), Pre_DwFf2Ideal m →
    θ_run (Cert.DwFf2Ideal.defs (F := Ideal)) (onTc (τ := Cert.DwFf2Ideal.τ) (Cert.DwFf2Ideal.main (F := Ideal))) ⟨m, fun _ => 0, g⟩ (fun r => (∀ c : Dev Cert.DwFf2Ideal.nD,
      r.2.mem ((c.tc : Thread Cert.DwFf2Ideal.nD Cert.DwFf2Ideal.τ).loc Cert.DwFf2Ideal.main_arg0) = m ((c.tc : Thread Cert.DwFf2Ideal.nD Cert.DwFf2Ideal.τ).loc Cert.DwFf2Ideal.main_arg0)
      ∧ r.2.mem ((c.tc : Thread Cert.DwFf2Ideal.nD Cert.DwFf2Ideal.τ).loc Cert.DwFf2Ideal.main_arg1) = m ((c.tc : Thread Cert.DwFf2Ideal.nD Cert.DwFf2Ideal.τ).loc Cert.DwFf2Ideal.main_arg1))
      ∧ r.2.sem = fun _ => 0)

def quiescent_DwFf2ReferenceIdeal [hDwFf2ReferenceIdeal : Cert.DwFf2ReferenceIdeal.Facts] : Prop :=
  ∀ (m : (ℓ : Loc Cert.DwFf2ReferenceIdeal.nD Cert.DwFf2ReferenceIdeal.τ Cert.DwFf2ReferenceIdeal.sig) → Buf (Elt Ideal) ℓ) (g : Dev Cert.DwFf2ReferenceIdeal.nD → PrngReg), Pre_DwFf2ReferenceIdeal m →
    θ_run (Cert.DwFf2ReferenceIdeal.defs (F := Ideal)) (onTc (τ := Cert.DwFf2ReferenceIdeal.τ) (Cert.DwFf2ReferenceIdeal.main (F := Ideal))) ⟨m, fun _ => 0, g⟩ (fun r => (∀ c : Dev Cert.DwFf2ReferenceIdeal.nD,
      r.2.mem ((c.tc : Thread Cert.DwFf2ReferenceIdeal.nD Cert.DwFf2ReferenceIdeal.τ).loc Cert.DwFf2ReferenceIdeal.main_arg0) = m ((c.tc : Thread Cert.DwFf2ReferenceIdeal.nD Cert.DwFf2ReferenceIdeal.τ).loc Cert.DwFf2ReferenceIdeal.main_arg0)
      ∧ r.2.mem ((c.tc : Thread Cert.DwFf2ReferenceIdeal.nD Cert.DwFf2ReferenceIdeal.τ).loc Cert.DwFf2ReferenceIdeal.main_arg1) = m ((c.tc : Thread Cert.DwFf2ReferenceIdeal.nD Cert.DwFf2ReferenceIdeal.τ).loc Cert.DwFf2ReferenceIdeal.main_arg1))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ r.2.sem = fun _ => 0)

def quiescent_DwInReferenceIdeal [hDwInReferenceIdeal : Cert.DwInReferenceIdeal.Facts] : Prop :=
  ∀ (m : (ℓ : Loc Cert.DwInReferenceIdeal.nD Cert.DwInReferenceIdeal.τ Cert.DwInReferenceIdeal.sig) → Buf (Elt Ideal) ℓ) (g : Dev Cert.DwInReferenceIdeal.nD → PrngReg), Pre_DwInReferenceIdeal m →
    θ_run (Cert.DwInReferenceIdeal.defs (F := Ideal)) (onTc (τ := Cert.DwInReferenceIdeal.τ) (Cert.DwInReferenceIdeal.main (F := Ideal))) ⟨m, fun _ => 0, g⟩ (fun r => (∀ c : Dev Cert.DwInReferenceIdeal.nD,
      r.2.mem ((c.tc : Thread Cert.DwInReferenceIdeal.nD Cert.DwInReferenceIdeal.τ).loc Cert.DwInReferenceIdeal.main_arg0) = m ((c.tc : Thread Cert.DwInReferenceIdeal.nD Cert.DwInReferenceIdeal.τ).loc Cert.DwInReferenceIdeal.main_arg0)
      ∧ r.2.mem ((c.tc : Thread Cert.DwInReferenceIdeal.nD Cert.DwInReferenceIdeal.τ).loc Cert.DwInReferenceIdeal.main_arg1) = m ((c.tc : Thread Cert.DwInReferenceIdeal.nD Cert.DwInReferenceIdeal.τ).loc Cert.DwInReferenceIdeal.main_arg1))
      ∧ r.2.sem = fun _ => 0)

def quiescent_DwO [hDwO : Cert.DwO.Facts] : Prop :=
  ∀ (m : (ℓ : Loc Cert.DwO.nD Cert.DwO.τ Cert.DwO.sig) → Buf (Elt Bits) ℓ) (g : Dev Cert.DwO.nD → PrngReg), Pre_DwO m →
    θ_run (Cert.DwO.defs (F := Bits)) (onTc (τ := Cert.DwO.τ) (Cert.DwO.main (F := Bits))) ⟨m, fun _ => 0, g⟩ (fun r => (∀ c : Dev Cert.DwO.nD,
      r.2.mem ((c.tc : Thread Cert.DwO.nD Cert.DwO.τ).loc Cert.DwO.main_arg0) = m ((c.tc : Thread Cert.DwO.nD Cert.DwO.τ).loc Cert.DwO.main_arg0)
      ∧ r.2.mem ((c.tc : Thread Cert.DwO.nD Cert.DwO.τ).loc Cert.DwO.main_arg1) = m ((c.tc : Thread Cert.DwO.nD Cert.DwO.τ).loc Cert.DwO.main_arg1))
      ∧ r.2.sem = fun _ => 0)

def quiescent_DwOIdeal [hDwOIdeal : Cert.DwOIdeal.Facts] : Prop :=
  ∀ (m : (ℓ : Loc Cert.DwOIdeal.nD Cert.DwOIdeal.τ Cert.DwOIdeal.sig) → Buf (Elt Ideal) ℓ) (g : Dev Cert.DwOIdeal.nD → PrngReg), Pre_DwOIdeal m →
    θ_run (Cert.DwOIdeal.defs (F := Ideal)) (onTc (τ := Cert.DwOIdeal.τ) (Cert.DwOIdeal.main (F := Ideal))) ⟨m, fun _ => 0, g⟩ (fun r => (∀ c : Dev Cert.DwOIdeal.nD,
      r.2.mem ((c.tc : Thread Cert.DwOIdeal.nD Cert.DwOIdeal.τ).loc Cert.DwOIdeal.main_arg0) = m ((c.tc : Thread Cert.DwOIdeal.nD Cert.DwOIdeal.τ).loc Cert.DwOIdeal.main_arg0)
      ∧ r.2.mem ((c.tc : Thread Cert.DwOIdeal.nD Cert.DwOIdeal.τ).loc Cert.DwOIdeal.main_arg1) = m ((c.tc : Thread Cert.DwOIdeal.nD Cert.DwOIdeal.τ).loc Cert.DwOIdeal.main_arg1))
      ∧ r.2.sem = fun _ => 0)

def quiescent_DwOReferenceIdeal [hDwOReferenceIdeal : Cert.DwOReferenceIdeal.Facts] : Prop :=
  ∀ (m : (ℓ : Loc Cert.DwOReferenceIdeal.nD Cert.DwOReferenceIdeal.τ Cert.DwOReferenceIdeal.sig) → Buf (Elt Ideal) ℓ) (g : Dev Cert.DwOReferenceIdeal.nD → PrngReg), Pre_DwOReferenceIdeal m →
    θ_run (Cert.DwOReferenceIdeal.defs (F := Ideal)) (onTc (τ := Cert.DwOReferenceIdeal.τ) (Cert.DwOReferenceIdeal.main (F := Ideal))) ⟨m, fun _ => 0, g⟩ (fun r => (∀ c : Dev Cert.DwOReferenceIdeal.nD,
      r.2.mem ((c.tc : Thread Cert.DwOReferenceIdeal.nD Cert.DwOReferenceIdeal.τ).loc Cert.DwOReferenceIdeal.main_arg0) = m ((c.tc : Thread Cert.DwOReferenceIdeal.nD Cert.DwOReferenceIdeal.τ).loc Cert.DwOReferenceIdeal.main_arg0)
      ∧ r.2.mem ((c.tc : Thread Cert.DwOReferenceIdeal.nD Cert.DwOReferenceIdeal.τ).loc Cert.DwOReferenceIdeal.main_arg1) = m ((c.tc : Thread Cert.DwOReferenceIdeal.nD Cert.DwOReferenceIdeal.τ).loc Cert.DwOReferenceIdeal.main_arg1))
      ∧ r.2.sem = fun _ => 0)

def quiescent_DwSsdOut [hDwSsdOut : Cert.DwSsdOut.Facts] : Prop :=
  ∀ (m : (ℓ : Loc Cert.DwSsdOut.nD Cert.DwSsdOut.τ Cert.DwSsdOut.sig) → Buf (Elt Bits) ℓ) (g : Dev Cert.DwSsdOut.nD → PrngReg), Pre_DwSsdOut m →
    θ_run (Cert.DwSsdOut.defs (F := Bits)) (onTc (τ := Cert.DwSsdOut.τ) (Cert.DwSsdOut.main (F := Bits))) ⟨m, fun _ => 0, g⟩ (fun r => (∀ c : Dev Cert.DwSsdOut.nD,
      r.2.mem ((c.tc : Thread Cert.DwSsdOut.nD Cert.DwSsdOut.τ).loc Cert.DwSsdOut.main_arg0) = m ((c.tc : Thread Cert.DwSsdOut.nD Cert.DwSsdOut.τ).loc Cert.DwSsdOut.main_arg0)
      ∧ r.2.mem ((c.tc : Thread Cert.DwSsdOut.nD Cert.DwSsdOut.τ).loc Cert.DwSsdOut.main_arg1) = m ((c.tc : Thread Cert.DwSsdOut.nD Cert.DwSsdOut.τ).loc Cert.DwSsdOut.main_arg1))
      ∧ r.2.sem = fun _ => 0)

def quiescent_DwSsdOutIdeal [hDwSsdOutIdeal : Cert.DwSsdOutIdeal.Facts] : Prop :=
  ∀ (m : (ℓ : Loc Cert.DwSsdOutIdeal.nD Cert.DwSsdOutIdeal.τ Cert.DwSsdOutIdeal.sig) → Buf (Elt Ideal) ℓ) (g : Dev Cert.DwSsdOutIdeal.nD → PrngReg), Pre_DwSsdOutIdeal m →
    θ_run (Cert.DwSsdOutIdeal.defs (F := Ideal)) (onTc (τ := Cert.DwSsdOutIdeal.τ) (Cert.DwSsdOutIdeal.main (F := Ideal))) ⟨m, fun _ => 0, g⟩ (fun r => (∀ c : Dev Cert.DwSsdOutIdeal.nD,
      r.2.mem ((c.tc : Thread Cert.DwSsdOutIdeal.nD Cert.DwSsdOutIdeal.τ).loc Cert.DwSsdOutIdeal.main_arg0) = m ((c.tc : Thread Cert.DwSsdOutIdeal.nD Cert.DwSsdOutIdeal.τ).loc Cert.DwSsdOutIdeal.main_arg0)
      ∧ r.2.mem ((c.tc : Thread Cert.DwSsdOutIdeal.nD Cert.DwSsdOutIdeal.τ).loc Cert.DwSsdOutIdeal.main_arg1) = m ((c.tc : Thread Cert.DwSsdOutIdeal.nD Cert.DwSsdOutIdeal.τ).loc Cert.DwSsdOutIdeal.main_arg1))
      ∧ r.2.sem = fun _ => 0)

def quiescent_DwSsdOutReferenceIdeal [hDwSsdOutReferenceIdeal : Cert.DwSsdOutReferenceIdeal.Facts] : Prop :=
  ∀ (m : (ℓ : Loc Cert.DwSsdOutReferenceIdeal.nD Cert.DwSsdOutReferenceIdeal.τ Cert.DwSsdOutReferenceIdeal.sig) → Buf (Elt Ideal) ℓ) (g : Dev Cert.DwSsdOutReferenceIdeal.nD → PrngReg), Pre_DwSsdOutReferenceIdeal m →
    θ_run (Cert.DwSsdOutReferenceIdeal.defs (F := Ideal)) (onTc (τ := Cert.DwSsdOutReferenceIdeal.τ) (Cert.DwSsdOutReferenceIdeal.main (F := Ideal))) ⟨m, fun _ => 0, g⟩ (fun r => (∀ c : Dev Cert.DwSsdOutReferenceIdeal.nD,
      r.2.mem ((c.tc : Thread Cert.DwSsdOutReferenceIdeal.nD Cert.DwSsdOutReferenceIdeal.τ).loc Cert.DwSsdOutReferenceIdeal.main_arg0) = m ((c.tc : Thread Cert.DwSsdOutReferenceIdeal.nD Cert.DwSsdOutReferenceIdeal.τ).loc Cert.DwSsdOutReferenceIdeal.main_arg0)
      ∧ r.2.mem ((c.tc : Thread Cert.DwSsdOutReferenceIdeal.nD Cert.DwSsdOutReferenceIdeal.τ).loc Cert.DwSsdOutReferenceIdeal.main_arg1) = m ((c.tc : Thread Cert.DwSsdOutReferenceIdeal.nD Cert.DwSsdOutReferenceIdeal.τ).loc Cert.DwSsdOutReferenceIdeal.main_arg1))
      ∧ r.2.sem = fun _ => 0)

def quiescent_Dyn [hDyn : Cert.Dyn.Facts] : Prop :=
  ∀ (m : (ℓ : Loc Cert.Dyn.nD Cert.Dyn.τ Cert.Dyn.sig) → Buf (Elt Bits) ℓ) (g : Dev Cert.Dyn.nD → PrngReg), Pre_Dyn m →
    θ_run (Cert.Dyn.defs (F := Bits)) (onTc (τ := Cert.Dyn.τ) (Cert.Dyn.main (F := Bits))) ⟨m, fun _ => 0, g⟩ (fun r => (∀ c : Dev Cert.Dyn.nD,
      r.2.mem ((c.tc : Thread Cert.Dyn.nD Cert.Dyn.τ).loc Cert.Dyn.main_arg0) = m ((c.tc : Thread Cert.Dyn.nD Cert.Dyn.τ).loc Cert.Dyn.main_arg0)
      ∧ r.2.mem ((c.tc : Thread Cert.Dyn.nD Cert.Dyn.τ).loc Cert.Dyn.main_arg1) = m ((c.tc : Thread Cert.Dyn.nD Cert.Dyn.τ).loc Cert.Dyn.main_arg1))
      ∧ r.2.sem = fun _ => 0)

def quiescent_DynIdeal [hDynIdeal : Cert.DynIdeal.Facts] : Prop :=
  ∀ (m : (ℓ : Loc Cert.DynIdeal.nD Cert.DynIdeal.τ Cert.DynIdeal.sig) → Buf (Elt Ideal) ℓ) (g : Dev Cert.DynIdeal.nD → PrngReg), Pre_DynIdeal m →
    θ_run (Cert.DynIdeal.defs (F := Ideal)) (onTc (τ := Cert.DynIdeal.τ) (Cert.DynIdeal.main (F := Ideal))) ⟨m, fun _ => 0, g⟩ (fun r => (∀ c : Dev Cert.DynIdeal.nD,
      r.2.mem ((c.tc : Thread Cert.DynIdeal.nD Cert.DynIdeal.τ).loc Cert.DynIdeal.main_arg0) = m ((c.tc : Thread Cert.DynIdeal.nD Cert.DynIdeal.τ).loc Cert.DynIdeal.main_arg0)
      ∧ r.2.mem ((c.tc : Thread Cert.DynIdeal.nD Cert.DynIdeal.τ).loc Cert.DynIdeal.main_arg1) = m ((c.tc : Thread Cert.DynIdeal.nD Cert.DynIdeal.τ).loc Cert.DynIdeal.main_arg1))
      ∧ r.2.sem = fun _ => 0)

def quiescent_DynReferenceIdeal [hDynReferenceIdeal : Cert.DynReferenceIdeal.Facts] : Prop :=
  ∀ (m : (ℓ : Loc Cert.DynReferenceIdeal.nD Cert.DynReferenceIdeal.τ Cert.DynReferenceIdeal.sig) → Buf (Elt Ideal) ℓ) (g : Dev Cert.DynReferenceIdeal.nD → PrngReg), Pre_DynReferenceIdeal m →
    θ_run (Cert.DynReferenceIdeal.defs (F := Ideal)) (onTc (τ := Cert.DynReferenceIdeal.τ) (Cert.DynReferenceIdeal.main (F := Ideal))) ⟨m, fun _ => 0, g⟩ (fun r => (∀ c : Dev Cert.DynReferenceIdeal.nD,
      r.2.mem ((c.tc : Thread Cert.DynReferenceIdeal.nD Cert.DynReferenceIdeal.τ).loc Cert.DynReferenceIdeal.main_arg0) = m ((c.tc : Thread Cert.DynReferenceIdeal.nD Cert.DynReferenceIdeal.τ).loc Cert.DynReferenceIdeal.main_arg0)
      ∧ r.2.mem ((c.tc : Thread Cert.DynReferenceIdeal.nD Cert.DynReferenceIdeal.τ).loc Cert.DynReferenceIdeal.main_arg1) = m ((c.tc : Thread Cert.DynReferenceIdeal.nD Cert.DynReferenceIdeal.τ).loc Cert.DynReferenceIdeal.main_arg1))
      ∧ r.2.sem = fun _ => 0)

def quiescent_Dmerged [hDmerged : Cert.Dmerged.Facts] : Prop :=
  ∀ (m : (ℓ : Loc Cert.Dmerged.nD Cert.Dmerged.τ Cert.Dmerged.sig) → Buf (Elt Bits) ℓ) (g : Dev Cert.Dmerged.nD → PrngReg), Pre_Dmerged m →
    θ_run (Cert.Dmerged.defs (F := Bits)) (onTc (τ := Cert.Dmerged.τ) (Cert.Dmerged.main (F := Bits))) ⟨m, fun _ => 0, g⟩ (fun r => (∀ c : Dev Cert.Dmerged.nD,
      r.2.mem ((c.tc : Thread Cert.Dmerged.nD Cert.Dmerged.τ).loc Cert.Dmerged.main_arg0) = m ((c.tc : Thread Cert.Dmerged.nD Cert.Dmerged.τ).loc Cert.Dmerged.main_arg0)
      ∧ r.2.mem ((c.tc : Thread Cert.Dmerged.nD Cert.Dmerged.τ).loc Cert.Dmerged.main_arg1) = m ((c.tc : Thread Cert.Dmerged.nD Cert.Dmerged.τ).loc Cert.Dmerged.main_arg1))
      ∧ r.2.sem = fun _ => 0)

def quiescent_DmergedIdeal [hDmergedIdeal : Cert.DmergedIdeal.Facts] : Prop :=
  ∀ (m : (ℓ : Loc Cert.DmergedIdeal.nD Cert.DmergedIdeal.τ Cert.DmergedIdeal.sig) → Buf (Elt Ideal) ℓ) (g : Dev Cert.DmergedIdeal.nD → PrngReg), Pre_DmergedIdeal m →
    θ_run (Cert.DmergedIdeal.defs (F := Ideal)) (onTc (τ := Cert.DmergedIdeal.τ) (Cert.DmergedIdeal.main (F := Ideal))) ⟨m, fun _ => 0, g⟩ (fun r => (∀ c : Dev Cert.DmergedIdeal.nD,
      r.2.mem ((c.tc : Thread Cert.DmergedIdeal.nD Cert.DmergedIdeal.τ).loc Cert.DmergedIdeal.main_arg0) = m ((c.tc : Thread Cert.DmergedIdeal.nD Cert.DmergedIdeal.τ).loc Cert.DmergedIdeal.main_arg0)
      ∧ r.2.mem ((c.tc : Thread Cert.DmergedIdeal.nD Cert.DmergedIdeal.τ).loc Cert.DmergedIdeal.main_arg1) = m ((c.tc : Thread Cert.DmergedIdeal.nD Cert.DmergedIdeal.τ).loc Cert.DmergedIdeal.main_arg1))
      ∧ r.2.sem = fun _ => 0)

def quiescent_DmergedReferenceIdeal [hDmergedReferenceIdeal : Cert.DmergedReferenceIdeal.Facts] : Prop :=
  ∀ (m : (ℓ : Loc Cert.DmergedReferenceIdeal.nD Cert.DmergedReferenceIdeal.τ Cert.DmergedReferenceIdeal.sig) → Buf (Elt Ideal) ℓ) (g : Dev Cert.DmergedReferenceIdeal.nD → PrngReg), Pre_DmergedReferenceIdeal m →
    θ_run (Cert.DmergedReferenceIdeal.defs (F := Ideal)) (onTc (τ := Cert.DmergedReferenceIdeal.τ) (Cert.DmergedReferenceIdeal.main (F := Ideal))) ⟨m, fun _ => 0, g⟩ (fun r => (∀ c : Dev Cert.DmergedReferenceIdeal.nD,
      r.2.mem ((c.tc : Thread Cert.DmergedReferenceIdeal.nD Cert.DmergedReferenceIdeal.τ).loc Cert.DmergedReferenceIdeal.main_arg0) = m ((c.tc : Thread Cert.DmergedReferenceIdeal.nD Cert.DmergedReferenceIdeal.τ).loc Cert.DmergedReferenceIdeal.main_arg0)
      ∧ r.2.mem ((c.tc : Thread Cert.DmergedReferenceIdeal.nD Cert.DmergedReferenceIdeal.τ).loc Cert.DmergedReferenceIdeal.main_arg1) = m ((c.tc : Thread Cert.DmergedReferenceIdeal.nD Cert.DmergedReferenceIdeal.τ).loc Cert.DmergedReferenceIdeal.main_arg1))
      ∧ r.2.sem = fun _ => 0)

def quiescent_Du [hDu : Cert.Du.Facts] : Prop :=
  ∀ (m : (ℓ : Loc Cert.Du.nD Cert.Du.τ Cert.Du.sig) → Buf (Elt Bits) ℓ) (g : Dev Cert.Du.nD → PrngReg), Pre_Du m →
    θ_run (Cert.Du.defs (F := Bits)) (onTc (τ := Cert.Du.τ) (Cert.Du.main (F := Bits))) ⟨m, fun _ => 0, g⟩ (fun r => (∀ c : Dev Cert.Du.nD,
      r.2.mem ((c.tc : Thread Cert.Du.nD Cert.Du.τ).loc Cert.Du.main_arg0) = m ((c.tc : Thread Cert.Du.nD Cert.Du.τ).loc Cert.Du.main_arg0)
      ∧ r.2.mem ((c.tc : Thread Cert.Du.nD Cert.Du.τ).loc Cert.Du.main_arg1) = m ((c.tc : Thread Cert.Du.nD Cert.Du.τ).loc Cert.Du.main_arg1))
      ∧ r.2.sem = fun _ => 0)

def quiescent_DuIdeal [hDuIdeal : Cert.DuIdeal.Facts] : Prop :=
  ∀ (m : (ℓ : Loc Cert.DuIdeal.nD Cert.DuIdeal.τ Cert.DuIdeal.sig) → Buf (Elt Ideal) ℓ) (g : Dev Cert.DuIdeal.nD → PrngReg), Pre_DuIdeal m →
    θ_run (Cert.DuIdeal.defs (F := Ideal)) (onTc (τ := Cert.DuIdeal.τ) (Cert.DuIdeal.main (F := Ideal))) ⟨m, fun _ => 0, g⟩ (fun r => (∀ c : Dev Cert.DuIdeal.nD,
      r.2.mem ((c.tc : Thread Cert.DuIdeal.nD Cert.DuIdeal.τ).loc Cert.DuIdeal.main_arg0) = m ((c.tc : Thread Cert.DuIdeal.nD Cert.DuIdeal.τ).loc Cert.DuIdeal.main_arg0)
      ∧ r.2.mem ((c.tc : Thread Cert.DuIdeal.nD Cert.DuIdeal.τ).loc Cert.DuIdeal.main_arg1) = m ((c.tc : Thread Cert.DuIdeal.nD Cert.DuIdeal.τ).loc Cert.DuIdeal.main_arg1))
      ∧ r.2.sem = fun _ => 0)

def quiescent_DuReferenceIdeal [hDuReferenceIdeal : Cert.DuReferenceIdeal.Facts] : Prop :=
  ∀ (m : (ℓ : Loc Cert.DuReferenceIdeal.nD Cert.DuReferenceIdeal.τ Cert.DuReferenceIdeal.sig) → Buf (Elt Ideal) ℓ) (g : Dev Cert.DuReferenceIdeal.nD → PrngReg), Pre_DuReferenceIdeal m →
    θ_run (Cert.DuReferenceIdeal.defs (F := Ideal)) (onTc (τ := Cert.DuReferenceIdeal.τ) (Cert.DuReferenceIdeal.main (F := Ideal))) ⟨m, fun _ => 0, g⟩ (fun r => (∀ c : Dev Cert.DuReferenceIdeal.nD,
      r.2.mem ((c.tc : Thread Cert.DuReferenceIdeal.nD Cert.DuReferenceIdeal.τ).loc Cert.DuReferenceIdeal.main_arg0) = m ((c.tc : Thread Cert.DuReferenceIdeal.nD Cert.DuReferenceIdeal.τ).loc Cert.DuReferenceIdeal.main_arg0)
      ∧ r.2.mem ((c.tc : Thread Cert.DuReferenceIdeal.nD Cert.DuReferenceIdeal.τ).loc Cert.DuReferenceIdeal.main_arg1) = m ((c.tc : Thread Cert.DuReferenceIdeal.nD Cert.DuReferenceIdeal.τ).loc Cert.DuReferenceIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1))
      ∧ r.2.sem = fun _ => 0)

def quiescent_Ff1 [hFf1 : Cert.Ff1.Facts] : Prop :=
  ∀ (m : (ℓ : Loc Cert.Ff1.nD Cert.Ff1.τ Cert.Ff1.sig) → Buf (Elt Bits) ℓ) (g : Dev Cert.Ff1.nD → PrngReg), Pre_Ff1 m →
    θ_run (Cert.Ff1.defs (F := Bits)) (onTc (τ := Cert.Ff1.τ) (Cert.Ff1.main (F := Bits))) ⟨m, fun _ => 0, g⟩ (fun r => (∀ c : Dev Cert.Ff1.nD,
      r.2.mem ((c.tc : Thread Cert.Ff1.nD Cert.Ff1.τ).loc Cert.Ff1.main_arg0) = m ((c.tc : Thread Cert.Ff1.nD Cert.Ff1.τ).loc Cert.Ff1.main_arg0)
      ∧ r.2.mem ((c.tc : Thread Cert.Ff1.nD Cert.Ff1.τ).loc Cert.Ff1.main_arg1) = m ((c.tc : Thread Cert.Ff1.nD Cert.Ff1.τ).loc Cert.Ff1.main_arg1))
      ∧ r.2.sem = fun _ => 0)

def quiescent_Ff1Ideal [hFf1Ideal : Cert.Ff1Ideal.Facts] : Prop :=
  ∀ (m : (ℓ : Loc Cert.Ff1Ideal.nD Cert.Ff1Ideal.τ Cert.Ff1Ideal.sig) → Buf (Elt Ideal) ℓ) (g : Dev Cert.Ff1Ideal.nD → PrngReg), Pre_Ff1Ideal m →
    θ_run (Cert.Ff1Ideal.defs (F := Ideal)) (onTc (τ := Cert.Ff1Ideal.τ) (Cert.Ff1Ideal.main (F := Ideal))) ⟨m, fun _ => 0, g⟩ (fun r => (∀ c : Dev Cert.Ff1Ideal.nD,
      r.2.mem ((c.tc : Thread Cert.Ff1Ideal.nD Cert.Ff1Ideal.τ).loc Cert.Ff1Ideal.main_arg0) = m ((c.tc : Thread Cert.Ff1Ideal.nD Cert.Ff1Ideal.τ).loc Cert.Ff1Ideal.main_arg0)
      ∧ r.2.mem ((c.tc : Thread Cert.Ff1Ideal.nD Cert.Ff1Ideal.τ).loc Cert.Ff1Ideal.main_arg1) = m ((c.tc : Thread Cert.Ff1Ideal.nD Cert.Ff1Ideal.τ).loc Cert.Ff1Ideal.main_arg1))
      ∧ r.2.sem = fun _ => 0)

def quiescent_Ff1ReferenceIdeal [hFf1ReferenceIdeal : Cert.Ff1ReferenceIdeal.Facts] : Prop :=
  ∀ (m : (ℓ : Loc Cert.Ff1ReferenceIdeal.nD Cert.Ff1ReferenceIdeal.τ Cert.Ff1ReferenceIdeal.sig) → Buf (Elt Ideal) ℓ) (g : Dev Cert.Ff1ReferenceIdeal.nD → PrngReg), Pre_Ff1ReferenceIdeal m →
    θ_run (Cert.Ff1ReferenceIdeal.defs (F := Ideal)) (onTc (τ := Cert.Ff1ReferenceIdeal.τ) (Cert.Ff1ReferenceIdeal.main (F := Ideal))) ⟨m, fun _ => 0, g⟩ (fun r => (∀ c : Dev Cert.Ff1ReferenceIdeal.nD,
      r.2.mem ((c.tc : Thread Cert.Ff1ReferenceIdeal.nD Cert.Ff1ReferenceIdeal.τ).loc Cert.Ff1ReferenceIdeal.main_arg0) = m ((c.tc : Thread Cert.Ff1ReferenceIdeal.nD Cert.Ff1ReferenceIdeal.τ).loc Cert.Ff1ReferenceIdeal.main_arg0)
      ∧ r.2.mem ((c.tc : Thread Cert.Ff1ReferenceIdeal.nD Cert.Ff1ReferenceIdeal.τ).loc Cert.Ff1ReferenceIdeal.main_arg1) = m ((c.tc : Thread Cert.Ff1ReferenceIdeal.nD Cert.Ff1ReferenceIdeal.τ).loc Cert.Ff1ReferenceIdeal.main_arg1))
      ∧ r.2.sem = fun _ => 0)

def quiescent_Ff2 [hFf2 : Cert.Ff2.Facts] : Prop :=
  ∀ (m : (ℓ : Loc Cert.Ff2.nD Cert.Ff2.τ Cert.Ff2.sig) → Buf (Elt Bits) ℓ) (g : Dev Cert.Ff2.nD → PrngReg), Pre_Ff2 m →
    θ_run (Cert.Ff2.defs (F := Bits)) (onTc (τ := Cert.Ff2.τ) (Cert.Ff2.main (F := Bits))) ⟨m, fun _ => 0, g⟩ (fun r => (∀ c : Dev Cert.Ff2.nD,
      r.2.mem ((c.tc : Thread Cert.Ff2.nD Cert.Ff2.τ).loc Cert.Ff2.main_arg0) = m ((c.tc : Thread Cert.Ff2.nD Cert.Ff2.τ).loc Cert.Ff2.main_arg0)
      ∧ r.2.mem ((c.tc : Thread Cert.Ff2.nD Cert.Ff2.τ).loc Cert.Ff2.main_arg1) = m ((c.tc : Thread Cert.Ff2.nD Cert.Ff2.τ).loc Cert.Ff2.main_arg1)
      ∧ r.2.mem ((c.tc : Thread Cert.Ff2.nD Cert.Ff2.τ).loc Cert.Ff2.main_arg2) = m ((c.tc : Thread Cert.Ff2.nD Cert.Ff2.τ).loc Cert.Ff2.main_arg2))
      ∧ r.2.sem = fun _ => 0)

def quiescent_Ff2Ideal [hFf2Ideal : Cert.Ff2Ideal.Facts] : Prop :=
  ∀ (m : (ℓ : Loc Cert.Ff2Ideal.nD Cert.Ff2Ideal.τ Cert.Ff2Ideal.sig) → Buf (Elt Ideal) ℓ) (g : Dev Cert.Ff2Ideal.nD → PrngReg), Pre_Ff2Ideal m →
    θ_run (Cert.Ff2Ideal.defs (F := Ideal)) (onTc (τ := Cert.Ff2Ideal.τ) (Cert.Ff2Ideal.main (F := Ideal))) ⟨m, fun _ => 0, g⟩ (fun r => (∀ c : Dev Cert.Ff2Ideal.nD,
      r.2.mem ((c.tc : Thread Cert.Ff2Ideal.nD Cert.Ff2Ideal.τ).loc Cert.Ff2Ideal.main_arg0) = m ((c.tc : Thread Cert.Ff2Ideal.nD Cert.Ff2Ideal.τ).loc Cert.Ff2Ideal.main_arg0)
      ∧ r.2.mem ((c.tc : Thread Cert.Ff2Ideal.nD Cert.Ff2Ideal.τ).loc Cert.Ff2Ideal.main_arg1) = m ((c.tc : Thread Cert.Ff2Ideal.nD Cert.Ff2Ideal.τ).loc Cert.Ff2Ideal.main_arg1)
      ∧ r.2.mem ((c.tc : Thread Cert.Ff2Ideal.nD Cert.Ff2Ideal.τ).loc Cert.Ff2Ideal.main_arg2) = m ((c.tc : Thread Cert.Ff2Ideal.nD Cert.Ff2Ideal.τ).loc Cert.Ff2Ideal.main_arg2))
      ∧ r.2.sem = fun _ => 0)

def quiescent_Ff2ReferenceIdeal [hFf2ReferenceIdeal : Cert.Ff2ReferenceIdeal.Facts] : Prop :=
  ∀ (m : (ℓ : Loc Cert.Ff2ReferenceIdeal.nD Cert.Ff2ReferenceIdeal.τ Cert.Ff2ReferenceIdeal.sig) → Buf (Elt Ideal) ℓ) (g : Dev Cert.Ff2ReferenceIdeal.nD → PrngReg), Pre_Ff2ReferenceIdeal m →
    θ_run (Cert.Ff2ReferenceIdeal.defs (F := Ideal)) (onTc (τ := Cert.Ff2ReferenceIdeal.τ) (Cert.Ff2ReferenceIdeal.main (F := Ideal))) ⟨m, fun _ => 0, g⟩ (fun r => (∀ c : Dev Cert.Ff2ReferenceIdeal.nD,
      r.2.mem ((c.tc : Thread Cert.Ff2ReferenceIdeal.nD Cert.Ff2ReferenceIdeal.τ).loc Cert.Ff2ReferenceIdeal.main_arg0) = m ((c.tc : Thread Cert.Ff2ReferenceIdeal.nD Cert.Ff2ReferenceIdeal.τ).loc Cert.Ff2ReferenceIdeal.main_arg0)
      ∧ r.2.mem ((c.tc : Thread Cert.Ff2ReferenceIdeal.nD Cert.Ff2ReferenceIdeal.τ).loc Cert.Ff2ReferenceIdeal.main_arg1) = m ((c.tc : Thread Cert.Ff2ReferenceIdeal.nD Cert.Ff2ReferenceIdeal.τ).loc Cert.Ff2ReferenceIdeal.main_arg1)
      ∧ r.2.mem ((c.tc : Thread Cert.Ff2ReferenceIdeal.nD Cert.Ff2ReferenceIdeal.τ).loc Cert.Ff2ReferenceIdeal.main_arg2) = m ((c.tc : Thread Cert.Ff2ReferenceIdeal.nD Cert.Ff2ReferenceIdeal.τ).loc Cert.Ff2ReferenceIdeal.main_arg2))
      ∧ r.2.sem = fun _ => 0)

def quiescent_SsdOut [hSsdOut : Cert.SsdOut.Facts] : Prop :=
  ∀ (m : (ℓ : Loc Cert.SsdOut.nD Cert.SsdOut.τ Cert.SsdOut.sig) → Buf (Elt Bits) ℓ) (g : Dev Cert.SsdOut.nD → PrngReg), Pre_SsdOut m →
    θ_run (Cert.SsdOut.defs (F := Bits)) (onTc (τ := Cert.SsdOut.τ) (Cert.SsdOut.main (F := Bits))) ⟨m, fun _ => 0, g⟩ (fun r => (∀ c : Dev Cert.SsdOut.nD,
      r.2.mem ((c.tc : Thread Cert.SsdOut.nD Cert.SsdOut.τ).loc Cert.SsdOut.main_arg0) = m ((c.tc : Thread Cert.SsdOut.nD Cert.SsdOut.τ).loc Cert.SsdOut.main_arg0)
      ∧ r.2.mem ((c.tc : Thread Cert.SsdOut.nD Cert.SsdOut.τ).loc Cert.SsdOut.main_arg1) = m ((c.tc : Thread Cert.SsdOut.nD Cert.SsdOut.τ).loc Cert.SsdOut.main_arg1))
      ∧ r.2.sem = fun _ => 0)

def quiescent_SsdOutIdeal [hSsdOutIdeal : Cert.SsdOutIdeal.Facts] : Prop :=
  ∀ (m : (ℓ : Loc Cert.SsdOutIdeal.nD Cert.SsdOutIdeal.τ Cert.SsdOutIdeal.sig) → Buf (Elt Ideal) ℓ) (g : Dev Cert.SsdOutIdeal.nD → PrngReg), Pre_SsdOutIdeal m →
    θ_run (Cert.SsdOutIdeal.defs (F := Ideal)) (onTc (τ := Cert.SsdOutIdeal.τ) (Cert.SsdOutIdeal.main (F := Ideal))) ⟨m, fun _ => 0, g⟩ (fun r => (∀ c : Dev Cert.SsdOutIdeal.nD,
      r.2.mem ((c.tc : Thread Cert.SsdOutIdeal.nD Cert.SsdOutIdeal.τ).loc Cert.SsdOutIdeal.main_arg0) = m ((c.tc : Thread Cert.SsdOutIdeal.nD Cert.SsdOutIdeal.τ).loc Cert.SsdOutIdeal.main_arg0)
      ∧ r.2.mem ((c.tc : Thread Cert.SsdOutIdeal.nD Cert.SsdOutIdeal.τ).loc Cert.SsdOutIdeal.main_arg1) = m ((c.tc : Thread Cert.SsdOutIdeal.nD Cert.SsdOutIdeal.τ).loc Cert.SsdOutIdeal.main_arg1))
      ∧ r.2.sem = fun _ => 0)

def quiescent_SsdOutReferenceIdeal [hSsdOutReferenceIdeal : Cert.SsdOutReferenceIdeal.Facts] : Prop :=
  ∀ (m : (ℓ : Loc Cert.SsdOutReferenceIdeal.nD Cert.SsdOutReferenceIdeal.τ Cert.SsdOutReferenceIdeal.sig) → Buf (Elt Ideal) ℓ) (g : Dev Cert.SsdOutReferenceIdeal.nD → PrngReg), Pre_SsdOutReferenceIdeal m →
    θ_run (Cert.SsdOutReferenceIdeal.defs (F := Ideal)) (onTc (τ := Cert.SsdOutReferenceIdeal.τ) (Cert.SsdOutReferenceIdeal.main (F := Ideal))) ⟨m, fun _ => 0, g⟩ (fun r => (∀ c : Dev Cert.SsdOutReferenceIdeal.nD,
      r.2.mem ((c.tc : Thread Cert.SsdOutReferenceIdeal.nD Cert.SsdOutReferenceIdeal.τ).loc Cert.SsdOutReferenceIdeal.main_arg0) = m ((c.tc : Thread Cert.SsdOutReferenceIdeal.nD Cert.SsdOutReferenceIdeal.τ).loc Cert.SsdOutReferenceIdeal.main_arg0)
      ∧ r.2.mem ((c.tc : Thread Cert.SsdOutReferenceIdeal.nD Cert.SsdOutReferenceIdeal.τ).loc Cert.SsdOutReferenceIdeal.main_arg1) = m ((c.tc : Thread Cert.SsdOutReferenceIdeal.nD Cert.SsdOutReferenceIdeal.τ).loc Cert.SsdOutReferenceIdeal.main_arg1))
      ∧ r.2.sem = fun _ => 0)

def quiescent_O [hO : Cert.O.Facts] : Prop :=
  ∀ (m : (ℓ : Loc Cert.O.nD Cert.O.τ Cert.O.sig) → Buf (Elt Bits) ℓ) (g : Dev Cert.O.nD → PrngReg), Pre_O m →
    θ_run (Cert.O.defs (F := Bits)) (onTc (τ := Cert.O.τ) (Cert.O.main (F := Bits))) ⟨m, fun _ => 0, g⟩ (fun r => (∀ c : Dev Cert.O.nD,
      r.2.mem ((c.tc : Thread Cert.O.nD Cert.O.τ).loc Cert.O.main_arg0) = m ((c.tc : Thread Cert.O.nD Cert.O.τ).loc Cert.O.main_arg0)
      ∧ r.2.mem ((c.tc : Thread Cert.O.nD Cert.O.τ).loc Cert.O.main_arg1) = m ((c.tc : Thread Cert.O.nD Cert.O.τ).loc Cert.O.main_arg1)
      ∧ r.2.mem ((c.tc : Thread Cert.O.nD Cert.O.τ).loc Cert.O.main_arg2) = m ((c.tc : Thread Cert.O.nD Cert.O.τ).loc Cert.O.main_arg2)
      ∧ r.2.mem ((c.tc : Thread Cert.O.nD Cert.O.τ).loc Cert.O.main_arg3) = m ((c.tc : Thread Cert.O.nD Cert.O.τ).loc Cert.O.main_arg3))
      ∧ r.2.sem = fun _ => 0)

def quiescent_OIdeal [hOIdeal : Cert.OIdeal.Facts] : Prop :=
  ∀ (m : (ℓ : Loc Cert.OIdeal.nD Cert.OIdeal.τ Cert.OIdeal.sig) → Buf (Elt Ideal) ℓ) (g : Dev Cert.OIdeal.nD → PrngReg), Pre_OIdeal m →
    θ_run (Cert.OIdeal.defs (F := Ideal)) (onTc (τ := Cert.OIdeal.τ) (Cert.OIdeal.main (F := Ideal))) ⟨m, fun _ => 0, g⟩ (fun r => (∀ c : Dev Cert.OIdeal.nD,
      r.2.mem ((c.tc : Thread Cert.OIdeal.nD Cert.OIdeal.τ).loc Cert.OIdeal.main_arg0) = m ((c.tc : Thread Cert.OIdeal.nD Cert.OIdeal.τ).loc Cert.OIdeal.main_arg0)
      ∧ r.2.mem ((c.tc : Thread Cert.OIdeal.nD Cert.OIdeal.τ).loc Cert.OIdeal.main_arg1) = m ((c.tc : Thread Cert.OIdeal.nD Cert.OIdeal.τ).loc Cert.OIdeal.main_arg1)
      ∧ r.2.mem ((c.tc : Thread Cert.OIdeal.nD Cert.OIdeal.τ).loc Cert.OIdeal.main_arg2) = m ((c.tc : Thread Cert.OIdeal.nD Cert.OIdeal.τ).loc Cert.OIdeal.main_arg2)
      ∧ r.2.mem ((c.tc : Thread Cert.OIdeal.nD Cert.OIdeal.τ).loc Cert.OIdeal.main_arg3) = m ((c.tc : Thread Cert.OIdeal.nD Cert.OIdeal.τ).loc Cert.OIdeal.main_arg3))
      ∧ r.2.sem = fun _ => 0)

def quiescent_OReferenceIdeal [hOReferenceIdeal : Cert.OReferenceIdeal.Facts] : Prop :=
  ∀ (m : (ℓ : Loc Cert.OReferenceIdeal.nD Cert.OReferenceIdeal.τ Cert.OReferenceIdeal.sig) → Buf (Elt Ideal) ℓ) (g : Dev Cert.OReferenceIdeal.nD → PrngReg), Pre_OReferenceIdeal m →
    θ_run (Cert.OReferenceIdeal.defs (F := Ideal)) (onTc (τ := Cert.OReferenceIdeal.τ) (Cert.OReferenceIdeal.main (F := Ideal))) ⟨m, fun _ => 0, g⟩ (fun r => (∀ c : Dev Cert.OReferenceIdeal.nD,
      r.2.mem ((c.tc : Thread Cert.OReferenceIdeal.nD Cert.OReferenceIdeal.τ).loc Cert.OReferenceIdeal.main_arg0) = m ((c.tc : Thread Cert.OReferenceIdeal.nD Cert.OReferenceIdeal.τ).loc Cert.OReferenceIdeal.main_arg0)
      ∧ r.2.mem ((c.tc : Thread Cert.OReferenceIdeal.nD Cert.OReferenceIdeal.τ).loc Cert.OReferenceIdeal.main_arg1) = m ((c.tc : Thread Cert.OReferenceIdeal.nD Cert.OReferenceIdeal.τ).loc Cert.OReferenceIdeal.main_arg1)
      ∧ r.2.mem ((c.tc : Thread Cert.OReferenceIdeal.nD Cert.OReferenceIdeal.τ).loc Cert.OReferenceIdeal.main_arg2) = m ((c.tc : Thread Cert.OReferenceIdeal.nD Cert.OReferenceIdeal.τ).loc Cert.OReferenceIdeal.main_arg2)
      ∧ r.2.mem ((c.tc : Thread Cert.OReferenceIdeal.nD Cert.OReferenceIdeal.τ).loc Cert.OReferenceIdeal.main_arg3) = m ((c.tc : Thread Cert.OReferenceIdeal.nD Cert.OReferenceIdeal.τ).loc Cert.OReferenceIdeal.main_arg3))
      ∧ r.2.sem = fun _ => 0)

def quiescent_Ff2Norm [hFf2Norm : Cert.Ff2Norm.Facts] : Prop :=
  ∀ (m : (ℓ : Loc Cert.Ff2Norm.nD Cert.Ff2Norm.τ Cert.Ff2Norm.sig) → Buf (Elt Bits) ℓ) (g : Dev Cert.Ff2Norm.nD → PrngReg), Pre_Ff2Norm m →
    θ_run (Cert.Ff2Norm.defs (F := Bits)) (onTc (τ := Cert.Ff2Norm.τ) (Cert.Ff2Norm.main (F := Bits))) ⟨m, fun _ => 0, g⟩ (fun r => (∀ c : Dev Cert.Ff2Norm.nD,
      r.2.mem ((c.tc : Thread Cert.Ff2Norm.nD Cert.Ff2Norm.τ).loc Cert.Ff2Norm.main_arg0) = m ((c.tc : Thread Cert.Ff2Norm.nD Cert.Ff2Norm.τ).loc Cert.Ff2Norm.main_arg0)
      ∧ r.2.mem ((c.tc : Thread Cert.Ff2Norm.nD Cert.Ff2Norm.τ).loc Cert.Ff2Norm.main_arg1) = m ((c.tc : Thread Cert.Ff2Norm.nD Cert.Ff2Norm.τ).loc Cert.Ff2Norm.main_arg1)
      ∧ r.2.mem ((c.tc : Thread Cert.Ff2Norm.nD Cert.Ff2Norm.τ).loc Cert.Ff2Norm.main_arg2) = m ((c.tc : Thread Cert.Ff2Norm.nD Cert.Ff2Norm.τ).loc Cert.Ff2Norm.main_arg2)
      ∧ r.2.mem ((c.tc : Thread Cert.Ff2Norm.nD Cert.Ff2Norm.τ).loc Cert.Ff2Norm.main_arg3) = m ((c.tc : Thread Cert.Ff2Norm.nD Cert.Ff2Norm.τ).loc Cert.Ff2Norm.main_arg3))
      ∧ r.2.sem = fun _ => 0)

def quiescent_Ff2NormIdeal [hFf2NormIdeal : Cert.Ff2NormIdeal.Facts] : Prop :=
  ∀ (m : (ℓ : Loc Cert.Ff2NormIdeal.nD Cert.Ff2NormIdeal.τ Cert.Ff2NormIdeal.sig) → Buf (Elt Ideal) ℓ) (g : Dev Cert.Ff2NormIdeal.nD → PrngReg), Pre_Ff2NormIdeal m →
    θ_run (Cert.Ff2NormIdeal.defs (F := Ideal)) (onTc (τ := Cert.Ff2NormIdeal.τ) (Cert.Ff2NormIdeal.main (F := Ideal))) ⟨m, fun _ => 0, g⟩ (fun r => (∀ c : Dev Cert.Ff2NormIdeal.nD,
      r.2.mem ((c.tc : Thread Cert.Ff2NormIdeal.nD Cert.Ff2NormIdeal.τ).loc Cert.Ff2NormIdeal.main_arg0) = m ((c.tc : Thread Cert.Ff2NormIdeal.nD Cert.Ff2NormIdeal.τ).loc Cert.Ff2NormIdeal.main_arg0)
      ∧ r.2.mem ((c.tc : Thread Cert.Ff2NormIdeal.nD Cert.Ff2NormIdeal.τ).loc Cert.Ff2NormIdeal.main_arg1) = m ((c.tc : Thread Cert.Ff2NormIdeal.nD Cert.Ff2NormIdeal.τ).loc Cert.Ff2NormIdeal.main_arg1)
      ∧ r.2.mem ((c.tc : Thread Cert.Ff2NormIdeal.nD Cert.Ff2NormIdeal.τ).loc Cert.Ff2NormIdeal.main_arg2) = m ((c.tc : Thread Cert.Ff2NormIdeal.nD Cert.Ff2NormIdeal.τ).loc Cert.Ff2NormIdeal.main_arg2)
      ∧ r.2.mem ((c.tc : Thread Cert.Ff2NormIdeal.nD Cert.Ff2NormIdeal.τ).loc Cert.Ff2NormIdeal.main_arg3) = m ((c.tc : Thread Cert.Ff2NormIdeal.nD Cert.Ff2NormIdeal.τ).loc Cert.Ff2NormIdeal.main_arg3))
      ∧ r.2.sem = fun _ => 0)

def quiescent_Ff2NormReferenceIdeal [hFf2NormReferenceIdeal : Cert.Ff2NormReferenceIdeal.Facts] : Prop :=
  ∀ (m : (ℓ : Loc Cert.Ff2NormReferenceIdeal.nD Cert.Ff2NormReferenceIdeal.τ Cert.Ff2NormReferenceIdeal.sig) → Buf (Elt Ideal) ℓ) (g : Dev Cert.Ff2NormReferenceIdeal.nD → PrngReg), Pre_Ff2NormReferenceIdeal m →
    θ_run (Cert.Ff2NormReferenceIdeal.defs (F := Ideal)) (onTc (τ := Cert.Ff2NormReferenceIdeal.τ) (Cert.Ff2NormReferenceIdeal.main (F := Ideal))) ⟨m, fun _ => 0, g⟩ (fun r => (∀ c : Dev Cert.Ff2NormReferenceIdeal.nD,
      r.2.mem ((c.tc : Thread Cert.Ff2NormReferenceIdeal.nD Cert.Ff2NormReferenceIdeal.τ).loc Cert.Ff2NormReferenceIdeal.main_arg0) = m ((c.tc : Thread Cert.Ff2NormReferenceIdeal.nD Cert.Ff2NormReferenceIdeal.τ).loc Cert.Ff2NormReferenceIdeal.main_arg0)
      ∧ r.2.mem ((c.tc : Thread Cert.Ff2NormReferenceIdeal.nD Cert.Ff2NormReferenceIdeal.τ).loc Cert.Ff2NormReferenceIdeal.main_arg1) = m ((c.tc : Thread Cert.Ff2NormReferenceIdeal.nD Cert.Ff2NormReferenceIdeal.τ).loc Cert.Ff2NormReferenceIdeal.main_arg1)
      ∧ r.2.mem ((c.tc : Thread Cert.Ff2NormReferenceIdeal.nD Cert.Ff2NormReferenceIdeal.τ).loc Cert.Ff2NormReferenceIdeal.main_arg2) = m ((c.tc : Thread Cert.Ff2NormReferenceIdeal.nD Cert.Ff2NormReferenceIdeal.τ).loc Cert.Ff2NormReferenceIdeal.main_arg2)
      ∧ r.2.mem ((c.tc : Thread Cert.Ff2NormReferenceIdeal.nD Cert.Ff2NormReferenceIdeal.τ).loc Cert.Ff2NormReferenceIdeal.main_arg3) = m ((c.tc : Thread Cert.Ff2NormReferenceIdeal.nD Cert.Ff2NormReferenceIdeal.τ).loc Cert.Ff2NormReferenceIdeal.main_arg3))
      ∧ r.2.sem = fun _ => 0)

def quiescent_DwPoolUp [hDwPoolUp : Cert.DwPoolUp.Facts] : Prop :=
  ∀ (m : (ℓ : Loc Cert.DwPoolUp.nD Cert.DwPoolUp.τ Cert.DwPoolUp.sig) → Buf (Elt Bits) ℓ) (g : Dev Cert.DwPoolUp.nD → PrngReg), Pre_DwPoolUp m →
    θ_run (Cert.DwPoolUp.defs (F := Bits)) (onTc (τ := Cert.DwPoolUp.τ) (Cert.DwPoolUp.main (F := Bits))) ⟨m, fun _ => 0, g⟩ (fun r => (∀ c : Dev Cert.DwPoolUp.nD,
      r.2.mem ((c.tc : Thread Cert.DwPoolUp.nD Cert.DwPoolUp.τ).loc Cert.DwPoolUp.main_arg0) = m ((c.tc : Thread Cert.DwPoolUp.nD Cert.DwPoolUp.τ).loc Cert.DwPoolUp.main_arg0)
      ∧ r.2.mem ((c.tc : Thread Cert.DwPoolUp.nD Cert.DwPoolUp.τ).loc Cert.DwPoolUp.main_arg1) = m ((c.tc : Thread Cert.DwPoolUp.nD Cert.DwPoolUp.τ).loc Cert.DwPoolUp.main_arg1))
      ∧ r.2.sem = fun _ => 0)

def quiescent_DwPoolUpIdeal [hDwPoolUpIdeal : Cert.DwPoolUpIdeal.Facts] : Prop :=
  ∀ (m : (ℓ : Loc Cert.DwPoolUpIdeal.nD Cert.DwPoolUpIdeal.τ Cert.DwPoolUpIdeal.sig) → Buf (Elt Ideal) ℓ) (g : Dev Cert.DwPoolUpIdeal.nD → PrngReg), Pre_DwPoolUpIdeal m →
    θ_run (Cert.DwPoolUpIdeal.defs (F := Ideal)) (onTc (τ := Cert.DwPoolUpIdeal.τ) (Cert.DwPoolUpIdeal.main (F := Ideal))) ⟨m, fun _ => 0, g⟩ (fun r => (∀ c : Dev Cert.DwPoolUpIdeal.nD,
      r.2.mem ((c.tc : Thread Cert.DwPoolUpIdeal.nD Cert.DwPoolUpIdeal.τ).loc Cert.DwPoolUpIdeal.main_arg0) = m ((c.tc : Thread Cert.DwPoolUpIdeal.nD Cert.DwPoolUpIdeal.τ).loc Cert.DwPoolUpIdeal.main_arg0)
      ∧ r.2.mem ((c.tc : Thread Cert.DwPoolUpIdeal.nD Cert.DwPoolUpIdeal.τ).loc Cert.DwPoolUpIdeal.main_arg1) = m ((c.tc : Thread Cert.DwPoolUpIdeal.nD Cert.DwPoolUpIdeal.τ).loc Cert.DwPoolUpIdeal.main_arg1))
      ∧ r.2.sem = fun _ => 0)

def quiescent_DwPoolUpReferenceIdeal [hDwPoolUpReferenceIdeal : Cert.DwPoolUpReferenceIdeal.Facts] : Prop :=
  ∀ (m : (ℓ : Loc Cert.DwPoolUpReferenceIdeal.nD Cert.DwPoolUpReferenceIdeal.τ Cert.DwPoolUpReferenceIdeal.sig) → Buf (Elt Ideal) ℓ) (g : Dev Cert.DwPoolUpReferenceIdeal.nD → PrngReg), Pre_DwPoolUpReferenceIdeal m →
    θ_run (Cert.DwPoolUpReferenceIdeal.defs (F := Ideal)) (onTc (τ := Cert.DwPoolUpReferenceIdeal.τ) (Cert.DwPoolUpReferenceIdeal.main (F := Ideal))) ⟨m, fun _ => 0, g⟩ (fun r => (∀ c : Dev Cert.DwPoolUpReferenceIdeal.nD,
      r.2.mem ((c.tc : Thread Cert.DwPoolUpReferenceIdeal.nD Cert.DwPoolUpReferenceIdeal.τ).loc Cert.DwPoolUpReferenceIdeal.main_arg0) = m ((c.tc : Thread Cert.DwPoolUpReferenceIdeal.nD Cert.DwPoolUpReferenceIdeal.τ).loc Cert.DwPoolUpReferenceIdeal.main_arg0)
      ∧ r.2.mem ((c.tc : Thread Cert.DwPoolUpReferenceIdeal.nD Cert.DwPoolUpReferenceIdeal.τ).loc Cert.DwPoolUpReferenceIdeal.main_arg1) = m ((c.tc : Thread Cert.DwPoolUpReferenceIdeal.nD Cert.DwPoolUpReferenceIdeal.τ).loc Cert.DwPoolUpReferenceIdeal.main_arg1))
      ∧ r.2.sem = fun _ => 0)

def quiescent_DactB [hDactB : Cert.DactB.Facts] : Prop :=
  ∀ (m : (ℓ : Loc Cert.DactB.nD Cert.DactB.τ Cert.DactB.sig) → Buf (Elt Bits) ℓ) (g : Dev Cert.DactB.nD → PrngReg), Pre_DactB m →
    θ_run (Cert.DactB.defs (F := Bits)) (onTc (τ := Cert.DactB.τ) (Cert.DactB.main (F := Bits))) ⟨m, fun _ => 0, g⟩ (fun r => (∀ c : Dev Cert.DactB.nD,
      r.2.mem ((c.tc : Thread Cert.DactB.nD Cert.DactB.τ).loc Cert.DactB.main_arg0) = m ((c.tc : Thread Cert.DactB.nD Cert.DactB.τ).loc Cert.DactB.main_arg0)
      ∧ r.2.mem ((c.tc : Thread Cert.DactB.nD Cert.DactB.τ).loc Cert.DactB.main_arg1) = m ((c.tc : Thread Cert.DactB.nD Cert.DactB.τ).loc Cert.DactB.main_arg1)
      ∧ r.2.mem ((c.tc : Thread Cert.DactB.nD Cert.DactB.τ).loc Cert.DactB.main_arg2) = m ((c.tc : Thread Cert.DactB.nD Cert.DactB.τ).loc Cert.DactB.main_arg2))
      ∧ r.2.sem = fun _ => 0)

def quiescent_DactBIdeal [hDactBIdeal : Cert.DactBIdeal.Facts] : Prop :=
  ∀ (m : (ℓ : Loc Cert.DactBIdeal.nD Cert.DactBIdeal.τ Cert.DactBIdeal.sig) → Buf (Elt Ideal) ℓ) (g : Dev Cert.DactBIdeal.nD → PrngReg), Pre_DactBIdeal m →
    θ_run (Cert.DactBIdeal.defs (F := Ideal)) (onTc (τ := Cert.DactBIdeal.τ) (Cert.DactBIdeal.main (F := Ideal))) ⟨m, fun _ => 0, g⟩ (fun r => (∀ c : Dev Cert.DactBIdeal.nD,
      r.2.mem ((c.tc : Thread Cert.DactBIdeal.nD Cert.DactBIdeal.τ).loc Cert.DactBIdeal.main_arg0) = m ((c.tc : Thread Cert.DactBIdeal.nD Cert.DactBIdeal.τ).loc Cert.DactBIdeal.main_arg0)
      ∧ r.2.mem ((c.tc : Thread Cert.DactBIdeal.nD Cert.DactBIdeal.τ).loc Cert.DactBIdeal.main_arg1) = m ((c.tc : Thread Cert.DactBIdeal.nD Cert.DactBIdeal.τ).loc Cert.DactBIdeal.main_arg1)
      ∧ r.2.mem ((c.tc : Thread Cert.DactBIdeal.nD Cert.DactBIdeal.τ).loc Cert.DactBIdeal.main_arg2) = m ((c.tc : Thread Cert.DactBIdeal.nD Cert.DactBIdeal.τ).loc Cert.DactBIdeal.main_arg2))
      ∧ r.2.sem = fun _ => 0)

def quiescent_DactBReferenceIdeal [hDactBReferenceIdeal : Cert.DactBReferenceIdeal.Facts] : Prop :=
  ∀ (m : (ℓ : Loc Cert.DactBReferenceIdeal.nD Cert.DactBReferenceIdeal.τ Cert.DactBReferenceIdeal.sig) → Buf (Elt Ideal) ℓ) (g : Dev Cert.DactBReferenceIdeal.nD → PrngReg), Pre_DactBReferenceIdeal m →
    θ_run (Cert.DactBReferenceIdeal.defs (F := Ideal)) (onTc (τ := Cert.DactBReferenceIdeal.τ) (Cert.DactBReferenceIdeal.main (F := Ideal))) ⟨m, fun _ => 0, g⟩ (fun r => (∀ c : Dev Cert.DactBReferenceIdeal.nD,
      r.2.mem ((c.tc : Thread Cert.DactBReferenceIdeal.nD Cert.DactBReferenceIdeal.τ).loc Cert.DactBReferenceIdeal.main_arg0) = m ((c.tc : Thread Cert.DactBReferenceIdeal.nD Cert.DactBReferenceIdeal.τ).loc Cert.DactBReferenceIdeal.main_arg0)
      ∧ r.2.mem ((c.tc : Thread Cert.DactBReferenceIdeal.nD Cert.DactBReferenceIdeal.τ).loc Cert.DactBReferenceIdeal.main_arg1) = m ((c.tc : Thread Cert.DactBReferenceIdeal.nD Cert.DactBReferenceIdeal.τ).loc Cert.DactBReferenceIdeal.main_arg1)
      ∧ r.2.mem ((c.tc : Thread Cert.DactBReferenceIdeal.nD Cert.DactBReferenceIdeal.τ).loc Cert.DactBReferenceIdeal.main_arg2) = m ((c.tc : Thread Cert.DactBReferenceIdeal.nD Cert.DactBReferenceIdeal.τ).loc Cert.DactBReferenceIdeal.main_arg2))
      ∧ r.2.sem = fun _ => 0)

def quiescent_DwFf2L [hDwFf2L : Cert.DwFf2L.Facts] : Prop :=
  ∀ (m : (ℓ : Loc Cert.DwFf2L.nD Cert.DwFf2L.τ Cert.DwFf2L.sig) → Buf (Elt Bits) ℓ) (g : Dev Cert.DwFf2L.nD → PrngReg), Pre_DwFf2L m →
    θ_run (Cert.DwFf2L.defs (F := Bits)) (onTc (τ := Cert.DwFf2L.τ) (Cert.DwFf2L.main (F := Bits))) ⟨m, fun _ => 0, g⟩ (fun r => (∀ c : Dev Cert.DwFf2L.nD,
      r.2.mem ((c.tc : Thread Cert.DwFf2L.nD Cert.DwFf2L.τ).loc Cert.DwFf2L.main_arg0) = m ((c.tc : Thread Cert.DwFf2L.nD Cert.DwFf2L.τ).loc Cert.DwFf2L.main_arg0)
      ∧ r.2.mem ((c.tc : Thread Cert.DwFf2L.nD Cert.DwFf2L.τ).loc Cert.DwFf2L.main_arg1) = m ((c.tc : Thread Cert.DwFf2L.nD Cert.DwFf2L.τ).loc Cert.DwFf2L.main_arg1))
      ∧ r.2.sem = fun _ => 0)

def quiescent_DwFf2LIdeal [hDwFf2LIdeal : Cert.DwFf2LIdeal.Facts] : Prop :=
  ∀ (m : (ℓ : Loc Cert.DwFf2LIdeal.nD Cert.DwFf2LIdeal.τ Cert.DwFf2LIdeal.sig) → Buf (Elt Ideal) ℓ) (g : Dev Cert.DwFf2LIdeal.nD → PrngReg), Pre_DwFf2LIdeal m →
    θ_run (Cert.DwFf2LIdeal.defs (F := Ideal)) (onTc (τ := Cert.DwFf2LIdeal.τ) (Cert.DwFf2LIdeal.main (F := Ideal))) ⟨m, fun _ => 0, g⟩ (fun r => (∀ c : Dev Cert.DwFf2LIdeal.nD,
      r.2.mem ((c.tc : Thread Cert.DwFf2LIdeal.nD Cert.DwFf2LIdeal.τ).loc Cert.DwFf2LIdeal.main_arg0) = m ((c.tc : Thread Cert.DwFf2LIdeal.nD Cert.DwFf2LIdeal.τ).loc Cert.DwFf2LIdeal.main_arg0)
      ∧ r.2.mem ((c.tc : Thread Cert.DwFf2LIdeal.nD Cert.DwFf2LIdeal.τ).loc Cert.DwFf2LIdeal.main_arg1) = m ((c.tc : Thread Cert.DwFf2LIdeal.nD Cert.DwFf2LIdeal.τ).loc Cert.DwFf2LIdeal.main_arg1))
      ∧ r.2.sem = fun _ => 0)

def quiescent_DwFf2LReferenceIdeal [hDwFf2LReferenceIdeal : Cert.DwFf2LReferenceIdeal.Facts] : Prop :=
  ∀ (m : (ℓ : Loc Cert.DwFf2LReferenceIdeal.nD Cert.DwFf2LReferenceIdeal.τ Cert.DwFf2LReferenceIdeal.sig) → Buf (Elt Ideal) ℓ) (g : Dev Cert.DwFf2LReferenceIdeal.nD → PrngReg), Pre_DwFf2LReferenceIdeal m →
    θ_run (Cert.DwFf2LReferenceIdeal.defs (F := Ideal)) (onTc (τ := Cert.DwFf2LReferenceIdeal.τ) (Cert.DwFf2LReferenceIdeal.main (F := Ideal))) ⟨m, fun _ => 0, g⟩ (fun r => (∀ c : Dev Cert.DwFf2LReferenceIdeal.nD,
      r.2.mem ((c.tc : Thread Cert.DwFf2LReferenceIdeal.nD Cert.DwFf2LReferenceIdeal.τ).loc Cert.DwFf2LReferenceIdeal.main_arg0) = m ((c.tc : Thread Cert.DwFf2LReferenceIdeal.nD Cert.DwFf2LReferenceIdeal.τ).loc Cert.DwFf2LReferenceIdeal.main_arg0)
      ∧ r.2.mem ((c.tc : Thread Cert.DwFf2LReferenceIdeal.nD Cert.DwFf2LReferenceIdeal.τ).loc Cert.DwFf2LReferenceIdeal.main_arg1) = m ((c.tc : Thread Cert.DwFf2LReferenceIdeal.nD Cert.DwFf2LReferenceIdeal.τ).loc Cert.DwFf2LReferenceIdeal.main_arg1))
      ∧ r.2.sem = fun _ => 0)

def preserves_Ssd_SsdIdeal : Prop :=
  True

def algebraic_SsdIdeal_SsdReferenceIdeal_pre_finite_steps [hSsdIdeal : Cert.SsdIdeal.Facts] [hSsdReferenceIdeal : Cert.SsdReferenceIdeal.Facts] [hPre_finite_steps : Cert.Pre_finite_steps.Facts] : Prop :=
  ∀ (m : (ℓ : Loc Cert.SsdIdeal.nD Cert.SsdIdeal.τ Cert.SsdIdeal.sig) → Buf (Elt Ideal) ℓ) (g : Dev Cert.SsdIdeal.nD → PrngReg)
    (m' : (ℓ : Loc Cert.SsdReferenceIdeal.nD Cert.SsdReferenceIdeal.τ Cert.SsdReferenceIdeal.sig) → Buf (Elt Ideal) ℓ) (g' : Dev Cert.SsdReferenceIdeal.nD → PrngReg), Pre_SsdIdeal_finite_steps m →
    (∀ c : Dev Cert.SsdIdeal.nD,
      m' ((c.tc : Thread Cert.SsdReferenceIdeal.nD Cert.SsdReferenceIdeal.τ).loc Cert.SsdReferenceIdeal.main_arg0) = m ((c.tc : Thread Cert.SsdIdeal.nD Cert.SsdIdeal.τ).loc Cert.SsdIdeal.main_arg0)
      ∧ m' ((c.tc : Thread Cert.SsdReferenceIdeal.nD Cert.SsdReferenceIdeal.τ).loc Cert.SsdReferenceIdeal.main_arg1) = m ((c.tc : Thread Cert.SsdIdeal.nD Cert.SsdIdeal.τ).loc Cert.SsdIdeal.main_arg1)
      ∧ m' ((c.tc : Thread Cert.SsdReferenceIdeal.nD Cert.SsdReferenceIdeal.τ).loc Cert.SsdReferenceIdeal.main_arg2) = m ((c.tc : Thread Cert.SsdIdeal.nD Cert.SsdIdeal.τ).loc Cert.SsdIdeal.main_arg2)
      ∧ m' ((c.tc : Thread Cert.SsdReferenceIdeal.nD Cert.SsdReferenceIdeal.τ).loc Cert.SsdReferenceIdeal.main_arg3) = m ((c.tc : Thread Cert.SsdIdeal.nD Cert.SsdIdeal.τ).loc Cert.SsdIdeal.main_arg3)
      ∧ m' ((c.tc : Thread Cert.SsdReferenceIdeal.nD Cert.SsdReferenceIdeal.τ).loc Cert.SsdReferenceIdeal.main_arg4) = m ((c.tc : Thread Cert.SsdIdeal.nD Cert.SsdIdeal.τ).loc Cert.SsdIdeal.main_arg4)) →
    ∃ (v0 : (c : Dev Cert.SsdIdeal.nD) → Buf (Elt Ideal) ((c.tc : Thread Cert.SsdIdeal.nD Cert.SsdIdeal.τ).loc Cert.SsdIdeal.main_v51_0)) (v1 : (c : Dev Cert.SsdIdeal.nD) → Buf (Elt Ideal) ((c.tc : Thread Cert.SsdIdeal.nD Cert.SsdIdeal.τ).loc Cert.SsdIdeal.main_v51_1)) (v2 : (c : Dev Cert.SsdIdeal.nD) → Buf (Elt Ideal) ((c.tc : Thread Cert.SsdIdeal.nD Cert.SsdIdeal.τ).loc Cert.SsdIdeal.main_v51_2)),
      θ_run (Cert.SsdIdeal.defs (F := Ideal)) (onTc (τ := Cert.SsdIdeal.τ) (Cert.SsdIdeal.main (F := Ideal))) ⟨m, fun _ => 0, g⟩ (fun r => ∀ c : Dev Cert.SsdIdeal.nD,
          r.2.mem ((c.tc : Thread Cert.SsdIdeal.nD Cert.SsdIdeal.τ).loc Cert.SsdIdeal.main_v51_0) = v0 c
          ∧ r.2.mem ((c.tc : Thread Cert.SsdIdeal.nD Cert.SsdIdeal.τ).loc Cert.SsdIdeal.main_v51_1) = v1 c
          ∧ r.2.mem ((c.tc : Thread Cert.SsdIdeal.nD Cert.SsdIdeal.τ).loc Cert.SsdIdeal.main_v51_2) = v2 c
          ∧ r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
          ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
          ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
          ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
          ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4))
      ∧ θ_run (Cert.SsdReferenceIdeal.defs (F := Ideal)) (onTc (τ := Cert.SsdReferenceIdeal.τ) (Cert.SsdReferenceIdeal.main (F := Ideal))) ⟨m', fun _ => 0, g'⟩ (fun r => ∀ c : Dev Cert.SsdReferenceIdeal.nD,
          r.2.mem ((c.tc : Thread Cert.SsdReferenceIdeal.nD Cert.SsdReferenceIdeal.τ).loc Cert.SsdReferenceIdeal.main_v347) = v0 c
          ∧ r.2.mem ((c.tc : Thread Cert.SsdReferenceIdeal.nD Cert.SsdReferenceIdeal.τ).loc Cert.SsdReferenceIdeal.main_v346) = v1 c
          ∧ r.2.mem ((c.tc : Thread Cert.SsdReferenceIdeal.nD Cert.SsdReferenceIdeal.τ).loc Cert.SsdReferenceIdeal.main_v345) = v2 c
          ∧ r.2.mem ((c.tc : Thread Cert.SsdReferenceIdeal.nD Cert.SsdReferenceIdeal.τ).loc Cert.SsdReferenceIdeal.main_arg0) = m' ((c.tc : Thread Cert.SsdReferenceIdeal.nD Cert.SsdReferenceIdeal.τ).loc Cert.SsdReferenceIdeal.main_arg0)
          ∧ r.2.mem ((c.tc : Thread Cert.SsdReferenceIdeal.nD Cert.SsdReferenceIdeal.τ).loc Cert.SsdReferenceIdeal.main_arg1) = m' ((c.tc : Thread Cert.SsdReferenceIdeal.nD Cert.SsdReferenceIdeal.τ).loc Cert.SsdReferenceIdeal.main_arg1)
          ∧ r.2.mem ((c.tc : Thread Cert.SsdReferenceIdeal.nD Cert.SsdReferenceIdeal.τ).loc Cert.SsdReferenceIdeal.main_arg2) = m' ((c.tc : Thread Cert.SsdReferenceIdeal.nD Cert.SsdReferenceIdeal.τ).loc Cert.SsdReferenceIdeal.main_arg2)
          ∧ r.2.mem ((c.tc : Thread Cert.SsdReferenceIdeal.nD Cert.SsdReferenceIdeal.τ).loc Cert.SsdReferenceIdeal.main_arg3) = m' ((c.tc : Thread Cert.SsdReferenceIdeal.nD Cert.SsdReferenceIdeal.τ).loc Cert.SsdReferenceIdeal.main_arg3)
          ∧ r.2.mem ((c.tc : Thread Cert.SsdReferenceIdeal.nD Cert.SsdReferenceIdeal.τ).loc Cert.SsdReferenceIdeal.main_arg4) = m' ((c.tc : Thread Cert.SsdReferenceIdeal.nD Cert.SsdReferenceIdeal.τ).loc Cert.SsdReferenceIdeal.main_arg4))

def preserves_Dact_DactIdeal : Prop :=
  True

def algebraic_DactIdeal_DactReferenceIdeal [hDactIdeal : Cert.DactIdeal.Facts] [hDactReferenceIdeal : Cert.DactReferenceIdeal.Facts] : Prop :=
  ∀ (m : (ℓ : Loc Cert.DactIdeal.nD Cert.DactIdeal.τ Cert.DactIdeal.sig) → Buf (Elt Ideal) ℓ) (g : Dev Cert.DactIdeal.nD → PrngReg)
    (m' : (ℓ : Loc Cert.DactReferenceIdeal.nD Cert.DactReferenceIdeal.τ Cert.DactReferenceIdeal.sig) → Buf (Elt Ideal) ℓ) (g' : Dev Cert.DactReferenceIdeal.nD → PrngReg), Pre_DactIdeal m →
    (∀ c : Dev Cert.DactIdeal.nD,
      m' ((c.tc : Thread Cert.DactReferenceIdeal.nD Cert.DactReferenceIdeal.τ).loc Cert.DactReferenceIdeal.main_arg0) = m ((c.tc : Thread Cert.DactIdeal.nD Cert.DactIdeal.τ).loc Cert.DactIdeal.main_arg0)
      ∧ m' ((c.tc : Thread Cert.DactReferenceIdeal.nD Cert.DactReferenceIdeal.τ).loc Cert.DactReferenceIdeal.main_arg1) = m ((c.tc : Thread Cert.DactIdeal.nD Cert.DactIdeal.τ).loc Cert.DactIdeal.main_arg1)
      ∧ m' ((c.tc : Thread Cert.DactReferenceIdeal.nD Cert.DactReferenceIdeal.τ).loc Cert.DactReferenceIdeal.main_arg2) = m ((c.tc : Thread Cert.DactIdeal.nD Cert.DactIdeal.τ).loc Cert.DactIdeal.main_arg2)) →
    ∃ (v0 : (c : Dev Cert.DactIdeal.nD) → Buf (Elt Ideal) ((c.tc : Thread Cert.DactIdeal.nD Cert.DactIdeal.τ).loc Cert.DactIdeal.main_v1)),
      θ_run (Cert.DactIdeal.defs (F := Ideal)) (onTc (τ := Cert.DactIdeal.τ) (Cert.DactIdeal.main (F := Ideal))) ⟨m, fun _ => 0, g⟩ (fun r => ∀ c : Dev Cert.DactIdeal.nD,
          r.2.mem ((c.tc : Thread Cert.DactIdeal.nD Cert.DactIdeal.τ).loc Cert.DactIdeal.main_v1) = v0 c
          ∧ r.2.mem ((c.tc : Thread Cert.DactIdeal.nD Cert.DactIdeal.τ).loc Cert.DactIdeal.main_arg0) = m ((c.tc : Thread Cert.DactIdeal.nD Cert.DactIdeal.τ).loc Cert.DactIdeal.main_arg0)
          ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
          ∧ r.2.mem ((c.tc : Thread Cert.DactIdeal.nD Cert.DactIdeal.τ).loc Cert.DactIdeal.main_arg2) = m ((c.tc : Thread Cert.DactIdeal.nD Cert.DactIdeal.τ).loc Cert.DactIdeal.main_arg2))
      ∧ θ_run (Cert.DactReferenceIdeal.defs (F := Ideal)) (onTc (τ := Cert.DactReferenceIdeal.τ) (Cert.DactReferenceIdeal.main (F := Ideal))) ⟨m', fun _ => 0, g'⟩ (fun r => ∀ c : Dev Cert.DactReferenceIdeal.nD,
          r.2.mem ((c.tc : Thread Cert.DactReferenceIdeal.nD Cert.DactReferenceIdeal.τ).loc Cert.DactReferenceIdeal.main_v12) = v0 c
          ∧ r.2.mem ((c.tc : Thread Cert.DactReferenceIdeal.nD Cert.DactReferenceIdeal.τ).loc Cert.DactReferenceIdeal.main_arg0) = m' ((c.tc : Thread Cert.DactReferenceIdeal.nD Cert.DactReferenceIdeal.τ).loc Cert.DactReferenceIdeal.main_arg0)
          ∧ r.2.mem ((c.tc : Thread Cert.DactReferenceIdeal.nD Cert.DactReferenceIdeal.τ).loc Cert.DactReferenceIdeal.main_arg1) = m' ((c.tc : Thread Cert.DactReferenceIdeal.nD Cert.DactReferenceIdeal.τ).loc Cert.DactReferenceIdeal.main_arg1)
          ∧ r.2.mem ((c.tc : Thread Cert.DactReferenceIdeal.nD Cert.DactReferenceIdeal.τ).loc Cert.DactReferenceIdeal.main_arg2) = m' ((c.tc : Thread Cert.DactReferenceIdeal.nD Cert.DactReferenceIdeal.τ).loc Cert.DactReferenceIdeal.main_arg2))

def preserves_DwFf1_DwFf1Ideal : Prop :=
  True

def algebraic_DwFf1Ideal_DwFf1ReferenceIdeal [hDwFf1Ideal : Cert.DwFf1Ideal.Facts] [hDwFf1ReferenceIdeal : Cert.DwFf1ReferenceIdeal.Facts] : Prop :=
  ∀ (m : (ℓ : Loc Cert.DwFf1Ideal.nD Cert.DwFf1Ideal.τ Cert.DwFf1Ideal.sig) → Buf (Elt Ideal) ℓ) (g : Dev Cert.DwFf1Ideal.nD → PrngReg)
    (m' : (ℓ : Loc Cert.DwFf1ReferenceIdeal.nD Cert.DwFf1ReferenceIdeal.τ Cert.DwFf1ReferenceIdeal.sig) → Buf (Elt Ideal) ℓ) (g' : Dev Cert.DwFf1ReferenceIdeal.nD → PrngReg), Pre_DwFf1Ideal m →
    (∀ c : Dev Cert.DwFf1Ideal.nD,
      m' ((c.tc : Thread Cert.DwFf1ReferenceIdeal.nD Cert.DwFf1ReferenceIdeal.τ).loc Cert.DwFf1ReferenceIdeal.main_arg0) = m ((c.tc : Thread Cert.DwFf1Ideal.nD Cert.DwFf1Ideal.τ).loc Cert.DwFf1Ideal.main_arg0)
      ∧ m' ((c.tc : Thread Cert.DwFf1ReferenceIdeal.nD Cert.DwFf1ReferenceIdeal.τ).loc Cert.DwFf1ReferenceIdeal.main_arg1) = m ((c.tc : Thread Cert.DwFf1Ideal.nD Cert.DwFf1Ideal.τ).loc Cert.DwFf1Ideal.main_arg1)) →
    ∃ (v0 : (c : Dev Cert.DwFf1Ideal.nD) → Buf (Elt Ideal) ((c.tc : Thread Cert.DwFf1Ideal.nD Cert.DwFf1Ideal.τ).loc Cert.DwFf1Ideal.main_v2)),
      θ_run (Cert.DwFf1Ideal.defs (F := Ideal)) (onTc (τ := Cert.DwFf1Ideal.τ) (Cert.DwFf1Ideal.main (F := Ideal))) ⟨m, fun _ => 0, g⟩ (fun r => ∀ c : Dev Cert.DwFf1Ideal.nD,
          r.2.mem ((c.tc : Thread Cert.DwFf1Ideal.nD Cert.DwFf1Ideal.τ).loc Cert.DwFf1Ideal.main_v2) = v0 c
          ∧ r.2.mem ((c.tc : Thread Cert.DwFf1Ideal.nD Cert.DwFf1Ideal.τ).loc Cert.DwFf1Ideal.main_arg0) = m ((c.tc : Thread Cert.DwFf1Ideal.nD Cert.DwFf1Ideal.τ).loc Cert.DwFf1Ideal.main_arg0)
          ∧ r.2.mem ((c.tc : Thread Cert.DwFf1Ideal.nD Cert.DwFf1Ideal.τ).loc Cert.DwFf1Ideal.main_arg1) = m ((c.tc : Thread Cert.DwFf1Ideal.nD Cert.DwFf1Ideal.τ).loc Cert.DwFf1Ideal.main_arg1))
      ∧ θ_run (Cert.DwFf1ReferenceIdeal.defs (F := Ideal)) (onTc (τ := Cert.DwFf1ReferenceIdeal.τ) (Cert.DwFf1ReferenceIdeal.main (F := Ideal))) ⟨m', fun _ => 0, g'⟩ (fun r => ∀ c : Dev Cert.DwFf1ReferenceIdeal.nD,
          r.2.mem ((c.tc : Thread Cert.DwFf1ReferenceIdeal.nD Cert.DwFf1ReferenceIdeal.τ).loc Cert.DwFf1ReferenceIdeal.main_v5) = v0 c
          ∧ r.2.mem ((c.tc : Thread Cert.DwFf1ReferenceIdeal.nD Cert.DwFf1ReferenceIdeal.τ).loc Cert.DwFf1ReferenceIdeal.main_arg0) = m' ((c.tc : Thread Cert.DwFf1ReferenceIdeal.nD Cert.DwFf1ReferenceIdeal.τ).loc Cert.DwFf1ReferenceIdeal.main_arg0)
          ∧ r.2.mem ((c.tc : Thread Cert.DwFf1ReferenceIdeal.nD Cert.DwFf1ReferenceIdeal.τ).loc Cert.DwFf1ReferenceIdeal.main_arg1) = m' ((c.tc : Thread Cert.DwFf1ReferenceIdeal.nD Cert.DwFf1ReferenceIdeal.τ).loc Cert.DwFf1ReferenceIdeal.main_arg1))

def preserves_DwFf2_DwFf2Ideal : Prop :=
  True

def algebraic_DwFf2Ideal_DwFf2ReferenceIdeal [hDwFf2Ideal : Cert.DwFf2Ideal.Facts] [hDwFf2ReferenceIdeal : Cert.DwFf2ReferenceIdeal.Facts] : Prop :=
  ∀ (m : (ℓ : Loc Cert.DwFf2Ideal.nD Cert.DwFf2Ideal.τ Cert.DwFf2Ideal.sig) → Buf (Elt Ideal) ℓ) (g : Dev Cert.DwFf2Ideal.nD → PrngReg)
    (m' : (ℓ : Loc Cert.DwFf2ReferenceIdeal.nD Cert.DwFf2ReferenceIdeal.τ Cert.DwFf2ReferenceIdeal.sig) → Buf (Elt Ideal) ℓ) (g' : Dev Cert.DwFf2ReferenceIdeal.nD → PrngReg), Pre_DwFf2Ideal m →
    (∀ c : Dev Cert.DwFf2Ideal.nD,
      m' ((c.tc : Thread Cert.DwFf2ReferenceIdeal.nD Cert.DwFf2ReferenceIdeal.τ).loc Cert.DwFf2ReferenceIdeal.main_arg0) = m ((c.tc : Thread Cert.DwFf2Ideal.nD Cert.DwFf2Ideal.τ).loc Cert.DwFf2Ideal.main_arg0)
      ∧ m' ((c.tc : Thread Cert.DwFf2ReferenceIdeal.nD Cert.DwFf2ReferenceIdeal.τ).loc Cert.DwFf2ReferenceIdeal.main_arg1) = m ((c.tc : Thread Cert.DwFf2Ideal.nD Cert.DwFf2Ideal.τ).loc Cert.DwFf2Ideal.main_arg1)) →
    ∃ (v0 : (c : Dev Cert.DwFf2Ideal.nD) → Buf (Elt Ideal) ((c.tc : Thread Cert.DwFf2Ideal.nD Cert.DwFf2Ideal.τ).loc Cert.DwFf2Ideal.main_v5)),
      θ_run (Cert.DwFf2Ideal.defs (F := Ideal)) (onTc (τ := Cert.DwFf2Ideal.τ) (Cert.DwFf2Ideal.main (F := Ideal))) ⟨m, fun _ => 0, g⟩ (fun r => ∀ c : Dev Cert.DwFf2Ideal.nD,
          r.2.mem ((c.tc : Thread Cert.DwFf2Ideal.nD Cert.DwFf2Ideal.τ).loc Cert.DwFf2Ideal.main_v5) = v0 c
          ∧ r.2.mem ((c.tc : Thread Cert.DwFf2Ideal.nD Cert.DwFf2Ideal.τ).loc Cert.DwFf2Ideal.main_arg0) = m ((c.tc : Thread Cert.DwFf2Ideal.nD Cert.DwFf2Ideal.τ).loc Cert.DwFf2Ideal.main_arg0)
          ∧ r.2.mem ((c.tc : Thread Cert.DwFf2Ideal.nD Cert.DwFf2Ideal.τ).loc Cert.DwFf2Ideal.main_arg1) = m ((c.tc : Thread Cert.DwFf2Ideal.nD Cert.DwFf2Ideal.τ).loc Cert.DwFf2Ideal.main_arg1))
      ∧ θ_run (Cert.DwFf2ReferenceIdeal.defs (F := Ideal)) (onTc (τ := Cert.DwFf2ReferenceIdeal.τ) (Cert.DwFf2ReferenceIdeal.main (F := Ideal))) ⟨m', fun _ => 0, g'⟩ (fun r => ∀ c : Dev Cert.DwFf2ReferenceIdeal.nD,
          r.2.mem ((c.tc : Thread Cert.DwFf2ReferenceIdeal.nD Cert.DwFf2ReferenceIdeal.τ).loc Cert.DwFf2ReferenceIdeal.main_v6) = v0 c
          ∧ r.2.mem ((c.tc : Thread Cert.DwFf2ReferenceIdeal.nD Cert.DwFf2ReferenceIdeal.τ).loc Cert.DwFf2ReferenceIdeal.main_arg0) = m' ((c.tc : Thread Cert.DwFf2ReferenceIdeal.nD Cert.DwFf2ReferenceIdeal.τ).loc Cert.DwFf2ReferenceIdeal.main_arg0)
          ∧ r.2.mem ((c.tc : Thread Cert.DwFf2ReferenceIdeal.nD Cert.DwFf2ReferenceIdeal.τ).loc Cert.DwFf2ReferenceIdeal.main_arg1) = m' ((c.tc : Thread Cert.DwFf2ReferenceIdeal.nD Cert.DwFf2ReferenceIdeal.τ).loc Cert.DwFf2ReferenceIdeal.main_arg1))

def preserves_DwIn_DwInIdeal : Prop :=
  True

def algebraic_DwInIdeal_DwInReferenceIdeal [hDwInIdeal : Cert.DwInIdeal.Facts] [hDwInReferenceIdeal : Cert.DwInReferenceIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInReferenceIdeal.nD Cert.DwInReferenceIdeal.τ Cert.DwInReferenceIdeal.sig) → Buf (Elt Ideal) ℓ) (g' : Dev Cert.DwInReferenceIdeal.nD → PrngReg), Pre_DwInIdeal m →
    (∀ c : Dev Cert.DwInIdeal.nD,
      m' ((c.tc : Thread Cert.DwInReferenceIdeal.nD Cert.DwInReferenceIdeal.τ).loc Cert.DwInReferenceIdeal.main_arg0) = m ((c.tc : Thread Cert.DwInIdeal.nD Cert.DwInIdeal.τ).loc Cert.DwInIdeal.main_arg0)
      ∧ m' ((c.tc : Thread Cert.DwInReferenceIdeal.nD Cert.DwInReferenceIdeal.τ).loc Cert.DwInReferenceIdeal.main_arg1) = m ((c.tc : Thread Cert.DwInIdeal.nD Cert.DwInIdeal.τ).loc Cert.DwInIdeal.main_arg1)) →
    ∃ (v0 : (c : Dev Cert.DwInIdeal.nD) → Buf (Elt Ideal) ((c.tc : Thread Cert.DwInIdeal.nD Cert.DwInIdeal.τ).loc Cert.DwInIdeal.main_v2)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v2) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ θ_run (Cert.DwInReferenceIdeal.defs (F := Ideal)) (onTc (τ := Cert.DwInReferenceIdeal.τ) (Cert.DwInReferenceIdeal.main (F := Ideal))) ⟨m', fun _ => 0, g'⟩ (fun r => ∀ c : Dev Cert.DwInReferenceIdeal.nD,
          r.2.mem ((c.tc : Thread Cert.DwInReferenceIdeal.nD Cert.DwInReferenceIdeal.τ).loc Cert.DwInReferenceIdeal.main_v3) = v0 c
          ∧ r.2.mem ((c.tc : Thread Cert.DwInReferenceIdeal.nD Cert.DwInReferenceIdeal.τ).loc Cert.DwInReferenceIdeal.main_arg0) = m' ((c.tc : Thread Cert.DwInReferenceIdeal.nD Cert.DwInReferenceIdeal.τ).loc Cert.DwInReferenceIdeal.main_arg0)
          ∧ r.2.mem ((c.tc : Thread Cert.DwInReferenceIdeal.nD Cert.DwInReferenceIdeal.τ).loc Cert.DwInReferenceIdeal.main_arg1) = m' ((c.tc : Thread Cert.DwInReferenceIdeal.nD Cert.DwInReferenceIdeal.τ).loc Cert.DwInReferenceIdeal.main_arg1))

def preserves_DwO_DwOIdeal : Prop :=
  True

def algebraic_DwOIdeal_DwOReferenceIdeal [hDwOIdeal : Cert.DwOIdeal.Facts] [hDwOReferenceIdeal : Cert.DwOReferenceIdeal.Facts] : Prop :=
  ∀ (m : (ℓ : Loc Cert.DwOIdeal.nD Cert.DwOIdeal.τ Cert.DwOIdeal.sig) → Buf (Elt Ideal) ℓ) (g : Dev Cert.DwOIdeal.nD → PrngReg)
    (m' : (ℓ : Loc Cert.DwOReferenceIdeal.nD Cert.DwOReferenceIdeal.τ Cert.DwOReferenceIdeal.sig) → Buf (Elt Ideal) ℓ) (g' : Dev Cert.DwOReferenceIdeal.nD → PrngReg), Pre_DwOIdeal m →
    (∀ c : Dev Cert.DwOIdeal.nD,
      m' ((c.tc : Thread Cert.DwOReferenceIdeal.nD Cert.DwOReferenceIdeal.τ).loc Cert.DwOReferenceIdeal.main_arg0) = m ((c.tc : Thread Cert.DwOIdeal.nD Cert.DwOIdeal.τ).loc Cert.DwOIdeal.main_arg0)
      ∧ m' ((c.tc : Thread Cert.DwOReferenceIdeal.nD Cert.DwOReferenceIdeal.τ).loc Cert.DwOReferenceIdeal.main_arg1) = m ((c.tc : Thread Cert.DwOIdeal.nD Cert.DwOIdeal.τ).loc Cert.DwOIdeal.main_arg1)) →
    ∃ (v0 : (c : Dev Cert.DwOIdeal.nD) → Buf (Elt Ideal) ((c.tc : Thread Cert.DwOIdeal.nD Cert.DwOIdeal.τ).loc Cert.DwOIdeal.main_v2)),
      θ_run (Cert.DwOIdeal.defs (F := Ideal)) (onTc (τ := Cert.DwOIdeal.τ) (Cert.DwOIdeal.main (F := Ideal))) ⟨m, fun _ => 0, g⟩ (fun r => ∀ c : Dev Cert.DwOIdeal.nD,
          r.2.mem ((c.tc : Thread Cert.DwOIdeal.nD Cert.DwOIdeal.τ).loc Cert.DwOIdeal.main_v2) = v0 c
          ∧ r.2.mem ((c.tc : Thread Cert.DwOIdeal.nD Cert.DwOIdeal.τ).loc Cert.DwOIdeal.main_arg0) = m ((c.tc : Thread Cert.DwOIdeal.nD Cert.DwOIdeal.τ).loc Cert.DwOIdeal.main_arg0)
          ∧ r.2.mem ((c.tc : Thread Cert.DwOIdeal.nD Cert.DwOIdeal.τ).loc Cert.DwOIdeal.main_arg1) = m ((c.tc : Thread Cert.DwOIdeal.nD Cert.DwOIdeal.τ).loc Cert.DwOIdeal.main_arg1))
      ∧ θ_run (Cert.DwOReferenceIdeal.defs (F := Ideal)) (onTc (τ := Cert.DwOReferenceIdeal.τ) (Cert.DwOReferenceIdeal.main (F := Ideal))) ⟨m', fun _ => 0, g'⟩ (fun r => ∀ c : Dev Cert.DwOReferenceIdeal.nD,
          r.2.mem ((c.tc : Thread Cert.DwOReferenceIdeal.nD Cert.DwOReferenceIdeal.τ).loc Cert.DwOReferenceIdeal.main_v4) = v0 c
          ∧ r.2.mem ((c.tc : Thread Cert.DwOReferenceIdeal.nD Cert.DwOReferenceIdeal.τ).loc Cert.DwOReferenceIdeal.main_arg0) = m' ((c.tc : Thread Cert.DwOReferenceIdeal.nD Cert.DwOReferenceIdeal.τ).loc Cert.DwOReferenceIdeal.main_arg0)
          ∧ r.2.mem ((c.tc : Thread Cert.DwOReferenceIdeal.nD Cert.DwOReferenceIdeal.τ).loc Cert.DwOReferenceIdeal.main_arg1) = m' ((c.tc : Thread Cert.DwOReferenceIdeal.nD Cert.DwOReferenceIdeal.τ).loc Cert.DwOReferenceIdeal.main_arg1))

def preserves_DwSsdOut_DwSsdOutIdeal : Prop :=
  True

def algebraic_DwSsdOutIdeal_DwSsdOutReferenceIdeal [hDwSsdOutIdeal : Cert.DwSsdOutIdeal.Facts] [hDwSsdOutReferenceIdeal : Cert.DwSsdOutReferenceIdeal.Facts] : Prop :=
  ∀ (m : (ℓ : Loc Cert.DwSsdOutIdeal.nD Cert.DwSsdOutIdeal.τ Cert.DwSsdOutIdeal.sig) → Buf (Elt Ideal) ℓ) (g : Dev Cert.DwSsdOutIdeal.nD → PrngReg)
    (m' : (ℓ : Loc Cert.DwSsdOutReferenceIdeal.nD Cert.DwSsdOutReferenceIdeal.τ Cert.DwSsdOutReferenceIdeal.sig) → Buf (Elt Ideal) ℓ) (g' : Dev Cert.DwSsdOutReferenceIdeal.nD → PrngReg), Pre_DwSsdOutIdeal m →
    (∀ c : Dev Cert.DwSsdOutIdeal.nD,
      m' ((c.tc : Thread Cert.DwSsdOutReferenceIdeal.nD Cert.DwSsdOutReferenceIdeal.τ).loc Cert.DwSsdOutReferenceIdeal.main_arg0) = m ((c.tc : Thread Cert.DwSsdOutIdeal.nD Cert.DwSsdOutIdeal.τ).loc Cert.DwSsdOutIdeal.main_arg0)
      ∧ m' ((c.tc : Thread Cert.DwSsdOutReferenceIdeal.nD Cert.DwSsdOutReferenceIdeal.τ).loc Cert.DwSsdOutReferenceIdeal.main_arg1) = m ((c.tc : Thread Cert.DwSsdOutIdeal.nD Cert.DwSsdOutIdeal.τ).loc Cert.DwSsdOutIdeal.main_arg1)) →
    ∃ (v0 : (c : Dev Cert.DwSsdOutIdeal.nD) → Buf (Elt Ideal) ((c.tc : Thread Cert.DwSsdOutIdeal.nD Cert.DwSsdOutIdeal.τ).loc Cert.DwSsdOutIdeal.main_v2)),
      θ_run (Cert.DwSsdOutIdeal.defs (F := Ideal)) (onTc (τ := Cert.DwSsdOutIdeal.τ) (Cert.DwSsdOutIdeal.main (F := Ideal))) ⟨m, fun _ => 0, g⟩ (fun r => ∀ c : Dev Cert.DwSsdOutIdeal.nD,
          r.2.mem ((c.tc : Thread Cert.DwSsdOutIdeal.nD Cert.DwSsdOutIdeal.τ).loc Cert.DwSsdOutIdeal.main_v2) = v0 c
          ∧ r.2.mem ((c.tc : Thread Cert.DwSsdOutIdeal.nD Cert.DwSsdOutIdeal.τ).loc Cert.DwSsdOutIdeal.main_arg0) = m ((c.tc : Thread Cert.DwSsdOutIdeal.nD Cert.DwSsdOutIdeal.τ).loc Cert.DwSsdOutIdeal.main_arg0)
          ∧ r.2.mem ((c.tc : Thread Cert.DwSsdOutIdeal.nD Cert.DwSsdOutIdeal.τ).loc Cert.DwSsdOutIdeal.main_arg1) = m ((c.tc : Thread Cert.DwSsdOutIdeal.nD Cert.DwSsdOutIdeal.τ).loc Cert.DwSsdOutIdeal.main_arg1))
      ∧ θ_run (Cert.DwSsdOutReferenceIdeal.defs (F := Ideal)) (onTc (τ := Cert.DwSsdOutReferenceIdeal.τ) (Cert.DwSsdOutReferenceIdeal.main (F := Ideal))) ⟨m', fun _ => 0, g'⟩ (fun r => ∀ c : Dev Cert.DwSsdOutReferenceIdeal.nD,
          r.2.mem ((c.tc : Thread Cert.DwSsdOutReferenceIdeal.nD Cert.DwSsdOutReferenceIdeal.τ).loc Cert.DwSsdOutReferenceIdeal.main_v4) = v0 c
          ∧ r.2.mem ((c.tc : Thread Cert.DwSsdOutReferenceIdeal.nD Cert.DwSsdOutReferenceIdeal.τ).loc Cert.DwSsdOutReferenceIdeal.main_arg0) = m' ((c.tc : Thread Cert.DwSsdOutReferenceIdeal.nD Cert.DwSsdOutReferenceIdeal.τ).loc Cert.DwSsdOutReferenceIdeal.main_arg0)
          ∧ r.2.mem ((c.tc : Thread Cert.DwSsdOutReferenceIdeal.nD Cert.DwSsdOutReferenceIdeal.τ).loc Cert.DwSsdOutReferenceIdeal.main_arg1) = m' ((c.tc : Thread Cert.DwSsdOutReferenceIdeal.nD Cert.DwSsdOutReferenceIdeal.τ).loc Cert.DwSsdOutReferenceIdeal.main_arg1))

def preserves_Dyn_DynIdeal : Prop :=
  True

def algebraic_DynIdeal_DynReferenceIdeal [hDynIdeal : Cert.DynIdeal.Facts] [hDynReferenceIdeal : Cert.DynReferenceIdeal.Facts] : Prop :=
  ∀ (m : (ℓ : Loc Cert.DynIdeal.nD Cert.DynIdeal.τ Cert.DynIdeal.sig) → Buf (Elt Ideal) ℓ) (g : Dev Cert.DynIdeal.nD → PrngReg)
    (m' : (ℓ : Loc Cert.DynReferenceIdeal.nD Cert.DynReferenceIdeal.τ Cert.DynReferenceIdeal.sig) → Buf (Elt Ideal) ℓ) (g' : Dev Cert.DynReferenceIdeal.nD → PrngReg), Pre_DynIdeal m →
    (∀ c : Dev Cert.DynIdeal.nD,
      m' ((c.tc : Thread Cert.DynReferenceIdeal.nD Cert.DynReferenceIdeal.τ).loc Cert.DynReferenceIdeal.main_arg0) = m ((c.tc : Thread Cert.DynIdeal.nD Cert.DynIdeal.τ).loc Cert.DynIdeal.main_arg0)
      ∧ m' ((c.tc : Thread Cert.DynReferenceIdeal.nD Cert.DynReferenceIdeal.τ).loc Cert.DynReferenceIdeal.main_arg1) = m ((c.tc : Thread Cert.DynIdeal.nD Cert.DynIdeal.τ).loc Cert.DynIdeal.main_arg1)) →
    ∃ (v0 : (c : Dev Cert.DynIdeal.nD) → Buf (Elt Ideal) ((c.tc : Thread Cert.DynIdeal.nD Cert.DynIdeal.τ).loc Cert.DynIdeal.main_v2)),
      θ_run (Cert.DynIdeal.defs (F := Ideal)) (onTc (τ := Cert.DynIdeal.τ) (Cert.DynIdeal.main (F := Ideal))) ⟨m, fun _ => 0, g⟩ (fun r => ∀ c : Dev Cert.DynIdeal.nD,
          r.2.mem ((c.tc : Thread Cert.DynIdeal.nD Cert.DynIdeal.τ).loc Cert.DynIdeal.main_v2) = v0 c
          ∧ r.2.mem ((c.tc : Thread Cert.DynIdeal.nD Cert.DynIdeal.τ).loc Cert.DynIdeal.main_arg0) = m ((c.tc : Thread Cert.DynIdeal.nD Cert.DynIdeal.τ).loc Cert.DynIdeal.main_arg0)
          ∧ r.2.mem ((c.tc : Thread Cert.DynIdeal.nD Cert.DynIdeal.τ).loc Cert.DynIdeal.main_arg1) = m ((c.tc : Thread Cert.DynIdeal.nD Cert.DynIdeal.τ).loc Cert.DynIdeal.main_arg1))
      ∧ θ_run (Cert.DynReferenceIdeal.defs (F := Ideal)) (onTc (τ := Cert.DynReferenceIdeal.τ) (Cert.DynReferenceIdeal.main (F := Ideal))) ⟨m', fun _ => 0, g'⟩ (fun r => ∀ c : Dev Cert.DynReferenceIdeal.nD,
          r.2.mem ((c.tc : Thread Cert.DynReferenceIdeal.nD Cert.DynReferenceIdeal.τ).loc Cert.DynReferenceIdeal.main_v2) = v0 c
          ∧ r.2.mem ((c.tc : Thread Cert.DynReferenceIdeal.nD Cert.DynReferenceIdeal.τ).loc Cert.DynReferenceIdeal.main_arg0) = m' ((c.tc : Thread Cert.DynReferenceIdeal.nD Cert.DynReferenceIdeal.τ).loc Cert.DynReferenceIdeal.main_arg0)
          ∧ r.2.mem ((c.tc : Thread Cert.DynReferenceIdeal.nD Cert.DynReferenceIdeal.τ).loc Cert.DynReferenceIdeal.main_arg1) = m' ((c.tc : Thread Cert.DynReferenceIdeal.nD Cert.DynReferenceIdeal.τ).loc Cert.DynReferenceIdeal.main_arg1))

def preserves_Dmerged_DmergedIdeal : Prop :=
  True

def algebraic_DmergedIdeal_DmergedReferenceIdeal [hDmergedIdeal : Cert.DmergedIdeal.Facts] [hDmergedReferenceIdeal : Cert.DmergedReferenceIdeal.Facts] : Prop :=
  ∀ (m : (ℓ : Loc Cert.DmergedIdeal.nD Cert.DmergedIdeal.τ Cert.DmergedIdeal.sig) → Buf (Elt Ideal) ℓ) (g : Dev Cert.DmergedIdeal.nD → PrngReg)
    (m' : (ℓ : Loc Cert.DmergedReferenceIdeal.nD Cert.DmergedReferenceIdeal.τ Cert.DmergedReferenceIdeal.sig) → Buf (Elt Ideal) ℓ) (g' : Dev Cert.DmergedReferenceIdeal.nD → PrngReg), Pre_DmergedIdeal m →
    (∀ c : Dev Cert.DmergedIdeal.nD,
      m' ((c.tc : Thread Cert.DmergedReferenceIdeal.nD Cert.DmergedReferenceIdeal.τ).loc Cert.DmergedReferenceIdeal.main_arg0) = m ((c.tc : Thread Cert.DmergedIdeal.nD Cert.DmergedIdeal.τ).loc Cert.DmergedIdeal.main_arg0)
      ∧ m' ((c.tc : Thread Cert.DmergedReferenceIdeal.nD Cert.DmergedReferenceIdeal.τ).loc Cert.DmergedReferenceIdeal.main_arg1) = m ((c.tc : Thread Cert.DmergedIdeal.nD Cert.DmergedIdeal.τ).loc Cert.DmergedIdeal.main_arg1)) →
    ∃ (v0 : (c : Dev Cert.DmergedIdeal.nD) → Buf (Elt Ideal) ((c.tc : Thread Cert.DmergedIdeal.nD Cert.DmergedIdeal.τ).loc Cert.DmergedIdeal.main_v2)),
      θ_run (Cert.DmergedIdeal.defs (F := Ideal)) (onTc (τ := Cert.DmergedIdeal.τ) (Cert.DmergedIdeal.main (F := Ideal))) ⟨m, fun _ => 0, g⟩ (fun r => ∀ c : Dev Cert.DmergedIdeal.nD,
          r.2.mem ((c.tc : Thread Cert.DmergedIdeal.nD Cert.DmergedIdeal.τ).loc Cert.DmergedIdeal.main_v2) = v0 c
          ∧ r.2.mem ((c.tc : Thread Cert.DmergedIdeal.nD Cert.DmergedIdeal.τ).loc Cert.DmergedIdeal.main_arg0) = m ((c.tc : Thread Cert.DmergedIdeal.nD Cert.DmergedIdeal.τ).loc Cert.DmergedIdeal.main_arg0)
          ∧ r.2.mem ((c.tc : Thread Cert.DmergedIdeal.nD Cert.DmergedIdeal.τ).loc Cert.DmergedIdeal.main_arg1) = m ((c.tc : Thread Cert.DmergedIdeal.nD Cert.DmergedIdeal.τ).loc Cert.DmergedIdeal.main_arg1))
      ∧ θ_run (Cert.DmergedReferenceIdeal.defs (F := Ideal)) (onTc (τ := Cert.DmergedReferenceIdeal.τ) (Cert.DmergedReferenceIdeal.main (F := Ideal))) ⟨m', fun _ => 0, g'⟩ (fun r => ∀ c : Dev Cert.DmergedReferenceIdeal.nD,
          r.2.mem ((c.tc : Thread Cert.DmergedReferenceIdeal.nD Cert.DmergedReferenceIdeal.τ).loc Cert.DmergedReferenceIdeal.main_v2) = v0 c
          ∧ r.2.mem ((c.tc : Thread Cert.DmergedReferenceIdeal.nD Cert.DmergedReferenceIdeal.τ).loc Cert.DmergedReferenceIdeal.main_arg0) = m' ((c.tc : Thread Cert.DmergedReferenceIdeal.nD Cert.DmergedReferenceIdeal.τ).loc Cert.DmergedReferenceIdeal.main_arg0)
          ∧ r.2.mem ((c.tc : Thread Cert.DmergedReferenceIdeal.nD Cert.DmergedReferenceIdeal.τ).loc Cert.DmergedReferenceIdeal.main_arg1) = m' ((c.tc : Thread Cert.DmergedReferenceIdeal.nD Cert.DmergedReferenceIdeal.τ).loc Cert.DmergedReferenceIdeal.main_arg1))

def preserves_Du_DuIdeal : Prop :=
  True

def algebraic_DuIdeal_DuReferenceIdeal [hDuIdeal : Cert.DuIdeal.Facts] [hDuReferenceIdeal : Cert.DuReferenceIdeal.Facts] : Prop :=
  ∀ (m : (ℓ : Loc Cert.DuIdeal.nD Cert.DuIdeal.τ Cert.DuIdeal.sig) → Buf (Elt Ideal) ℓ) (g : Dev Cert.DuIdeal.nD → PrngReg)
    (m' : (ℓ : Loc Cert.DuReferenceIdeal.nD Cert.DuReferenceIdeal.τ Cert.DuReferenceIdeal.sig) → Buf (Elt Ideal) ℓ) (g' : Dev Cert.DuReferenceIdeal.nD → PrngReg), Pre_DuIdeal m →
    (∀ c : Dev Cert.DuIdeal.nD,
      m' ((c.tc : Thread Cert.DuReferenceIdeal.nD Cert.DuReferenceIdeal.τ).loc Cert.DuReferenceIdeal.main_arg0) = m ((c.tc : Thread Cert.DuIdeal.nD Cert.DuIdeal.τ).loc Cert.DuIdeal.main_arg0)
      ∧ m' ((c.tc : Thread Cert.DuReferenceIdeal.nD Cert.DuReferenceIdeal.τ).loc Cert.DuReferenceIdeal.main_arg1) = m ((c.tc : Thread Cert.DuIdeal.nD Cert.DuIdeal.τ).loc Cert.DuIdeal.main_arg1)) →
    ∃ (v0 : (c : Dev Cert.DuIdeal.nD) → Buf (Elt Ideal) ((c.tc : Thread Cert.DuIdeal.nD Cert.DuIdeal.τ).loc Cert.DuIdeal.main_v2)),
      θ_run (Cert.DuIdeal.defs (F := Ideal)) (onTc (τ := Cert.DuIdeal.τ) (Cert.DuIdeal.main (F := Ideal))) ⟨m, fun _ => 0, g⟩ (fun r => ∀ c : Dev Cert.DuIdeal.nD,
          r.2.mem ((c.tc : Thread Cert.DuIdeal.nD Cert.DuIdeal.τ).loc Cert.DuIdeal.main_v2) = v0 c
          ∧ r.2.mem ((c.tc : Thread Cert.DuIdeal.nD Cert.DuIdeal.τ).loc Cert.DuIdeal.main_arg0) = m ((c.tc : Thread Cert.DuIdeal.nD Cert.DuIdeal.τ).loc Cert.DuIdeal.main_arg0)
          ∧ r.2.mem ((c.tc : Thread Cert.DuIdeal.nD Cert.DuIdeal.τ).loc Cert.DuIdeal.main_arg1) = m ((c.tc : Thread Cert.DuIdeal.nD Cert.DuIdeal.τ).loc Cert.DuIdeal.main_arg1))
      ∧ θ_run (Cert.DuReferenceIdeal.defs (F := Ideal)) (onTc (τ := Cert.DuReferenceIdeal.τ) (Cert.DuReferenceIdeal.main (F := Ideal))) ⟨m', fun _ => 0, g'⟩ (fun r => ∀ c : Dev Cert.DuReferenceIdeal.nD,
          r.2.mem ((c.tc : Thread Cert.DuReferenceIdeal.nD Cert.DuReferenceIdeal.τ).loc Cert.DuReferenceIdeal.main_v2) = v0 c
          ∧ r.2.mem ((c.tc : Thread Cert.DuReferenceIdeal.nD Cert.DuReferenceIdeal.τ).loc Cert.DuReferenceIdeal.main_arg0) = m' ((c.tc : Thread Cert.DuReferenceIdeal.nD Cert.DuReferenceIdeal.τ).loc Cert.DuReferenceIdeal.main_arg0)
          ∧ r.2.mem ((c.tc : Thread Cert.DuReferenceIdeal.nD Cert.DuReferenceIdeal.τ).loc Cert.DuReferenceIdeal.main_arg1) = m' ((c.tc : Thread Cert.DuReferenceIdeal.nD Cert.DuReferenceIdeal.τ).loc Cert.DuReferenceIdeal.main_arg1))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v2)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v2) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v0) = v0 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1))

def preserves_Ff1_Ff1Ideal : Prop :=
  True

def algebraic_Ff1Ideal_Ff1ReferenceIdeal [hFf1Ideal : Cert.Ff1Ideal.Facts] [hFf1ReferenceIdeal : Cert.Ff1ReferenceIdeal.Facts] : Prop :=
  ∀ (m : (ℓ : Loc Cert.Ff1Ideal.nD Cert.Ff1Ideal.τ Cert.Ff1Ideal.sig) → Buf (Elt Ideal) ℓ) (g : Dev Cert.Ff1Ideal.nD → PrngReg)
    (m' : (ℓ : Loc Cert.Ff1ReferenceIdeal.nD Cert.Ff1ReferenceIdeal.τ Cert.Ff1ReferenceIdeal.sig) → Buf (Elt Ideal) ℓ) (g' : Dev Cert.Ff1ReferenceIdeal.nD → PrngReg), Pre_Ff1Ideal m →
    (∀ c : Dev Cert.Ff1Ideal.nD,
      m' ((c.tc : Thread Cert.Ff1ReferenceIdeal.nD Cert.Ff1ReferenceIdeal.τ).loc Cert.Ff1ReferenceIdeal.main_arg0) = m ((c.tc : Thread Cert.Ff1Ideal.nD Cert.Ff1Ideal.τ).loc Cert.Ff1Ideal.main_arg0)
      ∧ m' ((c.tc : Thread Cert.Ff1ReferenceIdeal.nD Cert.Ff1ReferenceIdeal.τ).loc Cert.Ff1ReferenceIdeal.main_arg1) = m ((c.tc : Thread Cert.Ff1Ideal.nD Cert.Ff1Ideal.τ).loc Cert.Ff1Ideal.main_arg1)) →
    ∃ (v0 : (c : Dev Cert.Ff1Ideal.nD) → Buf (Elt Ideal) ((c.tc : Thread Cert.Ff1Ideal.nD Cert.Ff1Ideal.τ).loc Cert.Ff1Ideal.main_v4_0)) (v1 : (c : Dev Cert.Ff1Ideal.nD) → Buf (Elt Ideal) ((c.tc : Thread Cert.Ff1Ideal.nD Cert.Ff1Ideal.τ).loc Cert.Ff1Ideal.main_v4_1)),
      θ_run (Cert.Ff1Ideal.defs (F := Ideal)) (onTc (τ := Cert.Ff1Ideal.τ) (Cert.Ff1Ideal.main (F := Ideal))) ⟨m, fun _ => 0, g⟩ (fun r => ∀ c : Dev Cert.Ff1Ideal.nD,
          r.2.mem ((c.tc : Thread Cert.Ff1Ideal.nD Cert.Ff1Ideal.τ).loc Cert.Ff1Ideal.main_v4_0) = v0 c
          ∧ r.2.mem ((c.tc : Thread Cert.Ff1Ideal.nD Cert.Ff1Ideal.τ).loc Cert.Ff1Ideal.main_v4_1) = v1 c
          ∧ r.2.mem ((c.tc : Thread Cert.Ff1Ideal.nD Cert.Ff1Ideal.τ).loc Cert.Ff1Ideal.main_arg0) = m ((c.tc : Thread Cert.Ff1Ideal.nD Cert.Ff1Ideal.τ).loc Cert.Ff1Ideal.main_arg0)
          ∧ r.2.mem ((c.tc : Thread Cert.Ff1Ideal.nD Cert.Ff1Ideal.τ).loc Cert.Ff1Ideal.main_arg1) = m ((c.tc : Thread Cert.Ff1Ideal.nD Cert.Ff1Ideal.τ).loc Cert.Ff1Ideal.main_arg1))
      ∧ θ_run (Cert.Ff1ReferenceIdeal.defs (F := Ideal)) (onTc (τ := Cert.Ff1ReferenceIdeal.τ) (Cert.Ff1ReferenceIdeal.main (F := Ideal))) ⟨m', fun _ => 0, g'⟩ (fun r => ∀ c : Dev Cert.Ff1ReferenceIdeal.nD,
          r.2.mem ((c.tc : Thread Cert.Ff1ReferenceIdeal.nD Cert.Ff1ReferenceIdeal.τ).loc Cert.Ff1ReferenceIdeal.main_v0) = v0 c
          ∧ r.2.mem ((c.tc : Thread Cert.Ff1ReferenceIdeal.nD Cert.Ff1ReferenceIdeal.τ).loc Cert.Ff1ReferenceIdeal.main_v3) = v1 c
          ∧ r.2.mem ((c.tc : Thread Cert.Ff1ReferenceIdeal.nD Cert.Ff1ReferenceIdeal.τ).loc Cert.Ff1ReferenceIdeal.main_arg0) = m' ((c.tc : Thread Cert.Ff1ReferenceIdeal.nD Cert.Ff1ReferenceIdeal.τ).loc Cert.Ff1ReferenceIdeal.main_arg0)
          ∧ r.2.mem ((c.tc : Thread Cert.Ff1ReferenceIdeal.nD Cert.Ff1ReferenceIdeal.τ).loc Cert.Ff1ReferenceIdeal.main_arg1) = m' ((c.tc : Thread Cert.Ff1ReferenceIdeal.nD Cert.Ff1ReferenceIdeal.τ).loc Cert.Ff1ReferenceIdeal.main_arg1))

def preserves_Ff2_Ff2Ideal : Prop :=
  True

def algebraic_Ff2Ideal_Ff2ReferenceIdeal [hFf2Ideal : Cert.Ff2Ideal.Facts] [hFf2ReferenceIdeal : Cert.Ff2ReferenceIdeal.Facts] : Prop :=
  ∀ (m : (ℓ : Loc Cert.Ff2Ideal.nD Cert.Ff2Ideal.τ Cert.Ff2Ideal.sig) → Buf (Elt Ideal) ℓ) (g : Dev Cert.Ff2Ideal.nD → PrngReg)
    (m' : (ℓ : Loc Cert.Ff2ReferenceIdeal.nD Cert.Ff2ReferenceIdeal.τ Cert.Ff2ReferenceIdeal.sig) → Buf (Elt Ideal) ℓ) (g' : Dev Cert.Ff2ReferenceIdeal.nD → PrngReg), Pre_Ff2Ideal m →
    (∀ c : Dev Cert.Ff2Ideal.nD,
      m' ((c.tc : Thread Cert.Ff2ReferenceIdeal.nD Cert.Ff2ReferenceIdeal.τ).loc Cert.Ff2ReferenceIdeal.main_arg0) = m ((c.tc : Thread Cert.Ff2Ideal.nD Cert.Ff2Ideal.τ).loc Cert.Ff2Ideal.main_arg0)
      ∧ m' ((c.tc : Thread Cert.Ff2ReferenceIdeal.nD Cert.Ff2ReferenceIdeal.τ).loc Cert.Ff2ReferenceIdeal.main_arg1) = m ((c.tc : Thread Cert.Ff2Ideal.nD Cert.Ff2Ideal.τ).loc Cert.Ff2Ideal.main_arg1)
      ∧ m' ((c.tc : Thread Cert.Ff2ReferenceIdeal.nD Cert.Ff2ReferenceIdeal.τ).loc Cert.Ff2ReferenceIdeal.main_arg2) = m ((c.tc : Thread Cert.Ff2Ideal.nD Cert.Ff2Ideal.τ).loc Cert.Ff2Ideal.main_arg2)) →
    ∃ (v0 : (c : Dev Cert.Ff2Ideal.nD) → Buf (Elt Ideal) ((c.tc : Thread Cert.Ff2Ideal.nD Cert.Ff2Ideal.τ).loc Cert.Ff2Ideal.main_v5)),
      θ_run (Cert.Ff2Ideal.defs (F := Ideal)) (onTc (τ := Cert.Ff2Ideal.τ) (Cert.Ff2Ideal.main (F := Ideal))) ⟨m, fun _ => 0, g⟩ (fun r => ∀ c : Dev Cert.Ff2Ideal.nD,
          r.2.mem ((c.tc : Thread Cert.Ff2Ideal.nD Cert.Ff2Ideal.τ).loc Cert.Ff2Ideal.main_v5) = v0 c
          ∧ r.2.mem ((c.tc : Thread Cert.Ff2Ideal.nD Cert.Ff2Ideal.τ).loc Cert.Ff2Ideal.main_arg0) = m ((c.tc : Thread Cert.Ff2Ideal.nD Cert.Ff2Ideal.τ).loc Cert.Ff2Ideal.main_arg0)
          ∧ r.2.mem ((c.tc : Thread Cert.Ff2Ideal.nD Cert.Ff2Ideal.τ).loc Cert.Ff2Ideal.main_arg1) = m ((c.tc : Thread Cert.Ff2Ideal.nD Cert.Ff2Ideal.τ).loc Cert.Ff2Ideal.main_arg1)
          ∧ r.2.mem ((c.tc : Thread Cert.Ff2Ideal.nD Cert.Ff2Ideal.τ).loc Cert.Ff2Ideal.main_arg2) = m ((c.tc : Thread Cert.Ff2Ideal.nD Cert.Ff2Ideal.τ).loc Cert.Ff2Ideal.main_arg2))
      ∧ θ_run (Cert.Ff2ReferenceIdeal.defs (F := Ideal)) (onTc (τ := Cert.Ff2ReferenceIdeal.τ) (Cert.Ff2ReferenceIdeal.main (F := Ideal))) ⟨m', fun _ => 0, g'⟩ (fun r => ∀ c : Dev Cert.Ff2ReferenceIdeal.nD,
          r.2.mem ((c.tc : Thread Cert.Ff2ReferenceIdeal.nD Cert.Ff2ReferenceIdeal.τ).loc Cert.Ff2ReferenceIdeal.main_v3) = v0 c
          ∧ r.2.mem ((c.tc : Thread Cert.Ff2ReferenceIdeal.nD Cert.Ff2ReferenceIdeal.τ).loc Cert.Ff2ReferenceIdeal.main_arg0) = m' ((c.tc : Thread Cert.Ff2ReferenceIdeal.nD Cert.Ff2ReferenceIdeal.τ).loc Cert.Ff2ReferenceIdeal.main_arg0)
          ∧ r.2.mem ((c.tc : Thread Cert.Ff2ReferenceIdeal.nD Cert.Ff2ReferenceIdeal.τ).loc Cert.Ff2ReferenceIdeal.main_arg1) = m' ((c.tc : Thread Cert.Ff2ReferenceIdeal.nD Cert.Ff2ReferenceIdeal.τ).loc Cert.Ff2ReferenceIdeal.main_arg1)
          ∧ r.2.mem ((c.tc : Thread Cert.Ff2ReferenceIdeal.nD Cert.Ff2ReferenceIdeal.τ).loc Cert.Ff2ReferenceIdeal.main_arg2) = m' ((c.tc : Thread Cert.Ff2ReferenceIdeal.nD Cert.Ff2ReferenceIdeal.τ).loc Cert.Ff2ReferenceIdeal.main_arg2))

def preserves_SsdOut_SsdOutIdeal : Prop :=
  True

def algebraic_SsdOutIdeal_SsdOutReferenceIdeal [hSsdOutIdeal : Cert.SsdOutIdeal.Facts] [hSsdOutReferenceIdeal : Cert.SsdOutReferenceIdeal.Facts] : Prop :=
  ∀ (m : (ℓ : Loc Cert.SsdOutIdeal.nD Cert.SsdOutIdeal.τ Cert.SsdOutIdeal.sig) → Buf (Elt Ideal) ℓ) (g : Dev Cert.SsdOutIdeal.nD → PrngReg)
    (m' : (ℓ : Loc Cert.SsdOutReferenceIdeal.nD Cert.SsdOutReferenceIdeal.τ Cert.SsdOutReferenceIdeal.sig) → Buf (Elt Ideal) ℓ) (g' : Dev Cert.SsdOutReferenceIdeal.nD → PrngReg), Pre_SsdOutIdeal m →
    (∀ c : Dev Cert.SsdOutIdeal.nD,
      m' ((c.tc : Thread Cert.SsdOutReferenceIdeal.nD Cert.SsdOutReferenceIdeal.τ).loc Cert.SsdOutReferenceIdeal.main_arg0) = m ((c.tc : Thread Cert.SsdOutIdeal.nD Cert.SsdOutIdeal.τ).loc Cert.SsdOutIdeal.main_arg0)
      ∧ m' ((c.tc : Thread Cert.SsdOutReferenceIdeal.nD Cert.SsdOutReferenceIdeal.τ).loc Cert.SsdOutReferenceIdeal.main_arg1) = m ((c.tc : Thread Cert.SsdOutIdeal.nD Cert.SsdOutIdeal.τ).loc Cert.SsdOutIdeal.main_arg1)) →
    ∃ (v0 : (c : Dev Cert.SsdOutIdeal.nD) → Buf (Elt Ideal) ((c.tc : Thread Cert.SsdOutIdeal.nD Cert.SsdOutIdeal.τ).loc Cert.SsdOutIdeal.main_v2)),
      θ_run (Cert.SsdOutIdeal.defs (F := Ideal)) (onTc (τ := Cert.SsdOutIdeal.τ) (Cert.SsdOutIdeal.main (F := Ideal))) ⟨m, fun _ => 0, g⟩ (fun r => ∀ c : Dev Cert.SsdOutIdeal.nD,
          r.2.mem ((c.tc : Thread Cert.SsdOutIdeal.nD Cert.SsdOutIdeal.τ).loc Cert.SsdOutIdeal.main_v2) = v0 c
          ∧ r.2.mem ((c.tc : Thread Cert.SsdOutIdeal.nD Cert.SsdOutIdeal.τ).loc Cert.SsdOutIdeal.main_arg0) = m ((c.tc : Thread Cert.SsdOutIdeal.nD Cert.SsdOutIdeal.τ).loc Cert.SsdOutIdeal.main_arg0)
          ∧ r.2.mem ((c.tc : Thread Cert.SsdOutIdeal.nD Cert.SsdOutIdeal.τ).loc Cert.SsdOutIdeal.main_arg1) = m ((c.tc : Thread Cert.SsdOutIdeal.nD Cert.SsdOutIdeal.τ).loc Cert.SsdOutIdeal.main_arg1))
      ∧ θ_run (Cert.SsdOutReferenceIdeal.defs (F := Ideal)) (onTc (τ := Cert.SsdOutReferenceIdeal.τ) (Cert.SsdOutReferenceIdeal.main (F := Ideal))) ⟨m', fun _ => 0, g'⟩ (fun r => ∀ c : Dev Cert.SsdOutReferenceIdeal.nD,
          r.2.mem ((c.tc : Thread Cert.SsdOutReferenceIdeal.nD Cert.SsdOutReferenceIdeal.τ).loc Cert.SsdOutReferenceIdeal.main_v0) = v0 c
          ∧ r.2.mem ((c.tc : Thread Cert.SsdOutReferenceIdeal.nD Cert.SsdOutReferenceIdeal.τ).loc Cert.SsdOutReferenceIdeal.main_arg0) = m' ((c.tc : Thread Cert.SsdOutReferenceIdeal.nD Cert.SsdOutReferenceIdeal.τ).loc Cert.SsdOutReferenceIdeal.main_arg0)
          ∧ r.2.mem ((c.tc : Thread Cert.SsdOutReferenceIdeal.nD Cert.SsdOutReferenceIdeal.τ).loc Cert.SsdOutReferenceIdeal.main_arg1) = m' ((c.tc : Thread Cert.SsdOutReferenceIdeal.nD Cert.SsdOutReferenceIdeal.τ).loc Cert.SsdOutReferenceIdeal.main_arg1))

def preserves_O_OIdeal : Prop :=
  True

def algebraic_OIdeal_OReferenceIdeal [hOIdeal : Cert.OIdeal.Facts] [hOReferenceIdeal : Cert.OReferenceIdeal.Facts] : Prop :=
  ∀ (m : (ℓ : Loc Cert.OIdeal.nD Cert.OIdeal.τ Cert.OIdeal.sig) → Buf (Elt Ideal) ℓ) (g : Dev Cert.OIdeal.nD → PrngReg)
    (m' : (ℓ : Loc Cert.OReferenceIdeal.nD Cert.OReferenceIdeal.τ Cert.OReferenceIdeal.sig) → Buf (Elt Ideal) ℓ) (g' : Dev Cert.OReferenceIdeal.nD → PrngReg), Pre_OIdeal m →
    (∀ c : Dev Cert.OIdeal.nD,
      m' ((c.tc : Thread Cert.OReferenceIdeal.nD Cert.OReferenceIdeal.τ).loc Cert.OReferenceIdeal.main_arg0) = m ((c.tc : Thread Cert.OIdeal.nD Cert.OIdeal.τ).loc Cert.OIdeal.main_arg0)
      ∧ m' ((c.tc : Thread Cert.OReferenceIdeal.nD Cert.OReferenceIdeal.τ).loc Cert.OReferenceIdeal.main_arg1) = m ((c.tc : Thread Cert.OIdeal.nD Cert.OIdeal.τ).loc Cert.OIdeal.main_arg1)
      ∧ m' ((c.tc : Thread Cert.OReferenceIdeal.nD Cert.OReferenceIdeal.τ).loc Cert.OReferenceIdeal.main_arg2) = m ((c.tc : Thread Cert.OIdeal.nD Cert.OIdeal.τ).loc Cert.OIdeal.main_arg2)
      ∧ m' ((c.tc : Thread Cert.OReferenceIdeal.nD Cert.OReferenceIdeal.τ).loc Cert.OReferenceIdeal.main_arg3) = m ((c.tc : Thread Cert.OIdeal.nD Cert.OIdeal.τ).loc Cert.OIdeal.main_arg3)) →
    ∃ (v0 : (c : Dev Cert.OIdeal.nD) → Buf (Elt Ideal) ((c.tc : Thread Cert.OIdeal.nD Cert.OIdeal.τ).loc Cert.OIdeal.main_v3_0)) (v1 : (c : Dev Cert.OIdeal.nD) → Buf (Elt Ideal) ((c.tc : Thread Cert.OIdeal.nD Cert.OIdeal.τ).loc Cert.OIdeal.main_v3_1)),
      θ_run (Cert.OIdeal.defs (F := Ideal)) (onTc (τ := Cert.OIdeal.τ) (Cert.OIdeal.main (F := Ideal))) ⟨m, fun _ => 0, g⟩ (fun r => ∀ c : Dev Cert.OIdeal.nD,
          r.2.mem ((c.tc : Thread Cert.OIdeal.nD Cert.OIdeal.τ).loc Cert.OIdeal.main_v3_0) = v0 c
          ∧ r.2.mem ((c.tc : Thread Cert.OIdeal.nD Cert.OIdeal.τ).loc Cert.OIdeal.main_v3_1) = v1 c
          ∧ r.2.mem ((c.tc : Thread Cert.OIdeal.nD Cert.OIdeal.τ).loc Cert.OIdeal.main_arg0) = m ((c.tc : Thread Cert.OIdeal.nD Cert.OIdeal.τ).loc Cert.OIdeal.main_arg0)
          ∧ r.2.mem ((c.tc : Thread Cert.OIdeal.nD Cert.OIdeal.τ).loc Cert.OIdeal.main_arg1) = m ((c.tc : Thread Cert.OIdeal.nD Cert.OIdeal.τ).loc Cert.OIdeal.main_arg1)
          ∧ r.2.mem ((c.tc : Thread Cert.OIdeal.nD Cert.OIdeal.τ).loc Cert.OIdeal.main_arg2) = m ((c.tc : Thread Cert.OIdeal.nD Cert.OIdeal.τ).loc Cert.OIdeal.main_arg2)
          ∧ r.2.mem ((c.tc : Thread Cert.OIdeal.nD Cert.OIdeal.τ).loc Cert.OIdeal.main_arg3) = m ((c.tc : Thread Cert.OIdeal.nD Cert.OIdeal.τ).loc Cert.OIdeal.main_arg3))
      ∧ θ_run (Cert.OReferenceIdeal.defs (F := Ideal)) (onTc (τ := Cert.OReferenceIdeal.τ) (Cert.OReferenceIdeal.main (F := Ideal))) ⟨m', fun _ => 0, g'⟩ (fun r => ∀ c : Dev Cert.OReferenceIdeal.nD,
          r.2.mem ((c.tc : Thread Cert.OReferenceIdeal.nD Cert.OReferenceIdeal.τ).loc Cert.OReferenceIdeal.main_v1) = v0 c
          ∧ r.2.mem ((c.tc : Thread Cert.OReferenceIdeal.nD Cert.OReferenceIdeal.τ).loc Cert.OReferenceIdeal.main_v15) = v1 c
          ∧ r.2.mem ((c.tc : Thread Cert.OReferenceIdeal.nD Cert.OReferenceIdeal.τ).loc Cert.OReferenceIdeal.main_arg0) = m' ((c.tc : Thread Cert.OReferenceIdeal.nD Cert.OReferenceIdeal.τ).loc Cert.OReferenceIdeal.main_arg0)
          ∧ r.2.mem ((c.tc : Thread Cert.OReferenceIdeal.nD Cert.OReferenceIdeal.τ).loc Cert.OReferenceIdeal.main_arg1) = m' ((c.tc : Thread Cert.OReferenceIdeal.nD Cert.OReferenceIdeal.τ).loc Cert.OReferenceIdeal.main_arg1)
          ∧ r.2.mem ((c.tc : Thread Cert.OReferenceIdeal.nD Cert.OReferenceIdeal.τ).loc Cert.OReferenceIdeal.main_arg2) = m' ((c.tc : Thread Cert.OReferenceIdeal.nD Cert.OReferenceIdeal.τ).loc Cert.OReferenceIdeal.main_arg2)
          ∧ r.2.mem ((c.tc : Thread Cert.OReferenceIdeal.nD Cert.OReferenceIdeal.τ).loc Cert.OReferenceIdeal.main_arg3) = m' ((c.tc : Thread Cert.OReferenceIdeal.nD Cert.OReferenceIdeal.τ).loc Cert.OReferenceIdeal.main_arg3))

def preserves_Ff2Norm_Ff2NormIdeal : Prop :=
  True

def algebraic_Ff2NormIdeal_Ff2NormReferenceIdeal [hFf2NormIdeal : Cert.Ff2NormIdeal.Facts] [hFf2NormReferenceIdeal : Cert.Ff2NormReferenceIdeal.Facts] : Prop :=
  ∀ (m : (ℓ : Loc Cert.Ff2NormIdeal.nD Cert.Ff2NormIdeal.τ Cert.Ff2NormIdeal.sig) → Buf (Elt Ideal) ℓ) (g : Dev Cert.Ff2NormIdeal.nD → PrngReg)
    (m' : (ℓ : Loc Cert.Ff2NormReferenceIdeal.nD Cert.Ff2NormReferenceIdeal.τ Cert.Ff2NormReferenceIdeal.sig) → Buf (Elt Ideal) ℓ) (g' : Dev Cert.Ff2NormReferenceIdeal.nD → PrngReg), Pre_Ff2NormIdeal m →
    (∀ c : Dev Cert.Ff2NormIdeal.nD,
      m' ((c.tc : Thread Cert.Ff2NormReferenceIdeal.nD Cert.Ff2NormReferenceIdeal.τ).loc Cert.Ff2NormReferenceIdeal.main_arg0) = m ((c.tc : Thread Cert.Ff2NormIdeal.nD Cert.Ff2NormIdeal.τ).loc Cert.Ff2NormIdeal.main_arg0)
      ∧ m' ((c.tc : Thread Cert.Ff2NormReferenceIdeal.nD Cert.Ff2NormReferenceIdeal.τ).loc Cert.Ff2NormReferenceIdeal.main_arg1) = m ((c.tc : Thread Cert.Ff2NormIdeal.nD Cert.Ff2NormIdeal.τ).loc Cert.Ff2NormIdeal.main_arg1)
      ∧ m' ((c.tc : Thread Cert.Ff2NormReferenceIdeal.nD Cert.Ff2NormReferenceIdeal.τ).loc Cert.Ff2NormReferenceIdeal.main_arg2) = m ((c.tc : Thread Cert.Ff2NormIdeal.nD Cert.Ff2NormIdeal.τ).loc Cert.Ff2NormIdeal.main_arg2)
      ∧ m' ((c.tc : Thread Cert.Ff2NormReferenceIdeal.nD Cert.Ff2NormReferenceIdeal.τ).loc Cert.Ff2NormReferenceIdeal.main_arg3) = m ((c.tc : Thread Cert.Ff2NormIdeal.nD Cert.Ff2NormIdeal.τ).loc Cert.Ff2NormIdeal.main_arg3)) →
    ∃ (v0 : (c : Dev Cert.Ff2NormIdeal.nD) → Buf (Elt Ideal) ((c.tc : Thread Cert.Ff2NormIdeal.nD Cert.Ff2NormIdeal.τ).loc Cert.Ff2NormIdeal.main_v6_0)) (v1 : (c : Dev Cert.Ff2NormIdeal.nD) → Buf (Elt Ideal) ((c.tc : Thread Cert.Ff2NormIdeal.nD Cert.Ff2NormIdeal.τ).loc Cert.Ff2NormIdeal.main_v6_1)),
      θ_run (Cert.Ff2NormIdeal.defs (F := Ideal)) (onTc (τ := Cert.Ff2NormIdeal.τ) (Cert.Ff2NormIdeal.main (F := Ideal))) ⟨m, fun _ => 0, g⟩ (fun r => ∀ c : Dev Cert.Ff2NormIdeal.nD,
          r.2.mem ((c.tc : Thread Cert.Ff2NormIdeal.nD Cert.Ff2NormIdeal.τ).loc Cert.Ff2NormIdeal.main_v6_0) = v0 c
          ∧ r.2.mem ((c.tc : Thread Cert.Ff2NormIdeal.nD Cert.Ff2NormIdeal.τ).loc Cert.Ff2NormIdeal.main_v6_1) = v1 c
          ∧ r.2.mem ((c.tc : Thread Cert.Ff2NormIdeal.nD Cert.Ff2NormIdeal.τ).loc Cert.Ff2NormIdeal.main_arg0) = m ((c.tc : Thread Cert.Ff2NormIdeal.nD Cert.Ff2NormIdeal.τ).loc Cert.Ff2NormIdeal.main_arg0)
          ∧ r.2.mem ((c.tc : Thread Cert.Ff2NormIdeal.nD Cert.Ff2NormIdeal.τ).loc Cert.Ff2NormIdeal.main_arg1) = m ((c.tc : Thread Cert.Ff2NormIdeal.nD Cert.Ff2NormIdeal.τ).loc Cert.Ff2NormIdeal.main_arg1)
          ∧ r.2.mem ((c.tc : Thread Cert.Ff2NormIdeal.nD Cert.Ff2NormIdeal.τ).loc Cert.Ff2NormIdeal.main_arg2) = m ((c.tc : Thread Cert.Ff2NormIdeal.nD Cert.Ff2NormIdeal.τ).loc Cert.Ff2NormIdeal.main_arg2)
          ∧ r.2.mem ((c.tc : Thread Cert.Ff2NormIdeal.nD Cert.Ff2NormIdeal.τ).loc Cert.Ff2NormIdeal.main_arg3) = m ((c.tc : Thread Cert.Ff2NormIdeal.nD Cert.Ff2NormIdeal.τ).loc Cert.Ff2NormIdeal.main_arg3))
      ∧ θ_run (Cert.Ff2NormReferenceIdeal.defs (F := Ideal)) (onTc (τ := Cert.Ff2NormReferenceIdeal.τ) (Cert.Ff2NormReferenceIdeal.main (F := Ideal))) ⟨m', fun _ => 0, g'⟩ (fun r => ∀ c : Dev Cert.Ff2NormReferenceIdeal.nD,
          r.2.mem ((c.tc : Thread Cert.Ff2NormReferenceIdeal.nD Cert.Ff2NormReferenceIdeal.τ).loc Cert.Ff2NormReferenceIdeal.main_v3) = v0 c
          ∧ r.2.mem ((c.tc : Thread Cert.Ff2NormReferenceIdeal.nD Cert.Ff2NormReferenceIdeal.τ).loc Cert.Ff2NormReferenceIdeal.main_v17) = v1 c
          ∧ r.2.mem ((c.tc : Thread Cert.Ff2NormReferenceIdeal.nD Cert.Ff2NormReferenceIdeal.τ).loc Cert.Ff2NormReferenceIdeal.main_arg0) = m' ((c.tc : Thread Cert.Ff2NormReferenceIdeal.nD Cert.Ff2NormReferenceIdeal.τ).loc Cert.Ff2NormReferenceIdeal.main_arg0)
          ∧ r.2.mem ((c.tc : Thread Cert.Ff2NormReferenceIdeal.nD Cert.Ff2NormReferenceIdeal.τ).loc Cert.Ff2NormReferenceIdeal.main_arg1) = m' ((c.tc : Thread Cert.Ff2NormReferenceIdeal.nD Cert.Ff2NormReferenceIdeal.τ).loc Cert.Ff2NormReferenceIdeal.main_arg1)
          ∧ r.2.mem ((c.tc : Thread Cert.Ff2NormReferenceIdeal.nD Cert.Ff2NormReferenceIdeal.τ).loc Cert.Ff2NormReferenceIdeal.main_arg2) = m' ((c.tc : Thread Cert.Ff2NormReferenceIdeal.nD Cert.Ff2NormReferenceIdeal.τ).loc Cert.Ff2NormReferenceIdeal.main_arg2)
          ∧ r.2.mem ((c.tc : Thread Cert.Ff2NormReferenceIdeal.nD Cert.Ff2NormReferenceIdeal.τ).loc Cert.Ff2NormReferenceIdeal.main_arg3) = m' ((c.tc : Thread Cert.Ff2NormReferenceIdeal.nD Cert.Ff2NormReferenceIdeal.τ).loc Cert.Ff2NormReferenceIdeal.main_arg3))

def preserves_DwPoolUp_DwPoolUpIdeal : Prop :=
  True

def algebraic_DwPoolUpIdeal_DwPoolUpReferenceIdeal [hDwPoolUpIdeal : Cert.DwPoolUpIdeal.Facts] [hDwPoolUpReferenceIdeal : Cert.DwPoolUpReferenceIdeal.Facts] : Prop :=
  ∀ (m : (ℓ : Loc Cert.DwPoolUpIdeal.nD Cert.DwPoolUpIdeal.τ Cert.DwPoolUpIdeal.sig) → Buf (Elt Ideal) ℓ) (g : Dev Cert.DwPoolUpIdeal.nD → PrngReg)
    (m' : (ℓ : Loc Cert.DwPoolUpReferenceIdeal.nD Cert.DwPoolUpReferenceIdeal.τ Cert.DwPoolUpReferenceIdeal.sig) → Buf (Elt Ideal) ℓ) (g' : Dev Cert.DwPoolUpReferenceIdeal.nD → PrngReg), Pre_DwPoolUpIdeal m →
    (∀ c : Dev Cert.DwPoolUpIdeal.nD,
      m' ((c.tc : Thread Cert.DwPoolUpReferenceIdeal.nD Cert.DwPoolUpReferenceIdeal.τ).loc Cert.DwPoolUpReferenceIdeal.main_arg0) = m ((c.tc : Thread Cert.DwPoolUpIdeal.nD Cert.DwPoolUpIdeal.τ).loc Cert.DwPoolUpIdeal.main_arg0)
      ∧ m' ((c.tc : Thread Cert.DwPoolUpReferenceIdeal.nD Cert.DwPoolUpReferenceIdeal.τ).loc Cert.DwPoolUpReferenceIdeal.main_arg1) = m ((c.tc : Thread Cert.DwPoolUpIdeal.nD Cert.DwPoolUpIdeal.τ).loc Cert.DwPoolUpIdeal.main_arg1)) →
    ∃ (v0 : (c : Dev Cert.DwPoolUpIdeal.nD) → Buf (Elt Ideal) ((c.tc : Thread Cert.DwPoolUpIdeal.nD Cert.DwPoolUpIdeal.τ).loc Cert.DwPoolUpIdeal.main_v2)),
      θ_run (Cert.DwPoolUpIdeal.defs (F := Ideal)) (onTc (τ := Cert.DwPoolUpIdeal.τ) (Cert.DwPoolUpIdeal.main (F := Ideal))) ⟨m, fun _ => 0, g⟩ (fun r => ∀ c : Dev Cert.DwPoolUpIdeal.nD,
          r.2.mem ((c.tc : Thread Cert.DwPoolUpIdeal.nD Cert.DwPoolUpIdeal.τ).loc Cert.DwPoolUpIdeal.main_v2) = v0 c
          ∧ r.2.mem ((c.tc : Thread Cert.DwPoolUpIdeal.nD Cert.DwPoolUpIdeal.τ).loc Cert.DwPoolUpIdeal.main_arg0) = m ((c.tc : Thread Cert.DwPoolUpIdeal.nD Cert.DwPoolUpIdeal.τ).loc Cert.DwPoolUpIdeal.main_arg0)
          ∧ r.2.mem ((c.tc : Thread Cert.DwPoolUpIdeal.nD Cert.DwPoolUpIdeal.τ).loc Cert.DwPoolUpIdeal.main_arg1) = m ((c.tc : Thread Cert.DwPoolUpIdeal.nD Cert.DwPoolUpIdeal.τ).loc Cert.DwPoolUpIdeal.main_arg1))
      ∧ θ_run (Cert.DwPoolUpReferenceIdeal.defs (F := Ideal)) (onTc (τ := Cert.DwPoolUpReferenceIdeal.τ) (Cert.DwPoolUpReferenceIdeal.main (F := Ideal))) ⟨m', fun _ => 0, g'⟩ (fun r => ∀ c : Dev Cert.DwPoolUpReferenceIdeal.nD,
          r.2.mem ((c.tc : Thread Cert.DwPoolUpReferenceIdeal.nD Cert.DwPoolUpReferenceIdeal.τ).loc Cert.DwPoolUpReferenceIdeal.main_v4) = v0 c
          ∧ r.2.mem ((c.tc : Thread Cert.DwPoolUpReferenceIdeal.nD Cert.DwPoolUpReferenceIdeal.τ).loc Cert.DwPoolUpReferenceIdeal.main_arg0) = m' ((c.tc : Thread Cert.DwPoolUpReferenceIdeal.nD Cert.DwPoolUpReferenceIdeal.τ).loc Cert.DwPoolUpReferenceIdeal.main_arg0)
          ∧ r.2.mem ((c.tc : Thread Cert.DwPoolUpReferenceIdeal.nD Cert.DwPoolUpReferenceIdeal.τ).loc Cert.DwPoolUpReferenceIdeal.main_arg1) = m' ((c.tc : Thread Cert.DwPoolUpReferenceIdeal.nD Cert.DwPoolUpReferenceIdeal.τ).loc Cert.DwPoolUpReferenceIdeal.main_arg1))

def preserves_DactB_DactBIdeal : Prop :=
  True

def algebraic_DactBIdeal_DactBReferenceIdeal [hDactBIdeal : Cert.DactBIdeal.Facts] [hDactBReferenceIdeal : Cert.DactBReferenceIdeal.Facts] : Prop :=
  ∀ (m : (ℓ : Loc Cert.DactBIdeal.nD Cert.DactBIdeal.τ Cert.DactBIdeal.sig) → Buf (Elt Ideal) ℓ) (g : Dev Cert.DactBIdeal.nD → PrngReg)
    (m' : (ℓ : Loc Cert.DactBReferenceIdeal.nD Cert.DactBReferenceIdeal.τ Cert.DactBReferenceIdeal.sig) → Buf (Elt Ideal) ℓ) (g' : Dev Cert.DactBReferenceIdeal.nD → PrngReg), Pre_DactBIdeal m →
    (∀ c : Dev Cert.DactBIdeal.nD,
      m' ((c.tc : Thread Cert.DactBReferenceIdeal.nD Cert.DactBReferenceIdeal.τ).loc Cert.DactBReferenceIdeal.main_arg0) = m ((c.tc : Thread Cert.DactBIdeal.nD Cert.DactBIdeal.τ).loc Cert.DactBIdeal.main_arg0)
      ∧ m' ((c.tc : Thread Cert.DactBReferenceIdeal.nD Cert.DactBReferenceIdeal.τ).loc Cert.DactBReferenceIdeal.main_arg1) = m ((c.tc : Thread Cert.DactBIdeal.nD Cert.DactBIdeal.τ).loc Cert.DactBIdeal.main_arg1)
      ∧ m' ((c.tc : Thread Cert.DactBReferenceIdeal.nD Cert.DactBReferenceIdeal.τ).loc Cert.DactBReferenceIdeal.main_arg2) = m ((c.tc : Thread Cert.DactBIdeal.nD Cert.DactBIdeal.τ).loc Cert.DactBIdeal.main_arg2)) →
    ∃ (v0 : (c : Dev Cert.DactBIdeal.nD) → Buf (Elt Ideal) ((c.tc : Thread Cert.DactBIdeal.nD Cert.DactBIdeal.τ).loc Cert.DactBIdeal.main_v2)),
      θ_run (Cert.DactBIdeal.defs (F := Ideal)) (onTc (τ := Cert.DactBIdeal.τ) (Cert.DactBIdeal.main (F := Ideal))) ⟨m, fun _ => 0, g⟩ (fun r => ∀ c : Dev Cert.DactBIdeal.nD,
          r.2.mem ((c.tc : Thread Cert.DactBIdeal.nD Cert.DactBIdeal.τ).loc Cert.DactBIdeal.main_v2) = v0 c
          ∧ r.2.mem ((c.tc : Thread Cert.DactBIdeal.nD Cert.DactBIdeal.τ).loc Cert.DactBIdeal.main_arg0) = m ((c.tc : Thread Cert.DactBIdeal.nD Cert.DactBIdeal.τ).loc Cert.DactBIdeal.main_arg0)
          ∧ r.2.mem ((c.tc : Thread Cert.DactBIdeal.nD Cert.DactBIdeal.τ).loc Cert.DactBIdeal.main_arg1) = m ((c.tc : Thread Cert.DactBIdeal.nD Cert.DactBIdeal.τ).loc Cert.DactBIdeal.main_arg1)
          ∧ r.2.mem ((c.tc : Thread Cert.DactBIdeal.nD Cert.DactBIdeal.τ).loc Cert.DactBIdeal.main_arg2) = m ((c.tc : Thread Cert.DactBIdeal.nD Cert.DactBIdeal.τ).loc Cert.DactBIdeal.main_arg2))
      ∧ θ_run (Cert.DactBReferenceIdeal.defs (F := Ideal)) (onTc (τ := Cert.DactBReferenceIdeal.τ) (Cert.DactBReferenceIdeal.main (F := Ideal))) ⟨m', fun _ => 0, g'⟩ (fun r => ∀ c : Dev Cert.DactBReferenceIdeal.nD,
          r.2.mem ((c.tc : Thread Cert.DactBReferenceIdeal.nD Cert.DactBReferenceIdeal.τ).loc Cert.DactBReferenceIdeal.main_v12) = v0 c
          ∧ r.2.mem ((c.tc : Thread Cert.DactBReferenceIdeal.nD Cert.DactBReferenceIdeal.τ).loc Cert.DactBReferenceIdeal.main_arg0) = m' ((c.tc : Thread Cert.DactBReferenceIdeal.nD Cert.DactBReferenceIdeal.τ).loc Cert.DactBReferenceIdeal.main_arg0)
          ∧ r.2.mem ((c.tc : Thread Cert.DactBReferenceIdeal.nD Cert.DactBReferenceIdeal.τ).loc Cert.DactBReferenceIdeal.main_arg1) = m' ((c.tc : Thread Cert.DactBReferenceIdeal.nD Cert.DactBReferenceIdeal.τ).loc Cert.DactBReferenceIdeal.main_arg1)
          ∧ r.2.mem ((c.tc : Thread Cert.DactBReferenceIdeal.nD Cert.DactBReferenceIdeal.τ).loc Cert.DactBReferenceIdeal.main_arg2) = m' ((c.tc : Thread Cert.DactBReferenceIdeal.nD Cert.DactBReferenceIdeal.τ).loc Cert.DactBReferenceIdeal.main_arg2))

def preserves_DwFf2L_DwFf2LIdeal : Prop :=
  True

def algebraic_DwFf2LIdeal_DwFf2LReferenceIdeal [hDwFf2LIdeal : Cert.DwFf2LIdeal.Facts] [hDwFf2LReferenceIdeal : Cert.DwFf2LReferenceIdeal.Facts] : Prop :=
  ∀ (m : (ℓ : Loc Cert.DwFf2LIdeal.nD Cert.DwFf2LIdeal.τ Cert.DwFf2LIdeal.sig) → Buf (Elt Ideal) ℓ) (g : Dev Cert.DwFf2LIdeal.nD → PrngReg)
    (m' : (ℓ : Loc Cert.DwFf2LReferenceIdeal.nD Cert.DwFf2LReferenceIdeal.τ Cert.DwFf2LReferenceIdeal.sig) → Buf (Elt Ideal) ℓ) (g' : Dev Cert.DwFf2LReferenceIdeal.nD → PrngReg), Pre_DwFf2LIdeal m →
    (∀ c : Dev Cert.DwFf2LIdeal.nD,
      m' ((c.tc : Thread Cert.DwFf2LReferenceIdeal.nD Cert.DwFf2LReferenceIdeal.τ).loc Cert.DwFf2LReferenceIdeal.main_arg0) = m ((c.tc : Thread Cert.DwFf2LIdeal.nD Cert.DwFf2LIdeal.τ).loc Cert.DwFf2LIdeal.main_arg0)
      ∧ m' ((c.tc : Thread Cert.DwFf2LReferenceIdeal.nD Cert.DwFf2LReferenceIdeal.τ).loc Cert.DwFf2LReferenceIdeal.main_arg1) = m ((c.tc : Thread Cert.DwFf2LIdeal.nD Cert.DwFf2LIdeal.τ).loc Cert.DwFf2LIdeal.main_arg1)) →
    ∃ (v0 : (c : Dev Cert.DwFf2LIdeal.nD) → Buf (Elt Ideal) ((c.tc : Thread Cert.DwFf2LIdeal.nD Cert.DwFf2LIdeal.τ).loc Cert.DwFf2LIdeal.main_v4)),
      θ_run (Cert.DwFf2LIdeal.defs (F := Ideal)) (onTc (τ := Cert.DwFf2LIdeal.τ) (Cert.DwFf2LIdeal.main (F := Ideal))) ⟨m, fun _ => 0, g⟩ (fun r => ∀ c : Dev Cert.DwFf2LIdeal.nD,
          r.2.mem ((c.tc : Thread Cert.DwFf2LIdeal.nD Cert.DwFf2LIdeal.τ).loc Cert.DwFf2LIdeal.main_v4) = v0 c
          ∧ r.2.mem ((c.tc : Thread Cert.DwFf2LIdeal.nD Cert.DwFf2LIdeal.τ).loc Cert.DwFf2LIdeal.main_arg0) = m ((c.tc : Thread Cert.DwFf2LIdeal.nD Cert.DwFf2LIdeal.τ).loc Cert.DwFf2LIdeal.main_arg0)
          ∧ r.2.mem ((c.tc : Thread Cert.DwFf2LIdeal.nD Cert.DwFf2LIdeal.τ).loc Cert.DwFf2LIdeal.main_arg1) = m ((c.tc : Thread Cert.DwFf2LIdeal.nD Cert.DwFf2LIdeal.τ).loc Cert.DwFf2LIdeal.main_arg1))
      ∧ θ_run (Cert.DwFf2LReferenceIdeal.defs (F := Ideal)) (onTc (τ := Cert.DwFf2LReferenceIdeal.τ) (Cert.DwFf2LReferenceIdeal.main (F := Ideal))) ⟨m', fun _ => 0, g'⟩ (fun r => ∀ c : Dev Cert.DwFf2LReferenceIdeal.nD,
          r.2.mem ((c.tc : Thread Cert.DwFf2LReferenceIdeal.nD Cert.DwFf2LReferenceIdeal.τ).loc Cert.DwFf2LReferenceIdeal.main_v6) = v0 c
          ∧ r.2.mem ((c.tc : Thread Cert.DwFf2LReferenceIdeal.nD Cert.DwFf2LReferenceIdeal.τ).loc Cert.DwFf2LReferenceIdeal.main_arg0) = m' ((c.tc : Thread Cert.DwFf2LReferenceIdeal.nD Cert.DwFf2LReferenceIdeal.τ).loc Cert.DwFf2LReferenceIdeal.main_arg0)
          ∧ r.2.mem ((c.tc : Thread Cert.DwFf2LReferenceIdeal.nD Cert.DwFf2LReferenceIdeal.τ).loc Cert.DwFf2LReferenceIdeal.main_arg1) = m' ((c.tc : Thread Cert.DwFf2LReferenceIdeal.nD Cert.DwFf2LReferenceIdeal.τ).loc Cert.DwFf2LReferenceIdeal.main_arg1))

def Claim : Prop :=
  ∃ (hSsd : Cert.Ssd.Facts) (hSsdIdeal : Cert.SsdIdeal.Facts) (hSsdReferenceIdeal : Cert.SsdReferenceIdeal.Facts) (hDact : Cert.Dact.Facts) (hDactIdeal : Cert.DactIdeal.Facts) (hDactReferenceIdeal : Cert.DactReferenceIdeal.Facts) (hDwFf1 : Cert.DwFf1.Facts) (hDwFf1Ideal : Cert.DwFf1Ideal.Facts) (hDwFf1ReferenceIdeal : Cert.DwFf1ReferenceIdeal.Facts) (hDwFf2 : Cert.DwFf2.Facts) (hDwFf2Ideal : Cert.DwFf2Ideal.Facts) (hDwFf2ReferenceIdeal : Cert.DwFf2ReferenceIdeal.Facts) (hDwIn : Cert.DwIn.Facts) (hDwInIdeal : Cert.DwInIdeal.Facts) (hDwInReferenceIdeal : Cert.DwInReferenceIdeal.Facts) (hDwO : Cert.DwO.Facts) (hDwOIdeal : Cert.DwOIdeal.Facts) (hDwOReferenceIdeal : Cert.DwOReferenceIdeal.Facts) (hDwSsdOut : Cert.DwSsdOut.Facts) (hDwSsdOutIdeal : Cert.DwSsdOutIdeal.Facts) (hDwSsdOutReferenceIdeal : Cert.DwSsdOutReferenceIdeal.Facts) (hDyn : Cert.Dyn.Facts) (hDynIdeal : Cert.DynIdeal.Facts) (hDynReferenceIdeal : Cert.DynReferenceIdeal.Facts) (hDmerged : Cert.Dmerged.Facts) (hDmergedIdeal : Cert.DmergedIdeal.Facts) (hDmergedReferenceIdeal : Cert.DmergedReferenceIdeal.Facts) (hDu : Cert.Du.Facts) (hDuIdeal : Cert.DuIdeal.Facts) (hDuReferenceIdeal : Cert.DuReferenceIdeal.Facts) (hProj : Cert.Proj.Facts) (hProjIdeal : Cert.ProjIdeal.Facts) (hProjReferenceIdeal : Cert.ProjReferenceIdeal.Facts) (hFf1 : Cert.Ff1.Facts) (hFf1Ideal : Cert.Ff1Ideal.Facts) (hFf1ReferenceIdeal : Cert.Ff1ReferenceIdeal.Facts) (hFf2 : Cert.Ff2.Facts) (hFf2Ideal : Cert.Ff2Ideal.Facts) (hFf2ReferenceIdeal : Cert.Ff2ReferenceIdeal.Facts) (hSsdOut : Cert.SsdOut.Facts) (hSsdOutIdeal : Cert.SsdOutIdeal.Facts) (hSsdOutReferenceIdeal : Cert.SsdOutReferenceIdeal.Facts) (hO : Cert.O.Facts) (hOIdeal : Cert.OIdeal.Facts) (hOReferenceIdeal : Cert.OReferenceIdeal.Facts) (hFf2Norm : Cert.Ff2Norm.Facts) (hFf2NormIdeal : Cert.Ff2NormIdeal.Facts) (hFf2NormReferenceIdeal : Cert.Ff2NormReferenceIdeal.Facts) (hDwPoolUp : Cert.DwPoolUp.Facts) (hDwPoolUpIdeal : Cert.DwPoolUpIdeal.Facts) (hDwPoolUpReferenceIdeal : Cert.DwPoolUpReferenceIdeal.Facts) (hDactB : Cert.DactB.Facts) (hDactBIdeal : Cert.DactBIdeal.Facts) (hDactBReferenceIdeal : Cert.DactBReferenceIdeal.Facts) (hDwFf2L : Cert.DwFf2L.Facts) (hDwFf2LIdeal : Cert.DwFf2LIdeal.Facts) (hDwFf2LReferenceIdeal : Cert.DwFf2LReferenceIdeal.Facts) (hPre_finite_steps : Cert.Pre_finite_steps.Facts),
    quiescent_Ssd (hSsd := hSsd)
    ∧ quiescent_SsdIdeal (hSsdIdeal := hSsdIdeal)
    ∧ quiescent_SsdIdeal_pre_finite_steps (hSsdIdeal := hSsdIdeal) (hPre_finite_steps := hPre_finite_steps)
    ∧ quiescent_SsdReferenceIdeal (hSsdReferenceIdeal := hSsdReferenceIdeal)
    ∧ quiescent_SsdReferenceIdeal_pre_finite_steps (hSsdReferenceIdeal := hSsdReferenceIdeal) (hPre_finite_steps := hPre_finite_steps)
    ∧ quiescent_Dact (hDact := hDact)
    ∧ quiescent_DactIdeal (hDactIdeal := hDactIdeal)
    ∧ quiescent_DactReferenceIdeal (hDactReferenceIdeal := hDactReferenceIdeal)
    ∧ quiescent_DwFf1 (hDwFf1 := hDwFf1)
    ∧ quiescent_DwFf1Ideal (hDwFf1Ideal := hDwFf1Ideal)
    ∧ quiescent_DwFf1ReferenceIdeal (hDwFf1ReferenceIdeal := hDwFf1ReferenceIdeal)
    ∧ quiescent_DwFf2 (hDwFf2 := hDwFf2)
    ∧ quiescent_DwFf2Ideal (hDwFf2Ideal := hDwFf2Ideal)
    ∧ quiescent_DwFf2ReferenceIdeal (hDwFf2ReferenceIdeal := hDwFf2ReferenceIdeal)
    ∧ quiescent_DwIn (hDwIn := hDwIn)
    ∧ quiescent_DwInIdeal (hDwInIdeal := hDwInIdeal)
    ∧ quiescent_DwInReferenceIdeal (hDwInReferenceIdeal := hDwInReferenceIdeal)
    ∧ quiescent_DwO (hDwO := hDwO)
    ∧ quiescent_DwOIdeal (hDwOIdeal := hDwOIdeal)
    ∧ quiescent_DwOReferenceIdeal (hDwOReferenceIdeal := hDwOReferenceIdeal)
    ∧ quiescent_DwSsdOut (hDwSsdOut := hDwSsdOut)
    ∧ quiescent_DwSsdOutIdeal (hDwSsdOutIdeal := hDwSsdOutIdeal)
    ∧ quiescent_DwSsdOutReferenceIdeal (hDwSsdOutReferenceIdeal := hDwSsdOutReferenceIdeal)
    ∧ quiescent_Dyn (hDyn := hDyn)
    ∧ quiescent_DynIdeal (hDynIdeal := hDynIdeal)
    ∧ quiescent_DynReferenceIdeal (hDynReferenceIdeal := hDynReferenceIdeal)
    ∧ quiescent_Dmerged (hDmerged := hDmerged)
    ∧ quiescent_DmergedIdeal (hDmergedIdeal := hDmergedIdeal)
    ∧ quiescent_DmergedReferenceIdeal (hDmergedReferenceIdeal := hDmergedReferenceIdeal)
    ∧ quiescent_Du (hDu := hDu)
    ∧ quiescent_DuIdeal (hDuIdeal := hDuIdeal)
    ∧ quiescent_DuReferenceIdeal (hDuReferenceIdeal := hDuReferenceIdeal)
    ∧ quiescent_Proj (hProj := hProj)
    ∧ quiescent_ProjIdeal (hProjIdeal := hProjIdeal)
    ∧ quiescent_ProjReferenceIdeal (hProjReferenceIdeal := hProjReferenceIdeal)
    ∧ quiescent_Ff1 (hFf1 := hFf1)
    ∧ quiescent_Ff1Ideal (hFf1Ideal := hFf1Ideal)
    ∧ quiescent_Ff1ReferenceIdeal (hFf1ReferenceIdeal := hFf1ReferenceIdeal)
    ∧ quiescent_Ff2 (hFf2 := hFf2)
    ∧ quiescent_Ff2Ideal (hFf2Ideal := hFf2Ideal)
    ∧ quiescent_Ff2ReferenceIdeal (hFf2ReferenceIdeal := hFf2ReferenceIdeal)
    ∧ quiescent_SsdOut (hSsdOut := hSsdOut)
    ∧ quiescent_SsdOutIdeal (hSsdOutIdeal := hSsdOutIdeal)
    ∧ quiescent_SsdOutReferenceIdeal (hSsdOutReferenceIdeal := hSsdOutReferenceIdeal)
    ∧ quiescent_O (hO := hO)
    ∧ quiescent_OIdeal (hOIdeal := hOIdeal)
    ∧ quiescent_OReferenceIdeal (hOReferenceIdeal := hOReferenceIdeal)
    ∧ quiescent_Ff2Norm (hFf2Norm := hFf2Norm)
    ∧ quiescent_Ff2NormIdeal (hFf2NormIdeal := hFf2NormIdeal)
    ∧ quiescent_Ff2NormReferenceIdeal (hFf2NormReferenceIdeal := hFf2NormReferenceIdeal)
    ∧ quiescent_DwPoolUp (hDwPoolUp := hDwPoolUp)
    ∧ quiescent_DwPoolUpIdeal (hDwPoolUpIdeal := hDwPoolUpIdeal)
    ∧ quiescent_DwPoolUpReferenceIdeal (hDwPoolUpReferenceIdeal := hDwPoolUpReferenceIdeal)
    ∧ quiescent_DactB (hDactB := hDactB)
    ∧ quiescent_DactBIdeal (hDactBIdeal := hDactBIdeal)
    ∧ quiescent_DactBReferenceIdeal (hDactBReferenceIdeal := hDactBReferenceIdeal)
    ∧ quiescent_DwFf2L (hDwFf2L := hDwFf2L)
    ∧ quiescent_DwFf2LIdeal (hDwFf2LIdeal := hDwFf2LIdeal)
    ∧ quiescent_DwFf2LReferenceIdeal (hDwFf2LReferenceIdeal := hDwFf2LReferenceIdeal)
    ∧ preserves_Ssd_SsdIdeal
    ∧ algebraic_SsdIdeal_SsdReferenceIdeal_pre_finite_steps (hSsdIdeal := hSsdIdeal) (hSsdReferenceIdeal := hSsdReferenceIdeal) (hPre_finite_steps := hPre_finite_steps)
    ∧ preserves_Dact_DactIdeal
    ∧ algebraic_DactIdeal_DactReferenceIdeal (hDactIdeal := hDactIdeal) (hDactReferenceIdeal := hDactReferenceIdeal)
    ∧ preserves_DwFf1_DwFf1Ideal
    ∧ algebraic_DwFf1Ideal_DwFf1ReferenceIdeal (hDwFf1Ideal := hDwFf1Ideal) (hDwFf1ReferenceIdeal := hDwFf1ReferenceIdeal)
    ∧ preserves_DwFf2_DwFf2Ideal
    ∧ algebraic_DwFf2Ideal_DwFf2ReferenceIdeal (hDwFf2Ideal := hDwFf2Ideal) (hDwFf2ReferenceIdeal := hDwFf2ReferenceIdeal)
    ∧ preserves_DwIn_DwInIdeal
    ∧ algebraic_DwInIdeal_DwInReferenceIdeal (hDwInIdeal := hDwInIdeal) (hDwInReferenceIdeal := hDwInReferenceIdeal)
    ∧ preserves_DwO_DwOIdeal
    ∧ algebraic_DwOIdeal_DwOReferenceIdeal (hDwOIdeal := hDwOIdeal) (hDwOReferenceIdeal := hDwOReferenceIdeal)
    ∧ preserves_DwSsdOut_DwSsdOutIdeal
    ∧ algebraic_DwSsdOutIdeal_DwSsdOutReferenceIdeal (hDwSsdOutIdeal := hDwSsdOutIdeal) (hDwSsdOutReferenceIdeal := hDwSsdOutReferenceIdeal)
    ∧ preserves_Dyn_DynIdeal
    ∧ algebraic_DynIdeal_DynReferenceIdeal (hDynIdeal := hDynIdeal) (hDynReferenceIdeal := hDynReferenceIdeal)
    ∧ preserves_Dmerged_DmergedIdeal
    ∧ algebraic_DmergedIdeal_DmergedReferenceIdeal (hDmergedIdeal := hDmergedIdeal) (hDmergedReferenceIdeal := hDmergedReferenceIdeal)
    ∧ preserves_Du_DuIdeal
    ∧ algebraic_DuIdeal_DuReferenceIdeal (hDuIdeal := hDuIdeal) (hDuReferenceIdeal := hDuReferenceIdeal)
    ∧ preserves_Proj_ProjIdeal
    ∧ algebraic_ProjIdeal_ProjReferenceIdeal (hProjIdeal := hProjIdeal) (hProjReferenceIdeal := hProjReferenceIdeal)
    ∧ preserves_Ff1_Ff1Ideal
    ∧ algebraic_Ff1Ideal_Ff1ReferenceIdeal (hFf1Ideal := hFf1Ideal) (hFf1ReferenceIdeal := hFf1ReferenceIdeal)
    ∧ preserves_Ff2_Ff2Ideal
    ∧ algebraic_Ff2Ideal_Ff2ReferenceIdeal (hFf2Ideal := hFf2Ideal) (hFf2ReferenceIdeal := hFf2ReferenceIdeal)
    ∧ preserves_SsdOut_SsdOutIdeal
    ∧ algebraic_SsdOutIdeal_SsdOutReferenceIdeal (hSsdOutIdeal := hSsdOutIdeal) (hSsdOutReferenceIdeal := hSsdOutReferenceIdeal)
    ∧ preserves_O_OIdeal
    ∧ algebraic_OIdeal_OReferenceIdeal (hOIdeal := hOIdeal) (hOReferenceIdeal := hOReferenceIdeal)
    ∧ preserves_Ff2Norm_Ff2NormIdeal
    ∧ algebraic_Ff2NormIdeal_Ff2NormReferenceIdeal (hFf2NormIdeal := hFf2NormIdeal) (hFf2NormReferenceIdeal := hFf2NormReferenceIdeal)
    ∧ preserves_DwPoolUp_DwPoolUpIdeal
    ∧ algebraic_DwPoolUpIdeal_DwPoolUpReferenceIdeal (hDwPoolUpIdeal := hDwPoolUpIdeal) (hDwPoolUpReferenceIdeal := hDwPoolUpReferenceIdeal)
    ∧ preserves_DactB_DactBIdeal
    ∧ algebraic_DactBIdeal_DactBReferenceIdeal (hDactBIdeal := hDactBIdeal) (hDactBReferenceIdeal := hDactBReferenceIdeal)
    ∧ preserves_DwFf2L_DwFf2LIdeal
    ∧ algebraic_DwFf2LIdeal_DwFf2LReferenceIdeal (hDwFf2LIdeal := hDwFf2LIdeal) (hDwFf2LReferenceIdeal := hDwFf2LReferenceIdeal)
-- ==== Pre_finite_steps.lean ====
abbrev S4224x4096 : Shape := ⟨2, ![4224, 4096]⟩
abbrev S4224x32 : Shape := ⟨2, ![4224, 32]⟩
abbrev S32 : Shape := ⟨1, ![32]⟩
abbrev S4224x2048 : Shape := ⟨2, ![4224, 2048]⟩
abbrev S_ : Shape := ⟨0, ![]⟩

class Facts : Prop where
  bcast_S_S4224x32 : S_.BroadcastsInDim S4224x32 (![] : Fin 0 → Fin S4224x32.rank)
  reducesTo_S4224x32_S_d0_1 : S4224x32.ReducesTo [0, 1] S_
  h_S_ : 0 < S_.numel
  bcast_S_S32 : S_.BroadcastsInDim S32 (![] : Fin 0 → Fin S32.rank)
  reducesTo_S32_S_d0 : S32.ReducesTo [0] S_

variable [Facts]

def fn {F : FTy → Type} [FloatOps F] (main_arg0 : FVec F S4224x4096 .f32) (main_arg1 : FVec F S4224x32 .f32) (main_arg2 : FVec F S32 .f32) (main_arg3 : FVec F S32 .f32) (main_arg4 : FVec F S4224x2048 .f32) : IVec S_ 1 :=
  let main_v0 : FVec F S4224x32 .f32 := Host.absf main_arg1
  let main_cst : FVec F S_ .f32 := constant S_ .f32 0x7F800000#32
  let main_v1 : FVec F S4224x32 .f32 := broadcastInDim S4224x32 ![] bcast_S_S4224x32 main_cst
  let main_v2 : IVec S4224x32 1 := cmpf .olt main_v0 main_v1
  let main_c : IVec S_ 1 := constantI S_ 1 1#1
  let main_v3 : IVec S_ 1 := (fun x v => Host.reduce IntOp.andi x v reducesTo_S4224x32_S_d0_1 h_S_) main_v2 main_c
  let main_v4 : FVec F S32 .f32 := Host.absf main_arg2
  let main_cst_0 : FVec F S_ .f32 := constant S_ .f32 0x7F800000#32
  let main_v5 : FVec F S32 .f32 := broadcastInDim S32 ![] bcast_S_S32 main_cst_0
  let main_v6 : IVec S32 1 := cmpf .olt main_v4 main_v5
  let main_c_1 : IVec S_ 1 := constantI S_ 1 1#1
  let main_v7 : IVec S_ 1 := (fun x v => Host.reduce IntOp.andi x v reducesTo_S32_S_d0 h_S_) main_v6 main_c_1
  let main_v8 : IVec S_ 1 := andi main_v3 main_v7
  main_v8
-- ==== Ssd.lean ====
abbrev S4224x4096 : Shape := ⟨2, ![4224, 4096]⟩
abbrev S4224x32 : Shape := ⟨2, ![4224, 32]⟩
abbrev S32 : Shape := ⟨1, ![32]⟩
abbrev S4224x2048 : Shape := ⟨2, ![4224, 2048]⟩
abbrev S1x32 : Shape := ⟨2, ![1, 32]⟩
abbrev S33x128x8x4 : Shape := ⟨4, ![33, 128, 8, 4]⟩
abbrev S_ : Shape := ⟨0, ![]⟩
abbrev S4224x32x64 : Shape := ⟨3, ![4224, 32, 64]⟩
abbrev S4224x32x1 : Shape := ⟨3, ![4224, 32, 1]⟩
abbrev S33x128x8x4x64 : Shape := ⟨5, ![33, 128, 8, 4, 64]⟩
abbrev S4224x1024 : Shape := ⟨2, ![4224, 1024]⟩
abbrev S33x128x8x128 : Shape := ⟨4, ![33, 128, 8, 128]⟩
abbrev S33x1x8x4 : Shape := ⟨4, ![33, 1, 8, 4]⟩
abbrev S33x128x8x4x1 : Shape := ⟨5, ![33, 128, 8, 4, 1]⟩
abbrev S33x8x4x64x128 : Shape := ⟨5, ![33, 8, 4, 64, 128]⟩
abbrev S33x8x4 : Shape := ⟨3, ![33, 8, 4]⟩
abbrev S1x8x4 : Shape := ⟨3, ![1, 8, 4]⟩
abbrev S32x8x4 : Shape := ⟨3, ![32, 8, 4]⟩
abbrev S33x33 : Shape := ⟨2, ![33, 33]⟩
abbrev S33x33x1x1 : Shape := ⟨4, ![33, 33, 1, 1]⟩
abbrev S1x33x8x4 : Shape := ⟨4, ![1, 33, 8, 4]⟩
abbrev S33x33x8x4 : Shape := ⟨4, ![33, 33, 8, 4]⟩
abbrev S8x4x64x128x33 : Shape := ⟨5, ![8, 4, 64, 128, 33]⟩
abbrev S33x8x128x4x64 : Shape := ⟨5, ![33, 8, 128, 4, 64]⟩
abbrev S33x8x128x256 : Shape := ⟨4, ![33, 8, 128, 256]⟩
abbrev S4224x8x4 : Shape := ⟨3, ![4224, 8, 4]⟩
abbrev S8x4224x4 : Shape := ⟨3, ![8, 4224, 4]⟩
abbrev S8x4x4224 : Shape := ⟨3, ![8, 4, 4224]⟩
abbrev S8x1x4 : Shape := ⟨3, ![8, 1, 4]⟩
abbrev S32x64 : Shape := ⟨2, ![32, 64]⟩
abbrev S2048 : Shape := ⟨1, ![2048]⟩
abbrev S1x2048 : Shape := ⟨2, ![1, 2048]⟩
abbrev S128x2048 : Shape := ⟨2, ![128, 2048]⟩
abbrev S128x1024 : Shape := ⟨2, ![128, 1024]⟩
abbrev S8x128x4 : Shape := ⟨3, ![8, 128, 4]⟩
abbrev S8x4x128 : Shape := ⟨3, ![8, 4, 128]⟩
abbrev S1x8x128x256 : Shape := ⟨4, ![1, 8, 128, 256]⟩
abbrev S8x128x256 : Shape := ⟨3, ![8, 128, 256]⟩
abbrev S1x128x4 : Shape := ⟨3, ![1, 128, 4]⟩
abbrev S128x4 : Shape := ⟨2, ![128, 4]⟩
abbrev S1x4x128 : Shape := ⟨3, ![1, 4, 128]⟩
abbrev S4x128 : Shape := ⟨2, ![4, 128]⟩
abbrev S1x256 : Shape := ⟨2, ![1, 256]⟩
abbrev S128x1 : Shape := ⟨2, ![128, 1]⟩
abbrev S128x256 : Shape := ⟨2, ![128, 256]⟩
abbrev S1x1x4 : Shape := ⟨3, ![1, 1, 4]⟩
abbrev S1x4 : Shape := ⟨2, ![1, 4]⟩
abbrev S128x128 : Shape := ⟨2, ![128, 128]⟩
abbrev S1x1x128x256 : Shape := ⟨4, ![1, 1, 128, 256]⟩
abbrev S1x128x256 : Shape := ⟨3, ![1, 128, 256]⟩
abbrev S512x1 : Shape := ⟨2, ![512, 1]⟩
abbrev S1x128 : Shape := ⟨2, ![1, 128]⟩
abbrev S512x128 : Shape := ⟨2, ![512, 128]⟩
abbrev S512x256 : Shape := ⟨2, ![512, 256]⟩
abbrev S512 : Shape := ⟨1, ![512]⟩
abbrev S256 : Shape := ⟨1, ![256]⟩
abbrev S128 : Shape := ⟨1, ![128]⟩
abbrev S1 : Shape := ⟨1, ![1]⟩
abbrev S1x1 : Shape := ⟨2, ![1, 1]⟩
abbrev S4 : Shape := ⟨1, ![4]⟩

abbrev nBuf : Space → Nat
  | .hbm => 80
  | .vmem => 31
  | .smem => 0
  | _ => 0

abbrev bufTy : (tb : Table) → Fin (tcTables nBuf tb) → BufTy
  | .hbm, ⟨0, _⟩ => ⟨S4224x4096, .f32⟩
  | .hbm, ⟨1, _⟩ => ⟨S4224x32, .f32⟩
  | .hbm, ⟨2, _⟩ => ⟨S32, .f32⟩
  | .hbm, ⟨3, _⟩ => ⟨S32, .f32⟩
  | .hbm, ⟨4, _⟩ => ⟨S4224x2048, .f32⟩
  | .hbm, ⟨5, _⟩ => ⟨S32, .f32⟩
  | .hbm, ⟨6, _⟩ => ⟨S32, .f32⟩
  | .hbm, ⟨7, _⟩ => ⟨S1x32, .f32⟩
  | .hbm, ⟨8, _⟩ => ⟨S4224x32, .f32⟩
  | .hbm, ⟨9, _⟩ => ⟨S4224x32, .f32⟩
  | .hbm, ⟨10, _⟩ => ⟨S33x128x8x4, .f32⟩
  | .hbm, ⟨11, _⟩ => ⟨S_, .f32⟩
  | .hbm, ⟨12, _⟩ => ⟨S_, .f32⟩
  | .hbm, ⟨13, _⟩ => ⟨S33x128x8x4, .f32⟩
  | .hbm, ⟨14, _⟩ => ⟨S4224x2048, .f32⟩
  | .hbm, ⟨15, _⟩ => ⟨S4224x32x64, .f32⟩
  | .hbm, ⟨16, _⟩ => ⟨S4224x32x1, .f32⟩
  | .hbm, ⟨17, _⟩ => ⟨S4224x32x64, .f32⟩
  | .hbm, ⟨18, _⟩ => ⟨S4224x32x64, .f32⟩
  | .hbm, ⟨19, _⟩ => ⟨S33x128x8x4x64, .f32⟩
  | .hbm, ⟨20, _⟩ => ⟨S4224x1024, .f32⟩
  | .hbm, ⟨21, _⟩ => ⟨S33x128x8x128, .f32⟩
  | .hbm, ⟨22, _⟩ => ⟨S33x1x8x4, .f32⟩
  | .hbm, ⟨23, _⟩ => ⟨S33x128x8x4, .f32⟩
  | .hbm, ⟨24, _⟩ => ⟨S33x128x8x4, .f32⟩
  | .hbm, ⟨25, _⟩ => ⟨S33x128x8x4, .f32⟩
  | .hbm, ⟨26, _⟩ => ⟨S33x128x8x4x1, .f32⟩
  | .hbm, ⟨27, _⟩ => ⟨S33x128x8x4x64, .f32⟩
  | .hbm, ⟨28, _⟩ => ⟨S33x128x8x4x64, .f32⟩
  | .hbm, ⟨29, _⟩ => ⟨S33x8x4x64x128, .f32⟩
  | .hbm, ⟨30, _⟩ => ⟨S33x1x8x4, .f32⟩
  | .hbm, ⟨31, _⟩ => ⟨S33x8x4, .f32⟩
  | .hbm, ⟨32, _⟩ => ⟨S_, .f32⟩
  | .hbm, ⟨33, _⟩ => ⟨S_, .f32⟩
  | .hbm, ⟨34, _⟩ => ⟨S33x8x4, .f32⟩
  | .hbm, ⟨35, _⟩ => ⟨S_, .f32⟩
  | .hbm, ⟨36, _⟩ => ⟨S1x8x4, .f32⟩
  | .hbm, ⟨37, _⟩ => ⟨S32x8x4, .f32⟩
  | .hbm, ⟨38, _⟩ => ⟨S33x8x4, .f32⟩
  | .hbm, ⟨39, _⟩ => ⟨S_, .i1⟩
  | .hbm, ⟨40, _⟩ => ⟨S33x33, .i1⟩
  | .hbm, ⟨41, _⟩ => ⟨S33x33, .i32⟩
  | .hbm, ⟨42, _⟩ => ⟨S_, .i32⟩
  | .hbm, ⟨43, _⟩ => ⟨S33x33, .i32⟩
  | .hbm, ⟨44, _⟩ => ⟨S33x33, .i32⟩
  | .hbm, ⟨45, _⟩ => ⟨S33x33, .i32⟩
  | .hbm, ⟨46, _⟩ => ⟨S33x33, .i1⟩
  | .hbm, ⟨47, _⟩ => ⟨S_, .i1⟩
  | .hbm, ⟨48, _⟩ => ⟨S33x33, .i1⟩
  | .hbm, ⟨49, _⟩ => ⟨S33x33, .i1⟩
  | .hbm, ⟨50, _⟩ => ⟨S33x33x1x1, .i1⟩
  | .hbm, ⟨51, _⟩ => ⟨S33x1x8x4, .f32⟩
  | .hbm, ⟨52, _⟩ => ⟨S1x33x8x4, .f32⟩
  | .hbm, ⟨53, _⟩ => ⟨S33x33x8x4, .f32⟩
  | .hbm, ⟨54, _⟩ => ⟨S33x33x8x4, .f32⟩
  | .hbm, ⟨55, _⟩ => ⟨S33x33x8x4, .f32⟩
  | .hbm, ⟨56, _⟩ => ⟨S33x33x8x4, .f32⟩
  | .hbm, ⟨57, _⟩ => ⟨S_, .f32⟩
  | .hbm, ⟨58, _⟩ => ⟨S_, .f32⟩
  | .hbm, ⟨59, _⟩ => ⟨S33x33x8x4, .i1⟩
  | .hbm, ⟨60, _⟩ => ⟨S33x33x8x4, .f32⟩
  | .hbm, ⟨61, _⟩ => ⟨S33x33x8x4, .f32⟩
  | .hbm, ⟨62, _⟩ => ⟨S8x4x64x128x33, .f32⟩
  | .hbm, ⟨63, _⟩ => ⟨S33x8x128x4x64, .f32⟩
  | .hbm, ⟨64, _⟩ => ⟨S33x8x128x256, .f32⟩
  | .hbm, ⟨65, _⟩ => ⟨S4224x8x4, .f32⟩
  | .hbm, ⟨66, _⟩ => ⟨S4224x8x4, .f32⟩
  | .hbm, ⟨67, _⟩ => ⟨S8x4224x4, .f32⟩
  | .hbm, ⟨68, _⟩ => ⟨S8x4224x4, .f32⟩
  | .hbm, ⟨69, _⟩ => ⟨S8x4x4224, .f32⟩
  | .hbm, ⟨70, _⟩ => ⟨S8x1x4, .f32⟩
  | .hbm, ⟨71, _⟩ => ⟨S32x64, .f32⟩
  | .hbm, ⟨72, _⟩ => ⟨S2048, .f32⟩
  | .hbm, ⟨73, _⟩ => ⟨S1x2048, .f32⟩
  | .hbm, ⟨74, _⟩ => ⟨S4224x2048, .f32⟩
  | .hbm, ⟨75, _⟩ => ⟨S4224x1024, .f32⟩
  | .hbm, ⟨76, _⟩ => ⟨S4224x1024, .f32⟩
  | .hbm, ⟨77, _⟩ => ⟨S8x4224x4, .f32⟩
  | .hbm, ⟨78, _⟩ => ⟨S8x1x4, .f32⟩
  | .hbm, ⟨79, _⟩ => ⟨S8x1x4, .f32⟩
  | .local _ .vmem, ⟨0, _⟩ => ⟨S128x2048, .f32⟩
  | .local _ .vmem, ⟨1, _⟩ => ⟨S128x2048, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S8x128x4, .f32⟩
  | .local _ .vmem, ⟨7, _⟩ => ⟨S8x128x4, .f32⟩
  | .local _ .vmem, ⟨8, _⟩ => ⟨S8x128x4, .f32⟩
  | .local _ .vmem, ⟨9, _⟩ => ⟨S8x128x4, .f32⟩
  | .local _ .vmem, ⟨10, _⟩ => ⟨S8x4x128, .f32⟩
  | .local _ .vmem, ⟨11, _⟩ => ⟨S8x4x128, .f32⟩
  | .local _ .vmem, ⟨12, _⟩ => ⟨S8x128x4, .f32⟩
  | .local _ .vmem, ⟨13, _⟩ => ⟨S8x128x4, .f32⟩
  | .local _ .vmem, ⟨14, _⟩ => ⟨S8x1x4, .f32⟩
  | .local _ .vmem, ⟨15, _⟩ => ⟨S128x2048, .f32⟩
  | .local _ .vmem, ⟨16, _⟩ => ⟨S128x2048, .f32⟩
  | .local _ .vmem, ⟨17, _⟩ => ⟨S1x2048, .f32⟩
  | .local _ .vmem, ⟨18, _⟩ => ⟨S1x8x128x256, .f32⟩
  | .local _ .vmem, ⟨19, _⟩ => ⟨S1x8x128x256, .f32⟩
  | .local _ .vmem, ⟨20, _⟩ => ⟨S128x2048, .f32⟩
  | .local _ .vmem, ⟨21, _⟩ => ⟨S128x2048, .f32⟩
  | .local _ .vmem, ⟨22, _⟩ => ⟨S128x1024, .f32⟩
  | .local _ .vmem, ⟨23, _⟩ => ⟨S128x1024, .f32⟩
  | .local _ .vmem, ⟨24, _⟩ => ⟨S128x1024, .f32⟩
  | .local _ .vmem, ⟨25, _⟩ => ⟨S128x1024, .f32⟩
  | .local _ .vmem, ⟨26, _⟩ => ⟨S8x128x4, .f32⟩
  | .local _ .vmem, ⟨27, _⟩ => ⟨S8x128x4, .f32⟩
  | .local _ .vmem, ⟨28, _⟩ => ⟨S8x1x4, .f32⟩
  | .local _ .vmem, ⟨29, _⟩ => ⟨S8x1x4, .f32⟩
  | .local _ .vmem, ⟨30, _⟩ => ⟨S8x128x256, .f32⟩
  | _, _ => ⟨S4224x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call0_call0_cst : Ref sig .tc := ⟨.hbm, 11, rfl⟩
abbrev main_call0_call0_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_call1_call0_cst : Ref sig .tc := ⟨.hbm, 32, rfl⟩
abbrev main_call1_call0_v0 : Ref sig .tc := ⟨.hbm, 33, rfl⟩
abbrev main_v25 : Ref sig .tc := ⟨.hbm, 34, rfl⟩
abbrev main_cst : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c : Ref sig .tc := ⟨.hbm, 39, rfl⟩
abbrev main_v29 : Ref sig .tc := ⟨.hbm, 40, rfl⟩
abbrev main_call2_v0 : Ref sig .tc := ⟨.hbm, 41, rfl⟩
abbrev main_call2_c : Ref sig .tc := ⟨.hbm, 42, rfl⟩
abbrev main_call2_v1 : Ref sig .tc := ⟨.hbm, 43, rfl⟩
abbrev main_call2_v2 : Ref sig .tc := ⟨.hbm, 44, rfl⟩
abbrev main_call2_v3 : Ref sig .tc := ⟨.hbm, 45, rfl⟩
abbrev main_call2_v4 : Ref sig .tc := ⟨.hbm, 46, rfl⟩
abbrev main_call2_c_0 : Ref sig .tc := ⟨.hbm, 47, rfl⟩
abbrev main_call2_v5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_0 : Ref sig .tc := ⟨.hbm, 57, rfl⟩
abbrev main_call3_v0 : Ref sig .tc := ⟨.hbm, 58, rfl⟩
abbrev main_call3_v1 : Ref sig .tc := ⟨.hbm, 59, rfl⟩
abbrev main_call3_v2 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51_0 : Ref sig .tc := ⟨.hbm, 74, rfl⟩
abbrev main_v51_1 : Ref sig .tc := ⟨.hbm, 75, rfl⟩
abbrev main_v51_2 : Ref sig .tc := ⟨.hbm, 76, rfl⟩
abbrev main_v51_3 : Ref sig .tc := ⟨.hbm, 77, rfl⟩
abbrev main_v51_4 : Ref sig .tc := ⟨.hbm, 78, rfl⟩
abbrev main_v51_5 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg16_0 : Ref sig .tc := ⟨.vmem, 29, rfl⟩
abbrev cc0_scratch0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem16_0 : DmaSem sig := 29

abbrev nD : Nat := 1
abbrev τ : Topo := Topo.v7x

variable {F : FTy → Type} [FloatOps F]

abbrev grid0 : Pipeline.Grid := ⟨2, ![1, 33], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c2_i32 : BitVec 32 := 2#32
  let v1 : BitVec 32 := Scalar.addi c2_i32 arg0
  let c0_i32 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c3_i32 : BitVec 32 := 3#32
  let v1 : BitVec 32 := Scalar.addi c3_i32 arg0
  let c0_i32 : BitVec 32 := 0#32
  ![v0.toNat, v1.toNat]

def cc0_transform_3 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c0_i32 : BitVec 32 := 0#32
  let c0_i32_0 : BitVec 32 := 0#32
  ![arg0.toNat, v0.toNat, c0_i32.toNat]

def cc0_transform_4 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c0_i32 : BitVec 32 := 0#32
  let c0_i32_0 : BitVec 32 := 0#32
  ![arg0.toNat, v0.toNat, c0_i32.toNat]

def cc0_transform_5 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c0_i32 : BitVec 32 := 0#32
  let c0_i32_0 : BitVec 32 := 0#32
  ![arg0.toNat, c0_i32.toNat, v0.toNat]

def cc0_transform_6 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c0_i32 : BitVec 32 := 0#32
  let c0_i32_0 : BitVec 32 := 0#32
  ![arg0.toNat, v0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c0_i32 : BitVec 32 := 0#32
  ![v0.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c0_i32 : BitVec 32 := 0#32
  let c0_i32_0 : BitVec 32 := 0#32
  let c0_i32_1 : BitVec 32 := 0#32
  ![v0.toNat, arg0.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c0_i32 : BitVec 32 := 0#32
  ![v0.toNat, arg0.toNat]

def cc0_transform_12 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c0_i32 : BitVec 32 := 0#32
  ![v0.toNat, arg0.toNat]

def cc0_transform_13 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c0_i32 : BitVec 32 := 0#32
  ![v0.toNat, arg0.toNat]

def cc0_transform_14 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c0_i32 : BitVec 32 := 0#32
  let c0_i32_0 : BitVec 32 := 0#32
  ![arg0.toNat, v0.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x128x4 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x4x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x128x4 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S8x1x4 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 2 → Memref sig .tc .vmem S128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]

abbrev stage0_10 : Fin 2 → Memref sig .tc .vmem S1x8x128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S128x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S128x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S128x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S8x128x4 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 1 → Memref sig .tc .vmem S8x1x4 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true, false]

abbrev stage0_16 : Fin 1 → Memref sig .tc .vmem S8x1x4 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true, false]
-- ==== SsdReferenceIdeal.lean ====
abbrev S4224x4096 : Shape := ⟨2, ![4224, 4096]⟩
abbrev S4224x32 : Shape := ⟨2, ![4224, 32]⟩
abbrev S32 : Shape := ⟨1, ![32]⟩
abbrev S4224x2048 : Shape := ⟨2, ![4224, 2048]⟩
abbrev S4224x1024 : Shape := ⟨2, ![4224, 1024]⟩
abbrev S4224x32x64 : Shape := ⟨3, ![4224, 32, 64]⟩
abbrev S33x128x8x128 : Shape := ⟨4, ![33, 128, 8, 128]⟩
abbrev S4224x32x1 : Shape := ⟨3, ![4224, 32, 1]⟩
abbrev S33x128x8x4x64 : Shape := ⟨5, ![33, 128, 8, 4, 64]⟩
abbrev S1x32 : Shape := ⟨2, ![1, 32]⟩
abbrev S33x128x8x4 : Shape := ⟨4, ![33, 128, 8, 4]⟩
abbrev S_ : Shape := ⟨0, ![]⟩
abbrev S128x128 : Shape := ⟨2, ![128, 128]⟩
abbrev S128x128x1x1 : Shape := ⟨4, ![128, 128, 1, 1]⟩
abbrev S33x128x1x8x4 : Shape := ⟨5, ![33, 128, 1, 8, 4]⟩
abbrev S33x1x128x8x4 : Shape := ⟨5, ![33, 1, 128, 8, 4]⟩
abbrev S33x128x128x8x4 : Shape := ⟨5, ![33, 128, 128, 8, 4]⟩
abbrev S33x8x128x128 : Shape := ⟨4, ![33, 8, 128, 128]⟩
abbrev S33x128x128x8 : Shape := ⟨4, ![33, 128, 128, 8]⟩
abbrev S33x128x128x8x1 : Shape := ⟨5, ![33, 128, 128, 8, 1]⟩
abbrev S33x8x4x64x128 : Shape := ⟨5, ![33, 8, 4, 64, 128]⟩
abbrev S33x1x8x4 : Shape := ⟨4, ![33, 1, 8, 4]⟩
abbrev S33x128x8x4x1 : Shape := ⟨5, ![33, 128, 8, 4, 1]⟩
abbrev S1x8x4x64x128 : Shape := ⟨5, ![1, 8, 4, 64, 128]⟩
abbrev S33x8x4 : Shape := ⟨3, ![33, 8, 4]⟩
abbrev S33x8x4x1x1 : Shape := ⟨5, ![33, 8, 4, 1, 1]⟩
abbrev S11x8x4x64x128 : Shape := ⟨5, ![11, 8, 4, 64, 128]⟩
abbrev S32x1 : Shape := ⟨2, ![32, 1]⟩
abbrev S1x32x1 : Shape := ⟨3, ![1, 32, 1]⟩
abbrev S33x8x4x128x128 : Shape := ⟨5, ![33, 8, 4, 128, 128]⟩

abbrev nBuf : Space → Nat
  | .hbm => 373
  | .vmem => 0
  | .smem => 0
  | _ => 0

abbrev hbmTy0_0 (i : Nat) : BufTy := match i % 128 with
  | 0 => ⟨S4224x4096, .f32⟩
  | 1 => ⟨S4224x32, .f32⟩
  | 2 => ⟨S32, .f32⟩
  | 3 => ⟨S32, .f32⟩
  | 4 => ⟨S4224x2048, .f32⟩
  | 5 => ⟨S4224x2048, .f32⟩
  | 6 => ⟨S4224x1024, .f32⟩
  | 7 => ⟨S4224x1024, .f32⟩
  | 8 => ⟨S32, .f32⟩
  | 9 => ⟨S32, .f32⟩
  | 10 => ⟨S4224x32x64, .f32⟩
  | 11 => ⟨S33x128x8x128, .f32⟩
  | 12 => ⟨S33x128x8x128, .f32⟩
  | 13 => ⟨S4224x32x1, .f32⟩
  | 14 => ⟨S4224x32x64, .f32⟩
  | 15 => ⟨S4224x32x64, .f32⟩
  | 16 => ⟨S33x128x8x4x64, .f32⟩
  | 17 => ⟨S1x32, .f32⟩
  | 18 => ⟨S4224x32, .f32⟩
  | 19 => ⟨S4224x32, .f32⟩
  | 20 => ⟨S33x128x8x4, .f32⟩
  | 21 => ⟨S_, .f32⟩
  | 22 => ⟨S_, .f32⟩
  | 23 => ⟨S33x128x8x4, .f32⟩
  | 24 => ⟨S_, .i1⟩
  | 25 => ⟨S128x128, .i1⟩
  | 26 => ⟨S128x128, .i32⟩
  | 27 => ⟨S_, .i32⟩
  | 28 => ⟨S128x128, .i32⟩
  | 29 => ⟨S128x128, .i32⟩
  | 30 => ⟨S128x128, .i32⟩
  | 31 => ⟨S128x128, .i1⟩
  | 32 => ⟨S_, .i1⟩
  | 33 => ⟨S128x128, .i1⟩
  | 34 => ⟨S128x128, .i1⟩
  | 35 => ⟨S128x128x1x1, .i1⟩
  | 36 => ⟨S33x128x1x8x4, .f32⟩
  | 37 => ⟨S33x1x128x8x4, .f32⟩
  | 38 => ⟨S33x128x128x8x4, .f32⟩
  | 39 => ⟨S33x128x128x8x4, .f32⟩
  | 40 => ⟨S33x128x128x8x4, .f32⟩
  | 41 => ⟨S_, .f32⟩
  | 42 => ⟨S_, .f32⟩
  | 43 => ⟨S33x128x128x8x4, .i1⟩
  | 44 => ⟨S33x128x128x8x4, .f32⟩
  | 45 => ⟨S33x128x128x8x4, .f32⟩
  | 46 => ⟨S33x128x128x8x4, .f32⟩
  | 47 => ⟨S33x8x128x128, .f32⟩
  | 48 => ⟨S33x128x128x8, .f32⟩
  | 49 => ⟨S33x128x128x8x1, .f32⟩
  | 50 => ⟨S33x128x128x8x4, .f32⟩
  | 51 => ⟨S33x128x128x8x4, .f32⟩
  | 52 => ⟨S33x8x4x64x128, .f32⟩
  | 53 => ⟨S33x128x8x4x64, .f32⟩
  | 54 => ⟨S33x1x8x4, .f32⟩
  | 55 => ⟨S33x128x8x4, .f32⟩
  | 56 => ⟨S33x128x8x4, .f32⟩
  | 57 => ⟨S33x128x8x4, .f32⟩
  | 58 => ⟨S33x128x8x4x1, .f32⟩
  | 59 => ⟨S33x128x8x4x64, .f32⟩
  | 60 => ⟨S33x128x8x4x64, .f32⟩
  | 61 => ⟨S33x8x4x64x128, .f32⟩
  | 62 => ⟨S_, .f32⟩
  | 63 => ⟨S1x8x4x64x128, .f32⟩
  | 64 => ⟨S33x1x8x4, .f32⟩
  | 65 => ⟨S33x8x4, .f32⟩
  | 66 => ⟨S33x8x4, .f32⟩
  | 67 => ⟨S33x8x4x1x1, .f32⟩
  | 68 => ⟨S33x8x4x64x128, .f32⟩
  | 69 => ⟨S11x8x4x64x128, .f32⟩
  | 70 => ⟨S11x8x4x64x128, .f32⟩
  | 71 => ⟨S11x8x4x64x128, .f32⟩
  | 72 => ⟨S11x8x4x64x128, .f32⟩
  | 73 => ⟨S11x8x4x64x128, .f32⟩
  | 74 => ⟨S11x8x4x64x128, .f32⟩
  | 75 => ⟨S1x8x4x64x128, .f32⟩
  | 76 => ⟨S1x8x4x64x128, .f32⟩
  | 77 => ⟨S1x8x4x64x128, .f32⟩
  | 78 => ⟨S1x8x4x64x128, .f32⟩
  | 79 => ⟨S1x8x4x64x128, .f32⟩
  | 80 => ⟨S1x8x4x64x128, .f32⟩
  | 81 => ⟨S1x8x4x64x128, .f32⟩
  | 82 => ⟨S1x8x4x64x128, .f32⟩
  | 83 => ⟨S1x8x4x64x128, .f32⟩
  | 84 => ⟨S1x8x4x64x128, .f32⟩
  | 85 => ⟨S1x8x4x64x128, .f32⟩
  | 86 => ⟨S1x8x4x64x128, .f32⟩
  | 87 => ⟨S1x8x4x64x128, .f32⟩
  | 88 => ⟨S1x8x4x64x128, .f32⟩
  | 89 => ⟨S1x8x4x64x128, .f32⟩
  | 90 => ⟨S1x8x4x64x128, .f32⟩
  | 91 => ⟨S1x8x4x64x128, .f32⟩
  | 92 => ⟨S1x8x4x64x128, .f32⟩
  | 93 => ⟨S1x8x4x64x128, .f32⟩
  | 94 => ⟨S1x8x4x64x128, .f32⟩
  | 95 => ⟨S1x8x4x64x128, .f32⟩
  | 96 => ⟨S1x8x4x64x128, .f32⟩
  | 97 => ⟨S1x8x4x64x128, .f32⟩
  | 98 => ⟨S1x8x4x64x128, .f32⟩
  | 99 => ⟨S1x8x4x64x128, .f32⟩
  | 100 => ⟨S1x8x4x64x128, .f32⟩
  | 101 => ⟨S1x8x4x64x128, .f32⟩
  | 102 => ⟨S1x8x4x64x128, .f32⟩
  | 103 => ⟨S1x8x4x64x128, .f32⟩
  | 104 => ⟨S1x8x4x64x128, .f32⟩
  | 105 => ⟨S1x8x4x64x128, .f32⟩
  | 106 => ⟨S1x8x4x64x128, .f32⟩
  | 107 => ⟨S1x8x4x64x128, .f32⟩
  | 108 => ⟨S1x8x4x64x128, .f32⟩
  | 109 => ⟨S1x8x4x64x128, .f32⟩
  | 110 => ⟨S1x8x4x64x128, .f32⟩
  | 111 => ⟨S1x8x4x64x128, .f32⟩
  | 112 => ⟨S1x8x4x64x128, .f32⟩
  | 113 => ⟨S1x8x4x64x128, .f32⟩
  | 114 => ⟨S1x8x4x64x128, .f32⟩
  | 115 => ⟨S1x8x4x64x128, .f32⟩
  | 116 => ⟨S1x8x4x64x128, .f32⟩
  | 117 => ⟨S1x8x4x64x128, .f32⟩
  | 118 => ⟨S1x8x4x64x128, .f32⟩
  | 119 => ⟨S11x8x4x64x128, .f32⟩
  | 120 => ⟨S_, .f32⟩
  | 121 => ⟨S1x8x4x64x128, .f32⟩
  | 122 => ⟨S1x8x4x64x128, .f32⟩
  | 123 => ⟨S1x8x4x64x128, .f32⟩
  | 124 => ⟨S1x8x4x64x128, .f32⟩
  | 125 => ⟨S1x8x4x64x128, .f32⟩
  | 126 => ⟨S1x8x4x64x128, .f32⟩
  | 127 => ⟨S1x8x4x64x128, .f32⟩
  | _ => ⟨S4224x4096, .f32⟩

abbrev hbmTy0_1 (i : Nat) : BufTy := match i % 128 with
  | 0 => ⟨S1x8x4x64x128, .f32⟩
  | 1 => ⟨S1x8x4x64x128, .f32⟩
  | 2 => ⟨S1x8x4x64x128, .f32⟩
  | 3 => ⟨S1x8x4x64x128, .f32⟩
  | 4 => ⟨S1x8x4x64x128, .f32⟩
  | 5 => ⟨S1x8x4x64x128, .f32⟩
  | 6 => ⟨S1x8x4x64x128, .f32⟩
  | 7 => ⟨S1x8x4x64x128, .f32⟩
  | 8 => ⟨S1x8x4x64x128, .f32⟩
  | 9 => ⟨S1x8x4x64x128, .f32⟩
  | 10 => ⟨S1x8x4x64x128, .f32⟩
  | 11 => ⟨S1x8x4x64x128, .f32⟩
  | 12 => ⟨S1x8x4x64x128, .f32⟩
  | 13 => ⟨S1x8x4x64x128, .f32⟩
  | 14 => ⟨S1x8x4x64x128, .f32⟩
  | 15 => ⟨S1x8x4x64x128, .f32⟩
  | 16 => ⟨S1x8x4x64x128, .f32⟩
  | 17 => ⟨S1x8x4x64x128, .f32⟩
  | 18 => ⟨S1x8x4x64x128, .f32⟩
  | 19 => ⟨S1x8x4x64x128, .f32⟩
  | 20 => ⟨S1x8x4x64x128, .f32⟩
  | 21 => ⟨S1x8x4x64x128, .f32⟩
  | 22 => ⟨S1x8x4x64x128, .f32⟩
  | 23 => ⟨S1x8x4x64x128, .f32⟩
  | 24 => ⟨S1x8x4x64x128, .f32⟩
  | 25 => ⟨S1x8x4x64x128, .f32⟩
  | 26 => ⟨S1x8x4x64x128, .f32⟩
  | 27 => ⟨S1x8x4x64x128, .f32⟩
  | 28 => ⟨S1x8x4x64x128, .f32⟩
  | 29 => ⟨S1x8x4x64x128, .f32⟩
  | 30 => ⟨S1x8x4x64x128, .f32⟩
  | 31 => ⟨S1x8x4x64x128, .f32⟩
  | 32 => ⟨S1x8x4x64x128, .f32⟩
  | 33 => ⟨S1x8x4x64x128, .f32⟩
  | 34 => ⟨S1x8x4x64x128, .f32⟩
  | 35 => ⟨S1x8x4x64x128, .f32⟩
  | 36 => ⟨S1x8x4x64x128, .f32⟩
  | 37 => ⟨S1x8x4x64x128, .f32⟩
  | 38 => ⟨S11x8x4x64x128, .f32⟩
  | 39 => ⟨S1x8x4x64x128, .f32⟩
  | 40 => ⟨S1x8x4x64x128, .f32⟩
  | 41 => ⟨S1x8x4x64x128, .f32⟩
  | 42 => ⟨S1x8x4x64x128, .f32⟩
  | 43 => ⟨S1x8x4x64x128, .f32⟩
  | 44 => ⟨S1x8x4x64x128, .f32⟩
  | 45 => ⟨S1x8x4x64x128, .f32⟩
  | 46 => ⟨S1x8x4x64x128, .f32⟩
  | 47 => ⟨S1x8x4x64x128, .f32⟩
  | 48 => ⟨S1x8x4x64x128, .f32⟩
  | 49 => ⟨S1x8x4x64x128, .f32⟩
  | 50 => ⟨S1x8x4x64x128, .f32⟩
  | 51 => ⟨S1x8x4x64x128, .f32⟩
  | 52 => ⟨S1x8x4x64x128, .f32⟩
  | 53 => ⟨S1x8x4x64x128, .f32⟩
  | 54 => ⟨S1x8x4x64x128, .f32⟩
  | 55 => ⟨S1x8x4x64x128, .f32⟩
  | 56 => ⟨S1x8x4x64x128, .f32⟩
  | 57 => ⟨S1x8x4x64x128, .f32⟩
  | 58 => ⟨S1x8x4x64x128, .f32⟩
  | 59 => ⟨S1x8x4x64x128, .f32⟩
  | 60 => ⟨S1x8x4x64x128, .f32⟩
  | 61 => ⟨S1x8x4x64x128, .f32⟩
  | 62 => ⟨S1x8x4x64x128, .f32⟩
  | 63 => ⟨S1x8x4x64x128, .f32⟩
  | 64 => ⟨S1x8x4x64x128, .f32⟩
  | 65 => ⟨S1x8x4x64x128, .f32⟩
  | 66 => ⟨S1x8x4x64x128, .f32⟩
  | 67 => ⟨S1x8x4x64x128, .f32⟩
  | 68 => ⟨S1x8x4x64x128, .f32⟩
  | 69 => ⟨S1x8x4x64x128, .f32⟩
  | 70 => ⟨S1x8x4x64x128, .f32⟩
  | 71 => ⟨S1x8x4x64x128, .f32⟩
  | 72 => ⟨S1x8x4x64x128, .f32⟩
  | 73 => ⟨S1x8x4x64x128, .f32⟩
  | 74 => ⟨S1x8x4x64x128, .f32⟩
  | 75 => ⟨S1x8x4x64x128, .f32⟩
  | 76 => ⟨S1x8x4x64x128, .f32⟩
  | 77 => ⟨S1x8x4x64x128, .f32⟩
  | 78 => ⟨S1x8x4x64x128, .f32⟩
  | 79 => ⟨S1x8x4x64x128, .f32⟩
  | 80 => ⟨S1x8x4x64x128, .f32⟩
  | 81 => ⟨S1x8x4x64x128, .f32⟩
  | 82 => ⟨S1x8x4x64x128, .f32⟩
  | 83 => ⟨S11x8x4x64x128, .f32⟩
  | 84 => ⟨S33x8x4x64x128, .f32⟩
  | 85 => ⟨S33x8x4x64x128, .f32⟩
  | 86 => ⟨S33x128x8x4x64, .f32⟩
  | 87 => ⟨S33x128x8x4, .f32⟩
  | 88 => ⟨S33x128x8x4x1, .f32⟩
  | 89 => ⟨S33x128x8x4x64, .f32⟩
  | 90 => ⟨S33x128x8x4x64, .f32⟩
  | 91 => ⟨S33x128x8x4x64, .f32⟩
  | 92 => ⟨S4224x32x64, .f32⟩
  | 93 => ⟨S32x1, .f32⟩
  | 94 => ⟨S1x32x1, .f32⟩
  | 95 => ⟨S4224x32x64, .f32⟩
  | 96 => ⟨S4224x32x64, .f32⟩
  | 97 => ⟨S4224x32x64, .f32⟩
  | 98 => ⟨S4224x2048, .f32⟩
  | 99 => ⟨S4224x32x64, .f32⟩
  | 100 => ⟨S4224x32x64, .f32⟩
  | 101 => ⟨S4224x32x64, .f32⟩
  | 102 => ⟨S33x128x8x4x64, .f32⟩
  | 103 => ⟨S33x128x8x4x64, .f32⟩
  | 104 => ⟨S33x128x8x4x64, .f32⟩
  | 105 => ⟨S33x8x4x64x128, .f32⟩
  | 106 => ⟨S33x8x128x128, .f32⟩
  | 107 => ⟨S33x128x8x128, .f32⟩
  | 108 => ⟨S33x8x4x64x128, .f32⟩
  | 109 => ⟨S11x8x4x64x128, .f32⟩
  | 110 => ⟨S11x8x4x64x128, .f32⟩
  | 111 => ⟨S11x8x4x64x128, .f32⟩
  | 112 => ⟨S1x8x4x64x128, .f32⟩
  | 113 => ⟨S1x8x4x64x128, .f32⟩
  | 114 => ⟨S1x8x4x64x128, .f32⟩
  | 115 => ⟨S1x8x4x64x128, .f32⟩
  | 116 => ⟨S1x8x4x64x128, .f32⟩
  | 117 => ⟨S1x8x4x64x128, .f32⟩
  | 118 => ⟨S1x8x4x64x128, .f32⟩
  | 119 => ⟨S1x8x4x64x128, .f32⟩
  | 120 => ⟨S1x8x4x64x128, .f32⟩
  | 121 => ⟨S1x8x4x64x128, .f32⟩
  | 122 => ⟨S1x8x4x64x128, .f32⟩
  | 123 => ⟨S1x8x4x64x128, .f32⟩
  | 124 => ⟨S1x8x4x64x128, .f32⟩
  | 125 => ⟨S1x8x4x64x128, .f32⟩
  | 126 => ⟨S1x8x4x64x128, .f32⟩
  | 127 => ⟨S1x8x4x64x128, .f32⟩
  | _ => ⟨S4224x4096, .f32⟩

abbrev hbmTy0_2 (i : Nat) : BufTy := match i % 128 with
  | 0 => ⟨S1x8x4x64x128, .f32⟩
  | 1 => ⟨S1x8x4x64x128, .f32⟩
  | 2 => ⟨S1x8x4x64x128, .f32⟩
  | 3 => ⟨S1x8x4x64x128, .f32⟩
  | 4 => ⟨S1x8x4x64x128, .f32⟩
  | 5 => ⟨S1x8x4x64x128, .f32⟩
  | 6 => ⟨S1x8x4x64x128, .f32⟩
  | 7 => ⟨S1x8x4x64x128, .f32⟩
  | 8 => ⟨S1x8x4x64x128, .f32⟩
  | 9 => ⟨S1x8x4x64x128, .f32⟩
  | 10 => ⟨S1x8x4x64x128, .f32⟩
  | 11 => ⟨S1x8x4x64x128, .f32⟩
  | 12 => ⟨S1x8x4x64x128, .f32⟩
  | 13 => ⟨S1x8x4x64x128, .f32⟩
  | 14 => ⟨S1x8x4x64x128, .f32⟩
  | 15 => ⟨S_, .f32⟩
  | 16 => ⟨S1x8x4x64x128, .f32⟩
  | 17 => ⟨S11x8x4x64x128, .f32⟩
  | 18 => ⟨S1x8x4x64x128, .f32⟩
  | 19 => ⟨S1x8x4x64x128, .f32⟩
  | 20 => ⟨S1x8x4x64x128, .f32⟩
  | 21 => ⟨S1x8x4x64x128, .f32⟩
  | 22 => ⟨S1x8x4x64x128, .f32⟩
  | 23 => ⟨S1x8x4x64x128, .f32⟩
  | 24 => ⟨S1x8x4x64x128, .f32⟩
  | 25 => ⟨S1x8x4x64x128, .f32⟩
  | 26 => ⟨S1x8x4x64x128, .f32⟩
  | 27 => ⟨S1x8x4x64x128, .f32⟩
  | 28 => ⟨S1x8x4x64x128, .f32⟩
  | 29 => ⟨S1x8x4x64x128, .f32⟩
  | 30 => ⟨S1x8x4x64x128, .f32⟩
  | 31 => ⟨S1x8x4x64x128, .f32⟩
  | 32 => ⟨S1x8x4x64x128, .f32⟩
  | 33 => ⟨S1x8x4x64x128, .f32⟩
  | 34 => ⟨S1x8x4x64x128, .f32⟩
  | 35 => ⟨S1x8x4x64x128, .f32⟩
  | 36 => ⟨S1x8x4x64x128, .f32⟩
  | 37 => ⟨S1x8x4x64x128, .f32⟩
  | 38 => ⟨S1x8x4x64x128, .f32⟩
  | 39 => ⟨S1x8x4x64x128, .f32⟩
  | 40 => ⟨S1x8x4x64x128, .f32⟩
  | 41 => ⟨S1x8x4x64x128, .f32⟩
  | 42 => ⟨S1x8x4x64x128, .f32⟩
  | 43 => ⟨S1x8x4x64x128, .f32⟩
  | 44 => ⟨S1x8x4x64x128, .f32⟩
  | 45 => ⟨S1x8x4x64x128, .f32⟩
  | 46 => ⟨S1x8x4x64x128, .f32⟩
  | 47 => ⟨S1x8x4x64x128, .f32⟩
  | 48 => ⟨S1x8x4x64x128, .f32⟩
  | 49 => ⟨S1x8x4x64x128, .f32⟩
  | 50 => ⟨S1x8x4x64x128, .f32⟩
  | 51 => ⟨S11x8x4x64x128, .f32⟩
  | 52 => ⟨S1x8x4x64x128, .f32⟩
  | 53 => ⟨S1x8x4x64x128, .f32⟩
  | 54 => ⟨S1x8x4x64x128, .f32⟩
  | 55 => ⟨S1x8x4x64x128, .f32⟩
  | 56 => ⟨S1x8x4x64x128, .f32⟩
  | 57 => ⟨S1x8x4x64x128, .f32⟩
  | 58 => ⟨S1x8x4x64x128, .f32⟩
  | 59 => ⟨S1x8x4x64x128, .f32⟩
  | 60 => ⟨S1x8x4x64x128, .f32⟩
  | 61 => ⟨S1x8x4x64x128, .f32⟩
  | 62 => ⟨S1x8x4x64x128, .f32⟩
  | 63 => ⟨S1x8x4x64x128, .f32⟩
  | 64 => ⟨S1x8x4x64x128, .f32⟩
  | 65 => ⟨S1x8x4x64x128, .f32⟩
  | 66 => ⟨S1x8x4x64x128, .f32⟩
  | 67 => ⟨S1x8x4x64x128, .f32⟩
  | 68 => ⟨S1x8x4x64x128, .f32⟩
  | 69 => ⟨S1x8x4x64x128, .f32⟩
  | 70 => ⟨S1x8x4x64x128, .f32⟩
  | 71 => ⟨S1x8x4x64x128, .f32⟩
  | 72 => ⟨S1x8x4x64x128, .f32⟩
  | 73 => ⟨S1x8x4x64x128, .f32⟩
  | 74 => ⟨S1x8x4x64x128, .f32⟩
  | 75 => ⟨S1x8x4x64x128, .f32⟩
  | 76 => ⟨S1x8x4x64x128, .f32⟩
  | 77 => ⟨S1x8x4x64x128, .f32⟩
  | 78 => ⟨S1x8x4x64x128, .f32⟩
  | 79 => ⟨S1x8x4x64x128, .f32⟩
  | 80 => ⟨S1x8x4x64x128, .f32⟩
  | 81 => ⟨S1x8x4x64x128, .f32⟩
  | 82 => ⟨S1x8x4x64x128, .f32⟩
  | 83 => ⟨S11x8x4x64x128, .f32⟩
  | 84 => ⟨S33x8x4x64x128, .f32⟩
  | 85 => ⟨S33x8x128x128, .f32⟩
  | 86 => ⟨S33x128x8x128, .f32⟩
  | 87 => ⟨S33x8x4x64x128, .f32⟩
  | 88 => ⟨S33x128x8x4x64, .f32⟩
  | 89 => ⟨S33x128x8x4x64, .f32⟩
  | 90 => ⟨S33x128x8x4x64, .f32⟩
  | 91 => ⟨S33x8x4x64x128, .f32⟩
  | 92 => ⟨S33x8x4x128x128, .f32⟩
  | 93 => ⟨S33x128x128x8x4, .f32⟩
  | 94 => ⟨S33x8x4x64x128, .f32⟩
  | 95 => ⟨S33x128x8x4x64, .f32⟩
  | 96 => ⟨S33x128x8x4x64, .f32⟩
  | 97 => ⟨S33x128x128x8x4, .f32⟩
  | 98 => ⟨S_, .f32⟩
  | 99 => ⟨S33x128x128x8, .f32⟩
  | 100 => ⟨S33x128x128x8x1, .f32⟩
  | 101 => ⟨S_, .f32⟩
  | 102 => ⟨S33x128x128x8, .f32⟩
  | 103 => ⟨S33x8x128x128, .f32⟩
  | 104 => ⟨S33x8x128x128, .f32⟩
  | 105 => ⟨S33x128x8x128, .f32⟩
  | 106 => ⟨S33x128x8x128, .f32⟩
  | 107 => ⟨S33x8x128x128, .f32⟩
  | 108 => ⟨S33x128x8x128, .f32⟩
  | 109 => ⟨S33x128x8x128, .f32⟩
  | 110 => ⟨S4224x32x64, .f32⟩
  | 111 => ⟨S4224x32x64, .f32⟩
  | 112 => ⟨S4224x32x64, .f32⟩
  | 113 => ⟨S4224x32x64, .f32⟩
  | 114 => ⟨S4224x1024, .f32⟩
  | 115 => ⟨S4224x1024, .f32⟩
  | 116 => ⟨S4224x2048, .f32⟩
  | _ => ⟨S4224x4096, .f32⟩

abbrev hbmTy (i : Nat) : BufTy := match i / 128 with
  | 0 => hbmTy0_0 i
  | 1 => hbmTy0_1 i
  | 2 => hbmTy0_2 i
  | _ => ⟨S4224x4096, .f32⟩

abbrev bufTy : (tb : Table) → Fin (tcTables nBuf tb) → BufTy
  | .hbm, ⟨i, _⟩ => hbmTy i
  | _, _ => ⟨S4224x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_call0_cst : Ref sig .tc := ⟨.hbm, 21, rfl⟩
abbrev main_call0_call0_v0 : Ref sig .tc := ⟨.hbm, 22, rfl⟩
abbrev main_v16 : Ref sig .tc := ⟨.hbm, 23, rfl⟩
abbrev main_c : Ref sig .tc := ⟨.hbm, 24, rfl⟩
abbrev main_v17 : Ref sig .tc := ⟨.hbm, 25, rfl⟩
abbrev main_call1_v0 : Ref sig .tc := ⟨.hbm, 26, rfl⟩
abbrev main_call1_c : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_c_0 : Ref sig .tc := ⟨.hbm, 32, rfl⟩
abbrev main_call1_v5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst : Ref sig .tc := ⟨.hbm, 41, rfl⟩
abbrev main_call2_v0 : Ref sig .tc := ⟨.hbm, 42, rfl⟩
abbrev main_call2_v1 : Ref sig .tc := ⟨.hbm, 43, rfl⟩
abbrev main_call2_v2 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_0 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_cst_1 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_v145 : Ref sig .tc := ⟨.hbm, 167, rfl⟩
abbrev main_v146 : Ref sig .tc := ⟨.hbm, 168, rfl⟩
abbrev main_v147 : Ref sig .tc := ⟨.hbm, 169, rfl⟩
abbrev main_v148 : Ref sig .tc := ⟨.hbm, 170, rfl⟩
abbrev main_v149 : Ref sig .tc := ⟨.hbm, 171, rfl⟩
abbrev main_v150 : Ref sig .tc := ⟨.hbm, 172, rfl⟩
abbrev main_v151 : Ref sig .tc := ⟨.hbm, 173, rfl⟩
abbrev main_v152 : Ref sig .tc := ⟨.hbm, 174, rfl⟩
abbrev main_v153 : Ref sig .tc := ⟨.hbm, 175, rfl⟩
abbrev main_v154 : Ref sig .tc := ⟨.hbm, 176, rfl⟩
abbrev main_v155 : Ref sig .tc := ⟨.hbm, 177, rfl⟩
abbrev main_v156 : Ref sig .tc := ⟨.hbm, 178, rfl⟩
abbrev main_v157 : Ref sig .tc := ⟨.hbm, 179, rfl⟩
abbrev main_v158 : Ref sig .tc := ⟨.hbm, 180, rfl⟩
abbrev main_v159 : Ref sig .tc := ⟨.hbm, 181, rfl⟩
abbrev main_v160 : Ref sig .tc := ⟨.hbm, 182, rfl⟩
abbrev main_v161 : Ref sig .tc := ⟨.hbm, 183, rfl⟩
abbrev main_v162 : Ref sig .tc := ⟨.hbm, 184, rfl⟩
abbrev main_v163 : Ref sig .tc := ⟨.hbm, 185, rfl⟩
abbrev main_v164 : Ref sig .tc := ⟨.hbm, 186, rfl⟩
abbrev main_v165 : Ref sig .tc := ⟨.hbm, 187, rfl⟩
abbrev main_v166 : Ref sig .tc := ⟨.hbm, 188, rfl⟩
abbrev main_v167 : Ref sig .tc := ⟨.hbm, 189, rfl⟩
abbrev main_v168 : Ref sig .tc := ⟨.hbm, 190, rfl⟩
abbrev main_v169 : Ref sig .tc := ⟨.hbm, 191, rfl⟩
abbrev main_v170 : Ref sig .tc := ⟨.hbm, 192, rfl⟩
abbrev main_v171 : Ref sig .tc := ⟨.hbm, 193, rfl⟩
abbrev main_v172 : Ref sig .tc := ⟨.hbm, 194, rfl⟩
abbrev main_v173 : Ref sig .tc := ⟨.hbm, 195, rfl⟩
abbrev main_v174 : Ref sig .tc := ⟨.hbm, 196, rfl⟩
abbrev main_v175 : Ref sig .tc := ⟨.hbm, 197, rfl⟩
abbrev main_v176 : Ref sig .tc := ⟨.hbm, 198, rfl⟩
abbrev main_v177 : Ref sig .tc := ⟨.hbm, 199, rfl⟩
abbrev main_v178 : Ref sig .tc := ⟨.hbm, 200, rfl⟩
abbrev main_v179 : Ref sig .tc := ⟨.hbm, 201, rfl⟩
abbrev main_v180 : Ref sig .tc := ⟨.hbm, 202, rfl⟩
abbrev main_v181 : Ref sig .tc := ⟨.hbm, 203, rfl⟩
abbrev main_v182 : Ref sig .tc := ⟨.hbm, 204, rfl⟩
abbrev main_v183 : Ref sig .tc := ⟨.hbm, 205, rfl⟩
abbrev main_v184 : Ref sig .tc := ⟨.hbm, 206, rfl⟩
abbrev main_v185 : Ref sig .tc := ⟨.hbm, 207, rfl⟩
abbrev main_v186 : Ref sig .tc := ⟨.hbm, 208, rfl⟩
abbrev main_v187 : Ref sig .tc := ⟨.hbm, 209, rfl⟩
abbrev main_v188 : Ref sig .tc := ⟨.hbm, 210, rfl⟩
abbrev main_v189 : Ref sig .tc := ⟨.hbm, 211, rfl⟩
abbrev main_v190 : Ref sig .tc := ⟨.hbm, 212, rfl⟩
abbrev main_v191 : Ref sig .tc := ⟨.hbm, 213, rfl⟩
abbrev main_v192 : Ref sig .tc := ⟨.hbm, 214, rfl⟩
abbrev main_v193 : Ref sig .tc := ⟨.hbm, 215, rfl⟩
abbrev main_v194 : Ref sig .tc := ⟨.hbm, 216, rfl⟩
abbrev main_v195 : Ref sig .tc := ⟨.hbm, 217, rfl⟩
abbrev main_v196 : Ref sig .tc := ⟨.hbm, 218, rfl⟩
abbrev main_v197 : Ref sig .tc := ⟨.hbm, 219, rfl⟩
abbrev main_v198 : Ref sig .tc := ⟨.hbm, 220, rfl⟩
abbrev main_v199 : Ref sig .tc := ⟨.hbm, 221, rfl⟩
abbrev main_v200 : Ref sig .tc := ⟨.hbm, 222, rfl⟩
abbrev main_v201 : Ref sig .tc := ⟨.hbm, 223, rfl⟩
abbrev main_v202 : Ref sig .tc := ⟨.hbm, 224, rfl⟩
abbrev main_v203 : Ref sig .tc := ⟨.hbm, 225, rfl⟩
abbrev main_v204 : Ref sig .tc := ⟨.hbm, 226, rfl⟩
abbrev main_v205 : Ref sig .tc := ⟨.hbm, 227, rfl⟩
abbrev main_v206 : Ref sig .tc := ⟨.hbm, 228, rfl⟩
abbrev main_v207 : Ref sig .tc := ⟨.hbm, 229, rfl⟩
abbrev main_v208 : Ref sig .tc := ⟨.hbm, 230, rfl⟩
abbrev main_v209 : Ref sig .tc := ⟨.hbm, 231, rfl⟩
abbrev main_v210 : Ref sig .tc := ⟨.hbm, 232, rfl⟩
abbrev main_v211 : Ref sig .tc := ⟨.hbm, 233, rfl⟩
abbrev main_v212 : Ref sig .tc := ⟨.hbm, 234, rfl⟩
abbrev main_v213 : Ref sig .tc := ⟨.hbm, 235, rfl⟩
abbrev main_v214 : Ref sig .tc := ⟨.hbm, 236, rfl⟩
abbrev main_v215 : Ref sig .tc := ⟨.hbm, 237, rfl⟩
abbrev main_v216 : Ref sig .tc := ⟨.hbm, 238, rfl⟩
abbrev main_v217 : Ref sig .tc := ⟨.hbm, 239, rfl⟩
abbrev main_v218 : Ref sig .tc := ⟨.hbm, 240, rfl⟩
abbrev main_v219 : Ref sig .tc := ⟨.hbm, 241, rfl⟩
abbrev main_v220 : Ref sig .tc := ⟨.hbm, 242, rfl⟩
abbrev main_v221 : Ref sig .tc := ⟨.hbm, 243, rfl⟩
abbrev main_v222 : Ref sig .tc := ⟨.hbm, 244, rfl⟩
abbrev main_v223 : Ref sig .tc := ⟨.hbm, 245, rfl⟩
abbrev main_v224 : Ref sig .tc := ⟨.hbm, 246, rfl⟩
abbrev main_v225 : Ref sig .tc := ⟨.hbm, 247, rfl⟩
abbrev main_v226 : Ref sig .tc := ⟨.hbm, 248, rfl⟩
abbrev main_v227 : Ref sig .tc := ⟨.hbm, 249, rfl⟩
abbrev main_v228 : Ref sig .tc := ⟨.hbm, 250, rfl⟩
abbrev main_v229 : Ref sig .tc := ⟨.hbm, 251, rfl⟩
abbrev main_v230 : Ref sig .tc := ⟨.hbm, 252, rfl⟩
abbrev main_v231 : Ref sig .tc := ⟨.hbm, 253, rfl⟩
abbrev main_v232 : Ref sig .tc := ⟨.hbm, 254, rfl⟩
abbrev main_v233 : Ref sig .tc := ⟨.hbm, 255, rfl⟩
abbrev main_v234 : Ref sig .tc := ⟨.hbm, 256, rfl⟩
abbrev main_v235 : Ref sig .tc := ⟨.hbm, 257, rfl⟩
abbrev main_v236 : Ref sig .tc := ⟨.hbm, 258, rfl⟩
abbrev main_v237 : Ref sig .tc := ⟨.hbm, 259, rfl⟩
abbrev main_v238 : Ref sig .tc := ⟨.hbm, 260, rfl⟩
abbrev main_v239 : Ref sig .tc := ⟨.hbm, 261, rfl⟩
abbrev main_v240 : Ref sig .tc := ⟨.hbm, 262, rfl⟩
abbrev main_v241 : Ref sig .tc := ⟨.hbm, 263, rfl⟩
abbrev main_v242 : Ref sig .tc := ⟨.hbm, 264, rfl⟩
abbrev main_v243 : Ref sig .tc := ⟨.hbm, 265, rfl⟩
abbrev main_v244 : Ref sig .tc := ⟨.hbm, 266, rfl⟩
abbrev main_v245 : Ref sig .tc := ⟨.hbm, 267, rfl⟩
abbrev main_v246 : Ref sig .tc := ⟨.hbm, 268, rfl⟩
abbrev main_v247 : Ref sig .tc := ⟨.hbm, 269, rfl⟩
abbrev main_v248 : Ref sig .tc := ⟨.hbm, 270, rfl⟩
abbrev main_cst_2 : Ref sig .tc := ⟨.hbm, 271, rfl⟩
abbrev main_v249 : Ref sig .tc := ⟨.hbm, 272, rfl⟩
abbrev main_v250 : Ref sig .tc := ⟨.hbm, 273, rfl⟩
abbrev main_v251 : Ref sig .tc := ⟨.hbm, 274, rfl⟩
abbrev main_v252 : Ref sig .tc := ⟨.hbm, 275, rfl⟩
abbrev main_v253 : Ref sig .tc := ⟨.hbm, 276, rfl⟩
abbrev main_v254 : Ref sig .tc := ⟨.hbm, 277, rfl⟩
abbrev main_v255 : Ref sig .tc := ⟨.hbm, 278, rfl⟩
abbrev main_v256 : Ref sig .tc := ⟨.hbm, 279, rfl⟩
abbrev main_v257 : Ref sig .tc := ⟨.hbm, 280, rfl⟩
abbrev main_v258 : Ref sig .tc := ⟨.hbm, 281, rfl⟩
abbrev main_v259 : Ref sig .tc := ⟨.hbm, 282, rfl⟩
abbrev main_v260 : Ref sig .tc := ⟨.hbm, 283, rfl⟩
abbrev main_v261 : Ref sig .tc := ⟨.hbm, 284, rfl⟩
abbrev main_v262 : Ref sig .tc := ⟨.hbm, 285, rfl⟩
abbrev main_v263 : Ref sig .tc := ⟨.hbm, 286, rfl⟩
abbrev main_v264 : Ref sig .tc := ⟨.hbm, 287, rfl⟩
abbrev main_v265 : Ref sig .tc := ⟨.hbm, 288, rfl⟩
abbrev main_v266 : Ref sig .tc := ⟨.hbm, 289, rfl⟩
abbrev main_v267 : Ref sig .tc := ⟨.hbm, 290, rfl⟩
abbrev main_v268 : Ref sig .tc := ⟨.hbm, 291, rfl⟩
abbrev main_v269 : Ref sig .tc := ⟨.hbm, 292, rfl⟩
abbrev main_v270 : Ref sig .tc := ⟨.hbm, 293, rfl⟩
abbrev main_v271 : Ref sig .tc := ⟨.hbm, 294, rfl⟩
abbrev main_v272 : Ref sig .tc := ⟨.hbm, 295, rfl⟩
abbrev main_v273 : Ref sig .tc := ⟨.hbm, 296, rfl⟩
abbrev main_v274 : Ref sig .tc := ⟨.hbm, 297, rfl⟩
abbrev main_v275 : Ref sig .tc := ⟨.hbm, 298, rfl⟩
abbrev main_v276 : Ref sig .tc := ⟨.hbm, 299, rfl⟩
abbrev main_v277 : Ref sig .tc := ⟨.hbm, 300, rfl⟩
abbrev main_v278 : Ref sig .tc := ⟨.hbm, 301, rfl⟩
abbrev main_v279 : Ref sig .tc := ⟨.hbm, 302, rfl⟩
abbrev main_v280 : Ref sig .tc := ⟨.hbm, 303, rfl⟩
abbrev main_v281 : Ref sig .tc := ⟨.hbm, 304, rfl⟩
abbrev main_v282 : Ref sig .tc := ⟨.hbm, 305, rfl⟩
abbrev main_v283 : Ref sig .tc := ⟨.hbm, 306, rfl⟩
abbrev main_v284 : Ref sig .tc := ⟨.hbm, 307, rfl⟩
abbrev main_v285 : Ref sig .tc := ⟨.hbm, 308, rfl⟩
abbrev main_v286 : Ref sig .tc := ⟨.hbm, 309, rfl⟩
abbrev main_v287 : Ref sig .tc := ⟨.hbm, 310, rfl⟩
abbrev main_v288 : Ref sig .tc := ⟨.hbm, 311, rfl⟩
abbrev main_v289 : Ref sig .tc := ⟨.hbm, 312, rfl⟩
abbrev main_v290 : Ref sig .tc := ⟨.hbm, 313, rfl⟩
abbrev main_v291 : Ref sig .tc := ⟨.hbm, 314, rfl⟩
abbrev main_v292 : Ref sig .tc := ⟨.hbm, 315, rfl⟩
abbrev main_v293 : Ref sig .tc := ⟨.hbm, 316, rfl⟩
abbrev main_v294 : Ref sig .tc := ⟨.hbm, 317, rfl⟩
abbrev main_v295 : Ref sig .tc := ⟨.hbm, 318, rfl⟩
abbrev main_v296 : Ref sig .tc := ⟨.hbm, 319, rfl⟩
abbrev main_v297 : Ref sig .tc := ⟨.hbm, 320, rfl⟩
abbrev main_v298 : Ref sig .tc := ⟨.hbm, 321, rfl⟩
abbrev main_v299 : Ref sig .tc := ⟨.hbm, 322, rfl⟩
abbrev main_v300 : Ref sig .tc := ⟨.hbm, 323, rfl⟩
abbrev main_v301 : Ref sig .tc := ⟨.hbm, 324, rfl⟩
abbrev main_v302 : Ref sig .tc := ⟨.hbm, 325, rfl⟩
abbrev main_v303 : Ref sig .tc := ⟨.hbm, 326, rfl⟩
abbrev main_v304 : Ref sig .tc := ⟨.hbm, 327, rfl⟩
abbrev main_v305 : Ref sig .tc := ⟨.hbm, 328, rfl⟩
abbrev main_v306 : Ref sig .tc := ⟨.hbm, 329, rfl⟩
abbrev main_v307 : Ref sig .tc := ⟨.hbm, 330, rfl⟩
abbrev main_v308 : Ref sig .tc := ⟨.hbm, 331, rfl⟩
abbrev main_v309 : Ref sig .tc := ⟨.hbm, 332, rfl⟩
abbrev main_v310 : Ref sig .tc := ⟨.hbm, 333, rfl⟩
abbrev main_v311 : Ref sig .tc := ⟨.hbm, 334, rfl⟩
abbrev main_v312 : Ref sig .tc := ⟨.hbm, 335, rfl⟩
abbrev main_v313 : Ref sig .tc := ⟨.hbm, 336, rfl⟩
abbrev main_v314 : Ref sig .tc := ⟨.hbm, 337, rfl⟩
abbrev main_v315 : Ref sig .tc := ⟨.hbm, 338, rfl⟩
abbrev main_v316 : Ref sig .tc := ⟨.hbm, 339, rfl⟩
abbrev main_v317 : Ref sig .tc := ⟨.hbm, 340, rfl⟩
abbrev main_v318 : Ref sig .tc := ⟨.hbm, 341, rfl⟩
abbrev main_v319 : Ref sig .tc := ⟨.hbm, 342, rfl⟩
abbrev main_v320 : Ref sig .tc := ⟨.hbm, 343, rfl⟩
abbrev main_v321 : Ref sig .tc := ⟨.hbm, 344, rfl⟩
abbrev main_v322 : Ref sig .tc := ⟨.hbm, 345, rfl⟩
abbrev main_v323 : Ref sig .tc := ⟨.hbm, 346, rfl⟩
abbrev main_v324 : Ref sig .tc := ⟨.hbm, 347, rfl⟩
abbrev main_v325 : Ref sig .tc := ⟨.hbm, 348, rfl⟩
abbrev main_v326 : Ref sig .tc := ⟨.hbm, 349, rfl⟩
abbrev main_v327 : Ref sig .tc := ⟨.hbm, 350, rfl⟩
abbrev main_v328 : Ref sig .tc := ⟨.hbm, 351, rfl⟩
abbrev main_v329 : Ref sig .tc := ⟨.hbm, 352, rfl⟩
abbrev main_v330 : Ref sig .tc := ⟨.hbm, 353, rfl⟩
abbrev main_cst_3 : Ref sig .tc := ⟨.hbm, 354, rfl⟩
abbrev main_v331 : Ref sig .tc := ⟨.hbm, 355, rfl⟩
abbrev main_v332 : Ref sig .tc := ⟨.hbm, 356, rfl⟩
abbrev main_cst_4 : Ref sig .tc := ⟨.hbm, 357, rfl⟩
abbrev main_v333 : Ref sig .tc := ⟨.hbm, 358, rfl⟩
abbrev main_v334 : Ref sig .tc := ⟨.hbm, 359, rfl⟩
abbrev main_v335 : Ref sig .tc := ⟨.hbm, 360, rfl⟩
abbrev main_v336 : Ref sig .tc := ⟨.hbm, 361, rfl⟩
abbrev main_v337 : Ref sig .tc := ⟨.hbm, 362, rfl⟩
abbrev main_v338 : Ref sig .tc := ⟨.hbm, 363, rfl⟩
abbrev main_v339 : Ref sig .tc := ⟨.hbm, 364, rfl⟩
abbrev main_v340 : Ref sig .tc := ⟨.hbm, 365, rfl⟩
abbrev main_v341 : Ref sig .tc := ⟨.hbm, 366, rfl⟩
abbrev main_v342 : Ref sig .tc := ⟨.hbm, 367, rfl⟩
abbrev main_v343 : Ref sig .tc := ⟨.hbm, 368, rfl⟩
abbrev main_v344 : Ref sig .tc := ⟨.hbm, 369, rfl⟩
abbrev main_v345 : Ref sig .tc := ⟨.hbm, 370, rfl⟩
abbrev main_v346 : Ref sig .tc := ⟨.hbm, 371, rfl⟩
abbrev main_v347 : Ref sig .tc := ⟨.hbm, 372, rfl⟩

abbrev nD : Nat := 1
abbrev τ : Topo := Topo.v7x

variable {F : FTy → Type} [FloatOps F]
-- ==== Dact.lean ====
abbrev S4224x1024 : Shape := ⟨2, ![4224, 1024]⟩
abbrev S4096x1024 : Shape := ⟨2, ![4096, 1024]⟩
abbrev S4224x4096 : Shape := ⟨2, ![4224, 4096]⟩
abbrev S1x4x1024x1024 : Shape := ⟨4, ![1, 4, 1024, 1024]⟩
abbrev S1408x1024 : Shape := ⟨2, ![1408, 1024]⟩
abbrev S1x1x1024x1024 : Shape := ⟨4, ![1, 1, 1024, 1024]⟩
abbrev S1024x1024 : Shape := ⟨2, ![1024, 1024]⟩

abbrev nBuf : Space → Nat
  | .hbm => 5
  | .vmem => 8
  | .smem => 0
  | _ => 0

abbrev bufTy : (tb : Table) → Fin (tcTables nBuf tb) → BufTy
  | .hbm, ⟨0, _⟩ => ⟨S4224x1024, .f32⟩
  | .hbm, ⟨1, _⟩ => ⟨S4096x1024, .f32⟩
  | .hbm, ⟨2, _⟩ => ⟨S4224x4096, .f32⟩
  | .hbm, ⟨3, _⟩ => ⟨S1x4x1024x1024, .f32⟩
  | .hbm, ⟨4, _⟩ => ⟨S4224x4096, .bf16⟩
  | .local _ .vmem, ⟨0, _⟩ => ⟨S1408x1024, .f32⟩
  | .local _ .vmem, ⟨1, _⟩ => ⟨S1408x1024, .f32⟩
  | .local _ .vmem, ⟨2, _⟩ => ⟨S1x1x1024x1024, .f32⟩
  | .local _ .vmem, ⟨3, _⟩ => ⟨S1x1x1024x1024, .f32⟩
  | .local _ .vmem, ⟨4, _⟩ => ⟨S1408x1024, .f32⟩
  | .local _ .vmem, ⟨5, _⟩ => ⟨S1408x1024, .f32⟩
  | .local _ .vmem, ⟨6, _⟩ => ⟨S1408x1024, .bf16⟩
  | .local _ .vmem, ⟨7, _⟩ => ⟨S1408x1024, .bf16⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![3, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DactReferenceIdeal.lean ====
abbrev S4224x1024 : Shape := ⟨2, ![4224, 1024]⟩
abbrev S4096x1024 : Shape := ⟨2, ![4096, 1024]⟩
abbrev S4224x4096 : Shape := ⟨2, ![4224, 4096]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S4096x1024, .f32⟩
  | .hbm, ⟨2, _⟩ => ⟨S4224x4096, .f32⟩
  | .hbm, ⟨3, _⟩ => ⟨S_, .f32⟩
  | .hbm, ⟨4, _⟩ => ⟨S4224x4096, .f32⟩
  | .hbm, ⟨5, _⟩ => ⟨S4224x4096, .f32⟩
  | .hbm, ⟨6, _⟩ => ⟨S_, .f32⟩
  | .hbm, ⟨7, _⟩ => ⟨S4224x4096, .f32⟩
  | .hbm, ⟨8, _⟩ => ⟨S4224x4096, .i1⟩
  | .hbm, ⟨9, _⟩ => ⟨S_, .f32⟩
  | .hbm, ⟨10, _⟩ => ⟨S4224x4096, .f32⟩
  | .hbm, ⟨11, _⟩ => ⟨S4224x4096, .f32⟩
  | .hbm, ⟨12, _⟩ => ⟨S4224x1024, .f32⟩
  | .hbm, ⟨13, _⟩ => ⟨S4224x4096, .f32⟩
  | .hbm, ⟨14, _⟩ => ⟨S4224x4096, .f32⟩
  | .hbm, ⟨15, _⟩ => ⟨S4224x4096, .f32⟩
  | .hbm, ⟨16, _⟩ => ⟨S4224x4096, .f32⟩
  | .hbm, ⟨17, _⟩ => ⟨S_, .f32⟩
  | .hbm, ⟨18, _⟩ => ⟨S4224x4096, .f32⟩
  | .hbm, ⟨19, _⟩ => ⟨S4224x4096, .f32⟩
  | .hbm, ⟨20, _⟩ => ⟨S4224x4096, .bf16⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩

abbrev nD : Nat := 1
abbrev τ : Topo := Topo.v7x

variable {F : FTy → Type} [FloatOps F]
-- ==== DwFf1.lean ====
abbrev S4224x1024 : Shape := ⟨2, ![4224, 1024]⟩
abbrev S4224x4096 : Shape := ⟨2, ![4224, 4096]⟩
abbrev S4x1024x1024 : Shape := ⟨3, ![4, 1024, 1024]⟩
abbrev S1x1024x1024 : Shape := ⟨3, ![1, 1024, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4224x1024, .f32⟩
  | .hbm, ⟨1, _⟩ => ⟨S4224x4096, .f32⟩
  | .hbm, ⟨2, _⟩ => ⟨S4224x1024, .bf16⟩
  | .hbm, ⟨3, _⟩ => ⟨S4224x4096, .bf16⟩
  | .hbm, ⟨4, _⟩ => ⟨S4x1024x1024, .f32⟩
  | .local _ .vmem, ⟨0, _⟩ => ⟨S4224x1024, .bf16⟩
  | .local _ .vmem, ⟨1, _⟩ => ⟨S4224x1024, .bf16⟩
  | .local _ .vmem, ⟨2, _⟩ => ⟨S4224x1024, .bf16⟩
  | .local _ .vmem, ⟨3, _⟩ => ⟨S1x1024x1024, .f32⟩
  | .local _ .vmem, ⟨4, _⟩ => ⟨S1x1024x1024, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

abbrev stage0_0 : Fin 1 → Memref sig .tc .vmem S4224x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, true]

abbrev stage0_1 : Fin 2 → Memref sig .tc .vmem S4224x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== DwFf1ReferenceIdeal.lean ====
abbrev S4224x1024 : Shape := ⟨2, ![4224, 1024]⟩
abbrev S4224x4096 : Shape := ⟨2, ![4224, 4096]⟩
abbrev S_ : Shape := ⟨0, ![]⟩
abbrev S1024x4096 : Shape := ⟨2, ![1024, 4096]⟩
abbrev S4096x1024 : Shape := ⟨2, ![4096, 1024]⟩
abbrev S1024x4x1024 : Shape := ⟨3, ![1024, 4, 1024]⟩
abbrev S4x1024x1024 : Shape := ⟨3, ![4, 1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S4224x4096, .f32⟩
  | .hbm, ⟨2, _⟩ => ⟨S_, .f32⟩
  | .hbm, ⟨3, _⟩ => ⟨S1024x4096, .f32⟩
  | .hbm, ⟨4, _⟩ => ⟨S4224x4096, .f32⟩
  | .hbm, ⟨5, _⟩ => ⟨S4096x1024, .f32⟩
  | .hbm, ⟨6, _⟩ => ⟨S1024x4096, .f32⟩
  | .hbm, ⟨7, _⟩ => ⟨S1024x4x1024, .f32⟩
  | .hbm, ⟨8, _⟩ => ⟨S4x1024x1024, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DwFf2.lean ====
abbrev S4224x4096 : Shape := ⟨2, ![4224, 4096]⟩
abbrev S4224x1024 : Shape := ⟨2, ![4224, 1024]⟩
abbrev S_ : Shape := ⟨0, ![]⟩
abbrev S4x1024x1024 : Shape := ⟨3, ![4, 1024, 1024]⟩
abbrev S1x1024x1024 : Shape := ⟨3, ![1, 1024, 1024]⟩
abbrev S1024x1024 : Shape := ⟨2, ![1024, 1024]⟩

abbrev nBuf : Space → Nat
  | .hbm => 9
  | .vmem => 5
  | .smem => 0
  | _ => 0

abbrev bufTy : (tb : Table) → Fin (tcTables nBuf tb) → BufTy
  | .hbm, ⟨0, _⟩ => ⟨S4224x4096, .f32⟩
  | .hbm, ⟨1, _⟩ => ⟨S4224x1024, .f32⟩
  | .hbm, ⟨2, _⟩ => ⟨S_, .f32⟩
  | .hbm, ⟨3, _⟩ => ⟨S4224x4096, .f32⟩
  | .hbm, ⟨4, _⟩ => ⟨S4224x4096, .f32⟩
  | .hbm, ⟨5, _⟩ => ⟨S4224x4096, .f32⟩
  | .hbm, ⟨6, _⟩ => ⟨S4224x4096, .bf16⟩
  | .hbm, ⟨7, _⟩ => ⟨S4224x1024, .bf16⟩
  | .hbm, ⟨8, _⟩ => ⟨S4x1024x1024, .f32⟩
  | .local _ .vmem, ⟨0, _⟩ => ⟨S4224x1024, .bf16⟩
  | .local _ .vmem, ⟨1, _⟩ => ⟨S4224x1024, .bf16⟩
  | .local _ .vmem, ⟨2, _⟩ => ⟨S4224x1024, .bf16⟩
  | .local _ .vmem, ⟨3, _⟩ => ⟨S1x1024x1024, .f32⟩
  | .local _ .vmem, ⟨4, _⟩ => ⟨S1x1024x1024, .f32⟩
  | _, _ => ⟨S4224x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4224x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4224x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== DwFf2ReferenceIdeal.lean ====
abbrev S4224x4096 : Shape := ⟨2, ![4224, 4096]⟩
abbrev S4224x1024 : Shape := ⟨2, ![4224, 1024]⟩
abbrev S_ : Shape := ⟨0, ![]⟩
abbrev S4096x1024 : Shape := ⟨2, ![4096, 1024]⟩
abbrev S1024x4096 : Shape := ⟨2, ![1024, 4096]⟩
abbrev S4x1024x1024 : Shape := ⟨3, ![4, 1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4224x4096, .f32⟩
  | .hbm, ⟨1, _⟩ => ⟨S4224x1024, .f32⟩
  | .hbm, ⟨2, _⟩ => ⟨S_, .f32⟩
  | .hbm, ⟨3, _⟩ => ⟨S4096x1024, .f32⟩
  | .hbm, ⟨4, _⟩ => ⟨S_, .f32⟩
  | .hbm, ⟨5, _⟩ => ⟨S4224x4096, .f32⟩
  | .hbm, ⟨6, _⟩ => ⟨S4224x4096, .f32⟩
  | .hbm, ⟨7, _⟩ => ⟨S4224x4096, .f32⟩
  | .hbm, ⟨8, _⟩ => ⟨S4224x1024, .f32⟩
  | .hbm, ⟨9, _⟩ => ⟨S1024x4096, .f32⟩
  | .hbm, ⟨10, _⟩ => ⟨S4096x1024, .f32⟩
  | .hbm, ⟨11, _⟩ => ⟨S4x1024x1024, .f32⟩
  | _, _ => ⟨S4224x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== DwIn.lean ====
abbrev S4224x1024 : Shape := ⟨2, ![4224, 1024]⟩
abbrev S4224x9216 : Shape := ⟨2, ![4224, 9216]⟩
abbrev S1024x9216 : Shape := ⟨2, ![1024, 9216]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4224x1024, .f32⟩
  | .hbm, ⟨1, _⟩ => ⟨S4224x9216, .f32⟩
  | .hbm, ⟨2, _⟩ => ⟨S4224x1024, .bf16⟩
  | .hbm, ⟨3, _⟩ => ⟨S4224x9216, .bf16⟩
  | .hbm, ⟨4, _⟩ => ⟨S1024x9216, .f32⟩
  | .local _ .vmem, ⟨0, _⟩ => ⟨S4224x1024, .bf16⟩
  | .local _ .vmem, ⟨1, _⟩ => ⟨S4224x1024, .bf16⟩
  | .local _ .vmem, ⟨2, _⟩ => ⟨S4224x1024, .bf16⟩
  | .local _ .vmem, ⟨3, _⟩ => ⟨S1024x1024, .f32⟩
  | .local _ .vmem, ⟨4, _⟩ => ⟨S1024x1024, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 9, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 1 → Memref sig .tc .vmem S4224x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S4224x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== DwInReferenceIdeal.lean ====
abbrev S4224x1024 : Shape := ⟨2, ![4224, 1024]⟩
abbrev S4224x9216 : Shape := ⟨2, ![4224, 9216]⟩
abbrev S_ : Shape := ⟨0, ![]⟩
abbrev S1024x9216 : Shape := ⟨2, ![1024, 9216]⟩
abbrev S9216x1024 : Shape := ⟨2, ![9216, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S4224x9216, .f32⟩
  | .hbm, ⟨2, _⟩ => ⟨S_, .f32⟩
  | .hbm, ⟨3, _⟩ => ⟨S1024x9216, .f32⟩
  | .hbm, ⟨4, _⟩ => ⟨S4224x9216, .f32⟩
  | .hbm, ⟨5, _⟩ => ⟨S9216x1024, .f32⟩
  | .hbm, ⟨6, _⟩ => ⟨S1024x9216, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DwO.lean ====
abbrev S4224x1024 : Shape := ⟨2, ![4224, 1024]⟩
abbrev S4x256x1024 : Shape := ⟨3, ![4, 256, 1024]⟩
abbrev S4224x256 : Shape := ⟨2, ![4224, 256]⟩
abbrev S1x256x1024 : Shape := ⟨3, ![1, 256, 1024]⟩
abbrev S256x1024 : Shape := ⟨2, ![256, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4224x1024, .f32⟩
  | .hbm, ⟨1, _⟩ => ⟨S4224x1024, .f32⟩
  | .hbm, ⟨2, _⟩ => ⟨S4224x1024, .bf16⟩
  | .hbm, ⟨3, _⟩ => ⟨S4224x1024, .bf16⟩
  | .hbm, ⟨4, _⟩ => ⟨S4x256x1024, .f32⟩
  | .local _ .vmem, ⟨0, _⟩ => ⟨S4224x256, .bf16⟩
  | .local _ .vmem, ⟨1, _⟩ => ⟨S4224x256, .bf16⟩
  | .local _ .vmem, ⟨2, _⟩ => ⟨S4224x1024, .bf16⟩
  | .local _ .vmem, ⟨3, _⟩ => ⟨S1x256x1024, .f32⟩
  | .local _ .vmem, ⟨4, _⟩ => ⟨S1x256x1024, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4224x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4224x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== DwOReferenceIdeal.lean ====
abbrev S4224x1024 : Shape := ⟨2, ![4224, 1024]⟩
abbrev S_ : Shape := ⟨0, ![]⟩
abbrev S1024x1024 : Shape := ⟨2, ![1024, 1024]⟩
abbrev S4x256x1024 : Shape := ⟨3, ![4, 256, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S4224x1024, .f32⟩
  | .hbm, ⟨2, _⟩ => ⟨S_, .f32⟩
  | .hbm, ⟨3, _⟩ => ⟨S1024x1024, .f32⟩
  | .hbm, ⟨4, _⟩ => ⟨S4224x1024, .f32⟩
  | .hbm, ⟨5, _⟩ => ⟨S1024x1024, .f32⟩
  | .hbm, ⟨6, _⟩ => ⟨S1024x1024, .f32⟩
  | .hbm, ⟨7, _⟩ => ⟨S4x256x1024, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DwSsdOut.lean ====
abbrev S4224x2048 : Shape := ⟨2, ![4224, 2048]⟩
abbrev S4224x1024 : Shape := ⟨2, ![4224, 1024]⟩
abbrev S4x512x1024 : Shape := ⟨3, ![4, 512, 1024]⟩
abbrev S4224x512 : Shape := ⟨2, ![4224, 512]⟩
abbrev S1x512x1024 : Shape := ⟨3, ![1, 512, 1024]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4224x2048, .f32⟩
  | .hbm, ⟨1, _⟩ => ⟨S4224x1024, .f32⟩
  | .hbm, ⟨2, _⟩ => ⟨S4224x2048, .bf16⟩
  | .hbm, ⟨3, _⟩ => ⟨S4224x1024, .bf16⟩
  | .hbm, ⟨4, _⟩ => ⟨S4x512x1024, .f32⟩
  | .local _ .vmem, ⟨0, _⟩ => ⟨S4224x512, .bf16⟩
  | .local _ .vmem, ⟨1, _⟩ => ⟨S4224x512, .bf16⟩
  | .local _ .vmem, ⟨2, _⟩ => ⟨S4224x1024, .bf16⟩
  | .local _ .vmem, ⟨3, _⟩ => ⟨S1x512x1024, .f32⟩
  | .local _ .vmem, ⟨4, _⟩ => ⟨S1x512x1024, .f32⟩
  | _, _ => ⟨S4224x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4224x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4224x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== DwSsdOutReferenceIdeal.lean ====
abbrev S4224x2048 : Shape := ⟨2, ![4224, 2048]⟩
abbrev S4224x1024 : Shape := ⟨2, ![4224, 1024]⟩
abbrev S_ : Shape := ⟨0, ![]⟩
abbrev S2048x1024 : Shape := ⟨2, ![2048, 1024]⟩
abbrev S1024x2048 : Shape := ⟨2, ![1024, 2048]⟩
abbrev S4x512x1024 : Shape := ⟨3, ![4, 512, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4224x2048, .f32⟩
  | .hbm, ⟨1, _⟩ => ⟨S4224x1024, .f32⟩
  | .hbm, ⟨2, _⟩ => ⟨S_, .f32⟩
  | .hbm, ⟨3, _⟩ => ⟨S2048x1024, .f32⟩
  | .hbm, ⟨4, _⟩ => ⟨S4224x1024, .f32⟩
  | .hbm, ⟨5, _⟩ => ⟨S1024x2048, .f32⟩
  | .hbm, ⟨6, _⟩ => ⟨S2048x1024, .f32⟩
  | .hbm, ⟨7, _⟩ => ⟨S4x512x1024, .f32⟩
  | _, _ => ⟨S4224x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Dyn.lean ====
abbrev S4224x1024 : Shape := ⟨2, ![4224, 1024]⟩
abbrev S2048x1024 : Shape := ⟨2, ![2048, 1024]⟩
abbrev S1x4x512x1024 : Shape := ⟨4, ![1, 4, 512, 1024]⟩
abbrev S4224x2048 : Shape := ⟨2, ![4224, 2048]⟩
abbrev S1408x1024 : Shape := ⟨2, ![1408, 1024]⟩
abbrev S1x1x512x1024 : Shape := ⟨4, ![1, 1, 512, 1024]⟩
abbrev S1408x512 : Shape := ⟨2, ![1408, 512]⟩
abbrev S512x1024 : Shape := ⟨2, ![512, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4224x1024, .f32⟩
  | .hbm, ⟨1, _⟩ => ⟨S2048x1024, .f32⟩
  | .hbm, ⟨2, _⟩ => ⟨S1x4x512x1024, .f32⟩
  | .hbm, ⟨3, _⟩ => ⟨S4224x1024, .bf16⟩
  | .hbm, ⟨4, _⟩ => ⟨S4224x2048, .f32⟩
  | .local _ .vmem, ⟨0, _⟩ => ⟨S1408x1024, .bf16⟩
  | .local _ .vmem, ⟨1, _⟩ => ⟨S1408x1024, .bf16⟩
  | .local _ .vmem, ⟨2, _⟩ => ⟨S1x1x512x1024, .f32⟩
  | .local _ .vmem, ⟨3, _⟩ => ⟨S1x1x512x1024, .f32⟩
  | .local _ .vmem, ⟨4, _⟩ => ⟨S1408x512, .f32⟩
  | .local _ .vmem, ⟨5, _⟩ => ⟨S1408x512, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DynReferenceIdeal.lean ====
abbrev S4224x1024 : Shape := ⟨2, ![4224, 1024]⟩
abbrev S2048x1024 : Shape := ⟨2, ![2048, 1024]⟩
abbrev S_ : Shape := ⟨0, ![]⟩
abbrev S4224x2048 : Shape := ⟨2, ![4224, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S2048x1024, .f32⟩
  | .hbm, ⟨2, _⟩ => ⟨S_, .f32⟩
  | .hbm, ⟨3, _⟩ => ⟨S4224x2048, .f32⟩
  | .hbm, ⟨4, _⟩ => ⟨S4224x1024, .f32⟩
  | .hbm, ⟨5, _⟩ => ⟨S4224x2048, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Dmerged.lean ====
abbrev S4224x1024 : Shape := ⟨2, ![4224, 1024]⟩
abbrev S1024x1024 : Shape := ⟨2, ![1024, 1024]⟩
abbrev S1x4x256x1024 : Shape := ⟨4, ![1, 4, 256, 1024]⟩
abbrev S1408x1024 : Shape := ⟨2, ![1408, 1024]⟩
abbrev S1x1x256x1024 : Shape := ⟨4, ![1, 1, 256, 1024]⟩
abbrev S1408x256 : Shape := ⟨2, ![1408, 256]⟩
abbrev S256x1024 : Shape := ⟨2, ![256, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4224x1024, .f32⟩
  | .hbm, ⟨1, _⟩ => ⟨S1024x1024, .f32⟩
  | .hbm, ⟨2, _⟩ => ⟨S1x4x256x1024, .f32⟩
  | .hbm, ⟨3, _⟩ => ⟨S4224x1024, .bf16⟩
  | .hbm, ⟨4, _⟩ => ⟨S4224x1024, .f32⟩
  | .local _ .vmem, ⟨0, _⟩ => ⟨S1408x1024, .bf16⟩
  | .local _ .vmem, ⟨1, _⟩ => ⟨S1408x1024, .bf16⟩
  | .local _ .vmem, ⟨2, _⟩ => ⟨S1x1x256x1024, .f32⟩
  | .local _ .vmem, ⟨3, _⟩ => ⟨S1x1x256x1024, .f32⟩
  | .local _ .vmem, ⟨4, _⟩ => ⟨S1408x256, .f32⟩
  | .local _ .vmem, ⟨5, _⟩ => ⟨S1408x256, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1408x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DmergedReferenceIdeal.lean ====
abbrev S4224x1024 : Shape := ⟨2, ![4224, 1024]⟩
abbrev S1024x1024 : Shape := ⟨2, ![1024, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1024x1024, .f32⟩
  | .hbm, ⟨2, _⟩ => ⟨S_, .f32⟩
  | .hbm, ⟨3, _⟩ => ⟨S4224x1024, .f32⟩
  | .hbm, ⟨4, _⟩ => ⟨S4224x1024, .f32⟩
  | .hbm, ⟨5, _⟩ => ⟨S4224x1024, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Du.lean ====
abbrev S4224x9216 : Shape := ⟨2, ![4224, 9216]⟩
abbrev S1024x9216 : Shape := ⟨2, ![1024, 9216]⟩
abbrev S1x1024x9216 : Shape := ⟨3, ![1, 1024, 9216]⟩
abbrev S4224x1024 : Shape := ⟨2, ![4224, 1024]⟩
abbrev S1408x2304 : Shape := ⟨2, ![1408, 2304]⟩
abbrev S1x1024x2304 : Shape := ⟨3, ![1, 1024, 2304]⟩
abbrev S1408x1024 : Shape := ⟨2, ![1408, 1024]⟩
abbrev S1024x2304 : Shape := ⟨2, ![1024, 2304]⟩

abbrev nBuf : Space → Nat
  | .hbm => 5
  | .vmem => 7
  | .smem => 0
  | _ => 0

abbrev bufTy : (tb : Table) → Fin (tcTables nBuf tb) → BufTy
  | .hbm, ⟨0, _⟩ => ⟨S4224x9216, .f32⟩
  | .hbm, ⟨1, _⟩ => ⟨S1024x9216, .f32⟩
  | .hbm, ⟨2, _⟩ => ⟨S1x1024x9216, .f32⟩
  | .hbm, ⟨3, _⟩ => ⟨S4224x9216, .bf16⟩
  | .hbm, ⟨4, _⟩ => ⟨S4224x1024, .f32⟩
  | .local _ .vmem, ⟨0, _⟩ => ⟨S1408x2304, .bf16⟩
  | .local _ .vmem, ⟨1, _⟩ => ⟨S1408x2304, .bf16⟩
  | .local _ .vmem, ⟨2, _⟩ => ⟨S1x1024x2304, .f32⟩
  | .local _ .vmem, ⟨3, _⟩ => ⟨S1x1024x2304, .f32⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S4224x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 4], ![false, false, false]⟩

def k0_cond3 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1408x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2304 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== DuReferenceIdeal.lean ====
abbrev S4224x9216 : Shape := ⟨2, ![4224, 9216]⟩
abbrev S1024x9216 : Shape := ⟨2, ![1024, 9216]⟩
abbrev S_ : Shape := ⟨0, ![]⟩
abbrev S4224x1024 : Shape := ⟨2, ![4224, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4224x9216, .f32⟩
  | .hbm, ⟨1, _⟩ => ⟨S1024x9216, .f32⟩
  | .hbm, ⟨2, _⟩ => ⟨S_, .f32⟩
  | .hbm, ⟨3, _⟩ => ⟨S4224x1024, .f32⟩
  | .hbm, ⟨4, _⟩ => ⟨S4224x9216, .f32⟩
  | .hbm, ⟨5, _⟩ => ⟨S4224x1024, .f32⟩
  | _, _ => ⟨S4224x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proj.lean ====
abbrev S4224x1024 : Shape := ⟨2, ![4224, 1024]⟩
abbrev S1024x9216 : Shape := ⟨2, ![1024, 9216]⟩
abbrev S1x1024x9216 : Shape := ⟨3, ![1, 1024, 9216]⟩
abbrev S4224x9216 : Shape := ⟨2, ![4224, 9216]⟩
abbrev S1408x1024 : Shape := ⟨2, ![1408, 1024]⟩
abbrev S1x1024x1024 : Shape := ⟨3, ![1, 1024, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4224x1024, .f32⟩
  | .hbm, ⟨1, _⟩ => ⟨S1024x9216, .f32⟩
  | .hbm, ⟨2, _⟩ => ⟨S1x1024x9216, .f32⟩
  | .hbm, ⟨3, _⟩ => ⟨S4224x1024, .bf16⟩
  | .hbm, ⟨4, _⟩ => ⟨S4224x9216, .f32⟩
  | .local _ .vmem, ⟨0, _⟩ => ⟨S1408x1024, .bf16⟩
  | .local _ .vmem, ⟨1, _⟩ => ⟨S1408x1024, .bf16⟩
  | .local _ .vmem, ⟨2, _⟩ => ⟨S1x1024x1024, .f32⟩
  | .local _ .vmem, ⟨3, _⟩ => ⟨S1x1024x1024, .f32⟩
  | .local _ .vmem, ⟨4, _⟩ => ⟨S1408x1024, .f32⟩
  | .local _ .vmem, ⟨5, _⟩ => ⟨S1408x1024, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 9, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjReferenceIdeal.lean ====
abbrev S4224x1024 : Shape := ⟨2, ![4224, 1024]⟩
abbrev S1024x9216 : Shape := ⟨2, ![1024, 9216]⟩
abbrev S4224x9216 : Shape := ⟨2, ![4224, 9216]⟩

abbrev nBuf : Space → Nat
  | .hbm => 3
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1024x9216, .f32⟩
  | .hbm, ⟨2, _⟩ => ⟨S4224x9216, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Ff1.lean ====
abbrev S4224x1024 : Shape := ⟨2, ![4224, 1024]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S1x4x1024x1024 : Shape := ⟨4, ![1, 4, 1024, 1024]⟩
abbrev S4224x4096 : Shape := ⟨2, ![4224, 4096]⟩
abbrev S1408x1024 : Shape := ⟨2, ![1408, 1024]⟩
abbrev S1x1x1024x1024 : Shape := ⟨4, ![1, 1, 1024, 1024]⟩
abbrev S1024x1024 : Shape := ⟨2, ![1024, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4224x1024, .f32⟩
  | .hbm, ⟨1, _⟩ => ⟨S1024x4096, .f32⟩
  | .hbm, ⟨2, _⟩ => ⟨S1024x4x1024, .f32⟩
  | .hbm, ⟨3, _⟩ => ⟨S4x1024x1024, .f32⟩
  | .hbm, ⟨4, _⟩ => ⟨S1x4x1024x1024, .f32⟩
  | .hbm, ⟨5, _⟩ => ⟨S4224x1024, .bf16⟩
  | .hbm, ⟨6, _⟩ => ⟨S4224x4096, .f32⟩
  | .hbm, ⟨7, _⟩ => ⟨S4224x4096, .bf16⟩
  | .local _ .vmem, ⟨0, _⟩ => ⟨S1408x1024, .bf16⟩
  | .local _ .vmem, ⟨1, _⟩ => ⟨S1408x1024, .bf16⟩
  | .local _ .vmem, ⟨2, _⟩ => ⟨S1x1x1024x1024, .f32⟩
  | .local _ .vmem, ⟨3, _⟩ => ⟨S1x1x1024x1024, .f32⟩
  | .local _ .vmem, ⟨4, _⟩ => ⟨S1408x1024, .f32⟩
  | .local _ .vmem, ⟨5, _⟩ => ⟨S1408x1024, .f32⟩
  | .local _ .vmem, ⟨6, _⟩ => ⟨S1408x1024, .bf16⟩
  | .local _ .vmem, ⟨7, _⟩ => ⟨S1408x1024, .bf16⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![3, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Ff1ReferenceIdeal.lean ====
abbrev S4224x1024 : Shape := ⟨2, ![4224, 1024]⟩
abbrev S1024x4096 : Shape := ⟨2, ![1024, 4096]⟩
abbrev S4224x4096 : Shape := ⟨2, ![4224, 4096]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1024x4096, .f32⟩
  | .hbm, ⟨2, _⟩ => ⟨S4224x4096, .f32⟩
  | .hbm, ⟨3, _⟩ => ⟨S_, .f32⟩
  | .hbm, ⟨4, _⟩ => ⟨S4224x4096, .f32⟩
  | .hbm, ⟨5, _⟩ => ⟨S4224x4096, .f32⟩
  | .hbm, ⟨6, _⟩ => ⟨S4224x4096, .f32⟩
  | .hbm, ⟨7, _⟩ => ⟨S4224x4096, .bf16⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Ff2.lean ====
abbrev S4224x4096 : Shape := ⟨2, ![4224, 4096]⟩
abbrev S4096x1024 : Shape := ⟨2, ![4096, 1024]⟩
abbrev S4224x1024 : Shape := ⟨2, ![4224, 1024]⟩
abbrev S_ : Shape := ⟨0, ![]⟩
abbrev S1x4x1024x1024 : Shape := ⟨4, ![1, 4, 1024, 1024]⟩
abbrev S1408x1024 : Shape := ⟨2, ![1408, 1024]⟩
abbrev S1x1x1024x1024 : Shape := ⟨4, ![1, 1, 1024, 1024]⟩
abbrev S1024x1024 : Shape := ⟨2, ![1024, 1024]⟩

abbrev nBuf : Space → Nat
  | .hbm => 10
  | .vmem => 9
  | .smem => 0
  | _ => 0

abbrev bufTy : (tb : Table) → Fin (tcTables nBuf tb) → BufTy
  | .hbm, ⟨0, _⟩ => ⟨S4224x4096, .f32⟩
  | .hbm, ⟨1, _⟩ => ⟨S4096x1024, .f32⟩
  | .hbm, ⟨2, _⟩ => ⟨S4224x1024, .f32⟩
  | .hbm, ⟨3, _⟩ => ⟨S_, .f32⟩
  | .hbm, ⟨4, _⟩ => ⟨S4224x4096, .f32⟩
  | .hbm, ⟨5, _⟩ => ⟨S4224x4096, .f32⟩
  | .hbm, ⟨6, _⟩ => ⟨S4224x4096, .f32⟩
  | .hbm, ⟨7, _⟩ => ⟨S4224x4096, .bf16⟩
  | .hbm, ⟨8, _⟩ => ⟨S1x4x1024x1024, .f32⟩
  | .hbm, ⟨9, _⟩ => ⟨S4224x1024, .f32⟩
  | .local _ .vmem, ⟨0, _⟩ => ⟨S1408x1024, .bf16⟩
  | .local _ .vmem, ⟨1, _⟩ => ⟨S1408x1024, .bf16⟩
  | .local _ .vmem, ⟨2, _⟩ => ⟨S1x1x1024x1024, .f32⟩
  | .local _ .vmem, ⟨3, _⟩ => ⟨S1x1x1024x1024, .f32⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | .local _ .vmem, ⟨7, _⟩ => ⟨S1408x1024, .f32⟩
  | .local _ .vmem, ⟨8, _⟩ => ⟨S1408x1024, .f32⟩
  | _, _ => ⟨S4224x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![3, 1, 4], ![false, false, false]⟩

def k0_cond3 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg2.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1408x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]
-- ==== Ff2ReferenceIdeal.lean ====
abbrev S4224x4096 : Shape := ⟨2, ![4224, 4096]⟩
abbrev S4096x1024 : Shape := ⟨2, ![4096, 1024]⟩
abbrev S4224x1024 : Shape := ⟨2, ![4224, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4224x4096, .f32⟩
  | .hbm, ⟨1, _⟩ => ⟨S4096x1024, .f32⟩
  | .hbm, ⟨2, _⟩ => ⟨S4224x1024, .f32⟩
  | .hbm, ⟨3, _⟩ => ⟨S_, .f32⟩
  | .hbm, ⟨4, _⟩ => ⟨S4224x4096, .f32⟩
  | .hbm, ⟨5, _⟩ => ⟨S4224x4096, .f32⟩
  | .hbm, ⟨6, _⟩ => ⟨S4224x4096, .f32⟩
  | .hbm, ⟨7, _⟩ => ⟨S4224x1024, .f32⟩
  | .hbm, ⟨8, _⟩ => ⟨S4224x1024, .f32⟩
  | _, _ => ⟨S4224x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩

abbrev nD : Nat := 1
abbrev τ : Topo := Topo.v7x

variable {F : FTy → Type} [FloatOps F]
-- ==== SsdOut.lean ====
abbrev S4224x2048 : Shape := ⟨2, ![4224, 2048]⟩
abbrev S2048x1024 : Shape := ⟨2, ![2048, 1024]⟩
abbrev S1x4x512x1024 : Shape := ⟨4, ![1, 4, 512, 1024]⟩
abbrev S4224x1024 : Shape := ⟨2, ![4224, 1024]⟩
abbrev S1408x2048 : Shape := ⟨2, ![1408, 2048]⟩
abbrev S1408x1024 : Shape := ⟨2, ![1408, 1024]⟩
abbrev S1408x512 : Shape := ⟨2, ![1408, 512]⟩
abbrev S1x1x512x1024 : Shape := ⟨4, ![1, 1, 512, 1024]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4224x2048, .f32⟩
  | .hbm, ⟨1, _⟩ => ⟨S2048x1024, .f32⟩
  | .hbm, ⟨2, _⟩ => ⟨S1x4x512x1024, .f32⟩
  | .hbm, ⟨3, _⟩ => ⟨S4224x2048, .bf16⟩
  | .hbm, ⟨4, _⟩ => ⟨S4224x1024, .f32⟩
  | .local _ .vmem, ⟨0, _⟩ => ⟨S1408x2048, .bf16⟩
  | .local _ .vmem, ⟨1, _⟩ => ⟨S1408x2048, .bf16⟩
  | .local _ .vmem, ⟨2, _⟩ => ⟨S1x4x512x1024, .f32⟩
  | .local _ .vmem, ⟨3, _⟩ => ⟨S1408x1024, .f32⟩
  | .local _ .vmem, ⟨4, _⟩ => ⟨S1408x1024, .f32⟩
  | _, _ => ⟨S4224x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![3, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x4x512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== SsdOutReferenceIdeal.lean ====
abbrev S4224x2048 : Shape := ⟨2, ![4224, 2048]⟩
abbrev S2048x1024 : Shape := ⟨2, ![2048, 1024]⟩
abbrev S4224x1024 : Shape := ⟨2, ![4224, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4224x2048, .f32⟩
  | .hbm, ⟨1, _⟩ => ⟨S2048x1024, .f32⟩
  | .hbm, ⟨2, _⟩ => ⟨S4224x1024, .f32⟩
  | _, _ => ⟨S4224x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== O.lean ====
abbrev S4224x1024 : Shape := ⟨2, ![4224, 1024]⟩
abbrev S1024x1024 : Shape := ⟨2, ![1024, 1024]⟩
abbrev S1024 : Shape := ⟨1, ![1024]⟩
abbrev S1x4x256x1024 : Shape := ⟨4, ![1, 4, 256, 1024]⟩
abbrev S1x1024 : Shape := ⟨2, ![1, 1024]⟩
abbrev S1408x1024 : Shape := ⟨2, ![1408, 1024]⟩
abbrev S1408x256 : Shape := ⟨2, ![1408, 256]⟩
abbrev S1x1x256x1024 : Shape := ⟨4, ![1, 1, 256, 1024]⟩
abbrev S256x1024 : Shape := ⟨2, ![256, 1024]⟩
abbrev S1408 : Shape := ⟨1, ![1408]⟩
abbrev S1408x1 : Shape := ⟨2, ![1408, 1]⟩

abbrev nBuf : Space → Nat
  | .hbm => 9
  | .vmem => 10
  | .smem => 0
  | _ => 0

abbrev bufTy : (tb : Table) → Fin (tcTables nBuf tb) → BufTy
  | .hbm, ⟨0, _⟩ => ⟨S4224x1024, .f32⟩
  | .hbm, ⟨1, _⟩ => ⟨S1024x1024, .f32⟩
  | .hbm, ⟨2, _⟩ => ⟨S4224x1024, .f32⟩
  | .hbm, ⟨3, _⟩ => ⟨S1024, .f32⟩
  | .hbm, ⟨4, _⟩ => ⟨S1x4x256x1024, .f32⟩
  | .hbm, ⟨5, _⟩ => ⟨S4224x1024, .bf16⟩
  | .hbm, ⟨6, _⟩ => ⟨S1x1024, .f32⟩
  | .hbm, ⟨7, _⟩ => ⟨S4224x1024, .f32⟩
  | .hbm, ⟨8, _⟩ => ⟨S4224x1024, .bf16⟩
  | .local _ .vmem, ⟨0, _⟩ => ⟨S1408x1024, .bf16⟩
  | .local _ .vmem, ⟨1, _⟩ => ⟨S1408x1024, .bf16⟩
  | .local _ .vmem, ⟨2, _⟩ => ⟨S1x4x256x1024, .f32⟩
  | .local _ .vmem, ⟨3, _⟩ => ⟨S1408x1024, .f32⟩
  | .local _ .vmem, ⟨4, _⟩ => ⟨S1408x1024, .f32⟩
  | .local _ .vmem, ⟨5, _⟩ => ⟨S1x1024, .f32⟩
  | .local _ .vmem, ⟨6, _⟩ => ⟨S1408x1024, .f32⟩
  | .local _ .vmem, ⟨7, _⟩ => ⟨S1408x1024, .f32⟩
  | .local _ .vmem, ⟨8, _⟩ => ⟨S1408x1024, .bf16⟩
  | .local _ .vmem, ⟨9, _⟩ => ⟨S1408x1024, .bf16⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![3, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x4x256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1408x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1408x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]
-- ==== OReferenceIdeal.lean ====
abbrev S4224x1024 : Shape := ⟨2, ![4224, 1024]⟩
abbrev S1024x1024 : Shape := ⟨2, ![1024, 1024]⟩
abbrev S1024 : Shape := ⟨1, ![1024]⟩
abbrev S_ : Shape := ⟨0, ![]⟩
abbrev S4224 : Shape := ⟨1, ![4224]⟩
abbrev S4224x1 : Shape := ⟨2, ![4224, 1]⟩
abbrev S1x1024 : Shape := ⟨2, ![1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1024x1024, .f32⟩
  | .hbm, ⟨2, _⟩ => ⟨S4224x1024, .f32⟩
  | .hbm, ⟨3, _⟩ => ⟨S1024, .f32⟩
  | .hbm, ⟨4, _⟩ => ⟨S4224x1024, .f32⟩
  | .hbm, ⟨5, _⟩ => ⟨S4224x1024, .f32⟩
  | .hbm, ⟨6, _⟩ => ⟨S4224x1024, .f32⟩
  | .hbm, ⟨7, _⟩ => ⟨S_, .f32⟩
  | .hbm, ⟨8, _⟩ => ⟨S4224, .f32⟩
  | .hbm, ⟨9, _⟩ => ⟨S4224x1, .f32⟩
  | .hbm, ⟨10, _⟩ => ⟨S_, .f32⟩
  | .hbm, ⟨11, _⟩ => ⟨S4224x1, .f32⟩
  | .hbm, ⟨12, _⟩ => ⟨S4224x1, .f32⟩
  | .hbm, ⟨13, _⟩ => ⟨S_, .f32⟩
  | .hbm, ⟨14, _⟩ => ⟨S4224x1, .f32⟩
  | .hbm, ⟨15, _⟩ => ⟨S4224x1, .f32⟩
  | .hbm, ⟨16, _⟩ => ⟨S4224x1, .f32⟩
  | .hbm, ⟨17, _⟩ => ⟨S4224x1024, .f32⟩
  | .hbm, ⟨18, _⟩ => ⟨S4224x1024, .f32⟩
  | .hbm, ⟨19, _⟩ => ⟨S1x1024, .f32⟩
  | .hbm, ⟨20, _⟩ => ⟨S4224x1024, .f32⟩
  | .hbm, ⟨21, _⟩ => ⟨S4224x1024, .f32⟩
  | .hbm, ⟨22, _⟩ => ⟨S4224x1024, .bf16⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Ff2Norm.lean ====
abbrev S4224x4096 : Shape := ⟨2, ![4224, 4096]⟩
abbrev S4096x1024 : Shape := ⟨2, ![4096, 1024]⟩
abbrev S4224x1024 : Shape := ⟨2, ![4224, 1024]⟩
abbrev S1024 : Shape := ⟨1, ![1024]⟩
abbrev S_ : Shape := ⟨0, ![]⟩
abbrev S1x4x1024x1024 : Shape := ⟨4, ![1, 4, 1024, 1024]⟩
abbrev S1x1024 : Shape := ⟨2, ![1, 1024]⟩
abbrev S1408x1024 : Shape := ⟨2, ![1408, 1024]⟩
abbrev S1x1x1024x1024 : Shape := ⟨4, ![1, 1, 1024, 1024]⟩
abbrev S1024x1024 : Shape := ⟨2, ![1024, 1024]⟩
abbrev S1408 : Shape := ⟨1, ![1408]⟩
abbrev S1408x1 : Shape := ⟨2, ![1408, 1]⟩

abbrev nBuf : Space → Nat
  | .hbm => 13
  | .vmem => 12
  | .smem => 0
  | _ => 0

abbrev bufTy : (tb : Table) → Fin (tcTables nBuf tb) → BufTy
  | .hbm, ⟨0, _⟩ => ⟨S4224x4096, .f32⟩
  | .hbm, ⟨1, _⟩ => ⟨S4096x1024, .f32⟩
  | .hbm, ⟨2, _⟩ => ⟨S4224x1024, .f32⟩
  | .hbm, ⟨3, _⟩ => ⟨S1024, .f32⟩
  | .hbm, ⟨4, _⟩ => ⟨S_, .f32⟩
  | .hbm, ⟨5, _⟩ => ⟨S4224x4096, .f32⟩
  | .hbm, ⟨6, _⟩ => ⟨S4224x4096, .f32⟩
  | .hbm, ⟨7, _⟩ => ⟨S4224x4096, .f32⟩
  | .hbm, ⟨8, _⟩ => ⟨S4224x4096, .bf16⟩
  | .hbm, ⟨9, _⟩ => ⟨S1x4x1024x1024, .f32⟩
  | .hbm, ⟨10, _⟩ => ⟨S1x1024, .f32⟩
  | .hbm, ⟨11, _⟩ => ⟨S4224x1024, .f32⟩
  | .hbm, ⟨12, _⟩ => ⟨S4224x1024, .bf16⟩
  | .local _ .vmem, ⟨0, _⟩ => ⟨S1408x1024, .bf16⟩
  | .local _ .vmem, ⟨1, _⟩ => ⟨S1408x1024, .bf16⟩
  | .local _ .vmem, ⟨2, _⟩ => ⟨S1x1x1024x1024, .f32⟩
  | .local _ .vmem, ⟨3, _⟩ => ⟨S1x1x1024x1024, .f32⟩
  | .local _ .vmem, ⟨4, _⟩ => ⟨S1408x1024, .f32⟩
  | .local _ .vmem, ⟨5, _⟩ => ⟨S1408x1024, .f32⟩
  | .local _ .vmem, ⟨6, _⟩ => ⟨S1x1024, .f32⟩
  | .local _ .vmem, ⟨7, _⟩ => ⟨S1408x1024, .f32⟩
  | .local _ .vmem, ⟨8, _⟩ => ⟨S1408x1024, .f32⟩
  | .local _ .vmem, ⟨9, _⟩ => ⟨S1408x1024, .bf16⟩
  | .local _ .vmem, ⟨10, _⟩ => ⟨S1408x1024, .bf16⟩
  | .local _ .vmem, ⟨11, _⟩ => ⟨S1408x1024, .f32⟩
  | _, _ => ⟨S4224x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![3, 1, 4], ![false, false, false]⟩

def k0_cond3 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg2.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1408x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1408x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]
-- ==== Ff2NormReferenceIdeal.lean ====
abbrev S4224x4096 : Shape := ⟨2, ![4224, 4096]⟩
abbrev S4096x1024 : Shape := ⟨2, ![4096, 1024]⟩
abbrev S4224x1024 : Shape := ⟨2, ![4224, 1024]⟩
abbrev S1024 : Shape := ⟨1, ![1024]⟩
abbrev S_ : Shape := ⟨0, ![]⟩
abbrev S4224 : Shape := ⟨1, ![4224]⟩
abbrev S4224x1 : Shape := ⟨2, ![4224, 1]⟩
abbrev S1x1024 : Shape := ⟨2, ![1, 1024]⟩

abbrev nBuf : Space → Nat
  | .hbm => 27
  | .vmem => 0
  | .smem => 0
  | _ => 0

abbrev bufTy : (tb : Table) → Fin (tcTables nBuf tb) → BufTy
  | .hbm, ⟨0, _⟩ => ⟨S4224x4096, .f32⟩
  | .hbm, ⟨1, _⟩ => ⟨S4096x1024, .f32⟩
  | .hbm, ⟨2, _⟩ => ⟨S4224x1024, .f32⟩
  | .hbm, ⟨3, _⟩ => ⟨S1024, .f32⟩
  | .hbm, ⟨4, _⟩ => ⟨S_, .f32⟩
  | .hbm, ⟨5, _⟩ => ⟨S4224x4096, .f32⟩
  | .hbm, ⟨6, _⟩ => ⟨S4224x4096, .f32⟩
  | .hbm, ⟨7, _⟩ => ⟨S4224x4096, .f32⟩
  | .hbm, ⟨8, _⟩ => ⟨S4224x1024, .f32⟩
  | .hbm, ⟨9, _⟩ => ⟨S4224x1024, .f32⟩
  | .hbm, ⟨10, _⟩ => ⟨S4224x1024, .f32⟩
  | .hbm, ⟨11, _⟩ => ⟨S_, .f32⟩
  | .hbm, ⟨12, _⟩ => ⟨S4224, .f32⟩
  | .hbm, ⟨13, _⟩ => ⟨S4224x1, .f32⟩
  | .hbm, ⟨14, _⟩ => ⟨S_, .f32⟩
  | .hbm, ⟨15, _⟩ => ⟨S4224x1, .f32⟩
  | .hbm, ⟨16, _⟩ => ⟨S4224x1, .f32⟩
  | .hbm, ⟨17, _⟩ => ⟨S_, .f32⟩
  | .hbm, ⟨18, _⟩ => ⟨S4224x1, .f32⟩
  | .hbm, ⟨19, _⟩ => ⟨S4224x1, .f32⟩
  | .hbm, ⟨20, _⟩ => ⟨S4224x1, .f32⟩
  | .hbm, ⟨21, _⟩ => ⟨S4224x1024, .f32⟩
  | .hbm, ⟨22, _⟩ => ⟨S4224x1024, .f32⟩
  | .hbm, ⟨23, _⟩ => ⟨S1x1024, .f32⟩
  | .hbm, ⟨24, _⟩ => ⟨S4224x1024, .f32⟩
  | .hbm, ⟨25, _⟩ => ⟨S4224x1024, .f32⟩
  | .hbm, ⟨26, _⟩ => ⟨S4224x1024, .bf16⟩
  | _, _ => ⟨S4224x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== DwPoolUp.lean ====
abbrev S4224x1024 : Shape := ⟨2, ![4224, 1024]⟩
abbrev S4x256x1024 : Shape := ⟨3, ![4, 256, 1024]⟩
abbrev S4224x256 : Shape := ⟨2, ![4224, 256]⟩
abbrev S1x256x1024 : Shape := ⟨3, ![1, 256, 1024]⟩
abbrev S256x1024 : Shape := ⟨2, ![256, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4224x1024, .f32⟩
  | .hbm, ⟨1, _⟩ => ⟨S4224x1024, .f32⟩
  | .hbm, ⟨2, _⟩ => ⟨S4224x1024, .bf16⟩
  | .hbm, ⟨3, _⟩ => ⟨S4224x1024, .bf16⟩
  | .hbm, ⟨4, _⟩ => ⟨S4x256x1024, .f32⟩
  | .local _ .vmem, ⟨0, _⟩ => ⟨S4224x256, .bf16⟩
  | .local _ .vmem, ⟨1, _⟩ => ⟨S4224x256, .bf16⟩
  | .local _ .vmem, ⟨2, _⟩ => ⟨S4224x1024, .bf16⟩
  | .local _ .vmem, ⟨3, _⟩ => ⟨S1x256x1024, .f32⟩
  | .local _ .vmem, ⟨4, _⟩ => ⟨S1x256x1024, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4224x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4224x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== DwPoolUpReferenceIdeal.lean ====
abbrev S4224x1024 : Shape := ⟨2, ![4224, 1024]⟩
abbrev S_ : Shape := ⟨0, ![]⟩
abbrev S1024x1024 : Shape := ⟨2, ![1024, 1024]⟩
abbrev S4x256x1024 : Shape := ⟨3, ![4, 256, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S4224x1024, .f32⟩
  | .hbm, ⟨2, _⟩ => ⟨S_, .f32⟩
  | .hbm, ⟨3, _⟩ => ⟨S1024x1024, .f32⟩
  | .hbm, ⟨4, _⟩ => ⟨S4224x1024, .f32⟩
  | .hbm, ⟨5, _⟩ => ⟨S1024x1024, .f32⟩
  | .hbm, ⟨6, _⟩ => ⟨S1024x1024, .f32⟩
  | .hbm, ⟨7, _⟩ => ⟨S4x256x1024, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DactB.lean ====
abbrev S4224x1024 : Shape := ⟨2, ![4224, 1024]⟩
abbrev S4096x1024 : Shape := ⟨2, ![4096, 1024]⟩
abbrev S4224x4096 : Shape := ⟨2, ![4224, 4096]⟩
abbrev S1x4x1024x1024 : Shape := ⟨4, ![1, 4, 1024, 1024]⟩
abbrev S1408x1024 : Shape := ⟨2, ![1408, 1024]⟩
abbrev S1x1x1024x1024 : Shape := ⟨4, ![1, 1, 1024, 1024]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S4224x1024, .f32⟩
  | .hbm, ⟨1, _⟩ => ⟨S4096x1024, .f32⟩
  | .hbm, ⟨2, _⟩ => ⟨S4224x4096, .f32⟩
  | .hbm, ⟨3, _⟩ => ⟨S1x4x1024x1024, .f32⟩
  | .hbm, ⟨4, _⟩ => ⟨S4224x1024, .bf16⟩
  | .hbm, ⟨5, _⟩ => ⟨S4224x4096, .bf16⟩
  | .local _ .vmem, ⟨0, _⟩ => ⟨S1408x1024, .bf16⟩
  | .local _ .vmem, ⟨1, _⟩ => ⟨S1408x1024, .bf16⟩
  | .local _ .vmem, ⟨2, _⟩ => ⟨S1x1x1024x1024, .f32⟩
  | .local _ .vmem, ⟨3, _⟩ => ⟨S1x1x1024x1024, .f32⟩
  | .local _ .vmem, ⟨4, _⟩ => ⟨S1408x1024, .f32⟩
  | .local _ .vmem, ⟨5, _⟩ => ⟨S1408x1024, .f32⟩
  | .local _ .vmem, ⟨6, _⟩ => ⟨S1408x1024, .bf16⟩
  | .local _ .vmem, ⟨7, _⟩ => ⟨S1408x1024, .bf16⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![3, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DactBReferenceIdeal.lean ====
abbrev S4224x1024 : Shape := ⟨2, ![4224, 1024]⟩
abbrev S4096x1024 : Shape := ⟨2, ![4096, 1024]⟩
abbrev S4224x4096 : Shape := ⟨2, ![4224, 4096]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S4096x1024, .f32⟩
  | .hbm, ⟨2, _⟩ => ⟨S4224x4096, .f32⟩
  | .hbm, ⟨3, _⟩ => ⟨S_, .f32⟩
  | .hbm, ⟨4, _⟩ => ⟨S4224x4096, .f32⟩
  | .hbm, ⟨5, _⟩ => ⟨S4224x4096, .f32⟩
  | .hbm, ⟨6, _⟩ => ⟨S_, .f32⟩
  | .hbm, ⟨7, _⟩ => ⟨S4224x4096, .f32⟩
  | .hbm, ⟨8, _⟩ => ⟨S4224x4096, .i1⟩
  | .hbm, ⟨9, _⟩ => ⟨S_, .f32⟩
  | .hbm, ⟨10, _⟩ => ⟨S4224x4096, .f32⟩
  | .hbm, ⟨11, _⟩ => ⟨S4224x4096, .f32⟩
  | .hbm, ⟨12, _⟩ => ⟨S4224x1024, .f32⟩
  | .hbm, ⟨13, _⟩ => ⟨S4224x4096, .f32⟩
  | .hbm, ⟨14, _⟩ => ⟨S4224x4096, .f32⟩
  | .hbm, ⟨15, _⟩ => ⟨S4224x4096, .f32⟩
  | .hbm, ⟨16, _⟩ => ⟨S4224x4096, .f32⟩
  | .hbm, ⟨17, _⟩ => ⟨S_, .f32⟩
  | .hbm, ⟨18, _⟩ => ⟨S4224x4096, .f32⟩
  | .hbm, ⟨19, _⟩ => ⟨S4224x4096, .f32⟩
  | .hbm, ⟨20, _⟩ => ⟨S4224x4096, .bf16⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩

abbrev nD : Nat := 1
abbrev τ : Topo := Topo.v7x

variable {F : FTy → Type} [FloatOps F]
-- ==== DwFf2L.lean ====
abbrev S4224x4096 : Shape := ⟨2, ![4224, 4096]⟩
abbrev S4224x1024 : Shape := ⟨2, ![4224, 1024]⟩
abbrev S_ : Shape := ⟨0, ![]⟩
abbrev S4x1024x1024 : Shape := ⟨3, ![4, 1024, 1024]⟩
abbrev S1408x1024 : Shape := ⟨2, ![1408, 1024]⟩
abbrev S1x1024x1024 : Shape := ⟨3, ![1, 1024, 1024]⟩
abbrev S1024x1024 : Shape := ⟨2, ![1024, 1024]⟩

abbrev nBuf : Space → Nat
  | .hbm => 8
  | .vmem => 7
  | .smem => 0
  | _ => 0

abbrev bufTy : (tb : Table) → Fin (tcTables nBuf tb) → BufTy
  | .hbm, ⟨0, _⟩ => ⟨S4224x4096, .f32⟩
  | .hbm, ⟨1, _⟩ => ⟨S4224x1024, .f32⟩
  | .hbm, ⟨2, _⟩ => ⟨S_, .f32⟩
  | .hbm, ⟨3, _⟩ => ⟨S4224x4096, .f32⟩
  | .hbm, ⟨4, _⟩ => ⟨S4224x4096, .f32⟩
  | .hbm, ⟨5, _⟩ => ⟨S4224x4096, .f32⟩
  | .hbm, ⟨6, _⟩ => ⟨S4224x4096, .bf16⟩
  | .hbm, ⟨7, _⟩ => ⟨S4x1024x1024, .f32⟩
  | .local _ .vmem, ⟨0, _⟩ => ⟨S1408x1024, .bf16⟩
  | .local _ .vmem, ⟨1, _⟩ => ⟨S1408x1024, .bf16⟩
  | .local _ .vmem, ⟨2, _⟩ => ⟨S1408x1024, .f32⟩
  | .local _ .vmem, ⟨3, _⟩ => ⟨S1408x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S4224x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 3], ![false, false, false]⟩

def k0_cond3 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== DwFf2LReferenceIdeal.lean ====
abbrev S4224x4096 : Shape := ⟨2, ![4224, 4096]⟩
abbrev S4224x1024 : Shape := ⟨2, ![4224, 1024]⟩
abbrev S_ : Shape := ⟨0, ![]⟩
abbrev S4096x1024 : Shape := ⟨2, ![4096, 1024]⟩
abbrev S1024x4096 : Shape := ⟨2, ![1024, 4096]⟩
abbrev S4x1024x1024 : Shape := ⟨3, ![4, 1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4224x4096, .f32⟩
  | .hbm, ⟨1, _⟩ => ⟨S4224x1024, .f32⟩
  | .hbm, ⟨2, _⟩ => ⟨S_, .f32⟩
  | .hbm, ⟨3, _⟩ => ⟨S4096x1024, .f32⟩
  | .hbm, ⟨4, _⟩ => ⟨S_, .f32⟩
  | .hbm, ⟨5, _⟩ => ⟨S4224x4096, .f32⟩
  | .hbm, ⟨6, _⟩ => ⟨S4224x4096, .f32⟩
  | .hbm, ⟨7, _⟩ => ⟨S4224x4096, .f32⟩
  | .hbm, ⟨8, _⟩ => ⟨S4224x1024, .f32⟩
  | .hbm, ⟨9, _⟩ => ⟨S1024x4096, .f32⟩
  | .hbm, ⟨10, _⟩ => ⟨S4096x1024, .f32⟩
  | .hbm, ⟨11, _⟩ => ⟨S4x1024x1024, .f32⟩
  | _, _ => ⟨S4224x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Proof.SsdGroup.lean ====
module

public import proofs.«01_k».proof.Proof.Gen.SsdIdeal
public import Idealize.ShloMosaic.Lib.Pointwise
public import Idealize.ShloMosaic.Lib.WordCmp

@[expose] public section

set_option maxRecDepth 16384

noncomputable section

open Idealize.ShloMosaic Idealize.ShloMosaic.TcCoe Idealize.SL.Sem

/-! One group of four heads of the chunk's backward step: the kernel's own vector operations as functions of what
the group loads, and each of them read at an index. -/

namespace Cert.SsdIdeal.Group

open Cert.SsdIdeal Cert.SsdIdeal.Gen

/-- The lanes from `a` up to `b`. -/
def lanes (a b : ℕ) : IVec S1x256 1 :=
  andi (cmpi .sge (iota .tc S1x256 32 [1] iota_S1x256_d1_w32) (broadcast S1x256 (BitVec.ofNat 32 a)))
    (cmpi .slt (iota .tc S1x256 32 [1] iota_S1x256_d1_w32) (broadcast S1x256 (BitVec.ofNat 32 b)))

/-- A block kept on some lanes, zero on the others. -/
def keep (h : IVec S1x256 1) (x : FVec Ideal S128x256 .f32) : FVec Ideal S128x256 .f32 :=
  select (broadcastTo S128x256 (shapeCast S1x256 h shapeCasts_S1x256_S1x256) broadcasts_S1x256_S128x256) x
    (broadcast S128x256 (Scalar.ofBits .f32 0x00000000#32))

/-- A column spread over the lanes. -/
def spread (x : FVec Ideal S128x1 .f32) : FVec Ideal S128x256 .f32 :=
  broadcastTo S128x256 (shapeCast S128x1 x shapeCasts_S128x1_S128x1) broadcasts_S128x1_S128x256

/-- One column per head, spread over the head's lanes. -/
def expand (c : FVec Ideal S128x4 .f32) : FVec Ideal S128x256 .f32 :=
  addf (addf (addf
    (keep (lanes 0 64) (spread (extractStridedSlice S128x1 ![0, 0] c slices_S128x4_o0_0_S128x1)))
    (keep (lanes 64 128) (spread (extractStridedSlice S128x1 ![0, 1] c slices_S128x4_o0_1_S128x1))))
    (keep (lanes 128 192) (spread (extractStridedSlice S128x1 ![0, 2] c slices_S128x4_o0_2_S128x1))))
    (keep (lanes 192 256) (spread (extractStridedSlice S128x1 ![0, 3] c slices_S128x4_o0_3_S128x1)))

/-- Four blocks of rows, one per head, each kept on its head's lanes and added. -/
def pick (s : FVec Ideal S512x256 .f32) : FVec Ideal S128x256 .f32 :=
  addf (addf (addf
    (keep (lanes 0 64) (extractStridedSlice S128x256 ![0, 0] s slices_S512x256_o0_0_S128x256))
    (keep (lanes 64 128) (extractStridedSlice S128x256 ![128, 0] s slices_S512x256_o128_0_S128x256)))
    (keep (lanes 128 192) (extractStridedSlice S128x256 ![256, 0] s slices_S512x256_o256_0_S128x256)))
    (keep (lanes 192 256) (extractStridedSlice S128x256 ![384, 0] s slices_S512x256_o384_0_S128x256))

/-- A block kept on each head's lanes in turn, one under the other. -/
def keepStack (x : FVec Ideal S128x256 .f32) : FVec Ideal S512x256 .f32 :=
  concatenate S512x256 0 [⟨S128x256, keep (lanes 0 64) x⟩, ⟨S128x256, keep (lanes 64 128) x⟩,
    ⟨S128x256, keep (lanes 128 192) x⟩, ⟨S128x256, keep (lanes 192 256) x⟩]
    concatenates_S128x256_S128x256_S128x256_S128x256_S512x256_d0

/-- A block four times, one under the other. -/
def stack (x : FVec Ideal S128x128 .f32) : FVec Ideal S512x128 .f32 :=
  concatenate S512x128 0 [⟨S128x128, x⟩, ⟨S128x128, x⟩, ⟨S128x128, x⟩, ⟨S128x128, x⟩]
    concatenates_S128x128_S128x128_S128x128_S128x128_S512x128_d0

/-- The four row blocks of a stack, added. -/
def unstack (x : FVec Ideal S512x128 .f32) : FVec Ideal S128x128 .f32 :=
  addf (addf (addf (extractStridedSlice S128x128 ![0, 0] x slices_S512x128_o0_0_S128x128)
    (extractStridedSlice S128x128 ![128, 0] x slices_S512x128_o128_0_S128x128))
    (extractStridedSlice S128x128 ![256, 0] x slices_S512x128_o256_0_S128x128))
    (extractStridedSlice S128x128 ![384, 0] x slices_S512x128_o384_0_S128x128)

/-- The running sums of the heads down their rows, one head under the other. -/
def downRows (a : FVec Ideal S128x256 .f32) : FVec Ideal S512x1 .f32 :=
  concatenate S512x1 0 [⟨S128x1, extractStridedSlice S128x1 ![0, 0] a slices_S128x256_o0_0_S128x1⟩,
    ⟨S128x1, extractStridedSlice S128x1 ![0, 64] a slices_S128x256_o0_64_S128x1⟩,
    ⟨S128x1, extractStridedSlice S128x1 ![0, 128] a slices_S128x256_o0_128_S128x1⟩,
    ⟨S128x1, extractStridedSlice S128x1 ![0, 192] a slices_S128x256_o0_192_S128x1⟩]
    concatenates_S128x1_S128x1_S128x1_S128x1_S512x1_d0

def alongRow (x : FVec Ideal S1x128 .f32) : FVec Ideal S128x128 .f32 :=
  broadcastTo S128x128 (shapeCast S1x128 x shapeCasts_S1x128_S1x128) broadcasts_S1x128_S128x128

/-- The running sums of the heads along their columns, one head under the other. -/
def alongRows (a : FVec Ideal S4x128 .f32) : FVec Ideal S512x128 .f32 :=
  concatenate S512x128 0 [⟨S128x128, alongRow (extractStridedSlice S1x128 ![0, 0] a slices_S4x128_o0_0_S1x128)⟩,
    ⟨S128x128, alongRow (extractStridedSlice S1x128 ![1, 0] a slices_S4x128_o1_0_S1x128)⟩,
    ⟨S128x128, alongRow (extractStridedSlice S1x128 ![2, 0] a slices_S4x128_o2_0_S1x128)⟩,
    ⟨S128x128, alongRow (extractStridedSlice S1x128 ![3, 0] a slices_S4x128_o3_0_S1x128)⟩]
    concatenates_S128x128_S128x128_S128x128_S128x128_S512x128_d0

/-- The row of its head's block a stacked row is. -/
def rowIn : IVec S512x128 32 :=
  let d : BitVec 32 := Scalar.select (Scalar.cmpi .eq 128#32 0#32) 1#32 128#32
  let q : IVec S512x128 32 := remsi (iota .tc S512x128 32 [0] iota_S512x128_d0_w32) (broadcast S512x128 d)
  select (andi (xori (cmpi .slt q (broadcast S512x128 0#32))
      (broadcastTo S512x128 (broadcast S512x128 (Scalar.cmpi .slt d 0#32)) broadcasts_S512x128_S512x128))
      (cmpi .ne q (broadcast S512x128 0#32))) (addi q (broadcast S512x128 d)) q

def difference (a : FVec Ideal S128x256 .f32) (ar : FVec Ideal S4x128 .f32) : FVec Ideal S512x128 .f32 :=
  subf (broadcastTo S512x128 (downRows a) broadcasts_S512x1_S512x128) (alongRows ar)

/-- The decay from column to row, below the diagonal. -/
def lower (a : FVec Ideal S128x256 .f32) (ar : FVec Ideal S4x128 .f32) : FVec Ideal S512x128 .f32 :=
  exp (select (cmpi .sge rowIn (iota .tc S512x128 32 [1] iota_S512x128_d1_w32)) (difference a ar)
    (broadcast S512x128 (Scalar.ofBits .f32 0xFF800000#32)))

/-- The decay from row to column, above the diagonal. -/
def upper (a : FVec Ideal S128x256 .f32) (ar : FVec Ideal S4x128 .f32) : FVec Ideal S512x128 .f32 :=
  exp (select (cmpi .sle rowIn (iota .tc S512x128 32 [1] iota_S512x128_d1_w32))
    (subf (broadcast S512x128 (Scalar.ofBits .f32 0x00000000#32)) (difference a ar))
    (broadcast S512x128 (Scalar.ofBits .f32 0xFF800000#32)))

/-- The row of the stack that is row `l` of head `r`. -/
def srow (r : Fin 4) (l : Fin 128) : Fin 512 := ⟨128 * r.val + l.val, by omega⟩
/-- The lane that is component `p` of head `r`. -/
def lane (r : Fin 4) (p : Fin 64) : Fin 256 := ⟨64 * r.val + p.val, by omega⟩

theorem keep_apply (a b : ℕ) (ha : a < 2 ^ 31) (hb : b < 2 ^ 31) (x : FVec Ideal S128x256 .f32) (l : Fin 128) (j : Fin 256) :
    keep (lanes a b) x (ix2 l j) = if a ≤ j.val ∧ j.val < b then x (ix2 l j) else 0 := by
  pointwise [keep, lanes]
  have hj : j.val < 2 ^ 31 := by omega
  rw [WordCmp.cmpi_sge_ofNat hj ha, WordCmp.cmpi_slt_ofNat hj hb]
  by_cases h1 : a ≤ j.val <;> by_cases h2 : j.val < b <;> simp [h1, h2, IntOp.andi, Scalar.select]

theorem rowIn_apply (i : Fin 512) (s : Fin 128) : rowIn (ix2 i s) = BitVec.ofNat 32 (i.val % 128) := by
  pointwise [rowIn]
  revert i
  decide +kernel

theorem kept0 (x : FVec Ideal S128x256 .f32) (l : Fin 128) (j : Fin 256) :
    keep (lanes 0 64) x (ix2 l j) = if 0 ≤ j.val ∧ j.val < 64 then x (ix2 l j) else 0 :=
  keep_apply 0 64 (by norm_num) (by norm_num) x l j
theorem kept1 (x : FVec Ideal S128x256 .f32) (l : Fin 128) (j : Fin 256) :
    keep (lanes 64 128) x (ix2 l j) = if 64 ≤ j.val ∧ j.val < 128 then x (ix2 l j) else 0 :=
  keep_apply 64 128 (by norm_num) (by norm_num) x l j
theorem kept2 (x : FVec Ideal S128x256 .f32) (l : Fin 128) (j : Fin 256) :
    keep (lanes 128 192) x (ix2 l j) = if 128 ≤ j.val ∧ j.val < 192 then x (ix2 l j) else 0 :=
  keep_apply 128 192 (by norm_num) (by norm_num) x l j
theorem kept3 (x : FVec Ideal S128x256 .f32) (l : Fin 128) (j : Fin 256) :
    keep (lanes 192 256) x (ix2 l j) = if 192 ≤ j.val ∧ j.val < 256 then x (ix2 l j) else 0 :=
  keep_apply 192 256 (by norm_num) (by norm_num) x l j

theorem one_of_four (x0 x1 x2 x3 : EReal) (r : Fin 4) (j : ℕ) (h1 : 64 * r.val ≤ j) (h2 : j < 64 * r.val + 64) :
    (if 0 ≤ j ∧ j < 64 then x0 else 0) + (if 64 ≤ j ∧ j < 128 then x1 else 0)
      + (if 128 ≤ j ∧ j < 192 then x2 else 0) + (if 192 ≤ j ∧ j < 256 then x3 else 0) = ![x0, x1, x2, x3] r := by
  fin_cases r <;> simp only at h1 h2 <;> split_ifs <;> first | omega | simp

/-- Of four values, one per head, each kept on its head's lanes, the sum is the head's own. -/
theorem kept_sum (x0 x1 x2 x3 : FVec Ideal S128x256 .f32) (l : Fin 128) (r : Fin 4) (p : Fin 64) :
    addf (addf (addf (keep (lanes 0 64) x0) (keep (lanes 64 128) x1)) (keep (lanes 128 192) x2)) (keep (lanes 192 256) x3)
      (ix2 l (lane r p)) = (![x0, x1, x2, x3] r) (ix2 l (lane r p)) := by
  pointwise
  rw [kept0, kept1, kept2, kept3]
  refine (one_of_four _ _ _ _ r (lane r p).val (by show 64 * r.val ≤ 64 * r.val + p.val; omega)
    (by show 64 * r.val + p.val < _; omega)).trans ?_
  fin_cases r <;> rfl

theorem expand_apply (c : FVec Ideal S128x4 .f32) (l : Fin 128) (r : Fin 4) (p : Fin 64) :
    expand c (ix2 l (lane r p)) = c (ix2 l r) := by
  unfold expand
  rw [kept_sum]
  fin_cases r <;> (dsimp only; pointwise [spread])

theorem pick_apply (s : FVec Ideal S512x256 .f32) (l : Fin 128) (r : Fin 4) (p : Fin 64) :
    pick s (ix2 l (lane r p)) = s (ix2 (srow r l) (lane r p)) := by
  unfold pick
  rw [kept_sum]
  have e : (⟨l.val, by omega⟩ : Fin 512) = srow 0 l := Fin.ext (by simp [srow])
  fin_cases r <;> (dsimp only; pointwise; try rfl)
  exact congrArg (fun k => s (ix2 k (lane 0 p))) e

/-- Of four blocks one under the other, row `l` of the one of head `r`. -/
theorem rows4 {α : Type} (r : Fin 4) (l : Fin 128) (f : Fin 4 → Fin 128 → α) :
    (if h : (srow r l).val < 128 then f 0 ⟨(srow r l).val, h⟩
      else if h : (srow r l).val - 128 < 128 then f 1 ⟨(srow r l).val - 128, h⟩
      else if h : (srow r l).val - 128 - 128 < 128 then f 2 ⟨(srow r l).val - 128 - 128, h⟩
      else f 3 ⟨(srow r l).val - 128 - 128 - 128, by omega⟩) = f r l := by
  obtain ⟨l, hl⟩ := l
  have e : (srow r ⟨l, hl⟩).val = 128 * r.val + l := rfl
  split_ifs with h1 h2 h3
  all_goals
    have hr := r.isLt
  · obtain rfl : r = 0 := by apply Fin.ext; show r.val = 0; omega
    congr 1; apply Fin.ext; show (srow 0 ⟨l, hl⟩).val = l; rw [e]; show 128 * 0 + l = l; omega
  · obtain rfl : r = 1 := by apply Fin.ext; show r.val = 1; omega
    congr 1; apply Fin.ext; show (srow 1 ⟨l, hl⟩).val - 128 = l; rw [e]; show 128 * 1 + l - 128 = l; omega
  · obtain rfl : r = 2 := by apply Fin.ext; show r.val = 2; omega
    congr 1; apply Fin.ext; show (srow 2 ⟨l, hl⟩).val - 128 - 128 = l; rw [e]; show 128 * 2 + l - 128 - 128 = l; omega
  · obtain rfl : r = 3 := by apply Fin.ext; show r.val = 3; omega
    congr 1; apply Fin.ext; show (srow 3 ⟨l, hl⟩).val - 128 - 128 - 128 = l; rw [e]; show 128 * 3 + l - 128 - 128 - 128 = l; omega

theorem downRows_apply (a : FVec Ideal S128x256 .f32) (r : Fin 4) (l : Fin 128) :
    downRows a (ix2 (srow r l) 0) = a (ix2 l (lane r 0)) := by
  pointwise [downRows]
  exact rows4 r l (fun r l => a (ix2 l (lane r 0)))

theorem alongRows_apply (a : FVec Ideal S4x128 .f32) (r : Fin 4) (l : Fin 128) (s : Fin 128) :
    alongRows a (ix2 (srow r l) s) = a (ix2 r s) := by
  pointwise [alongRows, alongRow]
  exact rows4 r l (fun r _ => a (ix2 r s))

theorem stack_apply (x : FVec Ideal S128x128 .f32) (r : Fin 4) (l : Fin 128) (s : Fin 128) :
    stack x (ix2 (srow r l) s) = x (ix2 l s) := by
  pointwise [stack]
  exact rows4 r l (fun _ l => x (ix2 l s))

theorem unstack_apply (x : FVec Ideal S512x128 .f32) (l : Fin 128) (s : Fin 128) :
    unstack x (ix2 l s) = ∑ r : Fin 4, x (ix2 (srow r l) s) := by
  rw [Fin.sum_univ_four]
  have e : (⟨l.val, by omega⟩ : Fin 512) = srow 0 l := Fin.ext (by simp [srow])
  rw [← e]
  pointwise [unstack]
  rfl

theorem under_apply (x0 x1 x2 x3 : FVec Ideal S128x256 .f32) (r : Fin 4) (l : Fin 128) (j : Fin 256) :
    concatenate S512x256 0 [⟨S128x256, x0⟩, ⟨S128x256, x1⟩, ⟨S128x256, x2⟩, ⟨S128x256, x3⟩]
      concatenates_S128x256_S128x256_S128x256_S128x256_S512x256_d0 (ix2 (srow r l) j) = (![x0, x1, x2, x3] r) (ix2 l j) := by
  pointwise
  exact rows4 r l (fun r l => (![x0, x1, x2, x3] r) (ix2 l j))

theorem keepStack_apply (x : FVec Ideal S128x256 .f32) (r : Fin 4) (l : Fin 128) (j : Fin 256) :
    keepStack x (ix2 (srow r l) j) = if 64 * r.val ≤ j.val ∧ j.val < 64 * r.val + 64 then x (ix2 l j) else 0 := by
  unfold keepStack
  rw [under_apply]
  fin_cases r
  · exact kept0 x l j
  · exact kept1 x l j
  · exact kept2 x l j
  · exact kept3 x l j

theorem neg_inf : Ideal.ofBits .f32 4286578688#32 = ⊥ := by simp [Ideal.ofBits, Ideal.ieee]

theorem srow_mod (r : Fin 4) (l : Fin 128) : (srow r l).val % 128 = l.val := by
  show (128 * r.val + l.val) % 128 = l.val
  omega

theorem lower_apply (a : FVec Ideal S128x256 .f32) (ar : FVec Ideal S4x128 .f32) (r : Fin 4) (l s : Fin 128) :
    lower a ar (ix2 (srow r l) s) = Ideal.exp (if s.val ≤ l.val then a (ix2 l (lane r 0)) - ar (ix2 r s) else ⊥) := by
  pointwise [lower, difference, rowIn_apply]
  rw [downRows_apply, alongRows_apply]
  rw [srow_mod, WordCmp.cmpi_sge_ofNat (by omega) (by omega), neg_inf]
  by_cases h : s.val ≤ l.val <;> simp [h, Scalar.select]

theorem upper_apply (a : FVec Ideal S128x256 .f32) (ar : FVec Ideal S4x128 .f32) (r : Fin 4) (l s : Fin 128) :
    upper a ar (ix2 (srow r l) s) = Ideal.exp (if l.val ≤ s.val then 0 - (a (ix2 l (lane r 0)) - ar (ix2 r s)) else ⊥) := by
  pointwise [upper, difference, rowIn_apply]
  rw [downRows_apply, alongRows_apply]
  rw [srow_mod, WordCmp.cmpi_sle_ofNat (by omega) (by omega), neg_inf]
  by_cases h : l.val ≤ s.val <;> simp [h, Scalar.select]

end Cert.SsdIdeal.Group
-- ==== Proof.SsdParts.lean ====
module

public import proofs.«01_k».proof.Proof.SsdGroup
public import proofs.«01_k».proof.Proof.Gen.SsdIdeal.Skeleton

@[expose] public section

set_option maxRecDepth 16384

noncomputable section

open Idealize.ShloMosaic Idealize.ShloMosaic.TcCoe Idealize.SL.Sem

/-! What one group of four heads stores, as functions of what the group loads, and each of them read at an index as
sums of products. -/

namespace Cert.SsdIdeal.Group

open Cert.SsdIdeal Cert.SsdIdeal.Gen

/-- Steps of the group, one lane of each head after the other. -/
def stepsOf (dt : Vec Ideal S1x128x4 .f32) : FVec Ideal S128x256 .f32 :=
  expand (shapeCast S128x4 dt shapeCasts_S1x128x4_S128x4)

/-- Running sums along the columns of a head's row. -/
def rowsOf (ar : Vec Ideal S1x4x128 .f32) : FVec Ideal S4x128 .f32 := shapeCast S4x128 ar shapeCasts_S1x4x128_S4x128

/-- The chunk's whole sum. -/
def total (a : FVec Ideal S128x256 .f32) : FVec Ideal S1x256 .f32 :=
  extractStridedSlice S1x256 ![127, 0] a slices_S128x256_o127_0_S1x256

/-- The decay from a row to the chunk's end. -/
def toEnd (a : FVec Ideal S128x256 .f32) : FVec Ideal S128x256 .f32 :=
  exp (subf (broadcastTo S128x256 (total a) broadcasts_S1x256_S128x256) a)

def narrow (b : FVec Ideal S128x128 .f32) : FVec Ideal S128x128 .bf16 := truncf .bf16 b bitsLt_bf16_f32

def wide (b : FVec Ideal S128x256 .f32) : FVec Ideal S128x256 .bf16 := truncf .bf16 b bitsLt_bf16_f32

def fromStart (dy : Vec Ideal S128x256 .f32) (a : FVec Ideal S128x256 .f32) : FVec Ideal S128x256 .bf16 :=
  wide (mulf dy (exp a))

/-- The gradient of the stepped input. -/
def dStep (b c : Vec Ideal S128x128 .f32) (acs : Vec Ideal S1x128x4 .f32) (ar : Vec Ideal S1x4x128 .f32)
    (dy : Vec Ideal S128x256 .f32) (dst : Vec Ideal S1x128x256 .f32) : FVec Ideal S128x256 .f32 :=
  addf (mulf (toEnd (stepsOf acs))
      (matmul dot_S128x128_S128x256_S128x256_1_0_0_1_n_n none (narrow b)
        (wide (shapeCast S128x256 dst shapeCasts_S1x128x256_S128x256)) (constant S128x256 .f32 0x00000000#32)))
    (pick (matmul dot_S512x128_S128x256_S512x256_1_0_0_1_n_n none
      (truncf .bf16 (mulf (stack (matmul dot_S128x128_S128x128_S128x128_1_1_0_0_n_n none (narrow b) (narrow c)
        (constant S128x128 .f32 0x00000000#32))) (upper (stepsOf acs) (rowsOf ar))) bitsLt_bf16_f32)
      (wide dy) (constant S512x256 .f32 0x00000000#32)))

/-- The gradient of the input. -/
def outDx (b c : Vec Ideal S128x128 .f32) (dt acs : Vec Ideal S1x128x4 .f32) (ar : Vec Ideal S1x4x128 .f32)
    (dy : Vec Ideal S128x256 .f32) (sk : Vec Ideal S1x256 .f32) (dst : Vec Ideal S1x128x256 .f32) : FVec Ideal S128x256 .f32 :=
  addf (mulf (dStep b c acs ar dy dst) (stepsOf dt))
    (mulf dy (broadcastTo S128x256 (shapeCast S1x256 sk shapeCasts_S1x256_S1x256) broadcasts_S1x256_S128x256))

/-- The gradient of the masked products, head by head. -/
def dLower (x : Vec Ideal S128x256 .f32) (dt acs : Vec Ideal S1x128x4 .f32) (ar : Vec Ideal S1x4x128 .f32)
    (dy : Vec Ideal S128x256 .f32) : FVec Ideal S512x128 .f32 :=
  mulf (matmul dot_S512x256_S128x256_S512x128_1_1_0_0_n_n none (truncf .bf16 (keepStack dy) bitsLt_bf16_f32)
    (wide (mulf x (stepsOf dt))) (constant S512x128 .f32 0x00000000#32)) (lower (stepsOf acs) (rowsOf ar))

/-- The same, transposed. -/
def dUpper (x : Vec Ideal S128x256 .f32) (dt acs : Vec Ideal S1x128x4 .f32) (ar : Vec Ideal S1x4x128 .f32)
    (dy : Vec Ideal S128x256 .f32) : FVec Ideal S512x128 .f32 :=
  mulf (matmul dot_S512x256_S128x256_S512x128_1_1_0_0_n_n none
    (truncf .bf16 (keepStack (mulf x (stepsOf dt))) bitsLt_bf16_f32)
    (wide dy) (constant S512x128 .f32 0x00000000#32)) (upper (stepsOf acs) (rowsOf ar))

/-- The gradient of C. -/
def outDc (x : Vec Ideal S128x256 .f32) (b : Vec Ideal S128x128 .f32) (dt acs : Vec Ideal S1x128x4 .f32)
    (ar : Vec Ideal S1x4x128 .f32) (dy : Vec Ideal S128x256 .f32) (prev : Vec Ideal S1x1x128x256 .f32) : FVec Ideal S128x128 .f32 :=
  addf (matmul dot_S128x128_S128x128_S128x128_1_0_0_1_n_n none (narrow (unstack (dLower x dt acs ar dy))) (narrow b)
      (constant S128x128 .f32 0x00000000#32))
    (matmul dot_S128x256_S128x256_S128x128_1_1_0_0_n_n none (fromStart dy (stepsOf acs))
      (wide (shapeCast S128x256 prev shapeCasts_S1x1x128x256_S128x256)) (constant S128x128 .f32 0x00000000#32))

/-- The gradient of B. -/
def outDb (x : Vec Ideal S128x256 .f32) (c : Vec Ideal S128x128 .f32) (dt acs : Vec Ideal S1x128x4 .f32)
    (ar : Vec Ideal S1x4x128 .f32) (dy : Vec Ideal S128x256 .f32) (dst : Vec Ideal S1x128x256 .f32) : FVec Ideal S128x128 .f32 :=
  addf (matmul dot_S128x128_S128x128_S128x128_1_0_0_1_n_n none (narrow (unstack (dUpper x dt acs ar dy))) (narrow c)
      (constant S128x128 .f32 0x00000000#32))
    (matmul dot_S128x256_S128x256_S128x128_1_1_0_0_n_n none (wide (mulf (mulf x (stepsOf dt)) (toEnd (stepsOf acs))))
      (wide (shapeCast S128x256 dst shapeCasts_S1x128x256_S128x256)) (constant S128x128 .f32 0x00000000#32))

/-- The gradient of the state, carried to the chunk before. -/
def outDst (c : Vec Ideal S128x128 .f32) (acs : Vec Ideal S1x128x4 .f32)
    (dy : Vec Ideal S128x256 .f32) (dst : Vec Ideal S1x128x256 .f32) : FVec Ideal S1x128x256 .f32 :=
  shapeCast S1x128x256 (addf
    (mulf (broadcastTo S128x256 (exp (total (stepsOf acs))) broadcasts_S1x256_S128x256)
      (shapeCast S128x256 dst shapeCasts_S1x128x256_S128x256))
    (matmul dot_S128x128_S128x256_S128x256_0_0_1_1_n_n none (narrow c) (fromStart dy (stepsOf acs))
      (constant S128x256 .f32 0x00000000#32))) shapeCasts_S128x256_S1x128x256

theorem steps_apply (dt : Vec Ideal S1x128x4 .f32) (l : Fin 128) (r : Fin 4) (p : Fin 64) :
    stepsOf dt (ix2 l (lane r p)) = dt (ix3 0 l r) := by
  unfold stepsOf
  rw [expand_apply]
  pointwise

theorem rows_apply (ar : Vec Ideal S1x4x128 .f32) (r : Fin 4) (l : Fin 128) : rowsOf ar (ix2 r l) = ar (ix3 0 r l) := by
  pointwise [rowsOf]

theorem total_apply (a : FVec Ideal S128x256 .f32) (j : Fin 256) : total a (ix2 0 j) = a (ix2 127 j) := by
  pointwise [total]

theorem toEnd_apply (a : FVec Ideal S128x256 .f32) (l : Fin 128) (j : Fin 256) :
    toEnd a (ix2 l j) = Ideal.exp (a (ix2 127 j) - a (ix2 l j)) := by
  pointwise [toEnd, total]

theorem dStep_apply (b c : Vec Ideal S128x128 .f32) (acs : Vec Ideal S1x128x4 .f32) (ar : Vec Ideal S1x4x128 .f32)
    (dy : Vec Ideal S128x256 .f32) (dst : Vec Ideal S1x128x256 .f32) (l : Fin 128) (r : Fin 4) (p : Fin 64) :
    dStep b c acs ar dy dst (ix2 l (lane r p))
      = Ideal.exp (acs (ix3 0 127 r) - acs (ix3 0 l r)) * (∑ n : Fin 128, b (ix2 l n) * dst (ix3 0 n (lane r p)))
        + ∑ i : Fin 128, ((∑ n : Fin 128, b (ix2 l n) * c (ix2 i n))
            * Ideal.exp (if l.val ≤ i.val then 0 - (acs (ix3 0 l r) - ar (ix3 0 r i)) else ⊥)) * dy (ix2 i (lane r p)) := by
  unfold dStep
  pointwise
  rw [pick_apply, toEnd_apply, steps_apply, steps_apply]
  pointwise [narrow, wide]
  simp only [stack_apply, upper_apply, steps_apply, rows_apply]
  pointwise

theorem sum_lanes (f : Fin 256 → EReal) : ∑ j : Fin 256, f j = ∑ r : Fin 4, ∑ p : Fin 64, f (lane r p) := by
  refine Eq.trans ?_ (Fintype.sum_prod_type (fun x : Fin 4 × Fin 64 => f (lane x.1 x.2)))
  refine (Fintype.sum_equiv (finProdFinEquiv (m := 4) (n := 64)) (fun x => f (lane x.1 x.2)) f (fun x => ?_)).symm
  refine congrArg f (Fin.ext ?_)
  show 64 * x.1.val + x.2.val = x.2.val + 64 * x.1.val
  omega

theorem sum_kept (y x : Fin 256 → EReal) (r : Fin 4) :
    ∑ j : Fin 256, (if 64 * r.val ≤ j.val ∧ j.val < 64 * r.val + 64 then y j else 0) * x j
      = ∑ p : Fin 64, y (lane r p) * x (lane r p) := by
  rw [sum_lanes, Finset.sum_eq_single r]
  · refine Finset.sum_congr rfl fun p _ => ?_
    rw [if_pos ⟨by show 64 * r.val ≤ 64 * r.val + p.val; omega, by show 64 * r.val + p.val < _; omega⟩]
  · intro q _ hq
    refine Finset.sum_eq_zero fun p _ => ?_
    rw [if_neg, zero_mul]
    rintro ⟨h1, h2⟩
    have h1' : 64 * r.val ≤ 64 * q.val + p.val := h1
    have h2' : 64 * q.val + p.val < 64 * r.val + 64 := h2
    exact hq (Fin.ext (by omega))
  · exact fun h => absurd (Finset.mem_univ r) h

theorem outDx_apply (b c : Vec Ideal S128x128 .f32) (dt acs : Vec Ideal S1x128x4 .f32) (ar : Vec Ideal S1x4x128 .f32)
    (dy : Vec Ideal S128x256 .f32) (sk : Vec Ideal S1x256 .f32) (dst : Vec Ideal S1x128x256 .f32)
    (l : Fin 128) (r : Fin 4) (p : Fin 64) :
    outDx b c dt acs ar dy sk dst (ix2 l (lane r p))
      = dStep b c acs ar dy dst (ix2 l (lane r p)) * dt (ix3 0 l r) + dy (ix2 l (lane r p)) * sk (ix2 0 (lane r p)) := by
  unfold outDx
  pointwise
  rw [steps_apply]

theorem outDst_apply (c : Vec Ideal S128x128 .f32) (acs : Vec Ideal S1x128x4 .f32)
    (dy : Vec Ideal S128x256 .f32) (dst : Vec Ideal S1x128x256 .f32) (n : Fin 128) (r : Fin 4) (p : Fin 64) :
    outDst c acs dy dst (ix3 0 n (lane r p))
      = Ideal.exp (acs (ix3 0 127 r)) * dst (ix3 0 n (lane r p))
        + ∑ l : Fin 128, c (ix2 l n) * (dy (ix2 l (lane r p)) * Ideal.exp (acs (ix3 0 l r))) := by
  unfold outDst
  pointwise [narrow, fromStart, wide, total]
  simp only [steps_apply]

theorem dLower_apply (x : Vec Ideal S128x256 .f32) (dt acs : Vec Ideal S1x128x4 .f32) (ar : Vec Ideal S1x4x128 .f32)
    (dy : Vec Ideal S128x256 .f32) (r : Fin 4) (l s : Fin 128) :
    dLower x dt acs ar dy (ix2 (srow r l) s)
      = (∑ p : Fin 64, dy (ix2 l (lane r p)) * (x (ix2 s (lane r p)) * dt (ix3 0 s r)))
        * Ideal.exp (if s.val ≤ l.val then acs (ix3 0 l r) - ar (ix3 0 r s) else ⊥) := by
  unfold dLower
  pointwise [wide]
  rw [lower_apply, steps_apply, rows_apply]
  refine congrArg (· * _) ?_
  simp only [keepStack_apply]
  refine (sum_kept _ _ r).trans ?_
  simp only [steps_apply]

theorem dUpper_apply (x : Vec Ideal S128x256 .f32) (dt acs : Vec Ideal S1x128x4 .f32) (ar : Vec Ideal S1x4x128 .f32)
    (dy : Vec Ideal S128x256 .f32) (r : Fin 4) (l s : Fin 128) :
    dUpper x dt acs ar dy (ix2 (srow r l) s)
      = (∑ p : Fin 64, (x (ix2 l (lane r p)) * dt (ix3 0 l r)) * dy (ix2 s (lane r p)))
        * Ideal.exp (if l.val ≤ s.val then 0 - (acs (ix3 0 l r) - ar (ix3 0 r s)) else ⊥) := by
  unfold dUpper
  pointwise [wide]
  rw [upper_apply, steps_apply, rows_apply]
  refine congrArg (· * _) ?_
  simp only [keepStack_apply]
  refine (sum_kept _ _ r).trans ?_
  pointwise
  simp only [steps_apply]

theorem outDc_apply (x : Vec Ideal S128x256 .f32) (b : Vec Ideal S128x128 .f32) (dt acs : Vec Ideal S1x128x4 .f32)
    (ar : Vec Ideal S1x4x128 .f32) (dy : Vec Ideal S128x256 .f32) (prev : Vec Ideal S1x1x128x256 .f32) (l n : Fin 128) :
    outDc x b dt acs ar dy prev (ix2 l n)
      = (∑ s : Fin 128, (∑ r : Fin 4, dLower x dt acs ar dy (ix2 (srow r l) s)) * b (ix2 s n))
        + ∑ r : Fin 4, ∑ p : Fin 64, (dy (ix2 l (lane r p)) * Ideal.exp (acs (ix3 0 l r))) * prev (ix4 0 0 n (lane r p)) := by
  unfold outDc
  pointwise [narrow, fromStart, wide]
  simp only [unstack_apply, sum_lanes, steps_apply]

theorem outDb_apply (x : Vec Ideal S128x256 .f32) (c : Vec Ideal S128x128 .f32) (dt acs : Vec Ideal S1x128x4 .f32)
    (ar : Vec Ideal S1x4x128 .f32) (dy : Vec Ideal S128x256 .f32) (dst : Vec Ideal S1x128x256 .f32) (l n : Fin 128) :
    outDb x c dt acs ar dy dst (ix2 l n)
      = (∑ s : Fin 128, (∑ r : Fin 4, dUpper x dt acs ar dy (ix2 (srow r l) s)) * c (ix2 s n))
        + ∑ r : Fin 4, ∑ p : Fin 64, ((x (ix2 l (lane r p)) * dt (ix3 0 l r))
            * Ideal.exp (acs (ix3 0 127 r) - acs (ix3 0 l r))) * dst (ix3 0 n (lane r p)) := by
  unfold outDb
  pointwise [narrow, wide]
  simp only [unstack_apply, sum_lanes, toEnd_apply, steps_apply]

end Cert.SsdIdeal.Group
-- ==== Proof.SsdStep.lean ====
module

public import proofs.«01_k».proof.Proof.SsdParts
public import proofs.«01_k».proof.Proof.Gen.SsdIdeal.Frame
public import Idealize.ShloMosaic.Lib.Pipeline.ReadBack

@[expose] public section

set_option maxRecDepth 16384

noncomputable section

open Idealize.ShloMosaic Idealize.ShloMosaic.TcCoe Idealize.ShloMosaic.Tactic Idealize.SL.Sem

namespace Cert.SsdIdeal.Group

open Cert.SsdIdeal Cert.SsdIdeal.Gen

def ldw (k : Fin 8) (x : Vec Ideal S128x2048 .f32) : Vec Ideal S128x256 .f32 :=
  View.ld x (Rect.unit (s := S128x2048) ![0, 256 * k.val] ![128, 256] (by have := k.isLt; intro a; match a with | ⟨0, _⟩ => (show 0 + 128 ≤ 128; omega) | ⟨1, _⟩ => (show 256 * k.val + 256 ≤ 2048; omega)))
def ldn (k : Fin 8) (x : Vec Ideal S128x1024 .f32) : Vec Ideal S128x128 .f32 :=
  View.ld x (Rect.unit (s := S128x1024) ![0, 128 * k.val] ![128, 128] (by have := k.isLt; intro a; match a with | ⟨0, _⟩ => (show 0 + 128 ≤ 128; omega) | ⟨1, _⟩ => (show 128 * k.val + 128 ≤ 1024; omega)))
def ldh (k : Fin 8) (x : Vec Ideal S8x128x4 .f32) : Vec Ideal S1x128x4 .f32 :=
  View.ld x (Rect.unit (s := S8x128x4) ![k.val, 0, 0] ![1, 128, 4] (by have := k.isLt; intro a; match a with | ⟨0, _⟩ => (show k.val + 1 ≤ 8; omega) | ⟨1, _⟩ => (show 0 + 128 ≤ 128; omega) | ⟨2, _⟩ => (show 0 + 4 ≤ 4; omega)))
def ldr (k : Fin 8) (x : Vec Ideal S8x4x128 .f32) : Vec Ideal S1x4x128 .f32 :=
  View.ld x (Rect.unit (s := S8x4x128) ![k.val, 0, 0] ![1, 4, 128] (by have := k.isLt; intro a; match a with | ⟨0, _⟩ => (show k.val + 1 ≤ 8; omega) | ⟨1, _⟩ => (show 0 + 4 ≤ 4; omega) | ⟨2, _⟩ => (show 0 + 128 ≤ 128; omega)))
def ldv (k : Fin 8) (x : Vec Ideal S1x2048 .f32) : Vec Ideal S1x256 .f32 :=
  View.ld x (Rect.unit (s := S1x2048) ![0, 256 * k.val] ![1, 256] (by have := k.isLt; intro a; match a with | ⟨0, _⟩ => (show 0 + 1 ≤ 1; omega) | ⟨1, _⟩ => (show 256 * k.val + 256 ≤ 2048; omega)))
def lds (k : Fin 8) (x : Vec Ideal S8x128x256 .f32) : Vec Ideal S1x128x256 .f32 :=
  View.ld x (Rect.unit (s := S8x128x256) ![k.val, 0, 0] ![1, 128, 256] (by have := k.isLt; intro a; match a with | ⟨0, _⟩ => (show k.val + 1 ≤ 8; omega) | ⟨1, _⟩ => (show 0 + 128 ≤ 128; omega) | ⟨2, _⟩ => (show 0 + 256 ≤ 256; omega)))
def ldp (k : Fin 8) (x : Vec Ideal S1x8x128x256 .f32) : Vec Ideal S1x1x128x256 .f32 :=
  View.ld x (Rect.unit (s := S1x8x128x256) ![0, k.val, 0, 0] ![1, 1, 128, 256] (by have := k.isLt; intro a; match a with | ⟨0, _⟩ => (show 0 + 1 ≤ 1; omega) | ⟨1, _⟩ => (show k.val + 1 ≤ 8; omega) | ⟨2, _⟩ => (show 0 + 128 ≤ 128; omega) | ⟨3, _⟩ => (show 0 + 256 ≤ 256; omega)))

/-- An 8 × 256 wide block put together from its eight groups of 256 columns. -/
def wideOf (o : Fin 8 → Vec Ideal S128x256 .f32) : Vec Ideal S128x2048 .f32 :=
  fun j => o ⟨(j 1).val / 256, Nat.div_lt_of_lt_mul (j 1).isLt⟩ (ix2 (j 0) ⟨(j 1).val % 256, Nat.mod_lt _ (by decide)⟩)

/-- The same for eight groups of 128 columns. -/
def narrowOf (o : Fin 8 → Vec Ideal S128x128 .f32) : Vec Ideal S128x1024 .f32 :=
  fun j => o ⟨(j 1).val / 128, Nat.div_lt_of_lt_mul (j 1).isLt⟩ (ix2 (j 0) ⟨(j 1).val % 128, Nat.mod_lt _ (by decide)⟩)

/-- The same for eight leading entries. -/
def slotsOf (o : Fin 8 → Vec Ideal S1x128x256 .f32) : Vec Ideal S8x128x256 .f32 :=
  fun j => o (j 0) (ix3 0 (j 1) (j 2))

theorem wideOf_at (o : Fin 8 → Vec Ideal S128x256 .f32) (k : Fin 8) (x : S128x256.Idx) (y : S128x2048.Idx)
    (h0 : (y 0).val = (x 0).val) (h1 : (y 1).val = 256 * k.val + (x 1).val) : o k x = wideOf o y := by
  have hx : (x 1).val < 256 := (x 1).isLt
  unfold wideOf
  congr 1
  · congr 1
    apply Fin.ext
    show k.val = (y 1).val / 256
    omega
  · rw [eq_ix2 x]
    congr 1
    · exact Fin.ext h0.symm
    · apply Fin.ext
      show (x 1).val = (y 1).val % 256
      omega

theorem narrowOf_at (o : Fin 8 → Vec Ideal S128x128 .f32) (k : Fin 8) (x : S128x128.Idx) (y : S128x1024.Idx)
    (h0 : (y 0).val = (x 0).val) (h1 : (y 1).val = 128 * k.val + (x 1).val) : o k x = narrowOf o y := by
  have hx : (x 1).val < 128 := (x 1).isLt
  unfold narrowOf
  congr 1
  · congr 1
    apply Fin.ext
    show k.val = (y 1).val / 128
    omega
  · rw [eq_ix2 x]
    congr 1
    · exact Fin.ext h0.symm
    · apply Fin.ext
      show (x 1).val = (y 1).val % 128
      omega

theorem slotsOf_at (o : Fin 8 → Vec Ideal S1x128x256 .f32) (k : Fin 8) (x : S1x128x256.Idx) (y : S8x128x256.Idx)
    (h0 : (y 0).val = k.val) (h1 : (y 1).val = (x 1).val) (h2 : (y 2).val = (x 2).val) : o k x = slotsOf o y := by
  unfold slotsOf
  congr 1
  · congr 1
    exact Fin.ext h0.symm
  · rw [eq_ix3 x]
    congr 1
    · exact Subsingleton.elim (α := Fin 1) _ _
    · exact Fin.ext h1.symm
    · exact Fin.ext h2.symm

theorem canon_nine (G : Vec Ideal S8x128x256 .f32) (w7 w6 w5 w4 w3 w2 w1 w0 : Vec Ideal S1x128x256 .f32) (z : Vec Ideal S8x128x256 .f32)
    (h7 : ∀ x : S1x128x256.Idx, w7 x = G ((Rect.unit (s := S8x128x256) ![7, 0, 0] ![1, 128, 256] inb_S8x128x256_S1x128x256_7_0_0).emb x))
    (h6 : ∀ x : S1x128x256.Idx, w6 x = G ((Rect.unit (s := S8x128x256) ![6, 0, 0] ![1, 128, 256] inb_S8x128x256_S1x128x256_6_0_0).emb x))
    (h5 : ∀ x : S1x128x256.Idx, w5 x = G ((Rect.unit (s := S8x128x256) ![5, 0, 0] ![1, 128, 256] inb_S8x128x256_S1x128x256_5_0_0).emb x))
    (h4 : ∀ x : S1x128x256.Idx, w4 x = G ((Rect.unit (s := S8x128x256) ![4, 0, 0] ![1, 128, 256] inb_S8x128x256_S1x128x256_4_0_0).emb x))
    (h3 : ∀ x : S1x128x256.Idx, w3 x = G ((Rect.unit (s := S8x128x256) ![3, 0, 0] ![1, 128, 256] inb_S8x128x256_S1x128x256_3_0_0).emb x))
    (h2 : ∀ x : S1x128x256.Idx, w2 x = G ((Rect.unit (s := S8x128x256) ![2, 0, 0] ![1, 128, 256] inb_S8x128x256_S1x128x256_2_0_0).emb x))
    (h1 : ∀ x : S1x128x256.Idx, w1 x = G ((Rect.unit (s := S8x128x256) ![1, 0, 0] ![1, 128, 256] inb_S8x128x256_S1x128x256_1_0_0).emb x))
    (h0 : ∀ x : S1x128x256.Idx, w0 x = G ((Rect.unit (s := S8x128x256) ![0, 0, 0] ![1, 128, 256] inb_S8x128x256_S1x128x256_0_0_0).emb x))
    (y : S8x128x256.Idx) :
    View.canon (Val := Elt Ideal) (s := S8x128x256) (e := .f32) [⟨Rect.unit ![7, 0, 0] ![1, 128, 256] inb_S8x128x256_S1x128x256_7_0_0, w7⟩, ⟨Rect.unit ![6, 0, 0] ![1, 128, 256] inb_S8x128x256_S1x128x256_6_0_0, w6⟩, ⟨Rect.unit ![5, 0, 0] ![1, 128, 256] inb_S8x128x256_S1x128x256_5_0_0, w5⟩, ⟨Rect.unit ![4, 0, 0] ![1, 128, 256] inb_S8x128x256_S1x128x256_4_0_0, w4⟩, ⟨Rect.unit ![3, 0, 0] ![1, 128, 256] inb_S8x128x256_S1x128x256_3_0_0, w3⟩, ⟨Rect.unit ![2, 0, 0] ![1, 128, 256] inb_S8x128x256_S1x128x256_2_0_0, w2⟩, ⟨Rect.unit ![1, 0, 0] ![1, 128, 256] inb_S8x128x256_S1x128x256_1_0_0, w1⟩, ⟨Rect.unit ![0, 0, 0] ![1, 128, 256] inb_S8x128x256_S1x128x256_0_0_0, w0⟩, ⟨Rect.unit ![0, 0, 0] ![8, 128, 256] inb_S8x128x256_S8x128x256_0_0_0, z⟩] y = G y := by
  refine View.canon_append_of_pieces (Val := Elt Ideal) (S := S8x128x256) G [⟨Rect.unit ![0, 0, 0] ![8, 128, 256] inb_S8x128x256_S8x128x256_0_0_0, z⟩] [⟨Rect.unit ![7, 0, 0] ![1, 128, 256] inb_S8x128x256_S1x128x256_7_0_0, w7⟩, ⟨Rect.unit ![6, 0, 0] ![1, 128, 256] inb_S8x128x256_S1x128x256_6_0_0, w6⟩, ⟨Rect.unit ![5, 0, 0] ![1, 128, 256] inb_S8x128x256_S1x128x256_5_0_0, w5⟩, ⟨Rect.unit ![4, 0, 0] ![1, 128, 256] inb_S8x128x256_S1x128x256_4_0_0, w4⟩, ⟨Rect.unit ![3, 0, 0] ![1, 128, 256] inb_S8x128x256_S1x128x256_3_0_0, w3⟩, ⟨Rect.unit ![2, 0, 0] ![1, 128, 256] inb_S8x128x256_S1x128x256_2_0_0, w2⟩, ⟨Rect.unit ![1, 0, 0] ![1, 128, 256] inb_S8x128x256_S1x128x256_1_0_0, w1⟩, ⟨Rect.unit ![0, 0, 0] ![1, 128, 256] inb_S8x128x256_S1x128x256_0_0_0, w0⟩] ?_ y
    (View.cover_of_tiledL (s := S8x128x256) _ S1x128x256.size (by sl_kernel_rfl) y)
  intro p hp
  simp only [List.mem_cons, List.not_mem_nil, or_false] at hp
  rcases hp with h | h | h | h | h | h | h | h <;> subst h <;> assumption

theorem origin3 : ∀ a : Fin 3, (![0, 0, 0] : Fin 3 → ℕ) a = 0 := by decide

/-- What one chunk stores for group `k`, over the blocks it reads and the state derivative carried to it. -/
def groupDx (x1 x2 : Vec Ideal S128x1024 .f32) (x3 x4 : Vec Ideal S8x128x4 .f32) (x5 : Vec Ideal S8x4x128 .f32) (x8 : Vec Ideal S128x2048 .f32)
    (x9 : Vec Ideal S1x2048 .f32) (dst : Vec Ideal S8x128x256 .f32) (k : Fin 8) : Vec Ideal S128x256 .f32 :=
  outDx (ldn k x1) (ldn k x2) (ldh k x3) (ldh k x4) (ldr k x5) (ldw k x8) (ldv k x9) (lds k dst)
def groupDb (x0 : Vec Ideal S128x2048 .f32) (x2 : Vec Ideal S128x1024 .f32) (x3 x4 : Vec Ideal S8x128x4 .f32) (x5 : Vec Ideal S8x4x128 .f32)
    (x8 : Vec Ideal S128x2048 .f32) (dst : Vec Ideal S8x128x256 .f32) (k : Fin 8) : Vec Ideal S128x128 .f32 :=
  outDb (ldw k x0) (ldn k x2) (ldh k x3) (ldh k x4) (ldr k x5) (ldw k x8) (lds k dst)
def groupDc (x0 : Vec Ideal S128x2048 .f32) (x1 : Vec Ideal S128x1024 .f32) (x3 x4 : Vec Ideal S8x128x4 .f32) (x5 : Vec Ideal S8x4x128 .f32)
    (x8 : Vec Ideal S128x2048 .f32) (x10 : Vec Ideal S1x8x128x256 .f32) (k : Fin 8) : Vec Ideal S128x128 .f32 :=
  outDc (ldw k x0) (ldn k x1) (ldh k x3) (ldh k x4) (ldr k x5) (ldw k x8) (ldp k x10)
def groupDst (x2 : Vec Ideal S128x1024 .f32) (x4 : Vec Ideal S8x128x4 .f32) (x8 : Vec Ideal S128x2048 .f32)
    (dst : Vec Ideal S8x128x256 .f32) (k : Fin 8) : Vec Ideal S1x128x256 .f32 :=
  outDst (ldn k x2) (ldh k x4) (ldw k x8) (lds k dst)

section
variable (c : Dev nD) (i : grid0.Coords) (arg2 : Memref sig .tc .vmem S128x2048 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S8x128x4 .f32) (harg5 : arg5.IsWhole) (arg6 : Memref sig .tc .vmem S8x128x4 .f32) (harg6 : arg6.IsWhole) (arg7 : Memref sig .tc .vmem S8x4x128 .f32) (harg7 : arg7.IsWhole) (arg8 : Memref sig .tc .vmem S8x128x4 .f32) (harg8 : arg8.IsWhole) (arg9 : Memref sig .tc .vmem S8x1x4 .f32) (harg9 : arg9.IsWhole) (arg10 : Memref sig .tc .vmem S128x2048 .f32) (harg10 : arg10.IsWhole) (arg11 : Memref sig .tc .vmem S1x2048 .f32) (harg11 : arg11.IsWhole) (arg12 : Memref sig .tc .vmem S1x8x128x256 .f32) (harg12 : arg12.IsWhole) (arg13 : Memref sig .tc .vmem S128x2048 .f32) (harg13 : arg13.IsWhole) (arg14 : Memref sig .tc .vmem S128x1024 .f32) (harg14 : arg14.IsWhole) (arg15 : Memref sig .tc .vmem S128x1024 .f32) (harg15 : arg15.IsWhole) (arg16 : Memref sig .tc .vmem S8x128x4 .f32) (harg16 : arg16.IsWhole) (arg17 : Memref sig .tc .vmem S8x1x4 .f32) (harg17 : arg17.IsWhole) (arg18 : Memref sig .tc .vmem S8x1x4 .f32) (harg18 : arg18.IsWhole) (arg19 : Memref sig .tc .vmem S8x128x256 .f32) (harg19 : arg19.IsWhole) (hc0 : ¬cond0_0 i)
    (x0 : Vec Ideal S128x2048 .f32) (x1 : Vec Ideal S128x1024 .f32) (x2 : Vec Ideal S128x1024 .f32) (x3 : Vec Ideal S8x128x4 .f32) (x4 : Vec Ideal S8x128x4 .f32) (x5 : Vec Ideal S8x4x128 .f32) (x6 : Vec Ideal S8x128x4 .f32) (x7 : Vec Ideal S8x1x4 .f32) (x8 : Vec Ideal S128x2048 .f32) (x9 : Vec Ideal S1x2048 .f32) (x10 : Vec Ideal S1x8x128x256 .f32) (xo15 : Vec Ideal S8x1x4 .f32) (xo16 : Vec Ideal S8x1x4 .f32) (xs0 : Vec Ideal S8x128x256 .f32)

set_option maxHeartbeats 400000 in
theorem storedDstB : sout0_B_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xo15 xo16 xs0 = slotsOf (groupDst x2 x4 x8 xs0) := by
  funext y
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xo15 xo16 xs0)]
  apply View.canon_apply_of_pieces _ _ _ y (scover0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xo15 xo16 xs0 y)
  unfold kernelRun0_B
  dsimp only
  sl_unfold_words
  simp +decide only [View.readAt_eq_ld, Memref.IsWhole.read_unread, ↓View.readCov_skip, ↓View.readCov_fill, origin3]
  intro p hp
  simp only [List.mem_cons, List.not_mem_nil, or_false] at hp
  rcases hp with h | h | h | h | h | h | h | h <;> subst h <;> intro x
  · exact slotsOf_at (groupDst x2 x4 x8 xs0) 7 x _ (by have h : (x 0).val < 1 := (x 0).isLt; show 7 + 1 * (x 0).val = 7; omega) (by show 0 + 1 * (x 1).val = (x 1).val; omega) (by show 0 + 1 * (x 2).val = (x 2).val; omega)
  · exact slotsOf_at (groupDst x2 x4 x8 xs0) 6 x _ (by have h : (x 0).val < 1 := (x 0).isLt; show 6 + 1 * (x 0).val = 6; omega) (by show 0 + 1 * (x 1).val = (x 1).val; omega) (by show 0 + 1 * (x 2).val = (x 2).val; omega)
  · exact slotsOf_at (groupDst x2 x4 x8 xs0) 5 x _ (by have h : (x 0).val < 1 := (x 0).isLt; show 5 + 1 * (x 0).val = 5; omega) (by show 0 + 1 * (x 1).val = (x 1).val; omega) (by show 0 + 1 * (x 2).val = (x 2).val; omega)
  · exact slotsOf_at (groupDst x2 x4 x8 xs0) 4 x _ (by have h : (x 0).val < 1 := (x 0).isLt; show 4 + 1 * (x 0).val = 4; omega) (by show 0 + 1 * (x 1).val = (x 1).val; omega) (by show 0 + 1 * (x 2).val = (x 2).val; omega)
  · exact slotsOf_at (groupDst x2 x4 x8 xs0) 3 x _ (by have h : (x 0).val < 1 := (x 0).isLt; show 3 + 1 * (x 0).val = 3; omega) (by show 0 + 1 * (x 1).val = (x 1).val; omega) (by show 0 + 1 * (x 2).val = (x 2).val; omega)
  · exact slotsOf_at (groupDst x2 x4 x8 xs0) 2 x _ (by have h : (x 0).val < 1 := (x 0).isLt; show 2 + 1 * (x 0).val = 2; omega) (by show 0 + 1 * (x 1).val = (x 1).val; omega) (by show 0 + 1 * (x 2).val = (x 2).val; omega)
  · exact slotsOf_at (groupDst x2 x4 x8 xs0) 1 x _ (by have h : (x 0).val < 1 := (x 0).isLt; show 1 + 1 * (x 0).val = 1; omega) (by show 0 + 1 * (x 1).val = (x 1).val; omega) (by show 0 + 1 * (x 2).val = (x 2).val; omega)
  · exact slotsOf_at (groupDst x2 x4 x8 xs0) 0 x _ (by have h : (x 0).val < 1 := (x 0).isLt; show 0 + 1 * (x 0).val = 0; omega) (by show 0 + 1 * (x 1).val = (x 1).val; omega) (by show 0 + 1 * (x 2).val = (x 2).val; omega)

set_option maxHeartbeats 400000 in
theorem storedDxB : out0_B_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xo15 xo16 xs0 = wideOf (groupDx x1 x2 x3 x4 x5 x8 x9 xs0) := by
  funext y
  unfold out0_B_11
  rw [View.read_writes_eq_canon _ _ _ (cover0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xo15 xo16 xs0)]
  apply View.canon_apply_of_pieces _ _ _ y (cover0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xo15 xo16 xs0 y)
  unfold kernelRun0_B
  dsimp only
  sl_unfold_words
  simp +decide only [View.readAt_eq_ld, Memref.IsWhole.read_unread, ↓View.readCov_skip, ↓View.readCov_fill, origin3]
  intro p hp
  simp only [List.mem_cons, List.not_mem_nil, or_false] at hp
  rcases hp with h | h | h | h | h | h | h | h <;> subst h <;> intro x
  · exact wideOf_at (groupDx x1 x2 x3 x4 x5 x8 x9 xs0) 7 x _ (by show 0 + 1 * (x 0).val = (x 0).val; omega) (by show 1792 + 1 * (x 1).val = 256 * 7 + (x 1).val; omega)
  · exact wideOf_at (groupDx x1 x2 x3 x4 x5 x8 x9 xs0) 6 x _ (by show 0 + 1 * (x 0).val = (x 0).val; omega) (by show 1536 + 1 * (x 1).val = 256 * 6 + (x 1).val; omega)
  · exact wideOf_at (groupDx x1 x2 x3 x4 x5 x8 x9 xs0) 5 x _ (by show 0 + 1 * (x 0).val = (x 0).val; omega) (by show 1280 + 1 * (x 1).val = 256 * 5 + (x 1).val; omega)
  · exact wideOf_at (groupDx x1 x2 x3 x4 x5 x8 x9 xs0) 4 x _ (by show 0 + 1 * (x 0).val = (x 0).val; omega) (by show 1024 + 1 * (x 1).val = 256 * 4 + (x 1).val; omega)
  · exact wideOf_at (groupDx x1 x2 x3 x4 x5 x8 x9 xs0) 3 x _ (by show 0 + 1 * (x 0).val = (x 0).val; omega) (by show 768 + 1 * (x 1).val = 256 * 3 + (x 1).val; omega)
  · exact wideOf_at (groupDx x1 x2 x3 x4 x5 x8 x9 xs0) 2 x _ (by show 0 + 1 * (x 0).val = (x 0).val; omega) (by show 512 + 1 * (x 1).val = 256 * 2 + (x 1).val; omega)
  · exact wideOf_at (groupDx x1 x2 x3 x4 x5 x8 x9 xs0) 1 x _ (by show 0 + 1 * (x 0).val = (x 0).val; omega) (by show 256 + 1 * (x 1).val = 256 * 1 + (x 1).val; omega)
  · exact wideOf_at (groupDx x1 x2 x3 x4 x5 x8 x9 xs0) 0 x _ (by show 0 + 1 * (x 0).val = (x 0).val; omega) (by show 0 + 1 * (x 1).val = 256 * 0 + (x 1).val; omega)

set_option maxHeartbeats 400000 in
theorem storedDbB : out0_B_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xo15 xo16 xs0 = narrowOf (groupDb x0 x2 x3 x4 x5 x8 xs0) := by
  funext y
  unfold out0_B_12
  rw [View.read_writes_eq_canon _ _ _ (cover0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xo15 xo16 xs0)]
  apply View.canon_apply_of_pieces _ _ _ y (cover0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xo15 xo16 xs0 y)
  unfold kernelRun0_B
  dsimp only
  sl_unfold_words
  simp +decide only [View.readAt_eq_ld, Memref.IsWhole.read_unread, ↓View.readCov_skip, ↓View.readCov_fill, origin3]
  intro p hp
  simp only [List.mem_cons, List.not_mem_nil, or_false] at hp
  rcases hp with h | h | h | h | h | h | h | h <;> subst h <;> intro x
  · exact narrowOf_at (groupDb x0 x2 x3 x4 x5 x8 xs0) 7 x _ (by show 0 + 1 * (x 0).val = (x 0).val; omega) (by show 896 + 1 * (x 1).val = 128 * 7 + (x 1).val; omega)
  · exact narrowOf_at (groupDb x0 x2 x3 x4 x5 x8 xs0) 6 x _ (by show 0 + 1 * (x 0).val = (x 0).val; omega) (by show 768 + 1 * (x 1).val = 128 * 6 + (x 1).val; omega)
  · exact narrowOf_at (groupDb x0 x2 x3 x4 x5 x8 xs0) 5 x _ (by show 0 + 1 * (x 0).val = (x 0).val; omega) (by show 640 + 1 * (x 1).val = 128 * 5 + (x 1).val; omega)
  · exact narrowOf_at (groupDb x0 x2 x3 x4 x5 x8 xs0) 4 x _ (by show 0 + 1 * (x 0).val = (x 0).val; omega) (by show 512 + 1 * (x 1).val = 128 * 4 + (x 1).val; omega)
  · exact narrowOf_at (groupDb x0 x2 x3 x4 x5 x8 xs0) 3 x _ (by show 0 + 1 * (x 0).val = (x 0).val; omega) (by show 384 + 1 * (x 1).val = 128 * 3 + (x 1).val; omega)
  · exact narrowOf_at (groupDb x0 x2 x3 x4 x5 x8 xs0) 2 x _ (by show 0 + 1 * (x 0).val = (x 0).val; omega) (by show 256 + 1 * (x 1).val = 128 * 2 + (x 1).val; omega)
  · exact narrowOf_at (groupDb x0 x2 x3 x4 x5 x8 xs0) 1 x _ (by show 0 + 1 * (x 0).val = (x 0).val; omega) (by show 128 + 1 * (x 1).val = 128 * 1 + (x 1).val; omega)
  · exact narrowOf_at (groupDb x0 x2 x3 x4 x5 x8 xs0) 0 x _ (by show 0 + 1 * (x 0).val = (x 0).val; omega) (by show 0 + 1 * (x 1).val = 128 * 0 + (x 1).val; omega)

set_option maxHeartbeats 400000 in
theorem storedDcB : out0_B_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xo15 xo16 xs0 = narrowOf (groupDc x0 x1 x3 x4 x5 x8 x10) := by
  funext y
  unfold out0_B_13
  rw [View.read_writes_eq_canon _ _ _ (cover0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xo15 xo16 xs0)]
  apply View.canon_apply_of_pieces _ _ _ y (cover0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xo15 xo16 xs0 y)
  unfold kernelRun0_B
  dsimp only
  sl_unfold_words
  simp +decide only [View.readAt_eq_ld, Memref.IsWhole.read_unread, ↓View.readCov_skip, ↓View.readCov_fill, origin3]
  intro p hp
  simp only [List.mem_cons, List.not_mem_nil, or_false] at hp
  rcases hp with h | h | h | h | h | h | h | h <;> subst h <;> intro x
  · exact narrowOf_at (groupDc x0 x1 x3 x4 x5 x8 x10) 7 x _ (by show 0 + 1 * (x 0).val = (x 0).val; omega) (by show 896 + 1 * (x 1).val = 128 * 7 + (x 1).val; omega)
  · exact narrowOf_at (groupDc x0 x1 x3 x4 x5 x8 x10) 6 x _ (by show 0 + 1 * (x 0).val = (x 0).val; omega) (by show 768 + 1 * (x 1).val = 128 * 6 + (x 1).val; omega)
  · exact narrowOf_at (groupDc x0 x1 x3 x4 x5 x8 x10) 5 x _ (by show 0 + 1 * (x 0).val = (x 0).val; omega) (by show 640 + 1 * (x 1).val = 128 * 5 + (x 1).val; omega)
  · exact narrowOf_at (groupDc x0 x1 x3 x4 x5 x8 x10) 4 x _ (by show 0 + 1 * (x 0).val = (x 0).val; omega) (by show 512 + 1 * (x 1).val = 128 * 4 + (x 1).val; omega)
  · exact narrowOf_at (groupDc x0 x1 x3 x4 x5 x8 x10) 3 x _ (by show 0 + 1 * (x 0).val = (x 0).val; omega) (by show 384 + 1 * (x 1).val = 128 * 3 + (x 1).val; omega)
  · exact narrowOf_at (groupDc x0 x1 x3 x4 x5 x8 x10) 2 x _ (by show 0 + 1 * (x 0).val = (x 0).val; omega) (by show 256 + 1 * (x 1).val = 128 * 2 + (x 1).val; omega)
  · exact narrowOf_at (groupDc x0 x1 x3 x4 x5 x8 x10) 1 x _ (by show 0 + 1 * (x 0).val = (x 0).val; omega) (by show 128 + 1 * (x 1).val = 128 * 1 + (x 1).val; omega)
  · exact narrowOf_at (groupDc x0 x1 x3 x4 x5 x8 x10) 0 x _ (by show 0 + 1 * (x 0).val = (x 0).val; omega) (by show 0 + 1 * (x 1).val = 128 * 0 + (x 1).val; omega)
end
section
variable (c : Dev nD) (i : grid0.Coords) (arg2 : Memref sig .tc .vmem S128x2048 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S8x128x4 .f32) (harg5 : arg5.IsWhole) (arg6 : Memref sig .tc .vmem S8x128x4 .f32) (harg6 : arg6.IsWhole) (arg7 : Memref sig .tc .vmem S8x4x128 .f32) (harg7 : arg7.IsWhole) (arg8 : Memref sig .tc .vmem S8x128x4 .f32) (harg8 : arg8.IsWhole) (arg9 : Memref sig .tc .vmem S8x1x4 .f32) (harg9 : arg9.IsWhole) (arg10 : Memref sig .tc .vmem S128x2048 .f32) (harg10 : arg10.IsWhole) (arg11 : Memref sig .tc .vmem S1x2048 .f32) (harg11 : arg11.IsWhole) (arg12 : Memref sig .tc .vmem S1x8x128x256 .f32) (harg12 : arg12.IsWhole) (arg13 : Memref sig .tc .vmem S128x2048 .f32) (harg13 : arg13.IsWhole) (arg14 : Memref sig .tc .vmem S128x1024 .f32) (harg14 : arg14.IsWhole) (arg15 : Memref sig .tc .vmem S128x1024 .f32) (harg15 : arg15.IsWhole) (arg16 : Memref sig .tc .vmem S8x128x4 .f32) (harg16 : arg16.IsWhole) (arg17 : Memref sig .tc .vmem S8x1x4 .f32) (harg17 : arg17.IsWhole) (arg18 : Memref sig .tc .vmem S8x1x4 .f32) (harg18 : arg18.IsWhole) (arg19 : Memref sig .tc .vmem S8x128x256 .f32) (harg19 : arg19.IsWhole) (hc0 : cond0_0 i)
    (x0 : Vec Ideal S128x2048 .f32) (x1 : Vec Ideal S128x1024 .f32) (x2 : Vec Ideal S128x1024 .f32) (x3 : Vec Ideal S8x128x4 .f32) (x4 : Vec Ideal S8x128x4 .f32) (x5 : Vec Ideal S8x4x128 .f32) (x6 : Vec Ideal S8x128x4 .f32) (x7 : Vec Ideal S8x1x4 .f32) (x8 : Vec Ideal S128x2048 .f32) (x9 : Vec Ideal S1x2048 .f32) (x10 : Vec Ideal S1x8x128x256 .f32)

set_option maxHeartbeats 400000 in
theorem storedDstA : sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 = slotsOf (groupDst x2 x4 x8 (k0_pay1 (F := Ideal))) := by
  funext y
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10)]
  unfold kernelRun0_A
  dsimp only
  sl_unfold_words
  simp +decide only [View.readAt_eq_ld, Memref.IsWhole.read_unread, ↓View.readCov_skip, ↓View.readCov_fill, origin3]
  apply canon_nine
  · intro x; exact slotsOf_at (groupDst x2 x4 x8 (k0_pay1 (F := Ideal))) 7 x _ (by have h : (x 0).val < 1 := (x 0).isLt; show 7 + 1 * (x 0).val = 7; omega) (by show 0 + 1 * (x 1).val = (x 1).val; omega) (by show 0 + 1 * (x 2).val = (x 2).val; omega)
  · intro x; exact slotsOf_at (groupDst x2 x4 x8 (k0_pay1 (F := Ideal))) 6 x _ (by have h : (x 0).val < 1 := (x 0).isLt; show 6 + 1 * (x 0).val = 6; omega) (by show 0 + 1 * (x 1).val = (x 1).val; omega) (by show 0 + 1 * (x 2).val = (x 2).val; omega)
  · intro x; exact slotsOf_at (groupDst x2 x4 x8 (k0_pay1 (F := Ideal))) 5 x _ (by have h : (x 0).val < 1 := (x 0).isLt; show 5 + 1 * (x 0).val = 5; omega) (by show 0 + 1 * (x 1).val = (x 1).val; omega) (by show 0 + 1 * (x 2).val = (x 2).val; omega)
  · intro x; exact slotsOf_at (groupDst x2 x4 x8 (k0_pay1 (F := Ideal))) 4 x _ (by have h : (x 0).val < 1 := (x 0).isLt; show 4 + 1 * (x 0).val = 4; omega) (by show 0 + 1 * (x 1).val = (x 1).val; omega) (by show 0 + 1 * (x 2).val = (x 2).val; omega)
  · intro x; exact slotsOf_at (groupDst x2 x4 x8 (k0_pay1 (F := Ideal))) 3 x _ (by have h : (x 0).val < 1 := (x 0).isLt; show 3 + 1 * (x 0).val = 3; omega) (by show 0 + 1 * (x 1).val = (x 1).val; omega) (by show 0 + 1 * (x 2).val = (x 2).val; omega)
  · intro x; exact slotsOf_at (groupDst x2 x4 x8 (k0_pay1 (F := Ideal))) 2 x _ (by have h : (x 0).val < 1 := (x 0).isLt; show 2 + 1 * (x 0).val = 2; omega) (by show 0 + 1 * (x 1).val = (x 1).val; omega) (by show 0 + 1 * (x 2).val = (x 2).val; omega)
  · intro x; exact slotsOf_at (groupDst x2 x4 x8 (k0_pay1 (F := Ideal))) 1 x _ (by have h : (x 0).val < 1 := (x 0).isLt; show 1 + 1 * (x 0).val = 1; omega) (by show 0 + 1 * (x 1).val = (x 1).val; omega) (by show 0 + 1 * (x 2).val = (x 2).val; omega)
  · intro x; exact slotsOf_at (groupDst x2 x4 x8 (k0_pay1 (F := Ideal))) 0 x _ (by have h : (x 0).val < 1 := (x 0).isLt; show 0 + 1 * (x 0).val = 0; omega) (by show 0 + 1 * (x 1).val = (x 1).val; omega) (by show 0 + 1 * (x 2).val = (x 2).val; omega)

set_option maxHeartbeats 400000 in
theorem storedDxA : out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 = wideOf (groupDx x1 x2 x3 x4 x5 x8 x9 (k0_pay1 (F := Ideal))) := by
  funext y
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10)]
  apply View.canon_apply_of_pieces _ _ _ y (cover0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 y)
  unfold kernelRun0_A
  dsimp only
  sl_unfold_words
  simp +decide only [View.readAt_eq_ld, Memref.IsWhole.read_unread, ↓View.readCov_skip, ↓View.readCov_fill, origin3]
  intro p hp
  simp only [List.mem_cons, List.not_mem_nil, or_false] at hp
  rcases hp with h | h | h | h | h | h | h | h <;> subst h <;> intro x
  · exact wideOf_at (groupDx x1 x2 x3 x4 x5 x8 x9 (k0_pay1 (F := Ideal))) 7 x _ (by show 0 + 1 * (x 0).val = (x 0).val; omega) (by show 1792 + 1 * (x 1).val = 256 * 7 + (x 1).val; omega)
  · exact wideOf_at (groupDx x1 x2 x3 x4 x5 x8 x9 (k0_pay1 (F := Ideal))) 6 x _ (by show 0 + 1 * (x 0).val = (x 0).val; omega) (by show 1536 + 1 * (x 1).val = 256 * 6 + (x 1).val; omega)
  · exact wideOf_at (groupDx x1 x2 x3 x4 x5 x8 x9 (k0_pay1 (F := Ideal))) 5 x _ (by show 0 + 1 * (x 0).val = (x 0).val; omega) (by show 1280 + 1 * (x 1).val = 256 * 5 + (x 1).val; omega)
  · exact wideOf_at (groupDx x1 x2 x3 x4 x5 x8 x9 (k0_pay1 (F := Ideal))) 4 x _ (by show 0 + 1 * (x 0).val = (x 0).val; omega) (by show 1024 + 1 * (x 1).val = 256 * 4 + (x 1).val; omega)
  · exact wideOf_at (groupDx x1 x2 x3 x4 x5 x8 x9 (k0_pay1 (F := Ideal))) 3 x _ (by show 0 + 1 * (x 0).val = (x 0).val; omega) (by show 768 + 1 * (x 1).val = 256 * 3 + (x 1).val; omega)
  · exact wideOf_at (groupDx x1 x2 x3 x4 x5 x8 x9 (k0_pay1 (F := Ideal))) 2 x _ (by show 0 + 1 * (x 0).val = (x 0).val; omega) (by show 512 + 1 * (x 1).val = 256 * 2 + (x 1).val; omega)
  · exact wideOf_at (groupDx x1 x2 x3 x4 x5 x8 x9 (k0_pay1 (F := Ideal))) 1 x _ (by show 0 + 1 * (x 0).val = (x 0).val; omega) (by show 256 + 1 * (x 1).val = 256 * 1 + (x 1).val; omega)
  · exact wideOf_at (groupDx x1 x2 x3 x4 x5 x8 x9 (k0_pay1 (F := Ideal))) 0 x _ (by show 0 + 1 * (x 0).val = (x 0).val; omega) (by show 0 + 1 * (x 1).val = 256 * 0 + (x 1).val; omega)

set_option maxHeartbeats 400000 in
theorem storedDbA : out0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 = narrowOf (groupDb x0 x2 x3 x4 x5 x8 (k0_pay1 (F := Ideal))) := by
  funext y
  unfold out0_A_12
  rw [View.read_writes_eq_canon _ _ _ (cover0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10)]
  apply View.canon_apply_of_pieces _ _ _ y (cover0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 y)
  unfold kernelRun0_A
  dsimp only
  sl_unfold_words
  simp +decide only [View.readAt_eq_ld, Memref.IsWhole.read_unread, ↓View.readCov_skip, ↓View.readCov_fill, origin3]
  intro p hp
  simp only [List.mem_cons, List.not_mem_nil, or_false] at hp
  rcases hp with h | h | h | h | h | h | h | h <;> subst h <;> intro x
  · exact narrowOf_at (groupDb x0 x2 x3 x4 x5 x8 (k0_pay1 (F := Ideal))) 7 x _ (by show 0 + 1 * (x 0).val = (x 0).val; omega) (by show 896 + 1 * (x 1).val = 128 * 7 + (x 1).val; omega)
  · exact narrowOf_at (groupDb x0 x2 x3 x4 x5 x8 (k0_pay1 (F := Ideal))) 6 x _ (by show 0 + 1 * (x 0).val = (x 0).val; omega) (by show 768 + 1 * (x 1).val = 128 * 6 + (x 1).val; omega)
  · exact narrowOf_at (groupDb x0 x2 x3 x4 x5 x8 (k0_pay1 (F := Ideal))) 5 x _ (by show 0 + 1 * (x 0).val = (x 0).val; omega) (by show 640 + 1 * (x 1).val = 128 * 5 + (x 1).val; omega)
  · exact narrowOf_at (groupDb x0 x2 x3 x4 x5 x8 (k0_pay1 (F := Ideal))) 4 x _ (by show 0 + 1 * (x 0).val = (x 0).val; omega) (by show 512 + 1 * (x 1).val = 128 * 4 + (x 1).val; omega)
  · exact narrowOf_at (groupDb x0 x2 x3 x4 x5 x8 (k0_pay1 (F := Ideal))) 3 x _ (by show 0 + 1 * (x 0).val = (x 0).val; omega) (by show 384 + 1 * (x 1).val = 128 * 3 + (x 1).val; omega)
  · exact narrowOf_at (groupDb x0 x2 x3 x4 x5 x8 (k0_pay1 (F := Ideal))) 2 x _ (by show 0 + 1 * (x 0).val = (x 0).val; omega) (by show 256 + 1 * (x 1).val = 128 * 2 + (x 1).val; omega)
  · exact narrowOf_at (groupDb x0 x2 x3 x4 x5 x8 (k0_pay1 (F := Ideal))) 1 x _ (by show 0 + 1 * (x 0).val = (x 0).val; omega) (by show 128 + 1 * (x 1).val = 128 * 1 + (x 1).val; omega)
  · exact narrowOf_at (groupDb x0 x2 x3 x4 x5 x8 (k0_pay1 (F := Ideal))) 0 x _ (by show 0 + 1 * (x 0).val = (x 0).val; omega) (by show 0 + 1 * (x 1).val = 128 * 0 + (x 1).val; omega)

set_option maxHeartbeats 400000 in
theorem storedDcA : out0_A_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 = narrowOf (groupDc x0 x1 x3 x4 x5 x8 x10) := by
  funext y
  unfold out0_A_13
  rw [View.read_writes_eq_canon _ _ _ (cover0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10)]
  apply View.canon_apply_of_pieces _ _ _ y (cover0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 y)
  unfold kernelRun0_A
  dsimp only
  sl_unfold_words
  simp +decide only [View.readAt_eq_ld, Memref.IsWhole.read_unread, ↓View.readCov_skip, ↓View.readCov_fill, origin3]
  intro p hp
  simp only [List.mem_cons, List.not_mem_nil, or_false] at hp
  rcases hp with h | h | h | h | h | h | h | h <;> subst h <;> intro x
  · exact narrowOf_at (groupDc x0 x1 x3 x4 x5 x8 x10) 7 x _ (by show 0 + 1 * (x 0).val = (x 0).val; omega) (by show 896 + 1 * (x 1).val = 128 * 7 + (x 1).val; omega)
  · exact narrowOf_at (groupDc x0 x1 x3 x4 x5 x8 x10) 6 x _ (by show 0 + 1 * (x 0).val = (x 0).val; omega) (by show 768 + 1 * (x 1).val = 128 * 6 + (x 1).val; omega)
  · exact narrowOf_at (groupDc x0 x1 x3 x4 x5 x8 x10) 5 x _ (by show 0 + 1 * (x 0).val = (x 0).val; omega) (by show 640 + 1 * (x 1).val = 128 * 5 + (x 1).val; omega)
  · exact narrowOf_at (groupDc x0 x1 x3 x4 x5 x8 x10) 4 x _ (by show 0 + 1 * (x 0).val = (x 0).val; omega) (by show 512 + 1 * (x 1).val = 128 * 4 + (x 1).val; omega)
  · exact narrowOf_at (groupDc x0 x1 x3 x4 x5 x8 x10) 3 x _ (by show 0 + 1 * (x 0).val = (x 0).val; omega) (by show 384 + 1 * (x 1).val = 128 * 3 + (x 1).val; omega)
  · exact narrowOf_at (groupDc x0 x1 x3 x4 x5 x8 x10) 2 x _ (by show 0 + 1 * (x 0).val = (x 0).val; omega) (by show 256 + 1 * (x 1).val = 128 * 2 + (x 1).val; omega)
  · exact narrowOf_at (groupDc x0 x1 x3 x4 x5 x8 x10) 1 x _ (by show 0 + 1 * (x 0).val = (x 0).val; omega) (by show 128 + 1 * (x 1).val = 128 * 1 + (x 1).val; omega)
  · exact narrowOf_at (groupDc x0 x1 x3 x4 x5 x8 x10) 0 x _ (by show 0 + 1 * (x 0).val = (x 0).val; omega) (by show 0 + 1 * (x 1).val = 128 * 0 + (x 1).val; omega)
end

end Cert.SsdIdeal.Group
-- ==== Proof.SsdBlocks.lean ====
module

public import proofs.«01_k».proof.Proof.SsdStep
public import proofs.«01_k».proof.Proof.Gen.SsdIdeal.Value
public import Idealize.ShloMosaic.Lib.Pointwise

@[expose] public section

set_option maxRecDepth 16384

noncomputable section

open Idealize.ShloMosaic Idealize.ShloMosaic.TcCoe Idealize.ShloMosaic.Tactic Idealize.SL.Sem

namespace Cert.SsdIdeal.Group

open Cert.SsdIdeal Cert.SsdIdeal.Gen Cert.SsdIdeal.Value

variable (m : (ℓ : Loc nD τ sig) → Buf (Elt Ideal) ℓ)

/-- The array row of place `l` in chunk `k`. -/
def tok (k : Fin 33) (l : Fin 128) : Fin 4224 := ⟨k.val * 128 + l.val, by omega⟩

/-- The chunk a grid point works on: the last chunk first. -/
def chunk (t : Fin cfg0.N) : Fin 33 := ⟨32 - t.val, by omega⟩

/-- The columns of a group: of its values, of its keys and queries, of its heads. -/
def wcol (g : Fin 8) (j : Fin 256) : Fin 2048 := ⟨256 * g.val + j.val, by omega⟩
def ncol (g : Fin 8) (n : Fin 128) : Fin 1024 := ⟨128 * g.val + n.val, by omega⟩
def head (g : Fin 8) (r : Fin 4) : Fin 32 := ⟨g.val * 4 + r.val, by omega⟩

theorem tok_div (k : Fin 33) (l : Fin 128) (h : (tok k l).val / 128 < 33) : (⟨(tok k l).val / 128, h⟩ : Fin 33) = k :=
  Fin.ext (by simp only [tok]; omega)
theorem tok_mod (k : Fin 33) (l : Fin 128) (h : (tok k l).val % 128 < 128) : (⟨(tok k l).val % 128, h⟩ : Fin 128) = l :=
  Fin.ext (by simp only [tok]; omega)
theorem wcol_div (g : Fin 8) (r : Fin 4) (p : Fin 64) (h : (wcol g (lane r p)).val / 64 < 32) :
    (⟨(wcol g (lane r p)).val / 64, h⟩ : Fin 32) = head g r :=
  Fin.ext (by simp only [wcol, lane, head]; omega)

def low (j : Fin 2048) : Fin 4096 := ⟨j.val, by omega⟩
def mid (j : Fin 1024) : Fin 4096 := ⟨2048 + j.val, by omega⟩
def high (j : Fin 1024) : Fin 4096 := ⟨3072 + j.val, by omega⟩

theorem V_main_v44 (c : Dev nD) : V m c main_v44
    = transpose S8x4224x4 [1, 0, 2] (shapeCast S4224x8x4 (m ((c : Thread nD τ).loc main_arg1)) shapeCasts_S4224x32_S4224x8x4) transposes_S4224x8x4_S8x4224x4_1_0_2 := rfl
theorem V_main_v45 (c : Dev nD) : V m c main_v45
    = transpose S8x4224x4 [1, 0, 2] (shapeCast S4224x8x4 (V m c main_v6) shapeCasts_S33x128x8x4_S4224x8x4) transposes_S4224x8x4_S8x4224x4_1_0_2 := rfl
theorem V_main_v46 (c : Dev nD) : V m c main_v46
    = transpose S8x4x4224 [1, 2, 0] (shapeCast S4224x8x4 (V m c main_v6) shapeCasts_S33x128x8x4_S4224x8x4) transposes_S4224x8x4_S8x4x4224_1_2_0 := rfl
theorem V_main_v50 (c : Dev nD) : V m c main_v50
    = shapeCast S1x2048 (shapeCast S2048 (broadcastInDim S32x64 ![0] bcast_S32_S32x64_0 (m ((c : Thread nD τ).loc main_arg3))) shapeCasts_S32x64_S2048) shapeCasts_S2048_S1x2048 := rfl

theorem dt_apply (x : Vec Ideal S4224x32 .f32) (g : Fin 8) (k : Fin 33) (l : Fin 128) (r : Fin 4) :
    transpose S8x4224x4 [1, 0, 2] (shapeCast S4224x8x4 x shapeCasts_S4224x32_S4224x8x4) transposes_S4224x8x4_S8x4224x4_1_0_2 (ix3 g (tok k l) r)
      = x (ix2 (tok k l) (head g r)) := by
  pointwise
  rfl
theorem acs_apply (x : Vec Ideal S33x128x8x4 .f32) (g : Fin 8) (k : Fin 33) (l : Fin 128) (r : Fin 4) :
    transpose S8x4224x4 [1, 0, 2] (shapeCast S4224x8x4 x shapeCasts_S33x128x8x4_S4224x8x4) transposes_S4224x8x4_S8x4224x4_1_0_2 (ix3 g (tok k l) r)
      = x (ix4 k l g r) := by
  pointwise
  rw [tok_div, tok_mod]
theorem acsr_apply (x : Vec Ideal S33x128x8x4 .f32) (g : Fin 8) (k : Fin 33) (l : Fin 128) (r : Fin 4) :
    transpose S8x4x4224 [1, 2, 0] (shapeCast S4224x8x4 x shapeCasts_S33x128x8x4_S4224x8x4) transposes_S4224x8x4_S8x4x4224_1_2_0 (ix3 g r (tok k l))
      = x (ix4 k l g r) := by
  pointwise
  rw [tok_div, tok_mod]
theorem skip_apply (x : Vec Ideal S32 .f32) (g : Fin 8) (r : Fin 4) (p : Fin 64) :
    shapeCast S1x2048 (shapeCast S2048 (broadcastInDim S32x64 ![0] bcast_S32_S32x64_0 x) shapeCasts_S32x64_S2048) shapeCasts_S2048_S1x2048 (ix2 0 (wcol g (lane r p)))
      = x (ix1 (head g r)) := by
  pointwise
  rw [wcol_div]
theorem idx0 : ∀ t : Fin cfg0.N, win0_0.index t (0 : Fin 2) = 32 - t.val ∧ win0_0.index t (1 : Fin 2) = 0 :=
  (by decide +kernel : ∀ t : Fin grid0.N, _)
theorem idx1 : ∀ t : Fin cfg0.N, win0_1.index t (0 : Fin 2) = 32 - t.val ∧ win0_1.index t (1 : Fin 2) = 2 :=
  (by decide +kernel : ∀ t : Fin grid0.N, _)
theorem idx2 : ∀ t : Fin cfg0.N, win0_2.index t (0 : Fin 2) = 32 - t.val ∧ win0_2.index t (1 : Fin 2) = 3 :=
  (by decide +kernel : ∀ t : Fin grid0.N, _)
theorem idx8 : ∀ t : Fin cfg0.N, win0_8.index t (0 : Fin 2) = 32 - t.val ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx3 : ∀ t : Fin cfg0.N, win0_3.index t (0 : Fin 3) = 0 ∧ win0_3.index t (1 : Fin 3) = 32 - t.val ∧ win0_3.index t (2 : Fin 3) = 0 :=
  (by decide +kernel : ∀ t : Fin grid0.N, _)
theorem idx4 : ∀ t : Fin cfg0.N, win0_4.index t (0 : Fin 3) = 0 ∧ win0_4.index t (1 : Fin 3) = 32 - t.val ∧ win0_4.index t (2 : Fin 3) = 0 :=
  (by decide +kernel : ∀ t : Fin grid0.N, _)
theorem idx5 : ∀ t : Fin cfg0.N, win0_5.index t (0 : Fin 3) = 0 ∧ win0_5.index t (1 : Fin 3) = 0 ∧ win0_5.index t (2 : Fin 3) = 32 - t.val :=
  (by decide +kernel : ∀ t : Fin grid0.N, _)
theorem idx10 : ∀ t : Fin cfg0.N, win0_10.index t (0 : Fin 4) = 32 - t.val ∧ win0_10.index t (1 : Fin 4) = 0 ∧ win0_10.index t (2 : Fin 4) = 0 ∧ win0_10.index t (3 : Fin 4) = 0 :=
  (by decide +kernel : ∀ t : Fin grid0.N, _)
theorem idx11 : ∀ t : Fin cfg0.N, win0_11.index t (0 : Fin 2) = 32 - t.val ∧ win0_11.index t (1 : Fin 2) = 0 :=
  (by decide +kernel : ∀ t : Fin grid0.N, _)
theorem idx12 : ∀ t : Fin cfg0.N, win0_12.index t (0 : Fin 2) = 32 - t.val ∧ win0_12.index t (1 : Fin 2) = 0 :=
  (by decide +kernel : ∀ t : Fin grid0.N, _)
theorem idx13 : ∀ t : Fin cfg0.N, win0_13.index t (0 : Fin 2) = 32 - t.val ∧ win0_13.index t (1 : Fin 2) = 0 :=
  (by decide +kernel : ∀ t : Fin grid0.N, _)

theorem iblk0_apply (c : Dev nD) (t : Fin cfg0.N) (l : Fin 128) (j : Fin 2048) :
    iblk m c 0 t (ix2 l j) = m ((c : Thread nD τ).loc main_arg0) (ix2 (tok (chunk t) l) (low j)) := by
  rw [← V_main_arg0 m c]
  refine congrArg (V m c main_arg0) ?_
  obtain ⟨e0, e1⟩ := idx0 t
  funext a; apply Fin.ext
  match a with
  | ⟨0, _⟩ => show win0_0.index t (0 : Fin 2) * 128 + 1 * l.val = (32 - t.val) * 128 + l.val; omega
  | ⟨1, _⟩ => show win0_0.index t (1 : Fin 2) * 2048 + 1 * j.val = j.val; omega
theorem iblk1_apply (c : Dev nD) (t : Fin cfg0.N) (l : Fin 128) (j : Fin 1024) :
    iblk m c 1 t (ix2 l j) = m ((c : Thread nD τ).loc main_arg0) (ix2 (tok (chunk t) l) (mid j)) := by
  rw [← V_main_arg0 m c]
  refine congrArg (V m c main_arg0) ?_
  obtain ⟨e0, e1⟩ := idx1 t
  funext a; apply Fin.ext
  match a with
  | ⟨0, _⟩ => show win0_1.index t (0 : Fin 2) * 128 + 1 * l.val = (32 - t.val) * 128 + l.val; omega
  | ⟨1, _⟩ => show win0_1.index t (1 : Fin 2) * 1024 + 1 * j.val = 2048 + j.val; omega
theorem iblk2_apply (c : Dev nD) (t : Fin cfg0.N) (l : Fin 128) (j : Fin 1024) :
    iblk m c 2 t (ix2 l j) = m ((c : Thread nD τ).loc main_arg0) (ix2 (tok (chunk t) l) (high j)) := by
  rw [← V_main_arg0 m c]
  refine congrArg (V m c main_arg0) ?_
  obtain ⟨e0, e1⟩ := idx2 t
  funext a; apply Fin.ext
  match a with
  | ⟨0, _⟩ => show win0_2.index t (0 : Fin 2) * 128 + 1 * l.val = (32 - t.val) * 128 + l.val; omega
  | ⟨1, _⟩ => show win0_2.index t (1 : Fin 2) * 1024 + 1 * j.val = 3072 + j.val; omega
theorem iblk8_apply (c : Dev nD) (t : Fin cfg0.N) (l : Fin 128) (j : Fin 2048) :
    iblk m c 8 t (ix2 l j) = m ((c : Thread nD τ).loc main_arg4) (ix2 (tok (chunk t) l) j) := by
  rw [← V_main_arg4 m c]
  refine congrArg (V m c main_arg4) ?_
  obtain ⟨e0, e1⟩ := idx8 t
  funext a; apply Fin.ext
  match a with
  | ⟨0, _⟩ => show win0_8.index t (0 : Fin 2) * 128 + 1 * l.val = (32 - t.val) * 128 + l.val; omega
  | ⟨1, _⟩ => show win0_8.index t (1 : Fin 2) * 2048 + 1 * j.val = j.val; omega
theorem iblk9_apply (c : Dev nD) (t : Fin cfg0.N) (g : Fin 8) (r : Fin 4) (p : Fin 64) :
    iblk m c 9 t (ix2 0 (wcol g (lane r p))) = m ((c : Thread nD τ).loc main_arg3) (ix1 (head g r)) := by
  have h : iblk m c 9 t (ix2 0 (wcol g (lane r p))) = V m c main_v50 (ix2 0 (wcol g (lane r p))) := by
    refine congrArg (V m c main_v50) ?_
    obtain ⟨e0, e1⟩ := idx9 t
    funext a; apply Fin.ext
    match a with
    | ⟨0, _⟩ => show win0_9.index t (0 : Fin 2) * 1 + 1 * 0 = 0; omega
    | ⟨1, _⟩ => show win0_9.index t (1 : Fin 2) * 2048 + 1 * (wcol g (lane r p)).val = (wcol g (lane r p)).val; omega
  rw [h, V_main_v50]
  exact skip_apply _ _ _ _
theorem iblk3_apply (c : Dev nD) (t : Fin cfg0.N) (g : Fin 8) (l : Fin 128) (r : Fin 4) :
    iblk m c 3 t (ix3 g l r) = m ((c : Thread nD τ).loc main_arg1) (ix2 (tok (chunk t) l) (head g r)) := by
  have h : iblk m c 3 t (ix3 g l r) = V m c main_v44 (ix3 g (tok (chunk t) l) r) := by
    refine congrArg (V m c main_v44) ?_
    obtain ⟨e0, e1, e2⟩ := idx3 t
    funext a; apply Fin.ext
    match a with
    | ⟨0, _⟩ => show win0_3.index t (0 : Fin 3) * 8 + 1 * g.val = g.val; omega
    | ⟨1, _⟩ => show win0_3.index t (1 : Fin 3) * 128 + 1 * l.val = (32 - t.val) * 128 + l.val; omega
    | ⟨2, _⟩ => show win0_3.index t (2 : Fin 3) * 4 + 1 * r.val = r.val; omega
  rw [h, V_main_v44]
  exact dt_apply _ _ _ _ _
theorem iblk4_apply (c : Dev nD) (t : Fin cfg0.N) (g : Fin 8) (l : Fin 128) (r : Fin 4) :
    iblk m c 4 t (ix3 g l r) = V m c main_v6 (ix4 (chunk t) l g r) := by
  have h : iblk m c 4 t (ix3 g l r) = V m c main_v45 (ix3 g (tok (chunk t) l) r) := by
    refine congrArg (V m c main_v45) ?_
    obtain ⟨e0, e1, e2⟩ := idx4 t
    funext a; apply Fin.ext
    match a with
    | ⟨0, _⟩ => show win0_4.index t (0 : Fin 3) * 8 + 1 * g.val = g.val; omega
    | ⟨1, _⟩ => show win0_4.index t (1 : Fin 3) * 128 + 1 * l.val = (32 - t.val) * 128 + l.val; omega
    | ⟨2, _⟩ => show win0_4.index t (2 : Fin 3) * 4 + 1 * r.val = r.val; omega
  rw [h, V_main_v45]
  exact acs_apply _ _ _ _ _
theorem iblk5_apply (c : Dev nD) (t : Fin cfg0.N) (g : Fin 8) (l : Fin 128) (r : Fin 4) :
    iblk m c 5 t (ix3 g r l) = V m c main_v6 (ix4 (chunk t) l g r) := by
  have h : iblk m c 5 t (ix3 g r l) = V m c main_v46 (ix3 g r (tok (chunk t) l)) := by
    refine congrArg (V m c main_v46) ?_
    obtain ⟨e0, e1, e2⟩ := idx5 t
    funext a; apply Fin.ext
    match a with
    | ⟨0, _⟩ => show win0_5.index t (0 : Fin 3) * 8 + 1 * g.val = g.val; omega
    | ⟨1, _⟩ => show win0_5.index t (1 : Fin 3) * 4 + 1 * r.val = r.val; omega
    | ⟨2, _⟩ => show win0_5.index t (2 : Fin 3) * 128 + 1 * l.val = (32 - t.val) * 128 + l.val; omega
  rw [h, V_main_v46]
  exact acsr_apply _ _ _ _ _
theorem iblk10_apply (c : Dev nD) (t : Fin cfg0.N) (g : Fin 8) (n : Fin 128) (j : Fin 256) :
    iblk m c 10 t (ix4 0 g n j) = V m c main_v41 (ix4 (chunk t) g n j) := by
  refine congrArg (V m c main_v41) ?_
  obtain ⟨e0, e1, e2, e3⟩ := idx10 t
  funext a; apply Fin.ext
  match a with
  | ⟨0, _⟩ => show win0_10.index t (0 : Fin 4) * 1 + 1 * 0 = 32 - t.val; omega
  | ⟨1, _⟩ => show win0_10.index t (1 : Fin 4) * 8 + 1 * g.val = g.val; omega
  | ⟨2, _⟩ => show win0_10.index t (2 : Fin 4) * 128 + 1 * n.val = n.val; omega
  | ⟨3, _⟩ => show win0_10.index t (3 : Fin 4) * 256 + 1 * j.val = j.val; omega

theorem emb11 (t : Fin cfg0.N) (l : Fin 128) (j : Fin 2048) :
    ((cfg0.win 11).blk t).view.emb (ix2 l j) = (ix2 (tok (chunk t) l) j : S4224x2048.Idx) := by
  obtain ⟨e0, e1⟩ := idx11 t
  funext a; apply Fin.ext
  match a with
  | ⟨0, _⟩ => show win0_11.index t (0 : Fin 2) * 128 + 1 * l.val = (32 - t.val) * 128 + l.val; omega
  | ⟨1, _⟩ => show win0_11.index t (1 : Fin 2) * 2048 + 1 * j.val = j.val; omega
theorem emb12 (t : Fin cfg0.N) (l : Fin 128) (j : Fin 1024) :
    ((cfg0.win 12).blk t).view.emb (ix2 l j) = (ix2 (tok (chunk t) l) j : S4224x1024.Idx) := by
  obtain ⟨e0, e1⟩ := idx12 t
  funext a; apply Fin.ext
  match a with
  | ⟨0, _⟩ => show win0_12.index t (0 : Fin 2) * 128 + 1 * l.val = (32 - t.val) * 128 + l.val; omega
  | ⟨1, _⟩ => show win0_12.index t (1 : Fin 2) * 1024 + 1 * j.val = j.val; omega
theorem emb13 (t : Fin cfg0.N) (l : Fin 128) (j : Fin 1024) :
    ((cfg0.win 13).blk t).view.emb (ix2 l j) = (ix2 (tok (chunk t) l) j : S4224x1024.Idx) := by
  obtain ⟨e0, e1⟩ := idx13 t
  funext a; apply Fin.ext
  match a with
  | ⟨0, _⟩ => show win0_13.index t (0 : Fin 2) * 128 + 1 * l.val = (32 - t.val) * 128 + l.val; omega
  | ⟨1, _⟩ => show win0_13.index t (1 : Fin 2) * 1024 + 1 * j.val = j.val; omega

end Cert.SsdIdeal.Group
-- ==== Proof.SsdKernel.lean ====
module

public import proofs.«01_k».proof.Proof.SsdBlocks
public import Idealize.ShloMosaic.Lib.Pipeline.ValueKit

@[expose] public section

set_option maxRecDepth 16384

noncomputable section

open Idealize.ShloMosaic Idealize.ShloMosaic.TcCoe Idealize.ShloMosaic.Tactic Idealize.SL.Sem

namespace Cert.SsdIdeal.Group

open Cert.SsdIdeal Cert.SsdIdeal.Gen Cert.SsdIdeal.Value

/-! The group loads at an index. -/

theorem ldw_apply (k : Fin 8) (x : Vec Ideal S128x2048 .f32) (l : Fin 128) (j : Fin 256) : ldw k x (ix2 l j) = x (ix2 l (wcol k j)) :=
  View.ld_unit_apply_of _ _ _ _ _ _ fun a => match a with
    | ⟨0, _⟩ => (by show l.val = 0 + l.val; omega)
    | ⟨1, _⟩ => (by show 256 * k.val + j.val = 256 * k.val + j.val; rfl)
theorem ldn_apply (k : Fin 8) (x : Vec Ideal S128x1024 .f32) (l : Fin 128) (j : Fin 128) : ldn k x (ix2 l j) = x (ix2 l (ncol k j)) :=
  View.ld_unit_apply_of _ _ _ _ _ _ fun a => match a with
    | ⟨0, _⟩ => (by show l.val = 0 + l.val; omega)
    | ⟨1, _⟩ => (by show 128 * k.val + j.val = 128 * k.val + j.val; rfl)
theorem ldh_apply (k : Fin 8) (x : Vec Ideal S8x128x4 .f32) (l : Fin 128) (r : Fin 4) : ldh k x (ix3 0 l r) = x (ix3 k l r) :=
  View.ld_unit_apply_of _ _ _ _ _ _ fun a => match a with
    | ⟨0, _⟩ => (by show k.val = k.val + 0; omega)
    | ⟨1, _⟩ => (by show l.val = 0 + l.val; omega)
    | ⟨2, _⟩ => (by show r.val = 0 + r.val; omega)
theorem ldr_apply (k : Fin 8) (x : Vec Ideal S8x4x128 .f32) (r : Fin 4) (l : Fin 128) : ldr k x (ix3 0 r l) = x (ix3 k r l) :=
  View.ld_unit_apply_of _ _ _ _ _ _ fun a => match a with
    | ⟨0, _⟩ => (by show k.val = k.val + 0; omega)
    | ⟨1, _⟩ => (by show r.val = 0 + r.val; omega)
    | ⟨2, _⟩ => (by show l.val = 0 + l.val; omega)
theorem ldv_apply (k : Fin 8) (x : Vec Ideal S1x2048 .f32) (j : Fin 256) : ldv k x (ix2 0 j) = x (ix2 0 (wcol k j)) :=
  View.ld_unit_apply_of _ _ _ _ _ _ fun a => match a with
    | ⟨0, _⟩ => (by show 0 = 0 + 0; rfl)
    | ⟨1, _⟩ => (by show 256 * k.val + j.val = 256 * k.val + j.val; rfl)
theorem lds_apply (k : Fin 8) (x : Vec Ideal S8x128x256 .f32) (n : Fin 128) (j : Fin 256) : lds k x (ix3 0 n j) = x (ix3 k n j) :=
  View.ld_unit_apply_of _ _ _ _ _ _ fun a => match a with
    | ⟨0, _⟩ => (by show k.val = k.val + 0; omega)
    | ⟨1, _⟩ => (by show n.val = 0 + n.val; omega)
    | ⟨2, _⟩ => (by show j.val = 0 + j.val; omega)
theorem ldp_apply (k : Fin 8) (x : Vec Ideal S1x8x128x256 .f32) (n : Fin 128) (j : Fin 256) : ldp k x (ix4 0 0 n j) = x (ix4 0 k n j) :=
  View.ld_unit_apply_of _ _ _ _ _ _ fun a => match a with
    | ⟨0, _⟩ => (by show 0 = 0 + 0; rfl)
    | ⟨1, _⟩ => (by show k.val = k.val + 0; omega)
    | ⟨2, _⟩ => (by show n.val = 0 + n.val; omega)
    | ⟨3, _⟩ => (by show j.val = 0 + j.val; omega)

theorem wideOf_apply (o : Fin 8 → Vec Ideal S128x256 .f32) (l : Fin 128) (g : Fin 8) (j : Fin 256) :
    wideOf o (ix2 l (wcol g j)) = o g (ix2 l j) :=
  (wideOf_at o g (ix2 l j) _ rfl rfl).symm
theorem narrowOf_apply (o : Fin 8 → Vec Ideal S128x128 .f32) (l : Fin 128) (g : Fin 8) (n : Fin 128) :
    narrowOf o (ix2 l (ncol g n)) = o g (ix2 l n) :=
  (narrowOf_at o g (ix2 l n) _ rfl rfl).symm
theorem slotsOf_apply (o : Fin 8 → Vec Ideal S1x128x256 .f32) (g : Fin 8) (n : Fin 128) (j : Fin 256) :
    slotsOf o (ix3 g n j) = o g (ix3 0 n j) := rfl

/-! What the kernel computes, over the arguments, the running sums `A` of the step sizes and the entering states `P`. -/

/-- The chunk reached after `t` chunks, counting from the last one. -/
def back (t : ℕ) : Fin 33 := ⟨32 - t, by omega⟩

/-- The derivative with respect to the state leaving chunk `back t`. -/
def dState (xbc : Vec Ideal S4224x4096 .f32) (A : Vec Ideal S33x128x8x4 .f32) (dy : Vec Ideal S4224x2048 .f32) :
    ℕ → Fin 8 → Fin 128 → Fin 4 → Fin 64 → EReal
  | 0, _, _, _, _ => 0
  | t + 1, g, n, r, p => Ideal.exp (A (ix4 (back t) 127 g r)) * dState xbc A dy t g n r p
      + ∑ l : Fin 128, xbc (ix2 (tok (back t) l) (high (ncol g n)))
          * (dy (ix2 (tok (back t) l) (wcol g (lane r p))) * Ideal.exp (A (ix4 (back t) l g r)))

/-- The derivative with respect to the values weighted by their step sizes. -/
def dStepAt (xbc : Vec Ideal S4224x4096 .f32) (A : Vec Ideal S33x128x8x4 .f32) (dy : Vec Ideal S4224x2048 .f32)
    (k : Fin 33) (l : Fin 128) (g : Fin 8) (r : Fin 4) (p : Fin 64) : EReal :=
  Ideal.exp (A (ix4 k 127 g r) - A (ix4 k l g r)) * (∑ n : Fin 128, xbc (ix2 (tok k l) (mid (ncol g n))) * dState xbc A dy (32 - k.val) g n r p)
    + ∑ i : Fin 128, ((∑ n : Fin 128, xbc (ix2 (tok k l) (mid (ncol g n))) * xbc (ix2 (tok k i) (high (ncol g n))))
        * Ideal.exp (if l.val ≤ i.val then 0 - (A (ix4 k l g r) - A (ix4 k i g r)) else ⊥)) * dy (ix2 (tok k i) (wcol g (lane r p)))

def dxAt (xbc : Vec Ideal S4224x4096 .f32) (dt : Vec Ideal S4224x32 .f32) (A : Vec Ideal S33x128x8x4 .f32) (sk : Vec Ideal S32 .f32)
    (dy : Vec Ideal S4224x2048 .f32) (k : Fin 33) (l : Fin 128) (g : Fin 8) (r : Fin 4) (p : Fin 64) : EReal :=
  dStepAt xbc A dy k l g r p * dt (ix2 (tok k l) (head g r)) + dy (ix2 (tok k l) (wcol g (lane r p))) * sk (ix1 (head g r))

def dbAt (xbc : Vec Ideal S4224x4096 .f32) (dt : Vec Ideal S4224x32 .f32) (A : Vec Ideal S33x128x8x4 .f32)
    (dy : Vec Ideal S4224x2048 .f32) (k : Fin 33) (l : Fin 128) (g : Fin 8) (n : Fin 128) : EReal :=
  (∑ s : Fin 128, (∑ r : Fin 4, (∑ p : Fin 64, (xbc (ix2 (tok k l) (low (wcol g (lane r p)))) * dt (ix2 (tok k l) (head g r)))
          * dy (ix2 (tok k s) (wcol g (lane r p))))
        * Ideal.exp (if l.val ≤ s.val then 0 - (A (ix4 k l g r) - A (ix4 k s g r)) else ⊥)) * xbc (ix2 (tok k s) (high (ncol g n))))
    + ∑ r : Fin 4, ∑ p : Fin 64, ((xbc (ix2 (tok k l) (low (wcol g (lane r p)))) * dt (ix2 (tok k l) (head g r)))
        * Ideal.exp (A (ix4 k 127 g r) - A (ix4 k l g r))) * dState xbc A dy (32 - k.val) g n r p

def dcAt (xbc : Vec Ideal S4224x4096 .f32) (dt : Vec Ideal S4224x32 .f32) (A : Vec Ideal S33x128x8x4 .f32)
    (dy : Vec Ideal S4224x2048 .f32) (P : Vec Ideal S33x8x128x256 .f32) (k : Fin 33) (l : Fin 128) (g : Fin 8) (n : Fin 128) : EReal :=
  (∑ s : Fin 128, (∑ r : Fin 4, (∑ p : Fin 64, dy (ix2 (tok k l) (wcol g (lane r p)))
          * (xbc (ix2 (tok k s) (low (wcol g (lane r p)))) * dt (ix2 (tok k s) (head g r))))
        * Ideal.exp (if s.val ≤ l.val then A (ix4 k l g r) - A (ix4 k s g r) else ⊥)) * xbc (ix2 (tok k s) (mid (ncol g n))))
    + ∑ r : Fin 4, ∑ p : Fin 64, (dy (ix2 (tok k l) (wcol g (lane r p))) * Ideal.exp (A (ix4 k l g r))) * P (ix4 k g n (lane r p))

/-- A row is a place in a chunk; a column is a group and a place in it. -/
def wideAt (f : Fin 33 → Fin 128 → Fin 8 → Fin 4 → Fin 64 → EReal) : Vec Ideal S4224x2048 .f32 := fun i =>
  f ⟨(i 0).val / 128, Nat.div_lt_of_lt_mul (i 0).isLt⟩ ⟨(i 0).val % 128, Nat.mod_lt _ (by decide)⟩
    ⟨(i 1).val / 256, Nat.div_lt_of_lt_mul (i 1).isLt⟩ ⟨(i 1).val / 64 % 4, Nat.mod_lt _ (by decide)⟩ ⟨(i 1).val % 64, Nat.mod_lt _ (by decide)⟩
def slimAt (f : Fin 33 → Fin 128 → Fin 8 → Fin 128 → EReal) : Vec Ideal S4224x1024 .f32 := fun i =>
  f ⟨(i 0).val / 128, Nat.div_lt_of_lt_mul (i 0).isLt⟩ ⟨(i 0).val % 128, Nat.mod_lt _ (by decide)⟩
    ⟨(i 1).val / 128, Nat.div_lt_of_lt_mul (i 1).isLt⟩ ⟨(i 1).val % 128, Nat.mod_lt _ (by decide)⟩

theorem wideAt_at (f : Fin 33 → Fin 128 → Fin 8 → Fin 4 → Fin 64 → EReal) (k : Fin 33) (l : Fin 128) (g : Fin 8) (r : Fin 4) (p : Fin 64) :
    wideAt f (ix2 (tok k l) (wcol g (lane r p))) = f k l g r p := by
  unfold wideAt
  congr 1 <;> apply Fin.ext
  · show (k.val * 128 + l.val) / 128 = k.val; omega
  · show (k.val * 128 + l.val) % 128 = l.val; omega
  · show (256 * g.val + (64 * r.val + p.val)) / 256 = g.val; omega
  · show (256 * g.val + (64 * r.val + p.val)) / 64 % 4 = r.val; omega
  · show (256 * g.val + (64 * r.val + p.val)) % 64 = p.val; omega
theorem slimAt_at (f : Fin 33 → Fin 128 → Fin 8 → Fin 128 → EReal) (k : Fin 33) (l : Fin 128) (g : Fin 8) (n : Fin 128) :
    slimAt f (ix2 (tok k l) (ncol g n)) = f k l g n := by
  unfold slimAt
  congr 1 <;> apply Fin.ext
  · show (k.val * 128 + l.val) / 128 = k.val; omega
  · show (k.val * 128 + l.val) % 128 = l.val; omega
  · show (128 * g.val + n.val) / 128 = g.val; omega
  · show (128 * g.val + n.val) % 128 = n.val; omega

theorem exists_wcol (j : Fin 2048) : ∃ (g : Fin 8) (r : Fin 4) (p : Fin 64), j = wcol g (lane r p) :=
  ⟨⟨j.val / 256, by omega⟩, ⟨j.val / 64 % 4, by omega⟩, ⟨j.val % 64, by omega⟩, Fin.ext (by
    show j.val = 256 * (j.val / 256) + (64 * (j.val / 64 % 4) + j.val % 64); omega)⟩
theorem exists_ncol (j : Fin 1024) : ∃ (g : Fin 8) (n : Fin 128), j = ncol g n :=
  ⟨⟨j.val / 128, by omega⟩, ⟨j.val % 128, by omega⟩, Fin.ext (by
    show j.val = 128 * (j.val / 128) + j.val % 128; omega)⟩
theorem exists_lane (j : Fin 256) : ∃ (r : Fin 4) (p : Fin 64), j = lane r p :=
  ⟨⟨j.val / 64, by omega⟩, ⟨j.val % 64, by omega⟩, Fin.ext (by show j.val = 64 * (j.val / 64) + j.val % 64; omega)⟩
theorem exists_tok (i : Fin 4224) : ∃ (k : Fin 33) (l : Fin 128), i = tok k l :=
  ⟨⟨i.val / 128, by omega⟩, ⟨i.val % 128, by omega⟩, Fin.ext (by show i.val = i.val / 128 * 128 + i.val % 128; omega)⟩

variable (m : (ℓ : Loc nD τ sig) → Buf (Elt Ideal) ℓ) (ρ : Dev nD → PrngReg)

/-- The state derivative a grid point starts from: zero at the first, what the point before left at the others. -/
def carried (c : Dev nD) : (n : ℕ) → n < cfg0.N → Vec Ideal S8x128x256 .f32
  | 0, _ => k0_pay1 (F := Ideal)
  | n + 1, h => (outsAt0 m c n (by omega)).2.2.2.2.2.2

set_option maxHeartbeats 1000000 in
theorem outs_A (c : Dev nD) (t : Fin cfg0.N) (h0 : t.val % 33 = 0) :
    (outsAt0 m c t.val t.isLt).1 = wideOf (groupDx (iblk m c 1 t) (iblk m c 2 t) (iblk m c 3 t) (iblk m c 4 t) (iblk m c 5 t) (iblk m c 8 t) (iblk m c 9 t) (k0_pay1 (F := Ideal)))
    ∧ (outsAt0 m c t.val t.isLt).2.1 = narrowOf (groupDb (iblk m c 0 t) (iblk m c 2 t) (iblk m c 3 t) (iblk m c 4 t) (iblk m c 5 t) (iblk m c 8 t) (k0_pay1 (F := Ideal)))
    ∧ (outsAt0 m c t.val t.isLt).2.2.1 = narrowOf (groupDc (iblk m c 0 t) (iblk m c 1 t) (iblk m c 3 t) (iblk m c 4 t) (iblk m c 5 t) (iblk m c 8 t) (iblk m c 10 t))
    ∧ (outsAt0 m c t.val t.isLt).2.2.2.2.2.2 = slotsOf (groupDst (iblk m c 2 t) (iblk m c 4 t) (iblk m c 8 t) (k0_pay1 (F := Ideal))) := by
  rw [outsAt0_A m c t h0]
  dsimp only
  refine ⟨?_, ?_, ?_, ?_⟩
  · exact storedDxA ..
  · exact storedDbA ..
  · exact storedDcA ..
  · exact storedDstA ..

set_option maxHeartbeats 1000000 in
theorem outs_B (c : Dev nD) (t : Fin cfg0.N) (h0 : ¬t.val % 33 = 0) (acc : Vec Ideal S8x128x256 .f32)
    (ha : (outsAt0 m c (t.val - 1) (Nat.lt_of_le_of_lt (Nat.sub_le _ _) t.isLt)).2.2.2.2.2.2 = acc) :
    (outsAt0 m c t.val t.isLt).1 = wideOf (groupDx (iblk m c 1 t) (iblk m c 2 t) (iblk m c 3 t) (iblk m c 4 t) (iblk m c 5 t) (iblk m c 8 t) (iblk m c 9 t) acc)
    ∧ (outsAt0 m c t.val t.isLt).2.1 = narrowOf (groupDb (iblk m c 0 t) (iblk m c 2 t) (iblk m c 3 t) (iblk m c 4 t) (iblk m c 5 t) (iblk m c 8 t) acc)
    ∧ (outsAt0 m c t.val t.isLt).2.2.1 = narrowOf (groupDc (iblk m c 0 t) (iblk m c 1 t) (iblk m c 3 t) (iblk m c 4 t) (iblk m c 5 t) (iblk m c 8 t) (iblk m c 10 t))
    ∧ (outsAt0 m c t.val t.isLt).2.2.2.2.2.2 = slotsOf (groupDst (iblk m c 2 t) (iblk m c 4 t) (iblk m c 8 t) acc) := by
  subst ha
  rw [outsAt0_B m c t h0]
  dsimp only
  refine ⟨?_, ?_, ?_, ?_⟩
  · exact storedDxB ..
  · exact storedDbB ..
  · exact storedDcB ..
  · exact storedDstB ..

theorem outs (c : Dev nD) (t : Fin cfg0.N) :
    (outsAt0 m c t.val t.isLt).1 = wideOf (groupDx (iblk m c 1 t) (iblk m c 2 t) (iblk m c 3 t) (iblk m c 4 t) (iblk m c 5 t) (iblk m c 8 t) (iblk m c 9 t) (carried m c t.val t.isLt))
    ∧ (outsAt0 m c t.val t.isLt).2.1 = narrowOf (groupDb (iblk m c 0 t) (iblk m c 2 t) (iblk m c 3 t) (iblk m c 4 t) (iblk m c 5 t) (iblk m c 8 t) (carried m c t.val t.isLt))
    ∧ (outsAt0 m c t.val t.isLt).2.2.1 = narrowOf (groupDc (iblk m c 0 t) (iblk m c 1 t) (iblk m c 3 t) (iblk m c 4 t) (iblk m c 5 t) (iblk m c 8 t) (iblk m c 10 t))
    ∧ (outsAt0 m c t.val t.isLt).2.2.2.2.2.2 = slotsOf (groupDst (iblk m c 2 t) (iblk m c 4 t) (iblk m c 8 t) (carried m c t.val t.isLt)) := by
  obtain ⟨n, hn⟩ := t
  have hN : n < 33 := hn
  cases n with
  | zero => exact outs_A m c ⟨0, hn⟩ rfl
  | succ n => exact outs_B m c ⟨n + 1, hn⟩ (by show ¬(n + 1) % 33 = 0; omega) _ rfl

abbrev Xbc (c : Dev nD) : Vec Ideal S4224x4096 .f32 := m ((c : Thread nD τ).loc main_arg0)
abbrev Steps (c : Dev nD) : Vec Ideal S4224x32 .f32 := m ((c : Thread nD τ).loc main_arg1)
abbrev Skip (c : Dev nD) : Vec Ideal S32 .f32 := m ((c : Thread nD τ).loc main_arg3)
abbrev Dy (c : Dev nD) : Vec Ideal S4224x2048 .f32 := m ((c : Thread nD τ).loc main_arg4)
abbrev Acs (c : Dev nD) : Vec Ideal S33x128x8x4 .f32 := V m c main_v6
abbrev Prev (c : Dev nD) : Vec Ideal S33x8x128x256 .f32 := V m c main_v41

theorem zero_apply (i : S8x128x256.Idx) : k0_pay1 (F := Ideal) i = 0 := by
  rw [eq_ix3 i]
  pointwise [k0_pay1]

theorem carried_apply (c : Dev nD) (n : ℕ) (h : n < cfg0.N) (g : Fin 8) (j : Fin 128) (r : Fin 4) (p : Fin 64) :
    carried m c n h (ix3 g j (lane r p)) = dState (Xbc m c) (Acs m c) (Dy m c) n g j r p := by
  induction n generalizing g j r p with
  | zero => exact zero_apply _
  | succ n ih =>
    have hn : n < cfg0.N := by omega
    show (outsAt0 m c n hn).2.2.2.2.2.2 (ix3 g j (lane r p)) = _
    rw [(outs m c ⟨n, hn⟩).2.2.2, slotsOf_apply]
    unfold groupDst
    rw [outDst_apply, dState, ldh_apply, lds_apply, ih hn, iblk4_apply]
    simp only [ldn_apply, ldw_apply, ldh_apply, iblk2_apply, iblk8_apply, iblk4_apply]
    rfl

theorem back_eq (t : Fin cfg0.N) : 32 - (chunk t).val = t.val := by
  have h : t.val < 33 := t.isLt
  show 32 - (32 - t.val) = t.val
  omega

/-! What each grid point writes back. -/

abbrev valDx (c : Dev nD) : Buf (Elt Ideal) ((c : Thread nD τ).loc main_v51_0) := wideAt (dxAt (Xbc m c) (Steps m c) (Acs m c) (Skip m c) (Dy m c))
abbrev valDb (c : Dev nD) : Buf (Elt Ideal) ((c : Thread nD τ).loc main_v51_1) := slimAt (dbAt (Xbc m c) (Steps m c) (Acs m c) (Dy m c))
abbrev valDc (c : Dev nD) : Buf (Elt Ideal) ((c : Thread nD τ).loc main_v51_2) := slimAt (dcAt (Xbc m c) (Steps m c) (Acs m c) (Dy m c) (Prev m c))

theorem flushed11_eq (c : Dev nD) (t : Fin cfg0.N) :
    (dats m 0 c).flushed 11 t = ((cfg0.win 11).blk t).view.read (Elt Ideal) (valDx m c) := by
  rw [flushed11, (outs m c t).1]
  funext i
  obtain ⟨l, j, rfl⟩ : ∃ (l : Fin 128) (j : Fin 2048), i = ix2 l j := ⟨i 0, i 1, eq_ix2 i⟩
  obtain ⟨g, r, p, rfl⟩ := exists_wcol j
  refine Eq.trans ?_ (congrArg (valDx m c) (emb11 t l _)).symm
  show wideOf _ (ix2 l (wcol g (lane r p))) = _
  rw [wideOf_apply]
  refine Eq.trans ?_ (wideAt_at _ (chunk t) l g r p).symm
  unfold groupDx dxAt dStepAt
  rw [outDx_apply, dStep_apply]
  simp only [ldn_apply, ldw_apply, ldh_apply, ldr_apply, ldv_apply, lds_apply, carried_apply, iblk1_apply, iblk2_apply, iblk3_apply, iblk4_apply, iblk5_apply,
    iblk8_apply, iblk9_apply, back_eq]

theorem flushed12_eq (c : Dev nD) (t : Fin cfg0.N) :
    (dats m 0 c).flushed 12 t = ((cfg0.win 12).blk t).view.read (Elt Ideal) (valDb m c) := by
  rw [flushed12, (outs m c t).2.1]
  funext i
  obtain ⟨l, j, rfl⟩ : ∃ (l : Fin 128) (j : Fin 1024), i = ix2 l j := ⟨i 0, i 1, eq_ix2 i⟩
  obtain ⟨g, n, rfl⟩ := exists_ncol j
  refine Eq.trans ?_ (congrArg (valDb m c) (emb12 t l _)).symm
  show narrowOf _ (ix2 l (ncol g n)) = _
  rw [narrowOf_apply]
  refine Eq.trans ?_ (slimAt_at _ (chunk t) l g n).symm
  unfold groupDb dbAt
  rw [outDb_apply]
  simp only [dUpper_apply, ldn_apply, ldw_apply, ldh_apply, ldr_apply, lds_apply, carried_apply, iblk0_apply, iblk2_apply, iblk3_apply, iblk4_apply, iblk5_apply,
    iblk8_apply, back_eq]

theorem flushed13_eq (c : Dev nD) (t : Fin cfg0.N) :
    (dats m 0 c).flushed 13 t = ((cfg0.win 13).blk t).view.read (Elt Ideal) (valDc m c) := by
  rw [flushed13, (outs m c t).2.2.1]
  funext i
  obtain ⟨l, j, rfl⟩ : ∃ (l : Fin 128) (j : Fin 1024), i = ix2 l j := ⟨i 0, i 1, eq_ix2 i⟩
  obtain ⟨g, n, rfl⟩ := exists_ncol j
  refine Eq.trans ?_ (congrArg (valDc m c) (emb13 t l _)).symm
  show narrowOf _ (ix2 l (ncol g n)) = _
  rw [narrowOf_apply]
  refine Eq.trans ?_ (slimAt_at _ (chunk t) l g n).symm
  unfold groupDc dcAt
  rw [outDc_apply]
  simp only [dLower_apply, ldn_apply, ldw_apply, ldh_apply, ldr_apply, ldp_apply, iblk0_apply, iblk1_apply, iblk3_apply, iblk4_apply, iblk5_apply,
    iblk8_apply, iblk10_apply]

/-- The point whose block holds a row. -/
def point (k : Fin 33) : Fin cfg0.N := ⟨32 - k.val, by show 32 - k.val < 33; omega⟩
theorem chunk_point (k : Fin 33) : chunk (point k) = k := Fin.ext (by show 32 - (32 - k.val) = k.val; omega)

theorem covered11 (i : S4224x2048.Idx) :
    ∃ t : Fin cfg0.N, (cfg0.win 11).flush t = true ∧ i ∈ ((cfg0.win 11).blk t).view.set := by
  obtain ⟨k, l, e⟩ := exists_tok (i 0)
  refine ⟨point k, flush0_11 _, ?_⟩
  have e' : ((cfg0.win 11).blk (point k)).view.emb (ix2 l (i 1) : S128x2048.Idx) = i :=
    (emb11 (point k) l (i 1)).trans (by rw [chunk_point, ← e]; exact (eq_ix2 i).symm)
  exact e' ▸ ((cfg0.win 11).blk (point k)).view.emb_mem_set (ix2 l (i 1) : S128x2048.Idx)

theorem covered12 (i : S4224x1024.Idx) :
    ∃ t : Fin cfg0.N, (cfg0.win 12).flush t = true ∧ i ∈ ((cfg0.win 12).blk t).view.set := by
  obtain ⟨k, l, e⟩ := exists_tok (i 0)
  refine ⟨point k, flush0_12 _, ?_⟩
  have e' : ((cfg0.win 12).blk (point k)).view.emb (ix2 l (i 1) : S128x1024.Idx) = i :=
    (emb12 (point k) l (i 1)).trans (by rw [chunk_point, ← e]; exact (eq_ix2 i).symm)
  exact e' ▸ ((cfg0.win 12).blk (point k)).view.emb_mem_set (ix2 l (i 1) : S128x1024.Idx)

theorem covered13 (i : S4224x1024.Idx) :
    ∃ t : Fin cfg0.N, (cfg0.win 13).flush t = true ∧ i ∈ ((cfg0.win 13).blk t).view.set := by
  obtain ⟨k, l, e⟩ := exists_tok (i 0)
  refine ⟨point k, flush0_13 _, ?_⟩
  have e' : ((cfg0.win 13).blk (point k)).view.emb (ix2 l (i 1) : S128x1024.Idx) = i :=
    (emb13 (point k) l (i 1)).trans (by rw [chunk_point, ← e]; exact (eq_ix2 i).symm)
  exact e' ▸ ((cfg0.win 13).blk (point k)).view.emb_mem_set (ix2 l (i 1) : S128x1024.Idx)

theorem run : θ_run defs (onTc (τ := τ) (main (F := Ideal))) ⟨m, fun _ => 0, ρ⟩ fun r => ∀ c : Dev nD,
      r.2.mem ((c : Thread nD τ).loc main_v51_0) = valDx m c
      ∧ r.2.mem ((c : Thread nD τ).loc main_v51_1) = valDb m c
      ∧ r.2.mem ((c : Thread nD τ).loc main_v51_2) = valDc m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans
      ((dats m 0 c).arrAt_eq_of_cover 11 (valDx m c) (fun t _ => flushed11_eq m c t) covered11),
    (h c).2.1.trans ((dats m 0 c).arrAt_eq_of_cover 12 (valDb m c) (fun t _ => flushed12_eq m c t) covered12),
    (h c).2.2.1.trans ((dats m 0 c).arrAt_eq_of_cover 13 (valDc m c) (fun t _ => flushed13_eq m c t) covered13),
    (h c).2.2.2.2.2.2⟩) (run_blocks m ρ)

end Cert.SsdIdeal.Group
-- ==== Proof.SsdPrev.lean ====
module

public import proofs.«01_k».proof.Proof.SsdKernel
public import Idealize.ShloMosaic.Lib.Pointwise
public import Idealize.ShloMosaic.Lib.WordCmp

@[expose] public section

set_option maxRecDepth 16384

noncomputable section

open Idealize.ShloMosaic Idealize.ShloMosaic.TcCoe Idealize.ShloMosaic.Tactic Idealize.SL.Sem

namespace Cert.SsdIdeal.Group

open Cert.SsdIdeal Cert.SsdIdeal.Gen Cert.SsdIdeal.Value

/-! The states entering the chunks, as one sum over the earlier chunks, are the recursion's. -/

def lastOf (A : Vec Ideal S33x128x8x4 .f32) : Vec Ideal S33x8x4 .f32 :=
  shapeCast S33x8x4 (extractStridedSlice S33x1x8x4 ![0, 127, 0, 0] A slices_S33x128x8x4_S33x1x8x4_0_127_0_0) shapeCasts_S33x1x8x4_S33x8x4
def uptoOf (x : Vec Ideal S33x8x4 .f32) : Vec Ideal S33x8x4 .f32 :=
  Host.reduceWindowAdd (F := Ideal) (φ := .f32) ![33, 1, 1] ![1, 1, 1] ![32, 0, 0] ![0, 0, 0] x
    (broadcastInDim S_ ![] bcast_S_S_ (constant (F := Ideal) S_ .f32 0#32)) reduceWindows_S33x8x4_S33x8x4_w33s1p32_0_w1s1p0_0_w1s1p0_0 h_S_
def beforeOf (u : Vec Ideal S33x8x4 .f32) : Vec Ideal S33x8x4 .f32 :=
  concatenate S33x8x4 0 [⟨S1x8x4, broadcastInDim S1x8x4 ![] bcast_S_S1x8x4 (constant (F := Ideal) S_ .f32 0#32)⟩,
    ⟨S32x8x4, extractStridedSlice S32x8x4 ![0, 0, 0] u slices_S33x8x4_S32x8x4_0_0_0⟩] concatenates_S1x8x4_S32x8x4_S33x8x4_d0
def earlier : IVec S33x33 1 :=
  select (cmpi .sge (addi (iotaInDim S33x33 32 0) (broadcastInDim S33x33 ![] bcast_S_S33x33 (constantI S_ 32 4294967295#32))) (iotaInDim S33x33 32 1))
    (broadcastInDim S33x33 ![] bcast_S_S33x33 (constantI S_ 1 1#1)) (broadcastInDim S33x33 ![] bcast_S_S33x33 (constantI S_ 1 0#1))
def decaysOf (u : Vec Ideal S33x8x4 .f32) : Vec Ideal S33x33x8x4 .f32 :=
  select (broadcastInDim S33x33x8x4 ![0, 1, 2, 3] bcast_S33x33x1x1_S33x33x8x4_0_1_2_3 (broadcastInDim S33x33x1x1 ![0, 1] bcast_S33x33_S33x33x1x1_0_1 earlier))
    (Host.exp (F := Ideal) (φ := .f32) (subf (F := Ideal) (φ := .f32) (broadcastInDim S33x33x8x4 ![0, 1, 2, 3] bcast_S33x1x8x4_S33x33x8x4_0_1_2_3 (broadcastInDim S33x1x8x4 ![0, 2, 3] bcast_S33x8x4_S33x1x8x4_0_2_3 (beforeOf u)))
      (broadcastInDim S33x33x8x4 ![0, 1, 2, 3] bcast_S1x33x8x4_S33x33x8x4_0_1_2_3 (broadcastInDim S1x33x8x4 ![1, 2, 3] bcast_S33x8x4_S1x33x8x4_1_2_3 u))))
    (broadcastInDim S33x33x8x4 ![] bcast_S_S33x33x8x4 (id (constant (F := Ideal) S_ .f32 0#32)))
def enteringOf (st : Vec Ideal S33x8x4x64x128 .f32) (A : Vec Ideal S33x128x8x4 .f32) : Vec Ideal S33x8x128x256 .f32 :=
  shapeCast S33x8x128x256 (transpose S33x8x128x4x64 [4, 0, 3, 1, 2] (Host.dotGeneral (F := Ideal) (φ₁ := .f32) (φ₂ := .f32) dot_S33x8x4x64x128_S33x33x8x4_S8x4x64x128x33_0_1_34_0_12_23 none st (decaysOf (uptoOf (lastOf A))))
    transposes_S8x4x64x128x33_S33x8x128x4x64_4_0_3_1_2) shapeCasts_S33x8x128x4x64_S33x8x128x256

set_option maxHeartbeats 400000

theorem last_apply (A : Vec Ideal S33x128x8x4 .f32) (k : Fin 33) (g : Fin 8) (r : Fin 4) : lastOf A (ix3 k g r) = A (ix4 k 127 g r) := by
  pointwise [lastOf]
theorem before_zero (u : Vec Ideal S33x8x4 .f32) (g : Fin 8) (r : Fin 4) : beforeOf u (ix3 0 g r) = 0 := by
  pointwise [beforeOf, Ideal.ofBits_zero_f32]
theorem before_succ (u : Vec Ideal S33x8x4 .f32) (k : Fin 32) (g : Fin 8) (r : Fin 4) : beforeOf u (ix3 k.succ g r) = u (ix3 k.castSucc g r) := by
  pointwise [beforeOf]
  rw [dif_neg (by simp)]
  rfl
theorem earlier_eq : ∀ k j : Fin 33, Scalar.select (IntOp.cmpi .sge (IntOp.addi (BitVec.ofNat 32 k.val) 4294967295#32) (BitVec.ofNat 32 j.val)) 1#1 0#1
    = if j.val < k.val then 1#1 else 0#1 := by decide +kernel
theorem decays_apply (u : Vec Ideal S33x8x4 .f32) (k j : Fin 33) (g : Fin 8) (r : Fin 4) :
    decaysOf u (ix4 k j g r) = if j.val < k.val then Ideal.exp (beforeOf u (ix3 k g r) - u (ix3 j g r)) else 0 := by
  pointwise [decaysOf, earlier, Ideal.ofBits_zero_f32]
  rw [earlier_eq]
  by_cases h : j.val < k.val <;> simp [h, Scalar.select, constant, Ideal.ofBits_zero_f32]
theorem lane_row (r : Fin 4) (p : Fin 64) (h : (lane r p).val / 64 < 4) : (⟨(lane r p).val / 64, h⟩ : Fin 4) = r :=
  Fin.ext (by simp only [lane]; omega)
theorem lane_col (r : Fin 4) (p : Fin 64) (h : (lane r p).val % 64 < 64) : (⟨(lane r p).val % 64, h⟩ : Fin 64) = p :=
  Fin.ext (by simp only [lane]; omega)
theorem entering_apply (st : Vec Ideal S33x8x4x64x128 .f32) (A : Vec Ideal S33x128x8x4 .f32) (k : Fin 33) (g : Fin 8) (n : Fin 128) (r : Fin 4) (p : Fin 64) :
    enteringOf st A (ix4 k g n (lane r p)) = ∑ j : Fin 33, st (ix5 j g r p n) * decaysOf (uptoOf (lastOf A)) (ix4 k j g r) := by
  pointwise [enteringOf]
  simp only [lane_row, lane_col]

/-- Where a place of the window lies. -/
theorem place : ∀ n : Fin (Shape.numel ⟨3, ![33, 1, 1]⟩), ((Shape.rowMajor ⟨3, ![33, 1, 1]⟩).symm n 0).val = n.val
    ∧ ((Shape.rowMajor ⟨3, ![33, 1, 1]⟩).symm n 1).val = 0 ∧ ((Shape.rowMajor ⟨3, ![33, 1, 1]⟩).symm n 2).val = 0 := by decide +kernel

theorem foldl_add {α : Type} (f : α → EReal) (L : List α) (v : EReal) : L.foldl (fun a n => a + f n) v = v + (L.map f).sum := by
  induction L generalizing v with
  | nil => simp
  | cons a L ih => rw [List.foldl_cons, ih, List.map_cons, List.sum_cons, add_assoc]

/-- The entry of a column counted from the window's end: zero before the column starts. -/
def entryOf (x : Vec Ideal S33x8x4 .f32) (g : Fin 8) (r : Fin 4) (q : ℕ) : EReal :=
  if h : 32 ≤ q ∧ q - 32 < 33 then x (ix3 ⟨q - 32, h.2⟩ g r) else 0

theorem upto_apply (x : Vec Ideal S33x8x4 .f32) (k : Fin 33) (g : Fin 8) (r : Fin 4) :
    uptoOf x (ix3 k g r) = ∑ n ∈ Finset.range 33, entryOf x g r (k.val + n) := by
  have hz : (constant (F := Ideal) S_ .f32 0#32 : Vec Ideal S_ .f32) (Shape.Idx.first h_S_) = 0 := Ideal.ofBits_zero_f32
  change Host.reduceWindow (fun a b : EReal => a + b) ![33, 1, 1] ![1, 1, 1] ![32, 0, 0] ![0, 0, 0] x
    (fun _ : (⟨0, ![]⟩ : Shape).Idx => (constant (F := Ideal) S_ .f32 0#32 : Vec Ideal S_ .f32) (Shape.Idx.first h_S_))
    reduceWindows_S33x8x4_S33x8x4_w33s1p32_0_w1s1p0_0_w1s1p0_0 (by decide) (ix3 k g r) = _
  unfold Host.reduceWindow
  dsimp only
  rw [foldl_add, hz, zero_add, ← Fin.sum_univ_def]
  refine (Finset.sum_congr rfl fun n _ => ?_).trans (Fin.sum_univ_eq_sum_range (fun n => entryOf x g r (k.val + n)) _)
  obtain ⟨e0, e1, e2⟩ := place n
  unfold entryOf
  split
  · next hin =>
    have h0 := hin 0
    change 32 ≤ k.val * 1 + ((Shape.rowMajor ⟨3, ![33, 1, 1]⟩).symm n 0).val ∧ k.val * 1 + ((Shape.rowMajor ⟨3, ![33, 1, 1]⟩).symm n 0).val - 32 < 33 at h0
    rw [e0, mul_one] at h0
    rw [dif_pos h0]
    refine congrArg x (funext fun a => Fin.ext ?_)
    match a with
    | ⟨0, _⟩ => show k.val * 1 + ((Shape.rowMajor ⟨3, ![33, 1, 1]⟩).symm n 0).val - 32 = k.val + n.val - 32; rw [e0, mul_one]
    | ⟨1, _⟩ => show g.val * 1 + ((Shape.rowMajor ⟨3, ![33, 1, 1]⟩).symm n 1).val - 0 = g.val; rw [e1]; omega
    | ⟨2, _⟩ => show r.val * 1 + ((Shape.rowMajor ⟨3, ![33, 1, 1]⟩).symm n 2).val - 0 = r.val; rw [e2]; omega
  · next hin =>
    rw [dif_neg fun h => hin fun a => by
      match a with
      | ⟨0, _⟩ =>
        show 32 ≤ k.val * 1 + ((Shape.rowMajor ⟨3, ![33, 1, 1]⟩).symm n 0).val ∧ k.val * 1 + ((Shape.rowMajor ⟨3, ![33, 1, 1]⟩).symm n 0).val - 32 < 33
        rw [e0, mul_one]; exact h
      | ⟨1, _⟩ =>
        show 0 ≤ g.val * 1 + ((Shape.rowMajor ⟨3, ![33, 1, 1]⟩).symm n 1).val ∧ g.val * 1 + ((Shape.rowMajor ⟨3, ![33, 1, 1]⟩).symm n 1).val - 0 < 8
        rw [e1]; omega
      | ⟨2, _⟩ =>
        show 0 ≤ r.val * 1 + ((Shape.rowMajor ⟨3, ![33, 1, 1]⟩).symm n 2).val ∧ r.val * 1 + ((Shape.rowMajor ⟨3, ![33, 1, 1]⟩).symm n 2).val - 0 < 4
        rw [e2]; omega]

theorem upto_zero (x : Vec Ideal S33x8x4 .f32) (g : Fin 8) (r : Fin 4) : uptoOf x (ix3 0 g r) = x (ix3 0 g r) := by
  rw [upto_apply, Finset.sum_range_succ, Finset.sum_eq_zero, zero_add]
  · rfl
  · intro n hn
    rw [Finset.mem_range] at hn
    exact dif_neg fun h => by
      have h1 := h.1
      change 32 ≤ 0 + n at h1
      omega
theorem upto_succ (x : Vec Ideal S33x8x4 .f32) (k : Fin 32) (g : Fin 8) (r : Fin 4) :
    uptoOf x (ix3 k.succ g r) = uptoOf x (ix3 k.castSucc g r) + x (ix3 k.succ g r) := by
  have hk := k.isLt
  have e : ∀ n, k.succ.val + n = k.val + (n + 1) := fun n => by simp only [Fin.val_succ]; omega
  have h0 : entryOf x g r (k.val + 0) = 0 := dif_neg fun h => by omega
  have h1 : entryOf x g r (k.val + 33) = x (ix3 k.succ g r) := by
    unfold entryOf
    rw [dif_pos (by omega)]
    exact congrArg (fun q => x (ix3 q g r)) (Fin.ext (by simp only [Fin.val_succ]; omega))
  rw [upto_apply, upto_apply, ← h1, Fin.val_castSucc, ← Finset.sum_range_succ (fun n => entryOf x g r (k.val + n)), Finset.sum_range_succ' _ 33, h0, add_zero]
  exact Finset.sum_congr rfl fun n _ => congrArg _ (e n)

/-! Real totals. -/

/-- The total of the chunks before a chunk. -/
def sumTo (a : Fin 33 → ℝ) : ℕ → ℝ
  | 0 => 0
  | k + 1 => sumTo a k + if h : k < 33 then a ⟨k, h⟩ else 0

theorem sumTo_succ (a : Fin 33 → ℝ) (k : Fin 33) : sumTo a (k.val + 1) = sumTo a k.val + a k := by
  show sumTo a k.val + (if h : k.val < 33 then a ⟨k.val, h⟩ else 0) = _
  rw [dif_pos k.isLt]

theorem upto_real (x : Vec Ideal S33x8x4 .f32) (g : Fin 8) (r : Fin 4) (a : Fin 33 → ℝ) (h : ∀ k, x (ix3 k g r) = (a k : EReal)) (k : Fin 33) :
    uptoOf x (ix3 k g r) = (sumTo a (k.val + 1) : EReal) := by
  induction k using Fin.induction with
  | zero =>
    rw [upto_zero, h, sumTo_succ]
    simp [sumTo]
  | succ k ih =>
    rw [upto_succ, ih, h, sumTo_succ a k.succ, EReal.coe_add]
    rfl
theorem before_real (x : Vec Ideal S33x8x4 .f32) (g : Fin 8) (r : Fin 4) (a : Fin 33 → ℝ) (h : ∀ k, x (ix3 k g r) = (a k : EReal)) (k : Fin 33) :
    beforeOf (uptoOf x) (ix3 k g r) = (sumTo a k.val : EReal) := by
  cases k using Fin.cases with
  | zero => rw [before_zero]; rfl
  | succ k => rw [before_succ, upto_real x g r a h]; rfl

theorem mul_sum_real {ι : Type} (c : ℝ) (hc : 0 ≤ c) (s : Finset ι) (f : ι → EReal) : (c : EReal) * ∑ i ∈ s, f i = ∑ i ∈ s, (c : EReal) * f i := by
  classical
  induction s using Finset.induction with
  | empty => simp
  | insert a s ha ih =>
    rw [Finset.sum_insert ha, Finset.sum_insert ha, ← ih]
    exact EReal.left_distrib_of_nonneg_of_ne_top (EReal.coe_nonneg.mpr hc) (EReal.coe_ne_top c) _ _

theorem entering_zero (st : Vec Ideal S33x8x4x64x128 .f32) (A : Vec Ideal S33x128x8x4 .f32) (g : Fin 8) (n : Fin 128) (r : Fin 4) (p : Fin 64) :
    enteringOf st A (ix4 0 g n (lane r p)) = 0 := by
  rw [entering_apply]
  refine Finset.sum_eq_zero fun j _ => ?_
  rw [decays_apply, if_neg (by simp), mul_zero]

theorem entering_succ (st : Vec Ideal S33x8x4x64x128 .f32) (A : Vec Ideal S33x128x8x4 .f32) (g : Fin 8) (n : Fin 128) (r : Fin 4) (p : Fin 64)
    (a : Fin 33 → ℝ) (h : ∀ k, A (ix4 k 127 g r) = (a k : EReal)) (k : Fin 32) :
    enteringOf st A (ix4 k.succ g n (lane r p))
      = Ideal.exp (A (ix4 k.castSucc 127 g r)) * enteringOf st A (ix4 k.castSucc g n (lane r p)) + st (ix5 k.castSucc g r p n) := by
  have h' : ∀ k, lastOf A (ix3 k g r) = (a k : EReal) := fun k => (last_apply A k g r).trans (h k)
  rw [entering_apply, entering_apply, h, Ideal.exp_coe, mul_sum_real _ (Real.exp_pos _).le,
    show st (ix5 k.castSucc g r p n) = ∑ j : Fin 33, if j = k.castSucc then st (ix5 j g r p n) else 0 by
      rw [Finset.sum_ite_eq' Finset.univ k.castSucc fun j => st (ix5 j g r p n)]; simp,
    ← Finset.sum_add_distrib]
  refine Finset.sum_congr rfl fun j _ => ?_
  have hs := sumTo_succ a k.castSucc
  rw [Fin.val_castSucc] at hs
  rw [decays_apply, decays_apply, before_real _ g r a h', before_real _ g r a h', upto_real _ g r a h', Fin.val_succ, Fin.val_castSucc, hs,
    ← EReal.coe_sub, ← EReal.coe_sub, Ideal.exp_coe, Ideal.exp_coe]
  by_cases h1 : j.val < k.val
  · rw [if_pos (by omega), if_pos h1, if_neg (fun e => by rw [e, Fin.val_castSucc] at h1; omega), add_zero, mul_left_comm, ← EReal.coe_mul, ← Real.exp_add]
    congr 3
    ring
  · by_cases h2 : j = k.castSucc
    · subst h2
      rw [if_pos (by simp), if_neg h1, if_pos rfl, mul_zero, mul_zero, zero_add, Fin.val_castSucc, hs, sub_self, Real.exp_zero]
      simp
    · rw [if_neg (fun hlt => h2 (Fin.ext (by rw [Fin.val_castSucc]; omega))), if_neg h1, if_neg h2]
      simp

end Cert.SsdIdeal.Group
-- ==== Proof.SsdRead.lean ====
module

public import proofs.«01_k».proof.Proof.SsdKernel
public import proofs.«01_k».proof.Proof.Gen.SsdReferenceIdeal.Read
public import Idealize.ShloMosaic.Lib.Pointwise
public import Idealize.ShloMosaic.Lib.WordCmp

@[expose] public section

set_option maxRecDepth 16384

noncomputable section

open Idealize.ShloMosaic Idealize.ShloMosaic.TcCoe Idealize.ShloMosaic.Tactic Idealize.SL.Sem

namespace Cert.SsdReferenceIdeal.RefValue

open Cert.SsdReferenceIdeal Cert.SsdReferenceIdeal.Gen Cert.SsdReferenceIdeal.Read
open Cert.SsdIdeal.Group (tok wcol ncol lane head low mid high tok_div tok_mod)

variable (x : Vec Ideal S4224x4096 .f32) (dt : Vec Ideal S4224x32 .f32) (al : Vec Ideal S32 .f32)
  (sk : Vec Ideal S32 .f32) (dy : Vec Ideal S4224x2048 .f32)

set_option maxHeartbeats 400000

theorem wide_val (g : Fin 8) (r : Fin 4) (p : Fin 64) : (g.val * 4 + r.val) * 64 + p.val = 256 * g.val + (64 * r.val + p.val) := by omega

theorem wcol_head (g : Fin 8) (r : Fin 4) (p : Fin 64) (h : (wcol g (lane r p)).val / 64 < 32) :
    (⟨(wcol g (lane r p)).val / 64, h⟩ : Fin 32) = head g r := Fin.ext (by simp only [wcol, lane, head]; omega)
theorem wcol_group (g : Fin 8) (r : Fin 4) (p : Fin 64) (h : (wcol g (lane r p)).val / 64 / 4 < 8) :
    (⟨(wcol g (lane r p)).val / 64 / 4, h⟩ : Fin 8) = g := Fin.ext (by simp only [wcol, lane]; omega)
theorem wcol_row (g : Fin 8) (r : Fin 4) (p : Fin 64) (h : (wcol g (lane r p)).val / 64 % 4 < 4) :
    (⟨(wcol g (lane r p)).val / 64 % 4, h⟩ : Fin 4) = r := Fin.ext (by simp only [wcol, lane]; omega)
theorem wcol_lane (g : Fin 8) (r : Fin 4) (p : Fin 64) (h : (wcol g (lane r p)).val % 64 < 64) :
    (⟨(wcol g (lane r p)).val % 64, h⟩ : Fin 64) = p := Fin.ext (by simp only [wcol, lane]; omega)
theorem ncol_group (g : Fin 8) (n : Fin 128) (h : (ncol g n).val / 128 < 8) : (⟨(ncol g n).val / 128, h⟩ : Fin 8) = g :=
  Fin.ext (by simp only [ncol]; omega)
theorem ncol_lane (g : Fin 8) (n : Fin 128) (h : (ncol g n).val % 128 < 128) : (⟨(ncol g n).val % 128, h⟩ : Fin 128) = n :=
  Fin.ext (by simp only [ncol]; omega)

/-! The slices and chunks at an index. -/

theorem steps_apply (k : Fin 33) (l : Fin 128) (g : Fin 8) (r : Fin 4) (p : Fin 64) :
    val_main_v11 (F := Ideal) x dt (ix5 k l g r p)
      = x (ix2 (tok k l) (low (wcol g (lane r p)))) * dt (ix2 (tok k l) (head g r)) := by
  pointwise [val_main_v11, val_main_v10, val_main_v9, val_main_v8, val_main_v5, val_main_v0]
  rw [show (⟨(g.val * 4 + r.val) * 64 + p.val, by omega⟩ : Fin 4096) = low (wcol g (lane r p)) from Fin.ext (wide_val g r p)]
  rfl
theorem dyc_apply (k : Fin 33) (l : Fin 128) (g : Fin 8) (r : Fin 4) (p : Fin 64) :
    val_main_v208 (F := Ideal) dy (ix5 k l g r p) = dy (ix2 (tok k l) (wcol g (lane r p))) := by
  pointwise [val_main_v208, val_main_v205]
  rw [show (⟨(g.val * 4 + r.val) * 64 + p.val, by omega⟩ : Fin 2048) = wcol g (lane r p) from Fin.ext (wide_val g r p)]
  rfl
theorem b_apply (k : Fin 33) (l : Fin 128) (g : Fin 8) (n : Fin 128) :
    val_main_v6 (F := Ideal) x (ix4 k l g n) = x (ix2 (tok k l) (mid (ncol g n))) := by
  pointwise [val_main_v6, val_main_v1]
  rw [show (⟨2048 + (g.val * 128 + n.val), by omega⟩ : Fin 4096) = mid (ncol g n) from Fin.ext (by simp only [mid, ncol]; omega)]
  rfl
theorem c_apply (k : Fin 33) (l : Fin 128) (g : Fin 8) (n : Fin 128) :
    val_main_v7 (F := Ideal) x (ix4 k l g n) = x (ix2 (tok k l) (high (ncol g n))) := by
  pointwise [val_main_v7, val_main_v2]
  rw [show (⟨3072 + (g.val * 128 + n.val), by omega⟩ : Fin 4096) = high (ncol g n) from Fin.ext (by simp only [high, ncol]; omega)]
  rfl
theorem decay_apply (k : Fin 33) (l : Fin 128) (g : Fin 8) (r : Fin 4) (z : Fin 1) :
    val_main_v38 (F := Ideal) dt al (ix5 k l g r z)
      = Ideal.exp (val_main_v16 (F := Ideal) dt al (ix4 k 127 g r) - val_main_v16 (F := Ideal) dt al (ix4 k l g r)) := by
  pointwise [val_main_v38, val_main_v37, val_main_v36, val_main_v35, val_main_v34]
theorem whole_apply (k : Fin 33) (g : Fin 8) (r : Fin 4) (p : Fin 64) (n : Fin 128) :
    val_main_v47 (F := Ideal) dt al (ix5 k g r p n) = Ideal.exp (val_main_v16 (F := Ideal) dt al (ix4 k 127 g r)) := by
  pointwise [val_main_v47, val_main_v46, val_main_v45, val_main_v44, val_main_v43]
theorem within_apply (k : Fin 33) (l s : Fin 128) (g : Fin 8) (r : Fin 4) :
    val_main_v26 (F := Ideal) dt al (ix5 k l s g r)
      = Ideal.exp (if s.val ≤ l.val then val_main_v16 (F := Ideal) dt al (ix4 k l g r) - val_main_v16 (F := Ideal) dt al (ix4 k s g r) else ⊥) := by
  pointwise [val_main_v26, val_main_v25, val_main_call2_v1, val_main_call2_v2, val_main_call2_v0, val_main_cst, val_main_v24, val_main_v23, val_main_v22,
    val_main_v21, val_main_v20, val_main_v19, val_main_v18, val_main_v17, val_main_c, val_main_call1_v0, val_main_call1_v1, val_main_call1_v2,
    val_main_call1_v3, val_main_call1_v4, val_main_call1_v5, val_main_call1_c, val_main_call1_c_0]
  have e : IntOp.addi (BitVec.ofNat 32 l.val) 0#32 = BitVec.ofNat 32 l.val := by simp [IntOp.addi]
  rw [e, WordCmp.cmpi_sge_ofNat (by omega) (by omega)]
  by_cases h : s.val ≤ l.val <;> simp [h, Scalar.select, constant, Cert.SsdIdeal.Group.neg_inf]
theorem dprev_apply (k : Fin 33) (g : Fin 8) (r : Fin 4) (p : Fin 64) (n : Fin 128) :
    val_main_v214 (F := Ideal) x dt al dy (ix5 k g r p n)
      = ∑ l : Fin 128, x (ix2 (tok k l) (high (ncol g n))) * (dy (ix2 (tok k l) (wcol g (lane r p)))
          * Ideal.exp (val_main_v16 (F := Ideal) dt al (ix4 k l g r))) := by
  pointwise [val_main_v214, val_main_v211, val_main_v210, val_main_v209, val_main_v194, val_main_v193]
  simp only [dyc_apply, c_apply]
  exact Finset.sum_congr rfl fun _ _ => mul_comm _ _
theorem states_apply (k : Fin 33) (g : Fin 8) (r : Fin 4) (p : Fin 64) (n : Fin 128) :
    val_main_v41 (F := Ideal) x dt al (ix5 k g r p n)
      = ∑ l : Fin 128, (Ideal.exp (val_main_v16 (F := Ideal) dt al (ix4 k 127 g r) - val_main_v16 (F := Ideal) dt al (ix4 k l g r))
          * (x (ix2 (tok k l) (low (wcol g (lane r p)))) * dt (ix2 (tok k l) (head g r)))) * x (ix2 (tok k l) (mid (ncol g n))) := by
  pointwise [val_main_v41, val_main_v40, val_main_v39]
  simp only [steps_apply, b_apply, decay_apply]
theorem cb_apply (k : Fin 33) (l s : Fin 128) (g : Fin 8) :
    val_main_v28 (F := Ideal) x (ix4 k l s g)
      = ∑ n : Fin 128, x (ix2 (tok k s) (mid (ncol g n))) * x (ix2 (tok k l) (high (ncol g n))) := by
  pointwise [val_main_v28, val_main_v27]
  simp only [b_apply, c_apply]
theorem dcb_apply (k : Fin 33) (l s : Fin 128) (g : Fin 8) :
    val_main_v334 (F := Ideal) x dt al dy (ix4 k g s l)
      = ∑ r : Fin 4, (∑ p : Fin 64, dy (ix2 (tok k l) (wcol g (lane r p))) * (x (ix2 (tok k s) (low (wcol g (lane r p)))) * dt (ix2 (tok k s) (head g r))))
          * Ideal.exp (if s.val ≤ l.val then val_main_v16 (F := Ideal) dt al (ix4 k l g r) - val_main_v16 (F := Ideal) dt al (ix4 k s g r) else ⊥) := by
  pointwise [val_main_v334, val_main_v333, val_main_v332, val_main_v331, val_main_v330, val_main_v326, val_main_v325, val_main_v324, val_main_cst_3, val_main_cst_4]
  simp only [within_apply, dyc_apply, steps_apply, Finset.univ_unique, Finset.sum_singleton]

theorem dstep_apply (k : Fin 33) (l : Fin 128) (g : Fin 8) (r : Fin 4) (p : Fin 64) :
    val_main_v329 (F := Ideal) x dt al dy (ix5 k l g r p)
      = Ideal.exp (val_main_v16 (F := Ideal) dt al (ix4 k 127 g r) - val_main_v16 (F := Ideal) dt al (ix4 k l g r))
          * (∑ n : Fin 128, val_main_v317 (F := Ideal) x dt al dy (ix5 k g r p n) * x (ix2 (tok k l) (mid (ncol g n))))
        + ∑ i : Fin 128, dy (ix2 (tok k i) (wcol g (lane r p)))
            * ((∑ n : Fin 128, x (ix2 (tok k l) (mid (ncol g n))) * x (ix2 (tok k i) (high (ncol g n))))
              * Ideal.exp (if l.val ≤ i.val then val_main_v16 (F := Ideal) dt al (ix4 k i g r) - val_main_v16 (F := Ideal) dt al (ix4 k l g r) else ⊥)) := by
  pointwise [val_main_v329, val_main_v328, val_main_v327, val_main_v324, val_main_v323, val_main_v322, val_main_v321, val_main_v320, val_main_v31,
    val_main_v30, val_main_v29]
  simp only [cb_apply, within_apply, dyc_apply, b_apply, decay_apply]
theorem dx_flat (k : Fin 33) (l : Fin 128) (g : Fin 8) (r : Fin 4) (p : Fin 64) :
    val_main_v347 (F := Ideal) x dt al sk dy (ix2 (tok k l) (wcol g (lane r p)))
      = dy (ix2 (tok k l) (wcol g (lane r p))) * sk (ix1 (head g r))
        + val_main_v329 (F := Ideal) x dt al dy (ix5 k l g r p) * dt (ix2 (tok k l) (head g r)) := by
  pointwise [val_main_v347, val_main_v344, val_main_v343, val_main_v342, val_main_v341, val_main_v207, val_main_v206, val_main_v205, val_main_v200,
    val_main_v199, val_main_v8]
  simp only [tok_div, tok_mod, wcol_group, wcol_row, wcol_lane, wcol_head]
theorem db_flat (k : Fin 33) (l : Fin 128) (g : Fin 8) (n : Fin 128) :
    val_main_v346 (F := Ideal) x dt al dy (ix2 (tok k l) (ncol g n))
      = (∑ r : Fin 4, ∑ p : Fin 64, val_main_v317 (F := Ideal) x dt al dy (ix5 k g r p n)
          * (Ideal.exp (val_main_v16 (F := Ideal) dt al (ix4 k 127 g r) - val_main_v16 (F := Ideal) dt al (ix4 k l g r))
            * (x (ix2 (tok k l) (low (wcol g (lane r p)))) * dt (ix2 (tok k l) (head g r)))))
        + ∑ s : Fin 128, val_main_v334 (F := Ideal) x dt al dy (ix4 k g l s) * x (ix2 (tok k s) (high (ncol g n))) := by
  pointwise [val_main_v346, val_main_v340, val_main_v339, val_main_v338, val_main_v319, val_main_v318, val_main_v40, val_main_v39]
  simp only [tok_div, tok_mod, ncol_group, ncol_lane, decay_apply, steps_apply, c_apply]
theorem dc_flat (k : Fin 33) (l : Fin 128) (g : Fin 8) (n : Fin 128) :
    val_main_v345 (F := Ideal) x dt al dy (ix2 (tok k l) (ncol g n))
      = (∑ r : Fin 4, ∑ p : Fin 64, dy (ix2 (tok k l) (wcol g (lane r p))) * Ideal.exp (val_main_v16 (F := Ideal) dt al (ix4 k l g r))
          * val_main_v190 (F := Ideal) x dt al (ix5 k g r p n))
        + ∑ s : Fin 128, val_main_v334 (F := Ideal) x dt al dy (ix4 k g s l) * x (ix2 (tok k s) (mid (ncol g n))) := by
  pointwise [val_main_v345, val_main_v337, val_main_v336, val_main_v335, val_main_v213, val_main_v212, val_main_v211, val_main_v210, val_main_v209,
    val_main_v194, val_main_v193]
  simp only [tok_div, tok_mod, ncol_group, ncol_lane, dyc_apply, b_apply]

/-! The running sums are finite where the step sizes and rates are. -/

theorem foldl_real {α : Type} (f : α → EReal) (L : List α) (v : EReal) (hv : ∃ y : ℝ, v = y) (hf : ∀ n, ∃ y : ℝ, f n = y) :
    ∃ y : ℝ, L.foldl (fun a n => a + f n) v = y := by
  induction L generalizing v with
  | nil => exact hv
  | cons a L ih =>
    obtain ⟨y, rfl⟩ := hv
    obtain ⟨z, hz⟩ := hf a
    exact ih _ ⟨y + z, by show (y : EReal) + f a = _; rw [hz, EReal.coe_add]⟩

theorem rate_real (hd : ∀ t h, ∃ y : ℝ, dt (ix2 t h) = y) (ha : ∀ h, ∃ y : ℝ, al (ix1 h) = y) (i : S33x128x8x4.Idx) :
    ∃ y : ℝ, val_main_v15 (F := Ideal) dt al i = y := by
  obtain ⟨k, l, g, r, rfl⟩ : ∃ (k : Fin 33) (l : Fin 128) (g : Fin 8) (r : Fin 4), i = ix4 k l g r := ⟨i 0, i 1, i 2, i 3, eq_ix4 i⟩
  pointwise [val_main_v15, val_main_v14, val_main_v13, val_main_v12, val_main_v4, val_main_v3]
  obtain ⟨y, hy⟩ := hd (tok k l) (head g r)
  obtain ⟨z, hz⟩ := ha (head g r)
  exact ⟨y * -Real.exp z, by
    show dt (ix2 (tok k l) (head g r)) * -Ideal.exp (al (ix1 (head g r))) = _
    rw [hy, hz, Ideal.exp_coe, ← EReal.coe_neg, ← EReal.coe_mul]⟩

theorem acs_real (hd : ∀ t h, ∃ y : ℝ, dt (ix2 t h) = y) (ha : ∀ h, ∃ y : ℝ, al (ix1 h) = y) (i : S33x128x8x4.Idx) :
    ∃ y : ℝ, val_main_v16 (F := Ideal) dt al i = y := by
  have hv : ∃ y : ℝ, (val_main_call0_call0_v0 (F := Ideal)) (Shape.Idx.first h_S_) = y := ⟨0, Ideal.ofBits_zero_f32⟩
  refine foldl_real _ _ _ hv fun n => ?_
  split
  · exact rate_real dt al hd ha _
  · exact hv

end Cert.SsdReferenceIdeal.RefValue
-- ==== Proof.SsdChain.lean ====
module

public import proofs.«01_k».proof.Proof.Gen.SsdReferenceIdeal.Read
public import Idealize.ShloMosaic.Lib.Pointwise

@[expose] public section

set_option maxRecDepth 16384

noncomputable section

open Idealize.ShloMosaic Idealize.ShloMosaic.TcCoe Idealize.ShloMosaic.Tactic Idealize.SL.Sem

namespace Cert.SsdReferenceIdeal.RefValue

open Cert.SsdReferenceIdeal Cert.SsdReferenceIdeal.Gen Cert.SsdReferenceIdeal.Read

variable (x : Vec Ideal S4224x4096 .f32) (dt : Vec Ideal S4224x32 .f32) (al : Vec Ideal S32 .f32)
  (dy : Vec Ideal S4224x2048 .f32)

theorem d_last (g : Fin 8) (r : Fin 4) (p : Fin 64) (n : Fin 128) :
    val_main_v317 (F := Ideal) x dt al dy (ix5 32 g r p n) = 0 := by
  pointwise [val_main_v317, val_main_v250, val_main_v249, val_main_cst_2, Ideal.ofBits_zero_f32]

theorem prev_zero (g : Fin 8) (r : Fin 4) (p : Fin 64) (n : Fin 128) :
    val_main_v190 (F := Ideal) x dt al (ix5 0 g r p n) = 0 := by
  pointwise [val_main_v190, val_main_v98, val_main_v42, val_main_cst_0, Ideal.ofBits_zero_f32]

/-- One step of the backward chain: the cotangent of a state from that of the next one. -/
theorem d_next (i : Fin 32) (g : Fin 8) (r : Fin 4) (p : Fin 64) (n : Fin 128) :
    val_main_v317 (F := Ideal) x dt al dy (ix5 i.castSucc g r p n) =
      val_main_v214 (F := Ideal) x dt al dy (ix5 i.succ g r p n) +
        val_main_v47 (F := Ideal) dt al (ix5 i.succ g r p n) * val_main_v317 (F := Ideal) x dt al dy (ix5 i.succ g r p n) := by
  fin_cases i
  all_goals simp
  all_goals pointwise [
    val_main_v317, val_main_v316, val_main_v284, val_main_v250, val_main_v48, val_main_v49, val_main_v50,
    val_main_v51, val_main_v52, val_main_v53, val_main_v54, val_main_v55, val_main_v56, val_main_v57,
    val_main_v58, val_main_v59, val_main_v60, val_main_v61, val_main_v62, val_main_v63, val_main_v64,
    val_main_v100, val_main_v101, val_main_v102, val_main_v103, val_main_v104, val_main_v105, val_main_v106,
    val_main_v107, val_main_v108, val_main_v109, val_main_v110, val_main_v145, val_main_v146, val_main_v147,
    val_main_v148, val_main_v149, val_main_v150, val_main_v151, val_main_v152, val_main_v153, val_main_v154,
    val_main_v155, val_main_v215, val_main_v216, val_main_v217, val_main_v218, val_main_v219, val_main_v220,
    val_main_v221, val_main_v222, val_main_v223, val_main_v224, val_main_v225, val_main_v226, val_main_v227,
    val_main_v228, val_main_v229, val_main_v230, val_main_v231, val_main_v232, val_main_v233, val_main_v234,
    val_main_v235, val_main_v236, val_main_v237, val_main_v238, val_main_v239, val_main_v240, val_main_v241,
    val_main_v242, val_main_v243, val_main_v244, val_main_v245, val_main_v246, val_main_v247, val_main_v248,
    val_main_v249, val_main_v251, val_main_v252, val_main_v253, val_main_v254, val_main_v255, val_main_v256,
    val_main_v257, val_main_v258, val_main_v259, val_main_v260, val_main_v261, val_main_v262, val_main_v263,
    val_main_v264, val_main_v265, val_main_v266, val_main_v267, val_main_v268, val_main_v269, val_main_v270,
    val_main_v271, val_main_v272, val_main_v273, val_main_v274, val_main_v275, val_main_v276, val_main_v277,
    val_main_v278, val_main_v279, val_main_v280, val_main_v281, val_main_v282, val_main_v283, val_main_v285,
    val_main_v286, val_main_v287, val_main_v288, val_main_v289, val_main_v290, val_main_v291, val_main_v292,
    val_main_v293, val_main_v294, val_main_v295, val_main_v296, val_main_v297, val_main_v298, val_main_v299,
    val_main_v300, val_main_v301, val_main_v302, val_main_v303, val_main_v304, val_main_v305, val_main_v306,
    val_main_v307, val_main_v308, val_main_v309, val_main_v310, val_main_v311, val_main_v312, val_main_v313,
    val_main_v314, val_main_v315, val_main_cst_2]
  rw [mul_zero, add_zero]

/-- One step of the forward chain: the state entering a chunk from the one before. -/
theorem prev_next (i : Fin 32) (g : Fin 8) (r : Fin 4) (p : Fin 64) (n : Fin 128) :
    val_main_v190 (F := Ideal) x dt al (ix5 i.succ g r p n) =
      val_main_v47 (F := Ideal) dt al (ix5 i.castSucc g r p n) * val_main_v190 (F := Ideal) x dt al (ix5 i.castSucc g r p n)
        + val_main_v41 (F := Ideal) x dt al (ix5 i.castSucc g r p n) := by
  fin_cases i
  all_goals simp
  all_goals pointwise [
    val_main_v190, val_main_v98, val_main_v144, val_main_v189, val_main_v48, val_main_v49, val_main_v50,
    val_main_v51, val_main_v52, val_main_v53, val_main_v54, val_main_v55, val_main_v56, val_main_v57,
    val_main_v58, val_main_v59, val_main_v60, val_main_v61, val_main_v62, val_main_v63, val_main_v64,
    val_main_v65, val_main_v66, val_main_v67, val_main_v68, val_main_v69, val_main_v70, val_main_v71,
    val_main_v72, val_main_v73, val_main_v74, val_main_v75, val_main_v76, val_main_v77, val_main_v78,
    val_main_v79, val_main_v80, val_main_v81, val_main_v82, val_main_v83, val_main_v84, val_main_v85,
    val_main_v86, val_main_v87, val_main_v88, val_main_v89, val_main_v90, val_main_v91, val_main_v92,
    val_main_v93, val_main_v94, val_main_v95, val_main_v96, val_main_v97, val_main_v42, val_main_cst_0,
    val_main_v100, val_main_v101, val_main_v102, val_main_v103, val_main_v104, val_main_v105, val_main_v106,
    val_main_v107, val_main_v108, val_main_v109, val_main_v110, val_main_v111, val_main_v112, val_main_v113,
    val_main_v114, val_main_v115, val_main_v116, val_main_v117, val_main_v118, val_main_v119, val_main_v120,
    val_main_v121, val_main_v122, val_main_v123, val_main_v124, val_main_v125, val_main_v126, val_main_v127,
    val_main_v128, val_main_v129, val_main_v130, val_main_v131, val_main_v132, val_main_v133, val_main_v134,
    val_main_v135, val_main_v136, val_main_v137, val_main_v138, val_main_v139, val_main_v140, val_main_v141,
    val_main_v142, val_main_v143, val_main_v145, val_main_v146, val_main_v147, val_main_v148, val_main_v149,
    val_main_v150, val_main_v151, val_main_v152, val_main_v153, val_main_v154, val_main_v155, val_main_v156,
    val_main_v157, val_main_v158, val_main_v159, val_main_v160, val_main_v161, val_main_v162, val_main_v163,
    val_main_v164, val_main_v165, val_main_v166, val_main_v167, val_main_v168, val_main_v169, val_main_v170,
    val_main_v171, val_main_v172, val_main_v173, val_main_v174, val_main_v175, val_main_v176, val_main_v177,
    val_main_v178, val_main_v179, val_main_v180, val_main_v181, val_main_v182, val_main_v183, val_main_v184,
    val_main_v185, val_main_v186, val_main_v187, val_main_v188]

end Cert.SsdReferenceIdeal.RefValue
-- ==== Proof.SsdSame.lean ====
module

public import proofs.«01_k».proof.Defs
public import proofs.«01_k».proof.Proof.SsdPrev
public import proofs.«01_k».proof.Proof.SsdRead
public import proofs.«01_k».proof.Proof.SsdChain
public import proofs.«01_k».proof.Proof.Gen.SsdReferenceIdeal.Run
public import Idealize.ShloMosaic.Lib.Quiescent
public import Idealize.ShloMosaic.Lib.StableHlo.RunRead
public import Idealize.ShloMosaic.Lib.ReduceAll

@[expose] public section

set_option maxRecDepth 16384

noncomputable section

open Idealize.ShloMosaic Idealize.ShloMosaic.TcCoe Idealize.ShloMosaic.Tactic Idealize.SL.Sem

namespace Cert.SsdReferenceIdeal.RefValue

open Cert.SsdReferenceIdeal Cert.SsdReferenceIdeal.Gen Cert.SsdReferenceIdeal.Read
open Cert.SsdIdeal.Group

variable (x : Vec Ideal S4224x4096 .f32) (dt : Vec Ideal S4224x32 .f32) (al : Vec Ideal S32 .f32)
  (sk : Vec Ideal S32 .f32) (dy : Vec Ideal S4224x2048 .f32)

set_option maxHeartbeats 400000

/-- The reference's chain of state derivatives is the kernel's. -/
theorem chain_eq (t : ℕ) (ht : t ≤ 32) (g : Fin 8) (n : Fin 128) (r : Fin 4) (p : Fin 64) :
    val_main_v317 (F := Ideal) x dt al dy (ix5 (back t) g r p n) = dState x (val_main_v16 (F := Ideal) dt al) dy t g n r p := by
  induction t with
  | zero => exact d_last x dt al dy g r p n
  | succ t ih =>
    have e0 : back (t + 1) = (⟨31 - t, by omega⟩ : Fin 32).castSucc := Fin.ext (by show 32 - (t + 1) = 31 - t; omega)
    have e1 : back t = (⟨31 - t, by omega⟩ : Fin 32).succ := Fin.ext (by show 32 - t = 31 - t + 1; omega)
    rw [e0, d_next, ← e1, dprev_apply, whole_apply, ih (by omega), add_comm]
    rfl

theorem chain_at (k : Fin 33) (g : Fin 8) (n : Fin 128) (r : Fin 4) (p : Fin 64) :
    val_main_v317 (F := Ideal) x dt al dy (ix5 k g r p n) = dState x (val_main_v16 (F := Ideal) dt al) dy (32 - k.val) g n r p := by
  rw [← chain_eq x dt al dy (32 - k.val) (by omega)]
  exact congrArg (fun k => val_main_v317 (F := Ideal) x dt al dy (ix5 k g r p n)) (Fin.ext (by show k.val = 32 - (32 - k.val); omega))

/-- The reference's recursion of states is the closed form. -/
theorem entering_eq (hA : ∀ i, ∃ y : ℝ, val_main_v16 (F := Ideal) dt al i = y) (k : Fin 33) (g : Fin 8) (n : Fin 128) (r : Fin 4) (p : Fin 64) :
    enteringOf (val_main_v41 (F := Ideal) x dt al) (val_main_v16 (F := Ideal) dt al) (ix4 k g n (lane r p))
      = val_main_v190 (F := Ideal) x dt al (ix5 k g r p n) := by
  choose a ha using fun k : Fin 33 => hA (ix4 k 127 g r)
  induction k using Fin.induction with
  | zero => rw [entering_zero]; exact (prev_zero x dt al g r p n).symm
  | succ k ih => rw [entering_succ _ _ g n r p a ha, ih, prev_next, whole_apply]

/-- The order of a difference of finite values does not matter to its negation. -/
theorem flip_real {a b : EReal} (ha : ∃ y : ℝ, a = y) (hb : ∃ y : ℝ, b = y) : 0 - (a - b) = b - a := by
  obtain ⟨y, rfl⟩ := ha
  obtain ⟨z, rfl⟩ := hb
  rw [← EReal.coe_sub, ← EReal.coe_sub, zero_sub, ← EReal.coe_neg, neg_sub]

theorem dx_eq (hA : ∀ i, ∃ y : ℝ, val_main_v16 (F := Ideal) dt al i = y) (k : Fin 33) (l : Fin 128) (g : Fin 8) (r : Fin 4) (p : Fin 64) :
    dxAt x dt (val_main_v16 (F := Ideal) dt al) sk dy k l g r p = val_main_v347 (F := Ideal) x dt al sk dy (ix2 (tok k l) (wcol g (lane r p))) := by
  rw [dx_flat, dstep_apply, add_comm]
  unfold dxAt dStepAt
  refine congrArg₂ (· + ·) (congrArg (· * _) (congrArg₂ (· + ·) (congrArg₂ (· * ·) rfl ?_) ?_)) rfl
  · exact Finset.sum_congr rfl fun n _ => by rw [chain_at, mul_comm]
  · exact Finset.sum_congr rfl fun i _ => by rw [flip_real (hA _) (hA _)]; exact mul_comm _ _

theorem db_eq (hA : ∀ i, ∃ y : ℝ, val_main_v16 (F := Ideal) dt al i = y) (k : Fin 33) (l : Fin 128) (g : Fin 8) (n : Fin 128) :
    dbAt x dt (val_main_v16 (F := Ideal) dt al) dy k l g n = val_main_v346 (F := Ideal) x dt al dy (ix2 (tok k l) (ncol g n)) := by
  rw [db_flat, add_comm]
  unfold dbAt
  congr 1
  · refine Finset.sum_congr rfl fun s _ => ?_
    rw [dcb_apply]
    refine congrArg (· * _) (Finset.sum_congr rfl fun r _ => ?_)
    rw [flip_real (hA _) (hA _)]
    exact congrArg (· * _) (Finset.sum_congr rfl fun p _ => mul_comm _ _)
  · refine Finset.sum_congr rfl fun r _ => Finset.sum_congr rfl fun p _ => ?_
    rw [chain_at, mul_comm (dState _ _ _ _ _ _ _ _), mul_comm (_ * dt _)]

theorem dc_eq (hA : ∀ i, ∃ y : ℝ, val_main_v16 (F := Ideal) dt al i = y) (k : Fin 33) (l : Fin 128) (g : Fin 8) (n : Fin 128) :
    dcAt x dt (val_main_v16 (F := Ideal) dt al) dy (enteringOf (val_main_v41 (F := Ideal) x dt al) (val_main_v16 (F := Ideal) dt al)) k l g n
      = val_main_v345 (F := Ideal) x dt al dy (ix2 (tok k l) (ncol g n)) := by
  rw [dc_flat, add_comm]
  unfold dcAt
  congr 1
  · refine Finset.sum_congr rfl fun s _ => ?_
    rw [dcb_apply]
  · refine Finset.sum_congr rfl fun r _ => Finset.sum_congr rfl fun p _ => ?_
    rw [entering_eq x dt al hA]

end Cert.SsdReferenceIdeal.RefValue

namespace Cert.SsdIdeal.Group

open Cert.SsdIdeal Cert.SsdIdeal.Gen Cert.SsdIdeal.Value
open Cert.SsdReferenceIdeal.Read

variable (m : (ℓ : Loc nD τ sig) → Buf (Elt Ideal) ℓ)

abbrev Rates (c : Dev nD) : Vec Ideal S32 .f32 := m ((c : Thread nD τ).loc main_arg2)

theorem V_main_v4 (c : Dev nD) : V m c main_v4 = val_main_v14 (F := Ideal) (Steps m c) (Rates m c) := rfl
theorem V_main_v5 (c : Dev nD) : V m c main_v5 = shapeCast S33x128x8x4 (V m c main_v4) shapeCasts_S4224x32_S33x128x8x4 := rfl
theorem acs_eq (c : Dev nD) : Acs m c = val_main_v16 (F := Ideal) (Steps m c) (Rates m c) := rfl
theorem states_eq (c : Dev nD) : V m c main_v22 = val_main_v41 (F := Ideal) (Xbc m c) (Steps m c) (Rates m c) := rfl
theorem V_main_v24 (c : Dev nD) : V m c main_v24 = lastOf (V m c main_v6) := rfl
theorem V_main_v25 (c : Dev nD) : V m c main_v25 = uptoOf (V m c main_v24) := rfl
theorem V_main_v28 (c : Dev nD) : V m c main_v28 = beforeOf (V m c main_v25) := by
  with_unfolding_all rfl
theorem V_main_v30 (c : Dev nD) : V m c main_v30 = earlier := by
  unfold V
  dsimp only [List.flatten_cons, List.flatten_nil, List.append_nil, List.cons_append, List.nil_append]
  after_reads_simp
  simp only [StableHlo.TRef.ofBuf_toBuf]
  unfold earlier
  generalize (4294967295#32 : BitVec 32) = w
  rfl
theorem after_parts {τ : Topo} {sig : RefSig} {Val : EltTy → Type} (k l : List (HloOp τ sig Val)) (W : Valuation τ sig Val) :
    StableHlo.after (k ++ l) W = StableHlo.after l (StableHlo.after k W) := by
  induction k generalizing W with
  | nil => rfl
  | cons o k ih => exact ih _
abbrev restOps : List (HloOp τ sig (Elt Ideal)) := List.flatten [hostOps0_6, hostOps0_7, hostOps0_8]
def frontOf (c : Dev nD) : Valuation τ sig (Elt Ideal) :=
  StableHlo.after (List.flatten [hostOps0, hostOps0_1, hostOps0_2, hostOps0_3, hostOps0_4, hostOps0_5]) (fun b => m (c, b))
theorem V_rest (c : Dev nD) (b : Ref sig .tc) : V m c b = StableHlo.after restOps (frontOf m c) b := by
  unfold frontOf
  rw [← after_parts]
  simp only [V, restOps, List.flatten_cons, List.flatten_nil, List.append_nil, List.append_assoc]
theorem rest_v38 (W : Valuation τ sig (Elt Ideal)) : StableHlo.after restOps W main_v38
    = select (broadcastInDim S33x33x8x4 ![0, 1, 2, 3] bcast_S33x33x1x1_S33x33x8x4_0_1_2_3 (broadcastInDim S33x33x1x1 ![0, 1] bcast_S33x33_S33x33x1x1_0_1 (W main_v30)))
    (Host.exp (F := Ideal) (φ := .f32) (subf (F := Ideal) (φ := .f32)
      (broadcastInDim S33x33x8x4 ![0, 1, 2, 3] bcast_S33x1x8x4_S33x33x8x4_0_1_2_3 (broadcastInDim S33x1x8x4 ![0, 2, 3] bcast_S33x8x4_S33x1x8x4_0_2_3 (W main_v28)))
      (broadcastInDim S33x33x8x4 ![0, 1, 2, 3] bcast_S1x33x8x4_S33x33x8x4_0_1_2_3 (broadcastInDim S1x33x8x4 ![1, 2, 3] bcast_S33x8x4_S1x33x8x4_1_2_3 (W main_v25)))))
    (broadcastInDim S33x33x8x4 ![] bcast_S_S33x33x8x4 (id (constant (F := Ideal) S_ .f32 0#32))) := by
  unfold restOps
  dsimp only [List.flatten_cons, List.flatten_nil, List.append_nil, List.cons_append, List.nil_append]
  after_reads_simp
  simp only [StableHlo.TRef.ofBuf_toBuf]
  rfl
theorem rest_v30 (W : Valuation τ sig (Elt Ideal)) : StableHlo.after restOps W main_v30 = W main_v30 := by
  unfold restOps
  dsimp only [List.flatten_cons, List.flatten_nil, List.append_nil, List.cons_append, List.nil_append]
  after_reads_simp
theorem rest_v28 (W : Valuation τ sig (Elt Ideal)) : StableHlo.after restOps W main_v28 = W main_v28 := by
  unfold restOps
  dsimp only [List.flatten_cons, List.flatten_nil, List.append_nil, List.cons_append, List.nil_append]
  after_reads_simp
theorem rest_v25 (W : Valuation τ sig (Elt Ideal)) : StableHlo.after restOps W main_v25 = W main_v25 := by
  unfold restOps
  dsimp only [List.flatten_cons, List.flatten_nil, List.append_nil, List.cons_append, List.nil_append]
  after_reads_simp
theorem V_main_v38 (c : Dev nD) (u : Vec Ideal S33x8x4 .f32) (e25 : V m c main_v25 = u) (e28 : V m c main_v28 = beforeOf u) : V m c main_v38 = decaysOf u := by
  have e30 := V_main_v30 m c
  rw [V_rest, rest_v30] at e30
  rw [V_rest, rest_v28] at e28
  rw [V_rest, rest_v25] at e25
  rw [V_rest, rest_v38, e30, e28, e25]
  unfold decaysOf
  with_reducible rfl
theorem V_main_v39 (c : Dev nD) : V m c main_v39 = Host.dotGeneral (F := Ideal) (φ₁ := .f32) (φ₂ := .f32) dot_S33x8x4x64x128_S33x33x8x4_S8x4x64x128x33_0_1_34_0_12_23 none
    (V m c main_v22) (V m c main_v38) := rfl
theorem V_main_v41 (c : Dev nD) : V m c main_v41 = shapeCast S33x8x128x256 (transpose S33x8x128x4x64 [4, 0, 3, 1, 2] (V m c main_v39)
    transposes_S8x4x64x128x33_S33x8x128x4x64_4_0_3_1_2) shapeCasts_S33x8x128x4x64_S33x8x128x256 := rfl
theorem prev_eq (c : Dev nD) : Prev m c = enteringOf (V m c main_v22) (V m c main_v6) := by
  unfold Prev enteringOf
  rw [V_main_v41, V_main_v39, V_main_v38 m c _ (by rw [V_main_v25, V_main_v24]) (by rw [V_main_v28, V_main_v25, V_main_v24])]

end Cert.SsdIdeal.Group

end
-- ==== Proof.Ssd.lean ====
module

public import proofs.«01_k».proof.Defs
public import proofs.«01_k».proof.Proof.SsdSame
public import proofs.«01_k».proof.Proof.Gen.SsdReferenceIdeal.Run
public import Idealize.ShloMosaic.Lib.Quiescent
public import Idealize.ShloMosaic.Lib.StableHlo.RunRead
public import Idealize.ShloMosaic.Lib.ReduceAll

@[expose] public section

set_option maxRecDepth 16384

noncomputable section

open Idealize.ShloMosaic Idealize.ShloMosaic.TcCoe Idealize.ShloMosaic.Tactic Idealize.SL.Sem

namespace Cert.Proof.SsdClaims

open Cert.SsdIdeal.Group Cert.SsdReferenceIdeal.RefValue Cert.SsdReferenceIdeal.Read

theorem pre_facts : Cert.Pre_finite_steps.Facts := ⟨by decide, by decide, by decide, by decide, by decide⟩

theorem real_of_below {a : EReal} (h : Ideal.cmp .olt (max a (-a)) (Ideal.ofBits .f32 0x7F800000#32) = 1#1) : ∃ y : ℝ, a = y := by
  have ht : Ideal.ofBits .f32 0x7F800000#32 = ⊤ := by
    simp [Ideal.ofBits, Ideal.ieee]
  rw [ht] at h
  induction a with
  | bot => simp [Ideal.cmp] at h
  | coe y => exact ⟨y, rfl⟩
  | top => simp [Ideal.cmp] at h

theorem and_one : ∀ {a b : BitVec 1}, a &&& b = 1#1 → a = 1#1 ∧ b = 1#1 := by decide

/-- Where the precondition holds, the steps and the rates are finite. -/
theorem finite [Cert.Pre_finite_steps.Facts] (x : Vec Ideal Cert.Pre_finite_steps.S4224x4096 .f32) (dt : Vec Ideal Cert.Pre_finite_steps.S4224x32 .f32)
    (al sk : Vec Ideal Cert.Pre_finite_steps.S32 .f32) (dy : Vec Ideal Cert.Pre_finite_steps.S4224x2048 .f32)
    (h : Cert.Pre_finite_steps.fn (F := Ideal) x dt al sk dy = fun _ => 1#1) :
    (∀ t hd, ∃ y : ℝ, dt (ix2 t hd) = y) ∧ ∀ hd, ∃ y : ℝ, al (ix1 hd) = y := by
  have h0 := congrFun h ix0
  obtain ⟨h1, h2⟩ := and_one h0
  haveI : Subsingleton Cert.Pre_finite_steps.S_.Idx := ⟨fun i j => funext fun k => k.elim0⟩
  exact ⟨fun t hd => real_of_below (Host.reduce_andi_all _ _ _ _ _ h1 (ix2 t hd)),
    fun hd => real_of_below (Host.reduce_andi_all _ _ _ _ _ h2 (ix1 hd))⟩

theorem frame_ref : Cert.quiescent_SsdReferenceIdeal := fun m ρ _ =>
  (θ_run Cert.SsdReferenceIdeal.defs _ _).mono (fun r h => ⟨fun c => (h c).2.2.2,
      Idealize.ShloMosaic.sem_eq_zero_of_no_sems (by decide) r.2⟩)
    (Cert.SsdReferenceIdeal.Value.run (F := Ideal) m ρ)

theorem algebraic : Cert.algebraic_SsdIdeal_SsdReferenceIdeal_pre_finite_steps (hPre_finite_steps := pre_facts) := by
  intro m ρ m' ρ' hp hagree
  have hA : ∀ c i, ∃ y : ℝ, val_main_v16 (F := Ideal) (Steps m c) (Rates m c) i = y := fun c i =>
    haveI := pre_facts
    acs_real _ _ (finite _ _ _ _ _ (hp c)).1 (finite _ _ _ _ _ (hp c)).2 i
  refine ⟨fun c => valDx m c, fun c => valDb m c, fun c => valDc m c, Cert.SsdIdeal.Group.run m ρ,
    (θ_run Cert.SsdReferenceIdeal.defs _ _).mono (fun r h c => ⟨?_, ?_, ?_, (h c).2.2.2⟩) (Cert.SsdReferenceIdeal.Value.run (F := Ideal) m' ρ')⟩
  all_goals
    obtain ⟨e0, e1, e2, e3, e4⟩ := hagree c
    replace e0 : StableHlo.launchContents m' c (Proc.devRef .tc Cert.SsdReferenceIdeal.main_arg0) = Xbc m c := e0
    replace e1 : StableHlo.launchContents m' c (Proc.devRef .tc Cert.SsdReferenceIdeal.main_arg1) = Steps m c := e1
    replace e2 : StableHlo.launchContents m' c (Proc.devRef .tc Cert.SsdReferenceIdeal.main_arg2) = Rates m c := e2
    replace e3 : StableHlo.launchContents m' c (Proc.devRef .tc Cert.SsdReferenceIdeal.main_arg3) = Skip m c := e3
    replace e4 : StableHlo.launchContents m' c (Proc.devRef .tc Cert.SsdReferenceIdeal.main_arg4) = Dy m c := e4
  · refine (h c).1.trans ((val_main_v347_eq _).trans ?_)
    rw [e0, e1, e2, e3, e4]
    funext i
    rw [eq_ix2 i]
    obtain ⟨k, l, ek⟩ := exists_tok (i 0)
    obtain ⟨g, r, p, eg⟩ := exists_wcol (i 1)
    rw [ek, eg]
    refine Eq.trans ?_ (wideAt_at _ k l g r p).symm
    rw [acs_eq]
    exact (dx_eq _ _ _ _ _ (hA c) k l g r p).symm
  · refine (h c).2.1.trans ((val_main_v346_eq _).trans ?_)
    rw [e0, e1, e2, e4]
    funext i
    rw [eq_ix2 i]
    obtain ⟨k, l, ek⟩ := exists_tok (i 0)
    obtain ⟨g, n, eg⟩ := exists_ncol (i 1)
    rw [ek, eg]
    refine Eq.trans ?_ (slimAt_at _ k l g n).symm
    rw [acs_eq]
    exact (db_eq _ _ _ _ (hA c) k l g n).symm
  · refine (h c).2.2.1.trans ((val_main_v345_eq _).trans ?_)
    rw [e0, e1, e2, e4]
    funext i
    rw [eq_ix2 i]
    obtain ⟨k, l, ek⟩ := exists_tok (i 0)
    obtain ⟨g, n, eg⟩ := exists_ncol (i 1)
    rw [ek, eg]
    refine Eq.trans ?_ (slimAt_at _ k l g n).symm
    rw [prev_eq, states_eq, acs_eq]
    exact (dc_eq _ _ _ _ (hA c) k l g n).symm

end Cert.Proof.SsdClaims

end
-- ==== Proof.Dact.lean ====
module

public import proofs.«01_k».proof.Defs
public import proofs.«01_k».proof.Proof.Gen.DactIdeal.Value
public import proofs.«01_k».proof.Proof.Gen.DactReferenceIdeal.Read
public import Idealize.ShloMosaic.Lib.Pointwise
public import Idealize.ShloMosaic.Lib.Quiescent

@[expose] public section

set_option maxRecDepth 16384

noncomputable section

open Idealize.ShloMosaic Idealize.ShloMosaic.TcCoe Idealize.SL.Sem

namespace Cert.DactIdeal.RefValue

open Cert.DactIdeal Cert.DactIdeal.Gen Cert.DactIdeal.Value

theorem hz2 : (![0, 0] : Fin 2 → Nat) = fun _ => 0 := by decide
theorem hz4 : (![0, 0, 0, 0] : Fin 4 → Nat) = fun _ => 0 := by decide

/-- The printed constant of the epilogue is two. -/
theorem two : Ideal.ofBits .f32 0x40000000#32 = 2 := by
  rw [show (2 : EReal) = ((2 : ℝ) : EReal) from rfl]
  simp [Ideal.ofBits, Ideal.ieee, -EReal.coe_mul]; norm_num

/-- The block's payload read at an index. -/
theorem pay_apply (x0 : Vec Ideal S1408x1024 .f32) (x1 : Vec Ideal S1x1x1024x1024 .f32) (x2 : Vec Ideal S1408x1024 .f32)
    (r : Fin 1408) (l : Fin 1024) : k0_pay1 (F := Ideal) x0 x1 x2 (ix2 r l) =
      (∑ k : Fin 1024, x0 (ix2 r k) * x1 (ix4 0 0 l k)) * 2 * max (x2 (ix2 r l)) 0 := by
  pointwise [k0_pay1]
  rw [two]

theorem out_eq (x0 : Vec Ideal S1408x1024 .f32) (x1 : Vec Ideal S1x1x1024x1024 .f32) (x2 : Vec Ideal S1408x1024 .f32) :
    out0_3 x0 x1 x2 = k0_pay1 x0 x1 x2 := by
  unfold out0_3
  rw [View.canon_unit_zero hz2, View.ld_unit_zero hz2, View.ld_unit_zero hz4, View.ld_unit_zero hz2]

variable (m : (ℓ : Loc nD τ sig) → Buf (Elt Ideal) ℓ) (ρ : Dev nD → PrngReg)

/-- The weight as the region finds it: the argument with its rows in four groups. -/
theorem V_main_v0 (c : Dev nD) : V m c main_v0
    = shapeCast S1x4x1024x1024 (m ((c : Thread nD τ).loc main_arg1)) shapeCasts_S4096x1024_S1x4x1024x1024 := by
  simp only [V, hostOps0]
  after_results
  rfl

theorem idx0 : ∀ t : Fin cfg0.N, win0_0.index t (0 : Fin 2) = t.val / 4 ∧ win0_0.index t (1 : Fin 2) = 0 :=
  (by decide +kernel : ∀ t : Fin grid0.N, _)
theorem idx1 : ∀ t : Fin cfg0.N, win0_1.index t (0 : Fin 4) = 0 ∧ win0_1.index t (1 : Fin 4) = t.val % 4
    ∧ win0_1.index t (2 : Fin 4) = 0 ∧ win0_1.index t (3 : Fin 4) = 0 :=
  (by decide +kernel : ∀ t : Fin grid0.N, _)
theorem idx2 : ∀ t : Fin cfg0.N, win0_2.index t (0 : Fin 2) = t.val / 4 ∧ win0_2.index t (1 : Fin 2) = t.val % 4 :=
  (by decide +kernel : ∀ t : Fin grid0.N, _)
theorem idx3 : ∀ t : Fin cfg0.N, win0_3.index t (0 : Fin 2) = t.val / 4 ∧ win0_3.index t (1 : Fin 2) = t.val % 4 :=
  (by decide +kernel : ∀ t : Fin grid0.N, _)

/-- The array row of a block's row, and the array column of a block's column. -/
def row (t : Fin cfg0.N) (r : Fin 1408) : Fin 4224 :=
  ⟨t.val / 4 * 1408 + r.val, by have h : t.val < 12 := t.isLt; omega⟩
def col (t : Fin cfg0.N) (l : Fin 1024) : Fin 4096 :=
  ⟨t.val % 4 * 1024 + l.val, by omega⟩

theorem iblk0_apply (c : Dev nD) (t : Fin cfg0.N) (r : Fin 1408) (k : Fin 1024) :
    iblk m c 0 t (ix2 r k) = m ((c : Thread nD τ).loc main_arg0) (ix2 (row t r) k) := by
  rw [← V_main_arg0 m c]
  refine congrArg (V m c main_arg0) ?_
  obtain ⟨e0, e1⟩ := idx0 t
  funext a; apply Fin.ext
  match a with
  | ⟨0, _⟩ => show win0_0.index t (0 : Fin 2) * 1408 + 1 * r.val = t.val / 4 * 1408 + r.val; omega
  | ⟨1, _⟩ => show win0_0.index t (1 : Fin 2) * 1024 + 1 * k.val = k.val; omega

/-- The regrouped weight at an index. -/
theorem cast_apply (w : Vec Ideal S4096x1024 .f32) (t : Fin cfg0.N) (l k : Fin 1024) :
    shapeCast S1x4x1024x1024 w shapeCasts_S4096x1024_S1x4x1024x1024 (ix4 0 ⟨t.val % 4, by omega⟩ l k)
      = w (ix2 (col t l) k) := by
  pointwise
  rfl

theorem iblk1_apply (c : Dev nD) (t : Fin cfg0.N) (l k : Fin 1024) :
    iblk m c 1 t (ix4 0 0 l k) = m ((c : Thread nD τ).loc main_arg1) (ix2 (col t l) k) := by
  have h : iblk m c 1 t (ix4 0 0 l k) = V m c main_v0 (ix4 0 ⟨t.val % 4, by omega⟩ l k) := by
    refine congrArg (V m c main_v0) ?_
    obtain ⟨e0, e1, e2, e3⟩ := idx1 t
    funext a; apply Fin.ext
    match a with
    | ⟨0, _⟩ => show win0_1.index t (0 : Fin 4) * 1 + 1 * 0 = 0; omega
    | ⟨1, _⟩ => show win0_1.index t (1 : Fin 4) * 1 + 1 * 0 = t.val % 4; omega
    | ⟨2, _⟩ => show win0_1.index t (2 : Fin 4) * 1024 + 1 * l.val = l.val; omega
    | ⟨3, _⟩ => show win0_1.index t (3 : Fin 4) * 1024 + 1 * k.val = k.val; omega
  rw [h, V_main_v0]
  exact cast_apply _ _ _ _

theorem iblk2_apply (c : Dev nD) (t : Fin cfg0.N) (r : Fin 1408) (l : Fin 1024) :
    iblk m c 2 t (ix2 r l) = m ((c : Thread nD τ).loc main_arg2) (ix2 (row t r) (col t l)) := by
  rw [← V_main_arg2 m c]
  refine congrArg (V m c main_arg2) ?_
  obtain ⟨e0, e1⟩ := idx2 t
  funext a; apply Fin.ext
  match a with
  | ⟨0, _⟩ => show win0_2.index t (0 : Fin 2) * 1408 + 1 * r.val = t.val / 4 * 1408 + r.val; omega
  | ⟨1, _⟩ => show win0_2.index t (1 : Fin 2) * 1024 + 1 * l.val = t.val % 4 * 1024 + l.val; omega

theorem emb3 (t : Fin cfg0.N) (r : Fin 1408) (l : Fin 1024) :
    ((cfg0.win 3).blk t).view.emb (ix2 r l) = (ix2 (row t r) (col t l) : S4224x4096.Idx) := by
  obtain ⟨e0, e1⟩ := idx3 t
  funext a; apply Fin.ext
  match a with
  | ⟨0, _⟩ => show win0_3.index t (0 : Fin 2) * 1408 + 1 * r.val = t.val / 4 * 1408 + r.val; omega
  | ⟨1, _⟩ => show win0_3.index t (1 : Fin 2) * 1024 + 1 * l.val = t.val % 4 * 1024 + l.val; omega

/-- The result as one function of the argument arrays. -/
def G (dh : Vec Ideal S4224x1024 .f32) (w : Vec Ideal S4096x1024 .f32) (pre : Vec Ideal S4224x4096 .f32) :
    Vec Ideal S4224x4096 .bf16 := fun i =>
  (∑ k : Fin 1024, dh (ix2 (i 0) k) * w (ix2 (i 1) k)) * 2 * max (pre i) 0

abbrev val (c : Dev nD) : Buf (Elt Ideal) ((c : Thread nD τ).loc main_v1) :=
  G (m ((c : Thread nD τ).loc main_arg0)) (m ((c : Thread nD τ).loc main_arg1)) (m ((c : Thread nD τ).loc main_arg2))

theorem flushed3_eq (c : Dev nD) (t : Fin cfg0.N) :
    (dats m 0 c).flushed 3 t = ((cfg0.win 3).blk t).view.read (Elt Ideal) (val m c) := by
  rw [flushed3, out_eq]
  funext j
  obtain ⟨r, l, rfl⟩ : ∃ (r : Fin 1408) (l : Fin 1024), j = ix2 r l := ⟨j 0, j 1, eq_ix2 j⟩
  refine (pay_apply _ _ _ r l).trans ?_
  refine Eq.trans ?_ (congrArg (val m c) (emb3 t r l)).symm
  simp only [iblk0_apply, iblk1_apply, iblk2_apply]
  rfl

theorem covered3 (i : S4224x4096.Idx) :
    ∃ t : Fin cfg0.N, (cfg0.win 3).flush t = true ∧ i ∈ ((cfg0.win 3).blk t).view.set := by
  have h0 : (i 0).val < 4224 := (i 0).isLt
  have h1 : (i 1).val < 4096 := (i 1).isLt
  let t : Fin cfg0.N := ⟨(i 0).val / 1408 * 4 + (i 1).val / 1024, by show _ < 12; omega⟩
  refine ⟨t, flush0_3 t, ?_⟩
  have h := ((cfg0.win 3).blk t).view.emb_mem_set (ix2 ⟨(i 0).val % 1408, by omega⟩ ⟨(i 1).val % 1024, by omega⟩ : S1408x1024.Idx)
  rw [emb3] at h
  have e : i = ix2 (row t ⟨(i 0).val % 1408, by omega⟩) (col t ⟨(i 1).val % 1024, by omega⟩) := by
    refine (eq_ix2 i).trans (congrArg₂ ix2 (Fin.ext ?_) (Fin.ext ?_))
    · show (i 0).val = ((i 0).val / 1408 * 4 + (i 1).val / 1024) / 4 * 1408 + (i 0).val % 1408; omega
    · show (i 1).val = ((i 0).val / 1408 * 4 + (i 1).val / 1024) % 4 * 1024 + (i 1).val % 1024; omega
  rw [e]; exact h

theorem run : θ_run defs (onTc (τ := τ) (main (F := Ideal))) ⟨m, fun _ => 0, ρ⟩ fun r => ∀ c : Dev nD,
      r.2.mem ((c : Thread nD τ).loc main_v1) = val m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans
    ((dats m 0 c).arrAt_eq_of_cover 3 (val m c) (fun t _ => flushed3_eq m c t) covered3), (h c).2⟩) (run_blocks m ρ)

end Cert.DactIdeal.RefValue

namespace Cert.DactReferenceIdeal.RefValue

open Cert.DactReferenceIdeal Cert.DactReferenceIdeal.Gen Cert.DactReferenceIdeal.Read

/-- The derivative of the square at a rectified value, as the reference computes it, is twice the value. -/
theorem square_rule (s p : EReal) :
    (if 0 < p then max p 0 * s + s * max p 0 else 0) = s * 2 * max p 0 := by
  split
  · next h =>
    rw [mul_comm (max p 0) s, mul_right_comm]
    generalize s * max p 0 = x
    have h2 : (2 : EReal) = ((2 : ℝ) : EReal) := rfl
    induction x using EReal.rec with
    | bot => rw [h2, EReal.bot_mul_coe_of_pos (by norm_num)]; rfl
    | coe x => rw [h2, ← EReal.coe_add, ← EReal.coe_mul]; congr 1; ring
    | top => rw [h2, EReal.top_mul_coe_of_pos (by norm_num)]; rfl
  · next h => rw [max_eq_right (not_lt.mp h), mul_zero]

theorem ref_apply (x0 : Vec Ideal S4224x1024 .f32) (x1 : Vec Ideal S4096x1024 .f32) (x2 : Vec Ideal S4224x4096 .f32)
    (i : S4224x4096.Idx) : val_main_v12 (F := Ideal) x0 x1 x2 i = Cert.DactIdeal.RefValue.G x0 x1 x2 i := by
  pointwise [val_main_v12, val_main_v11, val_main_v10, val_main_cst_1, val_main_v9, val_main_v8, val_main_v7, val_main_v6,
    val_main_v3, val_main_v2, val_main_v1, val_main_v0, val_main_cst, val_main_call0_v0, val_main_call0_cst,
    Cert.DactIdeal.RefValue.G]
  exact square_rule _ _

end Cert.DactReferenceIdeal.RefValue

namespace Cert.Proof.DactClaims

theorem frame_ref : Cert.quiescent_DactReferenceIdeal := fun m ρ _ =>
  (θ_run Cert.DactReferenceIdeal.defs _ _).mono (fun r h => ⟨fun c => (h c).2,
      Idealize.ShloMosaic.sem_eq_zero_of_no_sems (by decide) r.2⟩)
    (Cert.DactReferenceIdeal.Value.run (F := Ideal) m ρ)

theorem algebraic : Cert.algebraic_DactIdeal_DactReferenceIdeal := by
  intro m ρ m' ρ' _ hagree
  refine ⟨fun c => Cert.DactIdeal.RefValue.val m c, Cert.DactIdeal.RefValue.run m ρ,
    (θ_run Cert.DactReferenceIdeal.defs _ _).mono (fun r h c => ⟨?_, (h c).2⟩) (Cert.DactReferenceIdeal.Value.run (F := Ideal) m' ρ')⟩
  refine (h c).1.trans ((Cert.DactReferenceIdeal.Read.val_main_v12_eq _ _ _).trans ?_)
  funext i
  refine (Cert.DactReferenceIdeal.RefValue.ref_apply _ _ _ i).trans ?_
  obtain ⟨e0, e1, e2⟩ := hagree c
  rw [e0, e1, e2]

end Cert.Proof.DactClaims

end
-- ==== Proof.DwFf1.lean ====
module

public import proofs.«01_k».proof.Defs
public import proofs.«01_k».proof.Proof.Gen.DwFf1Ideal.Value
public import proofs.«01_k».proof.Proof.Gen.DwFf1ReferenceIdeal.Read
public import Idealize.ShloMosaic.Lib.Pointwise
public import Idealize.ShloMosaic.Lib.Quiescent

@[expose] public section

set_option maxRecDepth 16384

noncomputable section

open Idealize.ShloMosaic Idealize.ShloMosaic.TcCoe Idealize.SL.Sem

namespace Cert.DwFf1Ideal.RefValue

open Cert.DwFf1Ideal Cert.DwFf1Ideal.Gen Cert.DwFf1Ideal.Value

theorem hz2 : (![0, 0] : Fin 2 → Nat) = fun _ => 0 := by decide
theorem hz3 : (![0, 0, 0] : Fin 3 → Nat) = fun _ => 0 := by decide

/-- A block of the result: the product over all tokens. -/
theorem out_apply (x0 x1 : Vec Ideal S4224x1024 .bf16) (i j : Fin 1024) :
    out0_2 x0 x1 (ix3 0 i j) = ∑ t : Fin 4224, x0 (ix2 t i) * x1 (ix2 t j) := by
  unfold out0_2
  rw [View.canon_unit_zero hz3, View.ld_unit_zero hz2, View.ld_unit_zero hz2]
  pointwise [k0_pay1]

variable (m : (ℓ : Loc nD τ sig) → Buf (Elt Ideal) ℓ) (ρ : Dev nD → PrngReg)

theorem V_main_v0 (c : Dev nD) : V m c main_v0 = m ((c : Thread nD τ).loc main_arg0) := by
  simp only [V, hostOps0]; after_results; rfl
theorem V_main_v1 (c : Dev nD) : V m c main_v1 = m ((c : Thread nD τ).loc main_arg1) := by
  simp only [V, hostOps0]; after_results; rfl

theorem idx0 : ∀ t : Fin cfg0.N, win0_0.index t = ![0, 0] := (by decide +kernel : ∀ t : Fin grid0.N, _)
theorem idx1 : ∀ t : Fin cfg0.N, win0_1.index t = ![0, t.val] := (by decide +kernel : ∀ t : Fin grid0.N, _)
theorem idx2 : ∀ t : Fin cfg0.N, win0_2.index t = ![t.val, 0, 0] := (by decide +kernel : ∀ t : Fin grid0.N, _)

/-- The array column a block's column stands for. -/
def col (q : Fin 4) (j : Fin 1024) : Fin 4096 := ⟨q.val * 1024 + j.val, by omega⟩

theorem iblk0_apply (c : Dev nD) (t : Fin cfg0.N) (s : Fin 4224) (i : Fin 1024) :
    iblk m c 0 t (ix2 s i) = m ((c : Thread nD τ).loc main_arg0) (ix2 s i) := by
  rw [← V_main_v0 m c]
  refine congrArg (V m c main_v0) (funext fun a => Fin.ext ?_)
  match a with
  | ⟨0, _⟩ => show win0_0.index t 0 * 4224 + 1 * s.val = s.val; rw [idx0]; simp
  | ⟨1, _⟩ => show win0_0.index t 1 * 1024 + 1 * i.val = i.val; rw [idx0]; simp

theorem iblk1_apply (c : Dev nD) (t : Fin cfg0.N) (s : Fin 4224) (j : Fin 1024) :
    iblk m c 1 t (ix2 s j) = m ((c : Thread nD τ).loc main_arg1) (ix2 s (col t j)) := by
  rw [← V_main_v1 m c]
  refine congrArg (V m c main_v1) (funext fun a => Fin.ext ?_)
  match a with
  | ⟨0, _⟩ => show win0_1.index t 0 * 4224 + 1 * s.val = s.val; rw [idx1]; simp
  | ⟨1, _⟩ => show win0_1.index t 1 * 1024 + 1 * j.val = t.val * 1024 + j.val; rw [idx1]; simp

theorem emb2 (t : Fin cfg0.N) (i j : Fin 1024) :
    ((cfg0.win 2).blk t).view.emb (ix3 0 i j) = (ix3 t i j : S4x1024x1024.Idx) := by
  funext a; apply Fin.ext
  match a with
  | ⟨0, _⟩ => show win0_2.index t 0 * 1 + 1 * 0 = t.val; rw [idx2]; simp
  | ⟨1, _⟩ => show win0_2.index t 1 * 1024 + 1 * i.val = i.val; rw [idx2]; simp
  | ⟨2, _⟩ => show win0_2.index t 2 * 1024 + 1 * j.val = j.val; rw [idx2]; simp

/-- The result as one function of the argument arrays. -/
def G (v : Vec Ideal S4224x1024 .f32) (dpre : Vec Ideal S4224x4096 .f32) : Vec Ideal S4x1024x1024 .f32 := fun i =>
  ∑ s : Fin 4224, v (ix2 s (i 1)) * dpre (ix2 s (col (i 0) (i 2)))

abbrev val (c : Dev nD) : Buf (Elt Ideal) ((c : Thread nD τ).loc main_v2) :=
  G (m ((c : Thread nD τ).loc main_arg0)) (m ((c : Thread nD τ).loc main_arg1))

theorem flushed2_eq (c : Dev nD) (t : Fin cfg0.N) :
    (dats m 0 c).flushed 2 t = ((cfg0.win 2).blk t).view.read (Elt Ideal) (val m c) := by
  rw [flushed2]
  funext y
  obtain ⟨i, j, rfl⟩ : ∃ i j : Fin 1024, y = ix3 0 i j :=
    ⟨y 1, y 2, (eq_ix3 y).trans (congrArg (ix3 · (y 1) (y 2)) (Subsingleton.elim (α := Fin 1) _ _))⟩
  refine (out_apply _ _ i j).trans (Eq.trans ?_ (congrArg (val m c) (emb2 t i j)).symm)
  simp only [iblk0_apply, iblk1_apply]
  rfl

theorem covered2 (i : S4x1024x1024.Idx) :
    ∃ t : Fin cfg0.N, (cfg0.win 2).flush t = true ∧ i ∈ ((cfg0.win 2).blk t).view.set := by
  obtain ⟨t, a, b, rfl⟩ : ∃ (t : Fin 4) (a b : Fin 1024), i = ix3 t a b := ⟨i 0, i 1, i 2, eq_ix3 i⟩
  refine ⟨(t : Fin cfg0.N), flush0_2 _, ?_⟩
  exact (congrArg (· ∈ ((cfg0.win 2).blk (t : Fin cfg0.N)).view.set) (emb2 t a b)).mp (View.emb_mem_set _ _)

theorem run : θ_run defs (onTc (τ := τ) (main (F := Ideal))) ⟨m, fun _ => 0, ρ⟩ fun r => ∀ c : Dev nD,
      r.2.mem ((c : Thread nD τ).loc main_v2) = val m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans
    ((dats m 0 c).arrAt_eq_of_cover 2 (val m c) (fun t _ => flushed2_eq m c t) covered2), (h c).2⟩) (run_blocks m ρ)

end Cert.DwFf1Ideal.RefValue

namespace Cert.DwFf1ReferenceIdeal.RefValue

open Cert.DwFf1ReferenceIdeal Cert.DwFf1ReferenceIdeal.Gen Cert.DwFf1ReferenceIdeal.Read

theorem ref_apply (x0 : Vec Ideal S4224x1024 .f32) (x1 : Vec Ideal S4224x4096 .f32) (q : Fin 4) (i j : Fin 1024) :
    val_main_v5 (F := Ideal) x0 x1 (ix3 q i j) = Cert.DwFf1Ideal.RefValue.G x0 x1 (ix3 q i j) := by
  pointwise [val_main_v5, val_main_v4, val_main_v3, val_main_v2, Cert.DwFf1Ideal.RefValue.G]
  exact Finset.sum_congr rfl fun s _ => mul_comm _ _

end Cert.DwFf1ReferenceIdeal.RefValue

namespace Cert.Proof.DwFf1Claims

theorem frame_ref : Cert.quiescent_DwFf1ReferenceIdeal := fun m ρ _ =>
  (θ_run Cert.DwFf1ReferenceIdeal.defs _ _).mono (fun r h => ⟨fun c => (h c).2,
      Idealize.ShloMosaic.sem_eq_zero_of_no_sems (by decide) r.2⟩)
    (Cert.DwFf1ReferenceIdeal.Value.run (F := Ideal) m ρ)

theorem algebraic : Cert.algebraic_DwFf1Ideal_DwFf1ReferenceIdeal := by
  intro m ρ m' ρ' _ hagree
  refine ⟨fun c => Cert.DwFf1Ideal.RefValue.val m c, Cert.DwFf1Ideal.RefValue.run m ρ,
    (θ_run Cert.DwFf1ReferenceIdeal.defs _ _).mono (fun r h c => ⟨?_, (h c).2⟩)
      (Cert.DwFf1ReferenceIdeal.Value.run (F := Ideal) m' ρ')⟩
  refine (h c).1.trans ((Cert.DwFf1ReferenceIdeal.Read.val_main_v5_eq _ _).trans ?_)
  funext i
  rw [eq_ix3 i]
  refine (Cert.DwFf1ReferenceIdeal.RefValue.ref_apply _ _ _ _ _).trans ?_
  obtain ⟨e0, e1⟩ := hagree c
  rw [e0, e1]

end Cert.Proof.DwFf1Claims

end
-- ==== Proof.DwFf2.lean ====
module

public import proofs.«01_k».proof.Defs
public import proofs.«01_k».proof.Proof.Gen.DwFf2Ideal.Value
public import proofs.«01_k».proof.Proof.Gen.DwFf2ReferenceIdeal.Read
public import Idealize.ShloMosaic.Lib.Pointwise
public import Idealize.ShloMosaic.Lib.Quiescent

@[expose] public section

set_option maxRecDepth 16384

noncomputable section

open Idealize.ShloMosaic Idealize.ShloMosaic.TcCoe Idealize.SL.Sem

namespace Cert.DwFf2Ideal.RefValue

open Cert.DwFf2Ideal Cert.DwFf2Ideal.Gen Cert.DwFf2Ideal.Value

theorem hz2 : (![0, 0] : Fin 2 → Nat) = fun _ => 0 := by decide
theorem hz3 : (![0, 0, 0] : Fin 3 → Nat) = fun _ => 0 := by decide

/-- A block of the result: the product over all tokens. -/
theorem out_apply (x0 : Vec Ideal S4224x1024 .bf16) (x1 : Vec Ideal S4224x1024 .bf16) (i : Fin 1024) (j : Fin 1024) :
    out0_2 x0 x1 (ix3 0 i j) = ∑ t : Fin 4224, x0 (ix2 t i) * x1 (ix2 t j) := by
  unfold out0_2
  rw [View.canon_unit_zero hz3, View.ld_unit_zero hz2, View.ld_unit_zero hz2]
  pointwise [k0_pay1]

variable (m : (ℓ : Loc nD τ sig) → Buf (Elt Ideal) ℓ) (ρ : Dev nD → PrngReg)

/-- The hidden layer: the square of the rectified activations. -/
def hidden (pre : Vec Ideal S4224x4096 .f32) : Vec Ideal S4224x4096 .bf16 := fun i => max (pre i) 0 * max (pre i) 0

theorem V_main_v3 (c : Dev nD) : V m c main_v3 = hidden (m ((c : Thread nD τ).loc main_arg0)) := by
  have h : V m c main_v3 = truncf .bf16 (mulf
      (maximumf (m ((c : Thread nD τ).loc main_arg0)) (broadcastInDim S4224x4096 ![] bcast_S_S4224x4096 (constant (F := Ideal) S_ .f32 0x00000000#32)))
      (maximumf (m ((c : Thread nD τ).loc main_arg0)) (broadcastInDim S4224x4096 ![] bcast_S_S4224x4096 (constant (F := Ideal) S_ .f32 0x00000000#32))))
      bitsLt_bf16_f32 := by
    simp only [V, hostOps0]; after_results
  rw [h]
  funext i
  pointwise [hidden]

theorem V_main_v4 (c : Dev nD) : V m c main_v4 = m ((c : Thread nD τ).loc main_arg1) := by
  simp only [V, hostOps0]; after_results; rfl

theorem idx0 : ∀ t : Fin cfg0.N, win0_0.index t = ![0, t.val] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0, 0] := (by decide +kernel : ∀ t : Fin grid0.N, _)

/-- The array column a shard's row stands for. -/
def col (q : Fin 4) (i : Fin 1024) : Fin 4096 := ⟨q.val * 1024 + i.val, by omega⟩

theorem iblk0_apply (c : Dev nD) (t : Fin cfg0.N) (s : Fin 4224) (i : Fin 1024) :
    iblk m c 0 t (ix2 s i) = hidden (m ((c : Thread nD τ).loc main_arg0)) (ix2 s (col t i)) := by
  rw [← V_main_v3 m c]
  refine congrArg (V m c main_v3) (funext fun a => Fin.ext ?_)
  match a with
  | ⟨0, _⟩ => show win0_0.index t 0 * 4224 + 1 * s.val = s.val; rw [idx0]; simp
  | ⟨1, _⟩ => show win0_0.index t 1 * 1024 + 1 * i.val = t.val * 1024 + i.val; rw [idx0]; simp

theorem iblk1_apply (c : Dev nD) (t : Fin cfg0.N) (s : Fin 4224) (j : Fin 1024) :
    iblk m c 1 t (ix2 s j) = m ((c : Thread nD τ).loc main_arg1) (ix2 s j) := by
  rw [← V_main_v4 m c]
  refine congrArg (V m c main_v4) (funext fun a => Fin.ext ?_)
  match a with
  | ⟨0, _⟩ => show win0_1.index t 0 * 4224 + 1 * s.val = s.val; rw [idx1]; simp
  | ⟨1, _⟩ => show win0_1.index t 1 * 1024 + 1 * j.val = j.val; rw [idx1]; simp

theorem emb2 (t : Fin cfg0.N) (i : Fin 1024) (j : Fin 1024) :
    ((cfg0.win 2).blk t).view.emb (ix3 0 i j) = (ix3 t i j : S4x1024x1024.Idx) := by
  funext a; apply Fin.ext
  match a with
  | ⟨0, _⟩ => show win0_2.index t 0 * 1 + 1 * 0 = t.val; rw [idx2]; simp
  | ⟨1, _⟩ => show win0_2.index t 1 * 1024 + 1 * i.val = i.val; rw [idx2]; simp
  | ⟨2, _⟩ => show win0_2.index t 2 * 1024 + 1 * j.val = j.val; rw [idx2]; simp

/-- The result as one function of the argument arrays. -/
def G (x : Vec Ideal S4224x4096 .f32) (dy : Vec Ideal S4224x1024 .f32) : Vec Ideal S4x1024x1024 .f32 := fun i =>
  ∑ s : Fin 4224, hidden x (ix2 s (col (i 0) (i 1))) * dy (ix2 s (i 2))

abbrev val (c : Dev nD) : Buf (Elt Ideal) ((c : Thread nD τ).loc main_v5) :=
  G (m ((c : Thread nD τ).loc main_arg0)) (m ((c : Thread nD τ).loc main_arg1))

theorem flushed2_eq (c : Dev nD) (t : Fin cfg0.N) :
    (dats m 0 c).flushed 2 t = ((cfg0.win 2).blk t).view.read (Elt Ideal) (val m c) := by
  rw [flushed2]
  funext y
  obtain ⟨i, j, rfl⟩ : ∃ (i : Fin 1024) (j : Fin 1024), y = ix3 0 i j :=
    ⟨y 1, y 2, (eq_ix3 y).trans (congrArg (ix3 · (y 1) (y 2)) (Subsingleton.elim (α := Fin 1) _ _))⟩
  refine (out_apply _ _ i j).trans (Eq.trans ?_ (congrArg (val m c) (emb2 t i j)).symm)
  simp only [iblk0_apply, iblk1_apply]
  rfl

theorem covered2 (i : S4x1024x1024.Idx) :
    ∃ t : Fin cfg0.N, (cfg0.win 2).flush t = true ∧ i ∈ ((cfg0.win 2).blk t).view.set := by
  obtain ⟨t, a, b, rfl⟩ : ∃ (t : Fin 4) (a : Fin 1024) (b : Fin 1024), i = ix3 t a b := ⟨i 0, i 1, i 2, eq_ix3 i⟩
  refine ⟨(t : Fin cfg0.N), flush0_2 _, ?_⟩
  exact (congrArg (· ∈ ((cfg0.win 2).blk (t : Fin cfg0.N)).view.set) (emb2 t a b)).mp (View.emb_mem_set _ _)

theorem run : θ_run defs (onTc (τ := τ) (main (F := Ideal))) ⟨m, fun _ => 0, ρ⟩ fun r => ∀ c : Dev nD,
      r.2.mem ((c : Thread nD τ).loc main_v5) = val m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans
    ((dats m 0 c).arrAt_eq_of_cover 2 (val m c) (fun t _ => flushed2_eq m c t) covered2), (h c).2⟩) (run_blocks m ρ)

end Cert.DwFf2Ideal.RefValue

namespace Cert.DwFf2ReferenceIdeal.RefValue

open Cert.DwFf2ReferenceIdeal Cert.DwFf2ReferenceIdeal.Gen Cert.DwFf2ReferenceIdeal.Read

theorem ref_apply (x0 : Vec Ideal S4224x4096 .f32) (x1 : Vec Ideal S4224x1024 .f32) (q : Fin 4) (i : Fin 1024) (j : Fin 1024) :
    val_main_v6 (F := Ideal) x0 x1 (ix3 q i j) = Cert.DwFf2Ideal.RefValue.G x0 x1 (ix3 q i j) := by
  pointwise [val_main_v6, val_main_v5, val_main_v4, val_main_v2, val_main_v1, val_main_call0_v0,
    val_main_call0_cst, Cert.DwFf2Ideal.RefValue.G,
    Cert.DwFf2Ideal.RefValue.hidden]

  exact Finset.sum_congr rfl fun s _ => mul_comm _ _

end Cert.DwFf2ReferenceIdeal.RefValue

namespace Cert.Proof.DwFf2Claims

theorem frame_ref : Cert.quiescent_DwFf2ReferenceIdeal := fun m ρ _ =>
  (θ_run Cert.DwFf2ReferenceIdeal.defs _ _).mono (fun r h => ⟨fun c => (h c).2,
      Idealize.ShloMosaic.sem_eq_zero_of_no_sems (by decide) r.2⟩)
    (Cert.DwFf2ReferenceIdeal.Value.run (F := Ideal) m ρ)

theorem algebraic : Cert.algebraic_DwFf2Ideal_DwFf2ReferenceIdeal := by
  intro m ρ m' ρ' _ hagree
  refine ⟨fun c => Cert.DwFf2Ideal.RefValue.val m c, Cert.DwFf2Ideal.RefValue.run m ρ,
    (θ_run Cert.DwFf2ReferenceIdeal.defs _ _).mono (fun r h c => ⟨?_, (h c).2⟩)
      (Cert.DwFf2ReferenceIdeal.Value.run (F := Ideal) m' ρ')⟩
  refine (h c).1.trans ((Cert.DwFf2ReferenceIdeal.Read.val_main_v6_eq _ _).trans ?_)
  funext i
  rw [eq_ix3 i]
  refine (Cert.DwFf2ReferenceIdeal.RefValue.ref_apply _ _ _ _ _).trans ?_
  obtain ⟨e0, e1⟩ := hagree c
  rw [e0, e1]

end Cert.Proof.DwFf2Claims

end
-- ==== Proof.DwIn.lean ====
module

public import proofs.«01_k».proof.Defs
public import proofs.«01_k».proof.Proof.Gen.DwInIdeal.Value
public import proofs.«01_k».proof.Proof.Gen.DwInReferenceIdeal.Read
public import Idealize.ShloMosaic.Lib.Pointwise
public import Idealize.ShloMosaic.Lib.Quiescent

@[expose] public section

set_option maxRecDepth 16384

noncomputable section

open Idealize.ShloMosaic Idealize.ShloMosaic.TcCoe Idealize.SL.Sem

namespace Cert.DwInIdeal.RefValue

open Cert.DwInIdeal Cert.DwInIdeal.Gen Cert.DwInIdeal.Value

theorem hz2 : (![0, 0] : Fin 2 → Nat) = fun _ => 0 := by decide

/-- A block of the result: the product over all tokens. -/
theorem out_apply (x0 x1 : Vec Ideal S4224x1024 .bf16) (i j : Fin 1024) :
    out0_2 x0 x1 (ix2 i j) = ∑ t : Fin 4224, x0 (ix2 t i) * x1 (ix2 t j) := by
  unfold out0_2
  rw [View.canon_unit_zero hz2, View.ld_unit_zero hz2, View.ld_unit_zero hz2]
  pointwise [k0_pay1]

variable (m : (ℓ : Loc nD τ sig) → Buf (Elt Ideal) ℓ) (ρ : Dev nD → PrngReg)

theorem V_main_v0 (c : Dev nD) : V m c main_v0 = m ((c : Thread nD τ).loc main_arg0) := by
  simp only [V, hostOps0]; after_results; rfl
theorem V_main_v1 (c : Dev nD) : V m c main_v1 = m ((c : Thread nD τ).loc main_arg1) := by
  simp only [V, hostOps0]; after_results; rfl

theorem idx0 : ∀ t : Fin cfg0.N, win0_0.index t = ![0, 0] := (by decide +kernel : ∀ t : Fin grid0.N, _)
theorem idx1 : ∀ t : Fin cfg0.N, win0_1.index t = ![0, t.val] := (by decide +kernel : ∀ t : Fin grid0.N, _)
theorem idx2 : ∀ t : Fin cfg0.N, win0_2.index t = ![0, t.val] := (by decide +kernel : ∀ t : Fin grid0.N, _)

/-- The array column a block's column stands for. -/
def col (q : Fin 9) (j : Fin 1024) : Fin 9216 := ⟨q.val * 1024 + j.val, by omega⟩

theorem iblk0_apply (c : Dev nD) (t : Fin cfg0.N) (s : Fin 4224) (i : Fin 1024) :
    iblk m c 0 t (ix2 s i) = m ((c : Thread nD τ).loc main_arg0) (ix2 s i) := by
  rw [← V_main_v0 m c]
  refine congrArg (V m c main_v0) (funext fun a => Fin.ext ?_)
  match a with
  | ⟨0, _⟩ => show win0_0.index t 0 * 4224 + 1 * s.val = s.val; rw [idx0]; simp
  | ⟨1, _⟩ => show win0_0.index t 1 * 1024 + 1 * i.val = i.val; rw [idx0]; simp

theorem iblk1_apply (c : Dev nD) (t : Fin cfg0.N) (s : Fin 4224) (j : Fin 1024) :
    iblk m c 1 t (ix2 s j) = m ((c : Thread nD τ).loc main_arg1) (ix2 s (col t j)) := by
  rw [← V_main_v1 m c]
  refine congrArg (V m c main_v1) (funext fun a => Fin.ext ?_)
  match a with
  | ⟨0, _⟩ => show win0_1.index t 0 * 4224 + 1 * s.val = s.val; rw [idx1]; simp
  | ⟨1, _⟩ => show win0_1.index t 1 * 1024 + 1 * j.val = t.val * 1024 + j.val; rw [idx1]; simp

theorem emb2 (t : Fin cfg0.N) (i j : Fin 1024) :
    ((cfg0.win 2).blk t).view.emb (ix2 i j) = (ix2 i (col t j) : S1024x9216.Idx) := by
  funext a; apply Fin.ext
  match a with
  | ⟨0, _⟩ => show win0_2.index t 0 * 1024 + 1 * i.val = i.val; rw [idx2]; simp
  | ⟨1, _⟩ => show win0_2.index t 1 * 1024 + 1 * j.val = t.val * 1024 + j.val; rw [idx2]; simp

/-- The result as one function of the argument arrays. -/
def G (u : Vec Ideal S4224x1024 .f32) (dproj : Vec Ideal S4224x9216 .f32) : Vec Ideal S1024x9216 .f32 := fun i =>
  ∑ s : Fin 4224, u (ix2 s (i 0)) * dproj (ix2 s (i 1))

abbrev val (c : Dev nD) : Buf (Elt Ideal) ((c : Thread nD τ).loc main_v2) :=
  G (m ((c : Thread nD τ).loc main_arg0)) (m ((c : Thread nD τ).loc main_arg1))

theorem flushed2_eq (c : Dev nD) (t : Fin cfg0.N) :
    (dats m 0 c).flushed 2 t = ((cfg0.win 2).blk t).view.read (Elt Ideal) (val m c) := by
  rw [flushed2]
  funext y
  obtain ⟨i, j, rfl⟩ : ∃ i j : Fin 1024, y = ix2 i j := ⟨y 0, y 1, eq_ix2 y⟩
  refine (out_apply _ _ i j).trans (Eq.trans ?_ (congrArg (val m c) (emb2 t i j)).symm)
  simp only [iblk0_apply, iblk1_apply]
  rfl

theorem covered2 (i : S1024x9216.Idx) :
    ∃ t : Fin cfg0.N, (cfg0.win 2).flush t = true ∧ i ∈ ((cfg0.win 2).blk t).view.set := by
  obtain ⟨a, b, rfl⟩ : ∃ (a : Fin 1024) (b : Fin 9216), i = ix2 a b := ⟨i 0, i 1, eq_ix2 i⟩
  let t : Fin cfg0.N := ⟨b.val / 1024, by show _ < 9; omega⟩
  let j : Fin 1024 := ⟨b.val % 1024, by omega⟩
  refine ⟨t, flush0_2 _, ?_⟩
  have e : ((cfg0.win 2).blk t).view.emb (ix2 a j) = (ix2 a b : S1024x9216.Idx) :=
    (emb2 t a j).trans (congrArg (ix2 a) (Fin.ext (by show b.val / 1024 * 1024 + b.val % 1024 = b.val; omega)))
  exact (congrArg (· ∈ ((cfg0.win 2).blk t).view.set) e).mp (View.emb_mem_set _ _)

theorem run : θ_run defs (onTc (τ := τ) (main (F := Ideal))) ⟨m, fun _ => 0, ρ⟩ fun r => ∀ c : Dev nD,
      r.2.mem ((c : Thread nD τ).loc main_v2) = val m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans
    ((dats m 0 c).arrAt_eq_of_cover 2 (val m c) (fun t _ => flushed2_eq m c t) covered2), (h c).2⟩) (run_blocks m ρ)

end Cert.DwInIdeal.RefValue

namespace Cert.DwInReferenceIdeal.RefValue

open Cert.DwInReferenceIdeal Cert.DwInReferenceIdeal.Gen Cert.DwInReferenceIdeal.Read

theorem ref_apply (x0 : Vec Ideal S4224x1024 .f32) (x1 : Vec Ideal S4224x9216 .f32) (i : Fin 1024) (j : Fin 9216) :
    val_main_v3 (F := Ideal) x0 x1 (ix2 i j) = Cert.DwInIdeal.RefValue.G x0 x1 (ix2 i j) := by
  pointwise [val_main_v3, val_main_v2, Cert.DwInIdeal.RefValue.G]
  exact Finset.sum_congr rfl fun s _ => mul_comm _ _

end Cert.DwInReferenceIdeal.RefValue

namespace Cert.Proof.DwInClaims

theorem frame_ref : Cert.quiescent_DwInReferenceIdeal := fun m ρ _ =>
  (θ_run Cert.DwInReferenceIdeal.defs _ _).mono (fun r h => ⟨fun c => (h c).2,
      Idealize.ShloMosaic.sem_eq_zero_of_no_sems (by decide) r.2⟩)
    (Cert.DwInReferenceIdeal.Value.run (F := Ideal) m ρ)

theorem algebraic : Cert.algebraic_DwInIdeal_DwInReferenceIdeal := by
  intro m ρ m' ρ' _ hagree
  refine ⟨fun c => Cert.DwInIdeal.RefValue.val m c, Cert.DwInIdeal.RefValue.run m ρ,
    (θ_run Cert.DwInReferenceIdeal.defs _ _).mono (fun r h c => ⟨?_, (h c).2⟩)
      (Cert.DwInReferenceIdeal.Value.run (F := Ideal) m' ρ')⟩
  refine (h c).1.trans ((Cert.DwInReferenceIdeal.Read.val_main_v3_eq _ _).trans ?_)
  funext i
  rw [eq_ix2 i]
  refine (Cert.DwInReferenceIdeal.RefValue.ref_apply _ _ _ _).trans ?_
  obtain ⟨e0, e1⟩ := hagree c
  rw [e0, e1]

end Cert.Proof.DwInClaims

end
-- ==== Proof.DwO.lean ====
module

public import proofs.«01_k».proof.Defs
public import proofs.«01_k».proof.Proof.Gen.DwOIdeal.Value
public import proofs.«01_k».proof.Proof.Gen.DwOReferenceIdeal.Read
public import Idealize.ShloMosaic.Lib.Pointwise
public import Idealize.ShloMosaic.Lib.Quiescent

@[expose] public section

set_option maxRecDepth 16384

noncomputable section

open Idealize.ShloMosaic Idealize.ShloMosaic.TcCoe Idealize.SL.Sem

namespace Cert.DwOIdeal.RefValue

open Cert.DwOIdeal Cert.DwOIdeal.Gen Cert.DwOIdeal.Value

theorem hz2 : (![0, 0] : Fin 2 → Nat) = fun _ => 0 := by decide
theorem hz3 : (![0, 0, 0] : Fin 3 → Nat) = fun _ => 0 := by decide

/-- A block of the result: the product over all tokens. -/
theorem out_apply (x0 : Vec Ideal S4224x256 .bf16) (x1 : Vec Ideal S4224x1024 .bf16) (i : Fin 256) (j : Fin 1024) :
    out0_2 x0 x1 (ix3 0 i j) = ∑ t : Fin 4224, x0 (ix2 t i) * x1 (ix2 t j) := by
  unfold out0_2
  rw [View.canon_unit_zero hz3, View.ld_unit_zero hz2, View.ld_unit_zero hz2]
  pointwise [k0_pay1]

variable (m : (ℓ : Loc nD τ sig) → Buf (Elt Ideal) ℓ) (ρ : Dev nD → PrngReg)

theorem V_main_v0 (c : Dev nD) : V m c main_v0 = m ((c : Thread nD τ).loc main_arg0) := by
  simp only [V, hostOps0]; after_results; rfl
theorem V_main_v1 (c : Dev nD) : V m c main_v1 = m ((c : Thread nD τ).loc main_arg1) := by
  simp only [V, hostOps0]; after_results; rfl

theorem idx0 : ∀ t : Fin cfg0.N, win0_0.index t = ![0, t.val] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0, 0] := (by decide +kernel : ∀ t : Fin grid0.N, _)

/-- The array column a shard's row stands for. -/
def col (q : Fin 4) (i : Fin 256) : Fin 1024 := ⟨q.val * 256 + i.val, by omega⟩

theorem iblk0_apply (c : Dev nD) (t : Fin cfg0.N) (s : Fin 4224) (i : Fin 256) :
    iblk m c 0 t (ix2 s i) = m ((c : Thread nD τ).loc main_arg0) (ix2 s (col t i)) := by
  rw [← V_main_v0 m c]
  refine congrArg (V m c main_v0) (funext fun a => Fin.ext ?_)
  match a with
  | ⟨0, _⟩ => show win0_0.index t 0 * 4224 + 1 * s.val = s.val; rw [idx0]; simp
  | ⟨1, _⟩ => show win0_0.index t 1 * 256 + 1 * i.val = t.val * 256 + i.val; rw [idx0]; simp

theorem iblk1_apply (c : Dev nD) (t : Fin cfg0.N) (s : Fin 4224) (j : Fin 1024) :
    iblk m c 1 t (ix2 s j) = m ((c : Thread nD τ).loc main_arg1) (ix2 s j) := by
  rw [← V_main_v1 m c]
  refine congrArg (V m c main_v1) (funext fun a => Fin.ext ?_)
  match a with
  | ⟨0, _⟩ => show win0_1.index t 0 * 4224 + 1 * s.val = s.val; rw [idx1]; simp
  | ⟨1, _⟩ => show win0_1.index t 1 * 1024 + 1 * j.val = j.val; rw [idx1]; simp

theorem emb2 (t : Fin cfg0.N) (i : Fin 256) (j : Fin 1024) :
    ((cfg0.win 2).blk t).view.emb (ix3 0 i j) = (ix3 t i j : S4x256x1024.Idx) := by
  funext a; apply Fin.ext
  match a with
  | ⟨0, _⟩ => show win0_2.index t 0 * 1 + 1 * 0 = t.val; rw [idx2]; simp
  | ⟨1, _⟩ => show win0_2.index t 1 * 256 + 1 * i.val = i.val; rw [idx2]; simp
  | ⟨2, _⟩ => show win0_2.index t 2 * 1024 + 1 * j.val = j.val; rw [idx2]; simp

/-- The result as one function of the argument arrays. -/
def G (x : Vec Ideal S4224x1024 .f32) (dy : Vec Ideal S4224x1024 .f32) : Vec Ideal S4x256x1024 .f32 := fun i =>
  ∑ s : Fin 4224, x (ix2 s (col (i 0) (i 1))) * dy (ix2 s (i 2))

abbrev val (c : Dev nD) : Buf (Elt Ideal) ((c : Thread nD τ).loc main_v2) :=
  G (m ((c : Thread nD τ).loc main_arg0)) (m ((c : Thread nD τ).loc main_arg1))

theorem flushed2_eq (c : Dev nD) (t : Fin cfg0.N) :
    (dats m 0 c).flushed 2 t = ((cfg0.win 2).blk t).view.read (Elt Ideal) (val m c) := by
  rw [flushed2]
  funext y
  obtain ⟨i, j, rfl⟩ : ∃ (i : Fin 256) (j : Fin 1024), y = ix3 0 i j :=
    ⟨y 1, y 2, (eq_ix3 y).trans (congrArg (ix3 · (y 1) (y 2)) (Subsingleton.elim (α := Fin 1) _ _))⟩
  refine (out_apply _ _ i j).trans (Eq.trans ?_ (congrArg (val m c) (emb2 t i j)).symm)
  simp only [iblk0_apply, iblk1_apply]
  rfl

theorem covered2 (i : S4x256x1024.Idx) :
    ∃ t : Fin cfg0.N, (cfg0.win 2).flush t = true ∧ i ∈ ((cfg0.win 2).blk t).view.set := by
  obtain ⟨t, a, b, rfl⟩ : ∃ (t : Fin 4) (a : Fin 256) (b : Fin 1024), i = ix3 t a b := ⟨i 0, i 1, i 2, eq_ix3 i⟩
  refine ⟨(t : Fin cfg0.N), flush0_2 _, ?_⟩
  exact (congrArg (· ∈ ((cfg0.win 2).blk (t : Fin cfg0.N)).view.set) (emb2 t a b)).mp (View.emb_mem_set _ _)

theorem run : θ_run defs (onTc (τ := τ) (main (F := Ideal))) ⟨m, fun _ => 0, ρ⟩ fun r => ∀ c : Dev nD,
      r.2.mem ((c : Thread nD τ).loc main_v2) = val m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans
    ((dats m 0 c).arrAt_eq_of_cover 2 (val m c) (fun t _ => flushed2_eq m c t) covered2), (h c).2⟩) (run_blocks m ρ)

end Cert.DwOIdeal.RefValue

namespace Cert.DwOReferenceIdeal.RefValue

open Cert.DwOReferenceIdeal Cert.DwOReferenceIdeal.Gen Cert.DwOReferenceIdeal.Read

theorem ref_apply (x0 : Vec Ideal S4224x1024 .f32) (x1 : Vec Ideal S4224x1024 .f32) (q : Fin 4) (i : Fin 256) (j : Fin 1024) :
    val_main_v4 (F := Ideal) x0 x1 (ix3 q i j) = Cert.DwOIdeal.RefValue.G x0 x1 (ix3 q i j) := by
  pointwise [val_main_v4, val_main_v3, val_main_v2, Cert.DwOIdeal.RefValue.G]
  exact Finset.sum_congr rfl fun s _ => mul_comm _ _

end Cert.DwOReferenceIdeal.RefValue

namespace Cert.Proof.DwOClaims

theorem frame_ref : Cert.quiescent_DwOReferenceIdeal := fun m ρ _ =>
  (θ_run Cert.DwOReferenceIdeal.defs _ _).mono (fun r h => ⟨fun c => (h c).2,
      Idealize.ShloMosaic.sem_eq_zero_of_no_sems (by decide) r.2⟩)
    (Cert.DwOReferenceIdeal.Value.run (F := Ideal) m ρ)

theorem algebraic : Cert.algebraic_DwOIdeal_DwOReferenceIdeal := by
  intro m ρ m' ρ' _ hagree
  refine ⟨fun c => Cert.DwOIdeal.RefValue.val m c, Cert.DwOIdeal.RefValue.run m ρ,
    (θ_run Cert.DwOReferenceIdeal.defs _ _).mono (fun r h c => ⟨?_, (h c).2⟩)
      (Cert.DwOReferenceIdeal.Value.run (F := Ideal) m' ρ')⟩
  refine (h c).1.trans ((Cert.DwOReferenceIdeal.Read.val_main_v4_eq _ _).trans ?_)
  funext i
  rw [eq_ix3 i]
  refine (Cert.DwOReferenceIdeal.RefValue.ref_apply _ _ _ _ _).trans ?_
  obtain ⟨e0, e1⟩ := hagree c
  rw [e0, e1]

end Cert.Proof.DwOClaims

end
-- ==== Proof.DwSsdOut.lean ====
module

public import proofs.«01_k».proof.Defs
public import proofs.«01_k».proof.Proof.Gen.DwSsdOutIdeal.Value
public import proofs.«01_k».proof.Proof.Gen.DwSsdOutReferenceIdeal.Read
public import Idealize.ShloMosaic.Lib.Pointwise
public import Idealize.ShloMosaic.Lib.Quiescent

@[expose] public section

set_option maxRecDepth 16384

noncomputable section

open Idealize.ShloMosaic Idealize.ShloMosaic.TcCoe Idealize.SL.Sem

namespace Cert.DwSsdOutIdeal.RefValue

open Cert.DwSsdOutIdeal Cert.DwSsdOutIdeal.Gen Cert.DwSsdOutIdeal.Value

theorem hz2 : (![0, 0] : Fin 2 → Nat) = fun _ => 0 := by decide
theorem hz3 : (![0, 0, 0] : Fin 3 → Nat) = fun _ => 0 := by decide

/-- A block of the result: the product over all tokens. -/
theorem out_apply (x0 : Vec Ideal S4224x512 .bf16) (x1 : Vec Ideal S4224x1024 .bf16) (i : Fin 512) (j : Fin 1024) :
    out0_2 x0 x1 (ix3 0 i j) = ∑ t : Fin 4224, x0 (ix2 t i) * x1 (ix2 t j) := by
  unfold out0_2
  rw [View.canon_unit_zero hz3, View.ld_unit_zero hz2, View.ld_unit_zero hz2]
  pointwise [k0_pay1]

variable (m : (ℓ : Loc nD τ sig) → Buf (Elt Ideal) ℓ) (ρ : Dev nD → PrngReg)

theorem V_main_v0 (c : Dev nD) : V m c main_v0 = m ((c : Thread nD τ).loc main_arg0) := by
  simp only [V, hostOps0]; after_results; rfl
theorem V_main_v1 (c : Dev nD) : V m c main_v1 = m ((c : Thread nD τ).loc main_arg1) := by
  simp only [V, hostOps0]; after_results; rfl

theorem idx0 : ∀ t : Fin cfg0.N, win0_0.index t = ![0, t.val] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0, 0] := (by decide +kernel : ∀ t : Fin grid0.N, _)

/-- The array column a shard's row stands for. -/
def col (q : Fin 4) (i : Fin 512) : Fin 2048 := ⟨q.val * 512 + i.val, by omega⟩

theorem iblk0_apply (c : Dev nD) (t : Fin cfg0.N) (s : Fin 4224) (i : Fin 512) :
    iblk m c 0 t (ix2 s i) = m ((c : Thread nD τ).loc main_arg0) (ix2 s (col t i)) := by
  rw [← V_main_v0 m c]
  refine congrArg (V m c main_v0) (funext fun a => Fin.ext ?_)
  match a with
  | ⟨0, _⟩ => show win0_0.index t 0 * 4224 + 1 * s.val = s.val; rw [idx0]; simp
  | ⟨1, _⟩ => show win0_0.index t 1 * 512 + 1 * i.val = t.val * 512 + i.val; rw [idx0]; simp

theorem iblk1_apply (c : Dev nD) (t : Fin cfg0.N) (s : Fin 4224) (j : Fin 1024) :
    iblk m c 1 t (ix2 s j) = m ((c : Thread nD τ).loc main_arg1) (ix2 s j) := by
  rw [← V_main_v1 m c]
  refine congrArg (V m c main_v1) (funext fun a => Fin.ext ?_)
  match a with
  | ⟨0, _⟩ => show win0_1.index t 0 * 4224 + 1 * s.val = s.val; rw [idx1]; simp
  | ⟨1, _⟩ => show win0_1.index t 1 * 1024 + 1 * j.val = j.val; rw [idx1]; simp

theorem emb2 (t : Fin cfg0.N) (i : Fin 512) (j : Fin 1024) :
    ((cfg0.win 2).blk t).view.emb (ix3 0 i j) = (ix3 t i j : S4x512x1024.Idx) := by
  funext a; apply Fin.ext
  match a with
  | ⟨0, _⟩ => show win0_2.index t 0 * 1 + 1 * 0 = t.val; rw [idx2]; simp
  | ⟨1, _⟩ => show win0_2.index t 1 * 512 + 1 * i.val = i.val; rw [idx2]; simp
  | ⟨2, _⟩ => show win0_2.index t 2 * 1024 + 1 * j.val = j.val; rw [idx2]; simp

/-- The result as one function of the argument arrays. -/
def G (x : Vec Ideal S4224x2048 .f32) (dy : Vec Ideal S4224x1024 .f32) : Vec Ideal S4x512x1024 .f32 := fun i =>
  ∑ s : Fin 4224, x (ix2 s (col (i 0) (i 1))) * dy (ix2 s (i 2))

abbrev val (c : Dev nD) : Buf (Elt Ideal) ((c : Thread nD τ).loc main_v2) :=
  G (m ((c : Thread nD τ).loc main_arg0)) (m ((c : Thread nD τ).loc main_arg1))

theorem flushed2_eq (c : Dev nD) (t : Fin cfg0.N) :
    (dats m 0 c).flushed 2 t = ((cfg0.win 2).blk t).view.read (Elt Ideal) (val m c) := by
  rw [flushed2]
  funext y
  obtain ⟨i, j, rfl⟩ : ∃ (i : Fin 512) (j : Fin 1024), y = ix3 0 i j :=
    ⟨y 1, y 2, (eq_ix3 y).trans (congrArg (ix3 · (y 1) (y 2)) (Subsingleton.elim (α := Fin 1) _ _))⟩
  refine (out_apply _ _ i j).trans (Eq.trans ?_ (congrArg (val m c) (emb2 t i j)).symm)
  simp only [iblk0_apply, iblk1_apply]
  rfl

theorem covered2 (i : S4x512x1024.Idx) :
    ∃ t : Fin cfg0.N, (cfg0.win 2).flush t = true ∧ i ∈ ((cfg0.win 2).blk t).view.set := by
  obtain ⟨t, a, b, rfl⟩ : ∃ (t : Fin 4) (a : Fin 512) (b : Fin 1024), i = ix3 t a b := ⟨i 0, i 1, i 2, eq_ix3 i⟩
  refine ⟨(t : Fin cfg0.N), flush0_2 _, ?_⟩
  exact (congrArg (· ∈ ((cfg0.win 2).blk (t : Fin cfg0.N)).view.set) (emb2 t a b)).mp (View.emb_mem_set _ _)

theorem run : θ_run defs (onTc (τ := τ) (main (F := Ideal))) ⟨m, fun _ => 0, ρ⟩ fun r => ∀ c : Dev nD,
      r.2.mem ((c : Thread nD τ).loc main_v2) = val m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans
    ((dats m 0 c).arrAt_eq_of_cover 2 (val m c) (fun t _ => flushed2_eq m c t) covered2), (h c).2⟩) (run_blocks m ρ)

end Cert.DwSsdOutIdeal.RefValue

namespace Cert.DwSsdOutReferenceIdeal.RefValue

open Cert.DwSsdOutReferenceIdeal Cert.DwSsdOutReferenceIdeal.Gen Cert.DwSsdOutReferenceIdeal.Read

theorem ref_apply (x0 : Vec Ideal S4224x2048 .f32) (x1 : Vec Ideal S4224x1024 .f32) (q : Fin 4) (i : Fin 512) (j : Fin 1024) :
    val_main_v4 (F := Ideal) x0 x1 (ix3 q i j) = Cert.DwSsdOutIdeal.RefValue.G x0 x1 (ix3 q i j) := by
  pointwise [val_main_v4, val_main_v3, val_main_v2, Cert.DwSsdOutIdeal.RefValue.G]
  exact Finset.sum_congr rfl fun s _ => mul_comm _ _

end Cert.DwSsdOutReferenceIdeal.RefValue

namespace Cert.Proof.DwSsdOutClaims

theorem frame_ref : Cert.quiescent_DwSsdOutReferenceIdeal := fun m ρ _ =>
  (θ_run Cert.DwSsdOutReferenceIdeal.defs _ _).mono (fun r h => ⟨fun c => (h c).2,
      Idealize.ShloMosaic.sem_eq_zero_of_no_sems (by decide) r.2⟩)
    (Cert.DwSsdOutReferenceIdeal.Value.run (F := Ideal) m ρ)

theorem algebraic : Cert.algebraic_DwSsdOutIdeal_DwSsdOutReferenceIdeal := by
  intro m ρ m' ρ' _ hagree
  refine ⟨fun c => Cert.DwSsdOutIdeal.RefValue.val m c, Cert.DwSsdOutIdeal.RefValue.run m ρ,
    (θ_run Cert.DwSsdOutReferenceIdeal.defs _ _).mono (fun r h c => ⟨?_, (h c).2⟩)
      (Cert.DwSsdOutReferenceIdeal.Value.run (F := Ideal) m' ρ')⟩
  refine (h c).1.trans ((Cert.DwSsdOutReferenceIdeal.Read.val_main_v4_eq _ _).trans ?_)
  funext i
  rw [eq_ix3 i]
  refine (Cert.DwSsdOutReferenceIdeal.RefValue.ref_apply _ _ _ _ _).trans ?_
  obtain ⟨e0, e1⟩ := hagree c
  rw [e0, e1]

end Cert.Proof.DwSsdOutClaims

end
-- ==== Proof.Dyn.lean ====
module

public import proofs.«01_k».proof.Defs
public import proofs.«01_k».proof.Proof.Gen.DynIdeal.Value
public import proofs.«01_k».proof.Proof.Gen.DynReferenceIdeal.Read
public import Idealize.ShloMosaic.Lib.Pointwise
public import Idealize.ShloMosaic.Lib.Quiescent

@[expose] public section

set_option maxRecDepth 16384

noncomputable section

open Idealize.ShloMosaic Idealize.ShloMosaic.TcCoe Idealize.SL.Sem

namespace Cert.DynIdeal.RefValue

open Cert.DynIdeal Cert.DynIdeal.Gen Cert.DynIdeal.Value

theorem hz2 : (![0, 0] : Fin 2 → Nat) = fun _ => 0 := by decide
theorem hz4 : (![0, 0, 0, 0] : Fin 4 → Nat) = fun _ => 0 := by decide

/-- A block of the result. -/
theorem out_apply (x0 : Vec Ideal S1408x1024 .bf16) (x1 : Vec Ideal S1x1x512x1024 .f32) (r : Fin 1408) (l : Fin 512) :
    out0_2 x0 x1 (ix2 r l) = ∑ k : Fin 1024, x0 (ix2 r k) * x1 (ix4 0 0 l k) := by
  unfold out0_2
  rw [View.canon_unit_zero hz2, View.ld_unit_zero hz2, View.ld_unit_zero hz4]
  pointwise [k0_pay1]

variable (m : (ℓ : Loc nD τ sig) → Buf (Elt Ideal) ℓ) (ρ : Dev nD → PrngReg)

/-- The weight as the region finds it: the argument with its rows in four groups. -/
theorem V_main_v0 (c : Dev nD) : V m c main_v0
    = shapeCast S1x4x512x1024 (m ((c : Thread nD τ).loc main_arg1)) shapeCasts_S2048x1024_S1x4x512x1024 := by
  simp only [V, hostOps0]; after_results; rfl
theorem V_main_v1 (c : Dev nD) : V m c main_v1 = m ((c : Thread nD τ).loc main_arg0) := by
  simp only [V, hostOps0]; after_results; rfl

theorem idx0 : ∀ t : Fin cfg0.N, win0_0.index t = ![t.val / 4, 0] := (by decide +kernel : ∀ t : Fin grid0.N, _)
theorem idx1 : ∀ t : Fin cfg0.N, win0_1.index t = ![0, t.val % 4, 0, 0] := (by decide +kernel : ∀ t : Fin grid0.N, _)
theorem idx2 : ∀ t : Fin cfg0.N, win0_2.index t = ![t.val / 4, t.val % 4] := (by decide +kernel : ∀ t : Fin grid0.N, _)

/-- The array row of a block's row, and the array column of a block's column. -/
def row (t : Fin cfg0.N) (r : Fin 1408) : Fin 4224 :=
  ⟨t.val / 4 * 1408 + r.val, by have h : t.val < 12 := t.isLt; omega⟩
def col (t : Fin cfg0.N) (l : Fin 512) : Fin 2048 := ⟨t.val % 4 * 512 + l.val, by omega⟩

theorem iblk0_apply (c : Dev nD) (t : Fin cfg0.N) (r : Fin 1408) (k : Fin 1024) :
    iblk m c 0 t (ix2 r k) = m ((c : Thread nD τ).loc main_arg0) (ix2 (row t r) k) := by
  rw [← V_main_v1 m c]
  refine congrArg (V m c main_v1) (funext fun a => Fin.ext ?_)
  match a with
  | ⟨0, _⟩ => show win0_0.index t 0 * 1408 + 1 * r.val = t.val / 4 * 1408 + r.val; rw [idx0]; simp
  | ⟨1, _⟩ => show win0_0.index t 1 * 1024 + 1 * k.val = k.val; rw [idx0]; simp

/-- The regrouped weight at an index. -/
theorem cast_apply (w : Vec Ideal S2048x1024 .f32) (t : Fin cfg0.N) (l : Fin 512) (k : Fin 1024) :
    shapeCast S1x4x512x1024 w shapeCasts_S2048x1024_S1x4x512x1024 (ix4 0 ⟨t.val % 4, by omega⟩ l k)
      = w (ix2 (col t l) k) := by
  pointwise
  rfl

theorem iblk1_apply (c : Dev nD) (t : Fin cfg0.N) (l : Fin 512) (k : Fin 1024) :
    iblk m c 1 t (ix4 0 0 l k) = m ((c : Thread nD τ).loc main_arg1) (ix2 (col t l) k) := by
  have h : iblk m c 1 t (ix4 0 0 l k) = V m c main_v0 (ix4 0 ⟨t.val % 4, by omega⟩ l k) := by
    refine congrArg (V m c main_v0) (funext fun a => Fin.ext ?_)
    match a with
    | ⟨0, _⟩ => show win0_1.index t 0 * 1 + 1 * 0 = 0; rw [idx1]; simp
    | ⟨1, _⟩ => show win0_1.index t 1 * 1 + 1 * 0 = t.val % 4; rw [idx1]; simp
    | ⟨2, _⟩ => show win0_1.index t 2 * 512 + 1 * l.val = l.val; rw [idx1]; simp
    | ⟨3, _⟩ => show win0_1.index t 3 * 1024 + 1 * k.val = k.val; rw [idx1]; simp
  rw [h, V_main_v0]
  exact cast_apply _ _ _ _

theorem emb2 (t : Fin cfg0.N) (r : Fin 1408) (l : Fin 512) :
    ((cfg0.win 2).blk t).view.emb (ix2 r l) = (ix2 (row t r) (col t l) : S4224x2048.Idx) := by
  funext a; apply Fin.ext
  match a with
  | ⟨0, _⟩ => show win0_2.index t 0 * 1408 + 1 * r.val = t.val / 4 * 1408 + r.val; rw [idx2]; simp
  | ⟨1, _⟩ => show win0_2.index t 1 * 512 + 1 * l.val = t.val % 4 * 512 + l.val; rw [idx2]; simp

/-- The result as one function of the argument arrays. -/
def G (dy : Vec Ideal S4224x1024 .f32) (w : Vec Ideal S2048x1024 .f32) : Vec Ideal S4224x2048 .f32 := fun i =>
  ∑ k : Fin 1024, dy (ix2 (i 0) k) * w (ix2 (i 1) k)

abbrev val (c : Dev nD) : Buf (Elt Ideal) ((c : Thread nD τ).loc main_v2) :=
  G (m ((c : Thread nD τ).loc main_arg0)) (m ((c : Thread nD τ).loc main_arg1))

theorem flushed2_eq (c : Dev nD) (t : Fin cfg0.N) :
    (dats m 0 c).flushed 2 t = ((cfg0.win 2).blk t).view.read (Elt Ideal) (val m c) := by
  rw [flushed2]
  funext j
  obtain ⟨r, l, rfl⟩ : ∃ (r : Fin 1408) (l : Fin 512), j = ix2 r l := ⟨j 0, j 1, eq_ix2 j⟩
  refine (out_apply _ _ r l).trans (Eq.trans ?_ (congrArg (val m c) (emb2 t r l)).symm)
  simp only [iblk0_apply, iblk1_apply]
  rfl

theorem covered2 (i : S4224x2048.Idx) :
    ∃ t : Fin cfg0.N, (cfg0.win 2).flush t = true ∧ i ∈ ((cfg0.win 2).blk t).view.set := by
  obtain ⟨a, b, rfl⟩ : ∃ (a : Fin 4224) (b : Fin 2048), i = ix2 a b := ⟨i 0, i 1, eq_ix2 i⟩
  let t : Fin cfg0.N := ⟨a.val / 1408 * 4 + b.val / 512, by show _ < 12; omega⟩
  refine ⟨t, flush0_2 _, ?_⟩
  have e : ((cfg0.win 2).blk t).view.emb (ix2 ⟨a.val % 1408, by omega⟩ ⟨b.val % 512, by omega⟩) = (ix2 a b : S4224x2048.Idx) := by
    refine (emb2 t _ _).trans (congrArg₂ ix2 (Fin.ext ?_) (Fin.ext ?_))
    · show (a.val / 1408 * 4 + b.val / 512) / 4 * 1408 + a.val % 1408 = a.val; omega
    · show (a.val / 1408 * 4 + b.val / 512) % 4 * 512 + b.val % 512 = b.val; omega
  exact (congrArg (· ∈ ((cfg0.win 2).blk t).view.set) e).mp (View.emb_mem_set _ _)

theorem run : θ_run defs (onTc (τ := τ) (main (F := Ideal))) ⟨m, fun _ => 0, ρ⟩ fun r => ∀ c : Dev nD,
      r.2.mem ((c : Thread nD τ).loc main_v2) = val m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans
    ((dats m 0 c).arrAt_eq_of_cover 2 (val m c) (fun t _ => flushed2_eq m c t) covered2), (h c).2⟩) (run_blocks m ρ)

end Cert.DynIdeal.RefValue

namespace Cert.DynReferenceIdeal.RefValue

open Cert.DynReferenceIdeal Cert.DynReferenceIdeal.Gen Cert.DynReferenceIdeal.Read

theorem ref_apply (x0 : Vec Ideal S4224x1024 .f32) (x1 : Vec Ideal S2048x1024 .f32) (i : Fin 4224) (j : Fin 2048) :
    val_main_v2 (F := Ideal) x0 x1 (ix2 i j) = Cert.DynIdeal.RefValue.G x0 x1 (ix2 i j) := by
  pointwise [val_main_v2, Cert.DynIdeal.RefValue.G]

end Cert.DynReferenceIdeal.RefValue

namespace Cert.Proof.DynClaims

theorem frame_ref : Cert.quiescent_DynReferenceIdeal := fun m ρ _ =>
  (θ_run Cert.DynReferenceIdeal.defs _ _).mono (fun r h => ⟨fun c => (h c).2,
      Idealize.ShloMosaic.sem_eq_zero_of_no_sems (by decide) r.2⟩)
    (Cert.DynReferenceIdeal.Value.run (F := Ideal) m ρ)

theorem algebraic : Cert.algebraic_DynIdeal_DynReferenceIdeal := by
  intro m ρ m' ρ' _ hagree
  refine ⟨fun c => Cert.DynIdeal.RefValue.val m c, Cert.DynIdeal.RefValue.run m ρ,
    (θ_run Cert.DynReferenceIdeal.defs _ _).mono (fun r h c => ⟨?_, (h c).2⟩) (Cert.DynReferenceIdeal.Value.run (F := Ideal) m' ρ')⟩
  refine (h c).1.trans ((Cert.DynReferenceIdeal.Read.val_main_v2_eq _ _).trans ?_)
  funext i
  rw [eq_ix2 i]
  refine (Cert.DynReferenceIdeal.RefValue.ref_apply _ _ _ _).trans ?_
  obtain ⟨e0, e1⟩ := hagree c
  rw [e0, e1]

end Cert.Proof.DynClaims

end
-- ==== Proof.Dmerged.lean ====
module

public import proofs.«01_k».proof.Defs
public import proofs.«01_k».proof.Proof.Gen.DmergedIdeal.Value
public import proofs.«01_k».proof.Proof.Gen.DmergedReferenceIdeal.Read
public import Idealize.ShloMosaic.Lib.Pointwise
public import Idealize.ShloMosaic.Lib.Quiescent

@[expose] public section

set_option maxRecDepth 16384

noncomputable section

open Idealize.ShloMosaic Idealize.ShloMosaic.TcCoe Idealize.SL.Sem

namespace Cert.DmergedIdeal.RefValue

open Cert.DmergedIdeal Cert.DmergedIdeal.Gen Cert.DmergedIdeal.Value

theorem hz2 : (![0, 0] : Fin 2 → Nat) = fun _ => 0 := by decide
theorem hz4 : (![0, 0, 0, 0] : Fin 4 → Nat) = fun _ => 0 := by decide

/-- A block of the result. -/
theorem out_apply (x0 : Vec Ideal S1408x1024 .bf16) (x1 : Vec Ideal S1x1x256x1024 .f32) (r : Fin 1408) (l : Fin 256) :
    out0_2 x0 x1 (ix2 r l) = ∑ k : Fin 1024, x0 (ix2 r k) * x1 (ix4 0 0 l k) := by
  unfold out0_2
  rw [View.canon_unit_zero hz2, View.ld_unit_zero hz2, View.ld_unit_zero hz4]
  pointwise [k0_pay1]

variable (m : (ℓ : Loc nD τ sig) → Buf (Elt Ideal) ℓ) (ρ : Dev nD → PrngReg)

/-- The weight as the region finds it: the argument with its rows in four groups. -/
theorem V_main_v0 (c : Dev nD) : V m c main_v0
    = shapeCast S1x4x256x1024 (m ((c : Thread nD τ).loc main_arg1)) shapeCasts_S1024x1024_S1x4x256x1024 := by
  simp only [V, hostOps0]; after_results; rfl
theorem V_main_v1 (c : Dev nD) : V m c main_v1 = m ((c : Thread nD τ).loc main_arg0) := by
  simp only [V, hostOps0]; after_results; rfl

theorem idx0 : ∀ t : Fin cfg0.N, win0_0.index t = ![t.val / 4, 0] := (by decide +kernel : ∀ t : Fin grid0.N, _)
theorem idx1 : ∀ t : Fin cfg0.N, win0_1.index t = ![0, t.val % 4, 0, 0] := (by decide +kernel : ∀ t : Fin grid0.N, _)
theorem idx2 : ∀ t : Fin cfg0.N, win0_2.index t = ![t.val / 4, t.val % 4] := (by decide +kernel : ∀ t : Fin grid0.N, _)

/-- The array row of a block's row, and the array column of a block's column. -/
def row (t : Fin cfg0.N) (r : Fin 1408) : Fin 4224 :=
  ⟨t.val / 4 * 1408 + r.val, by have h : t.val < 12 := t.isLt; omega⟩
def col (t : Fin cfg0.N) (l : Fin 256) : Fin 1024 := ⟨t.val % 4 * 256 + l.val, by omega⟩

theorem iblk0_apply (c : Dev nD) (t : Fin cfg0.N) (r : Fin 1408) (k : Fin 1024) :
    iblk m c 0 t (ix2 r k) = m ((c : Thread nD τ).loc main_arg0) (ix2 (row t r) k) := by
  rw [← V_main_v1 m c]
  refine congrArg (V m c main_v1) (funext fun a => Fin.ext ?_)
  match a with
  | ⟨0, _⟩ => show win0_0.index t 0 * 1408 + 1 * r.val = t.val / 4 * 1408 + r.val; rw [idx0]; simp
  | ⟨1, _⟩ => show win0_0.index t 1 * 1024 + 1 * k.val = k.val; rw [idx0]; simp

/-- The regrouped weight at an index. -/
theorem cast_apply (w : Vec Ideal S1024x1024 .f32) (t : Fin cfg0.N) (l : Fin 256) (k : Fin 1024) :
    shapeCast S1x4x256x1024 w shapeCasts_S1024x1024_S1x4x256x1024 (ix4 0 ⟨t.val % 4, by omega⟩ l k)
      = w (ix2 (col t l) k) := by
  pointwise
  rfl

theorem iblk1_apply (c : Dev nD) (t : Fin cfg0.N) (l : Fin 256) (k : Fin 1024) :
    iblk m c 1 t (ix4 0 0 l k) = m ((c : Thread nD τ).loc main_arg1) (ix2 (col t l) k) := by
  have h : iblk m c 1 t (ix4 0 0 l k) = V m c main_v0 (ix4 0 ⟨t.val % 4, by omega⟩ l k) := by
    refine congrArg (V m c main_v0) (funext fun a => Fin.ext ?_)
    match a with
    | ⟨0, _⟩ => show win0_1.index t 0 * 1 + 1 * 0 = 0; rw [idx1]; simp
    | ⟨1, _⟩ => show win0_1.index t 1 * 1 + 1 * 0 = t.val % 4; rw [idx1]; simp
    | ⟨2, _⟩ => show win0_1.index t 2 * 256 + 1 * l.val = l.val; rw [idx1]; simp
    | ⟨3, _⟩ => show win0_1.index t 3 * 1024 + 1 * k.val = k.val; rw [idx1]; simp
  rw [h, V_main_v0]
  exact cast_apply _ _ _ _

theorem emb2 (t : Fin cfg0.N) (r : Fin 1408) (l : Fin 256) :
    ((cfg0.win 2).blk t).view.emb (ix2 r l) = (ix2 (row t r) (col t l) : S4224x1024.Idx) := by
  funext a; apply Fin.ext
  match a with
  | ⟨0, _⟩ => show win0_2.index t 0 * 1408 + 1 * r.val = t.val / 4 * 1408 + r.val; rw [idx2]; simp
  | ⟨1, _⟩ => show win0_2.index t 1 * 256 + 1 * l.val = t.val % 4 * 256 + l.val; rw [idx2]; simp

/-- The result as one function of the argument arrays. -/
def G (dy : Vec Ideal S4224x1024 .f32) (w : Vec Ideal S1024x1024 .f32) : Vec Ideal S4224x1024 .f32 := fun i =>
  ∑ k : Fin 1024, dy (ix2 (i 0) k) * w (ix2 (i 1) k)

abbrev val (c : Dev nD) : Buf (Elt Ideal) ((c : Thread nD τ).loc main_v2) :=
  G (m ((c : Thread nD τ).loc main_arg0)) (m ((c : Thread nD τ).loc main_arg1))

theorem flushed2_eq (c : Dev nD) (t : Fin cfg0.N) :
    (dats m 0 c).flushed 2 t = ((cfg0.win 2).blk t).view.read (Elt Ideal) (val m c) := by
  rw [flushed2]
  funext j
  obtain ⟨r, l, rfl⟩ : ∃ (r : Fin 1408) (l : Fin 256), j = ix2 r l := ⟨j 0, j 1, eq_ix2 j⟩
  refine (out_apply _ _ r l).trans (Eq.trans ?_ (congrArg (val m c) (emb2 t r l)).symm)
  simp only [iblk0_apply, iblk1_apply]
  rfl

theorem covered2 (i : S4224x1024.Idx) :
    ∃ t : Fin cfg0.N, (cfg0.win 2).flush t = true ∧ i ∈ ((cfg0.win 2).blk t).view.set := by
  obtain ⟨a, b, rfl⟩ : ∃ (a : Fin 4224) (b : Fin 1024), i = ix2 a b := ⟨i 0, i 1, eq_ix2 i⟩
  let t : Fin cfg0.N := ⟨a.val / 1408 * 4 + b.val / 256, by show _ < 12; omega⟩
  refine ⟨t, flush0_2 _, ?_⟩
  have e : ((cfg0.win 2).blk t).view.emb (ix2 ⟨a.val % 1408, by omega⟩ ⟨b.val % 256, by omega⟩) = (ix2 a b : S4224x1024.Idx) := by
    refine (emb2 t _ _).trans (congrArg₂ ix2 (Fin.ext ?_) (Fin.ext ?_))
    · show (a.val / 1408 * 4 + b.val / 256) / 4 * 1408 + a.val % 1408 = a.val; omega
    · show (a.val / 1408 * 4 + b.val / 256) % 4 * 256 + b.val % 256 = b.val; omega
  exact (congrArg (· ∈ ((cfg0.win 2).blk t).view.set) e).mp (View.emb_mem_set _ _)

theorem run : θ_run defs (onTc (τ := τ) (main (F := Ideal))) ⟨m, fun _ => 0, ρ⟩ fun r => ∀ c : Dev nD,
      r.2.mem ((c : Thread nD τ).loc main_v2) = val m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans
    ((dats m 0 c).arrAt_eq_of_cover 2 (val m c) (fun t _ => flushed2_eq m c t) covered2), (h c).2⟩) (run_blocks m ρ)

end Cert.DmergedIdeal.RefValue

namespace Cert.DmergedReferenceIdeal.RefValue

open Cert.DmergedReferenceIdeal Cert.DmergedReferenceIdeal.Gen Cert.DmergedReferenceIdeal.Read

theorem ref_apply (x0 : Vec Ideal S4224x1024 .f32) (x1 : Vec Ideal S1024x1024 .f32) (i : Fin 4224) (j : Fin 1024) :
    val_main_v2 (F := Ideal) x0 x1 (ix2 i j) = Cert.DmergedIdeal.RefValue.G x0 x1 (ix2 i j) := by
  pointwise [val_main_v2, Cert.DmergedIdeal.RefValue.G]

end Cert.DmergedReferenceIdeal.RefValue

namespace Cert.Proof.DmergedClaims

theorem frame_ref : Cert.quiescent_DmergedReferenceIdeal := fun m ρ _ =>
  (θ_run Cert.DmergedReferenceIdeal.defs _ _).mono (fun r h => ⟨fun c => (h c).2,
      Idealize.ShloMosaic.sem_eq_zero_of_no_sems (by decide) r.2⟩)
    (Cert.DmergedReferenceIdeal.Value.run (F := Ideal) m ρ)

theorem algebraic : Cert.algebraic_DmergedIdeal_DmergedReferenceIdeal := by
  intro m ρ m' ρ' _ hagree
  refine ⟨fun c => Cert.DmergedIdeal.RefValue.val m c, Cert.DmergedIdeal.RefValue.run m ρ,
    (θ_run Cert.DmergedReferenceIdeal.defs _ _).mono (fun r h c => ⟨?_, (h c).2⟩) (Cert.DmergedReferenceIdeal.Value.run (F := Ideal) m' ρ')⟩
  refine (h c).1.trans ((Cert.DmergedReferenceIdeal.Read.val_main_v2_eq _ _).trans ?_)
  funext i
  rw [eq_ix2 i]
  refine (Cert.DmergedReferenceIdeal.RefValue.ref_apply _ _ _ _).trans ?_
  obtain ⟨e0, e1⟩ := hagree c
  rw [e0, e1]

end Cert.Proof.DmergedClaims

end
-- ==== Proof.Du.lean ====
module

public import proofs.«01_k».proof.Defs
public import proofs.«01_k».proof.Proof.Gen.DuIdeal.Value
public import proofs.«01_k».proof.Proof.Gen.DuReferenceIdeal.Read
public import Idealize.ShloMosaic.Lib.Pointwise
public import Idealize.ShloMosaic.Lib.Pipeline.ReadBack
public import Idealize.ShloMosaic.Lib.Quiescent

@[expose] public section

set_option maxRecDepth 16384

noncomputable section

open Idealize.ShloMosaic Idealize.ShloMosaic.TcCoe Idealize.ShloMosaic.Tactic Idealize.SL.Sem

namespace Cert.DuIdeal.RefValue

open Cert.DuIdeal Cert.DuIdeal.Gen Cert.DuIdeal.Value

theorem hz2 : (![0, 0] : Fin 2 → Nat) = fun _ => 0 := by decide
theorem hz3 : (![0, 0, 0] : Fin 3 → Nat) = fun _ => 0 := by decide
theorem origin2 : ∀ a : Fin 2, (![0, 0] : Fin 2 → ℕ) a = 0 := by decide
theorem origin3 : ∀ a : Fin 3, (![0, 0, 0] : Fin 3 → ℕ) a = 0 := by decide

/-- The product of two blocks. -/
theorem pay_apply (x0 : Vec Ideal S1408x2304 .bf16) (x1 : Vec Ideal S1x1024x2304 .f32) (r : Fin 1408) (l : Fin 1024) :
    k0_pay1 (F := Ideal) x0 x1 (ix2 r l) = ∑ k : Fin 2304, x0 (ix2 r k) * x1 (ix3 0 l k) := by
  pointwise [k0_pay1]

theorem first_apply (x0 : Vec Ideal S1408x2304 .bf16) (x1 : Vec Ideal S1x1024x2304 .f32) (y : S1408x1024.Idx) :
    k0_pay2 (F := Ideal) x0 x1 y = k0_pay1 (F := Ideal) x0 x1 y := by
  rw [eq_ix2 y]; pointwise [k0_pay2]

theorem next_apply (x0 : Vec Ideal S1408x2304 .bf16) (x1 : Vec Ideal S1x1024x2304 .f32) (acc : Vec Ideal S1408x1024 .f32) (y : S1408x1024.Idx) :
    k0_pay3 (F := Ideal) x0 x1 acc y = acc y + k0_pay1 (F := Ideal) x0 x1 y := by
  rw [eq_ix2 y]; pointwise [k0_pay3]

section
variable (c : Dev nD) (i : grid0.Coords) (arg3 : Memref sig .tc .vmem S1408x2304 .bf16) (harg3 : arg3.IsWhole)
    (arg4 : Memref sig .tc .vmem S1x1024x2304 .f32) (harg4 : arg4.IsWhole) (arg5 : Memref sig .tc .vmem S1408x1024 .f32) (harg5 : arg5.IsWhole)
    (arg6 : Memref sig .tc .vmem S1408x1024 .f32) (harg6 : arg6.IsWhole)
    (x0 : Vec Ideal S1408x2304 .bf16) (x1 : Vec Ideal S1x1024x2304 .f32) (xs : Vec Ideal S1408x1024 .f32)

/-- The first point of a row of blocks leaves its product in the accumulator. -/
theorem storedA (hc0 : cond0_0 i) (hc1 : ¬cond0_1 i) (hc2 : ¬cond0_2 i) :
    sout0_A_0 (F := Ideal) c i arg3 harg3 arg4 harg4 arg5 harg5 arg6 harg6 hc0 hc1 hc2 x0 x1 = k0_pay2 x0 x1 := by
  unfold sout0_A_0
  funext y
  rw [View.read_writes_eq_canon _ _ _ (scover0_A_0 c i arg3 harg3 arg4 harg4 arg5 harg5 arg6 harg6 hc0 hc1 hc2 x0 x1)]
  unfold kernelRun0_A
  dsimp only
  sl_unfold_words
  simp +decide only [View.readAt_eq_ld, Memref.IsWhole.read_unread, ↓View.readCov_skip, ↓View.readCov_fill, origin2, origin3]
  rw [View.canon_unit_zero hz2, View.ld_unit_zero hz2, View.ld_unit_zero hz3]

/-- A later point adds its product to it. -/
theorem storedB (hc0 : ¬cond0_0 i) (hc1 : cond0_1 i) (hc2 : ¬cond0_2 i) :
    sout0_B_0 (F := Ideal) c i arg3 harg3 arg4 harg4 arg5 harg5 arg6 harg6 hc0 hc1 hc2 x0 x1 xs = k0_pay3 x0 x1 xs := by
  unfold sout0_B_0
  funext y
  rw [View.read_writes_eq_canon _ _ _ (scover0_B_0 c i arg3 harg3 arg4 harg4 arg5 harg5 arg6 harg6 hc0 hc1 hc2 x0 x1 xs)]
  unfold kernelRun0_B
  dsimp only
  sl_unfold_words
  simp +decide only [View.readAt_eq_ld, Memref.IsWhole.read_unread, ↓View.readCov_skip, ↓View.readCov_fill, origin2, origin3]
  rw [View.canon_unit_zero hz2, View.ld_unit_zero hz2, View.ld_unit_zero hz3, View.ld_unit_zero hz2]

/-- The last point stores the sum. -/
theorem storedC (hc0 : ¬cond0_0 i) (hc1 : cond0_1 i) (hc2 : cond0_2 i) :
    out0_C_2 (F := Ideal) c i arg3 harg3 arg4 harg4 arg5 harg5 arg6 harg6 hc0 hc1 hc2 x0 x1 xs = k0_pay3 x0 x1 xs := by
  unfold out0_C_2
  funext y
  rw [View.read_writes_eq_canon _ _ _ (cover0_C_2 c i arg3 harg3 arg4 harg4 arg5 harg5 arg6 harg6 hc0 hc1 hc2 x0 x1 xs)]
  unfold kernelRun0_C
  dsimp only
  sl_unfold_words
  simp +decide only [View.readAt_eq_ld, Memref.IsWhole.read_unread, ↓View.readCov_skip, ↓View.readCov_fill, origin2, origin3]
  rw [View.canon_unit_zero hz2, View.ld_unit_zero hz2, View.ld_unit_zero hz2, View.ld_unit_zero hz3, View.ld_unit_zero hz2]
end

variable (m : (ℓ : Loc nD τ sig) → Buf (Elt Ideal) ℓ) (ρ : Dev nD → PrngReg)

theorem V_main_v0 (c : Dev nD) : V m c main_v0
    = shapeCast S1x1024x9216 (m ((c : Thread nD τ).loc main_arg1)) shapeCasts_S1024x9216_S1x1024x9216 := by
  simp only [V, hostOps0]; after_results; rfl
theorem V_main_v1 (c : Dev nD) : V m c main_v1 = m ((c : Thread nD τ).loc main_arg0) := by
  simp only [V, hostOps0]; after_results; rfl

theorem idx0 : ∀ t : Fin cfg0.N, win0_0.index t = ![t.val / 4, t.val % 4] := (by decide +kernel : ∀ t : Fin grid0.N, _)
theorem idx1 : ∀ t : Fin cfg0.N, win0_1.index t = ![0, 0, t.val % 4] := (by decide +kernel : ∀ t : Fin grid0.N, _)
theorem idx2 : ∀ t : Fin cfg0.N, win0_2.index t = ![t.val / 4, 0] := (by decide +kernel : ∀ t : Fin grid0.N, _)

/-- The array row of a block's row, and the summand of a block's summand. -/
def row (i : Fin 3) (r : Fin 1408) : Fin 4224 := ⟨i.val * 1408 + r.val, by omega⟩
def mid (j : Fin 4) (q : Fin 2304) : Fin 9216 := ⟨j.val * 2304 + q.val, by omega⟩
def point (i : Fin 3) (j : Fin 4) : Fin cfg0.N := ⟨i.val * 4 + j.val, by show _ < 12; omega⟩

theorem iblk0_apply (c : Dev nD) (i : Fin 3) (j : Fin 4) (r : Fin 1408) (q : Fin 2304) :
    iblk m c 0 (point i j) (ix2 r q) = m ((c : Thread nD τ).loc main_arg0) (ix2 (row i r) (mid j q)) := by
  rw [← V_main_v1 m c]
  refine congrArg (V m c main_v1) (funext fun a => Fin.ext ?_)
  match a with
  | ⟨0, _⟩ =>
    show win0_0.index (point i j) 0 * 1408 + 1 * r.val = i.val * 1408 + r.val
    rw [idx0]; show (i.val * 4 + j.val) / 4 * 1408 + 1 * r.val = _; omega
  | ⟨1, _⟩ =>
    show win0_0.index (point i j) 1 * 2304 + 1 * q.val = j.val * 2304 + q.val
    rw [idx0]; show (i.val * 4 + j.val) % 4 * 2304 + 1 * q.val = _; omega

theorem cast_apply (w : Vec Ideal S1024x9216 .f32) (l : Fin 1024) (q : Fin 9216) :
    shapeCast S1x1024x9216 w shapeCasts_S1024x9216_S1x1024x9216 (ix3 0 l q) = w (ix2 l q) := by
  pointwise

theorem iblk1_apply (c : Dev nD) (i : Fin 3) (j : Fin 4) (l : Fin 1024) (q : Fin 2304) :
    iblk m c 1 (point i j) (ix3 0 l q) = m ((c : Thread nD τ).loc main_arg1) (ix2 l (mid j q)) := by
  have h : iblk m c 1 (point i j) (ix3 0 l q) = V m c main_v0 (ix3 0 l (mid j q)) := by
    refine congrArg (V m c main_v0) (funext fun a => Fin.ext ?_)
    match a with
    | ⟨0, _⟩ => show win0_1.index (point i j) 0 * 1 + 1 * 0 = 0; rw [idx1]; simp
    | ⟨1, _⟩ => show win0_1.index (point i j) 1 * 1024 + 1 * l.val = l.val; rw [idx1]; simp
    | ⟨2, _⟩ =>
      show win0_1.index (point i j) 2 * 2304 + 1 * q.val = j.val * 2304 + q.val
      rw [idx1]; show (i.val * 4 + j.val) % 4 * 2304 + 1 * q.val = _; omega
  rw [h, V_main_v0]
  exact cast_apply _ _ _

theorem emb2 (i : Fin 3) (r : Fin 1408) (l : Fin 1024) :
    ((cfg0.win 2).blk (point i 3)).view.emb (ix2 r l) = (ix2 (row i r) l : S4224x1024.Idx) := by
  funext a; apply Fin.ext
  match a with
  | ⟨0, _⟩ =>
    show win0_2.index (point i 3) 0 * 1408 + 1 * r.val = i.val * 1408 + r.val
    rw [idx2]; show (i.val * 4 + 3) / 4 * 1408 + 1 * r.val = _; omega
  | ⟨1, _⟩ => show win0_2.index (point i 3) 1 * 1024 + 1 * l.val = l.val; rw [idx2]; simp

/-- The product of the blocks of a point. -/
abbrev prod (c : Dev nD) (t : Fin cfg0.N) : Vec Ideal S1408x1024 .f32 := k0_pay1 (iblk m c 0 t) (iblk m c 1 t)

theorem acc0 (c : Dev nD) (i : Fin 3) (y : S1408x1024.Idx) :
    (outsAt0 m c (point i 0).val (point i 0).isLt).2 y = prod m c (point i 0) y := by
  rw [outsAt0_A m c (point i 0) (by show (i.val * 4 + 0) % 4 = 0; omega) (by show ¬1 ≤ (i.val * 4 + 0) % 4; omega)
    (by show ¬(i.val * 4 + 0) % 4 = 3; omega)]
  dsimp only
  rw [storedA, first_apply]

theorem acc_next (c : Dev nD) (i : Fin 3) (j k : Fin 4) (hk : k.val = j.val + 1) (hj : k.val < 3) (y : S1408x1024.Idx) :
    (outsAt0 m c (point i k).val (point i k).isLt).2 y
      = (outsAt0 m c (point i j).val (point i j).isLt).2 y + prod m c (point i k) y := by
  rw [outsAt0_B m c (point i k) (by show ¬(i.val * 4 + k.val) % 4 = 0; omega) (by show 1 ≤ (i.val * 4 + k.val) % 4; omega)
    (by show ¬(i.val * 4 + k.val) % 4 = 3; omega)]
  dsimp only
  rw [storedB, next_apply]
  have e : ∀ n hn n' hn', n = n' → outsAt0 m c n hn = outsAt0 m c n' hn' := by rintro n hn _ _ rfl; rfl
  rw [e _ _ (point i j).val (point i j).isLt (by show i.val * 4 + k.val - 1 = i.val * 4 + j.val; omega)]

theorem stored (c : Dev nD) (i : Fin 3) (y : S1408x1024.Idx) :
    (outsAt0 m c (point i 3).val (point i 3).isLt).1 y
      = (outsAt0 m c (point i 2).val (point i 2).isLt).2 y + prod m c (point i 3) y := by
  rw [outsAt0_C m c (point i 3) (by show ¬(i.val * 4 + 3) % 4 = 0; omega) (by show 1 ≤ (i.val * 4 + 3) % 4; omega)
    (by show (i.val * 4 + 3) % 4 = 3; omega)]
  dsimp only
  rw [storedC, next_apply]
  rfl

/-- The result as one function of the argument arrays. -/
def G (dproj : Vec Ideal S4224x9216 .f32) (w : Vec Ideal S1024x9216 .f32) : Vec Ideal S4224x1024 .f32 := fun i =>
  ∑ q : Fin 9216, dproj (ix2 (i 0) q) * w (ix2 (i 1) q)

abbrev val (c : Dev nD) : Buf (Elt Ideal) ((c : Thread nD τ).loc main_v2) :=
  G (m ((c : Thread nD τ).loc main_arg0)) (m ((c : Thread nD τ).loc main_arg1))

/-- A sum over the packed columns, four parts one after the other. -/
theorem sum_mid (f : Fin 9216 → EReal) : ∑ q, f q
    = ((∑ q, f (mid 0 q)) + (∑ q, f (mid 1 q)) + (∑ q, f (mid 2 q))) + ∑ q, f (mid 3 q) := by
  rw [← Fin.sum_univ_four (fun j => ∑ q, f (mid j q)), ← Fintype.sum_prod_type' (fun j q => f (mid j q))]
  refine (Fintype.sum_equiv (finProdFinEquiv (m := 4) (n := 2304)) _ _ fun x => ?_).symm
  refine congrArg f (Fin.ext ?_)
  show x.1.val * 2304 + x.2.val = x.2.val + 2304 * x.1.val
  omega

theorem G_split (x : Vec Ideal S4224x9216 .f32) (w : Vec Ideal S1024x9216 .f32) (i : Fin 3) (r : Fin 1408) (l : Fin 1024) :
    G x w (ix2 (row i r) l) = ((∑ q, x (ix2 (row i r) (mid 0 q)) * w (ix2 l (mid 0 q)))
      + (∑ q, x (ix2 (row i r) (mid 1 q)) * w (ix2 l (mid 1 q))) + (∑ q, x (ix2 (row i r) (mid 2 q)) * w (ix2 l (mid 2 q))))
      + ∑ q, x (ix2 (row i r) (mid 3 q)) * w (ix2 l (mid 3 q)) :=
  sum_mid _

/-- The product of a point's blocks is its part of the sum. -/
theorem prod_apply (c : Dev nD) (i : Fin 3) (j : Fin 4) (r : Fin 1408) (l : Fin 1024) (x : Vec Ideal S4224x9216 .f32)
    (w : Vec Ideal S1024x9216 .f32) (hx : x = m ((c : Thread nD τ).loc main_arg0)) (hw : w = m ((c : Thread nD τ).loc main_arg1)) :
    prod m c (point i j) (ix2 r l) = ∑ q, x (ix2 (row i r) (mid j q)) * w (ix2 l (mid j q)) := by
  refine (pay_apply _ _ r l).trans (Finset.sum_congr rfl fun q _ => ?_)
  rw [iblk0_apply, iblk1_apply, hx, hw]

theorem out_apply (c : Dev nD) (i : Fin 3) (r : Fin 1408) (l : Fin 1024) :
    (outsAt0 m c (point i 3).val (point i 3).isLt).1 (ix2 r l) = val m c (ix2 (row i r) l) := by
  rw [stored, acc_next m c i 1 2 rfl (by decide), acc_next m c i 0 1 rfl (by decide), acc0]
  simp only [prod_apply m c i _ r l _ _ rfl rfl]
  exact (G_split _ _ i r l).symm

theorem flushed2_eq (c : Dev nD) (t : Fin cfg0.N) (hf : (cfg0.win 2).flush t = true) :
    (dats m 0 c).flushed 2 t = ((cfg0.win 2).blk t).view.read (Elt Ideal) (val m c) := by
  obtain ⟨i, rfl⟩ : ∃ i : Fin 3, t = point i 3 := by
    have h := (flush0_2 t).mp hf
    have ht : t.val < 12 := t.isLt
    exact ⟨⟨t.val / 4, by omega⟩, Fin.ext (by show t.val = t.val / 4 * 4 + 3; omega)⟩
  rw [flushed2]
  funext y
  obtain ⟨r, l, rfl⟩ : ∃ (r : Fin 1408) (l : Fin 1024), y = ix2 r l := ⟨y 0, y 1, eq_ix2 y⟩
  exact (out_apply m c i r l).trans (congrArg (val m c) (emb2 i r l)).symm

theorem covered2 (i : S4224x1024.Idx) :
    ∃ t : Fin cfg0.N, (cfg0.win 2).flush t = true ∧ i ∈ ((cfg0.win 2).blk t).view.set := by
  obtain ⟨a, b, rfl⟩ : ∃ (a : Fin 4224) (b : Fin 1024), i = ix2 a b := ⟨i 0, i 1, eq_ix2 i⟩
  let i : Fin 3 := ⟨a.val / 1408, by omega⟩
  refine ⟨point i 3, (flush0_2 _).mpr (by show (i.val * 4 + 3) % 4 = 3; omega), ?_⟩
  have e : ((cfg0.win 2).blk (point i 3)).view.emb (ix2 ⟨a.val % 1408, by omega⟩ b) = (ix2 a b : S4224x1024.Idx) :=
    (emb2 i _ b).trans (congrArg (ix2 · b) (Fin.ext (by show a.val / 1408 * 1408 + a.val % 1408 = a.val; omega)))
  exact (congrArg (· ∈ ((cfg0.win 2).blk (point i 3)).view.set) e).mp (View.emb_mem_set _ _)

theorem run : θ_run defs (onTc (τ := τ) (main (F := Ideal))) ⟨m, fun _ => 0, ρ⟩ fun r => ∀ c : Dev nD,
      r.2.mem ((c : Thread nD τ).loc main_v2) = val m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans
    ((dats m 0 c).arrAt_eq_of_cover 2 (val m c) (fun t hf => flushed2_eq m c t hf) covered2), (h c).2⟩) (run_blocks m ρ)

end Cert.DuIdeal.RefValue

namespace Cert.DuReferenceIdeal.RefValue

open Cert.DuReferenceIdeal Cert.DuReferenceIdeal.Gen Cert.DuReferenceIdeal.Read

theorem ref_apply (x0 : Vec Ideal S4224x9216 .f32) (x1 : Vec Ideal S1024x9216 .f32) (i : Fin 4224) (j : Fin 1024) :
    val_main_v2 (F := Ideal) x0 x1 (ix2 i j) = Cert.DuIdeal.RefValue.G x0 x1 (ix2 i j) := by
  pointwise [val_main_v2, Cert.DuIdeal.RefValue.G]

end Cert.DuReferenceIdeal.RefValue

namespace Cert.Proof.DuClaims

theorem frame_ref : Cert.quiescent_DuReferenceIdeal := fun m ρ _ =>
  (θ_run Cert.DuReferenceIdeal.defs _ _).mono (fun r h => ⟨fun c => (h c).2,
      Idealize.ShloMosaic.sem_eq_zero_of_no_sems (by decide) r.2⟩)
    (Cert.DuReferenceIdeal.Value.run (F := Ideal) m ρ)

theorem algebraic : Cert.algebraic_DuIdeal_DuReferenceIdeal := by
  intro m ρ m' ρ' _ hagree
  refine ⟨fun c => Cert.DuIdeal.RefValue.val m c, Cert.DuIdeal.RefValue.run m ρ,
    (θ_run Cert.DuReferenceIdeal.defs _ _).mono (fun r h c => ⟨?_, (h c).2⟩) (Cert.DuReferenceIdeal.Value.run (F := Ideal) m' ρ')⟩
  refine (h c).1.trans ((Cert.DuReferenceIdeal.Read.val_main_v2_eq _ _).trans ?_)
  funext i
  rw [eq_ix2 i]
  refine (Cert.DuReferenceIdeal.RefValue.ref_apply _ _ _ _).trans ?_
  obtain ⟨e0, e1⟩ := hagree c
  rw [e0, e1]

end Cert.Proof.DuClaims

end
-- ==== Proof.Proj.lean ====
module

public import proofs.«01_k».proof.Defs
public import proofs.«01_k».proof.Proof.Gen.ProjIdeal.Value
public import proofs.«01_k».proof.Proof.Gen.ProjReferenceIdeal.Read
public import Idealize.ShloMosaic.Lib.Pointwise
public import Idealize.ShloMosaic.Lib.Quiescent

@[expose] public section

set_option maxRecDepth 16384

noncomputable section

open Idealize.ShloMosaic Idealize.ShloMosaic.TcCoe Idealize.SL.Sem

namespace Cert.ProjIdeal.RefValue

open Cert.ProjIdeal Cert.ProjIdeal.Gen Cert.ProjIdeal.Value

theorem hz2 : (![0, 0] : Fin 2 → Nat) = fun _ => 0 := by decide
theorem hz3 : (![0, 0, 0] : Fin 3 → Nat) = fun _ => 0 := by decide

/-- A block of the result. -/
theorem out_apply (x0 : Vec Ideal S1408x1024 .bf16) (x1 : Vec Ideal S1x1024x1024 .f32) (r : Fin 1408) (l : Fin 1024) :
    out0_2 x0 x1 (ix2 r l) = ∑ k : Fin 1024, x0 (ix2 r k) * x1 (ix3 0 k l) := by
  unfold out0_2
  rw [View.canon_unit_zero hz2, View.ld_unit_zero hz2, View.ld_unit_zero hz3]
  pointwise [k0_pay1]

variable (m : (ℓ : Loc nD τ sig) → Buf (Elt Ideal) ℓ) (ρ : Dev nD → PrngReg)

/-- The weight as the region finds it: the argument under a leading axis. -/
theorem V_main_v0 (c : Dev nD) : V m c main_v0
    = shapeCast S1x1024x9216 (m ((c : Thread nD τ).loc main_arg1)) shapeCasts_S1024x9216_S1x1024x9216 := by
  simp only [V, hostOps0]; after_results; rfl
theorem V_main_v1 (c : Dev nD) : V m c main_v1 = m ((c : Thread nD τ).loc main_arg0) := by
  simp only [V, hostOps0]; after_results; rfl

theorem idx0 : ∀ t : Fin cfg0.N, win0_0.index t = ![t.val / 9, 0] := (by decide +kernel : ∀ t : Fin grid0.N, _)
theorem idx1 : ∀ t : Fin cfg0.N, win0_1.index t = ![0, 0, t.val % 9] := (by decide +kernel : ∀ t : Fin grid0.N, _)
theorem idx2 : ∀ t : Fin cfg0.N, win0_2.index t = ![t.val / 9, t.val % 9] := (by decide +kernel : ∀ t : Fin grid0.N, _)

/-- The array row of a block's row, and the array column of a block's column. -/
def row (t : Fin cfg0.N) (r : Fin 1408) : Fin 4224 :=
  ⟨t.val / 9 * 1408 + r.val, by have h : t.val < 27 := t.isLt; omega⟩
def col (t : Fin cfg0.N) (l : Fin 1024) : Fin 9216 := ⟨t.val % 9 * 1024 + l.val, by omega⟩

theorem iblk0_apply (c : Dev nD) (t : Fin cfg0.N) (r : Fin 1408) (k : Fin 1024) :
    iblk m c 0 t (ix2 r k) = m ((c : Thread nD τ).loc main_arg0) (ix2 (row t r) k) := by
  rw [← V_main_v1 m c]
  refine congrArg (V m c main_v1) (funext fun a => Fin.ext ?_)
  match a with
  | ⟨0, _⟩ => show win0_0.index t 0 * 1408 + 1 * r.val = t.val / 9 * 1408 + r.val; rw [idx0]; simp
  | ⟨1, _⟩ => show win0_0.index t 1 * 1024 + 1 * k.val = k.val; rw [idx0]; simp

/-- The weight under its leading axis at an index. -/
theorem cast_apply (w : Vec Ideal S1024x9216 .f32) (k : Fin 1024) (q : Fin 9216) :
    shapeCast S1x1024x9216 w shapeCasts_S1024x9216_S1x1024x9216 (ix3 0 k q) = w (ix2 k q) := by
  pointwise

theorem iblk1_apply (c : Dev nD) (t : Fin cfg0.N) (k l : Fin 1024) :
    iblk m c 1 t (ix3 0 k l) = m ((c : Thread nD τ).loc main_arg1) (ix2 k (col t l)) := by
  have h : iblk m c 1 t (ix3 0 k l) = V m c main_v0 (ix3 0 k (col t l)) := by
    refine congrArg (V m c main_v0) (funext fun a => Fin.ext ?_)
    match a with
    | ⟨0, _⟩ => show win0_1.index t 0 * 1 + 1 * 0 = 0; rw [idx1]; simp
    | ⟨1, _⟩ => show win0_1.index t 1 * 1024 + 1 * k.val = k.val; rw [idx1]; simp
    | ⟨2, _⟩ => show win0_1.index t 2 * 1024 + 1 * l.val = t.val % 9 * 1024 + l.val; rw [idx1]; simp
  rw [h, V_main_v0]
  exact cast_apply _ _ _

theorem emb2 (t : Fin cfg0.N) (r : Fin 1408) (l : Fin 1024) :
    ((cfg0.win 2).blk t).view.emb (ix2 r l) = (ix2 (row t r) (col t l) : S4224x9216.Idx) := by
  funext a; apply Fin.ext
  match a with
  | ⟨0, _⟩ => show win0_2.index t 0 * 1408 + 1 * r.val = t.val / 9 * 1408 + r.val; rw [idx2]; simp
  | ⟨1, _⟩ => show win0_2.index t 1 * 1024 + 1 * l.val = t.val % 9 * 1024 + l.val; rw [idx2]; simp

/-- The result as one function of the argument arrays. -/
def G (u : Vec Ideal S4224x1024 .f32) (w : Vec Ideal S1024x9216 .f32) : Vec Ideal S4224x9216 .f32 := fun i =>
  ∑ k : Fin 1024, u (ix2 (i 0) k) * w (ix2 k (i 1))

abbrev val (c : Dev nD) : Buf (Elt Ideal) ((c : Thread nD τ).loc main_v2) :=
  G (m ((c : Thread nD τ).loc main_arg0)) (m ((c : Thread nD τ).loc main_arg1))

theorem flushed2_eq (c : Dev nD) (t : Fin cfg0.N) :
    (dats m 0 c).flushed 2 t = ((cfg0.win 2).blk t).view.read (Elt Ideal) (val m c) := by
  rw [flushed2]
  funext j
  obtain ⟨r, l, rfl⟩ : ∃ (r : Fin 1408) (l : Fin 1024), j = ix2 r l := ⟨j 0, j 1, eq_ix2 j⟩
  refine (out_apply _ _ r l).trans (Eq.trans ?_ (congrArg (val m c) (emb2 t r l)).symm)
  simp only [iblk0_apply, iblk1_apply]
  rfl

theorem covered2 (i : S4224x9216.Idx) :
    ∃ t : Fin cfg0.N, (cfg0.win 2).flush t = true ∧ i ∈ ((cfg0.win 2).blk t).view.set := by
  obtain ⟨a, b, rfl⟩ : ∃ (a : Fin 4224) (b : Fin 9216), i = ix2 a b := ⟨i 0, i 1, eq_ix2 i⟩
  let t : Fin cfg0.N := ⟨a.val / 1408 * 9 + b.val / 1024, by show _ < 27; omega⟩
  refine ⟨t, flush0_2 _, ?_⟩
  have e : ((cfg0.win 2).blk t).view.emb (ix2 ⟨a.val % 1408, by omega⟩ ⟨b.val % 1024, by omega⟩) = (ix2 a b : S4224x9216.Idx) := by
    refine (emb2 t _ _).trans (congrArg₂ ix2 (Fin.ext ?_) (Fin.ext ?_))
    · show (a.val / 1408 * 9 + b.val / 1024) / 9 * 1408 + a.val % 1408 = a.val; omega
    · show (a.val / 1408 * 9 + b.val / 1024) % 9 * 1024 + b.val % 1024 = b.val; omega
  exact (congrArg (· ∈ ((cfg0.win 2).blk t).view.set) e).mp (View.emb_mem_set _ _)

theorem run : θ_run defs (onTc (τ := τ) (main (F := Ideal))) ⟨m, fun _ => 0, ρ⟩ fun r => ∀ c : Dev nD,
      r.2.mem ((c : Thread nD τ).loc main_v2) = val m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans
    ((dats m 0 c).arrAt_eq_of_cover 2 (val m c) (fun t _ => flushed2_eq m c t) covered2), (h c).2⟩) (run_blocks m ρ)

end Cert.ProjIdeal.RefValue

namespace Cert.ProjReferenceIdeal.RefValue

open Cert.ProjReferenceIdeal Cert.ProjReferenceIdeal.Gen Cert.ProjReferenceIdeal.Read

theorem ref_apply (x0 : Vec Ideal S4224x1024 .f32) (x1 : Vec Ideal S1024x9216 .f32) (i : Fin 4224) (j : Fin 9216) :
    val_main_v0 (F := Ideal) x0 x1 (ix2 i j) = Cert.ProjIdeal.RefValue.G x0 x1 (ix2 i j) := by
  pointwise [val_main_v0, Cert.ProjIdeal.RefValue.G]

end Cert.ProjReferenceIdeal.RefValue

namespace Cert.Proof.ProjClaims

theorem frame_ref : Cert.quiescent_ProjReferenceIdeal := fun m ρ _ =>
  (θ_run Cert.ProjReferenceIdeal.defs _ _).mono (fun r h => ⟨fun c => (h c).2,
      Idealize.ShloMosaic.sem_eq_zero_of_no_sems (by decide) r.2⟩)
    (Cert.ProjReferenceIdeal.Value.run (F := Ideal) m ρ)

theorem algebraic : Cert.algebraic_ProjIdeal_ProjReferenceIdeal := by
  intro m ρ m' ρ' _ hagree
  refine ⟨fun c => Cert.ProjIdeal.RefValue.val m c, Cert.ProjIdeal.RefValue.run m ρ,
    (θ_run Cert.ProjReferenceIdeal.defs _ _).mono (fun r h c => ⟨?_, (h c).2⟩) (Cert.ProjReferenceIdeal.Value.run (F := Ideal) m' ρ')⟩
  refine (h c).1.trans ((Cert.ProjReferenceIdeal.Read.val_main_v0_eq _ _).trans ?_)
  funext i
  rw [eq_ix2 i]
  refine (Cert.ProjReferenceIdeal.RefValue.ref_apply _ _ _ _).trans ?_
  obtain ⟨e0, e1⟩ := hagree c
  rw [e0, e1]

end Cert.Proof.ProjClaims

end
-- ==== Proof.Ff1.lean ====
module

public import proofs.«01_k».proof.Defs
public import proofs.«01_k».proof.Proof.Gen.Ff1Ideal.Value
public import proofs.«01_k».proof.Proof.Gen.Ff1ReferenceIdeal.Read
public import Idealize.ShloMosaic.Lib.Pointwise
public import Idealize.ShloMosaic.Lib.Quiescent

@[expose] public section

set_option maxRecDepth 16384

noncomputable section

open Idealize.ShloMosaic Idealize.ShloMosaic.TcCoe Idealize.SL.Sem

namespace Cert.Ff1Ideal.RefValue

open Cert.Ff1Ideal Cert.Ff1Ideal.Gen Cert.Ff1Ideal.Value

theorem hz2 : (![0, 0] : Fin 2 → Nat) = fun _ => 0 := by decide
theorem hz4 : (![0, 0, 0, 0] : Fin 4 → Nat) = fun _ => 0 := by decide

/-- A block of the product. -/
theorem pay_apply (x0 : Vec Ideal S1408x1024 .bf16) (x1 : Vec Ideal S1x1x1024x1024 .f32) (r : Fin 1408) (l : Fin 1024) :
    k0_pay1 (F := Ideal) x0 x1 (ix2 r l) = ∑ k : Fin 1024, x0 (ix2 r k) * x1 (ix4 0 0 k l) := by
  pointwise [k0_pay1]

/-- A block of its rectified square. -/
theorem square_apply (x0 : Vec Ideal S1408x1024 .bf16) (x1 : Vec Ideal S1x1x1024x1024 .f32) (r : Fin 1408) (l : Fin 1024) :
    k0_pay2 (F := Ideal) x0 x1 (ix2 r l)
      = max (k0_pay1 (F := Ideal) x0 x1 (ix2 r l)) 0 * max (k0_pay1 (F := Ideal) x0 x1 (ix2 r l)) 0 := by
  pointwise [k0_pay2]

theorem out2_eq (x0 : Vec Ideal S1408x1024 .bf16) (x1 : Vec Ideal S1x1x1024x1024 .f32) : out0_2 x0 x1 = k0_pay1 x0 x1 := by
  unfold out0_2
  rw [View.canon_unit_zero hz2, View.ld_unit_zero hz2, View.ld_unit_zero hz4]
theorem out3_eq (x0 : Vec Ideal S1408x1024 .bf16) (x1 : Vec Ideal S1x1x1024x1024 .f32) : out0_3 x0 x1 = k0_pay2 x0 x1 := by
  unfold out0_3
  rw [View.canon_unit_zero hz2, View.ld_unit_zero hz2, View.ld_unit_zero hz4]

variable (m : (ℓ : Loc nD τ sig) → Buf (Elt Ideal) ℓ) (ρ : Dev nD → PrngReg)

/-- The weight as the region finds it: the argument with its columns in four groups, the groups outermost. -/
theorem V_main_v2 (c : Dev nD) : V m c main_v2 = shapeCast S1x4x1024x1024 (transpose S4x1024x1024 [1, 0, 2]
    (shapeCast S1024x4x1024 (m ((c : Thread nD τ).loc main_arg1)) shapeCasts_S1024x4096_S1024x4x1024)
    transposes_S1024x4x1024_S4x1024x1024_1_0_2) shapeCasts_S4x1024x1024_S1x4x1024x1024 := by
  simp only [V, hostOps0]; after_results; rfl
theorem V_main_v3 (c : Dev nD) : V m c main_v3 = m ((c : Thread nD τ).loc main_arg0) := by
  simp only [V, hostOps0]; after_results; rfl

theorem idx0 : ∀ t : Fin cfg0.N, win0_0.index t = ![t.val / 4, 0] := (by decide +kernel : ∀ t : Fin grid0.N, _)
theorem idx1 : ∀ t : Fin cfg0.N, win0_1.index t = ![0, t.val % 4, 0, 0] := (by decide +kernel : ∀ t : Fin grid0.N, _)
theorem idx2 : ∀ t : Fin cfg0.N, win0_2.index t = ![t.val / 4, t.val % 4] := (by decide +kernel : ∀ t : Fin grid0.N, _)

theorem idx3 : ∀ t : Fin cfg0.N, win0_3.index t = ![t.val / 4, t.val % 4] := (by decide +kernel : ∀ t : Fin grid0.N, _)

/-- The array row of a block's row, and the array column of a block's column. -/
def row (t : Fin cfg0.N) (r : Fin 1408) : Fin 4224 :=
  ⟨t.val / 4 * 1408 + r.val, by have h : t.val < 12 := t.isLt; omega⟩
def col (t : Fin cfg0.N) (l : Fin 1024) : Fin 4096 := ⟨t.val % 4 * 1024 + l.val, by omega⟩

theorem iblk0_apply (c : Dev nD) (t : Fin cfg0.N) (r : Fin 1408) (k : Fin 1024) :
    iblk m c 0 t (ix2 r k) = m ((c : Thread nD τ).loc main_arg0) (ix2 (row t r) k) := by
  rw [← V_main_v3 m c]
  refine congrArg (V m c main_v3) (funext fun a => Fin.ext ?_)
  match a with
  | ⟨0, _⟩ => show win0_0.index t 0 * 1408 + 1 * r.val = t.val / 4 * 1408 + r.val; rw [idx0]; simp
  | ⟨1, _⟩ => show win0_0.index t 1 * 1024 + 1 * k.val = k.val; rw [idx0]; simp

/-- The regrouped weight at an index. -/
theorem cast_apply (w : Vec Ideal S1024x4096 .f32) (t : Fin cfg0.N) (k l : Fin 1024) :
    shapeCast S1x4x1024x1024 (transpose S4x1024x1024 [1, 0, 2] (shapeCast S1024x4x1024 w shapeCasts_S1024x4096_S1024x4x1024)
      transposes_S1024x4x1024_S4x1024x1024_1_0_2) shapeCasts_S4x1024x1024_S1x4x1024x1024 (ix4 0 ⟨t.val % 4, by omega⟩ k l)
      = w (ix2 k (col t l)) := by
  pointwise
  rfl

theorem iblk1_apply (c : Dev nD) (t : Fin cfg0.N) (k l : Fin 1024) :
    iblk m c 1 t (ix4 0 0 k l) = m ((c : Thread nD τ).loc main_arg1) (ix2 k (col t l)) := by
  have h : iblk m c 1 t (ix4 0 0 k l) = V m c main_v2 (ix4 0 ⟨t.val % 4, by omega⟩ k l) := by
    refine congrArg (V m c main_v2) (funext fun a => Fin.ext ?_)
    match a with
    | ⟨0, _⟩ => show win0_1.index t 0 * 1 + 1 * 0 = 0; rw [idx1]; simp
    | ⟨1, _⟩ => show win0_1.index t 1 * 1 + 1 * 0 = t.val % 4; rw [idx1]; simp
    | ⟨2, _⟩ => show win0_1.index t 2 * 1024 + 1 * k.val = k.val; rw [idx1]; simp
    | ⟨3, _⟩ => show win0_1.index t 3 * 1024 + 1 * l.val = l.val; rw [idx1]; simp
  rw [h, V_main_v2]
  exact cast_apply _ _ _ _

theorem emb2 (t : Fin cfg0.N) (r : Fin 1408) (l : Fin 1024) :
    ((cfg0.win 2).blk t).view.emb (ix2 r l) = (ix2 (row t r) (col t l) : S4224x4096.Idx) := by
  funext a; apply Fin.ext
  match a with
  | ⟨0, _⟩ => show win0_2.index t 0 * 1408 + 1 * r.val = t.val / 4 * 1408 + r.val; rw [idx2]; simp
  | ⟨1, _⟩ => show win0_2.index t 1 * 1024 + 1 * l.val = t.val % 4 * 1024 + l.val; rw [idx2]; simp

theorem emb3 (t : Fin cfg0.N) (r : Fin 1408) (l : Fin 1024) :
    ((cfg0.win 3).blk t).view.emb (ix2 r l) = (ix2 (row t r) (col t l) : S4224x4096.Idx) := by
  funext a; apply Fin.ext
  match a with
  | ⟨0, _⟩ => show win0_3.index t 0 * 1408 + 1 * r.val = t.val / 4 * 1408 + r.val; rw [idx3]; simp
  | ⟨1, _⟩ => show win0_3.index t 1 * 1024 + 1 * l.val = t.val % 4 * 1024 + l.val; rw [idx3]; simp

/-- The results as functions of the argument arrays. -/
def G (v : Vec Ideal S4224x1024 .f32) (w : Vec Ideal S1024x4096 .f32) : Vec Ideal S4224x4096 .f32 := fun i =>
  ∑ k : Fin 1024, v (ix2 (i 0) k) * w (ix2 k (i 1))
def Sq (v : Vec Ideal S4224x1024 .f32) (w : Vec Ideal S1024x4096 .f32) : Vec Ideal S4224x4096 .bf16 := fun i =>
  max (G v w i) 0 * max (G v w i) 0

abbrev val (c : Dev nD) : Buf (Elt Ideal) ((c : Thread nD τ).loc main_v4_0) :=
  G (m ((c : Thread nD τ).loc main_arg0)) (m ((c : Thread nD τ).loc main_arg1))
abbrev valSq (c : Dev nD) : Buf (Elt Ideal) ((c : Thread nD τ).loc main_v4_1) :=
  Sq (m ((c : Thread nD τ).loc main_arg0)) (m ((c : Thread nD τ).loc main_arg1))

theorem block_eq (c : Dev nD) (t : Fin cfg0.N) (r : Fin 1408) (l : Fin 1024) :
    k0_pay1 (F := Ideal) (iblk m c 0 t) (iblk m c 1 t) (ix2 r l) = val m c (ix2 (row t r) (col t l)) := by
  refine (pay_apply _ _ r l).trans ?_
  simp only [iblk0_apply, iblk1_apply]
  rfl

theorem flushed2_eq (c : Dev nD) (t : Fin cfg0.N) :
    (dats m 0 c).flushed 2 t = ((cfg0.win 2).blk t).view.read (Elt Ideal) (val m c) := by
  rw [flushed2, out2_eq]
  funext j
  obtain ⟨r, l, rfl⟩ : ∃ (r : Fin 1408) (l : Fin 1024), j = ix2 r l := ⟨j 0, j 1, eq_ix2 j⟩
  exact (block_eq m c t r l).trans (congrArg (val m c) (emb2 t r l)).symm

theorem flushed3_eq (c : Dev nD) (t : Fin cfg0.N) :
    (dats m 0 c).flushed 3 t = ((cfg0.win 3).blk t).view.read (Elt Ideal) (valSq m c) := by
  rw [flushed3, out3_eq]
  funext j
  obtain ⟨r, l, rfl⟩ : ∃ (r : Fin 1408) (l : Fin 1024), j = ix2 r l := ⟨j 0, j 1, eq_ix2 j⟩
  refine (square_apply _ _ r l).trans (Eq.trans ?_ (congrArg (valSq m c) (emb3 t r l)).symm)
  rw [block_eq m c t r l]
  rfl

theorem covered2 (i : S4224x4096.Idx) :
    ∃ t : Fin cfg0.N, (cfg0.win 2).flush t = true ∧ i ∈ ((cfg0.win 2).blk t).view.set := by
  obtain ⟨a, b, rfl⟩ : ∃ (a : Fin 4224) (b : Fin 4096), i = ix2 a b := ⟨i 0, i 1, eq_ix2 i⟩
  let t : Fin cfg0.N := ⟨a.val / 1408 * 4 + b.val / 1024, by show _ < 12; omega⟩
  refine ⟨t, flush0_2 _, ?_⟩
  have e : ((cfg0.win 2).blk t).view.emb (ix2 ⟨a.val % 1408, by omega⟩ ⟨b.val % 1024, by omega⟩) = (ix2 a b : S4224x4096.Idx) := by
    refine (emb2 t _ _).trans (congrArg₂ ix2 (Fin.ext ?_) (Fin.ext ?_))
    · show (a.val / 1408 * 4 + b.val / 1024) / 4 * 1408 + a.val % 1408 = a.val; omega
    · show (a.val / 1408 * 4 + b.val / 1024) % 4 * 1024 + b.val % 1024 = b.val; omega
  exact (congrArg (· ∈ ((cfg0.win 2).blk t).view.set) e).mp (View.emb_mem_set _ _)

theorem covered3 (i : S4224x4096.Idx) :
    ∃ t : Fin cfg0.N, (cfg0.win 3).flush t = true ∧ i ∈ ((cfg0.win 3).blk t).view.set := by
  obtain ⟨a, b, rfl⟩ : ∃ (a : Fin 4224) (b : Fin 4096), i = ix2 a b := ⟨i 0, i 1, eq_ix2 i⟩
  let t : Fin cfg0.N := ⟨a.val / 1408 * 4 + b.val / 1024, by show _ < 12; omega⟩
  refine ⟨t, flush0_3 _, ?_⟩
  have e : ((cfg0.win 3).blk t).view.emb (ix2 ⟨a.val % 1408, by omega⟩ ⟨b.val % 1024, by omega⟩) = (ix2 a b : S4224x4096.Idx) := by
    refine (emb3 t _ _).trans (congrArg₂ ix2 (Fin.ext ?_) (Fin.ext ?_))
    · show (a.val / 1408 * 4 + b.val / 1024) / 4 * 1408 + a.val % 1408 = a.val; omega
    · show (a.val / 1408 * 4 + b.val / 1024) % 4 * 1024 + b.val % 1024 = b.val; omega
  exact (congrArg (· ∈ ((cfg0.win 3).blk t).view.set) e).mp (View.emb_mem_set _ _)

theorem run : θ_run defs (onTc (τ := τ) (main (F := Ideal))) ⟨m, fun _ => 0, ρ⟩ fun r => ∀ c : Dev nD,
      r.2.mem ((c : Thread nD τ).loc main_v4_0) = val m c
      ∧ r.2.mem ((c : Thread nD τ).loc main_v4_1) = valSq m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans
      ((dats m 0 c).arrAt_eq_of_cover 2 (val m c) (fun t _ => flushed2_eq m c t) covered2),
    (h c).2.1.trans ((dats m 0 c).arrAt_eq_of_cover 3 (valSq m c) (fun t _ => flushed3_eq m c t) covered3), (h c).2.2⟩) (run_blocks m ρ)

end Cert.Ff1Ideal.RefValue

namespace Cert.Ff1ReferenceIdeal.RefValue

open Cert.Ff1ReferenceIdeal Cert.Ff1ReferenceIdeal.Gen Cert.Ff1ReferenceIdeal.Read

theorem ref_apply (x0 : Vec Ideal S4224x1024 .f32) (x1 : Vec Ideal S1024x4096 .f32) (i : Fin 4224) (j : Fin 4096) :
    val_main_v0 (F := Ideal) x0 x1 (ix2 i j) = Cert.Ff1Ideal.RefValue.G x0 x1 (ix2 i j) := by
  pointwise [val_main_v0, Cert.Ff1Ideal.RefValue.G]

theorem ref_square (x0 : Vec Ideal S4224x1024 .f32) (x1 : Vec Ideal S1024x4096 .f32) (i : Fin 4224) (j : Fin 4096) :
    val_main_v3 (F := Ideal) x0 x1 (ix2 i j) = Cert.Ff1Ideal.RefValue.Sq x0 x1 (ix2 i j) := by
  have h : val_main_v3 (F := Ideal) x0 x1 (ix2 i j)
      = max (val_main_v0 (F := Ideal) x0 x1 (ix2 i j)) 0 * max (val_main_v0 (F := Ideal) x0 x1 (ix2 i j)) 0 := by
    pointwise [val_main_v3, val_main_v2, val_main_v1, val_main_call0_v0, val_main_call0_cst]
  rw [h, ref_apply]
  rfl

end Cert.Ff1ReferenceIdeal.RefValue

namespace Cert.Proof.Ff1Claims

theorem frame_ref : Cert.quiescent_Ff1ReferenceIdeal := fun m ρ _ =>
  (θ_run Cert.Ff1ReferenceIdeal.defs _ _).mono (fun r h => ⟨fun c => (h c).2.2,
      Idealize.ShloMosaic.sem_eq_zero_of_no_sems (by decide) r.2⟩)
    (Cert.Ff1ReferenceIdeal.Value.run (F := Ideal) m ρ)

theorem algebraic : Cert.algebraic_Ff1Ideal_Ff1ReferenceIdeal := by
  intro m ρ m' ρ' _ hagree
  refine ⟨fun c => Cert.Ff1Ideal.RefValue.val m c, fun c => Cert.Ff1Ideal.RefValue.valSq m c, Cert.Ff1Ideal.RefValue.run m ρ,
    (θ_run Cert.Ff1ReferenceIdeal.defs _ _).mono (fun r h c => ⟨?_, ?_, (h c).2.2⟩) (Cert.Ff1ReferenceIdeal.Value.run (F := Ideal) m' ρ')⟩
  all_goals obtain ⟨e0, e1⟩ := hagree c
  · refine (h c).1.trans ((Cert.Ff1ReferenceIdeal.Read.val_main_v0_eq _ _).trans ?_)
    funext i
    rw [eq_ix2 i]
    refine (Cert.Ff1ReferenceIdeal.RefValue.ref_apply _ _ _ _).trans ?_
    rw [e0, e1]
  · refine (h c).2.1.trans ((Cert.Ff1ReferenceIdeal.Read.val_main_v3_eq _ _).trans ?_)
    funext i
    rw [eq_ix2 i]
    refine (Cert.Ff1ReferenceIdeal.RefValue.ref_square _ _ _ _).trans ?_
    rw [e0, e1]

end Cert.Proof.Ff1Claims

end
-- ==== Proof.Ff2.lean ====
module

public import proofs.«01_k».proof.Defs
public import proofs.«01_k».proof.Proof.Gen.Ff2Ideal.Value
public import proofs.«01_k».proof.Proof.Gen.Ff2ReferenceIdeal.Read
public import Idealize.ShloMosaic.Lib.Pointwise
public import Idealize.ShloMosaic.Lib.Pipeline.ReadBack
public import Idealize.ShloMosaic.Lib.Quiescent

@[expose] public section

set_option maxRecDepth 16384

noncomputable section

open Idealize.ShloMosaic Idealize.ShloMosaic.TcCoe Idealize.ShloMosaic.Tactic Idealize.SL.Sem

namespace Cert.Ff2Ideal.RefValue

open Cert.Ff2Ideal Cert.Ff2Ideal.Gen Cert.Ff2Ideal.Value

theorem hz2 : (![0, 0] : Fin 2 → Nat) = fun _ => 0 := by decide
theorem hz4 : (![0, 0, 0, 0] : Fin 4 → Nat) = fun _ => 0 := by decide
theorem origin2 : ∀ a : Fin 2, (![0, 0] : Fin 2 → ℕ) a = 0 := by decide
theorem origin4 : ∀ a : Fin 4, (![0, 0, 0, 0] : Fin 4 → ℕ) a = 0 := by decide

/-- The product of two blocks. -/
theorem pay_apply (x0 : Vec Ideal S1408x1024 .bf16) (x1 : Vec Ideal S1x1x1024x1024 .f32) (r : Fin 1408) (l : Fin 1024) :
    k0_pay1 (F := Ideal) x0 x1 (ix2 r l) = ∑ k : Fin 1024, x0 (ix2 r k) * x1 (ix4 0 0 k l) := by
  pointwise [k0_pay1]

theorem first_apply (x0 : Vec Ideal S1408x1024 .bf16) (x1 : Vec Ideal S1x1x1024x1024 .f32) (y : S1408x1024.Idx) :
    k0_pay2 (F := Ideal) x0 x1 y = k0_pay1 (F := Ideal) x0 x1 y := by
  rw [eq_ix2 y]; pointwise [k0_pay2]

theorem next_apply (x0 : Vec Ideal S1408x1024 .bf16) (x1 : Vec Ideal S1x1x1024x1024 .f32) (acc : Vec Ideal S1408x1024 .f32) (y : S1408x1024.Idx) :
    k0_pay3 (F := Ideal) x0 x1 acc y = acc y + k0_pay1 (F := Ideal) x0 x1 y := by
  rw [eq_ix2 y]; pointwise [k0_pay3]

theorem last_apply (a b : Vec Ideal S1408x1024 .f32) (y : S1408x1024.Idx) : k0_pay4 (F := Ideal) a b y = a y + b y := by
  rw [eq_ix2 y]; pointwise [k0_pay4]

section
variable (c : Dev nD) (i : grid0.Coords) (arg3 : Memref sig .tc .vmem S1408x1024 .bf16) (harg3 : arg3.IsWhole)
    (arg4 : Memref sig .tc .vmem S1x1x1024x1024 .f32) (harg4 : arg4.IsWhole) (arg5 : Memref sig .tc .vmem S1408x1024 .f32) (harg5 : arg5.IsWhole)
    (arg6 : Memref sig .tc .vmem S1408x1024 .f32) (harg6 : arg6.IsWhole) (arg7 : Memref sig .tc .vmem S1408x1024 .f32) (harg7 : arg7.IsWhole)
    (x0 : Vec Ideal S1408x1024 .bf16) (x1 : Vec Ideal S1x1x1024x1024 .f32) (x2 : Vec Ideal S1408x1024 .f32) (xs : Vec Ideal S1408x1024 .f32)

/-- The first point of a row of blocks leaves its product in the accumulator. -/
theorem storedA (hc0 : cond0_0 i) (hc1 : ¬cond0_1 i) (hc2 : ¬cond0_2 i) :
    sout0_A_0 (F := Ideal) c i arg3 harg3 arg4 harg4 arg5 harg5 arg6 harg6 arg7 harg7 hc0 hc1 hc2 x0 x1 x2 = k0_pay2 x0 x1 := by
  unfold sout0_A_0
  funext y
  rw [View.read_writes_eq_canon _ _ _ (scover0_A_0 c i arg3 harg3 arg4 harg4 arg5 harg5 arg6 harg6 arg7 harg7 hc0 hc1 hc2 x0 x1 x2)]
  unfold kernelRun0_A
  dsimp only
  sl_unfold_words
  simp +decide only [View.readAt_eq_ld, Memref.IsWhole.read_unread, ↓View.readCov_skip, ↓View.readCov_fill, origin2, origin4]
  rw [View.canon_unit_zero hz2, View.ld_unit_zero hz2, View.ld_unit_zero hz4]

/-- A later point adds its product to it. -/
theorem storedB (hc0 : ¬cond0_0 i) (hc1 : cond0_1 i) (hc2 : ¬cond0_2 i) :
    sout0_B_0 (F := Ideal) c i arg3 harg3 arg4 harg4 arg5 harg5 arg6 harg6 arg7 harg7 hc0 hc1 hc2 x0 x1 x2 xs = k0_pay3 x0 x1 xs := by
  unfold sout0_B_0
  funext y
  rw [View.read_writes_eq_canon _ _ _ (scover0_B_0 c i arg3 harg3 arg4 harg4 arg5 harg5 arg6 harg6 arg7 harg7 hc0 hc1 hc2 x0 x1 x2 xs)]
  unfold kernelRun0_B
  dsimp only
  sl_unfold_words
  simp +decide only [View.readAt_eq_ld, Memref.IsWhole.read_unread, ↓View.readCov_skip, ↓View.readCov_fill, origin2, origin4]
  rw [View.canon_unit_zero hz2, View.ld_unit_zero hz2, View.ld_unit_zero hz4, View.ld_unit_zero hz2]

/-- The last point stores the sum with the residual's block added. -/
theorem storedC (hc0 : ¬cond0_0 i) (hc1 : cond0_1 i) (hc2 : cond0_2 i) :
    out0_C_3 (F := Ideal) c i arg3 harg3 arg4 harg4 arg5 harg5 arg6 harg6 arg7 harg7 hc0 hc1 hc2 x0 x1 x2 xs = k0_pay4 (k0_pay3 x0 x1 xs) x2 := by
  unfold out0_C_3
  funext y
  rw [View.read_writes_eq_canon _ _ _ (cover0_C_3 c i arg3 harg3 arg4 harg4 arg5 harg5 arg6 harg6 arg7 harg7 hc0 hc1 hc2 x0 x1 x2 xs)]
  unfold kernelRun0_C
  dsimp only
  sl_unfold_words
  simp +decide only [View.readAt_eq_ld, Memref.IsWhole.read_unread, ↓View.readCov_skip, ↓View.readCov_fill, origin2, origin4]
  rw [View.canon_unit_zero hz2, View.ld_unit_zero hz2, View.ld_unit_zero hz2, View.ld_unit_zero hz4, View.ld_unit_zero hz2, View.ld_unit_zero hz2]
end

variable (m : (ℓ : Loc nD τ sig) → Buf (Elt Ideal) ℓ) (ρ : Dev nD → PrngReg)

/-- The hidden layer: the square of the rectified activations. -/
def hidden (pre : Vec Ideal S4224x4096 .f32) : Vec Ideal S4224x4096 .bf16 := fun i => max (pre i) 0 * max (pre i) 0

theorem V_main_v3 (c : Dev nD) : V m c main_v3 = hidden (m ((c : Thread nD τ).loc main_arg0)) := by
  have h : V m c main_v3 = truncf .bf16 (mulf
      (maximumf (m ((c : Thread nD τ).loc main_arg0)) (broadcastInDim S4224x4096 ![] bcast_S_S4224x4096 (constant (F := Ideal) S_ .f32 0x00000000#32)))
      (maximumf (m ((c : Thread nD τ).loc main_arg0)) (broadcastInDim S4224x4096 ![] bcast_S_S4224x4096 (constant (F := Ideal) S_ .f32 0x00000000#32))))
      bitsLt_bf16_f32 := by
    simp only [V, hostOps0]; after_results
  rw [h]
  funext i
  pointwise [hidden]

theorem V_main_v4 (c : Dev nD) : V m c main_v4
    = shapeCast S1x4x1024x1024 (m ((c : Thread nD τ).loc main_arg1)) shapeCasts_S4096x1024_S1x4x1024x1024 := by
  simp only [V, hostOps0]; after_results; rfl

theorem idx0 : ∀ t : Fin cfg0.N, win0_0.index t = ![t.val / 4, t.val % 4] := (by decide +kernel : ∀ t : Fin grid0.N, _)
theorem idx1 : ∀ t : Fin cfg0.N, win0_1.index t = ![0, t.val % 4, 0, 0] := (by decide +kernel : ∀ t : Fin grid0.N, _)
theorem idx2 : ∀ t : Fin cfg0.N, win0_2.index t = ![t.val / 4, 0] := (by decide +kernel : ∀ t : Fin grid0.N, _)
theorem idx3 : ∀ t : Fin cfg0.N, win0_3.index t = ![t.val / 4, 0] := (by decide +kernel : ∀ t : Fin grid0.N, _)

/-- The array row of a block's row, and the summand of a block's summand. -/
def row (i : Fin 3) (r : Fin 1408) : Fin 4224 := ⟨i.val * 1408 + r.val, by omega⟩
def mid (j : Fin 4) (q : Fin 1024) : Fin 4096 := ⟨j.val * 1024 + q.val, by omega⟩
def point (i : Fin 3) (j : Fin 4) : Fin cfg0.N := ⟨i.val * 4 + j.val, by show _ < 12; omega⟩

theorem iblk0_apply (c : Dev nD) (i : Fin 3) (j : Fin 4) (r : Fin 1408) (q : Fin 1024) :
    iblk m c 0 (point i j) (ix2 r q) = hidden (m ((c : Thread nD τ).loc main_arg0)) (ix2 (row i r) (mid j q)) := by
  rw [← V_main_v3 m c]
  refine congrArg (V m c main_v3) (funext fun a => Fin.ext ?_)
  match a with
  | ⟨0, _⟩ =>
    show win0_0.index (point i j) 0 * 1408 + 1 * r.val = i.val * 1408 + r.val
    rw [idx0]; show (i.val * 4 + j.val) / 4 * 1408 + 1 * r.val = _; omega
  | ⟨1, _⟩ =>
    show win0_0.index (point i j) 1 * 1024 + 1 * q.val = j.val * 1024 + q.val
    rw [idx0]; show (i.val * 4 + j.val) % 4 * 1024 + 1 * q.val = _; omega

theorem cast_apply (w : Vec Ideal S4096x1024 .f32) (j : Fin 4) (q l : Fin 1024) :
    shapeCast S1x4x1024x1024 w shapeCasts_S4096x1024_S1x4x1024x1024 (ix4 0 j q l) = w (ix2 (mid j q) l) := by
  pointwise [mid]

theorem iblk1_apply (c : Dev nD) (i : Fin 3) (j : Fin 4) (q l : Fin 1024) :
    iblk m c 1 (point i j) (ix4 0 0 q l) = m ((c : Thread nD τ).loc main_arg1) (ix2 (mid j q) l) := by
  have h : iblk m c 1 (point i j) (ix4 0 0 q l) = V m c main_v4 (ix4 0 j q l) := by
    refine congrArg (V m c main_v4) (funext fun a => Fin.ext ?_)
    match a with
    | ⟨0, _⟩ => show win0_1.index (point i j) 0 * 1 + 1 * 0 = 0; rw [idx1]; simp
    | ⟨1, _⟩ =>
      show win0_1.index (point i j) 1 * 1 + 1 * 0 = j.val
      rw [idx1]; show (i.val * 4 + j.val) % 4 * 1 + 1 * 0 = _; omega
    | ⟨2, _⟩ => show win0_1.index (point i j) 2 * 1024 + 1 * q.val = q.val; rw [idx1]; simp
    | ⟨3, _⟩ => show win0_1.index (point i j) 3 * 1024 + 1 * l.val = l.val; rw [idx1]; simp
  rw [h, V_main_v4]
  exact cast_apply _ _ _ _

theorem iblk2_apply (c : Dev nD) (i : Fin 3) (r : Fin 1408) (l : Fin 1024) :
    iblk m c 2 (point i 3) (ix2 r l) = m ((c : Thread nD τ).loc main_arg2) (ix2 (row i r) l) := by
  rw [← V_main_arg2 m c]
  refine congrArg (V m c main_arg2) (funext fun a => Fin.ext ?_)
  match a with
  | ⟨0, _⟩ =>
    show win0_2.index (point i 3) 0 * 1408 + 1 * r.val = i.val * 1408 + r.val
    rw [idx2]; show (i.val * 4 + 3) / 4 * 1408 + 1 * r.val = _; omega
  | ⟨1, _⟩ => show win0_2.index (point i 3) 1 * 1024 + 1 * l.val = l.val; rw [idx2]; simp

theorem emb3 (i : Fin 3) (r : Fin 1408) (l : Fin 1024) :
    ((cfg0.win 3).blk (point i 3)).view.emb (ix2 r l) = (ix2 (row i r) l : S4224x1024.Idx) := by
  funext a; apply Fin.ext
  match a with
  | ⟨0, _⟩ =>
    show win0_3.index (point i 3) 0 * 1408 + 1 * r.val = i.val * 1408 + r.val
    rw [idx3]; show (i.val * 4 + 3) / 4 * 1408 + 1 * r.val = _; omega
  | ⟨1, _⟩ => show win0_3.index (point i 3) 1 * 1024 + 1 * l.val = l.val; rw [idx3]; simp

/-- The product of the blocks of a point. -/
abbrev prod (c : Dev nD) (t : Fin cfg0.N) : Vec Ideal S1408x1024 .f32 := k0_pay1 (iblk m c 0 t) (iblk m c 1 t)

theorem acc0 (c : Dev nD) (i : Fin 3) (y : S1408x1024.Idx) :
    (outsAt0 m c (point i 0).val (point i 0).isLt).2 y = prod m c (point i 0) y := by
  rw [outsAt0_A m c (point i 0) (by show (i.val * 4 + 0) % 4 = 0; omega) (by show ¬1 ≤ (i.val * 4 + 0) % 4; omega)
    (by show ¬(i.val * 4 + 0) % 4 = 3; omega)]
  dsimp only
  rw [storedA, first_apply]

theorem acc_next (c : Dev nD) (i : Fin 3) (j k : Fin 4) (hk : k.val = j.val + 1) (hj : k.val < 3) (y : S1408x1024.Idx) :
    (outsAt0 m c (point i k).val (point i k).isLt).2 y
      = (outsAt0 m c (point i j).val (point i j).isLt).2 y + prod m c (point i k) y := by
  rw [outsAt0_B m c (point i k) (by show ¬(i.val * 4 + k.val) % 4 = 0; omega) (by show 1 ≤ (i.val * 4 + k.val) % 4; omega)
    (by show ¬(i.val * 4 + k.val) % 4 = 3; omega)]
  dsimp only
  rw [storedB, next_apply]
  have e : ∀ n hn n' hn', n = n' → outsAt0 m c n hn = outsAt0 m c n' hn' := by rintro n hn _ _ rfl; rfl
  rw [e _ _ (point i j).val (point i j).isLt (by show i.val * 4 + k.val - 1 = i.val * 4 + j.val; omega)]

theorem stored (c : Dev nD) (i : Fin 3) (y : S1408x1024.Idx) :
    (outsAt0 m c (point i 3).val (point i 3).isLt).1 y
      = (outsAt0 m c (point i 2).val (point i 2).isLt).2 y + prod m c (point i 3) y + iblk m c 2 (point i 3) y := by
  rw [outsAt0_C m c (point i 3) (by show ¬(i.val * 4 + 3) % 4 = 0; omega) (by show 1 ≤ (i.val * 4 + 3) % 4; omega)
    (by show (i.val * 4 + 3) % 4 = 3; omega)]
  dsimp only
  rw [storedC, last_apply, next_apply]
  rfl

/-- The result as one function of the argument arrays. -/
def G (pre : Vec Ideal S4224x4096 .f32) (w : Vec Ideal S4096x1024 .f32) (h1 : Vec Ideal S4224x1024 .f32) : Vec Ideal S4224x1024 .f32 := fun i =>
  h1 i + ∑ q : Fin 4096, hidden pre (ix2 (i 0) q) * w (ix2 q (i 1))

abbrev val (c : Dev nD) : Buf (Elt Ideal) ((c : Thread nD τ).loc main_v5) :=
  G (m ((c : Thread nD τ).loc main_arg0)) (m ((c : Thread nD τ).loc main_arg1)) (m ((c : Thread nD τ).loc main_arg2))

/-- A sum over the hidden layer's columns, four parts one after the other. -/
theorem sum_mid (f : Fin 4096 → EReal) : ∑ q, f q
    = ((∑ q, f (mid 0 q)) + (∑ q, f (mid 1 q)) + (∑ q, f (mid 2 q))) + ∑ q, f (mid 3 q) := by
  rw [← Fin.sum_univ_four (fun j => ∑ q, f (mid j q)), ← Fintype.sum_prod_type' (fun j q => f (mid j q))]
  refine (Fintype.sum_equiv (finProdFinEquiv (m := 4) (n := 1024)) _ _ fun x => ?_).symm
  refine congrArg f (Fin.ext ?_)
  show x.1.val * 1024 + x.2.val = x.2.val + 1024 * x.1.val
  omega

theorem G_split (x : Vec Ideal S4224x4096 .f32) (w : Vec Ideal S4096x1024 .f32) (h1 : Vec Ideal S4224x1024 .f32) (i : Fin 3) (r : Fin 1408) (l : Fin 1024) :
    G x w h1 (ix2 (row i r) l) = (((∑ q, hidden x (ix2 (row i r) (mid 0 q)) * w (ix2 (mid 0 q) l))
      + (∑ q, hidden x (ix2 (row i r) (mid 1 q)) * w (ix2 (mid 1 q) l)) + (∑ q, hidden x (ix2 (row i r) (mid 2 q)) * w (ix2 (mid 2 q) l)))
      + ∑ q, hidden x (ix2 (row i r) (mid 3 q)) * w (ix2 (mid 3 q) l)) + h1 (ix2 (row i r) l) :=
  (add_comm _ _).trans (congrArg (· + h1 (ix2 (row i r) l)) (sum_mid fun q => hidden x (ix2 (row i r) q) * w (ix2 q l)))

/-- The product of a point's blocks is its part of the sum. -/
theorem prod_apply (c : Dev nD) (i : Fin 3) (j : Fin 4) (r : Fin 1408) (l : Fin 1024) (x : Vec Ideal S4224x4096 .f32)
    (w : Vec Ideal S4096x1024 .f32) (hx : x = m ((c : Thread nD τ).loc main_arg0)) (hw : w = m ((c : Thread nD τ).loc main_arg1)) :
    prod m c (point i j) (ix2 r l) = ∑ q, hidden x (ix2 (row i r) (mid j q)) * w (ix2 (mid j q) l) := by
  refine (pay_apply _ _ r l).trans (Finset.sum_congr rfl fun q _ => ?_)
  rw [iblk0_apply, iblk1_apply, hx, hw]

theorem out_apply (c : Dev nD) (i : Fin 3) (r : Fin 1408) (l : Fin 1024) :
    (outsAt0 m c (point i 3).val (point i 3).isLt).1 (ix2 r l) = val m c (ix2 (row i r) l) := by
  rw [stored, acc_next m c i 1 2 rfl (by decide), acc_next m c i 0 1 rfl (by decide), acc0]
  rw [iblk2_apply]
  simp only [prod_apply m c i _ r l _ _ rfl rfl]
  exact (G_split _ _ _ i r l).symm

theorem flushed3_val (c : Dev nD) (t : Fin cfg0.N) (hf : (cfg0.win 3).flush t = true) :
    (dats m 0 c).flushed 3 t = ((cfg0.win 3).blk t).view.read (Elt Ideal) (val m c) := by
  obtain ⟨i, rfl⟩ : ∃ i : Fin 3, t = point i 3 := by
    have h := (flush0_3 t).mp hf
    have ht : t.val < 12 := t.isLt
    exact ⟨⟨t.val / 4, by omega⟩, Fin.ext (by show t.val = t.val / 4 * 4 + 3; omega)⟩
  rw [flushed3]
  funext y
  obtain ⟨r, l, rfl⟩ : ∃ (r : Fin 1408) (l : Fin 1024), y = ix2 r l := ⟨y 0, y 1, eq_ix2 y⟩
  exact (out_apply m c i r l).trans (congrArg (val m c) (emb3 i r l)).symm

theorem covered3_val (i : S4224x1024.Idx) :
    ∃ t : Fin cfg0.N, (cfg0.win 3).flush t = true ∧ i ∈ ((cfg0.win 3).blk t).view.set := by
  obtain ⟨a, b, rfl⟩ : ∃ (a : Fin 4224) (b : Fin 1024), i = ix2 a b := ⟨i 0, i 1, eq_ix2 i⟩
  let i : Fin 3 := ⟨a.val / 1408, by omega⟩
  refine ⟨point i 3, (flush0_3 _).mpr (by show (i.val * 4 + 3) % 4 = 3; omega), ?_⟩
  have e : ((cfg0.win 3).blk (point i 3)).view.emb (ix2 ⟨a.val % 1408, by omega⟩ b) = (ix2 a b : S4224x1024.Idx) :=
    (emb3 i _ b).trans (congrArg (ix2 · b) (Fin.ext (by show a.val / 1408 * 1408 + a.val % 1408 = a.val; omega)))
  exact (congrArg (· ∈ ((cfg0.win 3).blk (point i 3)).view.set) e).mp (View.emb_mem_set _ _)

theorem run : θ_run defs (onTc (τ := τ) (main (F := Ideal))) ⟨m, fun _ => 0, ρ⟩ fun r => ∀ c : Dev nD,
      r.2.mem ((c : Thread nD τ).loc main_v5) = val m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans
    ((dats m 0 c).arrAt_eq_of_cover 3 (val m c) (fun t hf => flushed3_val m c t hf) covered3_val), (h c).2⟩) (run_blocks m ρ)

end Cert.Ff2Ideal.RefValue

namespace Cert.Ff2ReferenceIdeal.RefValue

open Cert.Ff2ReferenceIdeal Cert.Ff2ReferenceIdeal.Gen Cert.Ff2ReferenceIdeal.Read

theorem ref_apply (x0 : Vec Ideal S4224x4096 .f32) (x1 : Vec Ideal S4096x1024 .f32) (x2 : Vec Ideal S4224x1024 .f32) (i : Fin 4224) (j : Fin 1024) :
    val_main_v3 (F := Ideal) x0 x1 x2 (ix2 i j) = Cert.Ff2Ideal.RefValue.G x0 x1 x2 (ix2 i j) := by
  pointwise [val_main_v3, val_main_v2, val_main_v1, val_main_v0, val_main_call0_v0, val_main_call0_cst, Cert.Ff2Ideal.RefValue.G,
    Cert.Ff2Ideal.RefValue.hidden]

end Cert.Ff2ReferenceIdeal.RefValue

namespace Cert.Proof.Ff2Claims

theorem frame_ref : Cert.quiescent_Ff2ReferenceIdeal := fun m ρ _ =>
  (θ_run Cert.Ff2ReferenceIdeal.defs _ _).mono (fun r h => ⟨fun c => (h c).2,
      Idealize.ShloMosaic.sem_eq_zero_of_no_sems (by decide) r.2⟩)
    (Cert.Ff2ReferenceIdeal.Value.run (F := Ideal) m ρ)

theorem algebraic : Cert.algebraic_Ff2Ideal_Ff2ReferenceIdeal := by
  intro m ρ m' ρ' _ hagree
  refine ⟨fun c => Cert.Ff2Ideal.RefValue.val m c, Cert.Ff2Ideal.RefValue.run m ρ,
    (θ_run Cert.Ff2ReferenceIdeal.defs _ _).mono (fun r h c => ⟨?_, (h c).2⟩) (Cert.Ff2ReferenceIdeal.Value.run (F := Ideal) m' ρ')⟩
  refine (h c).1.trans ((Cert.Ff2ReferenceIdeal.Read.val_main_v3_eq _ _ _).trans ?_)
  funext i
  rw [eq_ix2 i]
  refine (Cert.Ff2ReferenceIdeal.RefValue.ref_apply _ _ _ _ _).trans ?_
  obtain ⟨e0, e1, e2⟩ := hagree c
  rw [e0, e1, e2]

end Cert.Proof.Ff2Claims

end
-- ==== Proof.SsdOut.lean ====
module

public import proofs.«01_k».proof.Defs
public import proofs.«01_k».proof.Proof.Gen.SsdOutIdeal.Value
public import proofs.«01_k».proof.Proof.Gen.SsdOutReferenceIdeal.Read
public import Idealize.ShloMosaic.Lib.Pointwise
public import Idealize.ShloMosaic.Lib.Quiescent

@[expose] public section

set_option maxRecDepth 16384

noncomputable section

open Idealize.ShloMosaic Idealize.ShloMosaic.TcCoe Idealize.SL.Sem

namespace Cert.SsdOutIdeal.RefValue

open Cert.SsdOutIdeal Cert.SsdOutIdeal.Gen Cert.SsdOutIdeal.Value

theorem hz2 : (![0, 0] : Fin 2 → Nat) = fun _ => 0 := by decide
theorem hz4 : (![0, 0, 0, 0] : Fin 4 → Nat) = fun _ => 0 := by decide

/-- The place of a part's summand. -/
def mid (s : Fin 4) (q : Fin 512) : Fin 2048 := ⟨s.val * 512 + q.val, by omega⟩

/-- A sum over the inner width, four parts one after the other. -/
theorem sum_mid (f : Fin 2048 → EReal) : ∑ q, f q
    = ((∑ q, f (mid 0 q)) + (∑ q, f (mid 1 q)) + (∑ q, f (mid 2 q))) + ∑ q, f (mid 3 q) := by
  rw [← Fin.sum_univ_four (fun j => ∑ q, f (mid j q)), ← Fintype.sum_prod_type' (fun j q => f (mid j q))]
  refine (Fintype.sum_equiv (finProdFinEquiv (m := 4) (n := 512)) _ _ fun x => ?_).symm
  refine congrArg f (Fin.ext ?_)
  show x.1.val * 512 + x.2.val = x.2.val + 512 * x.1.val
  omega

/-- The sum of the four products of parts. -/
theorem pay_apply (a0 a1 a2 a3 : Vec Ideal S1408x512 .bf16) (b0 b1 b2 b3 : Vec Ideal S1x1x512x1024 .f32) (r : Fin 1408) (l : Fin 1024) :
    k0_pay1 (F := Ideal) a0 b0 a1 b1 a2 b2 a3 b3 (ix2 r l)
      = ((∑ q : Fin 512, a0 (ix2 r q) * b0 (ix4 0 0 q l)) + (∑ q : Fin 512, a1 (ix2 r q) * b1 (ix4 0 0 q l))
        + (∑ q : Fin 512, a2 (ix2 r q) * b2 (ix4 0 0 q l))) + ∑ q : Fin 512, a3 (ix2 r q) * b3 (ix4 0 0 q l) := by
  pointwise [k0_pay1]

section
variable (x0 : Vec Ideal S1408x2048 .bf16) (x1 : Vec Ideal S1x4x512x1024 .f32) (r : Fin 1408) (q : Fin 512) (l : Fin 1024)

theorem part0 : View.ld x0 r0_0 (ix2 r q) = x0 (ix2 r (mid 0 q)) := by
  refine congrArg x0 (funext fun a => Fin.ext ?_)
  match a with
  | ⟨0, _⟩ => show 0 + 1 * r.val = r.val; omega
  | ⟨1, _⟩ => show 0 + 1 * q.val = 0 * 512 + q.val; omega
theorem part1 : View.ld x0 r0_2 (ix2 r q) = x0 (ix2 r (mid 1 q)) := by
  refine congrArg x0 (funext fun a => Fin.ext ?_)
  match a with
  | ⟨0, _⟩ => show 0 + 1 * r.val = r.val; omega
  | ⟨1, _⟩ => show 512 + 1 * q.val = 1 * 512 + q.val; omega
theorem part2 : View.ld x0 r0_4 (ix2 r q) = x0 (ix2 r (mid 2 q)) := by
  refine congrArg x0 (funext fun a => Fin.ext ?_)
  match a with
  | ⟨0, _⟩ => show 0 + 1 * r.val = r.val; omega
  | ⟨1, _⟩ => show 1024 + 1 * q.val = 2 * 512 + q.val; omega
theorem part3 : View.ld x0 r0_6 (ix2 r q) = x0 (ix2 r (mid 3 q)) := by
  refine congrArg x0 (funext fun a => Fin.ext ?_)
  match a with
  | ⟨0, _⟩ => show 0 + 1 * r.val = r.val; omega
  | ⟨1, _⟩ => show 1536 + 1 * q.val = 3 * 512 + q.val; omega
theorem shard (s : Fin 4) (o : Fin 4 → ℕ) (ho : o = ![0, s.val, 0, 0]) (inb) :
    View.ld x1 (Rect.unit (s := S1x4x512x1024) o S1x1x512x1024.size inb) (ix4 0 0 q l) = x1 (ix4 0 s q l) := by
  subst ho
  refine congrArg x1 (funext fun a => Fin.ext ?_)
  match a with
  | ⟨0, _⟩ => rfl
  | ⟨1, _⟩ => show s.val + 1 * 0 = s.val; omega
  | ⟨2, _⟩ => show 0 + 1 * q.val = q.val; omega
  | ⟨3, _⟩ => show 0 + 1 * l.val = l.val; omega

omit q in
/-- A block of the result. -/
theorem out_apply : out0_2 x0 x1 (ix2 r l) = ((∑ q : Fin 512, x0 (ix2 r (mid 0 q)) * x1 (ix4 0 0 q l))
      + (∑ q : Fin 512, x0 (ix2 r (mid 1 q)) * x1 (ix4 0 1 q l)) + (∑ q : Fin 512, x0 (ix2 r (mid 2 q)) * x1 (ix4 0 2 q l)))
      + ∑ q : Fin 512, x0 (ix2 r (mid 3 q)) * x1 (ix4 0 3 q l) := by
  unfold out0_2
  rw [View.canon_unit_zero hz2, pay_apply]
  refine congrArg₂ (· + ·) (congrArg₂ (· + ·) (congrArg₂ (· + ·) ?_ ?_) ?_) ?_
  · exact Finset.sum_congr rfl fun q _ => congrArg₂ (· * ·) (part0 x0 r q) (shard x1 q l 0 _ rfl _)
  · exact Finset.sum_congr rfl fun q _ => congrArg₂ (· * ·) (part1 x0 r q) (shard x1 q l 1 _ rfl _)
  · exact Finset.sum_congr rfl fun q _ => congrArg₂ (· * ·) (part2 x0 r q) (shard x1 q l 2 _ rfl _)
  · exact Finset.sum_congr rfl fun q _ => congrArg₂ (· * ·) (part3 x0 r q) (shard x1 q l 3 _ rfl _)
end

variable (m : (ℓ : Loc nD τ sig) → Buf (Elt Ideal) ℓ) (ρ : Dev nD → PrngReg)

/-- The weight as the region finds it: the argument with its rows in four groups. -/
theorem V_main_v0 (c : Dev nD) : V m c main_v0
    = shapeCast S1x4x512x1024 (m ((c : Thread nD τ).loc main_arg1)) shapeCasts_S2048x1024_S1x4x512x1024 := by
  simp only [V, hostOps0]; after_results; rfl
theorem V_main_v1 (c : Dev nD) : V m c main_v1 = m ((c : Thread nD τ).loc main_arg0) := by
  simp only [V, hostOps0]; after_results; rfl

theorem idx0 : ∀ t : Fin cfg0.N, win0_0.index t = ![t.val, 0] := (by decide +kernel : ∀ t : Fin grid0.N, _)
theorem idx1 : ∀ t : Fin cfg0.N, win0_1.index t = ![0, 0, 0, 0] := (by decide +kernel : ∀ t : Fin grid0.N, _)
theorem idx2 : ∀ t : Fin cfg0.N, win0_2.index t = ![t.val, 0] := (by decide +kernel : ∀ t : Fin grid0.N, _)

/-- The array row of a block's row. -/
def row (t : Fin cfg0.N) (r : Fin 1408) : Fin 4224 :=
  ⟨t.val * 1408 + r.val, by have h : t.val < 3 := t.isLt; omega⟩

theorem iblk0_apply (c : Dev nD) (t : Fin cfg0.N) (r : Fin 1408) (k : Fin 2048) :
    iblk m c 0 t (ix2 r k) = m ((c : Thread nD τ).loc main_arg0) (ix2 (row t r) k) := by
  rw [← V_main_v1 m c]
  refine congrArg (V m c main_v1) (funext fun a => Fin.ext ?_)
  match a with
  | ⟨0, _⟩ => show win0_0.index t 0 * 1408 + 1 * r.val = t.val * 1408 + r.val; rw [idx0]; simp
  | ⟨1, _⟩ => show win0_0.index t 1 * 2048 + 1 * k.val = k.val; rw [idx0]; simp

/-- The regrouped weight at an index. -/
theorem cast_apply (w : Vec Ideal S2048x1024 .f32) (s : Fin 4) (q : Fin 512) (l : Fin 1024) :
    shapeCast S1x4x512x1024 w shapeCasts_S2048x1024_S1x4x512x1024 (ix4 0 s q l) = w (ix2 (mid s q) l) := by
  pointwise
  rfl

theorem iblk1_apply (c : Dev nD) (t : Fin cfg0.N) (s : Fin 4) (q : Fin 512) (l : Fin 1024) :
    iblk m c 1 t (ix4 0 s q l) = m ((c : Thread nD τ).loc main_arg1) (ix2 (mid s q) l) := by
  have h : iblk m c 1 t (ix4 0 s q l) = V m c main_v0 (ix4 0 s q l) := by
    refine congrArg (V m c main_v0) (funext fun a => Fin.ext ?_)
    match a with
    | ⟨0, _⟩ => show win0_1.index t 0 * 1 + 1 * 0 = 0; rw [idx1]; simp
    | ⟨1, _⟩ => show win0_1.index t 1 * 4 + 1 * s.val = s.val; rw [idx1]; simp
    | ⟨2, _⟩ => show win0_1.index t 2 * 512 + 1 * q.val = q.val; rw [idx1]; simp
    | ⟨3, _⟩ => show win0_1.index t 3 * 1024 + 1 * l.val = l.val; rw [idx1]; simp
  rw [h, V_main_v0]
  exact cast_apply _ _ _ _

theorem emb2 (t : Fin cfg0.N) (r : Fin 1408) (l : Fin 1024) :
    ((cfg0.win 2).blk t).view.emb (ix2 r l) = (ix2 (row t r) l : S4224x1024.Idx) := by
  funext a; apply Fin.ext
  match a with
  | ⟨0, _⟩ => show win0_2.index t 0 * 1408 + 1 * r.val = t.val * 1408 + r.val; rw [idx2]; simp
  | ⟨1, _⟩ => show win0_2.index t 1 * 1024 + 1 * l.val = l.val; rw [idx2]; simp

/-- The result as one function of the argument arrays. -/
def G (yn : Vec Ideal S4224x2048 .f32) (w : Vec Ideal S2048x1024 .f32) : Vec Ideal S4224x1024 .f32 := fun i =>
  ∑ k : Fin 2048, yn (ix2 (i 0) k) * w (ix2 k (i 1))

theorem G_split (x : Vec Ideal S4224x2048 .f32) (w : Vec Ideal S2048x1024 .f32) (i : Fin 4224) (l : Fin 1024) :
    G x w (ix2 i l) = ((∑ q, x (ix2 i (mid 0 q)) * w (ix2 (mid 0 q) l)) + (∑ q, x (ix2 i (mid 1 q)) * w (ix2 (mid 1 q) l))
      + (∑ q, x (ix2 i (mid 2 q)) * w (ix2 (mid 2 q) l))) + ∑ q, x (ix2 i (mid 3 q)) * w (ix2 (mid 3 q) l) :=
  sum_mid _

abbrev val (c : Dev nD) : Buf (Elt Ideal) ((c : Thread nD τ).loc main_v2) :=
  G (m ((c : Thread nD τ).loc main_arg0)) (m ((c : Thread nD τ).loc main_arg1))

theorem flushed2_eq (c : Dev nD) (t : Fin cfg0.N) :
    (dats m 0 c).flushed 2 t = ((cfg0.win 2).blk t).view.read (Elt Ideal) (val m c) := by
  rw [flushed2]
  funext j
  obtain ⟨r, l, rfl⟩ : ∃ (r : Fin 1408) (l : Fin 1024), j = ix2 r l := ⟨j 0, j 1, eq_ix2 j⟩
  refine (out_apply _ _ r l).trans (Eq.trans ?_ (congrArg (val m c) (emb2 t r l)).symm)
  simp only [iblk0_apply, iblk1_apply]
  exact (G_split _ _ _ _).symm

theorem covered2 (i : S4224x1024.Idx) :
    ∃ t : Fin cfg0.N, (cfg0.win 2).flush t = true ∧ i ∈ ((cfg0.win 2).blk t).view.set := by
  obtain ⟨a, b, rfl⟩ : ∃ (a : Fin 4224) (b : Fin 1024), i = ix2 a b := ⟨i 0, i 1, eq_ix2 i⟩
  let t : Fin cfg0.N := ⟨a.val / 1408, by show _ < 3; omega⟩
  refine ⟨t, flush0_2 _, ?_⟩
  have e : ((cfg0.win 2).blk t).view.emb (ix2 ⟨a.val % 1408, by omega⟩ b) = (ix2 a b : S4224x1024.Idx) := by
    refine (emb2 t _ _).trans (congrArg (ix2 · b) (Fin.ext ?_))
    show a.val / 1408 * 1408 + a.val % 1408 = a.val; omega
  exact (congrArg (· ∈ ((cfg0.win 2).blk t).view.set) e).mp (View.emb_mem_set _ _)

theorem run : θ_run defs (onTc (τ := τ) (main (F := Ideal))) ⟨m, fun _ => 0, ρ⟩ fun r => ∀ c : Dev nD,
      r.2.mem ((c : Thread nD τ).loc main_v2) = val m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans
    ((dats m 0 c).arrAt_eq_of_cover 2 (val m c) (fun t _ => flushed2_eq m c t) covered2), (h c).2⟩) (run_blocks m ρ)

end Cert.SsdOutIdeal.RefValue

namespace Cert.SsdOutReferenceIdeal.RefValue

open Cert.SsdOutReferenceIdeal Cert.SsdOutReferenceIdeal.Gen Cert.SsdOutReferenceIdeal.Read

theorem ref_apply (x0 : Vec Ideal S4224x2048 .f32) (x1 : Vec Ideal S2048x1024 .f32) (i : Fin 4224) (j : Fin 1024) :
    val_main_v0 (F := Ideal) x0 x1 (ix2 i j) = Cert.SsdOutIdeal.RefValue.G x0 x1 (ix2 i j) := by
  pointwise [val_main_v0, Cert.SsdOutIdeal.RefValue.G]

end Cert.SsdOutReferenceIdeal.RefValue

namespace Cert.Proof.SsdOutClaims

theorem frame_ref : Cert.quiescent_SsdOutReferenceIdeal := fun m ρ _ =>
  (θ_run Cert.SsdOutReferenceIdeal.defs _ _).mono (fun r h => ⟨fun c => (h c).2,
      Idealize.ShloMosaic.sem_eq_zero_of_no_sems (by decide) r.2⟩)
    (Cert.SsdOutReferenceIdeal.Value.run (F := Ideal) m ρ)

theorem algebraic : Cert.algebraic_SsdOutIdeal_SsdOutReferenceIdeal := by
  intro m ρ m' ρ' _ hagree
  refine ⟨fun c => Cert.SsdOutIdeal.RefValue.val m c, Cert.SsdOutIdeal.RefValue.run m ρ,
    (θ_run Cert.SsdOutReferenceIdeal.defs _ _).mono (fun r h c => ⟨?_, (h c).2⟩) (Cert.SsdOutReferenceIdeal.Value.run (F := Ideal) m' ρ')⟩
  refine (h c).1.trans ((Cert.SsdOutReferenceIdeal.Read.val_main_v0_eq _ _).trans ?_)
  funext i
  rw [eq_ix2 i]
  refine (Cert.SsdOutReferenceIdeal.RefValue.ref_apply _ _ _ _).trans ?_
  obtain ⟨e0, e1⟩ := hagree c
  rw [e0, e1]

end Cert.Proof.SsdOutClaims

end
-- ==== Proof.O.lean ====
module

public import proofs.«01_k».proof.Defs
public import proofs.«01_k».proof.Proof.Gen.OIdeal.Value
public import proofs.«01_k».proof.Proof.Gen.OReferenceIdeal.Read
public import Idealize.ShloMosaic.Lib.Pointwise
public import Idealize.ShloMosaic.Lib.Quiescent

@[expose] public section

set_option maxRecDepth 16384

noncomputable section

open Idealize.ShloMosaic Idealize.ShloMosaic.TcCoe Idealize.SL.Sem

namespace Cert.OIdeal.RefValue

open Cert.OIdeal Cert.OIdeal.Gen Cert.OIdeal.Value

theorem hz2 : (![0, 0] : Fin 2 → Nat) = fun _ => 0 := by decide
theorem hz4 : (![0, 0, 0, 0] : Fin 4 → Nat) = fun _ => 0 := by decide

/-- The place of a part's summand. -/
def mid (s : Fin 4) (q : Fin 256) : Fin 1024 := ⟨s.val * 256 + q.val, by omega⟩

/-- A sum over the model width, four parts one after the other. -/
theorem sum_mid (f : Fin 1024 → EReal) : ∑ q, f q
    = ((∑ q, f (mid 0 q)) + (∑ q, f (mid 1 q)) + (∑ q, f (mid 2 q))) + ∑ q, f (mid 3 q) := by
  rw [← Fin.sum_univ_four (fun j => ∑ q, f (mid j q)), ← Fintype.sum_prod_type' (fun j q => f (mid j q))]
  refine (Fintype.sum_equiv (finProdFinEquiv (m := 4) (n := 256)) _ _ fun x => ?_).symm
  refine congrArg f (Fin.ext ?_)
  show x.1.val * 256 + x.2.val = x.2.val + 256 * x.1.val
  omega

/-- The sum of the four products of parts. -/
theorem pay_apply (a0 a1 a2 a3 : Vec Ideal S1408x256 .bf16) (b0 b1 b2 b3 : Vec Ideal S1x1x256x1024 .f32) (r : Fin 1408) (l : Fin 1024) :
    k0_pay3 (F := Ideal) a0 b0 a1 b1 a2 b2 a3 b3 (ix2 r l)
      = ((∑ q : Fin 256, a0 (ix2 r q) * b0 (ix4 0 0 q l)) + (∑ q : Fin 256, a1 (ix2 r q) * b1 (ix4 0 0 q l))
        + (∑ q : Fin 256, a2 (ix2 r q) * b2 (ix4 0 0 q l))) + ∑ q : Fin 256, a3 (ix2 r q) * b3 (ix4 0 0 q l) := by
  pointwise [k0_pay3]

/-- The factor a row is scaled by, from the sum of its squares. -/
def scale (s : EReal) : EReal := Ideal.rsqrt (Ideal.div s (Ideal.ofBits .f32 0x44800000#32) + Ideal.ofBits .f32 0x3727C5AC#32)

theorem add_apply (a b : Vec Ideal S1408x1024 .f32) (r : Fin 1408) (l : Fin 1024) :
    k0_pay1 (F := Ideal) a b (ix2 r l) = a (ix2 r l) + b (ix2 r l) := by
  pointwise [k0_pay1]

/-- A row of the sum, scaled and weighted. -/
theorem norm_apply (a b : Vec Ideal S1408x1024 .f32) (w : Vec Ideal S1x1024 .f32) (r : Fin 1408) (l : Fin 1024) :
    k0_pay2 (F := Ideal) a b w (ix2 r l) = (a (ix2 r l) + b (ix2 r l))
      * scale (∑ q : Fin 1024, (a (ix2 r q) + b (ix2 r q)) * (a (ix2 r q) + b (ix2 r q))) * w (ix2 0 l) := by
  pointwise [k0_pay2, k0_pay1, scale]

section
variable (x0 : Vec Ideal S1408x1024 .bf16) (x1 : Vec Ideal S1x4x256x1024 .f32) (x2 : Vec Ideal S1408x1024 .f32)
    (x3 : Vec Ideal S1x1024 .f32) (r : Fin 1408) (q : Fin 256) (l : Fin 1024)

theorem part0 : View.ld x0 r0_0 (ix2 r q) = x0 (ix2 r (mid 0 q)) := by
  refine congrArg x0 (funext fun a => Fin.ext ?_)
  match a with
  | ⟨0, _⟩ => show 0 + 1 * r.val = r.val; omega
  | ⟨1, _⟩ => show 0 + 1 * q.val = 0 * 256 + q.val; omega
theorem part1 : View.ld x0 r0_2 (ix2 r q) = x0 (ix2 r (mid 1 q)) := by
  refine congrArg x0 (funext fun a => Fin.ext ?_)
  match a with
  | ⟨0, _⟩ => show 0 + 1 * r.val = r.val; omega
  | ⟨1, _⟩ => show 256 + 1 * q.val = 1 * 256 + q.val; omega
theorem part2 : View.ld x0 r0_4 (ix2 r q) = x0 (ix2 r (mid 2 q)) := by
  refine congrArg x0 (funext fun a => Fin.ext ?_)
  match a with
  | ⟨0, _⟩ => show 0 + 1 * r.val = r.val; omega
  | ⟨1, _⟩ => show 512 + 1 * q.val = 2 * 256 + q.val; omega
theorem part3 : View.ld x0 r0_6 (ix2 r q) = x0 (ix2 r (mid 3 q)) := by
  refine congrArg x0 (funext fun a => Fin.ext ?_)
  match a with
  | ⟨0, _⟩ => show 0 + 1 * r.val = r.val; omega
  | ⟨1, _⟩ => show 768 + 1 * q.val = 3 * 256 + q.val; omega
theorem shard (s : Fin 4) (o : Fin 4 → ℕ) (ho : o = ![0, s.val, 0, 0]) (inb) :
    View.ld x1 (Rect.unit (s := S1x4x256x1024) o S1x1x256x1024.size inb) (ix4 0 0 q l) = x1 (ix4 0 s q l) := by
  subst ho
  refine congrArg x1 (funext fun a => Fin.ext ?_)
  match a with
  | ⟨0, _⟩ => rfl
  | ⟨1, _⟩ => show s.val + 1 * 0 = s.val; omega
  | ⟨2, _⟩ => show 0 + 1 * q.val = q.val; omega
  | ⟨3, _⟩ => show 0 + 1 * l.val = l.val; omega

omit q in
/-- A block of the product. -/
theorem sum_apply : k0_pay4 x0 x1 x2 x3 (ix2 r l) = ((∑ q : Fin 256, x0 (ix2 r (mid 0 q)) * x1 (ix4 0 0 q l))
      + (∑ q : Fin 256, x0 (ix2 r (mid 1 q)) * x1 (ix4 0 1 q l)) + (∑ q : Fin 256, x0 (ix2 r (mid 2 q)) * x1 (ix4 0 2 q l)))
      + ∑ q : Fin 256, x0 (ix2 r (mid 3 q)) * x1 (ix4 0 3 q l) := by
  unfold k0_pay4
  rw [pay_apply]
  refine congrArg₂ (· + ·) (congrArg₂ (· + ·) (congrArg₂ (· + ·) ?_ ?_) ?_) ?_
  · exact Finset.sum_congr rfl fun q _ => congrArg₂ (· * ·) (part0 x0 r q) (shard x1 q l 0 _ rfl _)
  · exact Finset.sum_congr rfl fun q _ => congrArg₂ (· * ·) (part1 x0 r q) (shard x1 q l 1 _ rfl _)
  · exact Finset.sum_congr rfl fun q _ => congrArg₂ (· * ·) (part2 x0 r q) (shard x1 q l 2 _ rfl _)
  · exact Finset.sum_congr rfl fun q _ => congrArg₂ (· * ·) (part3 x0 r q) (shard x1 q l 3 _ rfl _)

omit r q l in
/-- The first result's block: the product with the residual's block added. -/
theorem out4_eq : out0_4 x0 x1 x2 x3 = k0_pay1 (k0_pay4 x0 x1 x2 x3) x2 := by
  unfold out0_4
  rw [View.canon_unit_zero hz2, View.ld_unit_zero hz2]

omit r q l in
/-- The second result's block: the first one's rows normalised. -/
theorem out5_eq : out0_5 x0 x1 x2 x3 = k0_pay2 (k0_pay4 x0 x1 x2 x3) x2 x3 := by
  unfold out0_5
  rw [View.canon_unit_zero hz2, View.ld_unit_zero hz2, View.ld_unit_zero hz2]
end

variable (m : (ℓ : Loc nD τ sig) → Buf (Elt Ideal) ℓ) (ρ : Dev nD → PrngReg)

/-- The weight as the region finds it: the argument with its rows in four groups. -/
theorem V_main_v0 (c : Dev nD) : V m c main_v0
    = shapeCast S1x4x256x1024 (m ((c : Thread nD τ).loc main_arg1)) shapeCasts_S1024x1024_S1x4x256x1024 := by
  simp only [V, hostOps0]; after_results; rfl
theorem V_main_v1 (c : Dev nD) : V m c main_v1 = m ((c : Thread nD τ).loc main_arg0) := by
  simp only [V, hostOps0]; after_results; rfl

theorem V_main_v2 (c : Dev nD) : V m c main_v2
    = shapeCast S1x1024 (m ((c : Thread nD τ).loc main_arg3)) shapeCasts_S1024_S1x1024 := by
  simp only [V, hostOps0]; after_results; rfl

theorem idx0 : ∀ t : Fin cfg0.N, win0_0.index t = ![t.val, 0] := (by decide +kernel : ∀ t : Fin grid0.N, _)
theorem idx1 : ∀ t : Fin cfg0.N, win0_1.index t = ![0, 0, 0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)

/-- The array row of a block's row. -/
def row (t : Fin cfg0.N) (r : Fin 1408) : Fin 4224 :=
  ⟨t.val * 1408 + r.val, by have h : t.val < 3 := t.isLt; omega⟩

theorem iblk0_apply (c : Dev nD) (t : Fin cfg0.N) (r : Fin 1408) (k : Fin 1024) :
    iblk m c 0 t (ix2 r k) = m ((c : Thread nD τ).loc main_arg0) (ix2 (row t r) k) := by
  rw [← V_main_v1 m c]
  refine congrArg (V m c main_v1) (funext fun a => Fin.ext ?_)
  match a with
  | ⟨0, _⟩ => show win0_0.index t 0 * 1408 + 1 * r.val = t.val * 1408 + r.val; rw [idx0]; simp
  | ⟨1, _⟩ => show win0_0.index t 1 * 1024 + 1 * k.val = k.val; rw [idx0]; simp

/-- The regrouped weight at an index. -/
theorem cast_apply (w : Vec Ideal S1024x1024 .f32) (s : Fin 4) (q : Fin 256) (l : Fin 1024) :
    shapeCast S1x4x256x1024 w shapeCasts_S1024x1024_S1x4x256x1024 (ix4 0 s q l) = w (ix2 (mid s q) l) := by
  pointwise
  rfl

theorem iblk1_apply (c : Dev nD) (t : Fin cfg0.N) (s : Fin 4) (q : Fin 256) (l : Fin 1024) :
    iblk m c 1 t (ix4 0 s q l) = m ((c : Thread nD τ).loc main_arg1) (ix2 (mid s q) l) := by
  have h : iblk m c 1 t (ix4 0 s q l) = V m c main_v0 (ix4 0 s q l) := by
    refine congrArg (V m c main_v0) (funext fun a => Fin.ext ?_)
    match a with
    | ⟨0, _⟩ => show win0_1.index t 0 * 1 + 1 * 0 = 0; rw [idx1]; simp
    | ⟨1, _⟩ => show win0_1.index t 1 * 4 + 1 * s.val = s.val; rw [idx1]; simp
    | ⟨2, _⟩ => show win0_1.index t 2 * 256 + 1 * q.val = q.val; rw [idx1]; simp
    | ⟨3, _⟩ => show win0_1.index t 3 * 1024 + 1 * l.val = l.val; rw [idx1]; simp
  rw [h, V_main_v0]
  exact cast_apply _ _ _ _

theorem iblk2_apply (c : Dev nD) (t : Fin cfg0.N) (r : Fin 1408) (l : Fin 1024) :
    iblk m c 2 t (ix2 r l) = m ((c : Thread nD τ).loc main_arg2) (ix2 (row t r) l) := by
  rw [← V_main_arg2 m c]
  refine congrArg (V m c main_arg2) (funext fun a => Fin.ext ?_)
  match a with
  | ⟨0, _⟩ => show win0_2.index t 0 * 1408 + 1 * r.val = t.val * 1408 + r.val; rw [idx2]; simp
  | ⟨1, _⟩ => show win0_2.index t 1 * 1024 + 1 * l.val = l.val; rw [idx2]; simp

theorem weight_apply (w : Vec Ideal S1024 .f32) (l : Fin 1024) :
    shapeCast S1x1024 w shapeCasts_S1024_S1x1024 (ix2 0 l) = w (ix1 l) := by
  pointwise

theorem iblk3_apply (c : Dev nD) (t : Fin cfg0.N) (l : Fin 1024) :
    iblk m c 3 t (ix2 0 l) = m ((c : Thread nD τ).loc main_arg3) (ix1 l) := by
  have h : iblk m c 3 t (ix2 0 l) = V m c main_v2 (ix2 0 l) := by
    refine congrArg (V m c main_v2) (funext fun a => Fin.ext ?_)
    match a with
    | ⟨0, _⟩ => show win0_3.index t 0 * 1 + 1 * 0 = 0; rw [idx3]; simp
    | ⟨1, _⟩ => show win0_3.index t 1 * 1024 + 1 * l.val = l.val; rw [idx3]; simp
  rw [h, V_main_v2]
  exact weight_apply _ _

theorem emb4 (t : Fin cfg0.N) (r : Fin 1408) (l : Fin 1024) :
    ((cfg0.win 4).blk t).view.emb (ix2 r l) = (ix2 (row t r) l : S4224x1024.Idx) := by
  funext a; apply Fin.ext
  match a with
  | ⟨0, _⟩ => show win0_4.index t 0 * 1408 + 1 * r.val = t.val * 1408 + r.val; rw [idx4]; simp
  | ⟨1, _⟩ => show win0_4.index t 1 * 1024 + 1 * l.val = l.val; rw [idx4]; simp

theorem emb5 (t : Fin cfg0.N) (r : Fin 1408) (l : Fin 1024) :
    ((cfg0.win 5).blk t).view.emb (ix2 r l) = (ix2 (row t r) l : S4224x1024.Idx) := by
  funext a; apply Fin.ext
  match a with
  | ⟨0, _⟩ => show win0_5.index t 0 * 1408 + 1 * r.val = t.val * 1408 + r.val; rw [idx5]; simp
  | ⟨1, _⟩ => show win0_5.index t 1 * 1024 + 1 * l.val = l.val; rw [idx5]; simp

/-- The results as functions of the argument arrays. -/
def G (x : Vec Ideal S4224x1024 .f32) (w : Vec Ideal S1024x1024 .f32) (h : Vec Ideal S4224x1024 .f32) : Vec Ideal S4224x1024 .f32 := fun i =>
  h i + ∑ k : Fin 1024, x (ix2 (i 0) k) * w (ix2 k (i 1))

def Nm (x : Vec Ideal S4224x1024 .f32) (w : Vec Ideal S1024x1024 .f32) (h : Vec Ideal S4224x1024 .f32) (n : Vec Ideal S1024 .f32) :
    Vec Ideal S4224x1024 .bf16 := fun i =>
  G x w h i * scale (∑ q : Fin 1024, G x w h (ix2 (i 0) q) * G x w h (ix2 (i 0) q)) * n (ix1 (i 1))

theorem G_split (x : Vec Ideal S4224x1024 .f32) (w : Vec Ideal S1024x1024 .f32) (h : Vec Ideal S4224x1024 .f32) (i : Fin 4224) (l : Fin 1024) :
    G x w h (ix2 i l) = (((∑ q, x (ix2 i (mid 0 q)) * w (ix2 (mid 0 q) l)) + (∑ q, x (ix2 i (mid 1 q)) * w (ix2 (mid 1 q) l))
      + (∑ q, x (ix2 i (mid 2 q)) * w (ix2 (mid 2 q) l))) + ∑ q, x (ix2 i (mid 3 q)) * w (ix2 (mid 3 q) l)) + h (ix2 i l) :=
  (add_comm _ _).trans (congrArg (· + h (ix2 i l)) (sum_mid fun q => x (ix2 i q) * w (ix2 q l)))

abbrev val (c : Dev nD) : Buf (Elt Ideal) ((c : Thread nD τ).loc main_v3_0) :=
  G (m ((c : Thread nD τ).loc main_arg0)) (m ((c : Thread nD τ).loc main_arg1)) (m ((c : Thread nD τ).loc main_arg2))
abbrev valNm (c : Dev nD) : Buf (Elt Ideal) ((c : Thread nD τ).loc main_v3_1) :=
  Nm (m ((c : Thread nD τ).loc main_arg0)) (m ((c : Thread nD τ).loc main_arg1)) (m ((c : Thread nD τ).loc main_arg2))
    (m ((c : Thread nD τ).loc main_arg3))

/-- A point's block of the product with the residual's block added. -/
theorem block_eq (c : Dev nD) (t : Fin cfg0.N) (r : Fin 1408) (l : Fin 1024) :
    k0_pay4 (iblk m c 0 t) (iblk m c 1 t) (iblk m c 2 t) (iblk m c 3 t) (ix2 r l) + iblk m c 2 t (ix2 r l) = val m c (ix2 (row t r) l) := by
  rw [sum_apply]
  simp only [iblk0_apply, iblk1_apply, iblk2_apply]
  exact (G_split _ _ _ _ _).symm

theorem flushed4_val (c : Dev nD) (t : Fin cfg0.N) :
    (dats m 0 c).flushed 4 t = ((cfg0.win 4).blk t).view.read (Elt Ideal) (val m c) := by
  rw [flushed4, out4_eq]
  funext j
  obtain ⟨r, l, rfl⟩ : ∃ (r : Fin 1408) (l : Fin 1024), j = ix2 r l := ⟨j 0, j 1, eq_ix2 j⟩
  exact (add_apply _ _ r l).trans ((block_eq m c t r l).trans (congrArg (val m c) (emb4 t r l)).symm)

theorem flushed5_val (c : Dev nD) (t : Fin cfg0.N) :
    (dats m 0 c).flushed 5 t = ((cfg0.win 5).blk t).view.read (Elt Ideal) (valNm m c) := by
  rw [flushed5, out5_eq]
  funext j
  obtain ⟨r, l, rfl⟩ : ∃ (r : Fin 1408) (l : Fin 1024), j = ix2 r l := ⟨j 0, j 1, eq_ix2 j⟩
  refine (norm_apply _ _ _ r l).trans (Eq.trans ?_ (congrArg (valNm m c) (emb5 t r l)).symm)
  simp only [block_eq m c t r, iblk3_apply]
  rfl

theorem covered4 (i : S4224x1024.Idx) :
    ∃ t : Fin cfg0.N, (cfg0.win 4).flush t = true ∧ i ∈ ((cfg0.win 4).blk t).view.set := by
  obtain ⟨a, b, rfl⟩ : ∃ (a : Fin 4224) (b : Fin 1024), i = ix2 a b := ⟨i 0, i 1, eq_ix2 i⟩
  let t : Fin cfg0.N := ⟨a.val / 1408, by show _ < 3; omega⟩
  refine ⟨t, flush0_4 _, ?_⟩
  have e : ((cfg0.win 4).blk t).view.emb (ix2 ⟨a.val % 1408, by omega⟩ b) = (ix2 a b : S4224x1024.Idx) := by
    refine (emb4 t _ _).trans (congrArg (ix2 · b) (Fin.ext ?_))
    show a.val / 1408 * 1408 + a.val % 1408 = a.val; omega
  exact (congrArg (· ∈ ((cfg0.win 4).blk t).view.set) e).mp (View.emb_mem_set _ _)

theorem covered5 (i : S4224x1024.Idx) :
    ∃ t : Fin cfg0.N, (cfg0.win 5).flush t = true ∧ i ∈ ((cfg0.win 5).blk t).view.set := by
  obtain ⟨a, b, rfl⟩ : ∃ (a : Fin 4224) (b : Fin 1024), i = ix2 a b := ⟨i 0, i 1, eq_ix2 i⟩
  let t : Fin cfg0.N := ⟨a.val / 1408, by show _ < 3; omega⟩
  refine ⟨t, flush0_5 _, ?_⟩
  have e : ((cfg0.win 5).blk t).view.emb (ix2 ⟨a.val % 1408, by omega⟩ b) = (ix2 a b : S4224x1024.Idx) := by
    refine (emb5 t _ _).trans (congrArg (ix2 · b) (Fin.ext ?_))
    show a.val / 1408 * 1408 + a.val % 1408 = a.val; omega
  exact (congrArg (· ∈ ((cfg0.win 5).blk t).view.set) e).mp (View.emb_mem_set _ _)

theorem run : θ_run defs (onTc (τ := τ) (main (F := Ideal))) ⟨m, fun _ => 0, ρ⟩ fun r => ∀ c : Dev nD,
      r.2.mem ((c : Thread nD τ).loc main_v3_0) = val m c
      ∧ r.2.mem ((c : Thread nD τ).loc main_v3_1) = valNm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans
      ((dats m 0 c).arrAt_eq_of_cover 4 (val m c) (fun t _ => flushed4_val m c t) covered4),
    (h c).2.1.trans ((dats m 0 c).arrAt_eq_of_cover 5 (valNm m c) (fun t _ => flushed5_val m c t) covered5), (h c).2.2⟩) (run_blocks m ρ)

end Cert.OIdeal.RefValue

namespace Cert.OReferenceIdeal.RefValue

open Cert.OReferenceIdeal Cert.OReferenceIdeal.Gen Cert.OReferenceIdeal.Read

theorem ref_apply (x0 : Vec Ideal S4224x1024 .f32) (x1 : Vec Ideal S1024x1024 .f32) (x2 : Vec Ideal S4224x1024 .f32) (i : Fin 4224) (j : Fin 1024) :
    val_main_v1 (F := Ideal) x0 x1 x2 (ix2 i j) = Cert.OIdeal.RefValue.G x0 x1 x2 (ix2 i j) := by
  pointwise [val_main_v1, val_main_v0, Cert.OIdeal.RefValue.G]

theorem ref_norm (x0 : Vec Ideal S4224x1024 .f32) (x1 : Vec Ideal S1024x1024 .f32) (x2 : Vec Ideal S4224x1024 .f32) (x3 : Vec Ideal S1024 .f32)
    (i : Fin 4224) (j : Fin 1024) :
    val_main_v15 (F := Ideal) x0 x1 x2 x3 (ix2 i j) = Cert.OIdeal.RefValue.Nm x0 x1 x2 x3 (ix2 i j) := by
  have h : val_main_v15 (F := Ideal) x0 x1 x2 x3 (ix2 i j)
      = val_main_v1 (F := Ideal) x0 x1 x2 (ix2 i j) * Cert.OIdeal.RefValue.scale (∑ q : Fin 1024,
        val_main_v1 (F := Ideal) x0 x1 x2 (ix2 i q) * val_main_v1 (F := Ideal) x0 x1 x2 (ix2 i q)) * x3 (ix1 j) := by
    pointwise [val_main_v15, val_main_v14, val_main_v13, val_main_v12, val_main_v11, val_main_v10, val_main_v9, val_main_v8, val_main_v7,
      val_main_v6, val_main_v5, val_main_v4, val_main_v3, val_main_v2, val_main_cst, val_main_cst_0, val_main_cst_1,
      Cert.OIdeal.RefValue.scale]
  rw [h]
  simp only [ref_apply]
  rfl

end Cert.OReferenceIdeal.RefValue

namespace Cert.Proof.OClaims

theorem frame_ref : Cert.quiescent_OReferenceIdeal := fun m ρ _ =>
  (θ_run Cert.OReferenceIdeal.defs _ _).mono (fun r h => ⟨fun c => (h c).2.2,
      Idealize.ShloMosaic.sem_eq_zero_of_no_sems (by decide) r.2⟩)
    (Cert.OReferenceIdeal.Value.run (F := Ideal) m ρ)

theorem algebraic : Cert.algebraic_OIdeal_OReferenceIdeal := by
  intro m ρ m' ρ' _ hagree
  refine ⟨fun c => Cert.OIdeal.RefValue.val m c, fun c => Cert.OIdeal.RefValue.valNm m c, Cert.OIdeal.RefValue.run m ρ,
    (θ_run Cert.OReferenceIdeal.defs _ _).mono (fun r h c => ⟨?_, ?_, (h c).2.2⟩) (Cert.OReferenceIdeal.Value.run (F := Ideal) m' ρ')⟩
  all_goals obtain ⟨e0, e1, e2, e3⟩ := hagree c
  · refine (h c).1.trans ((Cert.OReferenceIdeal.Read.val_main_v1_eq _ _ _).trans ?_)
    funext i
    rw [eq_ix2 i]
    refine (Cert.OReferenceIdeal.RefValue.ref_apply _ _ _ _ _).trans ?_
    rw [e0, e1, e2]
  · refine (h c).2.1.trans ((Cert.OReferenceIdeal.Read.val_main_v15_eq _ _ _ _).trans ?_)
    funext i
    rw [eq_ix2 i]
    refine (Cert.OReferenceIdeal.RefValue.ref_norm _ _ _ _ _ _).trans ?_
    rw [e0, e1, e2, e3]

end Cert.Proof.OClaims

end
-- ==== Proof.Ff2Norm.lean ====
module

public import proofs.«01_k».proof.Defs
public import proofs.«01_k».proof.Proof.Gen.Ff2NormIdeal.Value
public import proofs.«01_k».proof.Proof.Gen.Ff2NormReferenceIdeal.Read
public import Idealize.ShloMosaic.Lib.Pointwise
public import Idealize.ShloMosaic.Lib.Pipeline.ReadBack
public import Idealize.ShloMosaic.Lib.Quiescent

@[expose] public section

set_option maxRecDepth 16384

noncomputable section

open Idealize.ShloMosaic Idealize.ShloMosaic.TcCoe Idealize.ShloMosaic.Tactic Idealize.SL.Sem

namespace Cert.Ff2NormIdeal.RefValue

open Cert.Ff2NormIdeal Cert.Ff2NormIdeal.Gen Cert.Ff2NormIdeal.Value

theorem hz2 : (![0, 0] : Fin 2 → Nat) = fun _ => 0 := by decide
theorem hz4 : (![0, 0, 0, 0] : Fin 4 → Nat) = fun _ => 0 := by decide
theorem origin2 : ∀ a : Fin 2, (![0, 0] : Fin 2 → ℕ) a = 0 := by decide
theorem origin4 : ∀ a : Fin 4, (![0, 0, 0, 0] : Fin 4 → ℕ) a = 0 := by decide

/-- The product of two blocks. -/
theorem pay_apply (x0 : Vec Ideal S1408x1024 .bf16) (x1 : Vec Ideal S1x1x1024x1024 .f32) (r : Fin 1408) (l : Fin 1024) :
    k0_pay1 (F := Ideal) x0 x1 (ix2 r l) = ∑ k : Fin 1024, x0 (ix2 r k) * x1 (ix4 0 0 k l) := by
  pointwise [k0_pay1]

theorem first_apply (x0 : Vec Ideal S1408x1024 .bf16) (x1 : Vec Ideal S1x1x1024x1024 .f32) (y : S1408x1024.Idx) :
    k0_pay2 (F := Ideal) x0 x1 y = k0_pay1 (F := Ideal) x0 x1 y := by
  rw [eq_ix2 y]; pointwise [k0_pay2]

theorem next_apply (x0 : Vec Ideal S1408x1024 .bf16) (x1 : Vec Ideal S1x1x1024x1024 .f32) (acc : Vec Ideal S1408x1024 .f32) (y : S1408x1024.Idx) :
    k0_pay3 (F := Ideal) x0 x1 acc y = acc y + k0_pay1 (F := Ideal) x0 x1 y := by
  rw [eq_ix2 y]; pointwise [k0_pay3]

theorem last_apply (a b : Vec Ideal S1408x1024 .f32) (y : S1408x1024.Idx) : k0_pay4 (F := Ideal) a b y = a y + b y := by
  rw [eq_ix2 y]; pointwise [k0_pay4]

/-- The factor a row is scaled by, from the sum of its squares. -/
def scale (s : EReal) : EReal := Ideal.rsqrt (Ideal.div s (Ideal.ofBits .f32 0x44800000#32) + Ideal.ofBits .f32 0x3727C5AC#32)

/-- A row of the sum, scaled and weighted. -/
theorem norm_apply (a b : Vec Ideal S1408x1024 .f32) (w : Vec Ideal S1x1024 .f32) (r : Fin 1408) (l : Fin 1024) :
    k0_pay5 (F := Ideal) a b w (ix2 r l) = (a (ix2 r l) + b (ix2 r l))
      * scale (∑ q : Fin 1024, (a (ix2 r q) + b (ix2 r q)) * (a (ix2 r q) + b (ix2 r q))) * w (ix2 0 l) := by
  pointwise [k0_pay5, k0_pay4, scale]

section
variable (c : Dev nD) (i : grid0.Coords) (arg3 : Memref sig .tc .vmem S1408x1024 .bf16) (harg3 : arg3.IsWhole)
    (arg4 : Memref sig .tc .vmem S1x1x1024x1024 .f32) (harg4 : arg4.IsWhole) (arg5 : Memref sig .tc .vmem S1408x1024 .f32) (harg5 : arg5.IsWhole)
    (arg6 : Memref sig .tc .vmem S1x1024 .f32) (harg6 : arg6.IsWhole) (arg7 : Memref sig .tc .vmem S1408x1024 .f32) (harg7 : arg7.IsWhole)
    (arg8 : Memref sig .tc .vmem S1408x1024 .bf16) (harg8 : arg8.IsWhole) (arg9 : Memref sig .tc .vmem S1408x1024 .f32) (harg9 : arg9.IsWhole)
    (x0 : Vec Ideal S1408x1024 .bf16) (x1 : Vec Ideal S1x1x1024x1024 .f32) (x2 : Vec Ideal S1408x1024 .f32) (x3 : Vec Ideal S1x1024 .f32)
    (xs : Vec Ideal S1408x1024 .f32)

/-- The first point of a row of blocks leaves its product in the accumulator. -/
theorem storedA (hc0 : cond0_0 i) (hc1 : ¬cond0_1 i) (hc2 : ¬cond0_2 i) :
    sout0_A_0 (F := Ideal) c i arg3 harg3 arg4 harg4 arg5 harg5 arg6 harg6 arg7 harg7 arg8 harg8 arg9 harg9 hc0 hc1 hc2 x0 x1 x2 x3 = k0_pay2 x0 x1 := by
  unfold sout0_A_0
  funext y
  rw [View.read_writes_eq_canon _ _ _ (scover0_A_0 c i arg3 harg3 arg4 harg4 arg5 harg5 arg6 harg6 arg7 harg7 arg8 harg8 arg9 harg9 hc0 hc1 hc2 x0 x1 x2 x3)]
  unfold kernelRun0_A
  dsimp only
  sl_unfold_words
  simp +decide only [View.readAt_eq_ld, Memref.IsWhole.read_unread, ↓View.readCov_skip, ↓View.readCov_fill, origin2, origin4]
  rw [View.canon_unit_zero hz2, View.ld_unit_zero hz2, View.ld_unit_zero hz4]

/-- A later point adds its product to it. -/
theorem storedB (hc0 : ¬cond0_0 i) (hc1 : cond0_1 i) (hc2 : ¬cond0_2 i) :
    sout0_B_0 (F := Ideal) c i arg3 harg3 arg4 harg4 arg5 harg5 arg6 harg6 arg7 harg7 arg8 harg8 arg9 harg9 hc0 hc1 hc2 x0 x1 x2 x3 xs = k0_pay3 x0 x1 xs := by
  unfold sout0_B_0
  funext y
  rw [View.read_writes_eq_canon _ _ _ (scover0_B_0 c i arg3 harg3 arg4 harg4 arg5 harg5 arg6 harg6 arg7 harg7 arg8 harg8 arg9 harg9 hc0 hc1 hc2 x0 x1 x2 x3 xs)]
  unfold kernelRun0_B
  dsimp only
  sl_unfold_words
  simp +decide only [View.readAt_eq_ld, Memref.IsWhole.read_unread, ↓View.readCov_skip, ↓View.readCov_fill, origin2, origin4]
  rw [View.canon_unit_zero hz2, View.ld_unit_zero hz2, View.ld_unit_zero hz4, View.ld_unit_zero hz2]

/-- The last point stores the sum with the residual's block added. -/
theorem storedC4 (hc0 : ¬cond0_0 i) (hc1 : cond0_1 i) (hc2 : cond0_2 i) :
    out0_C_4 (F := Ideal) c i arg3 harg3 arg4 harg4 arg5 harg5 arg6 harg6 arg7 harg7 arg8 harg8 arg9 harg9 hc0 hc1 hc2 x0 x1 x2 x3 xs = k0_pay4 (k0_pay3 x0 x1 xs) x2 := by
  unfold out0_C_4
  funext y
  rw [View.read_writes_eq_canon _ _ _ (cover0_C_4 c i arg3 harg3 arg4 harg4 arg5 harg5 arg6 harg6 arg7 harg7 arg8 harg8 arg9 harg9 hc0 hc1 hc2 x0 x1 x2 x3 xs)]
  unfold kernelRun0_C
  dsimp only
  sl_unfold_words
  simp +decide only [View.readAt_eq_ld, Memref.IsWhole.read_unread, ↓View.readCov_skip, ↓View.readCov_fill, origin2, origin4]
  rw [View.canon_unit_zero hz2, View.ld_unit_zero hz2, View.ld_unit_zero hz2, View.ld_unit_zero hz4, View.ld_unit_zero hz2, View.ld_unit_zero hz2]
/-- The last point stores the sum's rows normalised. -/
theorem storedC5 (hc0 : ¬cond0_0 i) (hc1 : cond0_1 i) (hc2 : cond0_2 i) :
    out0_C_5 (F := Ideal) c i arg3 harg3 arg4 harg4 arg5 harg5 arg6 harg6 arg7 harg7 arg8 harg8 arg9 harg9 hc0 hc1 hc2 x0 x1 x2 x3 xs = k0_pay5 (k0_pay3 x0 x1 xs) x2 x3 := by
  unfold out0_C_5
  funext y
  rw [View.read_writes_eq_canon _ _ _ (cover0_C_5 c i arg3 harg3 arg4 harg4 arg5 harg5 arg6 harg6 arg7 harg7 arg8 harg8 arg9 harg9 hc0 hc1 hc2 x0 x1 x2 x3 xs)]
  unfold kernelRun0_C
  dsimp only
  sl_unfold_words
  simp +decide only [View.readAt_eq_ld, Memref.IsWhole.read_unread, ↓View.readCov_skip, ↓View.readCov_fill, origin2, origin4]
  rw [View.canon_unit_zero hz2, View.ld_unit_zero hz2, View.ld_unit_zero hz2, View.ld_unit_zero hz4, View.ld_unit_zero hz2, View.ld_unit_zero hz2, View.ld_unit_zero hz2]
end

variable (m : (ℓ : Loc nD τ sig) → Buf (Elt Ideal) ℓ) (ρ : Dev nD → PrngReg)

/-- The hidden layer: the square of the rectified activations. -/
def hidden (pre : Vec Ideal S4224x4096 .f32) : Vec Ideal S4224x4096 .bf16 := fun i => max (pre i) 0 * max (pre i) 0

theorem V_main_v3 (c : Dev nD) : V m c main_v3 = hidden (m ((c : Thread nD τ).loc main_arg0)) := by
  have h : V m c main_v3 = truncf .bf16 (mulf
      (maximumf (m ((c : Thread nD τ).loc main_arg0)) (broadcastInDim S4224x4096 ![] bcast_S_S4224x4096 (constant (F := Ideal) S_ .f32 0x00000000#32)))
      (maximumf (m ((c : Thread nD τ).loc main_arg0)) (broadcastInDim S4224x4096 ![] bcast_S_S4224x4096 (constant (F := Ideal) S_ .f32 0x00000000#32))))
      bitsLt_bf16_f32 := by
    simp only [V, hostOps0]; after_results
  rw [h]
  funext i
  pointwise [hidden]

theorem V_main_v4 (c : Dev nD) : V m c main_v4
    = shapeCast S1x4x1024x1024 (m ((c : Thread nD τ).loc main_arg1)) shapeCasts_S4096x1024_S1x4x1024x1024 := by
  simp only [V, hostOps0]; after_results; rfl

theorem V_main_v5 (c : Dev nD) : V m c main_v5
    = shapeCast S1x1024 (m ((c : Thread nD τ).loc main_arg3)) shapeCasts_S1024_S1x1024 := by
  simp only [V, hostOps0]; after_results; rfl

theorem idx0 : ∀ t : Fin cfg0.N, win0_0.index t = ![t.val / 4, t.val % 4] := (by decide +kernel : ∀ t : Fin grid0.N, _)
theorem idx1 : ∀ t : Fin cfg0.N, win0_1.index t = ![0, t.val % 4, 0, 0] := (by decide +kernel : ∀ t : Fin grid0.N, _)
theorem idx2 : ∀ t : Fin cfg0.N, win0_2.index t = ![t.val / 4, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val / 4, 0] := (by decide +kernel : ∀ t : Fin grid0.N, _)
theorem idx5 : ∀ t : Fin cfg0.N, win0_5.index t = ![t.val / 4, 0] := (by decide +kernel : ∀ t : Fin grid0.N, _)

/-- The array row of a block's row, and the summand of a block's summand. -/
def row (i : Fin 3) (r : Fin 1408) : Fin 4224 := ⟨i.val * 1408 + r.val, by omega⟩
def mid (j : Fin 4) (q : Fin 1024) : Fin 4096 := ⟨j.val * 1024 + q.val, by omega⟩
def point (i : Fin 3) (j : Fin 4) : Fin cfg0.N := ⟨i.val * 4 + j.val, by show _ < 12; omega⟩

theorem iblk0_apply (c : Dev nD) (i : Fin 3) (j : Fin 4) (r : Fin 1408) (q : Fin 1024) :
    iblk m c 0 (point i j) (ix2 r q) = hidden (m ((c : Thread nD τ).loc main_arg0)) (ix2 (row i r) (mid j q)) := by
  rw [← V_main_v3 m c]
  refine congrArg (V m c main_v3) (funext fun a => Fin.ext ?_)
  match a with
  | ⟨0, _⟩ =>
    show win0_0.index (point i j) 0 * 1408 + 1 * r.val = i.val * 1408 + r.val
    rw [idx0]; show (i.val * 4 + j.val) / 4 * 1408 + 1 * r.val = _; omega
  | ⟨1, _⟩ =>
    show win0_0.index (point i j) 1 * 1024 + 1 * q.val = j.val * 1024 + q.val
    rw [idx0]; show (i.val * 4 + j.val) % 4 * 1024 + 1 * q.val = _; omega

theorem cast_apply (w : Vec Ideal S4096x1024 .f32) (j : Fin 4) (q l : Fin 1024) :
    shapeCast S1x4x1024x1024 w shapeCasts_S4096x1024_S1x4x1024x1024 (ix4 0 j q l) = w (ix2 (mid j q) l) := by
  pointwise [mid]

theorem iblk1_apply (c : Dev nD) (i : Fin 3) (j : Fin 4) (q l : Fin 1024) :
    iblk m c 1 (point i j) (ix4 0 0 q l) = m ((c : Thread nD τ).loc main_arg1) (ix2 (mid j q) l) := by
  have h : iblk m c 1 (point i j) (ix4 0 0 q l) = V m c main_v4 (ix4 0 j q l) := by
    refine congrArg (V m c main_v4) (funext fun a => Fin.ext ?_)
    match a with
    | ⟨0, _⟩ => show win0_1.index (point i j) 0 * 1 + 1 * 0 = 0; rw [idx1]; simp
    | ⟨1, _⟩ =>
      show win0_1.index (point i j) 1 * 1 + 1 * 0 = j.val
      rw [idx1]; show (i.val * 4 + j.val) % 4 * 1 + 1 * 0 = _; omega
    | ⟨2, _⟩ => show win0_1.index (point i j) 2 * 1024 + 1 * q.val = q.val; rw [idx1]; simp
    | ⟨3, _⟩ => show win0_1.index (point i j) 3 * 1024 + 1 * l.val = l.val; rw [idx1]; simp
  rw [h, V_main_v4]
  exact cast_apply _ _ _ _

theorem iblk2_apply (c : Dev nD) (i : Fin 3) (r : Fin 1408) (l : Fin 1024) :
    iblk m c 2 (point i 3) (ix2 r l) = m ((c : Thread nD τ).loc main_arg2) (ix2 (row i r) l) := by
  rw [← V_main_arg2 m c]
  refine congrArg (V m c main_arg2) (funext fun a => Fin.ext ?_)
  match a with
  | ⟨0, _⟩ =>
    show win0_2.index (point i 3) 0 * 1408 + 1 * r.val = i.val * 1408 + r.val
    rw [idx2]; show (i.val * 4 + 3) / 4 * 1408 + 1 * r.val = _; omega
  | ⟨1, _⟩ => show win0_2.index (point i 3) 1 * 1024 + 1 * l.val = l.val; rw [idx2]; simp

theorem weight_apply (w : Vec Ideal S1024 .f32) (l : Fin 1024) :
    shapeCast S1x1024 w shapeCasts_S1024_S1x1024 (ix2 0 l) = w (ix1 l) := by
  pointwise

theorem iblk3_apply (c : Dev nD) (i : Fin 3) (l : Fin 1024) :
    iblk m c 3 (point i 3) (ix2 0 l) = m ((c : Thread nD τ).loc main_arg3) (ix1 l) := by
  have h : iblk m c 3 (point i 3) (ix2 0 l) = V m c main_v5 (ix2 0 l) := by
    refine congrArg (V m c main_v5) (funext fun a => Fin.ext ?_)
    match a with
    | ⟨0, _⟩ => show win0_3.index (point i 3) 0 * 1 + 1 * 0 = 0; rw [idx3]; simp
    | ⟨1, _⟩ => show win0_3.index (point i 3) 1 * 1024 + 1 * l.val = l.val; rw [idx3]; simp
  rw [h, V_main_v5]
  exact weight_apply _ _

theorem emb4 (i : Fin 3) (r : Fin 1408) (l : Fin 1024) :
    ((cfg0.win 4).blk (point i 3)).view.emb (ix2 r l) = (ix2 (row i r) l : S4224x1024.Idx) := by
  funext a; apply Fin.ext
  match a with
  | ⟨0, _⟩ =>
    show win0_4.index (point i 3) 0 * 1408 + 1 * r.val = i.val * 1408 + r.val
    rw [idx4]; show (i.val * 4 + 3) / 4 * 1408 + 1 * r.val = _; omega
  | ⟨1, _⟩ => show win0_4.index (point i 3) 1 * 1024 + 1 * l.val = l.val; rw [idx4]; simp

theorem emb5 (i : Fin 3) (r : Fin 1408) (l : Fin 1024) :
    ((cfg0.win 5).blk (point i 3)).view.emb (ix2 r l) = (ix2 (row i r) l : S4224x1024.Idx) := by
  funext a; apply Fin.ext
  match a with
  | ⟨0, _⟩ =>
    show win0_5.index (point i 3) 0 * 1408 + 1 * r.val = i.val * 1408 + r.val
    rw [idx5]; show (i.val * 4 + 3) / 4 * 1408 + 1 * r.val = _; omega
  | ⟨1, _⟩ => show win0_5.index (point i 3) 1 * 1024 + 1 * l.val = l.val; rw [idx5]; simp

/-- The product of the blocks of a point. -/
abbrev prod (c : Dev nD) (t : Fin cfg0.N) : Vec Ideal S1408x1024 .f32 := k0_pay1 (iblk m c 0 t) (iblk m c 1 t)

theorem acc0 (c : Dev nD) (i : Fin 3) (y : S1408x1024.Idx) :
    (outsAt0 m c (point i 0).val (point i 0).isLt).2.2 y = prod m c (point i 0) y := by
  rw [outsAt0_A m c (point i 0) (by show (i.val * 4 + 0) % 4 = 0; omega) (by show ¬1 ≤ (i.val * 4 + 0) % 4; omega)
    (by show ¬(i.val * 4 + 0) % 4 = 3; omega)]
  dsimp only
  rw [storedA, first_apply]

theorem acc_next (c : Dev nD) (i : Fin 3) (j k : Fin 4) (hk : k.val = j.val + 1) (hj : k.val < 3) (y : S1408x1024.Idx) :
    (outsAt0 m c (point i k).val (point i k).isLt).2.2 y
      = (outsAt0 m c (point i j).val (point i j).isLt).2.2 y + prod m c (point i k) y := by
  rw [outsAt0_B m c (point i k) (by show ¬(i.val * 4 + k.val) % 4 = 0; omega) (by show 1 ≤ (i.val * 4 + k.val) % 4; omega)
    (by show ¬(i.val * 4 + k.val) % 4 = 3; omega)]
  dsimp only
  rw [storedB, next_apply]
  have e : ∀ n hn n' hn', n = n' → outsAt0 m c n hn = outsAt0 m c n' hn' := by rintro n hn _ _ rfl; rfl
  rw [e _ _ (point i j).val (point i j).isLt (by show i.val * 4 + k.val - 1 = i.val * 4 + j.val; omega)]

/-- The sum of a row of blocks. -/
abbrev total (c : Dev nD) (i : Fin 3) : Vec Ideal S1408x1024 .f32 := fun y =>
  (outsAt0 m c (point i 2).val (point i 2).isLt).2.2 y + prod m c (point i 3) y

theorem stored (c : Dev nD) (i : Fin 3) :
    (outsAt0 m c (point i 3).val (point i 3).isLt).1 = k0_pay4 (total m c i) (iblk m c 2 (point i 3))
    ∧ (outsAt0 m c (point i 3).val (point i 3).isLt).2.1 = k0_pay5 (total m c i) (iblk m c 2 (point i 3)) (iblk m c 3 (point i 3)) := by
  rw [outsAt0_C m c (point i 3) (by show ¬(i.val * 4 + 3) % 4 = 0; omega) (by show 1 ≤ (i.val * 4 + 3) % 4; omega)
    (by show (i.val * 4 + 3) % 4 = 3; omega)]
  dsimp only
  rw [storedC4, storedC5]
  have e : k0_pay3 (iblk m c 0 (point i 3)) (iblk m c 1 (point i 3)) (outsAt0 m c (point i 2).val (point i 2).isLt).2.2 = total m c i :=
    funext fun y => next_apply _ _ _ y
  exact ⟨congrArg (k0_pay4 · _) e, congrArg (k0_pay5 · _ _) e⟩

/-- The results as functions of the argument arrays. -/
def G (pre : Vec Ideal S4224x4096 .f32) (w : Vec Ideal S4096x1024 .f32) (h1 : Vec Ideal S4224x1024 .f32) : Vec Ideal S4224x1024 .f32 := fun i =>
  h1 i + ∑ q : Fin 4096, hidden pre (ix2 (i 0) q) * w (ix2 q (i 1))

def Nm (pre : Vec Ideal S4224x4096 .f32) (w : Vec Ideal S4096x1024 .f32) (h1 : Vec Ideal S4224x1024 .f32) (n : Vec Ideal S1024 .f32) :
    Vec Ideal S4224x1024 .bf16 := fun i =>
  G pre w h1 i * scale (∑ q : Fin 1024, G pre w h1 (ix2 (i 0) q) * G pre w h1 (ix2 (i 0) q)) * n (ix1 (i 1))

abbrev val (c : Dev nD) : Buf (Elt Ideal) ((c : Thread nD τ).loc main_v6_0) :=
  G (m ((c : Thread nD τ).loc main_arg0)) (m ((c : Thread nD τ).loc main_arg1)) (m ((c : Thread nD τ).loc main_arg2))
abbrev valNm (c : Dev nD) : Buf (Elt Ideal) ((c : Thread nD τ).loc main_v6_1) :=
  Nm (m ((c : Thread nD τ).loc main_arg0)) (m ((c : Thread nD τ).loc main_arg1)) (m ((c : Thread nD τ).loc main_arg2))
    (m ((c : Thread nD τ).loc main_arg3))

/-- A sum over the hidden layer's columns, four parts one after the other. -/
theorem sum_mid (f : Fin 4096 → EReal) : ∑ q, f q
    = ((∑ q, f (mid 0 q)) + (∑ q, f (mid 1 q)) + (∑ q, f (mid 2 q))) + ∑ q, f (mid 3 q) := by
  rw [← Fin.sum_univ_four (fun j => ∑ q, f (mid j q)), ← Fintype.sum_prod_type' (fun j q => f (mid j q))]
  refine (Fintype.sum_equiv (finProdFinEquiv (m := 4) (n := 1024)) _ _ fun x => ?_).symm
  refine congrArg f (Fin.ext ?_)
  show x.1.val * 1024 + x.2.val = x.2.val + 1024 * x.1.val
  omega

theorem G_split (x : Vec Ideal S4224x4096 .f32) (w : Vec Ideal S4096x1024 .f32) (h1 : Vec Ideal S4224x1024 .f32) (i : Fin 3) (r : Fin 1408) (l : Fin 1024) :
    G x w h1 (ix2 (row i r) l) = (((∑ q, hidden x (ix2 (row i r) (mid 0 q)) * w (ix2 (mid 0 q) l))
      + (∑ q, hidden x (ix2 (row i r) (mid 1 q)) * w (ix2 (mid 1 q) l)) + (∑ q, hidden x (ix2 (row i r) (mid 2 q)) * w (ix2 (mid 2 q) l)))
      + ∑ q, hidden x (ix2 (row i r) (mid 3 q)) * w (ix2 (mid 3 q) l)) + h1 (ix2 (row i r) l) :=
  (add_comm _ _).trans (congrArg (· + h1 (ix2 (row i r) l)) (sum_mid fun q => hidden x (ix2 (row i r) q) * w (ix2 q l)))

/-- The product of a point's blocks is its part of the sum. -/
theorem prod_apply (c : Dev nD) (i : Fin 3) (j : Fin 4) (r : Fin 1408) (l : Fin 1024) (x : Vec Ideal S4224x4096 .f32)
    (w : Vec Ideal S4096x1024 .f32) (hx : x = m ((c : Thread nD τ).loc main_arg0)) (hw : w = m ((c : Thread nD τ).loc main_arg1)) :
    prod m c (point i j) (ix2 r l) = ∑ q, hidden x (ix2 (row i r) (mid j q)) * w (ix2 (mid j q) l) := by
  refine (pay_apply _ _ r l).trans (Finset.sum_congr rfl fun q _ => ?_)
  rw [iblk0_apply, iblk1_apply, hx, hw]

theorem out_apply (c : Dev nD) (i : Fin 3) (r : Fin 1408) (l : Fin 1024) :
    total m c i (ix2 r l) + iblk m c 2 (point i 3) (ix2 r l) = val m c (ix2 (row i r) l) := by
  unfold total
  rw [acc_next m c i 1 2 rfl (by decide), acc_next m c i 0 1 rfl (by decide), acc0, iblk2_apply]
  simp only [prod_apply m c i _ r l _ _ rfl rfl]
  exact (G_split _ _ _ i r l).symm

theorem norm_block (c : Dev nD) (i : Fin 3) (r : Fin 1408) (l : Fin 1024) :
    k0_pay5 (total m c i) (iblk m c 2 (point i 3)) (iblk m c 3 (point i 3)) (ix2 r l) = valNm m c (ix2 (row i r) l) := by
  rw [norm_apply]
  simp only [out_apply m c i r, iblk3_apply]
  rfl

theorem flushed4_val (c : Dev nD) (t : Fin cfg0.N) (hf : (cfg0.win 4).flush t = true) :
    (dats m 0 c).flushed 4 t = ((cfg0.win 4).blk t).view.read (Elt Ideal) (val m c) := by
  obtain ⟨i, rfl⟩ : ∃ i : Fin 3, t = point i 3 := by
    have h := (flush0_4 t).mp hf
    have ht : t.val < 12 := t.isLt
    exact ⟨⟨t.val / 4, by omega⟩, Fin.ext (by show t.val = t.val / 4 * 4 + 3; omega)⟩
  rw [flushed4, (stored m c i).1]
  funext y
  obtain ⟨r, l, rfl⟩ : ∃ (r : Fin 1408) (l : Fin 1024), y = ix2 r l := ⟨y 0, y 1, eq_ix2 y⟩
  exact ((last_apply _ _ _).trans (out_apply m c i r l)).trans (congrArg (val m c) (emb4 i r l)).symm

theorem flushed5_val (c : Dev nD) (t : Fin cfg0.N) (hf : (cfg0.win 5).flush t = true) :
    (dats m 0 c).flushed 5 t = ((cfg0.win 5).blk t).view.read (Elt Ideal) (valNm m c) := by
  obtain ⟨i, rfl⟩ : ∃ i : Fin 3, t = point i 3 := by
    have h := (flush0_5 t).mp hf
    have ht : t.val < 12 := t.isLt
    exact ⟨⟨t.val / 4, by omega⟩, Fin.ext (by show t.val = t.val / 4 * 4 + 3; omega)⟩
  rw [flushed5, (stored m c i).2]
  funext y
  obtain ⟨r, l, rfl⟩ : ∃ (r : Fin 1408) (l : Fin 1024), y = ix2 r l := ⟨y 0, y 1, eq_ix2 y⟩
  exact (norm_block m c i r l).trans (congrArg (valNm m c) (emb5 i r l)).symm

theorem covered4_val (i : S4224x1024.Idx) :
    ∃ t : Fin cfg0.N, (cfg0.win 4).flush t = true ∧ i ∈ ((cfg0.win 4).blk t).view.set := by
  obtain ⟨a, b, rfl⟩ : ∃ (a : Fin 4224) (b : Fin 1024), i = ix2 a b := ⟨i 0, i 1, eq_ix2 i⟩
  let i : Fin 3 := ⟨a.val / 1408, by omega⟩
  refine ⟨point i 3, (flush0_4 _).mpr (by show (i.val * 4 + 3) % 4 = 3; omega), ?_⟩
  have e : ((cfg0.win 4).blk (point i 3)).view.emb (ix2 ⟨a.val % 1408, by omega⟩ b) = (ix2 a b : S4224x1024.Idx) :=
    (emb4 i _ b).trans (congrArg (ix2 · b) (Fin.ext (by show a.val / 1408 * 1408 + a.val % 1408 = a.val; omega)))
  exact (congrArg (· ∈ ((cfg0.win 4).blk (point i 3)).view.set) e).mp (View.emb_mem_set _ _)

theorem covered5_val (i : S4224x1024.Idx) :
    ∃ t : Fin cfg0.N, (cfg0.win 5).flush t = true ∧ i ∈ ((cfg0.win 5).blk t).view.set := by
  obtain ⟨a, b, rfl⟩ : ∃ (a : Fin 4224) (b : Fin 1024), i = ix2 a b := ⟨i 0, i 1, eq_ix2 i⟩
  let i : Fin 3 := ⟨a.val / 1408, by omega⟩
  refine ⟨point i 3, (flush0_5 _).mpr (by show (i.val * 4 + 3) % 4 = 3; omega), ?_⟩
  have e : ((cfg0.win 5).blk (point i 3)).view.emb (ix2 ⟨a.val % 1408, by omega⟩ b) = (ix2 a b : S4224x1024.Idx) :=
    (emb5 i _ b).trans (congrArg (ix2 · b) (Fin.ext (by show a.val / 1408 * 1408 + a.val % 1408 = a.val; omega)))
  exact (congrArg (· ∈ ((cfg0.win 5).blk (point i 3)).view.set) e).mp (View.emb_mem_set _ _)

theorem run : θ_run defs (onTc (τ := τ) (main (F := Ideal))) ⟨m, fun _ => 0, ρ⟩ fun r => ∀ c : Dev nD,
      r.2.mem ((c : Thread nD τ).loc main_v6_0) = val m c
      ∧ r.2.mem ((c : Thread nD τ).loc main_v6_1) = valNm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans
      ((dats m 0 c).arrAt_eq_of_cover 4 (val m c) (fun t hf => flushed4_val m c t hf) covered4_val),
    (h c).2.1.trans ((dats m 0 c).arrAt_eq_of_cover 5 (valNm m c) (fun t hf => flushed5_val m c t hf) covered5_val), (h c).2.2⟩) (run_blocks m ρ)

end Cert.Ff2NormIdeal.RefValue

namespace Cert.Ff2NormReferenceIdeal.RefValue

open Cert.Ff2NormReferenceIdeal Cert.Ff2NormReferenceIdeal.Gen Cert.Ff2NormReferenceIdeal.Read

theorem ref_apply (x0 : Vec Ideal S4224x4096 .f32) (x1 : Vec Ideal S4096x1024 .f32) (x2 : Vec Ideal S4224x1024 .f32) (i : Fin 4224) (j : Fin 1024) :
    val_main_v3 (F := Ideal) x0 x1 x2 (ix2 i j) = Cert.Ff2NormIdeal.RefValue.G x0 x1 x2 (ix2 i j) := by
  pointwise [val_main_v3, val_main_v2, val_main_v1, val_main_v0, val_main_call0_v0, val_main_call0_cst, Cert.Ff2NormIdeal.RefValue.G,
    Cert.Ff2NormIdeal.RefValue.hidden]

theorem ref_norm (x0 : Vec Ideal S4224x4096 .f32) (x1 : Vec Ideal S4096x1024 .f32) (x2 : Vec Ideal S4224x1024 .f32) (x3 : Vec Ideal S1024 .f32)
    (i : Fin 4224) (j : Fin 1024) :
    val_main_v17 (F := Ideal) x0 x1 x2 x3 (ix2 i j) = Cert.Ff2NormIdeal.RefValue.Nm x0 x1 x2 x3 (ix2 i j) := by
  have h : val_main_v17 (F := Ideal) x0 x1 x2 x3 (ix2 i j)
      = val_main_v3 (F := Ideal) x0 x1 x2 (ix2 i j) * Cert.Ff2NormIdeal.RefValue.scale (∑ q : Fin 1024,
        val_main_v3 (F := Ideal) x0 x1 x2 (ix2 i q) * val_main_v3 (F := Ideal) x0 x1 x2 (ix2 i q)) * x3 (ix1 j) := by
    pointwise [val_main_v17, val_main_v16, val_main_v15, val_main_v14, val_main_v13, val_main_v12, val_main_v11, val_main_v10, val_main_v9,
      val_main_v8, val_main_v7, val_main_v6, val_main_v5, val_main_v4, val_main_cst, val_main_cst_0, val_main_cst_1,
      Cert.Ff2NormIdeal.RefValue.scale]
  rw [h]
  simp only [ref_apply]
  rfl

end Cert.Ff2NormReferenceIdeal.RefValue

namespace Cert.Proof.Ff2NormClaims

theorem frame_ref : Cert.quiescent_Ff2NormReferenceIdeal := fun m ρ _ =>
  (θ_run Cert.Ff2NormReferenceIdeal.defs _ _).mono (fun r h => ⟨fun c => (h c).2.2,
      Idealize.ShloMosaic.sem_eq_zero_of_no_sems (by decide) r.2⟩)
    (Cert.Ff2NormReferenceIdeal.Value.run (F := Ideal) m ρ)

theorem algebraic : Cert.algebraic_Ff2NormIdeal_Ff2NormReferenceIdeal := by
  intro m ρ m' ρ' _ hagree
  refine ⟨fun c => Cert.Ff2NormIdeal.RefValue.val m c, fun c => Cert.Ff2NormIdeal.RefValue.valNm m c, Cert.Ff2NormIdeal.RefValue.run m ρ,
    (θ_run Cert.Ff2NormReferenceIdeal.defs _ _).mono (fun r h c => ⟨?_, ?_, (h c).2.2⟩) (Cert.Ff2NormReferenceIdeal.Value.run (F := Ideal) m' ρ')⟩
  all_goals obtain ⟨e0, e1, e2, e3⟩ := hagree c
  · refine (h c).1.trans ((Cert.Ff2NormReferenceIdeal.Read.val_main_v3_eq _ _ _).trans ?_)
    funext i
    rw [eq_ix2 i]
    refine (Cert.Ff2NormReferenceIdeal.RefValue.ref_apply _ _ _ _ _).trans ?_
    rw [e0, e1, e2]
  · refine (h c).2.1.trans ((Cert.Ff2NormReferenceIdeal.Read.val_main_v17_eq _ _ _ _).trans ?_)
    funext i
    rw [eq_ix2 i]
    refine (Cert.Ff2NormReferenceIdeal.RefValue.ref_norm _ _ _ _ _ _).trans ?_
    rw [e0, e1, e2, e3]

end Cert.Proof.Ff2NormClaims

end
-- ==== Proof.DwPoolUp.lean ====
module

public import proofs.«01_k».proof.Defs
public import proofs.«01_k».proof.Proof.Gen.DwPoolUpIdeal.Value
public import proofs.«01_k».proof.Proof.Gen.DwPoolUpReferenceIdeal.Read
public import Idealize.ShloMosaic.Lib.Pointwise
public import Idealize.ShloMosaic.Lib.Quiescent

@[expose] public section

set_option maxRecDepth 16384

noncomputable section

open Idealize.ShloMosaic Idealize.ShloMosaic.TcCoe Idealize.SL.Sem

namespace Cert.DwPoolUpIdeal.RefValue

open Cert.DwPoolUpIdeal Cert.DwPoolUpIdeal.Gen Cert.DwPoolUpIdeal.Value

theorem hz2 : (![0, 0] : Fin 2 → Nat) = fun _ => 0 := by decide
theorem hz3 : (![0, 0, 0] : Fin 3 → Nat) = fun _ => 0 := by decide

/-- A block of the result: the product over all tokens. -/
theorem out_apply (x0 : Vec Ideal S4224x256 .bf16) (x1 : Vec Ideal S4224x1024 .bf16) (i : Fin 256) (j : Fin 1024) :
    out0_2 x0 x1 (ix3 0 i j) = ∑ t : Fin 4224, x0 (ix2 t i) * x1 (ix2 t j) := by
  unfold out0_2
  rw [View.canon_unit_zero hz3, View.ld_unit_zero hz2, View.ld_unit_zero hz2]
  pointwise [k0_pay1]

variable (m : (ℓ : Loc nD τ sig) → Buf (Elt Ideal) ℓ) (ρ : Dev nD → PrngReg)

theorem V_main_v0 (c : Dev nD) : V m c main_v0 = m ((c : Thread nD τ).loc main_arg0) := by
  simp only [V, hostOps0]; after_results; rfl
theorem V_main_v1 (c : Dev nD) : V m c main_v1 = m ((c : Thread nD τ).loc main_arg1) := by
  simp only [V, hostOps0]; after_results; rfl

theorem idx0 : ∀ t : Fin cfg0.N, win0_0.index t = ![0, t.val] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0, 0] := (by decide +kernel : ∀ t : Fin grid0.N, _)

/-- The array column a shard's row stands for. -/
def col (q : Fin 4) (i : Fin 256) : Fin 1024 := ⟨q.val * 256 + i.val, by omega⟩

theorem iblk0_apply (c : Dev nD) (t : Fin cfg0.N) (s : Fin 4224) (i : Fin 256) :
    iblk m c 0 t (ix2 s i) = m ((c : Thread nD τ).loc main_arg0) (ix2 s (col t i)) := by
  rw [← V_main_v0 m c]
  refine congrArg (V m c main_v0) (funext fun a => Fin.ext ?_)
  match a with
  | ⟨0, _⟩ => show win0_0.index t 0 * 4224 + 1 * s.val = s.val; rw [idx0]; simp
  | ⟨1, _⟩ => show win0_0.index t 1 * 256 + 1 * i.val = t.val * 256 + i.val; rw [idx0]; simp

theorem iblk1_apply (c : Dev nD) (t : Fin cfg0.N) (s : Fin 4224) (j : Fin 1024) :
    iblk m c 1 t (ix2 s j) = m ((c : Thread nD τ).loc main_arg1) (ix2 s j) := by
  rw [← V_main_v1 m c]
  refine congrArg (V m c main_v1) (funext fun a => Fin.ext ?_)
  match a with
  | ⟨0, _⟩ => show win0_1.index t 0 * 4224 + 1 * s.val = s.val; rw [idx1]; simp
  | ⟨1, _⟩ => show win0_1.index t 1 * 1024 + 1 * j.val = j.val; rw [idx1]; simp

theorem emb2 (t : Fin cfg0.N) (i : Fin 256) (j : Fin 1024) :
    ((cfg0.win 2).blk t).view.emb (ix3 0 i j) = (ix3 t i j : S4x256x1024.Idx) := by
  funext a; apply Fin.ext
  match a with
  | ⟨0, _⟩ => show win0_2.index t 0 * 1 + 1 * 0 = t.val; rw [idx2]; simp
  | ⟨1, _⟩ => show win0_2.index t 1 * 256 + 1 * i.val = i.val; rw [idx2]; simp
  | ⟨2, _⟩ => show win0_2.index t 2 * 1024 + 1 * j.val = j.val; rw [idx2]; simp

/-- The result as one function of the argument arrays. -/
def G (x : Vec Ideal S4224x1024 .f32) (dy : Vec Ideal S4224x1024 .f32) : Vec Ideal S4x256x1024 .f32 := fun i =>
  ∑ s : Fin 4224, x (ix2 s (col (i 0) (i 1))) * dy (ix2 s (i 2))

abbrev val (c : Dev nD) : Buf (Elt Ideal) ((c : Thread nD τ).loc main_v2) :=
  G (m ((c : Thread nD τ).loc main_arg0)) (m ((c : Thread nD τ).loc main_arg1))

theorem flushed2_eq (c : Dev nD) (t : Fin cfg0.N) :
    (dats m 0 c).flushed 2 t = ((cfg0.win 2).blk t).view.read (Elt Ideal) (val m c) := by
  rw [flushed2]
  funext y
  obtain ⟨i, j, rfl⟩ : ∃ (i : Fin 256) (j : Fin 1024), y = ix3 0 i j :=
    ⟨y 1, y 2, (eq_ix3 y).trans (congrArg (ix3 · (y 1) (y 2)) (Subsingleton.elim (α := Fin 1) _ _))⟩
  refine (out_apply _ _ i j).trans (Eq.trans ?_ (congrArg (val m c) (emb2 t i j)).symm)
  simp only [iblk0_apply, iblk1_apply]
  rfl

theorem covered2 (i : S4x256x1024.Idx) :
    ∃ t : Fin cfg0.N, (cfg0.win 2).flush t = true ∧ i ∈ ((cfg0.win 2).blk t).view.set := by
  obtain ⟨t, a, b, rfl⟩ : ∃ (t : Fin 4) (a : Fin 256) (b : Fin 1024), i = ix3 t a b := ⟨i 0, i 1, i 2, eq_ix3 i⟩
  refine ⟨(t : Fin cfg0.N), flush0_2 _, ?_⟩
  exact (congrArg (· ∈ ((cfg0.win 2).blk (t : Fin cfg0.N)).view.set) (emb2 t a b)).mp (View.emb_mem_set _ _)

theorem run : θ_run defs (onTc (τ := τ) (main (F := Ideal))) ⟨m, fun _ => 0, ρ⟩ fun r => ∀ c : Dev nD,
      r.2.mem ((c : Thread nD τ).loc main_v2) = val m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans
    ((dats m 0 c).arrAt_eq_of_cover 2 (val m c) (fun t _ => flushed2_eq m c t) covered2), (h c).2⟩) (run_blocks m ρ)

end Cert.DwPoolUpIdeal.RefValue

namespace Cert.DwPoolUpReferenceIdeal.RefValue

open Cert.DwPoolUpReferenceIdeal Cert.DwPoolUpReferenceIdeal.Gen Cert.DwPoolUpReferenceIdeal.Read

theorem ref_apply (x0 : Vec Ideal S4224x1024 .f32) (x1 : Vec Ideal S4224x1024 .f32) (q : Fin 4) (i : Fin 256) (j : Fin 1024) :
    val_main_v4 (F := Ideal) x0 x1 (ix3 q i j) = Cert.DwPoolUpIdeal.RefValue.G x0 x1 (ix3 q i j) := by
  pointwise [val_main_v4, val_main_v3, val_main_v2, Cert.DwPoolUpIdeal.RefValue.G]
  exact Finset.sum_congr rfl fun s _ => mul_comm _ _

end Cert.DwPoolUpReferenceIdeal.RefValue

namespace Cert.Proof.DwPoolUpClaims

theorem frame_ref : Cert.quiescent_DwPoolUpReferenceIdeal := fun m ρ _ =>
  (θ_run Cert.DwPoolUpReferenceIdeal.defs _ _).mono (fun r h => ⟨fun c => (h c).2,
      Idealize.ShloMosaic.sem_eq_zero_of_no_sems (by decide) r.2⟩)
    (Cert.DwPoolUpReferenceIdeal.Value.run (F := Ideal) m ρ)

theorem algebraic : Cert.algebraic_DwPoolUpIdeal_DwPoolUpReferenceIdeal := by
  intro m ρ m' ρ' _ hagree
  refine ⟨fun c => Cert.DwPoolUpIdeal.RefValue.val m c, Cert.DwPoolUpIdeal.RefValue.run m ρ,
    (θ_run Cert.DwPoolUpReferenceIdeal.defs _ _).mono (fun r h c => ⟨?_, (h c).2⟩)
      (Cert.DwPoolUpReferenceIdeal.Value.run (F := Ideal) m' ρ')⟩
  refine (h c).1.trans ((Cert.DwPoolUpReferenceIdeal.Read.val_main_v4_eq _ _).trans ?_)
  funext i
  rw [eq_ix3 i]
  refine (Cert.DwPoolUpReferenceIdeal.RefValue.ref_apply _ _ _ _ _).trans ?_
  obtain ⟨e0, e1⟩ := hagree c
  rw [e0, e1]

end Cert.Proof.DwPoolUpClaims

end
-- ==== Proof.DactB.lean ====
module

public import proofs.«01_k».proof.Defs
public import proofs.«01_k».proof.Proof.Gen.DactBIdeal.Value
public import proofs.«01_k».proof.Proof.Gen.DactBReferenceIdeal.Read
public import proofs.«01_k».proof.Proof.Dact
public import Idealize.ShloMosaic.Lib.Pointwise
public import Idealize.ShloMosaic.Lib.Quiescent

@[expose] public section

set_option maxRecDepth 16384

noncomputable section

open Idealize.ShloMosaic Idealize.ShloMosaic.TcCoe Idealize.SL.Sem

namespace Cert.DactBIdeal.RefValue

open Cert.DactBIdeal Cert.DactBIdeal.Gen Cert.DactBIdeal.Value

theorem hz2 : (![0, 0] : Fin 2 → Nat) = fun _ => 0 := by decide
theorem hz4 : (![0, 0, 0, 0] : Fin 4 → Nat) = fun _ => 0 := by decide

/-- The block's payload read at an index. -/
theorem pay_apply (x0 : Vec Ideal S1408x1024 .bf16) (x1 : Vec Ideal S1x1x1024x1024 .f32) (x2 : Vec Ideal S1408x1024 .f32)
    (r : Fin 1408) (l : Fin 1024) : k0_pay1 (F := Ideal) x0 x1 x2 (ix2 r l) =
      (∑ k : Fin 1024, x0 (ix2 r k) * x1 (ix4 0 0 l k)) * 2 * max (x2 (ix2 r l)) 0 := by
  pointwise [k0_pay1]
  rw [Cert.DactIdeal.RefValue.two]

theorem out_eq (x0 : Vec Ideal S1408x1024 .bf16) (x1 : Vec Ideal S1x1x1024x1024 .f32) (x2 : Vec Ideal S1408x1024 .f32) :
    out0_3 x0 x1 x2 = k0_pay1 x0 x1 x2 := by
  unfold out0_3
  rw [View.canon_unit_zero hz2, View.ld_unit_zero hz2, View.ld_unit_zero hz4, View.ld_unit_zero hz2]

variable (m : (ℓ : Loc nD τ sig) → Buf (Elt Ideal) ℓ) (ρ : Dev nD → PrngReg)

/-- The weight as the region finds it: the argument with its rows in four groups. -/
theorem V_main_v0 (c : Dev nD) : V m c main_v0
    = shapeCast S1x4x1024x1024 (m ((c : Thread nD τ).loc main_arg1)) shapeCasts_S4096x1024_S1x4x1024x1024 := by
  simp only [V, hostOps0]
  after_results
  rfl

theorem V_main_v1 (c : Dev nD) : V m c main_v1 = m ((c : Thread nD τ).loc main_arg0) := by
  simp only [V, hostOps0]; after_results; rfl

theorem idx0 : ∀ t : Fin cfg0.N, win0_0.index t (0 : Fin 2) = t.val / 4 ∧ win0_0.index t (1 : Fin 2) = 0 :=
  (by decide +kernel : ∀ t : Fin grid0.N, _)
theorem idx1 : ∀ t : Fin cfg0.N, win0_1.index t (0 : Fin 4) = 0 ∧ win0_1.index t (1 : Fin 4) = t.val % 4
    ∧ win0_1.index t (2 : Fin 4) = 0 ∧ win0_1.index t (3 : Fin 4) = 0 :=
  (by decide +kernel : ∀ t : Fin grid0.N, _)
theorem idx2 : ∀ t : Fin cfg0.N, win0_2.index t (0 : Fin 2) = t.val / 4 ∧ win0_2.index t (1 : Fin 2) = t.val % 4 :=
  (by decide +kernel : ∀ t : Fin grid0.N, _)
theorem idx3 : ∀ t : Fin cfg0.N, win0_3.index t (0 : Fin 2) = t.val / 4 ∧ win0_3.index t (1 : Fin 2) = t.val % 4 :=
  (by decide +kernel : ∀ t : Fin grid0.N, _)

/-- The array row of a block's row, and the array column of a block's column. -/
def row (t : Fin cfg0.N) (r : Fin 1408) : Fin 4224 :=
  ⟨t.val / 4 * 1408 + r.val, by have h : t.val < 12 := t.isLt; omega⟩
def col (t : Fin cfg0.N) (l : Fin 1024) : Fin 4096 :=
  ⟨t.val % 4 * 1024 + l.val, by omega⟩

theorem iblk0_apply (c : Dev nD) (t : Fin cfg0.N) (r : Fin 1408) (k : Fin 1024) :
    iblk m c 0 t (ix2 r k) = m ((c : Thread nD τ).loc main_arg0) (ix2 (row t r) k) := by
  rw [← V_main_v1 m c]
  refine congrArg (V m c main_v1) ?_
  obtain ⟨e0, e1⟩ := idx0 t
  funext a; apply Fin.ext
  match a with
  | ⟨0, _⟩ => show win0_0.index t (0 : Fin 2) * 1408 + 1 * r.val = t.val / 4 * 1408 + r.val; omega
  | ⟨1, _⟩ => show win0_0.index t (1 : Fin 2) * 1024 + 1 * k.val = k.val; omega

/-- The regrouped weight at an index. -/
theorem cast_apply (w : Vec Ideal S4096x1024 .f32) (t : Fin cfg0.N) (l k : Fin 1024) :
    shapeCast S1x4x1024x1024 w shapeCasts_S4096x1024_S1x4x1024x1024 (ix4 0 ⟨t.val % 4, by omega⟩ l k)
      = w (ix2 (col t l) k) := by
  pointwise
  rfl

theorem iblk1_apply (c : Dev nD) (t : Fin cfg0.N) (l k : Fin 1024) :
    iblk m c 1 t (ix4 0 0 l k) = m ((c : Thread nD τ).loc main_arg1) (ix2 (col t l) k) := by
  have h : iblk m c 1 t (ix4 0 0 l k) = V m c main_v0 (ix4 0 ⟨t.val % 4, by omega⟩ l k) := by
    refine congrArg (V m c main_v0) ?_
    obtain ⟨e0, e1, e2, e3⟩ := idx1 t
    funext a; apply Fin.ext
    match a with
    | ⟨0, _⟩ => show win0_1.index t (0 : Fin 4) * 1 + 1 * 0 = 0; omega
    | ⟨1, _⟩ => show win0_1.index t (1 : Fin 4) * 1 + 1 * 0 = t.val % 4; omega
    | ⟨2, _⟩ => show win0_1.index t (2 : Fin 4) * 1024 + 1 * l.val = l.val; omega
    | ⟨3, _⟩ => show win0_1.index t (3 : Fin 4) * 1024 + 1 * k.val = k.val; omega
  rw [h, V_main_v0]
  exact cast_apply _ _ _ _

theorem iblk2_apply (c : Dev nD) (t : Fin cfg0.N) (r : Fin 1408) (l : Fin 1024) :
    iblk m c 2 t (ix2 r l) = m ((c : Thread nD τ).loc main_arg2) (ix2 (row t r) (col t l)) := by
  rw [← V_main_arg2 m c]
  refine congrArg (V m c main_arg2) ?_
  obtain ⟨e0, e1⟩ := idx2 t
  funext a; apply Fin.ext
  match a with
  | ⟨0, _⟩ => show win0_2.index t (0 : Fin 2) * 1408 + 1 * r.val = t.val / 4 * 1408 + r.val; omega
  | ⟨1, _⟩ => show win0_2.index t (1 : Fin 2) * 1024 + 1 * l.val = t.val % 4 * 1024 + l.val; omega

theorem emb3 (t : Fin cfg0.N) (r : Fin 1408) (l : Fin 1024) :
    ((cfg0.win 3).blk t).view.emb (ix2 r l) = (ix2 (row t r) (col t l) : S4224x4096.Idx) := by
  obtain ⟨e0, e1⟩ := idx3 t
  funext a; apply Fin.ext
  match a with
  | ⟨0, _⟩ => show win0_3.index t (0 : Fin 2) * 1408 + 1 * r.val = t.val / 4 * 1408 + r.val; omega
  | ⟨1, _⟩ => show win0_3.index t (1 : Fin 2) * 1024 + 1 * l.val = t.val % 4 * 1024 + l.val; omega

/-- The result as one function of the argument arrays. -/
def G (dh : Vec Ideal S4224x1024 .f32) (w : Vec Ideal S4096x1024 .f32) (pre : Vec Ideal S4224x4096 .f32) :
    Vec Ideal S4224x4096 .bf16 := fun i =>
  (∑ k : Fin 1024, dh (ix2 (i 0) k) * w (ix2 (i 1) k)) * 2 * max (pre i) 0

abbrev val (c : Dev nD) : Buf (Elt Ideal) ((c : Thread nD τ).loc main_v2) :=
  G (m ((c : Thread nD τ).loc main_arg0)) (m ((c : Thread nD τ).loc main_arg1)) (m ((c : Thread nD τ).loc main_arg2))

theorem flushed3_eq (c : Dev nD) (t : Fin cfg0.N) :
    (dats m 0 c).flushed 3 t = ((cfg0.win 3).blk t).view.read (Elt Ideal) (val m c) := by
  rw [flushed3, out_eq]
  funext j
  obtain ⟨r, l, rfl⟩ : ∃ (r : Fin 1408) (l : Fin 1024), j = ix2 r l := ⟨j 0, j 1, eq_ix2 j⟩
  refine (pay_apply _ _ _ r l).trans ?_
  refine Eq.trans ?_ (congrArg (val m c) (emb3 t r l)).symm
  simp only [iblk0_apply, iblk1_apply, iblk2_apply]
  rfl

theorem covered3 (i : S4224x4096.Idx) :
    ∃ t : Fin cfg0.N, (cfg0.win 3).flush t = true ∧ i ∈ ((cfg0.win 3).blk t).view.set := by
  have h0 : (i 0).val < 4224 := (i 0).isLt
  have h1 : (i 1).val < 4096 := (i 1).isLt
  let t : Fin cfg0.N := ⟨(i 0).val / 1408 * 4 + (i 1).val / 1024, by show _ < 12; omega⟩
  refine ⟨t, flush0_3 t, ?_⟩
  have h := ((cfg0.win 3).blk t).view.emb_mem_set (ix2 ⟨(i 0).val % 1408, by omega⟩ ⟨(i 1).val % 1024, by omega⟩ : S1408x1024.Idx)
  rw [emb3] at h
  have e : i = ix2 (row t ⟨(i 0).val % 1408, by omega⟩) (col t ⟨(i 1).val % 1024, by omega⟩) := by
    refine (eq_ix2 i).trans (congrArg₂ ix2 (Fin.ext ?_) (Fin.ext ?_))
    · show (i 0).val = ((i 0).val / 1408 * 4 + (i 1).val / 1024) / 4 * 1408 + (i 0).val % 1408; omega
    · show (i 1).val = ((i 0).val / 1408 * 4 + (i 1).val / 1024) % 4 * 1024 + (i 1).val % 1024; omega
  rw [e]; exact h

theorem run : θ_run defs (onTc (τ := τ) (main (F := Ideal))) ⟨m, fun _ => 0, ρ⟩ fun r => ∀ c : Dev nD,
      r.2.mem ((c : Thread nD τ).loc main_v2) = val m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans
    ((dats m 0 c).arrAt_eq_of_cover 3 (val m c) (fun t _ => flushed3_eq m c t) covered3), (h c).2⟩) (run_blocks m ρ)

end Cert.DactBIdeal.RefValue

namespace Cert.DactBReferenceIdeal.RefValue

open Cert.DactBReferenceIdeal Cert.DactBReferenceIdeal.Gen Cert.DactBReferenceIdeal.Read

theorem ref_apply (x0 : Vec Ideal S4224x1024 .f32) (x1 : Vec Ideal S4096x1024 .f32) (x2 : Vec Ideal S4224x4096 .f32)
    (i : S4224x4096.Idx) : val_main_v12 (F := Ideal) x0 x1 x2 i = Cert.DactBIdeal.RefValue.G x0 x1 x2 i := by
  pointwise [val_main_v12, val_main_v11, val_main_v10, val_main_cst_1, val_main_v9, val_main_v8, val_main_v7, val_main_v6,
    val_main_v3, val_main_v2, val_main_v1, val_main_v0, val_main_cst, val_main_call0_v0, val_main_call0_cst,
    Cert.DactBIdeal.RefValue.G]
  exact Cert.DactReferenceIdeal.RefValue.square_rule _ _

end Cert.DactBReferenceIdeal.RefValue

namespace Cert.Proof.DactBClaims

theorem frame_ref : Cert.quiescent_DactBReferenceIdeal := fun m ρ _ =>
  (θ_run Cert.DactBReferenceIdeal.defs _ _).mono (fun r h => ⟨fun c => (h c).2,
      Idealize.ShloMosaic.sem_eq_zero_of_no_sems (by decide) r.2⟩)
    (Cert.DactBReferenceIdeal.Value.run (F := Ideal) m ρ)

theorem algebraic : Cert.algebraic_DactBIdeal_DactBReferenceIdeal := by
  intro m ρ m' ρ' _ hagree
  refine ⟨fun c => Cert.DactBIdeal.RefValue.val m c, Cert.DactBIdeal.RefValue.run m ρ,
    (θ_run Cert.DactBReferenceIdeal.defs _ _).mono (fun r h c => ⟨?_, (h c).2⟩) (Cert.DactBReferenceIdeal.Value.run (F := Ideal) m' ρ')⟩
  refine (h c).1.trans ((Cert.DactBReferenceIdeal.Read.val_main_v12_eq _ _ _).trans ?_)
  funext i
  refine (Cert.DactBReferenceIdeal.RefValue.ref_apply _ _ _ i).trans ?_
  obtain ⟨e0, e1, e2⟩ := hagree c
  rw [e0, e1, e2]

end Cert.Proof.DactBClaims

end
-- ==== Proof.DwFf2L.lean ====
module

public import proofs.«01_k».proof.Defs
public import proofs.«01_k».proof.Proof.DwFf2
public import proofs.«01_k».proof.Proof.Gen.DwFf2LIdeal.Value
public import proofs.«01_k».proof.Proof.Gen.DwFf2LReferenceIdeal.Read
public import Idealize.ShloMosaic.Lib.Pointwise
public import Idealize.ShloMosaic.Lib.Pipeline.ReadBack
public import Idealize.ShloMosaic.Lib.Quiescent

@[expose] public section

set_option maxRecDepth 16384

noncomputable section

open Idealize.ShloMosaic Idealize.ShloMosaic.TcCoe Idealize.ShloMosaic.Tactic Idealize.SL.Sem

namespace Cert.DwFf2LIdeal.RefValue

open Cert.DwFf2LIdeal Cert.DwFf2LIdeal.Gen Cert.DwFf2LIdeal.Value
open Cert.DwFf2Ideal.RefValue (hidden col G)

theorem hz2 : (![0, 0] : Fin 2 → Nat) = fun _ => 0 := by decide
theorem hz3 : (![0, 0, 0] : Fin 3 → Nat) = fun _ => 0 := by decide
theorem origin2 : ∀ a : Fin 2, (![0, 0] : Fin 2 → ℕ) a = 0 := by decide
theorem origin3 : ∀ a : Fin 3, (![0, 0, 0] : Fin 3 → ℕ) a = 0 := by decide

/-- The product of two blocks over a block's tokens. -/
theorem pay_apply (x0 : Vec Ideal S1408x1024 .bf16) (x1 : Vec Ideal S1408x1024 .f32) (r l : Fin 1024) :
    k0_pay1 (F := Ideal) x0 x1 (ix2 r l) = ∑ s : Fin 1408, x0 (ix2 s r) * x1 (ix2 s l) := by
  pointwise [k0_pay1]

theorem first_apply (x0 : Vec Ideal S1408x1024 .bf16) (x1 : Vec Ideal S1408x1024 .f32) (y : S1024x1024.Idx) :
    k0_pay2 (F := Ideal) x0 x1 y = k0_pay1 (F := Ideal) x0 x1 y := by
  rw [eq_ix2 y]; pointwise [k0_pay2]

theorem next_apply (x0 : Vec Ideal S1408x1024 .bf16) (x1 : Vec Ideal S1408x1024 .f32) (acc : Vec Ideal S1024x1024 .f32) (y : S1024x1024.Idx) :
    k0_pay3 (F := Ideal) x0 x1 acc y = acc y + k0_pay1 (F := Ideal) x0 x1 y := by
  rw [eq_ix2 y]; pointwise [k0_pay3]

theorem last_apply (a : Vec Ideal S1024x1024 .f32) (r l : Fin 1024) : k0_pay4 (F := Ideal) a (ix3 0 r l) = a (ix2 r l) := by
  pointwise [k0_pay4]

section
variable (c : Dev nD) (i : grid0.Coords) (arg3 : Memref sig .tc .vmem S1408x1024 .bf16) (harg3 : arg3.IsWhole)
    (arg4 : Memref sig .tc .vmem S1408x1024 .f32) (harg4 : arg4.IsWhole) (arg5 : Memref sig .tc .vmem S1x1024x1024 .f32) (harg5 : arg5.IsWhole)
    (arg6 : Memref sig .tc .vmem S1024x1024 .f32) (harg6 : arg6.IsWhole)
    (x0 : Vec Ideal S1408x1024 .bf16) (x1 : Vec Ideal S1408x1024 .f32) (xs : Vec Ideal S1024x1024 .f32)

/-- The first point of a shard leaves its product in the accumulator. -/
theorem storedA (hc0 : cond0_0 i) (hc1 : ¬cond0_1 i) (hc2 : ¬cond0_2 i) :
    sout0_A_0 (F := Ideal) c i arg3 harg3 arg4 harg4 arg5 harg5 arg6 harg6 hc0 hc1 hc2 x0 x1 = k0_pay2 x0 x1 := by
  unfold sout0_A_0
  funext y
  rw [View.read_writes_eq_canon _ _ _ (scover0_A_0 c i arg3 harg3 arg4 harg4 arg5 harg5 arg6 harg6 hc0 hc1 hc2 x0 x1)]
  unfold kernelRun0_A
  dsimp only
  sl_unfold_words
  simp +decide only [View.readAt_eq_ld, Memref.IsWhole.read_unread, ↓View.readCov_skip, ↓View.readCov_fill, origin2, origin3]
  rw [View.canon_unit_zero hz2, View.ld_unit_zero hz2, View.ld_unit_zero hz2]

/-- A later point adds its product to it. -/
theorem storedB (hc0 : ¬cond0_0 i) (hc1 : cond0_1 i) (hc2 : ¬cond0_2 i) :
    sout0_B_0 (F := Ideal) c i arg3 harg3 arg4 harg4 arg5 harg5 arg6 harg6 hc0 hc1 hc2 x0 x1 xs = k0_pay3 x0 x1 xs := by
  unfold sout0_B_0
  funext y
  rw [View.read_writes_eq_canon _ _ _ (scover0_B_0 c i arg3 harg3 arg4 harg4 arg5 harg5 arg6 harg6 hc0 hc1 hc2 x0 x1 xs)]
  unfold kernelRun0_B
  dsimp only
  sl_unfold_words
  simp +decide only [View.readAt_eq_ld, Memref.IsWhole.read_unread, ↓View.readCov_skip, ↓View.readCov_fill, origin2, origin3]
  rw [View.canon_unit_zero hz2, View.ld_unit_zero hz2, View.ld_unit_zero hz2, View.ld_unit_zero hz2]

/-- The last point stores the sum. -/
theorem storedC (hc0 : ¬cond0_0 i) (hc1 : cond0_1 i) (hc2 : cond0_2 i) :
    out0_C_2 (F := Ideal) c i arg3 harg3 arg4 harg4 arg5 harg5 arg6 harg6 hc0 hc1 hc2 x0 x1 xs = k0_pay4 (k0_pay3 x0 x1 xs) := by
  unfold out0_C_2
  funext y
  rw [View.read_writes_eq_canon _ _ _ (cover0_C_2 c i arg3 harg3 arg4 harg4 arg5 harg5 arg6 harg6 hc0 hc1 hc2 x0 x1 xs)]
  unfold kernelRun0_C
  dsimp only
  sl_unfold_words
  simp +decide only [View.readAt_eq_ld, Memref.IsWhole.read_unread, ↓View.readCov_skip, ↓View.readCov_fill, origin2, origin3]
  rw [View.canon_unit_zero hz3, View.ld_unit_zero hz2, View.ld_unit_zero hz2, View.ld_unit_zero hz2, View.ld_unit_zero hz2]
end

variable (m : (ℓ : Loc nD τ sig) → Buf (Elt Ideal) ℓ) (ρ : Dev nD → PrngReg)

theorem V_main_v3 (c : Dev nD) : V m c main_v3 = hidden (m ((c : Thread nD τ).loc main_arg0)) := by
  have h : V m c main_v3 = truncf .bf16 (mulf
      (maximumf (m ((c : Thread nD τ).loc main_arg0)) (broadcastInDim S4224x4096 ![] bcast_S_S4224x4096 (constant (F := Ideal) S_ .f32 0x00000000#32)))
      (maximumf (m ((c : Thread nD τ).loc main_arg0)) (broadcastInDim S4224x4096 ![] bcast_S_S4224x4096 (constant (F := Ideal) S_ .f32 0x00000000#32))))
      bitsLt_bf16_f32 := by
    simp only [V, hostOps0]; after_results
  rw [h]
  funext i
  pointwise [Cert.DwFf2Ideal.RefValue.hidden]

theorem idx0 : ∀ t : Fin cfg0.N, win0_0.index t = ![t.val % 3, t.val / 3] := (by decide +kernel : ∀ t : Fin grid0.N, _)
theorem idx1 : ∀ t : Fin cfg0.N, win0_1.index t = ![t.val % 3, 0] := (by decide +kernel : ∀ t : Fin grid0.N, _)
theorem idx2 : ∀ t : Fin cfg0.N, win0_2.index t = ![t.val / 3, 0, 0] := (by decide +kernel : ∀ t : Fin grid0.N, _)

/-- The token a block's row stands for, and the grid point of a shard and a part of the tokens. -/
def tok (j : Fin 3) (s : Fin 1408) : Fin 4224 := ⟨j.val * 1408 + s.val, by omega⟩
def point (q : Fin 4) (j : Fin 3) : Fin cfg0.N := ⟨q.val * 3 + j.val, by show _ < 12; omega⟩

theorem iblk0_apply (c : Dev nD) (q : Fin 4) (j : Fin 3) (s : Fin 1408) (r : Fin 1024) :
    iblk m c 0 (point q j) (ix2 s r) = hidden (m ((c : Thread nD τ).loc main_arg0)) (ix2 (tok j s) (col q r)) := by
  rw [← V_main_v3 m c]
  refine congrArg (V m c main_v3) (funext fun a => Fin.ext ?_)
  match a with
  | ⟨0, _⟩ =>
    show win0_0.index (point q j) 0 * 1408 + 1 * s.val = j.val * 1408 + s.val
    rw [idx0]; show (q.val * 3 + j.val) % 3 * 1408 + 1 * s.val = _; omega
  | ⟨1, _⟩ =>
    show win0_0.index (point q j) 1 * 1024 + 1 * r.val = q.val * 1024 + r.val
    rw [idx0]; show (q.val * 3 + j.val) / 3 * 1024 + 1 * r.val = _; omega

theorem iblk1_apply (c : Dev nD) (q : Fin 4) (j : Fin 3) (s : Fin 1408) (l : Fin 1024) :
    iblk m c 1 (point q j) (ix2 s l) = m ((c : Thread nD τ).loc main_arg1) (ix2 (tok j s) l) := by
  rw [← V_main_arg1 m c]
  refine congrArg (V m c main_arg1) (funext fun a => Fin.ext ?_)
  match a with
  | ⟨0, _⟩ =>
    show win0_1.index (point q j) 0 * 1408 + 1 * s.val = j.val * 1408 + s.val
    rw [idx1]; show (q.val * 3 + j.val) % 3 * 1408 + 1 * s.val = _; omega
  | ⟨1, _⟩ => show win0_1.index (point q j) 1 * 1024 + 1 * l.val = l.val; rw [idx1]; simp

theorem emb2 (q : Fin 4) (r l : Fin 1024) :
    ((cfg0.win 2).blk (point q 2)).view.emb (ix3 0 r l) = (ix3 q r l : S4x1024x1024.Idx) := by
  funext a; apply Fin.ext
  match a with
  | ⟨0, _⟩ =>
    show win0_2.index (point q 2) 0 * 1 + 1 * 0 = q.val
    rw [idx2]; show (q.val * 3 + 2) / 3 * 1 + 1 * 0 = _; omega
  | ⟨1, _⟩ => show win0_2.index (point q 2) 1 * 1024 + 1 * r.val = r.val; rw [idx2]; simp
  | ⟨2, _⟩ => show win0_2.index (point q 2) 2 * 1024 + 1 * l.val = l.val; rw [idx2]; simp

/-- The product of the blocks of a point. -/
abbrev prod (c : Dev nD) (t : Fin cfg0.N) : Vec Ideal S1024x1024 .f32 := k0_pay1 (iblk m c 0 t) (iblk m c 1 t)

theorem acc0 (c : Dev nD) (q : Fin 4) (y : S1024x1024.Idx) :
    (outsAt0 m c (point q 0).val (point q 0).isLt).2 y = prod m c (point q 0) y := by
  rw [outsAt0_A m c (point q 0) (by show (q.val * 3 + 0) % 3 = 0; omega) (by show ¬1 ≤ (q.val * 3 + 0) % 3; omega)
    (by show ¬(q.val * 3 + 0) % 3 = 2; omega)]
  dsimp only
  rw [storedA, first_apply]

theorem acc1 (c : Dev nD) (q : Fin 4) (y : S1024x1024.Idx) :
    (outsAt0 m c (point q 1).val (point q 1).isLt).2 y
      = (outsAt0 m c (point q 0).val (point q 0).isLt).2 y + prod m c (point q 1) y := by
  rw [outsAt0_B m c (point q 1) (by show ¬(q.val * 3 + 1) % 3 = 0; omega) (by show 1 ≤ (q.val * 3 + 1) % 3; omega)
    (by show ¬(q.val * 3 + 1) % 3 = 2; omega)]
  dsimp only
  rw [storedB, next_apply]
  rfl

theorem stored (c : Dev nD) (q : Fin 4) (r l : Fin 1024) :
    (outsAt0 m c (point q 2).val (point q 2).isLt).1 (ix3 0 r l)
      = (outsAt0 m c (point q 1).val (point q 1).isLt).2 (ix2 r l) + prod m c (point q 2) (ix2 r l) := by
  rw [outsAt0_C m c (point q 2) (by show ¬(q.val * 3 + 2) % 3 = 0; omega) (by show 1 ≤ (q.val * 3 + 2) % 3; omega)
    (by show (q.val * 3 + 2) % 3 = 2; omega)]
  dsimp only
  rw [storedC, last_apply, next_apply]
  rfl

abbrev val (c : Dev nD) : Buf (Elt Ideal) ((c : Thread nD τ).loc main_v4) :=
  G (m ((c : Thread nD τ).loc main_arg0)) (m ((c : Thread nD τ).loc main_arg1))

/-- A sum over the tokens, three parts one after the other. -/
theorem sum_tok (f : Fin 4224 → EReal) : ∑ s, f s
    = (∑ s, f (tok 0 s)) + (∑ s, f (tok 1 s)) + ∑ s, f (tok 2 s) := by
  rw [← Fin.sum_univ_three (fun j => ∑ s, f (tok j s)), ← Fintype.sum_prod_type' (fun j s => f (tok j s))]
  refine (Fintype.sum_equiv (finProdFinEquiv (m := 3) (n := 1408)) _ _ fun x => ?_).symm
  refine congrArg f (Fin.ext ?_)
  show x.1.val * 1408 + x.2.val = x.2.val + 1408 * x.1.val
  omega

theorem G_split (x : Vec Ideal S4224x4096 .f32) (dy : Vec Ideal S4224x1024 .f32) (q : Fin 4) (r l : Fin 1024) :
    G x dy (ix3 q r l) = (∑ s, hidden x (ix2 (tok 0 s) (col q r)) * dy (ix2 (tok 0 s) l))
      + (∑ s, hidden x (ix2 (tok 1 s) (col q r)) * dy (ix2 (tok 1 s) l))
      + ∑ s, hidden x (ix2 (tok 2 s) (col q r)) * dy (ix2 (tok 2 s) l) :=
  sum_tok fun s => hidden x (ix2 s (col q r)) * dy (ix2 s l)

/-- The product of a point's blocks is its part of the sum. -/
theorem prod_apply (c : Dev nD) (q : Fin 4) (j : Fin 3) (r l : Fin 1024) (x : Vec Ideal S4224x4096 .f32)
    (dy : Vec Ideal S4224x1024 .f32) (hx : x = m ((c : Thread nD τ).loc main_arg0)) (hd : dy = m ((c : Thread nD τ).loc main_arg1)) :
    prod m c (point q j) (ix2 r l) = ∑ s, hidden x (ix2 (tok j s) (col q r)) * dy (ix2 (tok j s) l) := by
  refine (pay_apply _ _ r l).trans (Finset.sum_congr rfl fun s _ => ?_)
  rw [iblk0_apply, iblk1_apply, hx, hd]

theorem out_apply (c : Dev nD) (q : Fin 4) (r l : Fin 1024) :
    (outsAt0 m c (point q 2).val (point q 2).isLt).1 (ix3 0 r l) = val m c (ix3 q r l) := by
  rw [stored, acc1, acc0]
  simp only [prod_apply m c q _ r l _ _ rfl rfl]
  exact (G_split _ _ q r l).symm

theorem flushed2_val (c : Dev nD) (t : Fin cfg0.N) (hf : (cfg0.win 2).flush t = true) :
    (dats m 0 c).flushed 2 t = ((cfg0.win 2).blk t).view.read (Elt Ideal) (val m c) := by
  obtain ⟨q, rfl⟩ : ∃ q : Fin 4, t = point q 2 := by
    have h := (flush0_2 t).mp hf
    have ht : t.val < 12 := t.isLt
    exact ⟨⟨t.val / 3, by omega⟩, Fin.ext (by show t.val = t.val / 3 * 3 + 2; omega)⟩
  rw [flushed2]
  funext y
  obtain ⟨r, l, rfl⟩ : ∃ (r : Fin 1024) (l : Fin 1024), y = ix3 0 r l :=
    ⟨y 1, y 2, (eq_ix3 y).trans (congrArg (ix3 · (y 1) (y 2)) (Subsingleton.elim (α := Fin 1) _ _))⟩
  exact (out_apply m c q r l).trans (congrArg (val m c) (emb2 q r l)).symm

theorem covered2_val (i : S4x1024x1024.Idx) :
    ∃ t : Fin cfg0.N, (cfg0.win 2).flush t = true ∧ i ∈ ((cfg0.win 2).blk t).view.set := by
  obtain ⟨q, a, b, rfl⟩ : ∃ (q : Fin 4) (a : Fin 1024) (b : Fin 1024), i = ix3 q a b := ⟨i 0, i 1, i 2, eq_ix3 i⟩
  refine ⟨point q 2, (flush0_2 _).mpr (by show (q.val * 3 + 2) % 3 = 2; omega), ?_⟩
  exact (congrArg (· ∈ ((cfg0.win 2).blk (point q 2)).view.set) (emb2 q a b)).mp (View.emb_mem_set _ _)

theorem run : θ_run defs (onTc (τ := τ) (main (F := Ideal))) ⟨m, fun _ => 0, ρ⟩ fun r => ∀ c : Dev nD,
      r.2.mem ((c : Thread nD τ).loc main_v4) = val m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans
    ((dats m 0 c).arrAt_eq_of_cover 2 (val m c) (fun t hf => flushed2_val m c t hf) covered2_val), (h c).2⟩) (run_blocks m ρ)

end Cert.DwFf2LIdeal.RefValue

namespace Cert.DwFf2LReferenceIdeal.RefValue

open Cert.DwFf2LReferenceIdeal Cert.DwFf2LReferenceIdeal.Gen Cert.DwFf2LReferenceIdeal.Read

theorem ref_apply (x0 : Vec Ideal S4224x4096 .f32) (x1 : Vec Ideal S4224x1024 .f32) (q : Fin 4) (i : Fin 1024) (j : Fin 1024) :
    val_main_v6 (F := Ideal) x0 x1 (ix3 q i j) = Cert.DwFf2Ideal.RefValue.G x0 x1 (ix3 q i j) := by
  pointwise [val_main_v6, val_main_v5, val_main_v4, val_main_v2, val_main_v1, val_main_call0_v0,
    val_main_call0_cst, Cert.DwFf2Ideal.RefValue.G,
    Cert.DwFf2Ideal.RefValue.hidden]

  exact Finset.sum_congr rfl fun s _ => mul_comm _ _

end Cert.DwFf2LReferenceIdeal.RefValue

namespace Cert.Proof.DwFf2LClaims

theorem frame_ref : Cert.quiescent_DwFf2LReferenceIdeal := fun m ρ _ =>
  (θ_run Cert.DwFf2LReferenceIdeal.defs _ _).mono (fun r h => ⟨fun c => (h c).2,
      Idealize.ShloMosaic.sem_eq_zero_of_no_sems (by decide) r.2⟩)
    (Cert.DwFf2LReferenceIdeal.Value.run (F := Ideal) m ρ)

theorem algebraic : Cert.algebraic_DwFf2LIdeal_DwFf2LReferenceIdeal := by
  intro m ρ m' ρ' _ hagree
  refine ⟨fun c => Cert.DwFf2LIdeal.RefValue.val m c, Cert.DwFf2LIdeal.RefValue.run m ρ,
    (θ_run Cert.DwFf2LReferenceIdeal.defs _ _).mono (fun r h c => ⟨?_, (h c).2⟩)
      (Cert.DwFf2LReferenceIdeal.Value.run (F := Ideal) m' ρ')⟩
  refine (h c).1.trans ((Cert.DwFf2LReferenceIdeal.Read.val_main_v6_eq _ _).trans ?_)
  funext i
  rw [eq_ix3 i]
  refine (Cert.DwFf2LReferenceIdeal.RefValue.ref_apply _ _ _ _ _).trans ?_
  obtain ⟨e0, e1⟩ := hagree c
  rw [e0, e1]

end Cert.Proof.DwFf2LClaims

end
-- ==== Proof.lean ====
module

public import proofs.«01_k».proof.Defs
public import proofs.«01_k».proof.Proof.Gen.Ssd
public import proofs.«01_k».proof.Proof.Gen.Ssd.Frame
public import proofs.«01_k».proof.Proof.Gen.SsdIdeal
public import proofs.«01_k».proof.Proof.Gen.SsdIdeal.Frame
public import proofs.«01_k».proof.Proof.Gen.SsdIdeal.Value
public import proofs.«01_k».proof.Proof.Gen.SsdReferenceIdeal
public import proofs.«01_k».proof.Proof.Gen.SsdReferenceIdeal.Run
public import proofs.«01_k».proof.Proof.Gen.SsdReferenceIdeal.Read
public import proofs.«01_k».proof.Proof.Ssd
public import proofs.«01_k».proof.Proof.Gen.Dact
public import proofs.«01_k».proof.Proof.Gen.Dact.Frame
public import proofs.«01_k».proof.Proof.Gen.DactIdeal
public import proofs.«01_k».proof.Proof.Gen.DactIdeal.Frame
public import proofs.«01_k».proof.Proof.Gen.DactIdeal.Value
public import proofs.«01_k».proof.Proof.Gen.DactReferenceIdeal
public import proofs.«01_k».proof.Proof.Gen.DactReferenceIdeal.Run
public import proofs.«01_k».proof.Proof.Gen.DactReferenceIdeal.Read
public import proofs.«01_k».proof.Proof.Dact
public import proofs.«01_k».proof.Proof.Gen.DwFf1
public import proofs.«01_k».proof.Proof.Gen.DwFf1.Frame
public import proofs.«01_k».proof.Proof.Gen.DwFf1Ideal
public import proofs.«01_k».proof.Proof.Gen.DwFf1Ideal.Frame
public import proofs.«01_k».proof.Proof.Gen.DwFf1Ideal.Value
public import proofs.«01_k».proof.Proof.Gen.DwFf1ReferenceIdeal
public import proofs.«01_k».proof.Proof.Gen.DwFf1ReferenceIdeal.Run
public import proofs.«01_k».proof.Proof.Gen.DwFf1ReferenceIdeal.Read
public import proofs.«01_k».proof.Proof.DwFf1
public import proofs.«01_k».proof.Proof.Gen.DwFf2
public import proofs.«01_k».proof.Proof.Gen.DwFf2.Frame
public import proofs.«01_k».proof.Proof.Gen.DwFf2Ideal
public import proofs.«01_k».proof.Proof.Gen.DwFf2Ideal.Frame
public import proofs.«01_k».proof.Proof.Gen.DwFf2Ideal.Value
public import proofs.«01_k».proof.Proof.Gen.DwFf2ReferenceIdeal
public import proofs.«01_k».proof.Proof.Gen.DwFf2ReferenceIdeal.Run
public import proofs.«01_k».proof.Proof.Gen.DwFf2ReferenceIdeal.Read
public import proofs.«01_k».proof.Proof.DwFf2
public import proofs.«01_k».proof.Proof.Gen.DwIn
public import proofs.«01_k».proof.Proof.Gen.DwIn.Frame
public import proofs.«01_k».proof.Proof.Gen.DwInIdeal
public import proofs.«01_k».proof.Proof.Gen.DwInIdeal.Frame
public import proofs.«01_k».proof.Proof.Gen.DwInIdeal.Value
public import proofs.«01_k».proof.Proof.Gen.DwInReferenceIdeal
public import proofs.«01_k».proof.Proof.Gen.DwInReferenceIdeal.Run
public import proofs.«01_k».proof.Proof.Gen.DwInReferenceIdeal.Read
public import proofs.«01_k».proof.Proof.DwIn
public import proofs.«01_k».proof.Proof.Gen.DwO
public import proofs.«01_k».proof.Proof.Gen.DwO.Frame
public import proofs.«01_k».proof.Proof.Gen.DwOIdeal
public import proofs.«01_k».proof.Proof.Gen.DwOIdeal.Frame
public import proofs.«01_k».proof.Proof.Gen.DwOIdeal.Value
public import proofs.«01_k».proof.Proof.Gen.DwOReferenceIdeal
public import proofs.«01_k».proof.Proof.Gen.DwOReferenceIdeal.Run
public import proofs.«01_k».proof.Proof.Gen.DwOReferenceIdeal.Read
public import proofs.«01_k».proof.Proof.DwO
public import proofs.«01_k».proof.Proof.Gen.DwSsdOut
public import proofs.«01_k».proof.Proof.Gen.DwSsdOut.Frame
public import proofs.«01_k».proof.Proof.Gen.DwSsdOutIdeal
public import proofs.«01_k».proof.Proof.Gen.DwSsdOutIdeal.Frame
public import proofs.«01_k».proof.Proof.Gen.DwSsdOutIdeal.Value
public import proofs.«01_k».proof.Proof.Gen.DwSsdOutReferenceIdeal
public import proofs.«01_k».proof.Proof.Gen.DwSsdOutReferenceIdeal.Run
public import proofs.«01_k».proof.Proof.Gen.DwSsdOutReferenceIdeal.Read
public import proofs.«01_k».proof.Proof.DwSsdOut
public import proofs.«01_k».proof.Proof.Gen.Dyn
public import proofs.«01_k».proof.Proof.Gen.Dyn.Frame
public import proofs.«01_k».proof.Proof.Gen.DynIdeal
public import proofs.«01_k».proof.Proof.Gen.DynIdeal.Frame
public import proofs.«01_k».proof.Proof.Gen.DynIdeal.Value
public import proofs.«01_k».proof.Proof.Gen.DynReferenceIdeal
public import proofs.«01_k».proof.Proof.Gen.DynReferenceIdeal.Run
public import proofs.«01_k».proof.Proof.Gen.DynReferenceIdeal.Read
public import proofs.«01_k».proof.Proof.Dyn
public import proofs.«01_k».proof.Proof.Gen.Dmerged
public import proofs.«01_k».proof.Proof.Gen.Dmerged.Frame
public import proofs.«01_k».proof.Proof.Gen.DmergedIdeal
public import proofs.«01_k».proof.Proof.Gen.DmergedIdeal.Frame
public import proofs.«01_k».proof.Proof.Gen.DmergedIdeal.Value
public import proofs.«01_k».proof.Proof.Gen.DmergedReferenceIdeal
public import proofs.«01_k».proof.Proof.Gen.DmergedReferenceIdeal.Run
public import proofs.«01_k».proof.Proof.Gen.DmergedReferenceIdeal.Read
public import proofs.«01_k».proof.Proof.Dmerged
public import proofs.«01_k».proof.Proof.Gen.Du
public import proofs.«01_k».proof.Proof.Gen.Du.Frame
public import proofs.«01_k».proof.Proof.Gen.DuIdeal
public import proofs.«01_k».proof.Proof.Gen.DuIdeal.Frame
public import proofs.«01_k».proof.Proof.Gen.DuIdeal.Value
public import proofs.«01_k».proof.Proof.Gen.DuReferenceIdeal
public import proofs.«01_k».proof.Proof.Gen.DuReferenceIdeal.Run
public import proofs.«01_k».proof.Proof.Gen.DuReferenceIdeal.Read
public import proofs.«01_k».proof.Proof.Du
public import proofs.«01_k».proof.Proof.Gen.Proj
public import proofs.«01_k».proof.Proof.Gen.Proj.Frame
public import proofs.«01_k».proof.Proof.Gen.ProjIdeal
public import proofs.«01_k».proof.Proof.Gen.ProjIdeal.Frame
public import proofs.«01_k».proof.Proof.Gen.ProjIdeal.Value
public import proofs.«01_k».proof.Proof.Gen.ProjReferenceIdeal
public import proofs.«01_k».proof.Proof.Gen.ProjReferenceIdeal.Run
public import proofs.«01_k».proof.Proof.Gen.ProjReferenceIdeal.Read
public import proofs.«01_k».proof.Proof.Proj
public import proofs.«01_k».proof.Proof.Gen.Ff1
public import proofs.«01_k».proof.Proof.Gen.Ff1.Frame
public import proofs.«01_k».proof.Proof.Gen.Ff1Ideal
public import proofs.«01_k».proof.Proof.Gen.Ff1Ideal.Frame
public import proofs.«01_k».proof.Proof.Gen.Ff1Ideal.Value
public import proofs.«01_k».proof.Proof.Gen.Ff1ReferenceIdeal
public import proofs.«01_k».proof.Proof.Gen.Ff1ReferenceIdeal.Run
public import proofs.«01_k».proof.Proof.Gen.Ff1ReferenceIdeal.Read
public import proofs.«01_k».proof.Proof.Ff1
public import proofs.«01_k».proof.Proof.Gen.Ff2
public import proofs.«01_k».proof.Proof.Gen.Ff2.Frame
public import proofs.«01_k».proof.Proof.Gen.Ff2Ideal
public import proofs.«01_k».proof.Proof.Gen.Ff2Ideal.Frame
public import proofs.«01_k».proof.Proof.Gen.Ff2Ideal.Value
public import proofs.«01_k».proof.Proof.Gen.Ff2ReferenceIdeal
public import proofs.«01_k».proof.Proof.Gen.Ff2ReferenceIdeal.Run
public import proofs.«01_k».proof.Proof.Gen.Ff2ReferenceIdeal.Read
public import proofs.«01_k».proof.Proof.Ff2
public import proofs.«01_k».proof.Proof.Gen.SsdOut
public import proofs.«01_k».proof.Proof.Gen.SsdOut.Frame
public import proofs.«01_k».proof.Proof.Gen.SsdOutIdeal
public import proofs.«01_k».proof.Proof.Gen.SsdOutIdeal.Frame
public import proofs.«01_k».proof.Proof.Gen.SsdOutIdeal.Value
public import proofs.«01_k».proof.Proof.Gen.SsdOutReferenceIdeal
public import proofs.«01_k».proof.Proof.Gen.SsdOutReferenceIdeal.Run
public import proofs.«01_k».proof.Proof.Gen.SsdOutReferenceIdeal.Read
public import proofs.«01_k».proof.Proof.SsdOut
public import proofs.«01_k».proof.Proof.Gen.O
public import proofs.«01_k».proof.Proof.Gen.O.Frame
public import proofs.«01_k».proof.Proof.Gen.OIdeal
public import proofs.«01_k».proof.Proof.Gen.OIdeal.Frame
public import proofs.«01_k».proof.Proof.Gen.OIdeal.Value
public import proofs.«01_k».proof.Proof.Gen.OReferenceIdeal
public import proofs.«01_k».proof.Proof.Gen.OReferenceIdeal.Run
public import proofs.«01_k».proof.Proof.Gen.OReferenceIdeal.Read
public import proofs.«01_k».proof.Proof.O
public import proofs.«01_k».proof.Proof.Gen.Ff2Norm
public import proofs.«01_k».proof.Proof.Gen.Ff2Norm.Frame
public import proofs.«01_k».proof.Proof.Gen.Ff2NormIdeal
public import proofs.«01_k».proof.Proof.Gen.Ff2NormIdeal.Frame
public import proofs.«01_k».proof.Proof.Gen.Ff2NormIdeal.Value
public import proofs.«01_k».proof.Proof.Gen.Ff2NormReferenceIdeal
public import proofs.«01_k».proof.Proof.Gen.Ff2NormReferenceIdeal.Run
public import proofs.«01_k».proof.Proof.Gen.Ff2NormReferenceIdeal.Read
public import proofs.«01_k».proof.Proof.Ff2Norm
public import proofs.«01_k».proof.Proof.Gen.DwPoolUp
public import proofs.«01_k».proof.Proof.Gen.DwPoolUp.Frame
public import proofs.«01_k».proof.Proof.Gen.DwPoolUpIdeal
public import proofs.«01_k».proof.Proof.Gen.DwPoolUpIdeal.Frame
public import proofs.«01_k».proof.Proof.Gen.DwPoolUpIdeal.Value
public import proofs.«01_k».proof.Proof.Gen.DwPoolUpReferenceIdeal
public import proofs.«01_k».proof.Proof.Gen.DwPoolUpReferenceIdeal.Run
public import proofs.«01_k».proof.Proof.Gen.DwPoolUpReferenceIdeal.Read
public import proofs.«01_k».proof.Proof.DwPoolUp
public import proofs.«01_k».proof.Proof.Gen.DactB
public import proofs.«01_k».proof.Proof.Gen.DactB.Frame
public import proofs.«01_k».proof.Proof.Gen.DactBIdeal
public import proofs.«01_k».proof.Proof.Gen.DactBIdeal.Frame
public import proofs.«01_k».proof.Proof.Gen.DactBIdeal.Value
public import proofs.«01_k».proof.Proof.Gen.DactBReferenceIdeal
public import proofs.«01_k».proof.Proof.Gen.DactBReferenceIdeal.Run
public import proofs.«01_k».proof.Proof.Gen.DactBReferenceIdeal.Read
public import proofs.«01_k».proof.Proof.DactB
public import proofs.«01_k».proof.Proof.Gen.DwFf2L
public import proofs.«01_k».proof.Proof.Gen.DwFf2L.Frame
public import proofs.«01_k».proof.Proof.Gen.DwFf2LIdeal
public import proofs.«01_k».proof.Proof.Gen.DwFf2LIdeal.Frame
public import proofs.«01_k».proof.Proof.Gen.DwFf2LIdeal.Value
public import proofs.«01_k».proof.Proof.Gen.DwFf2LReferenceIdeal
public import proofs.«01_k».proof.Proof.Gen.DwFf2LReferenceIdeal.Run
public import proofs.«01_k».proof.Proof.Gen.DwFf2LReferenceIdeal.Read
public import proofs.«01_k».proof.Proof.DwFf2L
public import Idealize.ShloMosaic.Adequacy
public import Idealize.ShloMosaic.Init

@[expose] public section

noncomputable section

namespace Cert.Proof

/-- Everything the certificate claims: per call its three frames, that its idealization is the call as printed, and its value. -/
theorem claim : Cert.Claim :=
  ⟨Cert.Ssd.Gen.facts, Cert.SsdIdeal.Gen.facts, Cert.SsdReferenceIdeal.Gen.facts, Cert.Dact.Gen.facts, Cert.DactIdeal.Gen.facts, Cert.DactReferenceIdeal.Gen.facts, Cert.DwFf1.Gen.facts, Cert.DwFf1Ideal.Gen.facts, Cert.DwFf1ReferenceIdeal.Gen.facts, Cert.DwFf2.Gen.facts, Cert.DwFf2Ideal.Gen.facts, Cert.DwFf2ReferenceIdeal.Gen.facts, Cert.DwIn.Gen.facts, Cert.DwInIdeal.Gen.facts, Cert.DwInReferenceIdeal.Gen.facts, Cert.DwO.Gen.facts, Cert.DwOIdeal.Gen.facts, Cert.DwOReferenceIdeal.Gen.facts, Cert.DwSsdOut.Gen.facts, Cert.DwSsdOutIdeal.Gen.facts, Cert.DwSsdOutReferenceIdeal.Gen.facts, Cert.Dyn.Gen.facts, Cert.DynIdeal.Gen.facts, Cert.DynReferenceIdeal.Gen.facts, Cert.Dmerged.Gen.facts, Cert.DmergedIdeal.Gen.facts, Cert.DmergedReferenceIdeal.Gen.facts, Cert.Du.Gen.facts, Cert.DuIdeal.Gen.facts, Cert.DuReferenceIdeal.Gen.facts, Cert.Proj.Gen.facts, Cert.ProjIdeal.Gen.facts, Cert.ProjReferenceIdeal.Gen.facts, Cert.Ff1.Gen.facts, Cert.Ff1Ideal.Gen.facts, Cert.Ff1ReferenceIdeal.Gen.facts, Cert.Ff2.Gen.facts, Cert.Ff2Ideal.Gen.facts, Cert.Ff2ReferenceIdeal.Gen.facts, Cert.SsdOut.Gen.facts, Cert.SsdOutIdeal.Gen.facts, Cert.SsdOutReferenceIdeal.Gen.facts, Cert.O.Gen.facts, Cert.OIdeal.Gen.facts, Cert.OReferenceIdeal.Gen.facts, Cert.Ff2Norm.Gen.facts, Cert.Ff2NormIdeal.Gen.facts, Cert.Ff2NormReferenceIdeal.Gen.facts, Cert.DwPoolUp.Gen.facts, Cert.DwPoolUpIdeal.Gen.facts, Cert.DwPoolUpReferenceIdeal.Gen.facts, Cert.DactB.Gen.facts, Cert.DactBIdeal.Gen.facts, Cert.DactBReferenceIdeal.Gen.facts, Cert.DwFf2L.Gen.facts, Cert.DwFf2LIdeal.Gen.facts, Cert.DwFf2LReferenceIdeal.Gen.facts, Cert.Proof.SsdClaims.pre_facts,
    fun m ρ _ => Cert.Ssd.Gen.frame m ρ,
    fun m ρ _ => Cert.SsdIdeal.Gen.frame m ρ,
    fun m ρ _ => Cert.SsdIdeal.Gen.frame m ρ,
    Cert.Proof.SsdClaims.frame_ref,
    fun m ρ _ => Cert.Proof.SsdClaims.frame_ref m ρ trivial,
    fun m ρ _ => Cert.Dact.Gen.frame m ρ,
    fun m ρ _ => Cert.DactIdeal.Gen.frame m ρ,
    Cert.Proof.DactClaims.frame_ref,
    fun m ρ _ => Cert.DwFf1.Gen.frame m ρ,
    fun m ρ _ => Cert.DwFf1Ideal.Gen.frame m ρ,
    Cert.Proof.DwFf1Claims.frame_ref,
    fun m ρ _ => Cert.DwFf2.Gen.frame m ρ,
    fun m ρ _ => Cert.DwFf2Ideal.Gen.frame m ρ,
    Cert.Proof.DwFf2Claims.frame_ref,
    fun m ρ _ => Cert.DwIn.Gen.frame m ρ,
    fun m ρ _ => Cert.DwInIdeal.Gen.frame m ρ,
    Cert.Proof.DwInClaims.frame_ref,
    fun m ρ _ => Cert.DwO.Gen.frame m ρ,
    fun m ρ _ => Cert.DwOIdeal.Gen.frame m ρ,
    Cert.Proof.DwOClaims.frame_ref,
    fun m ρ _ => Cert.DwSsdOut.Gen.frame m ρ,
    fun m ρ _ => Cert.DwSsdOutIdeal.Gen.frame m ρ,
    Cert.Proof.DwSsdOutClaims.frame_ref,
    fun m ρ _ => Cert.Dyn.Gen.frame m ρ,
    fun m ρ _ => Cert.DynIdeal.Gen.frame m ρ,
    Cert.Proof.DynClaims.frame_ref,
    fun m ρ _ => Cert.Dmerged.Gen.frame m ρ,
    fun m ρ _ => Cert.DmergedIdeal.Gen.frame m ρ,
    Cert.Proof.DmergedClaims.frame_ref,
    fun m ρ _ => Cert.Du.Gen.frame m ρ,
    fun m ρ _ => Cert.DuIdeal.Gen.frame m ρ,
    Cert.Proof.DuClaims.frame_ref,
    fun m ρ _ => Cert.Proj.Gen.frame m ρ,
    fun m ρ _ => Cert.ProjIdeal.Gen.frame m ρ,
    Cert.Proof.ProjClaims.frame_ref,
    fun m ρ _ => Cert.Ff1.Gen.frame m ρ,
    fun m ρ _ => Cert.Ff1Ideal.Gen.frame m ρ,
    Cert.Proof.Ff1Claims.frame_ref,
    fun m ρ _ => Cert.Ff2.Gen.frame m ρ,
    fun m ρ _ => Cert.Ff2Ideal.Gen.frame m ρ,
    Cert.Proof.Ff2Claims.frame_ref,
    fun m ρ _ => Cert.SsdOut.Gen.frame m ρ,
    fun m ρ _ => Cert.SsdOutIdeal.Gen.frame m ρ,
    Cert.Proof.SsdOutClaims.frame_ref,
    fun m ρ _ => Cert.O.Gen.frame m ρ,
    fun m ρ _ => Cert.OIdeal.Gen.frame m ρ,
    Cert.Proof.OClaims.frame_ref,
    fun m ρ _ => Cert.Ff2Norm.Gen.frame m ρ,
    fun m ρ _ => Cert.Ff2NormIdeal.Gen.frame m ρ,
    Cert.Proof.Ff2NormClaims.frame_ref,
    fun m ρ _ => Cert.DwPoolUp.Gen.frame m ρ,
    fun m ρ _ => Cert.DwPoolUpIdeal.Gen.frame m ρ,
    Cert.Proof.DwPoolUpClaims.frame_ref,
    fun m ρ _ => Cert.DactB.Gen.frame m ρ,
    fun m ρ _ => Cert.DactBIdeal.Gen.frame m ρ,
    Cert.Proof.DactBClaims.frame_ref,
    fun m ρ _ => Cert.DwFf2L.Gen.frame m ρ,
    fun m ρ _ => Cert.DwFf2LIdeal.Gen.frame m ρ,
    Cert.Proof.DwFf2LClaims.frame_ref,
    trivial,
    Cert.Proof.SsdClaims.algebraic,
    trivial,
    Cert.Proof.DactClaims.algebraic,
    trivial,
    Cert.Proof.DwFf1Claims.algebraic,
    trivial,
    Cert.Proof.DwFf2Claims.algebraic,
    trivial,
    Cert.Proof.DwInClaims.algebraic,
    trivial,
    Cert.Proof.DwOClaims.algebraic,
    trivial,
    Cert.Proof.DwSsdOutClaims.algebraic,
    trivial,
    Cert.Proof.DynClaims.algebraic,
    trivial,
    Cert.Proof.DmergedClaims.algebraic,
    trivial,
    Cert.Proof.DuClaims.algebraic,
    trivial,
    Cert.Proof.ProjClaims.algebraic,
    trivial,
    Cert.Proof.Ff1Claims.algebraic,
    trivial,
    Cert.Proof.Ff2Claims.algebraic,
    trivial,
    Cert.Proof.SsdOutClaims.algebraic,
    trivial,
    Cert.Proof.OClaims.algebraic,
    trivial,
    Cert.Proof.Ff2NormClaims.algebraic,
    trivial,
    Cert.Proof.DwPoolUpClaims.algebraic,
    trivial,
    Cert.Proof.DactBClaims.algebraic,
    trivial,
    Cert.Proof.DwFf2LClaims.algebraic⟩

end Cert.Proof

end
